-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2.1 = (fun _ => 1#1)
    ∧ (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))).2.2 = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2.1 = (fun _ => 1#1)
    ∧ (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))).2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_0) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_v14) = v1 c
          ∧ r.2.mem ((c.tc : Thread Cert.Reference20Ideal.nD Cert.Reference20Ideal.τ).loc Cert.Reference20Ideal.main_v13) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v183) = v0 c
          ∧ r.2.mem ((c.tc : Thread Cert.Reference21Ideal.nD Cert.Reference21Ideal.τ).loc Cert.Reference21Ideal.main_v175) = v1 c
          ∧ r.2.mem ((c.tc : Thread Cert.Reference21Ideal.nD Cert.Reference21Ideal.τ).loc Cert.Reference21Ideal.main_v134) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)) →
    ∃ (v0 : (c : Dev Cert.Kernel22Ideal.nD) → Buf (Elt Ideal) ((c.tc : Thread Cert.Kernel22Ideal.nD Cert.Kernel22Ideal.τ).loc Cert.Kernel22Ideal.main_v5_0)) (v1 : (c : Dev Cert.Kernel22Ideal.nD) → Buf (Elt Ideal) ((c.tc : Thread Cert.Kernel22Ideal.nD Cert.Kernel22Ideal.τ).loc Cert.Kernel22Ideal.main_v5_1)) (v2 : (c : Dev Cert.Kernel22Ideal.nD) → Buf (Elt Ideal) ((c.tc : Thread Cert.Kernel22Ideal.nD Cert.Kernel22Ideal.τ).loc Cert.Kernel22Ideal.main_v5_2)) (v3 : (c : Dev Cert.Kernel22Ideal.nD) → Buf (Elt Ideal) ((c.tc : Thread Cert.Kernel22Ideal.nD Cert.Kernel22Ideal.τ).loc Cert.Kernel22Ideal.main_v5_3)) (v4 : (c : Dev Cert.Kernel22Ideal.nD) → Buf (Elt Ideal) ((c.tc : Thread Cert.Kernel22Ideal.nD Cert.Kernel22Ideal.τ).loc Cert.Kernel22Ideal.main_v5_4)) (v5 : (c : Dev Cert.Kernel22Ideal.nD) → Buf (Elt Ideal) ((c.tc : Thread Cert.Kernel22Ideal.nD Cert.Kernel22Ideal.τ).loc Cert.Kernel22Ideal.main_v5_5)) (v6 : (c : Dev Cert.Kernel22Ideal.nD) → Buf (Elt Ideal) ((c.tc : Thread Cert.Kernel22Ideal.nD Cert.Kernel22Ideal.τ).loc Cert.Kernel22Ideal.main_v5_6)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v5_0) = v0 c
          ∧ r.2.mem ((c.tc : Thread Cert.Kernel22Ideal.nD Cert.Kernel22Ideal.τ).loc Cert.Kernel22Ideal.main_v5_1) = v1 c
          ∧ r.2.mem ((c.tc : Thread Cert.Kernel22Ideal.nD Cert.Kernel22Ideal.τ).loc Cert.Kernel22Ideal.main_v5_2) = v2 c
          ∧ r.2.mem ((c.tc : Thread Cert.Kernel22Ideal.nD Cert.Kernel22Ideal.τ).loc Cert.Kernel22Ideal.main_v5_3) = v3 c
          ∧ r.2.mem ((c.tc : Thread Cert.Kernel22Ideal.nD Cert.Kernel22Ideal.τ).loc Cert.Kernel22Ideal.main_v5_4) = v4 c
          ∧ r.2.mem ((c.tc : Thread Cert.Kernel22Ideal.nD Cert.Kernel22Ideal.τ).loc Cert.Kernel22Ideal.main_v5_5) = v5 c
          ∧ r.2.mem ((c.tc : Thread Cert.Kernel22Ideal.nD Cert.Kernel22Ideal.τ).loc Cert.Kernel22Ideal.main_v5_6) = v6 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v89) = v0 c
          ∧ r.2.mem ((c.tc : Thread Cert.Reference22Ideal.nD Cert.Reference22Ideal.τ).loc Cert.Reference22Ideal.main_v92) = v1 c
          ∧ r.2.mem ((c.tc : Thread Cert.Reference22Ideal.nD Cert.Reference22Ideal.τ).loc Cert.Reference22Ideal.main_v90) = v2 c
          ∧ r.2.mem ((c.tc : Thread Cert.Reference22Ideal.nD Cert.Reference22Ideal.τ).loc Cert.Reference22Ideal.main_v69) = v3 c
          ∧ r.2.mem ((c.tc : Thread Cert.Reference22Ideal.nD Cert.Reference22Ideal.τ).loc Cert.Reference22Ideal.main_v57) = v4 c
          ∧ r.2.mem ((c.tc : Thread Cert.Reference22Ideal.nD Cert.Reference22Ideal.τ).loc Cert.Reference22Ideal.main_v100) = v5 c
          ∧ r.2.mem ((c.tc : Thread Cert.Reference22Ideal.nD Cert.Reference22Ideal.τ).loc Cert.Reference22Ideal.main_v101) = v6 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite20 : Cert.Pre_finite20.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_finite20.lean ====
abbrev S4x2304x1024 : Shape := ⟨3, ![4, 2304, 1024]⟩
abbrev S_ : Shape := ⟨0, ![]⟩

class Facts : Prop where
  bcast_S_S4x2304x1024 : S_.BroadcastsInDim S4x2304x1024 (![] : Fin 0 → Fin S4x2304x1024.rank)

variable [Facts]

def fn {F : FTy → Type} [FloatOps F] (main_arg0 : FVec F S4x2304x1024 .f32) (main_arg1 : FVec F S4x2304x1024 .f32) (main_arg2 : FVec F S4x2304x1024 .f32) : IVec S4x2304x1024 1 × IVec S4x2304x1024 1 × IVec S4x2304x1024 1 :=
  let main_v0 : FVec F S4x2304x1024 .f32 := Host.absf main_arg0
  let main_cst : FVec F S_ .f32 := constant S_ .f32 0x7F800000#32
  let main_v1 : FVec F S4x2304x1024 .f32 := broadcastInDim S4x2304x1024 ![] bcast_S_S4x2304x1024 main_cst
  let main_v2 : IVec S4x2304x1024 1 := cmpf .olt main_v0 main_v1
  let main_v3 : FVec F S4x2304x1024 .f32 := Host.absf main_arg1
  let main_cst_0 : FVec F S_ .f32 := constant S_ .f32 0x7F800000#32
  let main_v4 : FVec F S4x2304x1024 .f32 := broadcastInDim S4x2304x1024 ![] bcast_S_S4x2304x1024 main_cst_0
  let main_v5 : IVec S4x2304x1024 1 := cmpf .olt main_v3 main_v4
  let main_v6 : FVec F S4x2304x1024 .f32 := Host.absf main_arg2
  let main_cst_1 : FVec F S_ .f32 := constant S_ .f32 0x7F800000#32
  let main_v7 : FVec F S4x2304x1024 .f32 := broadcastInDim S4x2304x1024 ![] bcast_S_S4x2304x1024 main_cst_1
  let main_v8 : IVec S4x2304x1024 1 := cmpf .olt main_v6 main_v7
  (main_v2, main_v5, main_v8)
-- ==== Kernel.lean ====
abbrev S9216x2816 : Shape := ⟨2, ![9216, 2816]⟩
abbrev S1024x2816 : Shape := ⟨2, ![1024, 2816]⟩
abbrev S9216x1024 : Shape := ⟨2, ![9216, 1024]⟩
abbrev S1024x1408 : Shape := ⟨2, ![1024, 1408]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S9216x2816, .bf16⟩
  | .hbm, ⟨1, _⟩ => ⟨S1024x2816, .bf16⟩
  | .hbm, ⟨2, _⟩ => ⟨S9216x2816, .bf16⟩
  | .hbm, ⟨3, _⟩ => ⟨S1024x2816, .bf16⟩
  | .hbm, ⟨4, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![9, 1, 4], ![false, false, false]⟩

def k0_cond4 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_5 : BitVec 32 := 0#32
  let v15 : BitVec 1 := Scalar.cmpi .ne v14 c0_i32_5
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.subi arg2 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let v3 : BitVec 32 := Scalar.addi c0_i32_0 v2
  let c0_i32_1 : BitVec 32 := 0#32
  ![arg1.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceIdeal.lean ====
abbrev S9216x2816 : Shape := ⟨2, ![9216, 2816]⟩
abbrev S1024x2816 : Shape := ⟨2, ![1024, 2816]⟩
abbrev S_ : Shape := ⟨0, ![]⟩
abbrev S9216x1024 : Shape := ⟨2, ![9216, 1024]⟩

abbrev nBuf : Space → Nat
  | .hbm => 15
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S1024x2816, .bf16⟩
  | .hbm, ⟨2, _⟩ => ⟨S9216x2816, .bf16⟩
  | .hbm, ⟨3, _⟩ => ⟨S1024x2816, .bf16⟩
  | .hbm, ⟨4, _⟩ => ⟨S_, .f32⟩
  | .hbm, ⟨5, _⟩ => ⟨S9216x1024, .f32⟩
  | .hbm, ⟨6, _⟩ => ⟨S1024x2816, .f32⟩
  | .hbm, ⟨7, _⟩ => ⟨S9216x2816, .f32⟩
  | .hbm, ⟨8, _⟩ => ⟨S1024x2816, .f32⟩
  | .hbm, ⟨9, _⟩ => ⟨S9216x2816, .f32⟩
  | .hbm, ⟨10, _⟩ => ⟨S9216x2816, .f32⟩
  | .hbm, ⟨11, _⟩ => ⟨S9216x2816, .f32⟩
  | .hbm, ⟨12, _⟩ => ⟨S9216x1024, .f32⟩
  | .hbm, ⟨13, _⟩ => ⟨S9216x1024, .f32⟩
  | .hbm, ⟨14, _⟩ => ⟨S9216x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel2.lean ====
abbrev S9216x1024 : Shape := ⟨2, ![9216, 1024]⟩
abbrev S2816x1024 : Shape := ⟨2, ![2816, 1024]⟩
abbrev S9216x2816 : Shape := ⟨2, ![9216, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S9216x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S9216x1024 : Shape := ⟨2, ![9216, 1024]⟩
abbrev S2816x1024 : Shape := ⟨2, ![2816, 1024]⟩
abbrev S_ : Shape := ⟨0, ![]⟩
abbrev S9216x2816 : Shape := ⟨2, ![9216, 2816]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2816x1024, .bf16⟩
  | .hbm, ⟨2, _⟩ => ⟨S_, .f32⟩
  | .hbm, ⟨3, _⟩ => ⟨S9216x2816, .f32⟩
  | .hbm, ⟨4, _⟩ => ⟨S2816x1024, .f32⟩
  | .hbm, ⟨5, _⟩ => ⟨S9216x1024, .f32⟩
  | .hbm, ⟨6, _⟩ => ⟨S9216x1024, .f32⟩
  | .hbm, ⟨7, _⟩ => ⟨S9216x2816, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel3.lean ====
abbrev S9216x2816 : Shape := ⟨2, ![9216, 2816]⟩
abbrev S9216x1024 : Shape := ⟨2, ![9216, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S9216x2816 : Shape := ⟨2, ![9216, 2816]⟩
abbrev S9216x1024 : Shape := ⟨2, ![9216, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S9216x1024, .bf16⟩
  | .hbm, ⟨2, _⟩ => ⟨S_, .f32⟩
  | .hbm, ⟨3, _⟩ => ⟨S2816x1024, .f32⟩
  | .hbm, ⟨4, _⟩ => ⟨S9216x2816, .f32⟩
  | .hbm, ⟨5, _⟩ => ⟨S9216x1024, .f32⟩
  | .hbm, ⟨6, _⟩ => ⟨S9216x1024, .f32⟩
  | .hbm, ⟨7, _⟩ => ⟨S1024x2816, .f32⟩
  | .hbm, ⟨8, _⟩ => ⟨S2816x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S9216x1024 : Shape := ⟨2, ![9216, 1024]⟩
abbrev S9216x2816 : Shape := ⟨2, ![9216, 2816]⟩
abbrev S1024x2816 : Shape := ⟨2, ![1024, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x2816, .bf16⟩
  | .hbm, ⟨2, _⟩ => ⟨S1024x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S9216x1024 : Shape := ⟨2, ![9216, 1024]⟩
abbrev S9216x2816 : Shape := ⟨2, ![9216, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x2816, .bf16⟩
  | .hbm, ⟨2, _⟩ => ⟨S_, .f32⟩
  | .hbm, ⟨3, _⟩ => ⟨S1024x2816, .f32⟩
  | .hbm, ⟨4, _⟩ => ⟨S9216x1024, .f32⟩
  | .hbm, ⟨5, _⟩ => ⟨S9216x2816, .f32⟩
  | .hbm, ⟨6, _⟩ => ⟨S9216x2816, .f32⟩
  | .hbm, ⟨7, _⟩ => ⟨S2816x1024, .f32⟩
  | .hbm, ⟨8, _⟩ => ⟨S1024x2816, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S9216x5120 : Shape := ⟨2, ![9216, 5120]⟩
abbrev S1024x5120 : Shape := ⟨2, ![1024, 5120]⟩
abbrev S9216x1024 : Shape := ⟨2, ![9216, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x5120, .bf16⟩
  | .hbm, ⟨1, _⟩ => ⟨S1024x5120, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c4_i32 : BitVec 32 := 4#32
  let v1 : BitVec 32 := Scalar.maxsi c0_i32_0 v0
  let v2 : BitVec 32 := Scalar.minsi c4_i32 v1
  let c0_i32_1 : BitVec 32 := 0#32
  let v3 : BitVec 32 := Scalar.addi c0_i32_1 v2
  let c0_i32_2 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S9216x5120 : Shape := ⟨2, ![9216, 5120]⟩
abbrev S1024x5120 : Shape := ⟨2, ![1024, 5120]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x5120, .bf16⟩
  | .hbm, ⟨1, _⟩ => ⟨S1024x5120, .bf16⟩
  | .hbm, ⟨2, _⟩ => ⟨S_, .f32⟩
  | .hbm, ⟨3, _⟩ => ⟨S9216x1024, .f32⟩
  | .hbm, ⟨4, _⟩ => ⟨S1024x5120, .f32⟩
  | .hbm, ⟨5, _⟩ => ⟨S9216x5120, .f32⟩
  | .hbm, ⟨6, _⟩ => ⟨S9216x5120, .f32⟩
  | .hbm, ⟨7, _⟩ => ⟨S9216x1024, .f32⟩
  | _, _ => ⟨S9216x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S9216x1024 : Shape := ⟨2, ![9216, 1024]⟩
abbrev S9216x5120 : Shape := ⟨2, ![9216, 5120]⟩
abbrev S1024x5120 : Shape := ⟨2, ![1024, 5120]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x5120, .bf16⟩
  | .hbm, ⟨2, _⟩ => ⟨S1024x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S9216x1024 : Shape := ⟨2, ![9216, 1024]⟩
abbrev S9216x5120 : Shape := ⟨2, ![9216, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x5120, .bf16⟩
  | .hbm, ⟨2, _⟩ => ⟨S_, .f32⟩
  | .hbm, ⟨3, _⟩ => ⟨S1024x5120, .f32⟩
  | .hbm, ⟨4, _⟩ => ⟨S9216x1024, .f32⟩
  | .hbm, ⟨5, _⟩ => ⟨S9216x5120, .f32⟩
  | .hbm, ⟨6, _⟩ => ⟨S9216x5120, .f32⟩
  | .hbm, ⟨7, _⟩ => ⟨S5120x1024, .f32⟩
  | .hbm, ⟨8, _⟩ => ⟨S1024x5120, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S9216x1024 : Shape := ⟨2, ![9216, 1024]⟩
abbrev S2048x1024 : Shape := ⟨2, ![2048, 1024]⟩
abbrev S9216x2048 : Shape := ⟨2, ![9216, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S2048x1024, .bf16⟩
  | .hbm, ⟨2, _⟩ => ⟨S9216x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S9216x1024 : Shape := ⟨2, ![9216, 1024]⟩
abbrev S2048x1024 : Shape := ⟨2, ![2048, 1024]⟩
abbrev S_ : Shape := ⟨0, ![]⟩
abbrev S9216x2048 : Shape := ⟨2, ![9216, 2048]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S2048x1024, .bf16⟩
  | .hbm, ⟨2, _⟩ => ⟨S_, .f32⟩
  | .hbm, ⟨3, _⟩ => ⟨S9216x2048, .f32⟩
  | .hbm, ⟨4, _⟩ => ⟨S2048x1024, .f32⟩
  | .hbm, ⟨5, _⟩ => ⟨S9216x1024, .f32⟩
  | .hbm, ⟨6, _⟩ => ⟨S9216x1024, .f32⟩
  | .hbm, ⟨7, _⟩ => ⟨S9216x2048, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S9216x2048 : Shape := ⟨2, ![9216, 2048]⟩
abbrev S9216x1024 : Shape := ⟨2, ![9216, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2048, .bf16⟩
  | .hbm, ⟨1, _⟩ => ⟨S9216x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S9216x2048 : Shape := ⟨2, ![9216, 2048]⟩
abbrev S9216x1024 : Shape := ⟨2, ![9216, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S9216x1024, .bf16⟩
  | .hbm, ⟨2, _⟩ => ⟨S_, .f32⟩
  | .hbm, ⟨3, _⟩ => ⟨S2048x1024, .f32⟩
  | .hbm, ⟨4, _⟩ => ⟨S9216x2048, .f32⟩
  | .hbm, ⟨5, _⟩ => ⟨S9216x1024, .f32⟩
  | .hbm, ⟨6, _⟩ => ⟨S9216x1024, .f32⟩
  | .hbm, ⟨7, _⟩ => ⟨S1024x2048, .f32⟩
  | .hbm, ⟨8, _⟩ => ⟨S2048x1024, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S9216x4096 : Shape := ⟨2, ![9216, 4096]⟩
abbrev S1024x4096 : Shape := ⟨2, ![1024, 4096]⟩
abbrev S9216x1024 : Shape := ⟨2, ![9216, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x4096, .bf16⟩
  | .hbm, ⟨1, _⟩ => ⟨S1024x4096, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let v3 : BitVec 32 := Scalar.addi c0_i32_1 v2
  let c0_i32_2 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S9216x4096 : Shape := ⟨2, ![9216, 4096]⟩
abbrev S1024x4096 : Shape := ⟨2, ![1024, 4096]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1024x4096, .bf16⟩
  | .hbm, ⟨2, _⟩ => ⟨S_, .f32⟩
  | .hbm, ⟨3, _⟩ => ⟨S9216x1024, .f32⟩
  | .hbm, ⟨4, _⟩ => ⟨S1024x4096, .f32⟩
  | .hbm, ⟨5, _⟩ => ⟨S9216x4096, .f32⟩
  | .hbm, ⟨6, _⟩ => ⟨S9216x4096, .f32⟩
  | .hbm, ⟨7, _⟩ => ⟨S9216x1024, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S9216x1024 : Shape := ⟨2, ![9216, 1024]⟩
abbrev S9216x4096 : Shape := ⟨2, ![9216, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S9216x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S9216x1024 : Shape := ⟨2, ![9216, 1024]⟩
abbrev S9216x4096 : Shape := ⟨2, ![9216, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x4096, .bf16⟩
  | .hbm, ⟨2, _⟩ => ⟨S_, .f32⟩
  | .hbm, ⟨3, _⟩ => ⟨S1024x4096, .f32⟩
  | .hbm, ⟨4, _⟩ => ⟨S9216x1024, .f32⟩
  | .hbm, ⟨5, _⟩ => ⟨S9216x4096, .f32⟩
  | .hbm, ⟨6, _⟩ => ⟨S9216x4096, .f32⟩
  | .hbm, ⟨7, _⟩ => ⟨S4096x1024, .f32⟩
  | .hbm, ⟨8, _⟩ => ⟨S1024x4096, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![arg1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S9216x1024 : Shape := ⟨2, ![9216, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S_, .f32⟩
  | .hbm, ⟨3, _⟩ => ⟨S9216x1024, .f32⟩
  | .hbm, ⟨4, _⟩ => ⟨S1024x1024, .f32⟩
  | .hbm, ⟨5, _⟩ => ⟨S9216x1024, .f32⟩
  | .hbm, ⟨6, _⟩ => ⟨S9216x1024, .f32⟩
  | .hbm, ⟨7, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .eq arg2 c8_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  ![v2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S1024x1024, .f32⟩
  | .hbm, ⟨8, _⟩ => ⟨S1024x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S9216x1024 : Shape := ⟨2, ![9216, 1024]⟩
abbrev S1024x2816 : Shape := ⟨2, ![1024, 2816]⟩
abbrev S9216x2816 : Shape := ⟨2, ![9216, 2816]⟩
abbrev S1024x1024 : Shape := ⟨2, ![1024, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .bf16⟩
  | .hbm, ⟨2, _⟩ => ⟨S9216x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S9216x1024 : Shape := ⟨2, ![9216, 1024]⟩
abbrev S1024x2816 : Shape := ⟨2, ![1024, 2816]⟩
abbrev S9216x2816 : Shape := ⟨2, ![9216, 2816]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x2816, .bf16⟩
  | .hbm, ⟨2, _⟩ => ⟨S9216x1024, .f32⟩
  | .hbm, ⟨3, _⟩ => ⟨S1024x2816, .f32⟩
  | .hbm, ⟨4, _⟩ => ⟨S9216x2816, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S9216x2816 : Shape := ⟨2, ![9216, 2816]⟩
abbrev S2816x1024 : Shape := ⟨2, ![2816, 1024]⟩
abbrev S9216x1024 : Shape := ⟨2, ![9216, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S9216x2816 : Shape := ⟨2, ![9216, 2816]⟩
abbrev S2816x1024 : Shape := ⟨2, ![2816, 1024]⟩
abbrev S9216x1024 : Shape := ⟨2, ![9216, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x2816, .bf16⟩
  | .hbm, ⟨1, _⟩ => ⟨S2816x1024, .bf16⟩
  | .hbm, ⟨2, _⟩ => ⟨S9216x2816, .f32⟩
  | .hbm, ⟨3, _⟩ => ⟨S2816x1024, .f32⟩
  | .hbm, ⟨4, _⟩ => ⟨S9216x1024, .f32⟩
  | _, _ => ⟨S9216x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S9216x1024 : Shape := ⟨2, ![9216, 1024]⟩
abbrev S1024x5120 : Shape := ⟨2, ![1024, 5120]⟩
abbrev S9216x5120 : Shape := ⟨2, ![9216, 5120]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S1024x5120, .bf16⟩
  | .hbm, ⟨2, _⟩ => ⟨S9216x5120, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 5, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S9216x1024 : Shape := ⟨2, ![9216, 1024]⟩
abbrev S1024x5120 : Shape := ⟨2, ![1024, 5120]⟩
abbrev S9216x5120 : Shape := ⟨2, ![9216, 5120]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x5120, .bf16⟩
  | .hbm, ⟨2, _⟩ => ⟨S9216x1024, .f32⟩
  | .hbm, ⟨3, _⟩ => ⟨S1024x5120, .f32⟩
  | .hbm, ⟨4, _⟩ => ⟨S9216x5120, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S9216x2048 : Shape := ⟨2, ![9216, 2048]⟩
abbrev S2048x1024 : Shape := ⟨2, ![2048, 1024]⟩
abbrev S9216x1024 : Shape := ⟨2, ![9216, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x2048, .bf16⟩
  | .hbm, ⟨1, _⟩ => ⟨S2048x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let v3 : BitVec 32 := Scalar.addi c0_i32_1 v2
  let c0_i32_2 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S9216x2048 : Shape := ⟨2, ![9216, 2048]⟩
abbrev S2048x1024 : Shape := ⟨2, ![2048, 1024]⟩
abbrev S9216x1024 : Shape := ⟨2, ![9216, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x2048, .bf16⟩
  | .hbm, ⟨1, _⟩ => ⟨S2048x1024, .bf16⟩
  | .hbm, ⟨2, _⟩ => ⟨S9216x2048, .f32⟩
  | .hbm, ⟨3, _⟩ => ⟨S2048x1024, .f32⟩
  | .hbm, ⟨4, _⟩ => ⟨S9216x1024, .f32⟩
  | _, _ => ⟨S9216x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S9216x1024 : Shape := ⟨2, ![9216, 1024]⟩
abbrev S1024x4096 : Shape := ⟨2, ![1024, 4096]⟩
abbrev S9216x4096 : Shape := ⟨2, ![9216, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S9216x1024, .bf16⟩
  | .hbm, ⟨1, _⟩ => ⟨S1024x4096, .bf16⟩
  | .hbm, ⟨2, _⟩ => ⟨S9216x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S9216x1024 : Shape := ⟨2, ![9216, 1024]⟩
abbrev S1024x4096 : Shape := ⟨2, ![1024, 4096]⟩
abbrev S9216x4096 : Shape := ⟨2, ![9216, 4096]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x4096, .bf16⟩
  | .hbm, ⟨2, _⟩ => ⟨S9216x1024, .f32⟩
  | .hbm, ⟨3, _⟩ => ⟨S1024x4096, .f32⟩
  | .hbm, ⟨4, _⟩ => ⟨S9216x4096, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let v3 : BitVec 32 := Scalar.addi c0_i32_2 v2
  let c0_i32_3 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S9216x1024 : Shape := ⟨2, ![9216, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S1024x1024, .f32⟩
  | .hbm, ⟨4, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S4x2304x1024 : Shape := ⟨3, ![4, 2304, 1024]⟩
abbrev S4x2304x512 : Shape := ⟨3, ![4, 2304, 512]⟩
abbrev S4x2304x5120 : Shape := ⟨3, ![4, 2304, 5120]⟩
abbrev S1x128 : Shape := ⟨2, ![1, 128]⟩
abbrev S4x18x8x128x128 : Shape := ⟨5, ![4, 18, 8, 128, 128]⟩
abbrev S4x2304x128 : Shape := ⟨3, ![4, 2304, 128]⟩
abbrev S1x128x1024 : Shape := ⟨3, ![1, 128, 1024]⟩
abbrev S1x128x512 : Shape := ⟨3, ![1, 128, 512]⟩
abbrev S1x128x128 : Shape := ⟨3, ![1, 128, 128]⟩
abbrev S1x1x8x128x128 : Shape := ⟨5, ![1, 1, 8, 128, 128]⟩
abbrev S8x128x128 : Shape := ⟨3, ![8, 128, 128]⟩
abbrev S128x1024 : Shape := ⟨2, ![128, 1024]⟩
abbrev S128x512 : Shape := ⟨2, ![128, 512]⟩
abbrev S128x128 : Shape := ⟨2, ![128, 128]⟩
abbrev S128x1 : Shape := ⟨2, ![128, 1]⟩
abbrev S4x128x128 : Shape := ⟨3, ![4, 128, 128]⟩
abbrev S512x128 : Shape := ⟨2, ![512, 128]⟩
abbrev S128x256 : Shape := ⟨2, ![128, 256]⟩
abbrev S256x128 : Shape := ⟨2, ![256, 128]⟩
abbrev S1x1 : Shape := ⟨2, ![1, 1]⟩
abbrev S512x1 : Shape := ⟨2, ![512, 1]⟩
abbrev S512 : Shape := ⟨1, ![512]⟩
abbrev S1x128x1 : Shape := ⟨3, ![1, 128, 1]⟩
abbrev S1 : Shape := ⟨1, ![1]⟩
abbrev S1x1x1 : Shape := ⟨3, ![1, 1, 1]⟩
abbrev S128 : Shape := ⟨1, ![128]⟩
abbrev S1x15 : Shape := ⟨2, ![1, 15]⟩
abbrev S1x16 : Shape := ⟨2, ![1, 16]⟩
abbrev S1x112 : Shape := ⟨2, ![1, 112]⟩
abbrev S1x14 : Shape := ⟨2, ![1, 14]⟩
abbrev S1x113 : Shape := ⟨2, ![1, 113]⟩
abbrev S128x384 : Shape := ⟨2, ![128, 384]⟩
abbrev S128x15 : Shape := ⟨2, ![128, 15]⟩
abbrev S128x16 : Shape := ⟨2, ![128, 16]⟩
abbrev S128x112 : Shape := ⟨2, ![128, 112]⟩
abbrev S128x14 : Shape := ⟨2, ![128, 14]⟩
abbrev S128x113 : Shape := ⟨2, ![128, 113]⟩
abbrev S15x128 : Shape := ⟨2, ![15, 128]⟩
abbrev S16x128 : Shape := ⟨2, ![16, 128]⟩
abbrev S112x128 : Shape := ⟨2, ![112, 128]⟩
abbrev S14x128 : Shape := ⟨2, ![14, 128]⟩
abbrev S113x128 : Shape := ⟨2, ![113, 128]⟩
abbrev S128x896 : Shape := ⟨2, ![128, 896]⟩
abbrev S1x13 : Shape := ⟨2, ![1, 13]⟩
abbrev S1x114 : Shape := ⟨2, ![1, 114]⟩
abbrev S1x12 : Shape := ⟨2, ![1, 12]⟩
abbrev S1x115 : Shape := ⟨2, ![1, 115]⟩
abbrev S128x13 : Shape := ⟨2, ![128, 13]⟩
abbrev S128x114 : Shape := ⟨2, ![128, 114]⟩
abbrev S128x12 : Shape := ⟨2, ![128, 12]⟩
abbrev S128x115 : Shape := ⟨2, ![128, 115]⟩
abbrev S13x128 : Shape := ⟨2, ![13, 128]⟩
abbrev S114x128 : Shape := ⟨2, ![114, 128]⟩
abbrev S12x128 : Shape := ⟨2, ![12, 128]⟩
abbrev S115x128 : Shape := ⟨2, ![115, 128]⟩
abbrev S128x768 : Shape := ⟨2, ![128, 768]⟩
abbrev S1x11 : Shape := ⟨2, ![1, 11]⟩
abbrev S1x116 : Shape := ⟨2, ![1, 116]⟩
abbrev S1x10 : Shape := ⟨2, ![1, 10]⟩
abbrev S1x117 : Shape := ⟨2, ![1, 117]⟩
abbrev S128x11 : Shape := ⟨2, ![128, 11]⟩
abbrev S128x116 : Shape := ⟨2, ![128, 116]⟩
abbrev S128x10 : Shape := ⟨2, ![128, 10]⟩
abbrev S128x117 : Shape := ⟨2, ![128, 117]⟩
abbrev S11x128 : Shape := ⟨2, ![11, 128]⟩
abbrev S116x128 : Shape := ⟨2, ![116, 128]⟩
abbrev S10x128 : Shape := ⟨2, ![10, 128]⟩
abbrev S117x128 : Shape := ⟨2, ![117, 128]⟩
abbrev S128x640 : Shape := ⟨2, ![128, 640]⟩
abbrev S1x9 : Shape := ⟨2, ![1, 9]⟩
abbrev S1x118 : Shape := ⟨2, ![1, 118]⟩
abbrev S1x8 : Shape := ⟨2, ![1, 8]⟩
abbrev S1x119 : Shape := ⟨2, ![1, 119]⟩
abbrev S128x9 : Shape := ⟨2, ![128, 9]⟩
abbrev S128x118 : Shape := ⟨2, ![128, 118]⟩
abbrev S128x8 : Shape := ⟨2, ![128, 8]⟩
abbrev S128x119 : Shape := ⟨2, ![128, 119]⟩
abbrev S9x128 : Shape := ⟨2, ![9, 128]⟩
abbrev S118x128 : Shape := ⟨2, ![118, 128]⟩
abbrev S8x128 : Shape := ⟨2, ![8, 128]⟩
abbrev S119x128 : Shape := ⟨2, ![119, 128]⟩
abbrev S1x7 : Shape := ⟨2, ![1, 7]⟩
abbrev S1x120 : Shape := ⟨2, ![1, 120]⟩
abbrev S1x6 : Shape := ⟨2, ![1, 6]⟩
abbrev S1x121 : Shape := ⟨2, ![1, 121]⟩
abbrev S128x7 : Shape := ⟨2, ![128, 7]⟩
abbrev S128x120 : Shape := ⟨2, ![128, 120]⟩
abbrev S128x6 : Shape := ⟨2, ![128, 6]⟩
abbrev S128x121 : Shape := ⟨2, ![128, 121]⟩
abbrev S7x128 : Shape := ⟨2, ![7, 128]⟩
abbrev S120x128 : Shape := ⟨2, ![120, 128]⟩
abbrev S6x128 : Shape := ⟨2, ![6, 128]⟩
abbrev S121x128 : Shape := ⟨2, ![121, 128]⟩
abbrev S1x5 : Shape := ⟨2, ![1, 5]⟩
abbrev S1x122 : Shape := ⟨2, ![1, 122]⟩
abbrev S1x4 : Shape := ⟨2, ![1, 4]⟩
abbrev S1x123 : Shape := ⟨2, ![1, 123]⟩
abbrev S128x5 : Shape := ⟨2, ![128, 5]⟩
abbrev S128x122 : Shape := ⟨2, ![128, 122]⟩
abbrev S128x4 : Shape := ⟨2, ![128, 4]⟩
abbrev S128x123 : Shape := ⟨2, ![128, 123]⟩
abbrev S5x128 : Shape := ⟨2, ![5, 128]⟩
abbrev S122x128 : Shape := ⟨2, ![122, 128]⟩
abbrev S4x128 : Shape := ⟨2, ![4, 128]⟩
abbrev S123x128 : Shape := ⟨2, ![123, 128]⟩
abbrev S1x3 : Shape := ⟨2, ![1, 3]⟩
abbrev S1x124 : Shape := ⟨2, ![1, 124]⟩
abbrev S1x2 : Shape := ⟨2, ![1, 2]⟩
abbrev S1x125 : Shape := ⟨2, ![1, 125]⟩
abbrev S128x3 : Shape := ⟨2, ![128, 3]⟩
abbrev S128x124 : Shape := ⟨2, ![128, 124]⟩
abbrev S128x2 : Shape := ⟨2, ![128, 2]⟩
abbrev S128x125 : Shape := ⟨2, ![128, 125]⟩
abbrev S3x128 : Shape := ⟨2, ![3, 128]⟩
abbrev S124x128 : Shape := ⟨2, ![124, 128]⟩
abbrev S2x128 : Shape := ⟨2, ![2, 128]⟩
abbrev S125x128 : Shape := ⟨2, ![125, 128]⟩
abbrev S1x126 : Shape := ⟨2, ![1, 126]⟩
abbrev S1x127 : Shape := ⟨2, ![1, 127]⟩
abbrev S128x126 : Shape := ⟨2, ![128, 126]⟩
abbrev S128x127 : Shape := ⟨2, ![128, 127]⟩
abbrev S126x128 : Shape := ⟨2, ![126, 128]⟩
abbrev S127x128 : Shape := ⟨2, ![127, 128]⟩

abbrev nBuf : Space → Nat
  | .hbm => 12
  | .vmem => 21
  | .smem => 0
  | _ => 0

abbrev bufTy : (tb : Table) → Fin (tcTables nBuf tb) → BufTy
  | .hbm, ⟨0, _⟩ => ⟨S4x2304x1024, .f32⟩
  | .hbm, ⟨1, _⟩ => ⟨S4x2304x512, .f32⟩
  | .hbm, ⟨2, _⟩ => ⟨S4x2304x5120, .f32⟩
  | .hbm, ⟨3, _⟩ => ⟨S1x128, .f32⟩
  | .hbm, ⟨4, _⟩ => ⟨S1x128, .f32⟩
  | .hbm, ⟨5, _⟩ => ⟨S4x18x8x128x128, .f32⟩
  | .hbm, ⟨6, _⟩ => ⟨S4x2304x1024, .f32⟩
  | .hbm, ⟨7, _⟩ => ⟨S4x2304x1024, .f32⟩
  | .hbm, ⟨8, _⟩ => ⟨S4x2304x512, .f32⟩
  | .hbm, ⟨9, _⟩ => ⟨S4x2304x128, .f32⟩
  | .hbm, ⟨10, _⟩ => ⟨S1x128, .f32⟩
  | .hbm, ⟨11, _⟩ => ⟨S1x128, .f32⟩
  | .local _ .vmem, ⟨0, _⟩ => ⟨S1x128x1024, .f32⟩
  | .local _ .vmem, ⟨1, _⟩ => ⟨S1x128x1024, .f32⟩
  | .local _ .vmem, ⟨2, _⟩ => ⟨S1x128x512, .f32⟩
  | .local _ .vmem, ⟨3, _⟩ => ⟨S1x128x512, .f32⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x128, .f32⟩
  | .local _ .vmem, ⟨8, _⟩ => ⟨S1x1x8x128x128, .f32⟩
  | .local _ .vmem, ⟨9, _⟩ => ⟨S1x1x8x128x128, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x512, .f32⟩
  | .local _ .vmem, ⟨15, _⟩ => ⟨S1x128x512, .f32⟩
  | .local _ .vmem, ⟨16, _⟩ => ⟨S1x128x128, .f32⟩
  | .local _ .vmem, ⟨17, _⟩ => ⟨S1x128x128, .f32⟩
  | .local _ .vmem, ⟨18, _⟩ => ⟨S1x128, .f32⟩
  | .local _ .vmem, ⟨19, _⟩ => ⟨S1x128, .f32⟩
  | .local _ .vmem, ⟨20, _⟩ => ⟨S8x128x128, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨2, ![4, 18], ![false, false]⟩

def k0_cond2 (i : grid0.Coords) : BitVec 1 :=
  let arg0 : BitVec 32 := BitVec.ofNat 32 (i 0).val
  let c0_i32_409 : BitVec 32 := 0#32
  let v2001 : BitVec 1 := Scalar.cmpi .eq arg0 c0_i32_409
  let arg1 : BitVec 32 := BitVec.ofNat 32 (i 1).val
  let c0_i32_410 : BitVec 32 := 0#32
  let v2002 : BitVec 1 := Scalar.cmpi .eq arg1 c0_i32_410
  let v2003 : BitVec 1 := Scalar.andi v2001 v2002
  let v2004 : BitVec 32 := Scalar.extui v2003
  let c0_i32_411 : BitVec 32 := 0#32
  let v2005 : BitVec 1 := Scalar.cmpi .ne v2004 c0_i32_411
  v2005

def k0_cond3 (i : grid0.Coords) : BitVec 1 :=
  let arg0 : BitVec 32 := BitVec.ofNat 32 (i 0).val
  let c0_i32_409 : BitVec 32 := 0#32
  let v2001 : BitVec 1 := Scalar.cmpi .eq arg0 c0_i32_409
  let arg1 : BitVec 32 := BitVec.ofNat 32 (i 1).val
  let c0_i32_410 : BitVec 32 := 0#32
  let v2002 : BitVec 1 := Scalar.cmpi .eq arg1 c0_i32_410
  let v2003 : BitVec 1 := Scalar.andi v2001 v2002
  let v_true : BitVec 1 := 1#1
  let v2006 : BitVec 1 := Scalar.xori v2003 v_true
  let v2007 : BitVec 32 := Scalar.extui v2006
  let c0_i32_412 : BitVec 32 := 0#32
  let v2008 : BitVec 1 := Scalar.cmpi .ne v2007 c0_i32_412
  v2008

def k0_cond4 (i : grid0.Coords) : BitVec 1 :=
  let arg0 : BitVec 32 := BitVec.ofNat 32 (i 0).val
  let c0_i32_413 : BitVec 32 := 0#32
  let v2009 : BitVec 1 := Scalar.cmpi .eq arg0 c0_i32_413
  let arg1 : BitVec 32 := BitVec.ofNat 32 (i 1).val
  let c0_i32_414 : BitVec 32 := 0#32
  let v2010 : BitVec 1 := Scalar.cmpi .eq arg1 c0_i32_414
  let v2011 : BitVec 1 := Scalar.andi v2009 v2010
  let v2012 : BitVec 32 := Scalar.extui v2011
  let c0_i32_415 : BitVec 32 := 0#32
  let v2013 : BitVec 1 := Scalar.cmpi .ne v2012 c0_i32_415
  v2013

def k0_cond5 (i : grid0.Coords) : BitVec 1 :=
  let arg0 : BitVec 32 := BitVec.ofNat 32 (i 0).val
  let c0_i32_413 : BitVec 32 := 0#32
  let v2009 : BitVec 1 := Scalar.cmpi .eq arg0 c0_i32_413
  let arg1 : BitVec 32 := BitVec.ofNat 32 (i 1).val
  let c0_i32_414 : BitVec 32 := 0#32
  let v2010 : BitVec 1 := Scalar.cmpi .eq arg1 c0_i32_414
  let v2011 : BitVec 1 := Scalar.andi v2009 v2010
  let true_416 : BitVec 1 := 1#1
  let v2014 : BitVec 1 := Scalar.xori v2011 true_416
  let v2015 : BitVec 32 := Scalar.extui v2014
  let c0_i32_417 : BitVec 32 := 0#32
  let v2016 : BitVec 1 := Scalar.cmpi .ne v2015 c0_i32_417
  v2016

def cc0_transform_0 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c36_i32 : BitVec 32 := 36#32
  let c0_i32 : BitVec 32 := 0#32
  ![arg0.toNat, v0.toNat, c36_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c17_i32 : BitVec 32 := 17#32
  let v0 : BitVec 32 := Scalar.subi c17_i32 arg1
  let c0_i32 : BitVec 32 := 0#32
  let c0_i32_0 : BitVec 32 := 0#32
  ![arg0.toNat, v0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== Kernel20.lean ====
abbrev S4x2304x1024 : Shape := ⟨3, ![4, 2304, 1024]⟩
abbrev S4x256x1024 : Shape := ⟨3, ![4, 256, 1024]⟩
abbrev S4x8x8x128 : Shape := ⟨4, ![4, 8, 8, 128]⟩
abbrev S8x128 : Shape := ⟨2, ![8, 128]⟩
abbrev S1x1x8x128 : Shape := ⟨4, ![1, 1, 8, 128]⟩
abbrev S1x8x128 : Shape := ⟨3, ![1, 8, 128]⟩
abbrev S1x128 : Shape := ⟨2, ![1, 128]⟩

abbrev nBuf : Space → Nat
  | .hbm => 7
  | .vmem => 21
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S4x2304x1024, .f32⟩
  | .hbm, ⟨3, _⟩ => ⟨S4x2304x1024, .f32⟩
  | .hbm, ⟨4, _⟩ => ⟨S4x2304x1024, .f32⟩
  | .hbm, ⟨5, _⟩ => ⟨S4x2304x1024, .f32⟩
  | .hbm, ⟨6, _⟩ => ⟨S4x2304x1024, .f32⟩
  | .local _ .vmem, ⟨0, _⟩ => ⟨S4x256x1024, .f32⟩
  | .local _ .vmem, ⟨1, _⟩ => ⟨S4x256x1024, .f32⟩
  | .local _ .vmem, ⟨2, _⟩ => ⟨S4x256x1024, .f32⟩
  | .local _ .vmem, ⟨3, _⟩ => ⟨S4x256x1024, .f32⟩
  | .local _ .vmem, ⟨4, _⟩ => ⟨S4x256x1024, .f32⟩
  | .local _ .vmem, ⟨5, _⟩ => ⟨S4x256x1024, .f32⟩
  | .local _ .vmem, ⟨6, _⟩ => ⟨S4x256x1024, .f32⟩
  | .local _ .vmem, ⟨7, _⟩ => ⟨S4x256x1024, .f32⟩
  | .local _ .vmem, ⟨8, _⟩ => ⟨S4x8x8x128, .f32⟩
  | .local _ .vmem, ⟨9, _⟩ => ⟨S4x256x1024, .f32⟩
  | .local _ .vmem, ⟨10, _⟩ => ⟨S4x256x1024, .f32⟩
  | .local _ .vmem, ⟨11, _⟩ => ⟨S4x256x1024, .f32⟩
  | .local _ .vmem, ⟨12, _⟩ => ⟨S4x256x1024, .f32⟩
  | .local _ .vmem, ⟨13, _⟩ => ⟨S4x256x1024, .f32⟩
  | .local _ .vmem, ⟨14, _⟩ => ⟨S4x256x1024, .f32⟩
  | .local _ .vmem, ⟨15, _⟩ => ⟨S4x256x1024, .f32⟩
  | .local _ .vmem, ⟨16, _⟩ => ⟨S4x256x1024, .f32⟩
  | .local _ .vmem, ⟨17, _⟩ => ⟨S4x256x1024, .f32⟩
  | .local _ .vmem, ⟨18, _⟩ => ⟨S4x256x1024, .f32⟩
  | .local _ .vmem, ⟨19, _⟩ => ⟨S4x8x8x128, .f32⟩
  | .local _ .vmem, ⟨20, _⟩ => ⟨S4x8x8x128, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![9], ![false]⟩

@[reducible] def k0_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  v5
def k0_off1 (k0_t1 : Fin k0_t1_loop.trips) : Fin 3 → Nat :=
  let c0_6 : Index := 0#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v9 : Index := Scalar.indexCast v6
  let c0_7 : Index := 0#32
  ![0, v9.toNat, 0]
def k0_off2 (k0_t1 : Fin k0_t1_loop.trips) : Fin 3 → Nat :=
  let c0_30 : Index := 0#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v64 : Index := Scalar.indexCast v6
  let c128 : Index := 128#32
  ![0, v64.toNat, 128]
def k0_off3 (k0_t1 : Fin k0_t1_loop.trips) : Fin 3 → Nat :=
  let c0_55 : Index := 0#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v119 : Index := Scalar.indexCast v6
  let c256 : Index := 256#32
  ![0, v119.toNat, 256]
def k0_off4 (k0_t1 : Fin k0_t1_loop.trips) : Fin 3 → Nat :=
  let c0_80 : Index := 0#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v174 : Index := Scalar.indexCast v6
  let c384 : Index := 384#32
  ![0, v174.toNat, 384]
def k0_off5 (k0_t1 : Fin k0_t1_loop.trips) : Fin 3 → Nat :=
  let c0_105 : Index := 0#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v229 : Index := Scalar.indexCast v6
  let c512 : Index := 512#32
  ![0, v229.toNat, 512]
def k0_off6 (k0_t1 : Fin k0_t1_loop.trips) : Fin 3 → Nat :=
  let c0_130 : Index := 0#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v284 : Index := Scalar.indexCast v6
  let c640 : Index := 640#32
  ![0, v284.toNat, 640]
def k0_off7 (k0_t1 : Fin k0_t1_loop.trips) : Fin 3 → Nat :=
  let c0_155 : Index := 0#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v339 : Index := Scalar.indexCast v6
  let c768 : Index := 768#32
  ![0, v339.toNat, 768]
def k0_off8 (k0_t1 : Fin k0_t1_loop.trips) : Fin 3 → Nat :=
  let c0_180 : Index := 0#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v394 : Index := Scalar.indexCast v6
  let c896 : Index := 896#32
  ![0, v394.toNat, 896]
def k0_off9 (k0_t1 : Fin k0_t1_loop.trips) : Fin 3 → Nat :=
  let c1_206 : Index := 1#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v449 : Index := Scalar.indexCast v6
  let c0_207 : Index := 0#32
  ![1, v449.toNat, 0]
def k0_off10 (k0_t1 : Fin k0_t1_loop.trips) : Fin 3 → Nat :=
  let c1_233 : Index := 1#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v504 : Index := Scalar.indexCast v6
  let c128_234 : Index := 128#32
  ![1, v504.toNat, 128]
def k0_off11 (k0_t1 : Fin k0_t1_loop.trips) : Fin 3 → Nat :=
  let c1_260 : Index := 1#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v559 : Index := Scalar.indexCast v6
  let c256_261 : Index := 256#32
  ![1, v559.toNat, 256]
def k0_off12 (k0_t1 : Fin k0_t1_loop.trips) : Fin 3 → Nat :=
  let c1_287 : Index := 1#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v614 : Index := Scalar.indexCast v6
  let c384_288 : Index := 384#32
  ![1, v614.toNat, 384]
def k0_off13 (k0_t1 : Fin k0_t1_loop.trips) : Fin 3 → Nat :=
  let c1_314 : Index := 1#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v669 : Index := Scalar.indexCast v6
  let c512_315 : Index := 512#32
  ![1, v669.toNat, 512]
def k0_off14 (k0_t1 : Fin k0_t1_loop.trips) : Fin 3 → Nat :=
  let c1_341 : Index := 1#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v724 : Index := Scalar.indexCast v6
  let c640_342 : Index := 640#32
  ![1, v724.toNat, 640]
def k0_off15 (k0_t1 : Fin k0_t1_loop.trips) : Fin 3 → Nat :=
  let c1_368 : Index := 1#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v779 : Index := Scalar.indexCast v6
  let c768_369 : Index := 768#32
  ![1, v779.toNat, 768]
def k0_off16 (k0_t1 : Fin k0_t1_loop.trips) : Fin 3 → Nat :=
  let c1_395 : Index := 1#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v834 : Index := Scalar.indexCast v6
  let c896_396 : Index := 896#32
  ![1, v834.toNat, 896]
def k0_off17 (k0_t1 : Fin k0_t1_loop.trips) : Fin 3 → Nat :=
  let c2_422 : Index := 2#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v889 : Index := Scalar.indexCast v6
  let c0_423 : Index := 0#32
  ![2, v889.toNat, 0]
def k0_off18 (k0_t1 : Fin k0_t1_loop.trips) : Fin 3 → Nat :=
  let c2_449 : Index := 2#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v944 : Index := Scalar.indexCast v6
  let c128_450 : Index := 128#32
  ![2, v944.toNat, 128]
def k0_off19 (k0_t1 : Fin k0_t1_loop.trips) : Fin 3 → Nat :=
  let c2_476 : Index := 2#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v999 : Index := Scalar.indexCast v6
  let c256_477 : Index := 256#32
  ![2, v999.toNat, 256]
def k0_off20 (k0_t1 : Fin k0_t1_loop.trips) : Fin 3 → Nat :=
  let c2_503 : Index := 2#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1054 : Index := Scalar.indexCast v6
  let c384_504 : Index := 384#32
  ![2, v1054.toNat, 384]
def k0_off21 (k0_t1 : Fin k0_t1_loop.trips) : Fin 3 → Nat :=
  let c2_530 : Index := 2#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1109 : Index := Scalar.indexCast v6
  let c512_531 : Index := 512#32
  ![2, v1109.toNat, 512]
def k0_off22 (k0_t1 : Fin k0_t1_loop.trips) : Fin 3 → Nat :=
  let c2_557 : Index := 2#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1164 : Index := Scalar.indexCast v6
  let c640_558 : Index := 640#32
  ![2, v1164.toNat, 640]
def k0_off23 (k0_t1 : Fin k0_t1_loop.trips) : Fin 3 → Nat :=
  let c2_584 : Index := 2#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1219 : Index := Scalar.indexCast v6
  let c768_585 : Index := 768#32
  ![2, v1219.toNat, 768]
def k0_off24 (k0_t1 : Fin k0_t1_loop.trips) : Fin 3 → Nat :=
  let c2_611 : Index := 2#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1274 : Index := Scalar.indexCast v6
  let c896_612 : Index := 896#32
  ![2, v1274.toNat, 896]
def k0_off25 (k0_t1 : Fin k0_t1_loop.trips) : Fin 3 → Nat :=
  let c3_638 : Index := 3#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1329 : Index := Scalar.indexCast v6
  let c0_639 : Index := 0#32
  ![3, v1329.toNat, 0]
def k0_off26 (k0_t1 : Fin k0_t1_loop.trips) : Fin 3 → Nat :=
  let c3_665 : Index := 3#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1384 : Index := Scalar.indexCast v6
  let c128_666 : Index := 128#32
  ![3, v1384.toNat, 128]
def k0_off27 (k0_t1 : Fin k0_t1_loop.trips) : Fin 3 → Nat :=
  let c3_692 : Index := 3#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1439 : Index := Scalar.indexCast v6
  let c256_693 : Index := 256#32
  ![3, v1439.toNat, 256]
def k0_off28 (k0_t1 : Fin k0_t1_loop.trips) : Fin 3 → Nat :=
  let c3_719 : Index := 3#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1494 : Index := Scalar.indexCast v6
  let c384_720 : Index := 384#32
  ![3, v1494.toNat, 384]
def k0_off29 (k0_t1 : Fin k0_t1_loop.trips) : Fin 3 → Nat :=
  let c3_746 : Index := 3#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1549 : Index := Scalar.indexCast v6
  let c512_747 : Index := 512#32
  ![3, v1549.toNat, 512]
def k0_off30 (k0_t1 : Fin k0_t1_loop.trips) : Fin 3 → Nat :=
  let c3_773 : Index := 3#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1604 : Index := Scalar.indexCast v6
  let c640_774 : Index := 640#32
  ![3, v1604.toNat, 640]
def k0_off31 (k0_t1 : Fin k0_t1_loop.trips) : Fin 3 → Nat :=
  let c3_800 : Index := 3#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1659 : Index := Scalar.indexCast v6
  let c768_801 : Index := 768#32
  ![3, v1659.toNat, 768]
def k0_off32 (k0_t1 : Fin k0_t1_loop.trips) : Fin 3 → Nat :=
  let c3_827 : Index := 3#32
  let c0_i32_1 : BitVec 32 := 0#32
  let c1_i32 : BitVec 32 := 1#32
  let arg6 : BitVec 32 := Scf.iv c0_i32_1 c1_i32 k0_t1
  let c8_i32 : BitVec 32 := 8#32
  let v5 : BitVec 32 := Scalar.muli arg6 c8_i32
  let v6 : BitVec 32 := v5
  let v1714 : Index := Scalar.indexCast v6
  let c896_828 : Index := 896#32
  ![3, v1714.toNat, 896]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![9], ![false]⟩

@[reducible] def k1_t1_loop : Scf.Loop 32 :=
  let c0_i32_1 : BitVec 32 := 0#32
  let c32_i32 : BitVec 32 := 32#32
  let v4 : BitVec 32 := Scalar.addi c0_i32_1 c32_i32
  let c1_i32 : BitVec 32 := 1#32
  ⟨c0_i32_1, v4, c1_i32⟩
def k1_mult1 (k1_t1 : Fin k1_t1_loop.trips) : BitVec 32 :=
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  v6
def k1_off1 (k1_t1 : Fin k1_t1_loop.trips) : Fin 3 → Nat :=
  let c0 : Index := 0#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v8 : Index := Scalar.indexCast v7
  let c0_3 : Index := 0#32
  ![0, v8.toNat, 0]
def k1_off2 (k1_t1 : Fin k1_t1_loop.trips) : Fin 3 → Nat :=
  let c0_36 : Index := 0#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v75 : Index := Scalar.indexCast v7
  let c128 : Index := 128#32
  ![0, v75.toNat, 128]
def k1_off3 (k1_t1 : Fin k1_t1_loop.trips) : Fin 3 → Nat :=
  let c0_71 : Index := 0#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v142 : Index := Scalar.indexCast v7
  let c256 : Index := 256#32
  ![0, v142.toNat, 256]
def k1_off4 (k1_t1 : Fin k1_t1_loop.trips) : Fin 3 → Nat :=
  let c0_106 : Index := 0#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v209 : Index := Scalar.indexCast v7
  let c384 : Index := 384#32
  ![0, v209.toNat, 384]
def k1_off5 (k1_t1 : Fin k1_t1_loop.trips) : Fin 3 → Nat :=
  let c0_141 : Index := 0#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v276 : Index := Scalar.indexCast v7
  let c512 : Index := 512#32
  ![0, v276.toNat, 512]
def k1_off6 (k1_t1 : Fin k1_t1_loop.trips) : Fin 3 → Nat :=
  let c0_176 : Index := 0#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v343 : Index := Scalar.indexCast v7
  let c640 : Index := 640#32
  ![0, v343.toNat, 640]
def k1_off7 (k1_t1 : Fin k1_t1_loop.trips) : Fin 3 → Nat :=
  let c0_211 : Index := 0#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v410 : Index := Scalar.indexCast v7
  let c768 : Index := 768#32
  ![0, v410.toNat, 768]
def k1_off8 (k1_t1 : Fin k1_t1_loop.trips) : Fin 3 → Nat :=
  let c0_246 : Index := 0#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v477 : Index := Scalar.indexCast v7
  let c896 : Index := 896#32
  ![0, v477.toNat, 896]
def k1_off9 (k1_t1 : Fin k1_t1_loop.trips) : Fin 3 → Nat :=
  let c1_281 : Index := 1#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v544 : Index := Scalar.indexCast v7
  let c0_282 : Index := 0#32
  ![1, v544.toNat, 0]
def k1_off10 (k1_t1 : Fin k1_t1_loop.trips) : Fin 3 → Nat :=
  let c1_318 : Index := 1#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v611 : Index := Scalar.indexCast v7
  let c128_319 : Index := 128#32
  ![1, v611.toNat, 128]
def k1_off11 (k1_t1 : Fin k1_t1_loop.trips) : Fin 3 → Nat :=
  let c1_355 : Index := 1#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v678 : Index := Scalar.indexCast v7
  let c256_356 : Index := 256#32
  ![1, v678.toNat, 256]
def k1_off12 (k1_t1 : Fin k1_t1_loop.trips) : Fin 3 → Nat :=
  let c1_392 : Index := 1#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v745 : Index := Scalar.indexCast v7
  let c384_393 : Index := 384#32
  ![1, v745.toNat, 384]
def k1_off13 (k1_t1 : Fin k1_t1_loop.trips) : Fin 3 → Nat :=
  let c1_429 : Index := 1#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v812 : Index := Scalar.indexCast v7
  let c512_430 : Index := 512#32
  ![1, v812.toNat, 512]
def k1_off14 (k1_t1 : Fin k1_t1_loop.trips) : Fin 3 → Nat :=
  let c1_466 : Index := 1#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v879 : Index := Scalar.indexCast v7
  let c640_467 : Index := 640#32
  ![1, v879.toNat, 640]
def k1_off15 (k1_t1 : Fin k1_t1_loop.trips) : Fin 3 → Nat :=
  let c1_503 : Index := 1#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v946 : Index := Scalar.indexCast v7
  let c768_504 : Index := 768#32
  ![1, v946.toNat, 768]
def k1_off16 (k1_t1 : Fin k1_t1_loop.trips) : Fin 3 → Nat :=
  let c1_540 : Index := 1#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1013 : Index := Scalar.indexCast v7
  let c896_541 : Index := 896#32
  ![1, v1013.toNat, 896]
def k1_off17 (k1_t1 : Fin k1_t1_loop.trips) : Fin 3 → Nat :=
  let c2_577 : Index := 2#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1080 : Index := Scalar.indexCast v7
  let c0_578 : Index := 0#32
  ![2, v1080.toNat, 0]
def k1_off18 (k1_t1 : Fin k1_t1_loop.trips) : Fin 3 → Nat :=
  let c2_614 : Index := 2#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1147 : Index := Scalar.indexCast v7
  let c128_615 : Index := 128#32
  ![2, v1147.toNat, 128]
def k1_off19 (k1_t1 : Fin k1_t1_loop.trips) : Fin 3 → Nat :=
  let c2_651 : Index := 2#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1214 : Index := Scalar.indexCast v7
  let c256_652 : Index := 256#32
  ![2, v1214.toNat, 256]
def k1_off20 (k1_t1 : Fin k1_t1_loop.trips) : Fin 3 → Nat :=
  let c2_688 : Index := 2#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1281 : Index := Scalar.indexCast v7
  let c384_689 : Index := 384#32
  ![2, v1281.toNat, 384]
def k1_off21 (k1_t1 : Fin k1_t1_loop.trips) : Fin 3 → Nat :=
  let c2_725 : Index := 2#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1348 : Index := Scalar.indexCast v7
  let c512_726 : Index := 512#32
  ![2, v1348.toNat, 512]
def k1_off22 (k1_t1 : Fin k1_t1_loop.trips) : Fin 3 → Nat :=
  let c2_762 : Index := 2#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1415 : Index := Scalar.indexCast v7
  let c640_763 : Index := 640#32
  ![2, v1415.toNat, 640]
def k1_off23 (k1_t1 : Fin k1_t1_loop.trips) : Fin 3 → Nat :=
  let c2_799 : Index := 2#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1482 : Index := Scalar.indexCast v7
  let c768_800 : Index := 768#32
  ![2, v1482.toNat, 768]
def k1_off24 (k1_t1 : Fin k1_t1_loop.trips) : Fin 3 → Nat :=
  let c2_836 : Index := 2#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1549 : Index := Scalar.indexCast v7
  let c896_837 : Index := 896#32
  ![2, v1549.toNat, 896]
def k1_off25 (k1_t1 : Fin k1_t1_loop.trips) : Fin 3 → Nat :=
  let c3_873 : Index := 3#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1616 : Index := Scalar.indexCast v7
  let c0_874 : Index := 0#32
  ![3, v1616.toNat, 0]
def k1_off26 (k1_t1 : Fin k1_t1_loop.trips) : Fin 3 → Nat :=
  let c3_910 : Index := 3#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1683 : Index := Scalar.indexCast v7
  let c128_911 : Index := 128#32
  ![3, v1683.toNat, 128]
def k1_off27 (k1_t1 : Fin k1_t1_loop.trips) : Fin 3 → Nat :=
  let c3_947 : Index := 3#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1750 : Index := Scalar.indexCast v7
  let c256_948 : Index := 256#32
  ![3, v1750.toNat, 256]
def k1_off28 (k1_t1 : Fin k1_t1_loop.trips) : Fin 3 → Nat :=
  let c3_984 : Index := 3#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1817 : Index := Scalar.indexCast v7
  let c384_985 : Index := 384#32
  ![3, v1817.toNat, 384]
def k1_off29 (k1_t1 : Fin k1_t1_loop.trips) : Fin 3 → Nat :=
  let c3_1021 : Index := 3#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1884 : Index := Scalar.indexCast v7
  let c512_1022 : Index := 512#32
  ![3, v1884.toNat, 512]
def k1_off30 (k1_t1 : Fin k1_t1_loop.trips) : Fin 3 → Nat :=
  let c3_1058 : Index := 3#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v1951 : Index := Scalar.indexCast v7
  let c640_1059 : Index := 640#32
  ![3, v1951.toNat, 640]
def k1_off31 (k1_t1 : Fin k1_t1_loop.trips) : Fin 3 → Nat :=
  let c3_1095 : Index := 3#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v2018 : Index := Scalar.indexCast v7
  let c768_1096 : Index := 768#32
  ![3, v2018.toNat, 768]
def k1_off32 (k1_t1 : Fin k1_t1_loop.trips) : Fin 3 → Nat :=
  let c3_1132 : Index := 3#32
  let c31_i32 : BitVec 32 := 31#32
  let c0_i32_1 : BitVec 32 := 0#32
  let c1_i32 : BitVec 32 := 1#32
  let arg8 : BitVec 32 := Scf.iv c0_i32_1 c1_i32 k1_t1
  let v5 : BitVec 32 := Scalar.subi c31_i32 arg8
  let c8_i32 : BitVec 32 := 8#32
  let v6 : BitVec 32 := Scalar.muli v5 c8_i32
  let v7 : BitVec 32 := v6
  let v2085 : Index := Scalar.indexCast v7
  let c896_1133 : Index := 896#32
  ![3, v2085.toNat, 896]
def cc1_transform_0 (i : grid1.Coords) : Fin 3 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c8_i32 : BitVec 32 := 8#32
  let v0 : BitVec 32 := Scalar.subi c8_i32 arg0
  let c0_i32 : BitVec 32 := 0#32
  let c0_i32_0 : BitVec 32 := 0#32
  let c0_i32_1 : BitVec 32 := 0#32
  ![c0_i32.toNat, v0.toNat, c0_i32_0.toNat]

abbrev stage1_0 : Fin 2 → Memref sig .tc .vmem S4x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== Reference20Ideal.lean ====
abbrev S4x2304x1024 : Shape := ⟨3, ![4, 2304, 1024]⟩
abbrev S_ : Shape := ⟨0, ![]⟩
abbrev S4x1024 : Shape := ⟨2, ![4, 1024]⟩
abbrev S2304x4x1024 : Shape := ⟨3, ![2304, 4, 1024]⟩
abbrev S1x4x1024 : Shape := ⟨3, ![1, 4, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S4x2304x1024, .f32⟩
  | .hbm, ⟨3, _⟩ => ⟨S_, .f32⟩
  | .hbm, ⟨4, _⟩ => ⟨S4x1024, .f32⟩
  | .hbm, ⟨5, _⟩ => ⟨S2304x4x1024, .f32⟩
  | .hbm, ⟨6, _⟩ => ⟨S2304x4x1024, .f32⟩
  | .hbm, ⟨7, _⟩ => ⟨S_, .f32⟩
  | .hbm, ⟨8, _⟩ => ⟨S2304x4x1024, .f32⟩
  | .hbm, ⟨9, _⟩ => ⟨S_, .f32⟩
  | .hbm, ⟨10, _⟩ => ⟨S2304x4x1024, .f32⟩
  | .hbm, ⟨11, _⟩ => ⟨S_, .i32⟩
  | .hbm, ⟨12, _⟩ => ⟨S2304x4x1024, .f32⟩
  | .hbm, ⟨13, _⟩ => ⟨S2304x4x1024, .f32⟩
  | .hbm, ⟨14, _⟩ => ⟨S_, .i32⟩
  | .hbm, ⟨15, _⟩ => ⟨S4x1024, .f32⟩
  | .hbm, ⟨16, _⟩ => ⟨S2304x4x1024, .f32⟩
  | .hbm, ⟨17, _⟩ => ⟨S2304x4x1024, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x4x1024, .f32⟩
  | .hbm, ⟨23, _⟩ => ⟨S4x1024, .f32⟩
  | .hbm, ⟨24, _⟩ => ⟨S_, .i32⟩
  | .hbm, ⟨25, _⟩ => ⟨S_, .i32⟩
  | .hbm, ⟨26, _⟩ => ⟨S1x4x1024, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S1x4x1024, .f32⟩
  | .hbm, ⟨31, _⟩ => ⟨S_, .i32⟩
  | .hbm, ⟨32, _⟩ => ⟨S_, .i32⟩
  | .hbm, ⟨33, _⟩ => ⟨S2304x4x1024, .f32⟩
  | .hbm, ⟨34, _⟩ => ⟨S1x4x1024, .f32⟩
  | .hbm, ⟨35, _⟩ => ⟨S_, .i32⟩
  | .hbm, ⟨36, _⟩ => ⟨S_, .i32⟩
  | .hbm, ⟨37, _⟩ => ⟨S2304x4x1024, .f32⟩
  | .hbm, ⟨38, _⟩ => ⟨S_, .i32⟩
  | .hbm, ⟨39, _⟩ => ⟨S_, .i32⟩
  | .hbm, ⟨40, _⟩ => ⟨S4x2304x1024, .f32⟩
  | .hbm, ⟨41, _⟩ => ⟨S_, .f32⟩
  | .hbm, ⟨42, _⟩ => ⟨S4x1024, .f32⟩
  | .hbm, ⟨43, _⟩ => ⟨S2304x4x1024, .f32⟩
  | .hbm, ⟨44, _⟩ => ⟨S_, .f32⟩
  | .hbm, ⟨45, _⟩ => ⟨S4x1024, .f32⟩
  | .hbm, ⟨46, _⟩ => ⟨S_, .f32⟩
  | .hbm, ⟨47, _⟩ => ⟨S2304x4x1024, .f32⟩
  | .hbm, ⟨48, _⟩ => ⟨S_, .f32⟩
  | .hbm, ⟨49, _⟩ => ⟨S2304x4x1024, .f32⟩
  | .hbm, ⟨50, _⟩ => ⟨S_, .i32⟩
  | .hbm, ⟨51, _⟩ => ⟨S2304x4x1024, .f32⟩
  | .hbm, ⟨52, _⟩ => ⟨S2304x4x1024, .f32⟩
  | .hbm, ⟨53, _⟩ => ⟨S2304x4x1024, .f32⟩
  | .hbm, ⟨54, _⟩ => ⟨S_, .i32⟩
  | .hbm, ⟨55, _⟩ => ⟨S4x1024, .f32⟩
  | .hbm, ⟨56, _⟩ => ⟨S2304x4x1024, .f32⟩
  | .hbm, ⟨57, _⟩ => ⟨S2304x4x1024, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x4x1024, .f32⟩
  | .hbm, ⟨67, _⟩ => ⟨S4x1024, .f32⟩
  | .hbm, ⟨68, _⟩ => ⟨S_, .i32⟩
  | .hbm, ⟨69, _⟩ => ⟨S_, .i32⟩
  | .hbm, ⟨70, _⟩ => ⟨S1x4x1024, .f32⟩
  | .hbm, ⟨71, _⟩ => ⟨S4x1024, .f32⟩
  | .hbm, ⟨72, _⟩ => ⟨S_, .i32⟩
  | .hbm, ⟨73, _⟩ => ⟨S_, .i32⟩
  | .hbm, ⟨74, _⟩ => ⟨S1x4x1024, .f32⟩
  | .hbm, ⟨75, _⟩ => ⟨S4x1024, .f32⟩
  | .hbm, ⟨76, _⟩ => ⟨S4x1024, .f32⟩
  | .hbm, ⟨77, _⟩ => ⟨S4x1024, .f32⟩
  | .hbm, ⟨78, _⟩ => ⟨S4x1024, .f32⟩
  | .hbm, ⟨79, _⟩ => ⟨S1x4x1024, .f32⟩
  | .hbm, ⟨80, _⟩ => ⟨S_, .i32⟩
  | .hbm, ⟨81, _⟩ => ⟨S_, .i32⟩
  | .hbm, ⟨82, _⟩ => ⟨S2304x4x1024, .f32⟩
  | .hbm, ⟨83, _⟩ => ⟨S1x4x1024, .f32⟩
  | .hbm, ⟨84, _⟩ => ⟨S_, .i32⟩
  | .hbm, ⟨85, _⟩ => ⟨S_, .i32⟩
  | .hbm, ⟨86, _⟩ => ⟨S2304x4x1024, .f32⟩
  | .hbm, ⟨87, _⟩ => ⟨S_, .i32⟩
  | .hbm, ⟨88, _⟩ => ⟨S_, .i32⟩
  | .hbm, ⟨89, _⟩ => ⟨S4x2304x1024, .f32⟩
  | .hbm, ⟨90, _⟩ => ⟨S4x2304x1024, .f32⟩
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_c : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_while0c_c_12 : Ref sig .tc := ⟨.hbm, 18, rfl⟩
abbrev main_while0c_v15 : Ref sig .tc := ⟨.hbm, 19, rfl⟩
abbrev main_while0b_call0_c : Ref sig .tc := ⟨.hbm, 20, rfl⟩
abbrev main_while0b_call0_c_0 : Ref sig .tc := ⟨.hbm, 21, rfl⟩
abbrev main_while0b_call0_v0 : Ref sig .tc := ⟨.hbm, 22, rfl⟩
abbrev main_while0b_v15 : Ref sig .tc := ⟨.hbm, 23, rfl⟩
abbrev main_while0b_call1_c : Ref sig .tc := ⟨.hbm, 24, rfl⟩
abbrev main_while0b_call1_c_0 : Ref sig .tc := ⟨.hbm, 25, rfl⟩
abbrev main_while0b_call1_v0 : Ref sig .tc := ⟨.hbm, 26, rfl⟩
abbrev main_while0b_v16 : Ref sig .tc := ⟨.hbm, 27, rfl⟩
abbrev main_while0b_v17 : Ref sig .tc := ⟨.hbm, 28, rfl⟩
abbrev main_while0b_v18 : Ref sig .tc := ⟨.hbm, 29, rfl⟩
abbrev main_while0b_call2_v0 : Ref sig .tc := ⟨.hbm, 30, rfl⟩
abbrev main_while0b_call2_c : Ref sig .tc := ⟨.hbm, 31, rfl⟩
abbrev main_while0b_call2_c_0 : Ref sig .tc := ⟨.hbm, 32, rfl⟩
abbrev main_while0b_v19 : Ref sig .tc := ⟨.hbm, 33, rfl⟩
abbrev main_while0b_call3_v0 : Ref sig .tc := ⟨.hbm, 34, rfl⟩
abbrev main_while0b_call3_c : Ref sig .tc := ⟨.hbm, 35, rfl⟩
abbrev main_while0b_call3_c_0 : Ref sig .tc := ⟨.hbm, 36, rfl⟩
abbrev main_while0b_v20 : Ref sig .tc := ⟨.hbm, 37, rfl⟩
abbrev main_while0b_c_12 : Ref sig .tc := ⟨.hbm, 38, rfl⟩
abbrev main_while0b_v21 : Ref sig .tc := ⟨.hbm, 39, rfl⟩
abbrev main_v6 : Ref sig .tc := ⟨.hbm, 40, rfl⟩
abbrev main_cst_2 : Ref sig .tc := ⟨.hbm, 41, rfl⟩
abbrev main_v7 : Ref sig .tc := ⟨.hbm, 42, rfl⟩
abbrev main_v8 : Ref sig .tc := ⟨.hbm, 43, rfl⟩
abbrev main_cst_3 : Ref sig .tc := ⟨.hbm, 44, rfl⟩
abbrev main_v9 : Ref sig .tc := ⟨.hbm, 45, rfl⟩
abbrev main_cst_4 : Ref sig .tc := ⟨.hbm, 46, rfl⟩
abbrev main_v10 : Ref sig .tc := ⟨.hbm, 47, rfl⟩
abbrev main_cst_5 : Ref sig .tc := ⟨.hbm, 48, rfl⟩
abbrev main_v11 : Ref sig .tc := ⟨.hbm, 49, rfl⟩
abbrev main_c_6 : Ref sig .tc := ⟨.hbm, 50, rfl⟩
abbrev main_v12_0 : Ref sig .tc := ⟨.hbm, 51, rfl⟩
abbrev main_v12_1 : Ref sig .tc := ⟨.hbm, 52, rfl⟩
abbrev main_v12_2 : Ref sig .tc := ⟨.hbm, 53, rfl⟩
abbrev main_v12_3 : Ref sig .tc := ⟨.hbm, 54, rfl⟩
abbrev main_v12_4 : Ref sig .tc := ⟨.hbm, 55, rfl⟩
abbrev main_v12_5 : Ref sig .tc := ⟨.hbm, 56, rfl⟩
abbrev main_v12_6 : Ref sig .tc := ⟨.hbm, 57, rfl⟩
abbrev main_while1c_c_13 : Ref sig .tc := ⟨.hbm, 58, rfl⟩
abbrev main_while1c_v15 : Ref sig .tc := ⟨.hbm, 59, rfl⟩
abbrev main_while1b_c_13 : Ref sig .tc := ⟨.hbm, 60, rfl⟩
abbrev main_while1b_v15 : Ref sig .tc := ⟨.hbm, 61, rfl⟩
abbrev main_while1b_c_14 : Ref sig .tc := ⟨.hbm, 62, rfl⟩
abbrev main_while1b_v16 : Ref sig .tc := ⟨.hbm, 63, rfl⟩
abbrev main_while1b_call4_c : Ref sig .tc := ⟨.hbm, 64, rfl⟩
abbrev main_while1b_call4_c_0 : Ref sig .tc := ⟨.hbm, 65, rfl⟩
abbrev main_while1b_call4_v0 : Ref sig .tc := ⟨.hbm, 66, rfl⟩
abbrev main_while1b_v17 : Ref sig .tc := ⟨.hbm, 67, rfl⟩
abbrev main_while1b_call5_c : Ref sig .tc := ⟨.hbm, 68, rfl⟩
abbrev main_while1b_call5_c_0 : Ref sig .tc := ⟨.hbm, 69, rfl⟩
abbrev main_while1b_call5_v0 : Ref sig .tc := ⟨.hbm, 70, rfl⟩
abbrev main_while1b_v18 : Ref sig .tc := ⟨.hbm, 71, rfl⟩
abbrev main_while1b_call6_c : Ref sig .tc := ⟨.hbm, 72, rfl⟩
abbrev main_while1b_call6_c_0 : Ref sig .tc := ⟨.hbm, 73, rfl⟩
abbrev main_while1b_call6_v0 : Ref sig .tc := ⟨.hbm, 74, rfl⟩
abbrev main_while1b_v19 : Ref sig .tc := ⟨.hbm, 75, rfl⟩
abbrev main_while1b_v20 : Ref sig .tc := ⟨.hbm, 76, rfl⟩
abbrev main_while1b_v21 : Ref sig .tc := ⟨.hbm, 77, rfl⟩
abbrev main_while1b_v22 : Ref sig .tc := ⟨.hbm, 78, rfl⟩
abbrev main_while1b_call7_v0 : Ref sig .tc := ⟨.hbm, 79, rfl⟩
abbrev main_while1b_call7_c : Ref sig .tc := ⟨.hbm, 80, rfl⟩
abbrev main_while1b_call7_c_0 : Ref sig .tc := ⟨.hbm, 81, rfl⟩
abbrev main_while1b_v23 : Ref sig .tc := ⟨.hbm, 82, rfl⟩
abbrev main_while1b_call8_v0 : Ref sig .tc := ⟨.hbm, 83, rfl⟩
abbrev main_while1b_call8_c : Ref sig .tc := ⟨.hbm, 84, rfl⟩
abbrev main_while1b_call8_c_0 : Ref sig .tc := ⟨.hbm, 85, rfl⟩
abbrev main_while1b_v24 : Ref sig .tc := ⟨.hbm, 86, rfl⟩
abbrev main_while1b_c_15 : Ref sig .tc := ⟨.hbm, 87, rfl⟩
abbrev main_while1b_v25 : Ref sig .tc := ⟨.hbm, 88, rfl⟩
abbrev main_v13 : Ref sig .tc := ⟨.hbm, 89, rfl⟩
abbrev main_v14 : Ref sig .tc := ⟨.hbm, 90, rfl⟩

abbrev nD : Nat := 1
abbrev τ : Topo := Topo.v7x

variable {F : FTy → Type} [FloatOps F]

abbrev main_while0_count : Scf.Loop 32 := ⟨0#32, 2304#32, 1#32⟩

abbrev main_while1_count : Scf.Loop 32 := ⟨0#32, 2304#32, 1#32⟩
-- ==== Kernel21.lean ====
abbrev S4x2304x5120 : Shape := ⟨3, ![4, 2304, 5120]⟩
abbrev S4x1024 : Shape := ⟨2, ![4, 1024]⟩
abbrev S1x1024 : Shape := ⟨2, ![1, 1024]⟩
abbrev S4x2304x1024 : Shape := ⟨3, ![4, 2304, 1024]⟩
abbrev S1x2304x256 : Shape := ⟨3, ![1, 2304, 256]⟩
abbrev S4x256 : Shape := ⟨2, ![4, 256]⟩
abbrev S1x256 : Shape := ⟨2, ![1, 256]⟩
abbrev S2304x256 : Shape := ⟨2, ![2304, 256]⟩
abbrev S2304x1 : Shape := ⟨2, ![2304, 1]⟩
abbrev S256 : Shape := ⟨1, ![256]⟩
abbrev S3x256 : Shape := ⟨2, ![3, 256]⟩
abbrev S2x256 : Shape := ⟨2, ![2, 256]⟩

abbrev nBuf : Space → Nat
  | .hbm => 8
  | .vmem => 16
  | .smem => 0
  | _ => 0

abbrev bufTy : (tb : Table) → Fin (tcTables nBuf tb) → BufTy
  | .hbm, ⟨0, _⟩ => ⟨S4x2304x5120, .f32⟩
  | .hbm, ⟨1, _⟩ => ⟨S4x1024, .f32⟩
  | .hbm, ⟨2, _⟩ => ⟨S1x1024, .f32⟩
  | .hbm, ⟨3, _⟩ => ⟨S4x2304x1024, .f32⟩
  | .hbm, ⟨4, _⟩ => ⟨S4x2304x1024, .f32⟩
  | .hbm, ⟨5, _⟩ => ⟨S4x2304x1024, .f32⟩
  | .hbm, ⟨6, _⟩ => ⟨S4x1024, .f32⟩
  | .hbm, ⟨7, _⟩ => ⟨S1x1024, .f32⟩
  | .local _ .vmem, ⟨0, _⟩ => ⟨S1x2304x256, .f32⟩
  | .local _ .vmem, ⟨1, _⟩ => ⟨S1x2304x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S1x2304x256, .f32⟩
  | .local _ .vmem, ⟨7, _⟩ => ⟨S1x2304x256, .f32⟩
  | .local _ .vmem, ⟨8, _⟩ => ⟨S1x2304x256, .f32⟩
  | .local _ .vmem, ⟨9, _⟩ => ⟨S1x2304x256, .f32⟩
  | .local _ .vmem, ⟨10, _⟩ => ⟨S1x2304x256, .f32⟩
  | .local _ .vmem, ⟨11, _⟩ => ⟨S1x2304x256, .f32⟩
  | .local _ .vmem, ⟨12, _⟩ => ⟨S4x256, .f32⟩
  | .local _ .vmem, ⟨13, _⟩ => ⟨S4x256, .f32⟩
  | .local _ .vmem, ⟨14, _⟩ => ⟨S1x256, .f32⟩
  | .local _ .vmem, ⟨15, _⟩ => ⟨S1x256, .f32⟩
  | _, _ => ⟨S4x2304x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_34 : BitVec 32 := 0#32
  let v105 : BitVec 1 := Scalar.cmpi .eq arg1 c0_i32_34
  let v106 : BitVec 32 := Scalar.extui v105
  let c0_i32_35 : BitVec 32 := 0#32
  let v107 : BitVec 1 := Scalar.cmpi .ne v106 c0_i32_35
  v107

def k0_cond2 (i : grid0.Coords) : BitVec 1 :=
  let arg1 : BitVec 32 := BitVec.ofNat 32 (i 1).val
  let c0_i32_34 : BitVec 32 := 0#32
  let v105 : BitVec 1 := Scalar.cmpi .eq arg1 c0_i32_34
  let v_true : BitVec 1 := 1#1
  let v108 : BitVec 1 := Scalar.xori v105 v_true
  let v109 : BitVec 32 := Scalar.extui v108
  let c0_i32_36 : BitVec 32 := 0#32
  let v110 : BitVec 1 := Scalar.cmpi .ne v109 c0_i32_36
  v110

def k0_cond3 (i : grid0.Coords) : BitVec 1 :=
  let arg1 : BitVec 32 := BitVec.ofNat 32 (i 1).val
  let c0_i32_37 : BitVec 32 := 0#32
  let v111 : BitVec 1 := Scalar.cmpi .eq arg1 c0_i32_37
  let v112 : BitVec 32 := Scalar.extui v111
  let c0_i32_38 : BitVec 32 := 0#32
  let v113 : BitVec 1 := Scalar.cmpi .ne v112 c0_i32_38
  v113

def k0_cond4 (i : grid0.Coords) : BitVec 1 :=
  let arg1 : BitVec 32 := BitVec.ofNat 32 (i 1).val
  let c0_i32_37 : BitVec 32 := 0#32
  let v111 : BitVec 1 := Scalar.cmpi .eq arg1 c0_i32_37
  let true_39 : BitVec 1 := 1#1
  let v114 : BitVec 1 := Scalar.xori v111 true_39
  let v115 : BitVec 32 := Scalar.extui v114
  let c0_i32_40 : BitVec 32 := 0#32
  let v116 : BitVec 1 := Scalar.cmpi .ne v115 c0_i32_40
  v116

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![arg1.toNat, c0_i32.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2304x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2304x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2304x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2304x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference21Ideal.lean ====
abbrev S4x2304x5120 : Shape := ⟨3, ![4, 2304, 5120]⟩
abbrev S4x1024 : Shape := ⟨2, ![4, 1024]⟩
abbrev S1x1024 : Shape := ⟨2, ![1, 1024]⟩
abbrev S4x2304x1024 : Shape := ⟨3, ![4, 2304, 1024]⟩
abbrev S4x256x1024 : Shape := ⟨3, ![4, 256, 1024]⟩
abbrev S4x1x1024 : Shape := ⟨3, ![4, 1, 1024]⟩
abbrev S_ : Shape := ⟨0, ![]⟩
abbrev S4x259x1024 : Shape := ⟨3, ![4, 259, 1024]⟩
abbrev S1024 : Shape := ⟨1, ![1024]⟩
abbrev S1x1x1024 : Shape := ⟨3, ![1, 1, 1024]⟩
abbrev S4x2048x1024 : Shape := ⟨3, ![4, 2048, 1024]⟩
abbrev S4x2051x1024 : Shape := ⟨3, ![4, 2051, 1024]⟩

abbrev nBuf : Space → Nat
  | .hbm => 235
  | .vmem => 0
  | .smem => 0
  | _ => 0

abbrev hbmTy0_0 (i : Nat) : BufTy := match i % 128 with
  | 0 => ⟨S4x2304x5120, .f32⟩
  | 1 => ⟨S4x1024, .f32⟩
  | 2 => ⟨S1x1024, .f32⟩
  | 3 => ⟨S4x2304x1024, .f32⟩
  | 4 => ⟨S4x2304x1024, .f32⟩
  | 5 => ⟨S4x2304x1024, .f32⟩
  | 6 => ⟨S4x256x1024, .f32⟩
  | 7 => ⟨S4x1x1024, .f32⟩
  | 8 => ⟨S_, .f32⟩
  | 9 => ⟨S4x1x1024, .f32⟩
  | 10 => ⟨S4x259x1024, .f32⟩
  | 11 => ⟨S_, .f32⟩
  | 12 => ⟨S4x1x1024, .f32⟩
  | 13 => ⟨S_, .f32⟩
  | 14 => ⟨S4x1x1024, .f32⟩
  | 15 => ⟨S_, .f32⟩
  | 16 => ⟨S4x1x1024, .f32⟩
  | 17 => ⟨S4x256x1024, .f32⟩
  | 18 => ⟨S1x1024, .f32⟩
  | 19 => ⟨S1024, .f32⟩
  | 20 => ⟨S1x1x1024, .f32⟩
  | 21 => ⟨S4x256x1024, .f32⟩
  | 22 => ⟨S4x256x1024, .f32⟩
  | 23 => ⟨S4x256x1024, .f32⟩
  | 24 => ⟨S1x1024, .f32⟩
  | 25 => ⟨S1024, .f32⟩
  | 26 => ⟨S1x1x1024, .f32⟩
  | 27 => ⟨S4x256x1024, .f32⟩
  | 28 => ⟨S4x256x1024, .f32⟩
  | 29 => ⟨S4x256x1024, .f32⟩
  | 30 => ⟨S4x256x1024, .f32⟩
  | 31 => ⟨S1x1024, .f32⟩
  | 32 => ⟨S1024, .f32⟩
  | 33 => ⟨S1x1x1024, .f32⟩
  | 34 => ⟨S4x256x1024, .f32⟩
  | 35 => ⟨S4x256x1024, .f32⟩
  | 36 => ⟨S4x256x1024, .f32⟩
  | 37 => ⟨S4x256x1024, .f32⟩
  | 38 => ⟨S1x1024, .f32⟩
  | 39 => ⟨S1024, .f32⟩
  | 40 => ⟨S1x1x1024, .f32⟩
  | 41 => ⟨S4x256x1024, .f32⟩
  | 42 => ⟨S4x256x1024, .f32⟩
  | 43 => ⟨S4x256x1024, .f32⟩
  | 44 => ⟨S1x1x1024, .f32⟩
  | 45 => ⟨S4x256x1024, .f32⟩
  | 46 => ⟨S4x256x1024, .f32⟩
  | 47 => ⟨S4x2048x1024, .f32⟩
  | 48 => ⟨S4x1x1024, .f32⟩
  | 49 => ⟨S_, .f32⟩
  | 50 => ⟨S4x1x1024, .f32⟩
  | 51 => ⟨S4x2051x1024, .f32⟩
  | 52 => ⟨S_, .f32⟩
  | 53 => ⟨S4x1x1024, .f32⟩
  | 54 => ⟨S_, .f32⟩
  | 55 => ⟨S4x1x1024, .f32⟩
  | 56 => ⟨S_, .f32⟩
  | 57 => ⟨S4x1x1024, .f32⟩
  | 58 => ⟨S4x2048x1024, .f32⟩
  | 59 => ⟨S1x1024, .f32⟩
  | 60 => ⟨S1024, .f32⟩
  | 61 => ⟨S1x1x1024, .f32⟩
  | 62 => ⟨S4x2048x1024, .f32⟩
  | 63 => ⟨S4x2048x1024, .f32⟩
  | 64 => ⟨S4x2048x1024, .f32⟩
  | 65 => ⟨S1x1024, .f32⟩
  | 66 => ⟨S1024, .f32⟩
  | 67 => ⟨S1x1x1024, .f32⟩
  | 68 => ⟨S4x2048x1024, .f32⟩
  | 69 => ⟨S4x2048x1024, .f32⟩
  | 70 => ⟨S4x2048x1024, .f32⟩
  | 71 => ⟨S4x2048x1024, .f32⟩
  | 72 => ⟨S1x1024, .f32⟩
  | 73 => ⟨S1024, .f32⟩
  | 74 => ⟨S1x1x1024, .f32⟩
  | 75 => ⟨S4x2048x1024, .f32⟩
  | 76 => ⟨S4x2048x1024, .f32⟩
  | 77 => ⟨S4x2048x1024, .f32⟩
  | 78 => ⟨S4x2048x1024, .f32⟩
  | 79 => ⟨S1x1024, .f32⟩
  | 80 => ⟨S1024, .f32⟩
  | 81 => ⟨S1x1x1024, .f32⟩
  | 82 => ⟨S4x2048x1024, .f32⟩
  | 83 => ⟨S4x2048x1024, .f32⟩
  | 84 => ⟨S4x2048x1024, .f32⟩
  | 85 => ⟨S1x1x1024, .f32⟩
  | 86 => ⟨S4x2048x1024, .f32⟩
  | 87 => ⟨S4x2048x1024, .f32⟩
  | 88 => ⟨S4x2304x1024, .f32⟩
  | 89 => ⟨S4x2304x1024, .f32⟩
  | 90 => ⟨S4x256x1024, .f32⟩
  | 91 => ⟨S4x2048x1024, .f32⟩
  | 92 => ⟨S_, .f32⟩
  | 93 => ⟨S1024, .f32⟩
  | 94 => ⟨S1x1x1024, .f32⟩
  | 95 => ⟨S_, .f32⟩
  | 96 => ⟨S1024, .f32⟩
  | 97 => ⟨S1x1024, .f32⟩
  | 98 => ⟨S4x2048x1024, .f32⟩
  | 99 => ⟨S_, .f32⟩
  | 100 => ⟨S1024, .f32⟩
  | 101 => ⟨S1x1x1024, .f32⟩
  | 102 => ⟨S4x2048x1024, .f32⟩
  | 103 => ⟨S4x2048x1024, .f32⟩
  | 104 => ⟨S_, .f32⟩
  | 105 => ⟨S1024, .f32⟩
  | 106 => ⟨S1x1024, .f32⟩
  | 107 => ⟨S_, .f32⟩
  | 108 => ⟨S4x1024, .f32⟩
  | 109 => ⟨S_, .f32⟩
  | 110 => ⟨S4x2051x1024, .f32⟩
  | 111 => ⟨S4x2048x1024, .f32⟩
  | 112 => ⟨S_, .f32⟩
  | 113 => ⟨S1024, .f32⟩
  | 114 => ⟨S1x1x1024, .f32⟩
  | 115 => ⟨S4x2048x1024, .f32⟩
  | 116 => ⟨S4x2048x1024, .f32⟩
  | 117 => ⟨S_, .f32⟩
  | 118 => ⟨S1024, .f32⟩
  | 119 => ⟨S1x1024, .f32⟩
  | 120 => ⟨S_, .f32⟩
  | 121 => ⟨S4x1024, .f32⟩
  | 122 => ⟨S4x1024, .f32⟩
  | 123 => ⟨S_, .f32⟩
  | 124 => ⟨S4x2051x1024, .f32⟩
  | 125 => ⟨S4x2051x1024, .f32⟩
  | 126 => ⟨S4x2048x1024, .f32⟩
  | 127 => ⟨S_, .f32⟩
  | _ => ⟨S4x2304x5120, .f32⟩

abbrev hbmTy0_1 (i : Nat) : BufTy := match i % 128 with
  | 0 => ⟨S1024, .f32⟩
  | 1 => ⟨S1x1x1024, .f32⟩
  | 2 => ⟨S4x2048x1024, .f32⟩
  | 3 => ⟨S4x2048x1024, .f32⟩
  | 4 => ⟨S_, .f32⟩
  | 5 => ⟨S1024, .f32⟩
  | 6 => ⟨S1x1024, .f32⟩
  | 7 => ⟨S_, .f32⟩
  | 8 => ⟨S4x1024, .f32⟩
  | 9 => ⟨S4x1024, .f32⟩
  | 10 => ⟨S_, .f32⟩
  | 11 => ⟨S4x2051x1024, .f32⟩
  | 12 => ⟨S4x2051x1024, .f32⟩
  | 13 => ⟨S4x2048x1024, .f32⟩
  | 14 => ⟨S_, .f32⟩
  | 15 => ⟨S1024, .f32⟩
  | 16 => ⟨S1x1x1024, .f32⟩
  | 17 => ⟨S4x2048x1024, .f32⟩
  | 18 => ⟨S4x2048x1024, .f32⟩
  | 19 => ⟨S_, .f32⟩
  | 20 => ⟨S1024, .f32⟩
  | 21 => ⟨S1x1024, .f32⟩
  | 22 => ⟨S_, .f32⟩
  | 23 => ⟨S4x1024, .f32⟩
  | 24 => ⟨S4x1024, .f32⟩
  | 25 => ⟨S_, .f32⟩
  | 26 => ⟨S4x2051x1024, .f32⟩
  | 27 => ⟨S4x2051x1024, .f32⟩
  | 28 => ⟨S4x1x1024, .f32⟩
  | 29 => ⟨S4x2048x1024, .f32⟩
  | 30 => ⟨S4x1x1024, .f32⟩
  | 31 => ⟨S4x1x1024, .f32⟩
  | 32 => ⟨S_, .f32⟩
  | 33 => ⟨S4x2304x1024, .f32⟩
  | 34 => ⟨S_, .f32⟩
  | 35 => ⟨S1024, .f32⟩
  | 36 => ⟨S1x1x1024, .f32⟩
  | 37 => ⟨S_, .f32⟩
  | 38 => ⟨S1024, .f32⟩
  | 39 => ⟨S1x1024, .f32⟩
  | 40 => ⟨S1x1024, .f32⟩
  | 41 => ⟨S4x256x1024, .f32⟩
  | 42 => ⟨S_, .f32⟩
  | 43 => ⟨S1024, .f32⟩
  | 44 => ⟨S1x1x1024, .f32⟩
  | 45 => ⟨S4x256x1024, .f32⟩
  | 46 => ⟨S4x256x1024, .f32⟩
  | 47 => ⟨S_, .f32⟩
  | 48 => ⟨S1024, .f32⟩
  | 49 => ⟨S1x1024, .f32⟩
  | 50 => ⟨S_, .f32⟩
  | 51 => ⟨S4x1024, .f32⟩
  | 52 => ⟨S4x1024, .f32⟩
  | 53 => ⟨S_, .f32⟩
  | 54 => ⟨S4x259x1024, .f32⟩
  | 55 => ⟨S4x256x1024, .f32⟩
  | 56 => ⟨S_, .f32⟩
  | 57 => ⟨S1024, .f32⟩
  | 58 => ⟨S1x1x1024, .f32⟩
  | 59 => ⟨S4x256x1024, .f32⟩
  | 60 => ⟨S4x256x1024, .f32⟩
  | 61 => ⟨S_, .f32⟩
  | 62 => ⟨S1024, .f32⟩
  | 63 => ⟨S1x1024, .f32⟩
  | 64 => ⟨S_, .f32⟩
  | 65 => ⟨S4x1024, .f32⟩
  | 66 => ⟨S4x1024, .f32⟩
  | 67 => ⟨S_, .f32⟩
  | 68 => ⟨S4x259x1024, .f32⟩
  | 69 => ⟨S4x259x1024, .f32⟩
  | 70 => ⟨S4x256x1024, .f32⟩
  | 71 => ⟨S_, .f32⟩
  | 72 => ⟨S1024, .f32⟩
  | 73 => ⟨S1x1x1024, .f32⟩
  | 74 => ⟨S4x256x1024, .f32⟩
  | 75 => ⟨S4x256x1024, .f32⟩
  | 76 => ⟨S_, .f32⟩
  | 77 => ⟨S1024, .f32⟩
  | 78 => ⟨S1x1024, .f32⟩
  | 79 => ⟨S_, .f32⟩
  | 80 => ⟨S4x1024, .f32⟩
  | 81 => ⟨S4x1024, .f32⟩
  | 82 => ⟨S_, .f32⟩
  | 83 => ⟨S4x259x1024, .f32⟩
  | 84 => ⟨S4x259x1024, .f32⟩
  | 85 => ⟨S4x256x1024, .f32⟩
  | 86 => ⟨S_, .f32⟩
  | 87 => ⟨S1024, .f32⟩
  | 88 => ⟨S1x1x1024, .f32⟩
  | 89 => ⟨S4x256x1024, .f32⟩
  | 90 => ⟨S4x256x1024, .f32⟩
  | 91 => ⟨S_, .f32⟩
  | 92 => ⟨S1024, .f32⟩
  | 93 => ⟨S1x1024, .f32⟩
  | 94 => ⟨S_, .f32⟩
  | 95 => ⟨S4x1024, .f32⟩
  | 96 => ⟨S4x1024, .f32⟩
  | 97 => ⟨S_, .f32⟩
  | 98 => ⟨S4x259x1024, .f32⟩
  | 99 => ⟨S4x259x1024, .f32⟩
  | 100 => ⟨S4x1x1024, .f32⟩
  | 101 => ⟨S4x256x1024, .f32⟩
  | 102 => ⟨S4x1x1024, .f32⟩
  | 103 => ⟨S4x1x1024, .f32⟩
  | 104 => ⟨S_, .f32⟩
  | 105 => ⟨S4x2304x1024, .f32⟩
  | 106 => ⟨S4x2304x1024, .f32⟩
  | _ => ⟨S4x2304x5120, .f32⟩

abbrev hbmTy (i : Nat) : BufTy := match i / 128 with
  | 0 => hbmTy0_0 i
  | 1 => hbmTy0_1 i
  | _ => ⟨S4x2304x5120, .f32⟩

abbrev bufTy : (tb : Table) → Fin (tcTables nBuf tb) → BufTy
  | .hbm, ⟨i, _⟩ => hbmTy i
  | _, _ => ⟨S4x2304x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_7 : Ref sig .tc := ⟨.hbm, 92, rfl⟩
abbrev main_v79 : Ref sig .tc := ⟨.hbm, 93, rfl⟩
abbrev main_v80 : Ref sig .tc := ⟨.hbm, 94, rfl⟩
abbrev main_cst_8 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_cst_9 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_v89 : Ref sig .tc := ⟨.hbm, 106, rfl⟩
abbrev main_cst_11 : Ref sig .tc := ⟨.hbm, 107, rfl⟩
abbrev main_v90 : Ref sig .tc := ⟨.hbm, 108, rfl⟩
abbrev main_cst_12 : Ref sig .tc := ⟨.hbm, 109, rfl⟩
abbrev main_v91 : Ref sig .tc := ⟨.hbm, 110, rfl⟩
abbrev main_v92 : Ref sig .tc := ⟨.hbm, 111, rfl⟩
abbrev main_cst_13 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_14 : Ref sig .tc := ⟨.hbm, 117, rfl⟩
abbrev main_v97 : Ref sig .tc := ⟨.hbm, 118, rfl⟩
abbrev main_v98 : Ref sig .tc := ⟨.hbm, 119, rfl⟩
abbrev main_cst_15 : Ref sig .tc := ⟨.hbm, 120, rfl⟩
abbrev main_v99 : Ref sig .tc := ⟨.hbm, 121, rfl⟩
abbrev main_v100 : Ref sig .tc := ⟨.hbm, 122, rfl⟩
abbrev main_cst_16 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_17 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_cst_18 : Ref sig .tc := ⟨.hbm, 132, rfl⟩
abbrev main_v108 : Ref sig .tc := ⟨.hbm, 133, rfl⟩
abbrev main_v109 : Ref sig .tc := ⟨.hbm, 134, rfl⟩
abbrev main_cst_19 : Ref sig .tc := ⟨.hbm, 135, rfl⟩
abbrev main_v110 : Ref sig .tc := ⟨.hbm, 136, rfl⟩
abbrev main_v111 : Ref sig .tc := ⟨.hbm, 137, rfl⟩
abbrev main_cst_20 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_cst_21 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_cst_22 : Ref sig .tc := ⟨.hbm, 147, rfl⟩
abbrev main_v119 : Ref sig .tc := ⟨.hbm, 148, rfl⟩
abbrev main_v120 : Ref sig .tc := ⟨.hbm, 149, rfl⟩
abbrev main_cst_23 : Ref sig .tc := ⟨.hbm, 150, rfl⟩
abbrev main_v121 : Ref sig .tc := ⟨.hbm, 151, rfl⟩
abbrev main_v122 : Ref sig .tc := ⟨.hbm, 152, rfl⟩
abbrev main_cst_24 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_cst_25 : Ref sig .tc := ⟨.hbm, 160, rfl⟩
abbrev main_v129 : Ref sig .tc := ⟨.hbm, 161, rfl⟩
abbrev main_cst_26 : Ref sig .tc := ⟨.hbm, 162, rfl⟩
abbrev main_v130 : Ref sig .tc := ⟨.hbm, 163, rfl⟩
abbrev main_v131 : Ref sig .tc := ⟨.hbm, 164, rfl⟩
abbrev main_cst_27 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_28 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_29 : Ref sig .tc := ⟨.hbm, 175, rfl⟩
abbrev main_v140 : Ref sig .tc := ⟨.hbm, 176, rfl⟩
abbrev main_v141 : Ref sig .tc := ⟨.hbm, 177, rfl⟩
abbrev main_cst_30 : Ref sig .tc := ⟨.hbm, 178, rfl⟩
abbrev main_v142 : Ref sig .tc := ⟨.hbm, 179, rfl⟩
abbrev main_v143 : Ref sig .tc := ⟨.hbm, 180, rfl⟩
abbrev main_cst_31 : Ref sig .tc := ⟨.hbm, 181, rfl⟩
abbrev main_v144 : Ref sig .tc := ⟨.hbm, 182, rfl⟩
abbrev main_v145 : Ref sig .tc := ⟨.hbm, 183, rfl⟩
abbrev main_cst_32 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_cst_33 : Ref sig .tc := ⟨.hbm, 189, rfl⟩
abbrev main_v150 : Ref sig .tc := ⟨.hbm, 190, rfl⟩
abbrev main_v151 : Ref sig .tc := ⟨.hbm, 191, rfl⟩
abbrev main_cst_34 : Ref sig .tc := ⟨.hbm, 192, rfl⟩
abbrev main_v152 : Ref sig .tc := ⟨.hbm, 193, rfl⟩
abbrev main_v153 : Ref sig .tc := ⟨.hbm, 194, rfl⟩
abbrev main_cst_35 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_cst_36 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_cst_37 : Ref sig .tc := ⟨.hbm, 204, rfl⟩
abbrev main_v161 : Ref sig .tc := ⟨.hbm, 205, rfl⟩
abbrev main_v162 : Ref sig .tc := ⟨.hbm, 206, rfl⟩
abbrev main_cst_38 : Ref sig .tc := ⟨.hbm, 207, rfl⟩
abbrev main_v163 : Ref sig .tc := ⟨.hbm, 208, rfl⟩
abbrev main_v164 : Ref sig .tc := ⟨.hbm, 209, rfl⟩
abbrev main_cst_39 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_cst_40 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_cst_41 : Ref sig .tc := ⟨.hbm, 219, rfl⟩
abbrev main_v172 : Ref sig .tc := ⟨.hbm, 220, rfl⟩
abbrev main_v173 : Ref sig .tc := ⟨.hbm, 221, rfl⟩
abbrev main_cst_42 : Ref sig .tc := ⟨.hbm, 222, rfl⟩
abbrev main_v174 : Ref sig .tc := ⟨.hbm, 223, rfl⟩
abbrev main_v175 : Ref sig .tc := ⟨.hbm, 224, rfl⟩
abbrev main_cst_43 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_cst_44 : Ref sig .tc := ⟨.hbm, 232, rfl⟩
abbrev main_v182 : Ref sig .tc := ⟨.hbm, 233, rfl⟩
abbrev main_v183 : Ref sig .tc := ⟨.hbm, 234, rfl⟩

abbrev nD : Nat := 1
abbrev τ : Topo := Topo.v7x

variable {F : FTy → Type} [FloatOps F]
-- ==== Kernel22.lean ====
abbrev S4x2304x1024 : Shape := ⟨3, ![4, 2304, 1024]⟩
abbrev S4x2304x5120 : Shape := ⟨3, ![4, 2304, 5120]⟩
abbrev S16 : Shape := ⟨1, ![16]⟩
abbrev S1x1024 : Shape := ⟨2, ![1, 1024]⟩
abbrev S4x2304x2048 : Shape := ⟨3, ![4, 2304, 2048]⟩
abbrev S_ : Shape := ⟨0, ![]⟩
abbrev S8x128 : Shape := ⟨2, ![8, 128]⟩
abbrev S1 : Shape := ⟨1, ![1]⟩
abbrev S2 : Shape := ⟨1, ![2]⟩
abbrev S1x256x1024 : Shape := ⟨3, ![1, 256, 1024]⟩
abbrev S1x256x2048 : Shape := ⟨3, ![1, 256, 2048]⟩
abbrev S256x1024 : Shape := ⟨2, ![256, 1024]⟩
abbrev S128x1024 : Shape := ⟨2, ![128, 1024]⟩
abbrev S8x1024 : Shape := ⟨2, ![8, 1024]⟩
abbrev S256 : Shape := ⟨1, ![256]⟩
abbrev S256x1 : Shape := ⟨2, ![256, 1]⟩
abbrev S256x2048 : Shape := ⟨2, ![256, 2048]⟩
abbrev S1024 : Shape := ⟨1, ![1024]⟩
abbrev S7x1024 : Shape := ⟨2, ![7, 1024]⟩

abbrev nBuf : Space → Nat
  | .hbm => 24
  | .vmem => 30
  | .smem => 0
  | _ => 0

abbrev bufTy : (tb : Table) → Fin (tcTables nBuf tb) → BufTy
  | .hbm, ⟨0, _⟩ => ⟨S4x2304x1024, .f32⟩
  | .hbm, ⟨1, _⟩ => ⟨S4x2304x1024, .f32⟩
  | .hbm, ⟨2, _⟩ => ⟨S4x2304x1024, .f32⟩
  | .hbm, ⟨3, _⟩ => ⟨S4x2304x5120, .f32⟩
  | .hbm, ⟨4, _⟩ => ⟨S4x2304x1024, .f32⟩
  | .hbm, ⟨5, _⟩ => ⟨S4x2304x1024, .f32⟩
  | .hbm, ⟨6, _⟩ => ⟨S16, .f32⟩
  | .hbm, ⟨7, _⟩ => ⟨S1x1024, .f32⟩
  | .hbm, ⟨8, _⟩ => ⟨S4x2304x2048, .f32⟩
  | .hbm, ⟨9, _⟩ => ⟨S_, .f32⟩
  | .hbm, ⟨10, _⟩ => ⟨S8x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S8x128, .f32⟩
  | .hbm, ⟨17, _⟩ => ⟨S4x2304x1024, .f32⟩
  | .hbm, ⟨18, _⟩ => ⟨S4x2304x1024, .f32⟩
  | .hbm, ⟨19, _⟩ => ⟨S4x2304x1024, .f32⟩
  | .hbm, ⟨20, _⟩ => ⟨S4x2304x1024, .f32⟩
  | .hbm, ⟨21, _⟩ => ⟨S4x2304x1024, .f32⟩
  | .hbm, ⟨22, _⟩ => ⟨S8x128, .f32⟩
  | .hbm, ⟨23, _⟩ => ⟨S1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S8x128, .f32⟩
  | .local _ .vmem, ⟨15, _⟩ => ⟨S1x1024, .f32⟩
  | .local _ .vmem, ⟨16, _⟩ => ⟨S1x256x2048, .f32⟩
  | .local _ .vmem, ⟨17, _⟩ => ⟨S1x256x2048, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | .local _ .vmem, ⟨22, _⟩ => ⟨S1x256x1024, .f32⟩
  | .local _ .vmem, ⟨23, _⟩ => ⟨S1x256x1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x1024, .f32⟩
  | .local _ .vmem, ⟨27, _⟩ => ⟨S1x256x1024, .f32⟩
  | .local _ .vmem, ⟨28, _⟩ => ⟨S8x128, .f32⟩
  | .local _ .vmem, ⟨29, _⟩ => ⟨S1x1024, .f32⟩
  | _, _ => ⟨S4x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg16_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem16_0 : DmaSem sig := 29

abbrev nD : Nat := 1
abbrev τ : Topo := Topo.v7x

variable {F : FTy → Type} [FloatOps F]

abbrev grid0 : Pipeline.Grid := ⟨2, ![4, 9], ![false, false]⟩

def k0_cond1 (i : grid0.Coords) : BitVec 1 :=
  let arg0 : BitVec 32 := BitVec.ofNat 32 (i 0).val
  let c0_i32_68 : BitVec 32 := 0#32
  let v160 : BitVec 1 := Scalar.cmpi .eq arg0 c0_i32_68
  let arg1 : BitVec 32 := BitVec.ofNat 32 (i 1).val
  let c0_i32_69 : BitVec 32 := 0#32
  let v161 : BitVec 1 := Scalar.cmpi .eq arg1 c0_i32_69
  let v162 : BitVec 1 := Scalar.andi v160 v161
  let v163 : BitVec 32 := Scalar.extui v162
  let c0_i32_70 : BitVec 32 := 0#32
  let v164 : BitVec 1 := Scalar.cmpi .ne v163 c0_i32_70
  v164

def k0_cond2 (i : grid0.Coords) : BitVec 1 :=
  let arg0 : BitVec 32 := BitVec.ofNat 32 (i 0).val
  let c0_i32_68 : BitVec 32 := 0#32
  let v160 : BitVec 1 := Scalar.cmpi .eq arg0 c0_i32_68
  let arg1 : BitVec 32 := BitVec.ofNat 32 (i 1).val
  let c0_i32_69 : BitVec 32 := 0#32
  let v161 : BitVec 1 := Scalar.cmpi .eq arg1 c0_i32_69
  let v162 : BitVec 1 := Scalar.andi v160 v161
  let v_true : BitVec 1 := 1#1
  let v165 : BitVec 1 := Scalar.xori v162 v_true
  let v166 : BitVec 32 := Scalar.extui v165
  let c0_i32_71 : BitVec 32 := 0#32
  let v167 : BitVec 1 := Scalar.cmpi .ne v166 c0_i32_71
  v167

def k0_cond3 (i : grid0.Coords) : BitVec 1 :=
  let arg0 : BitVec 32 := BitVec.ofNat 32 (i 0).val
  let c0_i32_72 : BitVec 32 := 0#32
  let v168 : BitVec 1 := Scalar.cmpi .eq arg0 c0_i32_72
  let arg1 : BitVec 32 := BitVec.ofNat 32 (i 1).val
  let c0_i32_73 : BitVec 32 := 0#32
  let v169 : BitVec 1 := Scalar.cmpi .eq arg1 c0_i32_73
  let v170 : BitVec 1 := Scalar.andi v168 v169
  let v171 : BitVec 32 := Scalar.extui v170
  let c0_i32_74 : BitVec 32 := 0#32
  let v172 : BitVec 1 := Scalar.cmpi .ne v171 c0_i32_74
  v172

def k0_cond4 (i : grid0.Coords) : BitVec 1 :=
  let arg0 : BitVec 32 := BitVec.ofNat 32 (i 0).val
  let c0_i32_72 : BitVec 32 := 0#32
  let v168 : BitVec 1 := Scalar.cmpi .eq arg0 c0_i32_72
  let arg1 : BitVec 32 := BitVec.ofNat 32 (i 1).val
  let c0_i32_73 : BitVec 32 := 0#32
  let v169 : BitVec 1 := Scalar.cmpi .eq arg1 c0_i32_73
  let v170 : BitVec 1 := Scalar.andi v168 v169
  let true_75 : BitVec 1 := 1#1
  let v173 : BitVec 1 := Scalar.xori v170 true_75
  let v174 : BitVec 32 := Scalar.extui v173
  let c0_i32_76 : BitVec 32 := 0#32
  let v175 : BitVec 1 := Scalar.cmpi .ne v174 c0_i32_76
  v175

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== Reference22Ideal.lean ====
abbrev S4x2304x1024 : Shape := ⟨3, ![4, 2304, 1024]⟩
abbrev S4x2304x5120 : Shape := ⟨3, ![4, 2304, 5120]⟩
abbrev S16 : Shape := ⟨1, ![16]⟩
abbrev S1x1024 : Shape := ⟨2, ![1, 1024]⟩
abbrev S4x2304x2048 : Shape := ⟨3, ![4, 2304, 2048]⟩
abbrev S1024 : Shape := ⟨1, ![1024]⟩
abbrev S16x64 : Shape := ⟨2, ![16, 64]⟩
abbrev S1x1x1024 : Shape := ⟨3, ![1, 1, 1024]⟩
abbrev S_ : Shape := ⟨0, ![]⟩
abbrev S4x2304 : Shape := ⟨2, ![4, 2304]⟩
abbrev S4x2304x1 : Shape := ⟨3, ![4, 2304, 1]⟩
abbrev S1x16 : Shape := ⟨2, ![1, 16]⟩
abbrev S8x128 : Shape := ⟨2, ![8, 128]⟩

abbrev nBuf : Space → Nat
  | .hbm => 151
  | .vmem => 0
  | .smem => 0
  | _ => 0

abbrev hbmTy0_0 (i : Nat) : BufTy := match i % 128 with
  | 0 => ⟨S4x2304x1024, .f32⟩
  | 1 => ⟨S4x2304x1024, .f32⟩
  | 2 => ⟨S4x2304x1024, .f32⟩
  | 3 => ⟨S4x2304x5120, .f32⟩
  | 4 => ⟨S4x2304x1024, .f32⟩
  | 5 => ⟨S4x2304x1024, .f32⟩
  | 6 => ⟨S16, .f32⟩
  | 7 => ⟨S1x1024, .f32⟩
  | 8 => ⟨S4x2304x2048, .f32⟩
  | 9 => ⟨S4x2304x1024, .f32⟩
  | 10 => ⟨S4x2304x1024, .f32⟩
  | 11 => ⟨S4x2304x1024, .f32⟩
  | 12 => ⟨S4x2304x1024, .f32⟩
  | 13 => ⟨S1024, .f32⟩
  | 14 => ⟨S16x64, .f32⟩
  | 15 => ⟨S1024, .f32⟩
  | 16 => ⟨S1x1x1024, .f32⟩
  | 17 => ⟨S4x2304x1024, .f32⟩
  | 18 => ⟨S4x2304x1024, .f32⟩
  | 19 => ⟨S4x2304x1024, .f32⟩
  | 20 => ⟨S4x2304x1024, .f32⟩
  | 21 => ⟨S4x2304x1024, .f32⟩
  | 22 => ⟨S_, .f32⟩
  | 23 => ⟨S4x2304x1024, .f32⟩
  | 24 => ⟨S4x2304x1024, .f32⟩
  | 25 => ⟨S_, .f32⟩
  | 26 => ⟨S4x2304x1024, .f32⟩
  | 27 => ⟨S4x2304x1024, .f32⟩
  | 28 => ⟨S_, .f32⟩
  | 29 => ⟨S4x2304x1024, .f32⟩
  | 30 => ⟨S4x2304x1024, .f32⟩
  | 31 => ⟨S4x2304x1024, .f32⟩
  | 32 => ⟨S4x2304x1024, .f32⟩
  | 33 => ⟨S4x2304x1024, .f32⟩
  | 34 => ⟨S4x2304x1024, .f32⟩
  | 35 => ⟨S_, .f32⟩
  | 36 => ⟨S4x2304x1024, .f32⟩
  | 37 => ⟨S4x2304x1024, .f32⟩
  | 38 => ⟨S_, .f32⟩
  | 39 => ⟨S4x2304, .f32⟩
  | 40 => ⟨S4x2304x1, .f32⟩
  | 41 => ⟨S_, .f32⟩
  | 42 => ⟨S4x2304x1, .f32⟩
  | 43 => ⟨S4x2304x1, .f32⟩
  | 44 => ⟨S_, .f32⟩
  | 45 => ⟨S4x2304x1, .f32⟩
  | 46 => ⟨S4x2304x1, .f32⟩
  | 47 => ⟨S4x2304x1, .f32⟩
  | 48 => ⟨S4x2304x1, .f32⟩
  | 49 => ⟨S_, .f32⟩
  | 50 => ⟨S4x2304x1, .f32⟩
  | 51 => ⟨S4x2304x1, .f32⟩
  | 52 => ⟨S4x2304x1024, .f32⟩
  | 53 => ⟨S4x2304x1024, .f32⟩
  | 54 => ⟨S1x1x1024, .f32⟩
  | 55 => ⟨S4x2304x1024, .f32⟩
  | 56 => ⟨S4x2304x1024, .f32⟩
  | 57 => ⟨S4x2304x1024, .f32⟩
  | 58 => ⟨S4x2304x1024, .f32⟩
  | 59 => ⟨S4x2304x1024, .f32⟩
  | 60 => ⟨S_, .f32⟩
  | 61 => ⟨S4x2304x1024, .f32⟩
  | 62 => ⟨S4x2304x1024, .f32⟩
  | 63 => ⟨S_, .f32⟩
  | 64 => ⟨S4x2304x1024, .f32⟩
  | 65 => ⟨S4x2304x1024, .f32⟩
  | 66 => ⟨S4x2304x1024, .f32⟩
  | 67 => ⟨S_, .f32⟩
  | 68 => ⟨S4x2304x1024, .f32⟩
  | 69 => ⟨S4x2304x1024, .f32⟩
  | 70 => ⟨S4x2304x1024, .f32⟩
  | 71 => ⟨S_, .f32⟩
  | 72 => ⟨S4x2304x1024, .f32⟩
  | 73 => ⟨S4x2304x1024, .f32⟩
  | 74 => ⟨S_, .f32⟩
  | 75 => ⟨S4x2304x1024, .f32⟩
  | 76 => ⟨S4x2304x1024, .f32⟩
  | 77 => ⟨S4x2304x1024, .f32⟩
  | 78 => ⟨S_, .f32⟩
  | 79 => ⟨S4x2304x1024, .f32⟩
  | 80 => ⟨S4x2304x1024, .f32⟩
  | 81 => ⟨S_, .f32⟩
  | 82 => ⟨S4x2304x1024, .f32⟩
  | 83 => ⟨S4x2304x1024, .f32⟩
  | 84 => ⟨S4x2304x1024, .f32⟩
  | 85 => ⟨S4x2304x1024, .f32⟩
  | 86 => ⟨S4x2304x2048, .f32⟩
  | 87 => ⟨S4x2304x1024, .f32⟩
  | 88 => ⟨S4x2304x1024, .f32⟩
  | 89 => ⟨S4x2304x1024, .f32⟩
  | 90 => ⟨S4x2304x1024, .f32⟩
  | 91 => ⟨S4x2304x1024, .f32⟩
  | 92 => ⟨S4x2304x1024, .f32⟩
  | 93 => ⟨S_, .f32⟩
  | 94 => ⟨S4x2304x1024, .f32⟩
  | 95 => ⟨S4x2304x1024, .f32⟩
  | 96 => ⟨S4x2304x1024, .f32⟩
  | 97 => ⟨S_, .f32⟩
  | 98 => ⟨S4x2304x1024, .f32⟩
  | 99 => ⟨S4x2304x1024, .f32⟩
  | 100 => ⟨S4x2304x1024, .f32⟩
  | 101 => ⟨S_, .f32⟩
  | 102 => ⟨S4x2304x1024, .f32⟩
  | 103 => ⟨S4x2304x1024, .f32⟩
  | 104 => ⟨S4x2304x1024, .f32⟩
  | 105 => ⟨S4x2304x1024, .f32⟩
  | 106 => ⟨S4x2304x1024, .f32⟩
  | 107 => ⟨S_, .f32⟩
  | 108 => ⟨S1024, .f32⟩
  | 109 => ⟨S1x1x1024, .f32⟩
  | 110 => ⟨S4x2304x1024, .f32⟩
  | 111 => ⟨S4x2304x1024, .f32⟩
  | 112 => ⟨S_, .f32⟩
  | 113 => ⟨S1024, .f32⟩
  | 114 => ⟨S4x2304x1024, .f32⟩
  | 115 => ⟨S_, .f32⟩
  | 116 => ⟨S4x2304, .f32⟩
  | 117 => ⟨S4x2304x1, .f32⟩
  | 118 => ⟨S4x2304x1024, .f32⟩
  | 119 => ⟨S4x2304x1024, .f32⟩
  | 120 => ⟨S4x2304x1, .f32⟩
  | 121 => ⟨S_, .f32⟩
  | 122 => ⟨S4x2304x1, .f32⟩
  | 123 => ⟨S4x2304x1, .f32⟩
  | 124 => ⟨S_, .f32⟩
  | 125 => ⟨S4x2304, .f32⟩
  | 126 => ⟨S4x2304x1024, .f32⟩
  | 127 => ⟨S4x2304x1024, .f32⟩
  | _ => ⟨S4x2304x1024, .f32⟩

abbrev hbmTy0_1 (i : Nat) : BufTy := match i % 128 with
  | 0 => ⟨S4x2304x1024, .f32⟩
  | 1 => ⟨S4x2304x1024, .f32⟩
  | 2 => ⟨S4x2304x1024, .f32⟩
  | 3 => ⟨S4x2304x1024, .f32⟩
  | 4 => ⟨S4x2304x1024, .f32⟩
  | 5 => ⟨S4x2304x1024, .f32⟩
  | 6 => ⟨S4x2304x1024, .f32⟩
  | 7 => ⟨S4x2304x1024, .f32⟩
  | 8 => ⟨S4x2304x1024, .f32⟩
  | 9 => ⟨S4x2304x1024, .f32⟩
  | 10 => ⟨S_, .f32⟩
  | 11 => ⟨S1024, .f32⟩
  | 12 => ⟨S1x1x1024, .f32⟩
  | 13 => ⟨S_, .f32⟩
  | 14 => ⟨S1024, .f32⟩
  | 15 => ⟨S16x64, .f32⟩
  | 16 => ⟨S_, .f32⟩
  | 17 => ⟨S16, .f32⟩
  | 18 => ⟨S1x16, .f32⟩
  | 19 => ⟨S_, .i32⟩
  | 20 => ⟨S_, .f32⟩
  | 21 => ⟨S8x128, .f32⟩
  | 22 => ⟨S1x1024, .f32⟩
  | _ => ⟨S4x2304x1024, .f32⟩

abbrev hbmTy (i : Nat) : BufTy := match i / 128 with
  | 0 => hbmTy0_0 i
  | 1 => hbmTy0_1 i
  | _ => ⟨S4x2304x1024, .f32⟩

abbrev bufTy : (tb : Table) → Fin (tcTables nBuf tb) → BufTy
  | .hbm, ⟨i, _⟩ => hbmTy i
  | _, _ => ⟨S4x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v11_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v11_1 : Ref sig .tc := ⟨.hbm, 31, rfl⟩
abbrev main_v11_0 : Ref sig .tc := ⟨.hbm, 32, rfl⟩
abbrev main_v12 : Ref sig .tc := ⟨.hbm, 33, rfl⟩
abbrev main_v13 : Ref sig .tc := ⟨.hbm, 34, rfl⟩
abbrev main_cst : Ref sig .tc := ⟨.hbm, 35, rfl⟩
abbrev main_v14 : Ref sig .tc := ⟨.hbm, 36, rfl⟩
abbrev main_v15 : Ref sig .tc := ⟨.hbm, 37, rfl⟩
abbrev main_cst_0 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_cst_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_9 : Ref sig .tc := ⟨.hbm, 78, rfl⟩
abbrev main_v47 : Ref sig .tc := ⟨.hbm, 79, rfl⟩
abbrev main_v48 : Ref sig .tc := ⟨.hbm, 80, rfl⟩
abbrev main_cst_10 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_12 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_14 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_cst_16 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_cst_18 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_call1_v0 : Ref sig .tc := ⟨.hbm, 131, rfl⟩
abbrev main_call1_v1 : Ref sig .tc := ⟨.hbm, 132, rfl⟩
abbrev main_call1_v2 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_19 : Ref sig .tc := ⟨.hbm, 138, rfl⟩
abbrev main_v94 : Ref sig .tc := ⟨.hbm, 139, rfl⟩
abbrev main_v95 : Ref sig .tc := ⟨.hbm, 140, rfl⟩
abbrev main_cst_20 : Ref sig .tc := ⟨.hbm, 141, rfl⟩
abbrev main_v96 : Ref sig .tc := ⟨.hbm, 142, rfl⟩
abbrev main_v97 : Ref sig .tc := ⟨.hbm, 143, rfl⟩
abbrev main_cst_21 : Ref sig .tc := ⟨.hbm, 144, rfl⟩
abbrev main_v98 : Ref sig .tc := ⟨.hbm, 145, rfl⟩
abbrev main_v99 : Ref sig .tc := ⟨.hbm, 146, rfl⟩
abbrev main_c : Ref sig .tc := ⟨.hbm, 147, rfl⟩
abbrev main_call2_v0 : Ref sig .tc := ⟨.hbm, 148, rfl⟩
abbrev main_v100 : Ref sig .tc := ⟨.hbm, 149, rfl⟩
abbrev main_v101 : Ref sig .tc := ⟨.hbm, 150, rfl⟩

abbrev nD : Nat := 1
abbrev τ : Topo := Topo.v7x

variable {F : FTy → Type} [FloatOps F]
-- ==== Proof.ConvSeq.lean ====
module

public import Idealize.ShloMosaic.Lib.Pointwise

/-! The gradients of a convolution of four taps over two stretches of time, the first 256 times and the 2048 after them, as sums over the times. -/

@[expose] public section

noncomputable section

namespace Cert.Conv

open Idealize.ShloMosaic

/-- Tap `k` of a sequence at time `t`: the entry `k - 1` times later, zero where that lies in another stretch. -/
def tap (u : ℕ → EReal) : ℕ → ℕ → EReal
  | 0, t => if t ≠ 0 ∧ t ≠ 256 then u (t - 1) else 0
  | 1, t => u t
  | 2, t => if t ≠ 255 ∧ t ≠ 2303 then u (t + 1) else 0
  | _, t => if t ≠ 254 ∧ t ≠ 255 ∧ t ≠ 2302 ∧ t ≠ 2303 then u (t + 2) else 0

/-- What time `t` of the input receives from the four taps. -/
def spread (g w : ℕ → EReal) (t : ℕ) : EReal :=
  (if t ≠ 0 ∧ t ≠ 1 ∧ t ≠ 256 ∧ t ≠ 257 then g (t - 2) * w 3 else 0) + (if t ≠ 0 ∧ t ≠ 256 then g (t - 1) * w 2 else 0)
    + (if t ≠ 255 ∧ t ≠ 2303 then g (t + 1) * w 0 else 0) + g t * w 1

/-- The gradient of tap `k`'s weight from one sequence. -/
def weigh (u g : ℕ → EReal) (k : ℕ) : EReal := ∑ t ∈ Finset.range 2304, tap u k t * g t

/-- The gradient of the bias from one sequence. -/
def total (g : ℕ → EReal) : EReal := ∑ t ∈ Finset.range 2304, g t

/-- A sum over all times is a sum over each stretch. -/
theorem sum_split (f : ℕ → EReal) : ∑ t ∈ Finset.range 2304, f t = ∑ t : Fin 2048, f (256 + t.val) + ∑ t : Fin 256, f t.val := by
  rw [show 2304 = 256 + 2048 from rfl, Finset.sum_range_add, Finset.sum_range, Finset.sum_range (fun t => f (256 + t)), add_comm]

section
variable {n0 n1 n2 : ℕ} {t : Shape}

theorem rank_one (h : (⟨3, ![n0, n1, n2]⟩ : Shape).ReducesTo [0, 1] t) : t.rank = 1 := h.1
theorem rank_pos (h : (⟨3, ![n0, n1, n2]⟩ : Shape).ReducesTo [0, 1] t) : 0 < t.rank := rank_one h ▸ (by decide)
theorem size_last (h : (⟨3, ![n0, n1, n2]⟩ : Shape).ReducesTo [0, 1] t) : t.size ⟨0, rank_pos h⟩ = n2 := h.2 ⟨0, rank_pos h⟩

/-- The entries that a sum over the first two axes brings to `j`. -/
theorem fiber (h : (⟨3, ![n0, n1, n2]⟩ : Shape).ReducesTo [0, 1] t) (j : t.Idx) (i : (⟨3, ![n0, n1, n2]⟩ : Shape).Idx) :
    h.drop i = j ↔ ∃ k : Fin n0 × Fin n1, ix3 k.1 k.2 ⟨(j ⟨0, rank_pos h⟩).val, Shape.coordLt (j ⟨0, rank_pos h⟩) (size_last h)⟩ = i := by
  constructor
  · intro e
    refine ⟨(i 0, i 1), funext fun a => Fin.ext ?_⟩
    match a with
    | ⟨0, _⟩ => rfl
    | ⟨1, _⟩ => rfl
    | ⟨2, _⟩ => exact (congrArg Fin.val (congrFun e ⟨0, rank_pos h⟩)).symm
  · rintro ⟨k, rfl⟩
    funext b
    apply Fin.ext
    match b with
    | ⟨0, _⟩ => rfl
    | ⟨_ + 1, hb⟩ => exact absurd hb (by have := rank_one h; omega)

/-- The host's sum over the first two axes of three, at an entry. -/
theorem reduce_at (h : (⟨3, ![n0, n1, n2]⟩ : Shape).ReducesTo [0, 1] t) (v : (⟨3, ![n0, n1, n2]⟩ : Shape).Idx → EReal) (init : EReal) (j : t.Idx) :
    Ideal.hostReduceAdd h v init j
      = init + ∑ p : Fin n0, ∑ q : Fin n1, v (ix3 p q ⟨(j ⟨0, rank_pos h⟩).val, Shape.coordLt (j ⟨0, rank_pos h⟩) (size_last h)⟩) := by
  refine congrArg (init + ·) ((Finset.sum_filter_eq_sum_of_fiber _ (fun k : Fin n0 × Fin n1 => ix3 k.1 k.2 ⟨(j ⟨0, rank_pos h⟩).val, Shape.coordLt (j ⟨0, rank_pos h⟩) (size_last h)⟩)
    (fun _ _ e => Prod.ext (congrFun e 0) (congrFun e 1)) (fiber h j) v).trans ?_)
  simp only [Fintype.sum_prod_type]
end

end Cert.Conv

end
-- ==== Proof.ConvMask.lean ====
module

public import proofs.«01_k».proof.Proof.Gen.Kernel21Ideal.Value
public import proofs.«01_k».proof.Proof.ConvSeq
public import Idealize.ShloMosaic.Lib.KernelVsHost
public import Idealize.ShloMosaic.Lib.ValueLayout

/-! Where the convolution's backward call keeps a shifted entry: the three masks. -/

@[expose] public section

noncomputable section

namespace Cert.Kernel21Ideal.Gen

open Idealize.ShloMosaic Idealize.ShloMosaic.TcCoe Idealize.SL.Sem
open Cert.Conv

/-! ### The three masks -/

set_option maxRecDepth 65536 in
theorem word_back : ∀ r : Fin 2304, IntOp.andi
      (IntOp.cmpi CmpIPredicate.sge (IntOp.addi (BitVec.ofNat 32 r.val) 4294967295#32)
        (Scalar.select (IntOp.cmpi CmpIPredicate.slt (BitVec.ofNat 32 r.val) 256#32) 0#32 256#32))
      (IntOp.cmpi CmpIPredicate.slt (IntOp.addi (BitVec.ofNat 32 r.val) 4294967295#32)
        (Scalar.select (IntOp.cmpi CmpIPredicate.slt (BitVec.ofNat 32 r.val) 256#32) 256#32 2304#32))
    = if r.val ≠ 0 ∧ r.val ≠ 256 then 1#1 else 0#1 := by decide +kernel

set_option maxRecDepth 65536 in
theorem word_fore : ∀ r : Fin 2304, IntOp.andi
      (IntOp.cmpi CmpIPredicate.sge (IntOp.addi (BitVec.ofNat 32 r.val) 1#32)
        (Scalar.select (IntOp.cmpi CmpIPredicate.slt (BitVec.ofNat 32 r.val) 256#32) 0#32 256#32))
      (IntOp.cmpi CmpIPredicate.slt (IntOp.addi (BitVec.ofNat 32 r.val) 1#32)
        (Scalar.select (IntOp.cmpi CmpIPredicate.slt (BitVec.ofNat 32 r.val) 256#32) 256#32 2304#32))
    = if r.val ≠ 255 ∧ r.val ≠ 2303 then 1#1 else 0#1 := by decide +kernel

set_option maxRecDepth 65536 in
theorem word_far : ∀ r : Fin 2304, IntOp.andi
      (IntOp.cmpi CmpIPredicate.sge (IntOp.addi (BitVec.ofNat 32 r.val) 2#32)
        (Scalar.select (IntOp.cmpi CmpIPredicate.slt (BitVec.ofNat 32 r.val) 256#32) 0#32 256#32))
      (IntOp.cmpi CmpIPredicate.slt (IntOp.addi (BitVec.ofNat 32 r.val) 2#32)
        (Scalar.select (IntOp.cmpi CmpIPredicate.slt (BitVec.ofNat 32 r.val) 256#32) 256#32 2304#32))
    = if r.val ≠ 254 ∧ r.val ≠ 255 ∧ r.val ≠ 2302 ∧ r.val ≠ 2303 then 1#1 else 0#1 := by decide +kernel

theorem mask_back (r : Fin 2304) (l : Fin 256) : k0_pay10 (ix2 r l) = if r.val ≠ 0 ∧ r.val ≠ 256 then 1#1 else 0#1 := by
  pointwise [k0_pay10, k0_pay7, k0_pay8]
  exact word_back r

theorem mask_fore (r : Fin 2304) (l : Fin 256) : k0_pay13 (ix2 r l) = if r.val ≠ 255 ∧ r.val ≠ 2303 then 1#1 else 0#1 := by
  pointwise [k0_pay13, k0_pay7, k0_pay8]
  exact word_fore r

theorem mask_far (r : Fin 2304) (l : Fin 256) : k0_pay18 k0_pay8 k0_pay16 k0_pay17 (ix2 r l)
    = if r.val ≠ 254 ∧ r.val ≠ 255 ∧ r.val ≠ 2302 ∧ r.val ≠ 2303 then 1#1 else 0#1 := by
  pointwise [k0_pay18, k0_pay16, k0_pay17, k0_pay7, k0_pay8]
  exact word_far r

end Cert.Kernel21Ideal.Gen

end
-- ==== Proof.ConvBlock.lean ====
module

public import proofs.«01_k».proof.Proof.ConvMask
public import Idealize.ShloMosaic.Lib.KernelVsHost
public import Idealize.ShloMosaic.Lib.ValueLayout

/-! What one run of the body of the convolution's backward call computes, entry by entry. -/

@[expose] public section

noncomputable section

namespace Cert.Kernel21Ideal.Gen

open Idealize.ShloMosaic Idealize.ShloMosaic.TcCoe Idealize.SL.Sem
open Cert.Conv

/-- A choice between an entry and zero, by a mask. -/
theorem chosen (P : Prop) [Decidable P] (a b : EReal) : (Scalar.select (if P then 1#1 else 0#1) a b : EReal) = if P then a else b := by
  by_cases h : P
  · rw [if_pos h, if_pos h]; rfl
  · rw [if_neg h, if_neg h]; rfl

/-- Rows moved forward by `n`. -/
theorem moved (x : FVec Ideal S2304x256 .f32) (n : BitVec 32) (r q : Fin 2304) (l : Fin 256)
    (e : q.val = (r.val + 2304 - n.toNat % 2304) % 2304) :
    dynamicRotate 0 n none x rotates_S2304x256_d0 (ix2 r l) = x (ix2 q l) := by
  refine dynamicRotate_apply 0 n x rotates_S2304x256_d0 (ix2 r l) (ix2 q l) fun b => ?_
  match b with
  | ⟨0, _⟩ => exact e
  | ⟨1, _⟩ => rfl

section
variable (x0 x3 x4 : Vec Ideal S1x2304x256 .f32) (x1 : Vec Ideal S4x256 .f32) (u g w : ℕ → EReal) (l : Fin 256)
  (hu : ∀ r : Fin 2304, x0 (ix3 (0 : Fin 1) r l) = u r.val)
  (hg : ∀ r : Fin 2304, (x3 (ix3 (0 : Fin 1) r l) + x4 (ix3 (0 : Fin 1) r l) : EReal) = g r.val)
  (hw : ∀ k : Fin 4, x1 (ix2 k l) = w k.val)

include hg in
theorem grad_at (r : Fin 2304) : k0_pay19 x3 x4 (ix2 r l) = g r.val := by
  pointwise [k0_pay19]
  exact hg r

include hu in
theorem in_at (r : Fin 2304) : k0_pay6 x0 (ix2 r l) = u r.val := by
  pointwise [k0_pay6]
  exact hu r

include hg in
/-- The bias's gradient from one run. -/
theorem db_at : k0_pay1 (k0_pay19 x3 x4) (ix2 (0 : Fin 1) l) = total g := by
  pointwise [k0_pay1]
  rw [total, Finset.sum_range]
  exact Finset.sum_congr rfl fun r _ => grad_at x3 x4 g l hg r

include hu in
theorem tap0_at (r : Fin 2304) : k0_pay11 x0 (ix2 r l) = tap u 0 r.val := by
  have e : k0_pay11 x0 (ix2 r l) = Scalar.select (k0_pay10 (ix2 r l))
      (dynamicRotate 0 1#32 none (k0_pay6 x0) rotates_S2304x256_d0 (ix2 r l)) (Ideal.ofBits .f32 0x00000000#32) := rfl
  rw [e, mask_back, chosen, show (Ideal.ofBits .f32 0x00000000#32 : EReal) = 0 from Ideal.ofBits_zero .f32]
  unfold tap
  refine if_ctx_congr Iff.rfl (fun h => ?_) fun _ => rfl
  rw [moved _ _ r ⟨r.val - 1, by omega⟩ l (by show r.val - 1 = (r.val + 2304 - 1) % 2304; omega), in_at x0 u l hu]

include hu in
theorem tap2_at (r : Fin 2304) : k0_pay14 x0 (ix2 r l) = tap u 2 r.val := by
  have e : k0_pay14 x0 (ix2 r l) = Scalar.select (k0_pay13 (ix2 r l))
      (dynamicRotate 0 2303#32 none (k0_pay6 x0) rotates_S2304x256_d0 (ix2 r l)) (Ideal.ofBits .f32 0x00000000#32) := rfl
  rw [e, mask_fore, chosen, show (Ideal.ofBits .f32 0x00000000#32 : EReal) = 0 from Ideal.ofBits_zero .f32]
  unfold tap
  refine if_ctx_congr Iff.rfl (fun h => ?_) fun _ => rfl
  rw [moved _ _ r ⟨r.val + 1, by omega⟩ l (by show r.val + 1 = (r.val + 2304 - 2303) % 2304; omega), in_at x0 u l hu]

include hu in
theorem tap3_at (r : Fin 2304) : select (k0_pay18 k0_pay8 k0_pay16 k0_pay17)
      (dynamicRotate 0 2302#32 none (k0_pay6 x0) rotates_S2304x256_d0) (broadcast S2304x256 (Ideal.ofBits .f32 0x00000000#32)) (ix2 r l)
    = tap u 3 r.val := by
  show Scalar.select (k0_pay18 k0_pay8 k0_pay16 k0_pay17 (ix2 r l))
      (dynamicRotate 0 2302#32 none (k0_pay6 x0) rotates_S2304x256_d0 (ix2 r l)) (Ideal.ofBits .f32 0x00000000#32) = _
  rw [mask_far, chosen, show (Ideal.ofBits .f32 0x00000000#32 : EReal) = 0 from Ideal.ofBits_zero .f32]
  unfold tap
  refine if_ctx_congr Iff.rfl (fun h => ?_) fun _ => rfl
  rw [moved _ _ r ⟨r.val + 2, by omega⟩ l (by show r.val + 2 = (r.val + 2304 - 2302) % 2304; omega), in_at x0 u l hu]

/-- The rows of the later taps, one below the other. -/
def later (A2 A3 G : FVec Ideal S2304x256 .f32) : FVec Ideal S4x256 .f32 :=
  addf (concatenate S4x256 0 [⟨S3x256, broadcast S3x256 (Ideal.ofBits .f32 0x00000000#32)⟩,
      ⟨S1x256, shapeCast S1x256 (multiReduction .add [0] S256 (mulf A3 G) 0x00000000#32 reduces_S2304x256_S256 (.inl rfl) rfl) shapeCasts_S256_S1x256⟩]
      concatenates_S3x256_S1x256_S4x256_d0)
    (concatenate S4x256 0 [⟨S3x256, concatenate S3x256 0 [⟨S2x256, broadcast S2x256 (Ideal.ofBits .f32 0x00000000#32)⟩,
      ⟨S1x256, shapeCast S1x256 (multiReduction .add [0] S256 (mulf A2 G) 0x00000000#32 reduces_S2304x256_S256 (.inl rfl) rfl) shapeCasts_S256_S1x256⟩]
      concatenates_S2x256_S1x256_S3x256_d0⟩, ⟨S1x256, broadcast S1x256 (Ideal.ofBits .f32 0x00000000#32)⟩] concatenates_S3x256_S1x256_S4x256_d0)

theorem later_at (A2 A3 G : FVec Ideal S2304x256 .f32) (k : Fin 4) :
    later A2 A3 G (ix2 k l) = (if k.val < 3 then (0 : EReal) else ∑ r : Fin 2304, A3 (ix2 r l) * G (ix2 r l))
      + (if k.val < 3 then if k.val < 2 then 0 else ∑ r : Fin 2304, A2 (ix2 r l) * G (ix2 r l) else 0) := by
  pointwise [later]
  rfl

theorem rows_at (A1 G : FVec Ideal S2304x256 .f32) (A : FVec Ideal S4x256 .f32) (B : FVec Ideal S1x256 .f32) (k : Fin 4) :
    k0_pay2 A1 G A B (Ideal.ofBits .f32 0x00000000#32) (ix2 k l) = A (ix2 k l) + (if k.val < 1 then B (ix2 (0 : Fin 1) l) else (0 : EReal))
      + (if k.val < 2 then if k.val < 1 then 0 else ∑ r : Fin 2304, A1 (ix2 r l) * G (ix2 r l) else 0) := by
  pointwise [k0_pay2]
  refine congrArg₂ _ (congrArg₂ _ rfl ?_) rfl
  by_cases h : k.val < 1
  · rw [dif_pos h, if_pos h]; exact congrArg B (congrArg (ix2 · l) (Fin.ext (by show k.val = 0; omega)))
  · rw [dif_neg h, if_neg h]

theorem later_eq (A1 A2 : FVec Ideal S2304x256 .f32) (v13 v38 : IVec S2304x1 32) (v39 : IVec S2304x1 1) :
    k0_pay20 A1 v13 A2 v38 v39 x3 x4 = later A2 (select (k0_pay18 v13 v38 v39) (dynamicRotate 0 2302#32 none A1 rotates_S2304x256_d0)
      (broadcast S2304x256 (Ideal.ofBits .f32 0x00000000#32))) (k0_pay19 x3 x4) := by
  unfold k0_pay20 later
  rfl

theorem first_at (A0 : FVec Ideal S2304x256 .f32) :
    k0_pay22 A0 x3 x4 (ix2 (0 : Fin 1) l) = ∑ r : Fin 2304, A0 (ix2 r l) * k0_pay19 x3 x4 (ix2 r l) := by
  unfold k0_pay22
  generalize k0_pay19 x3 x4 = G
  pointwise

include hu hg in
theorem row0_at : k0_pay22 (k0_pay11 x0) x3 x4 (ix2 (0 : Fin 1) l) = weigh u g 0 := by
  rw [first_at, weigh, Finset.sum_range]
  exact Finset.sum_congr rfl fun r _ => by rw [tap0_at x0 u l hu, grad_at x3 x4 g l hg]

include hu hg in
theorem row1_at : (∑ r : Fin 2304, k0_pay6 x0 (ix2 r l) * k0_pay19 x3 x4 (ix2 r l) : EReal) = weigh u g 1 := by
  rw [weigh, Finset.sum_range]
  exact Finset.sum_congr rfl fun r _ => by rw [in_at x0 u l hu, grad_at x3 x4 g l hg, tap]

include hu hg in
theorem row2_at : (∑ r : Fin 2304, k0_pay14 x0 (ix2 r l) * k0_pay19 x3 x4 (ix2 r l) : EReal) = weigh u g 2 := by
  rw [weigh, Finset.sum_range]
  exact Finset.sum_congr rfl fun r _ => by rw [tap2_at x0 u l hu, grad_at x3 x4 g l hg]

include hu hg in
theorem row3_at : (∑ r : Fin 2304, select (k0_pay18 k0_pay8 k0_pay16 k0_pay17)
      (dynamicRotate 0 2302#32 none (k0_pay6 x0) rotates_S2304x256_d0) (broadcast S2304x256 (Ideal.ofBits .f32 0x00000000#32)) (ix2 r l)
      * k0_pay19 x3 x4 (ix2 r l) : EReal) = weigh u g 3 := by
  rw [weigh, Finset.sum_range]
  exact Finset.sum_congr rfl fun r _ => by rw [tap3_at x0 u l hu, grad_at x3 x4 g l hg]

/-- The four rows together. -/
theorem four (W : ℕ → EReal) (k : Fin 4) :
    ((if k.val < 3 then (0 : EReal) else W 3) + (if k.val < 3 then if k.val < 2 then 0 else W 2 else 0)
      + (if k.val < 1 then W 0 else 0) + (if k.val < 2 then if k.val < 1 then 0 else W 1 else 0)) = W k.val := by
  match k with
  | ⟨0, _⟩ => simp
  | ⟨1, _⟩ => simp
  | ⟨2, _⟩ => simp
  | ⟨3, _⟩ => simp

include hu hg in
/-- The weights' gradient from one run. -/
theorem dw_at (k : Fin 4) : k0_pay2 (k0_pay6 x0) (k0_pay19 x3 x4)
      (k0_pay20 (k0_pay6 x0) k0_pay8 (k0_pay14 x0) k0_pay16 k0_pay17 x3 x4) (k0_pay22 (k0_pay11 x0) x3 x4)
      (Ideal.ofBits .f32 0x00000000#32) (ix2 k l) = weigh u g k.val := by
  rw [rows_at, row0_at x0 x3 x4 u g l hu hg, row1_at x0 x3 x4 u g l hu hg, later_eq, later_at, row2_at x0 x3 x4 u g l hu hg, row3_at x0 x3 x4 u g l hu hg]
  exact four (weigh u g) k

/-- A product with one of the weights, kept by a mask and moved forward by `n`. -/
theorem part_at (G : FVec Ideal S2304x256 .f32) (v : FVec Ideal S1x256 .f32) (p : IVec S2304x256 1) (P : ℕ → Prop) [DecidablePred P]
    (n : BitVec 32) (r q : Fin 2304) (l : Fin 256) (e : q.val = (r.val + 2304 - n.toNat % 2304) % 2304)
    (hp : p (ix2 q l) = if P q.val then 1#1 else 0#1) :
    dynamicRotate 0 n none (select p (mulf G (broadcastTo S2304x256 v broadcasts_S1x256_S2304x256))
      (broadcast S2304x256 (Ideal.ofBits .f32 0x00000000#32))) rotates_S2304x256_d0 (ix2 r l)
    = if P q.val then (G (ix2 q l) * v (ix2 (0 : Fin 1) l) : EReal) else 0 := by
  rw [moved _ n r q l e]
  show Scalar.select (p (ix2 q l)) (G (ix2 q l) * broadcastTo S2304x256 v broadcasts_S1x256_S2304x256 (ix2 q l) : EReal) (Ideal.ofBits .f32 0x00000000#32) = _
  rw [hp, chosen, show (Ideal.ofBits .f32 0x00000000#32 : EReal) = 0 from Ideal.ofBits_zero .f32]
  rw [show broadcastTo S2304x256 v broadcasts_S1x256_S2304x256 (ix2 q l) = v (ix2 (0 : Fin 1) l) from ValueIdx.broadcastTo_1b_ab_apply _ _ _ _]

/-- What is stored for the input's gradient, from its four parts. -/
theorem store_at (v : FVec Ideal S1x256 .f32) (p : IVec S2304x256 1) (G P Q : FVec Ideal S2304x256 .f32) (r : Fin 2304) :
    k0_pay3 v p G P Q (ix3 (0 : Fin 1) r l) = P (ix2 r l)
      + dynamicRotate 0 2303#32 none (select p Q (broadcast S2304x256 (Ideal.ofBits .f32 0x00000000#32))) rotates_S2304x256_d0 (ix2 r l)
      + (G (ix2 r l) * v (ix2 (0 : Fin 1) l) : EReal) := by
  unfold k0_pay3
  refine (ValueIdx.shapeCast_ab_1ab_apply (a := 2304) (b := 256) _ shapeCasts_S2304x256_S1x2304x256 (0 : Fin 1) r l).trans ?_
  show _ + _ + (G (ix2 r l) * broadcastTo S2304x256 v broadcasts_S1x256_S2304x256 (ix2 r l) : EReal) = _
  rw [show broadcastTo S2304x256 v broadcasts_S1x256_S2304x256 (ix2 r l) = v (ix2 (0 : Fin 1) l) from ValueIdx.broadcastTo_1b_ab_apply _ _ _ _]
  rfl

theorem both_eq (v13 v38 : IVec S2304x1 32) (v39 : IVec S2304x1 1) (v33 : IVec S2304x256 1) (v36 : FVec Ideal S1x256 .f32) :
    k0_pay21 x1 v13 v33 v36 v38 v39 x3 x4 = addf (dynamicRotate 0 2#32 none (select (k0_pay18 v13 v38 v39) (mulf (k0_pay19 x3 x4)
        (broadcastTo S2304x256 (extractStridedSlice S1x256 ![3, 0] x1 slices_S4x256_o3_0_S1x256) broadcasts_S1x256_S2304x256))
        (broadcast S2304x256 (Ideal.ofBits .f32 0x00000000#32))) rotates_S2304x256_d0)
      (dynamicRotate 0 1#32 none (select v33 (mulf (k0_pay19 x3 x4) (broadcastTo S2304x256 v36 broadcasts_S1x256_S2304x256))
        (broadcast S2304x256 (Ideal.ofBits .f32 0x00000000#32))) rotates_S2304x256_d0) := by
  unfold k0_pay21
  rfl

include hg hw in
/-- The input's gradient from one run. -/
theorem dx_at (r : Fin 2304) : k0_pay3 (k0_pay9 x1) k0_pay10 (k0_pay19 x3 x4)
      (k0_pay21 x1 k0_pay8 k0_pay13 (k0_pay15 x1) k0_pay16 k0_pay17 x3 x4) (k0_pay23 (k0_pay12 x1) x3 x4) (ix3 (0 : Fin 1) r l)
    = spread g w r.val := by
  have w0 : k0_pay12 x1 (ix2 (0 : Fin 1) l) = w 0 := by pointwise [k0_pay12]; exact hw 0
  have w1 : k0_pay9 x1 (ix2 (0 : Fin 1) l) = w 1 := by pointwise [k0_pay9]; exact hw 1
  have w2 : k0_pay15 x1 (ix2 (0 : Fin 1) l) = w 2 := by pointwise [k0_pay15]; exact hw 2
  have w3 : extractStridedSlice S1x256 ![3, 0] x1 slices_S4x256_o3_0_S1x256 (ix2 (0 : Fin 1) l) = w 3 := by pointwise; exact hw 3
  have hG := grad_at x3 x4 g l hg
  have hr := r.isLt
  have e : k0_pay3 (k0_pay9 x1) k0_pay10 (k0_pay19 x3 x4)
      (k0_pay21 x1 k0_pay8 k0_pay13 (k0_pay15 x1) k0_pay16 k0_pay17 x3 x4) (k0_pay23 (k0_pay12 x1) x3 x4) (ix3 (0 : Fin 1) r l)
    = (((dynamicRotate 0 2#32 none (select (k0_pay18 k0_pay8 k0_pay16 k0_pay17) (mulf (k0_pay19 x3 x4) (broadcastTo S2304x256
          (extractStridedSlice S1x256 ![3, 0] x1 slices_S4x256_o3_0_S1x256) broadcasts_S1x256_S2304x256))
          (broadcast S2304x256 (Ideal.ofBits .f32 0x00000000#32))) rotates_S2304x256_d0 (ix2 r l)
      + dynamicRotate 0 1#32 none (select k0_pay13 (mulf (k0_pay19 x3 x4) (broadcastTo S2304x256
          (k0_pay15 x1) broadcasts_S1x256_S2304x256)) (broadcast S2304x256 (Ideal.ofBits .f32 0x00000000#32))) rotates_S2304x256_d0 (ix2 r l))
      + dynamicRotate 0 2303#32 none (select k0_pay10 (mulf (k0_pay19 x3 x4) (broadcastTo S2304x256
          (k0_pay12 x1) broadcasts_S1x256_S2304x256)) (broadcast S2304x256 (Ideal.ofBits .f32 0x00000000#32))) rotates_S2304x256_d0 (ix2 r l))
      + k0_pay19 x3 x4 (ix2 r l) * k0_pay9 x1 (ix2 (0 : Fin 1) l) : EReal) := by
    rw [store_at, both_eq]
    rfl
  rw [e, part_at _ _ _ (fun q => q ≠ 254 ∧ q ≠ 255 ∧ q ≠ 2302 ∧ q ≠ 2303) 2#32 r ⟨(r.val + 2302) % 2304, Nat.mod_lt _ (by decide)⟩ l
      (by show (r.val + 2302) % 2304 = (r.val + 2304 - 2) % 2304; omega) (mask_far _ l),
    part_at _ _ _ (fun q => q ≠ 255 ∧ q ≠ 2303) 1#32 r ⟨(r.val + 2303) % 2304, Nat.mod_lt _ (by decide)⟩ l
      (by show (r.val + 2303) % 2304 = (r.val + 2304 - 1) % 2304; omega) (mask_fore _ l),
    part_at _ _ _ (fun q => q ≠ 0 ∧ q ≠ 256) 2303#32 r ⟨(r.val + 1) % 2304, Nat.mod_lt _ (by decide)⟩ l
      (by show (r.val + 1) % 2304 = (r.val + 2304 - 2303) % 2304; omega) (mask_back _ l), hG, hG, hG, hG, w0, w1, w2, w3]
  unfold spread
  refine congrArg₂ _ (congrArg₂ _ (congrArg₂ _ ?_ ?_) ?_) rfl
  · refine if_ctx_congr (by show _ ↔ _; dsimp only; omega) (fun h => ?_) fun _ => rfl
    exact congrArg (g · * _) (show (r.val + 2302) % 2304 = r.val - 2 by omega)
  · refine if_ctx_congr (by show _ ↔ _; dsimp only; omega) (fun h => ?_) fun _ => rfl
    exact congrArg (g · * _) (show (r.val + 2303) % 2304 = r.val - 1 by omega)
  · refine if_ctx_congr (by show _ ↔ _; dsimp only; omega) (fun h => ?_) fun _ => rfl
    exact congrArg (g · * _) (show (r.val + 1) % 2304 = r.val + 1 by omega)
end

end Cert.Kernel21Ideal.Gen

end
-- ==== Proof.Product.lean ====
/-
  A matrix read at two natural numbers, and a sum over a contracted axis taken tile by tile: what the certificates of
  the matrix products share. No program is named here.
-/
module

public import Idealize.ShloMosaic.PureOps.Ideal.Laws
public import Idealize.ShloMosaic.Lib.ValueIdxCore
public import Idealize.ShloMosaic.Lib.Pipeline.Value
public import Idealize.ShloMosaic.Lib.Pipeline.ValueKit.Acc
public import Idealize.ShloMosaic.Lib.Pointwise
public import Idealize.ShloMosaic.Lib.ValueIdx
public import Idealize.ShloMosaic.Lib.Tactic
public import Idealize.ShloMosaic.Adequacy
public import Idealize.ShloMosaic.Init
public import Idealize.ShloMosaic.Lib.Quiescent
public import Mathlib.Algebra.BigOperators.Fin
public import Mathlib.Algebra.BigOperators.Intervals

@[expose] public section

noncomputable section

namespace Cert.Product

open Idealize.ShloMosaic

/-- The offsets of a whole tile. -/
theorem offs0 : (![0, 0] : Fin 2 → Nat) = fun _ => 0 := funext fun a => by fin_cases a <;> rfl

section Whole
variable {Val : EltTy → Type} [∀ e, Nonempty (Val e)] {e : EltTy} {a b : ℕ} {sig : RefSig} {κ : Kind} {sp : Space}

/-- A matrix's shape. -/
abbrev Mat (a b : ℕ) : Shape := ⟨2, ![a, b]⟩

/-- Loads and stores of a whole tile. -/
theorem ld2 (inb) (X : (Mat a b).Idx → Val e) : View.ld X (Rect.unit (s := Mat a b) ![0, 0] (no_index (Mat a b).size) inb) = X :=
  View.ld_unit_zero offs0 inb X
theorem canon2 (inb) (w : (Mat a b).Idx → Val e) (L : List (View.Piece Val (Mat a b) e)) :
    View.canon ((⟨Rect.unit (s := Mat a b) ![0, 0] (no_index (Mat a b).size) inb, w⟩ : View.Piece Val (Mat a b) e) :: L) = w :=
  View.canon_cons_unit_zero offs0 inb w L
theorem cov2 (v : View sig κ sp (Mat a b) e) (inb inb') (w : (Mat a b).Idx → Val e) (L : List (View.Piece Val (Mat a b) e)) :
    v.readCov ((⟨Rect.unit (s := Mat a b) ![0, 0] (no_index (Mat a b).size) inb, w⟩ : View.Piece Val (Mat a b) e) :: L)
      (Rect.unit (s := Mat a b) ![0, 0] (no_index (Mat a b).size) inb').toLoadRect = w :=
  View.readCov_cons_unit_lit' v inb inb' w L (congrFun offs0) (congrFun offs0)

end Whole

/-- The word of zero reads as zero. -/
theorem zero_word : Ideal.ofBits .f32 0x00000000#32 = 0 := by simp [Ideal.ofBits, Ideal.ieee]

/-- The entry of a matrix in row `i` and column `j`, nothing outside it. -/
def entry {a b : ℕ} (X : (⟨2, ![a, b]⟩ : Shape).Idx → EReal) (i j : ℕ) : EReal :=
  if h : i < a ∧ j < b then X (ix2 ⟨i, h.1⟩ ⟨j, h.2⟩) else 0

/-- An entry at an index of the matrix is the matrix there. -/
theorem entry_of_index {a b : ℕ} (X : (⟨2, ![a, b]⟩ : Shape).Idx → EReal) (y : (⟨2, ![a, b]⟩ : Shape).Idx) (i j : ℕ)
    (hi : (y 0).val = i) (hj : (y 1).val = j) : X y = entry X i j := by
  subst hi hj
  have h : (y 0).val < a ∧ (y 1).val < b := ⟨(y 0).isLt, (y 1).isLt⟩
  unfold entry
  rw [dif_pos h]
  exact congrArg X (eq_ix2 y)

/-- A window's block at a place. -/
abbrev At (f : Fin 2 → ℕ) (a b : ℕ) : Prop := f 0 = a ∧ f 1 = b

/-- Where a row or column of a block lies in the array. -/
theorem lay {a n w r : ℕ} (e : a = n) : a * w + 1 * r = n * w + r := by rw [e, Nat.one_mul]

/-- And that it lies in the block. -/
theorem fit {a w v : ℕ} (hw : 0 < w) (e : a = v / w) : a * w ≤ v ∧ v < a * w + w := by
  subst e
  exact ⟨Nat.div_mul_le_self v w, Nat.lt_div_mul_add hw⟩

/-- What the tile at point `t` of a grid of `gj` columns and `nk` steps has summed at its entry `(p, q)`: the terms
    `f row column K` of the contracted axis up to the end of the step's piece, `tk` long. -/
def upTo (f : ℕ → ℕ → ℕ → EReal) (tm tn tk gj nk t p q : ℕ) : EReal :=
  ∑ K ∈ Finset.range ((t % nk + 1) * tk), f (t / nk / gj * tm + p) (t / nk % gj * tn + q) K

/-- The piece that the step at point `t` adds. -/
def piece (f : ℕ → ℕ → ℕ → EReal) (tm tn tk gj nk t p q : ℕ) : EReal :=
  ∑ k : Fin tk, f (t / nk / gj * tm + p) (t / nk % gj * tn + q) (t % nk * tk + k.val)

/-- The first piece, on top of nothing. -/
theorem upTo_first (f : ℕ → ℕ → ℕ → EReal) (tm tn tk gj nk t p q : ℕ) (h : t % nk = 0) :
    (0 : EReal) + piece f tm tn tk gj nk t p q = upTo f tm tn tk gj nk t p q := by
  unfold piece upTo
  rw [h, zero_add, Nat.zero_add, Nat.one_mul, Finset.sum_range]
  simp only [Nat.zero_mul, Nat.zero_add]

/-- A later piece, on top of what the step before left. -/
theorem upTo_next (f : ℕ → ℕ → ℕ → EReal) (tm tn tk gj nk t p q : ℕ) (hk : 0 < nk) (h : ¬t % nk = 0) :
    upTo f tm tn tk gj nk (t - 1) p q + piece f tm tn tk gj nk t p q = upTo f tm tn tk gj nk t p q := by
  obtain ⟨r, hr⟩ : ∃ r, t % nk = r + 1 := ⟨t % nk - 1, by omega⟩
  have hlt : r + 1 < nk := hr ▸ Nat.mod_lt t hk
  have ht : t - 1 = r + nk * (t / nk) := by
    have := Nat.mod_add_div t nk
    omega
  have hq : (t - 1) / nk = t / nk := by
    rw [ht, Nat.add_mul_div_left _ _ hk, Nat.div_eq_of_lt (by omega), Nat.zero_add]
  have hm : (t - 1) % nk = r := by
    rw [ht, Nat.add_mul_mod_self_left, Nat.mod_eq_of_lt (by omega)]
  unfold piece upTo
  rw [hq, hm, hr, Nat.add_mul (r + 1), Nat.one_mul, Finset.sum_range_add]
  exact congrArg (_ + ·) (Finset.sum_range (fun x => f (t / nk / gj * tm + p) (t / nk % gj * tn + q) ((r + 1) * tk + x))).symm

/-- An accumulator that starts each entry with a first piece and adds the later ones holds the sum so far after every point. -/
theorem after_all (f : ℕ → ℕ → ℕ → EReal) (tm tn tk gj nk N p q : ℕ) (hk : 0 < nk) (a : ∀ n, n < N → EReal)
    (h0 : ∀ n h, n % nk = 0 → a n h = 0 + piece f tm tn tk gj nk n p q)
    (h1 : ∀ n h, ¬(n + 1) % nk = 0 → a (n + 1) h = a n (Nat.lt_of_succ_lt h) + piece f tm tn tk gj nk (n + 1) p q) :
    ∀ n h, a n h = upTo f tm tn tk gj nk n p q := by
  intro n
  induction n with
  | zero => exact fun h => (h0 0 h (Nat.zero_mod _)).trans (upTo_first f tm tn tk gj nk 0 p q (Nat.zero_mod _))
  | succ n ih =>
    intro h
    by_cases e : (n + 1) % nk = 0
    · exact (h0 _ h e).trans (upTo_first f tm tn tk gj nk _ p q e)
    · rw [h1 n h e, ih]
      exact upTo_next f tm tn tk gj nk (n + 1) p q hk e

/-- At a last step the whole contracted axis has been summed. -/
theorem upTo_last (f : ℕ → ℕ → ℕ → EReal) (tm tn tk gj nk t p q K : ℕ) (h : (t % nk + 1) * tk = K) :
    upTo f tm tn tk gj nk t p q = ∑ k ∈ Finset.range K, f (t / nk / gj * tm + p) (t / nk % gj * tn + q) k := by
  unfold upTo
  rw [h]

end Cert.Product

end
-- ==== Proof.ConvWhole.lean ====
module

public import proofs.«01_k».proof.Proof.ConvBlock
public import proofs.«01_k».proof.Proof.Product

/-! What the blocks and the three result arrays of the convolution's backward call hold. -/

@[expose] public section

set_option maxRecDepth 16384

noncomputable section

namespace Cert.Kernel21Ideal.Gen

open Idealize.ShloMosaic Idealize.ShloMosaic.TcCoe Idealize.SL.Sem
open Cert.Conv
open Cert.Product (entry entry_of_index ld2 canon2)

theorem offs3 : (![0, 0, 0] : Fin 3 → Nat) = fun _ => 0 := funext fun a => by fin_cases a <;> rfl

section Body
variable {F : FTy → Type} [FloatOps F] (c : Dev nD) (i : grid0.Coords) (a0 : Memref sig .tc .vmem S1x2304x256 .f32) (h0 : a0.IsWhole)
  (a1 : Memref sig .tc .vmem S4x256 .f32) (h1 : a1.IsWhole) (a2 : Memref sig .tc .vmem S1x256 .f32) (h2 : a2.IsWhole)
  (a3 : Memref sig .tc .vmem S1x2304x256 .f32) (h3 : a3.IsWhole) (a4 : Memref sig .tc .vmem S1x2304x256 .f32) (h4 : a4.IsWhole)
  (a5 : Memref sig .tc .vmem S1x2304x256 .f32) (h5 : a5.IsWhole) (a6 : Memref sig .tc .vmem S4x256 .f32) (h6 : a6.IsWhole)
  (a7 : Memref sig .tc .vmem S1x256 .f32) (h7 : a7.IsWhole)
  (x0 : Vec F S1x2304x256 .f32) (x1 : Vec F S4x256 .f32) (x2 : Vec F S1x256 .f32) (x3 x4 : Vec F S1x2304x256 .f32)
  (o6 : Vec F S4x256 .f32) (o7 : Vec F S1x256 .f32)

/-- The input's gradient, as one run stores it. -/
def keepX : FVec F S1x2304x256 .f32 := k0_pay3 (k0_pay9 x1) k0_pay10 (k0_pay19 x3 x4)
  (k0_pay21 x1 k0_pay8 k0_pay13 (k0_pay15 x1) k0_pay16 k0_pay17 x3 x4) (k0_pay23 (k0_pay12 x1) x3 x4)

/-- The weights' gradient, as the first run stores it and a later run adds it. -/
def keepW : FVec F S4x256 .f32 := k0_pay2 (k0_pay6 x0) (k0_pay19 x3 x4)
  (k0_pay20 (k0_pay6 x0) k0_pay8 (k0_pay14 x0) k0_pay16 k0_pay17 x3 x4) (k0_pay22 (k0_pay11 x0) x3 x4) (Scalar.ofBits .f32 0x00000000#32)
def moreW : FVec F S4x256 .f32 := k0_pay4 (k0_pay6 x0) (k0_pay19 x3 x4)
  (k0_pay20 (k0_pay6 x0) k0_pay8 (k0_pay14 x0) k0_pay16 k0_pay17 x3 x4) (k0_pay22 (k0_pay11 x0) x3 x4) (Scalar.ofBits .f32 0x00000000#32) o6

/-- The first run's block of the input's gradient. -/
theorem out_x_A (p : cond0_0 i) (q : ¬cond0_1 i) (r : cond0_2 i) (s : ¬cond0_3 i) :
    out0_A_5 c i a0 h0 a1 h1 a2 h2 a3 h3 a4 h4 a5 h5 a6 h6 a7 h7 p q r s x0 x1 x2 x3 x4 = keepX x1 x3 x4 := by
  unfold out0_A_5
  rw [View.read_writes_eq_canon _ _ _ fun _ => cover0_A_5 ..]
  unfold kernelRun0_A
  dsimp only
  sl_unfold_words
  rw [View.canon_unit_zero (S := S1x2304x256) offs3]
  simp only [View.readAt_eq_ld, h0.read_unread, h1.read_unread, h3.read_unread, h4.read_unread, h6.read_unread, h7.read_unread,
    View.ld_unit_zero (S := S1x2304x256) offs3, ld2]
  rfl

/-- A later run's block of the input's gradient. -/
theorem out_x_B (p : ¬cond0_0 i) (q : cond0_1 i) (r : ¬cond0_2 i) (s : cond0_3 i) :
    out0_B_5 c i a0 h0 a1 h1 a2 h2 a3 h3 a4 h4 a5 h5 a6 h6 a7 h7 p q r s x0 x1 x2 x3 x4 o6 o7 = keepX x1 x3 x4 := by
  unfold out0_B_5
  rw [View.read_writes_eq_canon _ _ _ fun _ => cover0_B_5 ..]
  unfold kernelRun0_B
  dsimp only
  sl_unfold_words
  rw [View.canon_unit_zero (S := S1x2304x256) offs3]
  simp only [View.readAt_eq_ld, h0.read_unread, h1.read_unread, h3.read_unread, h4.read_unread, h6.read_unread, h7.read_unread,
    View.ld_unit_zero (S := S1x2304x256) offs3, ld2]
  rfl

/-- The first run's block of the weights' gradient. -/
theorem out_w_A (p : cond0_0 i) (q : ¬cond0_1 i) (r : cond0_2 i) (s : ¬cond0_3 i) :
    out0_A_6 c i a0 h0 a1 h1 a2 h2 a3 h3 a4 h4 a5 h5 a6 h6 a7 h7 p q r s x0 x1 x2 x3 x4 = keepW x0 x3 x4 := by
  unfold out0_A_6
  rw [View.read_writes_eq_canon _ _ _ fun _ => cover0_A_6 ..]
  unfold kernelRun0_A
  dsimp only
  sl_unfold_words
  rw [canon2]
  simp only [View.readAt_eq_ld, h0.read_unread, h1.read_unread, h3.read_unread, h4.read_unread, h6.read_unread, h7.read_unread,
    View.ld_unit_zero (S := S1x2304x256) offs3, ld2]
  rfl

/-- A later run adds to the weights' gradient. -/
theorem out_w_B (p : ¬cond0_0 i) (q : cond0_1 i) (r : ¬cond0_2 i) (s : cond0_3 i) :
    out0_B_6 c i a0 h0 a1 h1 a2 h2 a3 h3 a4 h4 a5 h5 a6 h6 a7 h7 p q r s x0 x1 x2 x3 x4 o6 o7 = moreW x0 x3 x4 o6 := by
  unfold out0_B_6
  rw [View.read_writes_eq_canon _ _ _ fun _ => cover0_B_6 ..]
  unfold kernelRun0_B
  dsimp only
  sl_unfold_words
  rw [canon2]
  simp only [View.readAt_eq_ld, h0.read_unread, h1.read_unread, h3.read_unread, h4.read_unread, h6.read_unread, h7.read_unread,
    View.ld_unit_zero (S := S1x2304x256) offs3, ld2]
  rfl

/-- The first run's block of the bias's gradient. -/
theorem out_b_A (p : cond0_0 i) (q : ¬cond0_1 i) (r : cond0_2 i) (s : ¬cond0_3 i) :
    out0_A_7 c i a0 h0 a1 h1 a2 h2 a3 h3 a4 h4 a5 h5 a6 h6 a7 h7 p q r s x0 x1 x2 x3 x4 = k0_pay1 (k0_pay19 x3 x4) := by
  unfold out0_A_7
  rw [View.read_writes_eq_canon _ _ _ fun _ => cover0_A_7 ..]
  unfold kernelRun0_A
  dsimp only
  sl_unfold_words
  rw [canon2]
  simp only [View.readAt_eq_ld, h0.read_unread, h1.read_unread, h3.read_unread, h4.read_unread, h6.read_unread, h7.read_unread,
    View.ld_unit_zero (S := S1x2304x256) offs3, ld2]

/-- A later run adds to the bias's gradient. -/
theorem out_b_B (p : ¬cond0_0 i) (q : cond0_1 i) (r : ¬cond0_2 i) (s : cond0_3 i) :
    out0_B_7 c i a0 h0 a1 h1 a2 h2 a3 h3 a4 h4 a5 h5 a6 h6 a7 h7 p q r s x0 x1 x2 x3 x4 o6 o7 = k0_pay5 (k0_pay19 x3 x4) o7 := by
  unfold out0_B_7
  rw [View.read_writes_eq_canon _ _ _ fun _ => cover0_B_7 ..]
  unfold kernelRun0_B
  dsimp only
  sl_unfold_words
  rw [canon2]
  simp only [View.readAt_eq_ld, h0.read_unread, h1.read_unread, h3.read_unread, h4.read_unread, h6.read_unread, h7.read_unread,
    View.ld_unit_zero (S := S1x2304x256) offs3, ld2]

end Body

end Cert.Kernel21Ideal.Gen

end
-- ==== Proof.ConvArrays.lean ====
module

public import proofs.«01_k».proof.Proof.ConvWhole

/-! What the three result arrays of the convolution's backward call hold. -/

@[expose] public section

set_option maxRecDepth 16384

noncomputable section

namespace Cert.Conv

open Idealize.ShloMosaic

/-- The entry of an array of three axes at natural numbers, nothing outside it. -/
def cell {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0

theorem cell_of_index {a b c : ℕ} (X : (⟨3, ![a, b, c]⟩ : Shape).Idx → EReal) (y : (⟨3, ![a, b, c]⟩ : Shape).Idx) (i j k : ℕ)
    (hi : (y 0).val = i) (hj : (y 1).val = j) (hk : (y 2).val = k) : X y = cell X i j k := by
  subst hi hj hk
  have h : (y 0).val < a ∧ (y 1).val < b ∧ (y 2).val < c := ⟨(y 0).isLt, (y 1).isLt, (y 2).isLt⟩
  unfold cell
  rw [dif_pos h]
  refine congrArg X (funext fun d => Fin.ext ?_)
  match d with
  | ⟨0, _⟩ => rfl
  | ⟨1, _⟩ => rfl
  | ⟨2, _⟩ => rfl

end Cert.Conv

namespace Cert.Kernel21Ideal.Gen

open Idealize.ShloMosaic Idealize.ShloMosaic.TcCoe Idealize.SL.Sem
open Cert.Conv
open Cert.Product (entry entry_of_index)

variable (m : (ℓ : Loc nD τ sig) → Buf (Elt Ideal) ℓ) (ρ : Dev nD → PrngReg)

/-- Where each window's block lies, over the grid. -/
theorem places : ∀ t : Fin cfg0.N,
    (win0_0.index t (0 : Fin 3) = t.val % 4 ∧ win0_0.index t (1 : Fin 3) = 0 ∧ win0_0.index t (2 : Fin 3) = 8 + t.val / 4)
    ∧ (win0_1.index t (0 : Fin 2) = 0 ∧ win0_1.index t (1 : Fin 2) = t.val / 4)
    ∧ (win0_3.index t (0 : Fin 3) = t.val % 4 ∧ win0_3.index t (1 : Fin 3) = 0 ∧ win0_3.index t (2 : Fin 3) = t.val / 4)
    ∧ (win0_4.index t (0 : Fin 3) = t.val % 4 ∧ win0_4.index t (1 : Fin 3) = 0 ∧ win0_4.index t (2 : Fin 3) = t.val / 4)
    ∧ (win0_5.index t (0 : Fin 3) = t.val % 4 ∧ win0_5.index t (1 : Fin 3) = 0 ∧ win0_5.index t (2 : Fin 3) = t.val / 4)
    ∧ (win0_6.index t (0 : Fin 2) = 0 ∧ win0_6.index t (1 : Fin 2) = t.val / 4)
    ∧ (win0_7.index t (0 : Fin 2) = 0 ∧ win0_7.index t (1 : Fin 2) = t.val / 4) :=
  (by decide +kernel : ∀ t : Fin grid0.N, _)

/-- The arrays as the call finds them. -/
abbrev arrU (c : Dev nD) : (⟨3, ![4, 2304, 5120]⟩ : Shape).Idx → EReal := m ((c : Thread nD τ).loc main_arg0)
abbrev arrW (c : Dev nD) : (⟨2, ![4, 1024]⟩ : Shape).Idx → EReal := m ((c : Thread nD τ).loc main_arg1)
abbrev arrG (c : Dev nD) : (⟨3, ![4, 2304, 1024]⟩ : Shape).Idx → EReal := m ((c : Thread nD τ).loc main_arg3)
abbrev arrH (c : Dev nD) : (⟨3, ![4, 2304, 1024]⟩ : Shape).Idx → EReal := m ((c : Thread nD τ).loc main_arg4)

/-- The sequence of channel `q` of batch row `b`, its cotangents, and the channel's weights. -/
def seqU (c : Dev nD) (b q : ℕ) : ℕ → EReal := fun t => cell (arrU m c) b t (2048 + q)
def seqG (c : Dev nD) (b q : ℕ) : ℕ → EReal := fun t => cell (arrG m c) b t q + cell (arrH m c) b t q
def seqW (c : Dev nD) (q : ℕ) : ℕ → EReal := fun k => entry (arrW m c) k q

theorem block_u (c : Dev nD) (t : Fin cfg0.N) (l : Fin 256) (r : Fin 2304) :
    (iblk m c 0 t : Vec Ideal S1x2304x256 .f32) (ix3 (0 : Fin 1) r l) = seqU m c (t.val % 4) (t.val / 4 * 256 + l.val) r.val := by
  obtain ⟨⟨e0, e1, e2⟩, -⟩ := places t
  unfold iblk
  rw [View.read_apply]
  exact cell_of_index (arrU m c) _ _ _ _
    (show win0_0.index t 0 * 1 + 1 * 0 = _ by rw [e0]; omega)
    (show win0_0.index t 1 * 2304 + 1 * r.val = _ by rw [e1]; omega)
    (show win0_0.index t 2 * 256 + 1 * l.val = _ by rw [e2]; omega)

theorem block_w (c : Dev nD) (t : Fin cfg0.N) (l : Fin 256) (k : Fin 4) :
    (iblk m c 1 t : Vec Ideal S4x256 .f32) (ix2 k l) = seqW m c (t.val / 4 * 256 + l.val) k.val := by
  obtain ⟨-, ⟨e0, e1⟩, -⟩ := places t
  unfold iblk
  rw [View.read_apply]
  exact entry_of_index (arrW m c) _ _ _
    (show win0_1.index t 0 * 4 + 1 * k.val = _ by rw [e0]; omega)
    (show win0_1.index t 1 * 256 + 1 * l.val = _ by rw [e1]; omega)

theorem block_g (c : Dev nD) (t : Fin cfg0.N) (l : Fin 256) (r : Fin 2304) :
    @HAdd.hAdd EReal EReal EReal _ ((iblk m c 3 t : Vec Ideal S1x2304x256 .f32) (ix3 (0 : Fin 1) r l)) ((iblk m c 4 t : Vec Ideal S1x2304x256 .f32) (ix3 (0 : Fin 1) r l))
      = seqG m c (t.val % 4) (t.val / 4 * 256 + l.val) r.val := by
  obtain ⟨-, -, ⟨e0, e1, e2⟩, ⟨f0, f1, f2⟩, -⟩ := places t
  unfold iblk
  rw [View.read_apply, View.read_apply]
  refine congrArg₂ (· + ·) (cell_of_index (arrG m c) _ _ _ _ ?_ ?_ ?_) (cell_of_index (arrH m c) _ _ _ _ ?_ ?_ ?_)
  · exact (show win0_3.index t 0 * 1 + 1 * 0 = _ by rw [e0]; omega)
  · exact (show win0_3.index t 1 * 2304 + 1 * r.val = _ by rw [e1]; omega)
  · exact (show win0_3.index t 2 * 256 + 1 * l.val = _ by rw [e2]; omega)
  · exact (show win0_4.index t 0 * 1 + 1 * 0 = _ by rw [f0]; omega)
  · exact (show win0_4.index t 1 * 2304 + 1 * r.val = _ by rw [f1]; omega)
  · exact (show win0_4.index t 2 * 256 + 1 * l.val = _ by rw [f2]; omega)

theorem moreW_at (x0 x3 x4 : Vec Ideal S1x2304x256 .f32) (o : Vec Ideal S4x256 .f32) (j : S4x256.Idx) :
    moreW x0 x3 x4 o j = (o j + keepW x0 x3 x4 j : EReal) := by
  unfold moreW keepW k0_pay4
  generalize k0_pay2 (F := Ideal) _ _ _ _ _ = W
  pointwise

theorem moreB_at (x : FVec Ideal S2304x256 .f32) (o : Vec Ideal S1x256 .f32) (j : S1x256.Idx) :
    k0_pay5 x o j = (o j + k0_pay1 x j : EReal) := by
  unfold k0_pay5
  generalize k0_pay1 x = B
  pointwise

/-- One point's part of the weights' gradient, and of the bias's. -/
theorem part_w (c : Dev nD) (t : Fin cfg0.N) (k : Fin 4) (l : Fin 256) :
    keepW (F := Ideal) (iblk m c 0 t) (iblk m c 3 t) (iblk m c 4 t) (ix2 k l)
      = weigh (seqU m c (t.val % 4) (t.val / 4 * 256 + l.val)) (seqG m c (t.val % 4) (t.val / 4 * 256 + l.val)) k.val :=
  dw_at _ _ _ _ _ l (block_u m c t l) (block_g m c t l) k

theorem part_b (c : Dev nD) (t : Fin cfg0.N) (l : Fin 256) :
    k0_pay1 (F := Ideal) (k0_pay19 (iblk m c 3 t) (iblk m c 4 t)) (ix2 (0 : Fin 1) l)
      = total (seqG m c (t.val % 4) (t.val / 4 * 256 + l.val)) :=
  db_at _ _ _ l (block_g m c t l)

theorem part_x (c : Dev nD) (t : Fin cfg0.N) (r : Fin 2304) (l : Fin 256) :
    keepX (F := Ideal) (iblk m c 1 t) (iblk m c 3 t) (iblk m c 4 t) (ix3 (0 : Fin 1) r l)
      = spread (seqG m c (t.val % 4) (t.val / 4 * 256 + l.val)) (seqW m c (t.val / 4 * 256 + l.val)) r.val :=
  dx_at _ _ _ _ _ l (block_g m c t l) (block_w m c t l) r

/-- The input's gradient after every point. -/
theorem after_x (c : Dev nD) (t : Fin cfg0.N) (r : Fin 2304) (l : Fin 256) :
    (outsAt0 m c t.val t.isLt).1 (ix3 (0 : Fin 1) r l)
      = spread (seqG m c (t.val % 4) (t.val / 4 * 256 + l.val)) (seqW m c (t.val / 4 * 256 + l.val)) r.val := by
  by_cases h0 : t.val % 4 = 0
  · rw [outsAt0_A m c t h0 (by omega) h0 (by omega)]
    dsimp only
    rw [out_x_A]
    exact part_x m c t r l
  · rw [outsAt0_B m c t h0 (by omega) h0 (by omega)]
    dsimp only
    rw [out_x_B]
    exact part_x m c t r l

/-- A sum over the batch rows up to the one of point `n`. -/
def rowsTo (f : ℕ → ℕ → EReal) (n l : ℕ) : EReal := ∑ b ∈ Finset.range (n % 4 + 1), f b (n / 4 * 256 + l)

theorem rowsTo_first (f : ℕ → ℕ → EReal) (n l : ℕ) (h : n % 4 = 0) : f (n % 4) (n / 4 * 256 + l) = rowsTo f n l := by
  unfold rowsTo
  rw [h, Finset.sum_range_one]

theorem rowsTo_next (f : ℕ → ℕ → EReal) (n l : ℕ) (h : ¬(n + 1) % 4 = 0) :
    rowsTo f n l + f ((n + 1) % 4) ((n + 1) / 4 * 256 + l) = rowsTo f (n + 1) l := by
  unfold rowsTo
  rw [Finset.sum_range_succ _ ((n + 1) % 4), show (n + 1) / 4 = n / 4 by omega, show (n + 1) % 4 = n % 4 + 1 by omega]

/-- What the weights' gradient and the bias's gradient hold after every point. -/
theorem after_w (c : Dev nD) : ∀ (n : ℕ) (h : n < cfg0.N) (k : Fin 4) (l : Fin 256),
    (outsAt0 m c n h).2.1 (ix2 k l) = rowsTo (fun b q => weigh (seqU m c b q) (seqG m c b q) k.val) n l.val := by
  intro n
  induction n with
  | zero =>
    intro h k l
    rw [outsAt0_A m c ⟨0, h⟩ rfl (by dsimp only; omega) rfl (by dsimp only; omega)]
    dsimp only
    rw [out_w_A, part_w]
    exact rowsTo_first (fun b q => weigh (seqU m c b q) (seqG m c b q) k.val) 0 l.val rfl
  | succ n ih =>
    intro h k l
    by_cases h0 : (n + 1) % 4 = 0
    · rw [outsAt0_A m c ⟨n + 1, h⟩ h0 (by dsimp only; omega) h0 (by dsimp only; omega)]
      dsimp only
      rw [out_w_A, part_w]
      exact rowsTo_first (fun b q => weigh (seqU m c b q) (seqG m c b q) k.val) (n + 1) l.val h0
    · rw [outsAt0_B m c ⟨n + 1, h⟩ h0 (by dsimp only; omega) h0 (by dsimp only; omega)]
      dsimp only
      rw [out_w_B, moreW_at, part_w]
      show (outsAt0 m c n _).2.1 (ix2 k l) + _ = _
      rw [ih]
      exact rowsTo_next (fun b q => weigh (seqU m c b q) (seqG m c b q) k.val) n l.val h0

theorem after_b (c : Dev nD) : ∀ (n : ℕ) (h : n < cfg0.N) (l : Fin 256),
    (outsAt0 m c n h).2.2 (ix2 (0 : Fin 1) l) = rowsTo (fun b q => total (seqG m c b q)) n l.val := by
  intro n
  induction n with
  | zero =>
    intro h l
    rw [outsAt0_A m c ⟨0, h⟩ rfl (by dsimp only; omega) rfl (by dsimp only; omega)]
    dsimp only
    rw [out_b_A, part_b]
    exact rowsTo_first (fun b q => total (seqG m c b q)) 0 l.val rfl
  | succ n ih =>
    intro h l
    by_cases h0 : (n + 1) % 4 = 0
    · rw [outsAt0_A m c ⟨n + 1, h⟩ h0 (by dsimp only; omega) h0 (by dsimp only; omega)]
      dsimp only
      rw [out_b_A, part_b]
      exact rowsTo_first (fun b q => total (seqG m c b q)) (n + 1) l.val h0
    · rw [outsAt0_B m c ⟨n + 1, h⟩ h0 (by dsimp only; omega) h0 (by dsimp only; omega)]
      dsimp only
      rw [out_b_B, moreB_at, part_b]
      show (outsAt0 m c n _).2.2 (ix2 (0 : Fin 1) l) + _ = _
      rw [ih]
      exact rowsTo_next (fun b q => total (seqG m c b q)) n l.val h0

/-- The three gradients. -/
def gradX (c : Dev nD) : Buf (Elt Ideal) ((c : Thread nD τ).loc main_v0_0) := fun (i : S4x2304x1024.Idx) =>
  (spread (seqG m c (i 0).val (i 2).val) (seqW m c (i 2).val) (i 1).val : EReal)
def gradW (c : Dev nD) : Buf (Elt Ideal) ((c : Thread nD τ).loc main_v0_1) := fun (i : S4x1024.Idx) =>
  (∑ b ∈ Finset.range 4, weigh (seqU m c b (i 1).val) (seqG m c b (i 1).val) (i 0).val : EReal)
def gradB (c : Dev nD) : Buf (Elt Ideal) ((c : Thread nD τ).loc main_v0_2) := fun (i : S1x1024.Idx) =>
  (∑ b ∈ Finset.range 4, total (seqG m c b (i 1).val) : EReal)

theorem written_x (c : Dev nD) (t : Fin cfg0.N) (hf : (cfg0.win 5).flush t = true) :
    (dats m 0 c).flushed 5 t = ((cfg0.win 5).blk t).view.read (Elt Ideal) (gradX m c) := by
  obtain ⟨-, -, -, -, ⟨e0, e1, e2⟩, -⟩ := places t
  rw [Cert.Kernel21Ideal.Value.flushed5]
  funext y
  show ((outsAt0 m c t.val t.isLt).1) ((cfg0.win 5).xinj (grid0.coords t) y) = gradX m c (((cfg0.win 5).blk t).view.emb y)
  have z0 : (y 0).val < 1 := (y 0).isLt
  have b0 : (((cfg0.win 5).blk t).view.emb y 0).val = t.val % 4 :=
    show win0_5.index t 0 * 1 + 1 * (y 0).val = _ by rw [e0]; omega
  have b1 : (((cfg0.win 5).blk t).view.emb y 1).val = (y 1).val :=
    show win0_5.index t 1 * 2304 + 1 * (y 1).val = _ by rw [e1]; omega
  have b2 : (((cfg0.win 5).blk t).view.emb y 2).val = t.val / 4 * 256 + (y 2).val :=
    show win0_5.index t 2 * 256 + 1 * (y 2).val = _ by rw [e2]; omega
  unfold gradX
  rw [b0, b1, b2]
  refine (congrArg (outsAt0 m c t.val t.isLt).1 ?_).trans (after_x m c t ⟨(y 1).val, (y 1).isLt⟩ ⟨(y 2).val, (y 2).isLt⟩)
  funext a; apply Fin.ext
  match a with
  | ⟨0, _⟩ => exact (show (y 0).val = 0 by omega)
  | ⟨1, _⟩ => rfl
  | ⟨2, _⟩ => rfl

theorem written_w (c : Dev nD) (t : Fin cfg0.N) (hf : (cfg0.win 6).flush t = true) :
    (dats m 0 c).flushed 6 t = ((cfg0.win 6).blk t).view.read (Elt Ideal) (gradW m c) := by
  have h1 : t.val % 4 = 3 := (flush0_6 t).mp hf
  obtain ⟨-, -, -, -, -, ⟨e0, e1⟩, -⟩ := places t
  rw [Cert.Kernel21Ideal.Value.flushed6]
  funext y
  show ((outsAt0 m c t.val t.isLt).2.1) ((cfg0.win 6).xinj (grid0.coords t) y) = gradW m c (((cfg0.win 6).blk t).view.emb y)
  have b0 : (((cfg0.win 6).blk t).view.emb y 0).val = (y 0).val :=
    show win0_6.index t 0 * 4 + 1 * (y 0).val = _ by rw [e0]; omega
  have b1 : (((cfg0.win 6).blk t).view.emb y 1).val = t.val / 4 * 256 + (y 1).val :=
    show win0_6.index t 1 * 256 + 1 * (y 1).val = _ by rw [e1]; omega
  unfold gradW
  rw [b0, b1]
  refine (congrArg (outsAt0 m c t.val t.isLt).2.1 ?_).trans ((after_w m c t.val t.isLt ⟨(y 0).val, (y 0).isLt⟩ ⟨(y 1).val, (y 1).isLt⟩).trans ?_)
  · funext a; apply Fin.ext
    match a with
    | ⟨0, _⟩ => rfl
    | ⟨1, _⟩ => rfl
  · unfold rowsTo
    rw [h1]

theorem written_b (c : Dev nD) (t : Fin cfg0.N) (hf : (cfg0.win 7).flush t = true) :
    (dats m 0 c).flushed 7 t = ((cfg0.win 7).blk t).view.read (Elt Ideal) (gradB m c) := by
  have h1 : t.val % 4 = 3 := (flush0_7 t).mp hf
  obtain ⟨-, -, -, -, -, -, ⟨e0, e1⟩⟩ := places t
  rw [Cert.Kernel21Ideal.Value.flushed7]
  funext y
  show ((outsAt0 m c t.val t.isLt).2.2) ((cfg0.win 7).xinj (grid0.coords t) y) = gradB m c (((cfg0.win 7).blk t).view.emb y)
  have z0 : (y 0).val < 1 := (y 0).isLt
  have b1 : (((cfg0.win 7).blk t).view.emb y 1).val = t.val / 4 * 256 + (y 1).val :=
    show win0_7.index t 1 * 256 + 1 * (y 1).val = _ by rw [e1]; omega
  unfold gradB
  rw [b1]
  refine (congrArg (outsAt0 m c t.val t.isLt).2.2 ?_).trans ((after_b m c t.val t.isLt ⟨(y 1).val, (y 1).isLt⟩).trans ?_)
  · funext a; apply Fin.ext
    match a with
    | ⟨0, _⟩ => exact (show (y 0).val = 0 by omega)
    | ⟨1, _⟩ => rfl
  · unfold rowsTo
    rw [h1]

/-- The points that write the block an index lies in. -/
def writerX (i : S4x2304x1024.Idx) : Fin grid0.N :=
  ⟨(i 2).val / 256 * 4 + (i 0).val, lt_of_lt_of_eq (by
    have h0 : (i 0).val < 4 := (i 0).isLt
    have h1 : (i 2).val < 1024 := (i 2).isLt
    omega) N_0.symm⟩
def writerC (q : Fin 1024) : Fin grid0.N :=
  ⟨q.val / 256 * 4 + 3, lt_of_lt_of_eq (by have := q.isLt; omega) N_0.symm⟩

theorem reached_x (i : S4x2304x1024.Idx) : (cfg0.win 5).flush (writerX i) = true ∧ i ∈ ((cfg0.win 5).blk (writerX i)).view.set := by
  have h0 : (i 0).val < 4 := (i 0).isLt
  have h1 : (i 1).val < 2304 := (i 1).isLt
  have h2 : (i 2).val < 1024 := (i 2).isLt
  have hv : (writerX i).val = (i 2).val / 256 * 4 + (i 0).val := rfl
  obtain ⟨-, -, -, -, ⟨e0, e1, e2⟩, -⟩ := places (writerX i)
  refine ⟨flush0_5 _, ?_⟩
  show i ∈ ((View.whole main_v0_0).slice (win0_5.rect (writerX i))).set
  rw [View.set_slice_whole, Rect.mem_set_unit]
  intro a
  match a with
  | ⟨0, _⟩ =>
    show win0_5.index (writerX i) 0 * 1 ≤ (i 0).val ∧ (i 0).val < win0_5.index (writerX i) 0 * 1 + 1
    rw [e0, hv]; omega
  | ⟨1, _⟩ =>
    show win0_5.index (writerX i) 1 * 2304 ≤ (i 1).val ∧ (i 1).val < win0_5.index (writerX i) 1 * 2304 + 2304
    rw [e1]; omega
  | ⟨2, _⟩ =>
    show win0_5.index (writerX i) 2 * 256 ≤ (i 2).val ∧ (i 2).val < win0_5.index (writerX i) 2 * 256 + 256
    rw [e2, hv]; omega

theorem reached_w (i : S4x1024.Idx) : (cfg0.win 6).flush (writerC (i 1)) = true ∧ i ∈ ((cfg0.win 6).blk (writerC (i 1))).view.set := by
  have h0 : (i 0).val < 4 := (i 0).isLt
  have h1 : (i 1).val < 1024 := (i 1).isLt
  have hv : (writerC (i 1)).val = (i 1).val / 256 * 4 + 3 := rfl
  obtain ⟨-, -, -, -, -, ⟨e0, e1⟩, -⟩ := places (writerC (i 1))
  refine ⟨(flush0_6 _).mpr (by rw [hv]; omega), ?_⟩
  show i ∈ ((View.whole main_v0_1).slice (win0_6.rect (writerC (i 1)))).set
  rw [View.set_slice_whole, Rect.mem_set_unit]
  intro a
  match a with
  | ⟨0, _⟩ =>
    show win0_6.index (writerC (i 1)) 0 * 4 ≤ (i 0).val ∧ (i 0).val < win0_6.index (writerC (i 1)) 0 * 4 + 4
    rw [e0]; omega
  | ⟨1, _⟩ =>
    show win0_6.index (writerC (i 1)) 1 * 256 ≤ (i 1).val ∧ (i 1).val < win0_6.index (writerC (i 1)) 1 * 256 + 256
    rw [e1, hv]; omega

theorem reached_b (i : S1x1024.Idx) : (cfg0.win 7).flush (writerC (i 1)) = true ∧ i ∈ ((cfg0.win 7).blk (writerC (i 1))).view.set := by
  have h0 : (i 0).val < 1 := (i 0).isLt
  have h1 : (i 1).val < 1024 := (i 1).isLt
  have hv : (writerC (i 1)).val = (i 1).val / 256 * 4 + 3 := rfl
  obtain ⟨-, -, -, -, -, -, ⟨e0, e1⟩⟩ := places (writerC (i 1))
  refine ⟨(flush0_7 _).mpr (by rw [hv]; omega), ?_⟩
  show i ∈ ((View.whole main_v0_2).slice (win0_7.rect (writerC (i 1)))).set
  rw [View.set_slice_whole, Rect.mem_set_unit]
  intro a
  match a with
  | ⟨0, _⟩ =>
    show win0_7.index (writerC (i 1)) 0 * 1 ≤ (i 0).val ∧ (i 0).val < win0_7.index (writerC (i 1)) 0 * 1 + 1
    rw [e0]; omega
  | ⟨1, _⟩ =>
    show win0_7.index (writerC (i 1)) 1 * 256 ≤ (i 1).val ∧ (i 1).val < win0_7.index (writerC (i 1)) 1 * 256 + 256
    rw [e1, hv]; omega

/-- The run of the call: its results are the three gradients. -/
theorem run_grads : θ_run defs (onTc (τ := τ) (main (F := Ideal))) ⟨m, fun _ => 0, ρ⟩ fun r => ∀ c : Dev nD,
      r.2.mem ((c : Thread nD τ).loc main_v0_0) = gradX m c
      ∧ r.2.mem ((c : Thread nD τ).loc main_v0_1) = gradW m c
      ∧ r.2.mem ((c : Thread nD τ).loc main_v0_2) = gradB m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨
    (h c).1.trans ((dats m 0 c).arrAt_eq_of_cover 5 (gradX m c) (written_x m c) fun i => ⟨writerX i, (reached_x i).1, (reached_x i).2⟩),
    (h c).2.1.trans ((dats m 0 c).arrAt_eq_of_cover 6 (gradW m c) (written_w m c) fun (i : S4x1024.Idx) => ⟨writerC (i 1), (reached_w i).1, (reached_w i).2⟩),
    (h c).2.2.1.trans ((dats m 0 c).arrAt_eq_of_cover 7 (gradB m c) (written_b m c) fun (i : S1x1024.Idx) => ⟨writerC (i 1), (reached_b i).1, (reached_b i).2⟩),
    (h c).2.2.2⟩) (Cert.Kernel21Ideal.Value.run_blocks m ρ)

end Cert.Kernel21Ideal.Gen

end
-- ==== Proof.ConvHost.lean ====
module

public import proofs.«01_k».proof.Proof.ConvArrays
public import proofs.«01_k».proof.Proof.Gen.Reference21Ideal.Run
public import Idealize.ShloMosaic.Lib.Pointwise

/-! The gradients of reference.py's convolution, entry by entry. -/

@[expose] public section

set_option maxRecDepth 16384

noncomputable section

namespace Cert.Reference21Ideal.Value

open Cert.Reference21Ideal Cert.Reference21Ideal.Gen Idealize.ShloMosaic Idealize.ShloMosaic.TcCoe Idealize.SL.Sem
open Cert.Conv
open Cert.Product (entry entry_of_index)

variable (V : Valuation τ sig (Elt Ideal))

abbrev hostU : (⟨3, ![4, 2304, 5120]⟩ : Shape).Idx → EReal := V (Proc.devRef .tc main_arg0)
abbrev hostW : (⟨2, ![4, 1024]⟩ : Shape).Idx → EReal := V (Proc.devRef .tc main_arg1)
abbrev hostG : (⟨3, ![4, 2304, 1024]⟩ : Shape).Idx → EReal := V (Proc.devRef .tc main_arg3)
abbrev hostH : (⟨3, ![4, 2304, 1024]⟩ : Shape).Idx → EReal := V (Proc.devRef .tc main_arg4)

/-- The sequence of channel `q` of batch row `b`, its cotangents, and the channel's weights. -/
def runU (b q : ℕ) : ℕ → EReal := fun t => cell (hostU V) b t (2048 + q)
def runG (b q : ℕ) : ℕ → EReal := fun t => cell (hostG V) b t q + cell (hostH V) b t q
def runW (q : ℕ) : ℕ → EReal := fun k => entry (hostW V) k q

theorem u_at (b : Fin 4) (t : Fin 2304) (l : Fin 1024) : res_main_v0 V (ix3 b t l) = runU V b.val l.val t.val := by
  pointwise [res_main_v0]
  exact cell_of_index (hostU V) _ _ _ _ rfl rfl rfl

theorem g_at (b : Fin 4) (t : Fin 2304) (l : Fin 1024) : res_main_v76 V (ix3 b t l) = runG V b.val l.val t.val := by
  pointwise [res_main_v76]
  exact congrArg₂ (· + ·) (cell_of_index (hostG V) _ _ _ _ rfl rfl rfl) (cell_of_index (hostH V) _ _ _ _ rfl rfl rfl)

/-- The cotangents of the first stretch, and of the second. -/
theorem g_one (b : Fin 4) (t : Fin 256) (l : Fin 1024) : res_main_v77 V (ix3 b t l) = runG V b.val l.val t.val := by
  have h := fun (r : Fin 2304) => g_at V b r l
  unfold res_main_v77
  generalize res_main_v76 V = A at *
  pointwise
  exact h _

theorem g_two (b : Fin 4) (t : Fin 2048) (l : Fin 1024) : res_main_v78 V (ix3 b t l) = runG V b.val l.val (256 + t.val) := by
  have h := fun (r : Fin 2304) => g_at V b r l
  unfold res_main_v78
  generalize res_main_v76 V = A at *
  pointwise
  exact h _

theorem u_one (b : Fin 4) (t : Fin 256) (l : Fin 1024) : res_main_v1 V (ix3 b t l) = runU V b.val l.val t.val := by
  have h := fun (r : Fin 2304) => u_at V b r l
  unfold res_main_v1
  generalize res_main_v0 V = A at *
  pointwise
  exact h _

theorem u_two (b : Fin 4) (t : Fin 2048) (l : Fin 1024) : res_main_v38 V (ix3 b t l) = runU V b.val l.val (256 + t.val) := by
  have h := fun (r : Fin 2304) => u_at V b r l
  unfold res_main_v38
  generalize res_main_v0 V = A at *
  pointwise
  exact h _

/-- The four weights of a channel, as each stretch uses them. -/
theorem w_at (l : Fin 1024) :
    res_main_v11 V (ix3 (0 : Fin 1) (0 : Fin 1) l) = runW V l.val 0 ∧ res_main_v17 V (ix3 (0 : Fin 1) (0 : Fin 1) l) = runW V l.val 1
    ∧ res_main_v24 V (ix3 (0 : Fin 1) (0 : Fin 1) l) = runW V l.val 2 ∧ res_main_v31 V (ix3 (0 : Fin 1) (0 : Fin 1) l) = runW V l.val 3
    ∧ res_main_v48 V (ix3 (0 : Fin 1) (0 : Fin 1) l) = runW V l.val 0 ∧ res_main_v54 V (ix3 (0 : Fin 1) (0 : Fin 1) l) = runW V l.val 1
    ∧ res_main_v61 V (ix3 (0 : Fin 1) (0 : Fin 1) l) = runW V l.val 2 ∧ res_main_v68 V (ix3 (0 : Fin 1) (0 : Fin 1) l) = runW V l.val 3 := by
  refine ⟨?_, ?_, ?_, ?_, ?_, ?_, ?_, ?_⟩
  · pointwise [res_main_v11]; exact entry_of_index (hostW V) _ _ _ rfl rfl
  · pointwise [res_main_v17]; exact entry_of_index (hostW V) _ _ _ rfl rfl
  · pointwise [res_main_v24]; exact entry_of_index (hostW V) _ _ _ rfl rfl
  · pointwise [res_main_v31]; exact entry_of_index (hostW V) _ _ _ rfl rfl
  · pointwise [res_main_v48]; exact entry_of_index (hostW V) _ _ _ rfl rfl
  · pointwise [res_main_v54]; exact entry_of_index (hostW V) _ _ _ rfl rfl
  · pointwise [res_main_v61]; exact entry_of_index (hostW V) _ _ _ rfl rfl
  · pointwise [res_main_v68]; exact entry_of_index (hostW V) _ _ _ rfl rfl

/-- The first stretch between its zeros, and the second. -/
theorem wide_one (b : Fin 4) (p : Fin 259) (l : Fin 1024) :
    res_main_v4 V (ix3 b p l) = if 1 ≤ p.val ∧ p.val < 257 then runU V b.val l.val (p.val - 1) else 0 := by
  have h := fun (r : Fin 256) => u_one V b r l
  unfold res_main_v4
  generalize res_main_v1 V = A at *
  pointwise [res_main_v3]
  by_cases h0 : p.val < 1
  · rw [dif_pos h0, if_neg (by omega)]
  rw [dif_neg h0]
  by_cases h1 : p.val - 1 < 256
  · rw [dif_pos h1]
    exact (h _).trans (if_pos (by omega)).symm
  · rw [dif_neg h1, if_neg (by omega)]
    split_ifs <;> rfl

theorem wide_two (b : Fin 4) (p : Fin 2051) (l : Fin 1024) :
    res_main_v41 V (ix3 b p l) = if 1 ≤ p.val ∧ p.val < 2049 then runU V b.val l.val (256 + (p.val - 1)) else 0 := by
  have h := fun (r : Fin 2048) => u_two V b r l
  unfold res_main_v41
  generalize res_main_v38 V = A at *
  pointwise [res_main_v40]
  by_cases h0 : p.val < 1
  · rw [dif_pos h0, if_neg (by omega)]
  rw [dif_neg h0]
  by_cases h1 : p.val - 1 < 2048
  · rw [dif_pos h1]
    exact (h _).trans (if_pos (by omega)).symm
  · rw [dif_neg h1, if_neg (by omega)]
    split_ifs <;> rfl

theorem tap0_one (b : Fin 4) (t : Fin 256) (l : Fin 1024) : res_main_v8 V (ix3 b t l) = tap (runU V b.val l.val) 0 t.val := by
  have h := fun (r : Fin 259) => wide_one V b r l
  have ht := t.isLt
  unfold res_main_v8
  generalize res_main_v4 V = A at *
  pointwise
  refine (h _).trans ?_
  show _ = if t.val ≠ 0 ∧ t.val ≠ 256 then runU V b.val l.val (t.val - 1) else 0
  dsimp only
  split_ifs <;> first | rfl | (exfalso; omega) | (refine congrArg (runU V b.val l.val) ?_; omega)

theorem tap1_one (b : Fin 4) (t : Fin 256) (l : Fin 1024) : res_main_v14 V (ix3 b t l) = tap (runU V b.val l.val) 1 t.val := by
  have h := fun (r : Fin 259) => wide_one V b r l
  have ht := t.isLt
  unfold res_main_v14
  generalize res_main_v4 V = A at *
  pointwise
  refine (h _).trans ?_
  show _ = runU V b.val l.val t.val
  dsimp only
  split_ifs <;> first | rfl | (exfalso; omega) | (refine congrArg (runU V b.val l.val) ?_; omega)

theorem tap2_one (b : Fin 4) (t : Fin 256) (l : Fin 1024) : res_main_v21 V (ix3 b t l) = tap (runU V b.val l.val) 2 t.val := by
  have h := fun (r : Fin 259) => wide_one V b r l
  have ht := t.isLt
  unfold res_main_v21
  generalize res_main_v4 V = A at *
  pointwise
  refine (h _).trans ?_
  show _ = if t.val ≠ 255 ∧ t.val ≠ 2303 then runU V b.val l.val (t.val + 1) else 0
  dsimp only
  split_ifs <;> first | rfl | (exfalso; omega) | (refine congrArg (runU V b.val l.val) ?_; omega)

theorem tap3_one (b : Fin 4) (t : Fin 256) (l : Fin 1024) : res_main_v28 V (ix3 b t l) = tap (runU V b.val l.val) 3 t.val := by
  have h := fun (r : Fin 259) => wide_one V b r l
  have ht := t.isLt
  unfold res_main_v28
  generalize res_main_v4 V = A at *
  pointwise
  refine (h _).trans ?_
  show _ = if t.val ≠ 254 ∧ t.val ≠ 255 ∧ t.val ≠ 2302 ∧ t.val ≠ 2303 then runU V b.val l.val (t.val + 2) else 0
  dsimp only
  split_ifs <;> first | rfl | (exfalso; omega) | (refine congrArg (runU V b.val l.val) ?_; omega)

theorem tap0_two (b : Fin 4) (t : Fin 2048) (l : Fin 1024) : res_main_v45 V (ix3 b t l) = tap (runU V b.val l.val) 0 (256 + t.val) := by
  have h := fun (r : Fin 2051) => wide_two V b r l
  have ht := t.isLt
  unfold res_main_v45
  generalize res_main_v41 V = A at *
  pointwise
  refine (h _).trans ?_
  show _ = if (256 + t.val) ≠ 0 ∧ (256 + t.val) ≠ 256 then runU V b.val l.val ((256 + t.val) - 1) else 0
  dsimp only
  split_ifs <;> first | rfl | (exfalso; omega) | (refine congrArg (runU V b.val l.val) ?_; omega)

theorem tap1_two (b : Fin 4) (t : Fin 2048) (l : Fin 1024) : res_main_v51 V (ix3 b t l) = tap (runU V b.val l.val) 1 (256 + t.val) := by
  have h := fun (r : Fin 2051) => wide_two V b r l
  have ht := t.isLt
  unfold res_main_v51
  generalize res_main_v41 V = A at *
  pointwise
  refine (h _).trans ?_
  show _ = runU V b.val l.val (256 + t.val)
  dsimp only
  split_ifs <;> first | rfl | (exfalso; omega) | (refine congrArg (runU V b.val l.val) ?_; omega)

theorem tap2_two (b : Fin 4) (t : Fin 2048) (l : Fin 1024) : res_main_v58 V (ix3 b t l) = tap (runU V b.val l.val) 2 (256 + t.val) := by
  have h := fun (r : Fin 2051) => wide_two V b r l
  have ht := t.isLt
  unfold res_main_v58
  generalize res_main_v41 V = A at *
  pointwise
  refine (h _).trans ?_
  show _ = if (256 + t.val) ≠ 255 ∧ (256 + t.val) ≠ 2303 then runU V b.val l.val ((256 + t.val) + 1) else 0
  dsimp only
  split_ifs <;> first | rfl | (exfalso; omega) | (refine congrArg (runU V b.val l.val) ?_; omega)

theorem tap3_two (b : Fin 4) (t : Fin 2048) (l : Fin 1024) : res_main_v65 V (ix3 b t l) = tap (runU V b.val l.val) 3 (256 + t.val) := by
  have h := fun (r : Fin 2051) => wide_two V b r l
  have ht := t.isLt
  unfold res_main_v65
  generalize res_main_v41 V = A at *
  pointwise
  refine (h _).trans ?_
  show _ = if (256 + t.val) ≠ 254 ∧ (256 + t.val) ≠ 255 ∧ (256 + t.val) ≠ 2302 ∧ (256 + t.val) ≠ 2303 then runU V b.val l.val ((256 + t.val) + 2) else 0
  dsimp only
  split_ifs <;> first | rfl | (exfalso; omega) | (refine congrArg (runU V b.val l.val) ?_; omega)

end Cert.Reference21Ideal.Value

end
-- ==== Proof.ConvRows.lean ====
module

public import proofs.«01_k».proof.Proof.ConvHost
public import Idealize.ShloMosaic.Lib.Pointwise

/-! The gradients of reference.py's convolution, summed over the batch rows and the times. -/

@[expose] public section

set_option maxRecDepth 16384

noncomputable section

namespace Cert.Reference21Ideal.Value

open Cert.Reference21Ideal Cert.Reference21Ideal.Gen Idealize.ShloMosaic Idealize.ShloMosaic.TcCoe Idealize.SL.Sem
open Cert.Conv
open Cert.Product (entry entry_of_index)

variable (V : Valuation τ sig (Elt Ideal))

/-- Zero, and a stretch weighed by a channel's weight. -/
abbrev none0 : FVec Ideal S_ .f32 := constant S_ .f32 0x00000000#32
abbrev wTwo (G : FVec Ideal S4x2048x1024 .f32) (W : FVec Ideal S1x1x1024 .f32) := mulf G (broadcastInDim S4x2048x1024 ![0, 1, 2] bcast_S1x1x1024_S4x2048x1024_0_1_2 W)
abbrev wOne (G : FVec Ideal S4x256x1024 .f32) (W : FVec Ideal S1x1x1024 .f32) := mulf G (broadcastInDim S4x256x1024 ![0, 1, 2] bcast_S1x1x1024_S4x256x1024_0_1_2 W)
/-- The sum over the batch rows and one stretch, a channel at a time. -/
abbrev colTwo (G : FVec Ideal S4x2048x1024 .f32) : FVec Ideal S1x1024 .f32 :=
  broadcastInDim S1x1024 ![1] bcast_S1024_S1x1024_1 (Host.reduceAdd (shapeCast _ (Host.reduceAdd G none0 reducesTo_S4x2048x1024_S1024_d0_1 h_S_) shapeCasts_S1024_S1x1x1024) none0 reducesTo_S1x1x1024_S1024_d0_1 h_S_)
/-- The sum over the batch rows and one stretch, a channel at a time. -/
abbrev colOne (G : FVec Ideal S4x256x1024 .f32) : FVec Ideal S1x1024 .f32 :=
  broadcastInDim S1x1024 ![1] bcast_S1024_S1x1024_1 (Host.reduceAdd (shapeCast _ (Host.reduceAdd G none0 reducesTo_S4x256x1024_S1024_d0_1 h_S_) shapeCasts_S1024_S1x1x1024) none0 reducesTo_S1x1x1024_S1024_d0_1 h_S_)
/-- A row of channels as row 0 of four. -/
abbrev row0 (A : FVec Ideal S1x1024 .f32) : FVec Ideal S4x1024 .f32 :=
  pad S4x1024 ![0, 0] ![3, 0] ![0, 0] A none0 pads_S1x1024_S4x1024_030_000 h_S_
/-- A row of channels as row 1 of four. -/
abbrev row1 (A : FVec Ideal S1x1024 .f32) : FVec Ideal S4x1024 .f32 :=
  pad S4x1024 ![1, 0] ![2, 0] ![0, 0] A none0 pads_S1x1024_S4x1024_120_000 h_S_
/-- A row of channels as row 2 of four. -/
abbrev row2 (A : FVec Ideal S1x1024 .f32) : FVec Ideal S4x1024 .f32 :=
  pad S4x1024 ![2, 0] ![1, 0] ![0, 0] A none0 pads_S1x1024_S4x1024_210_000 h_S_
/-- A row of channels as row 3 of four. -/
abbrev row3 (A : FVec Ideal S1x1024 .f32) : FVec Ideal S4x1024 .f32 :=
  pad S4x1024 ![3, 0] ![0, 0] ![0, 0] A none0 pads_S1x1024_S4x1024_300_000 h_S_

/-- A row of channels put in a row of four. -/
theorem set_rows (A : FVec Ideal S1x1024 .f32) (k : Fin 4) (l : Fin 1024) :
    row0 A (ix2 k l) = (if k.val = 0 then A (ix2 (0 : Fin 1) l) else (0 : EReal))
      ∧ row1 A (ix2 k l) = (if k.val = 1 then A (ix2 (0 : Fin 1) l) else (0 : EReal))
      ∧ row2 A (ix2 k l) = (if k.val = 2 then A (ix2 (0 : Fin 1) l) else (0 : EReal))
      ∧ row3 A (ix2 k l) = (if k.val = 3 then A (ix2 (0 : Fin 1) l) else (0 : EReal)) := by
  refine ⟨?_, ?_, ?_, ?_⟩
  on_goal 1 => unfold row0; pointwise
  on_goal 2 => unfold row1; pointwise
  on_goal 3 => unfold row2; pointwise
  on_goal 4 => unfold row3; pointwise
  all_goals
    split_ifs <;> first
      | exact congrArg (fun z : Fin 1 => A (ix2 z l)) (Subsingleton.elim _ _)
      | rfl
      | omega

/-- The sum over the batch rows and one stretch. -/
theorem sum_two (G : FVec Ideal S4x2048x1024 .f32) {l : Fin 1024} {f : Fin 4 → Fin 2048 → EReal} (h : ∀ b t, G (ix3 b t l) = f b t) :
    colTwo G (ix2 (0 : Fin 1) l) = ∑ b, ∑ t, f b t := by
  unfold colTwo
  pointwise [Cert.Conv.reduce_at]
  rw [Fin.sum_univ_one, Fin.sum_univ_one]
  exact Finset.sum_congr rfl fun b _ => Finset.sum_congr rfl fun t _ => h b t

theorem sum_one (G : FVec Ideal S4x256x1024 .f32) {l : Fin 1024} {f : Fin 4 → Fin 256 → EReal} (h : ∀ b t, G (ix3 b t l) = f b t) :
    colOne G (ix2 (0 : Fin 1) l) = ∑ b, ∑ t, f b t := by
  unfold colOne
  pointwise [Cert.Conv.reduce_at]
  rw [Fin.sum_univ_one, Fin.sum_univ_one]
  exact Finset.sum_congr rfl fun b _ => Finset.sum_congr rfl fun t _ => h b t

theorem sum_eight (P1 P2 P3 P4 P5 P6 P7 P8 : FVec Ideal S4x1024 .f32) (j : S4x1024.Idx) :
    addf (addf (addf (addf (addf (addf (addf P1 P2) P3) P4) P5) P6) P7) P8 j
      = (P1 j + P2 j + P3 j + P4 j + P5 j + P6 j + P7 j + P8 j : EReal) := rfl

/-- The eight rows set in place and added, at an entry: the two of that entry's row. -/
theorem rows_sum (A3 A2 A1 A0 B3 B2 B1 B0 : FVec Ideal S1x1024 .f32) (f g : ℕ → EReal) (l : Fin 1024)
    (a3 : A3 (ix2 (0 : Fin 1) l) = f 3) (a2 : A2 (ix2 (0 : Fin 1) l) = f 2) (a1 : A1 (ix2 (0 : Fin 1) l) = f 1) (a0 : A0 (ix2 (0 : Fin 1) l) = f 0)
    (b3 : B3 (ix2 (0 : Fin 1) l) = g 3) (b2 : B2 (ix2 (0 : Fin 1) l) = g 2) (b1 : B1 (ix2 (0 : Fin 1) l) = g 1) (b0 : B0 (ix2 (0 : Fin 1) l) = g 0)
    (k : Fin 4) :
    addf (addf (addf (addf (addf (addf (addf
      (row3 A3)
      (row2 A2))
      (row1 A1))
      (row0 A0))
      (row3 B3))
      (row2 B2))
      (row1 B1))
      (row0 B0) (ix2 k l)
      = f k.val + g k.val := by
  have e := fun A => set_rows A k l
  rw [sum_eight, (e A3).2.2.2, (e A2).2.2.1, (e A1).2.1, (e A0).1, (e B3).2.2.2, (e B2).2.2.1, (e B1).2.1, (e B0).1, a3, a2, a1, a0, b3, b2, b1, b0]
  fin_cases k <;> simp

/-- The weights' gradient of reference.py, from the sums of one stretch and the other. -/
theorem weigh_split (u g : ℕ → ℕ → EReal) (k : ℕ) :
    (∑ b : Fin 4, ∑ t : Fin 2048, tap (u b.val) k (256 + t.val) * g b.val (256 + t.val) : EReal)
      + ∑ b : Fin 4, ∑ t : Fin 256, tap (u b.val) k t.val * g b.val t.val = ∑ b ∈ Finset.range 4, weigh (u b) (g b) k := by
  rw [← Finset.sum_add_distrib, Finset.sum_range]
  exact Finset.sum_congr rfl fun b _ => (sum_split fun t => tap (u b.val) k t * g b.val t).symm

theorem total_split (g : ℕ → ℕ → EReal) :
    (∑ b : Fin 4, ∑ t : Fin 2048, g b.val (256 + t.val) : EReal) + ∑ b : Fin 4, ∑ t : Fin 256, g b.val t.val = ∑ b ∈ Finset.range 4, total (g b) := by
  rw [← Finset.sum_add_distrib, Finset.sum_range]
  exact Finset.sum_congr rfl fun b _ => (sum_split _).symm

/-- The input's gradient over one stretch, from that stretch's cotangents and the channel's weights. -/
theorem flow_two (G : FVec Ideal S4x2048x1024 .f32) (W3 W2 W1 W0 : FVec Ideal S1x1x1024 .f32) (g w : ℕ → EReal) (b : Fin 4) (l : Fin 1024)
    (h : ∀ r : Fin 2048, G (ix3 b r l) = g (256 + r.val))
    (w3 : W3 (ix3 (0 : Fin 1) (0 : Fin 1) l) = w 3) (w2 : W2 (ix3 (0 : Fin 1) (0 : Fin 1) l) = w 2)
    (w1 : W1 (ix3 (0 : Fin 1) (0 : Fin 1) l) = w 1) (w0 : W0 (ix3 (0 : Fin 1) (0 : Fin 1) l) = w 0) (t : Fin 2048) :
    extractStridedSlice S4x2048x1024 ![0, 1, 0] (addf (addf (addf
        (pad S4x2051x1024 ![0, 3, 0] ![0, 0, 0] ![0, 0, 0] (wTwo G W3) none0 pads_S4x2048x1024_S4x2051x1024_000_300_000 h_S_)
        (pad S4x2051x1024 ![0, 2, 0] ![0, 1, 0] ![0, 0, 0] (wTwo G W2) none0 pads_S4x2048x1024_S4x2051x1024_000_210_000 h_S_))
        (pad S4x2051x1024 ![0, 1, 0] ![0, 2, 0] ![0, 0, 0] (wTwo G W1) none0 pads_S4x2048x1024_S4x2051x1024_000_120_000 h_S_))
        (pad S4x2051x1024 ![0, 0, 0] ![0, 3, 0] ![0, 0, 0] (wTwo G W0) none0 pads_S4x2048x1024_S4x2051x1024_000_030_000 h_S_)) slices_S4x2051x1024_S4x2048x1024_0_1_0 (ix3 b t l)
      = spread g w (256 + t.val) := by
  have ht := t.isLt
  pointwise
  refine (add_right_comm _ _ _).trans ?_
  refine congrArg₂ (· + ·) (congrArg₂ (· + ·) (congrArg₂ (· + ·) ?_ ?_) ?_) ?_
  · by_cases c : 2 ≤ t.val
    · rw [dif_pos (by omega), if_pos (by omega), w3]
      exact congrArg (· * w 3) ((h _).trans (congrArg g (by dsimp only; omega)))
    · rw [dif_neg (by omega), if_neg (by omega)]
  · by_cases c : 1 ≤ t.val
    · rw [dif_pos (by omega), if_pos (by omega), w2]
      exact congrArg (· * w 2) ((h _).trans (congrArg g (by dsimp only; omega)))
    · rw [dif_neg (by omega), if_neg (by omega)]
  · by_cases c : t.val < 2047
    · rw [dif_pos (by omega), if_pos (by omega), w0]
      exact congrArg (· * w 0) ((h _).trans (congrArg g (by dsimp only; omega)))
    · rw [dif_neg (by omega), if_neg (by omega)]
  · exact congrArg₂ (· * ·) (h t) w1

theorem dx_two (b : Fin 4) (t : Fin 2048) (l : Fin 1024) :
    extractStridedSlice S4x2048x1024 ![0, 1, 0] (res_main_v124 V) slices_S4x2051x1024_S4x2048x1024_0_1_0 (ix3 b t l)
      = spread (runG V b.val l.val) (runW V l.val) (256 + t.val) := by
  obtain ⟨-, -, -, -, w0, w1, w2, w3⟩ := w_at V l
  exact flow_two _ _ _ _ _ _ _ b l (fun r => g_two V b r l) w3 w2 w1 w0 t

/-- The input's gradient over one stretch, from that stretch's cotangents and the channel's weights. -/
theorem flow_one (G : FVec Ideal S4x256x1024 .f32) (W3 W2 W1 W0 : FVec Ideal S1x1x1024 .f32) (g w : ℕ → EReal) (b : Fin 4) (l : Fin 1024)
    (h : ∀ r : Fin 256, G (ix3 b r l) = g (r.val))
    (w3 : W3 (ix3 (0 : Fin 1) (0 : Fin 1) l) = w 3) (w2 : W2 (ix3 (0 : Fin 1) (0 : Fin 1) l) = w 2)
    (w1 : W1 (ix3 (0 : Fin 1) (0 : Fin 1) l) = w 1) (w0 : W0 (ix3 (0 : Fin 1) (0 : Fin 1) l) = w 0) (t : Fin 256) :
    extractStridedSlice S4x256x1024 ![0, 1, 0] (addf (addf (addf
        (pad S4x259x1024 ![0, 3, 0] ![0, 0, 0] ![0, 0, 0] (wOne G W3) none0 pads_S4x256x1024_S4x259x1024_000_300_000 h_S_)
        (pad S4x259x1024 ![0, 2, 0] ![0, 1, 0] ![0, 0, 0] (wOne G W2) none0 pads_S4x256x1024_S4x259x1024_000_210_000 h_S_))
        (pad S4x259x1024 ![0, 1, 0] ![0, 2, 0] ![0, 0, 0] (wOne G W1) none0 pads_S4x256x1024_S4x259x1024_000_120_000 h_S_))
        (pad S4x259x1024 ![0, 0, 0] ![0, 3, 0] ![0, 0, 0] (wOne G W0) none0 pads_S4x256x1024_S4x259x1024_000_030_000 h_S_)) slices_S4x259x1024_S4x256x1024_0_1_0 (ix3 b t l)
      = spread g w t.val := by
  have ht := t.isLt
  pointwise
  refine (add_right_comm _ _ _).trans ?_
  refine congrArg₂ (· + ·) (congrArg₂ (· + ·) (congrArg₂ (· + ·) ?_ ?_) ?_) ?_
  · by_cases c : 2 ≤ t.val
    · rw [dif_pos (by omega), if_pos (by omega), w3]
      exact congrArg (· * w 3) ((h _).trans (congrArg g (by dsimp only; omega)))
    · rw [dif_neg (by omega), if_neg (by omega)]
  · by_cases c : 1 ≤ t.val
    · rw [dif_pos (by omega), if_pos (by omega), w2]
      exact congrArg (· * w 2) ((h _).trans (congrArg g (by dsimp only; omega)))
    · rw [dif_neg (by omega), if_neg (by omega)]
  · by_cases c : t.val < 255
    · rw [dif_pos (by omega), if_pos (by omega), w0]
      exact congrArg (· * w 0) ((h _).trans (congrArg g (by dsimp only; omega)))
    · rw [dif_neg (by omega), if_neg (by omega)]
  · exact congrArg₂ (· * ·) (h t) w1

theorem dx_one (b : Fin 4) (t : Fin 256) (l : Fin 1024) :
    extractStridedSlice S4x256x1024 ![0, 1, 0] (res_main_v177 V) slices_S4x259x1024_S4x256x1024_0_1_0 (ix3 b t l)
      = spread (runG V b.val l.val) (runW V l.val) t.val := by
  obtain ⟨w0, w1, w2, w3, -⟩ := w_at V l
  exact flow_one _ _ _ _ _ _ _ b l (fun r => g_one V b r l) w3 w2 w1 w0 t

/-- The two stretches' gradients set one after the other. -/
theorem joined (A : FVec Ideal S4x2048x1024 .f32) (B : FVec Ideal S4x256x1024 .f32) (f : ℕ → EReal) (b : Fin 4) (l : Fin 1024)
    (ha : ∀ t : Fin 2048, A (ix3 b t l) = f (256 + t.val)) (hb : ∀ t : Fin 256, B (ix3 b t l) = f t.val) (t : Fin 2304) :
    addf (pad S4x2304x1024 ![0, 256, 0] ![0, 0, 0] ![0, 0, 0] A none0 pads_S4x2048x1024_S4x2304x1024_000_25600_000 h_S_)
      (pad S4x2304x1024 ![0, 0, 0] ![0, 2048, 0] ![0, 0, 0] B none0 pads_S4x256x1024_S4x2304x1024_000_020480_000 h_S_) (ix3 b t l)
      = f t.val := by
  have ht := t.isLt
  pointwise
  by_cases c : t.val < 256
  · rw [dif_neg (by omega), dif_pos (by omega), zero_add]
    exact hb _
  · rw [dif_pos (by omega), dif_neg (by omega), add_zero]
    exact (ha _).trans (congrArg f (by dsimp only; omega))

/-- A gradient as reference.py's operations give it. -/
def hostX : FVec Ideal S4x2304x1024 .f32 :=
  addf (pad S4x2304x1024 ![0, 256, 0] ![0, 0, 0] ![0, 0, 0] (extractStridedSlice S4x2048x1024 ![0, 1, 0] (res_main_v124 V) slices_S4x2051x1024_S4x2048x1024_0_1_0) none0 pads_S4x2048x1024_S4x2304x1024_000_25600_000 h_S_) (pad S4x2304x1024 ![0, 0, 0] ![0, 2048, 0] ![0, 0, 0] (extractStridedSlice S4x256x1024 ![0, 1, 0] (res_main_v177 V) slices_S4x259x1024_S4x256x1024_0_1_0) none0 pads_S4x256x1024_S4x2304x1024_000_020480_000 h_S_)

/-- A gradient as reference.py's operations give it. -/
def hostDw : FVec Ideal S4x1024 .f32 :=
  addf (addf (addf (addf (addf (addf (addf (row3 (colTwo (mulf (res_main_v65 V) (res_main_v78 V)))) (row2 (colTwo (mulf (res_main_v58 V) (res_main_v78 V))))) (row1 (colTwo (mulf (res_main_v51 V) (res_main_v78 V))))) (row0 (colTwo (mulf (res_main_v45 V) (res_main_v78 V))))) (row3 (colOne (mulf (res_main_v28 V) (res_main_v77 V))))) (row2 (colOne (mulf (res_main_v21 V) (res_main_v77 V))))) (row1 (colOne (mulf (res_main_v14 V) (res_main_v77 V))))) (row0 (colOne (mulf (res_main_v8 V) (res_main_v77 V))))

/-- A gradient as reference.py's operations give it. -/
def hostB : FVec Ideal S1x1024 .f32 :=
  addf (colTwo (res_main_v78 V)) (colOne (res_main_v77 V))

/-- The three gradients of reference.py, entry by entry. -/
theorem host_x (V : Valuation τ sig (Elt Ideal)) (b : Fin 4) (t : Fin 2304) (l : Fin 1024) :
    hostX V (ix3 b t l) = spread (runG V b.val l.val) (runW V l.val) t.val :=
  joined _ _ _ b l (fun t => dx_two V b t l) (fun t => dx_one V b t l) t

theorem host_w (V : Valuation τ sig (Elt Ideal)) (k : Fin 4) (l : Fin 1024) :
    hostDw V (ix2 k l) = ∑ b ∈ Finset.range 4, weigh (runU V b l.val) (runG V b l.val) k.val := by
  refine (rows_sum _ _ _ _ _ _ _ _
    (fun k => ∑ b : Fin 4, ∑ t : Fin 2048, tap (runU V b.val l.val) k (256 + t.val) * runG V b.val l.val (256 + t.val))
    (fun k => ∑ b : Fin 4, ∑ t : Fin 256, tap (runU V b.val l.val) k t.val * runG V b.val l.val t.val) l
    ?_ ?_ ?_ ?_ ?_ ?_ ?_ ?_ k).trans (weigh_split (fun b => runU V b l.val) (fun b => runG V b l.val) k.val)
  · exact sum_two _ fun b t => congrArg₂ (· * ·) (tap3_two V b t l) (g_two V b t l)
  · exact sum_two _ fun b t => congrArg₂ (· * ·) (tap2_two V b t l) (g_two V b t l)
  · exact sum_two _ fun b t => congrArg₂ (· * ·) (tap1_two V b t l) (g_two V b t l)
  · exact sum_two _ fun b t => congrArg₂ (· * ·) (tap0_two V b t l) (g_two V b t l)
  · exact sum_one _ fun b t => congrArg₂ (· * ·) (tap3_one V b t l) (g_one V b t l)
  · exact sum_one _ fun b t => congrArg₂ (· * ·) (tap2_one V b t l) (g_one V b t l)
  · exact sum_one _ fun b t => congrArg₂ (· * ·) (tap1_one V b t l) (g_one V b t l)
  · exact sum_one _ fun b t => congrArg₂ (· * ·) (tap0_one V b t l) (g_one V b t l)

theorem host_b (V : Valuation τ sig (Elt Ideal)) (l : Fin 1024) :
    hostB V (ix2 (0 : Fin 1) l) = ∑ b ∈ Finset.range 4, total (runG V b l.val) := by
  exact (congrArg₂ (· + ·) (sum_two _ fun b t => g_two V b t l) (sum_one _ fun b t => g_one V b t l)).trans (total_split (fun b => runG V b l.val))

end Cert.Reference21Ideal.Value

end
-- ==== Proof.Conv21.lean ====
module

public import proofs.«01_k».proof.Proof.ConvRows
public import proofs.«01_k».proof.Defs

/-! The convolution's backward call has reference.py's three gradients. -/

@[expose] public section

set_option maxRecDepth 16384

noncomputable section

namespace Cert.Proof

open Idealize.ShloMosaic Idealize.ShloMosaic.TcCoe Idealize.SL.Sem
open Cert.Conv Cert.Reference21Ideal.Value Cert.Kernel21Ideal.Gen

section
variable (m : (ℓ : Loc Cert.Kernel21Ideal.nD Cert.Kernel21Ideal.τ Cert.Kernel21Ideal.sig) → Buf (Elt Ideal) ℓ) (c : Dev Cert.Kernel21Ideal.nD)
  (m' : (ℓ : Loc Cert.Reference21Ideal.nD Cert.Reference21Ideal.τ Cert.Reference21Ideal.sig) → Buf (Elt Ideal) ℓ)
  (e0 : m' (c.tc.loc Cert.Reference21Ideal.main_arg0) = m (c.tc.loc Cert.Kernel21Ideal.main_arg0))
  (e1 : m' (c.tc.loc Cert.Reference21Ideal.main_arg1) = m (c.tc.loc Cert.Kernel21Ideal.main_arg1))
  (e3 : m' (c.tc.loc Cert.Reference21Ideal.main_arg3) = m (c.tc.loc Cert.Kernel21Ideal.main_arg3))
  (e4 : m' (c.tc.loc Cert.Reference21Ideal.main_arg4) = m (c.tc.loc Cert.Kernel21Ideal.main_arg4))

include e0 in
theorem same_u (b q : ℕ) : runU (StableHlo.launchContents m' c) b q = seqU m c b q :=
  funext fun t => congrArg (fun X : (⟨3, ![4, 2304, 5120]⟩ : Shape).Idx → EReal => cell X b t (2048 + q)) e0

include e3 e4 in
theorem same_g (b q : ℕ) : runG (StableHlo.launchContents m' c) b q = seqG m c b q :=
  funext fun t => congrArg₂ (fun X Y : (⟨3, ![4, 2304, 1024]⟩ : Shape).Idx → EReal => cell X b t q + cell Y b t q) e3 e4

include e1 in
theorem same_weights (q : ℕ) : runW (StableHlo.launchContents m' c) q = seqW m c q :=
  funext fun k => congrArg (fun X : (⟨2, ![4, 1024]⟩ : Shape).Idx → EReal => Cert.Product.entry X k q) e1
include e1 e3 e4 in
theorem same_x : (hostX (StableHlo.launchContents m' c)) = gradX m c := by
  funext (i : (⟨3, ![4, 2304, 1024]⟩ : Shape).Idx)
  obtain ⟨b, t, l, rfl⟩ : ∃ (b : Fin 4) (t : Fin 2304) (l : Fin 1024), i = ix3 b t l := ⟨i 0, i 1, i 2, eq_ix3 i⟩
  refine (host_x (StableHlo.launchContents m' c) b t l).trans ?_
  rw [same_g m c m' e3 e4, same_weights m c m' e1]
  rfl

include e0 e3 e4 in
theorem same_w : (hostDw (StableHlo.launchContents m' c)) = gradW m c := by
  funext (i : (⟨2, ![4, 1024]⟩ : Shape).Idx)
  obtain ⟨k, l, rfl⟩ : ∃ (k : Fin 4) (l : Fin 1024), i = ix2 k l := ⟨i 0, i 1, eq_ix2 i⟩
  refine (host_w (StableHlo.launchContents m' c) k l).trans ?_
  refine Finset.sum_congr rfl fun b _ => ?_
  rw [same_g m c m' e3 e4, same_u m c m' e0]
  rfl

include e3 e4 in
theorem same_b : (hostB (StableHlo.launchContents m' c)) = gradB m c := by
  funext (i : (⟨2, ![1, 1024]⟩ : Shape).Idx)
  obtain ⟨l, rfl⟩ : ∃ (l : Fin 1024), i = ix2 (0 : Fin 1) l := ⟨i 1, (eq_ix2 i).trans (congrArg (fun z : Fin 1 => ix2 z (i 1)) (Subsingleton.elim _ _))⟩
  refine (host_b (StableHlo.launchContents m' c) l).trans ?_
  refine Finset.sum_congr rfl fun b _ => ?_
  rw [same_g m c m' e3 e4]
  rfl

end

theorem quiescent_Reference21Ideal : quiescent_Reference21Ideal := fun m ρ _ =>
  (θ_run Cert.Reference21Ideal.defs _ _).mono (fun r h => ⟨fun c => (h c).2.2.2, sem_eq_zero_of_no_sems (by decide) r.2⟩)
    (Cert.Reference21Ideal.Value.run (F := Ideal) m ρ)

theorem algebraic_Kernel21Ideal_Reference21Ideal : algebraic_Kernel21Ideal_Reference21Ideal := by
  intro m ρ m' ρ' _ hagree
  refine ⟨_, _, _, Cert.Kernel21Ideal.Gen.run_grads m ρ, ?_⟩
  refine (θ_run Cert.Reference21Ideal.defs _ _).mono (fun _ h c => ⟨?_, ?_, ?_, (h c).2.2.2⟩) (Cert.Reference21Ideal.Value.run (F := Ideal) m' ρ')
  · exact (h c).1.trans (same_x m c m' (hagree c).2.1 (hagree c).2.2.2.1 (hagree c).2.2.2.2)
  · exact (h c).2.1.trans (same_w m c m' (hagree c).1 (hagree c).2.2.2.1 (hagree c).2.2.2.2)
  · exact (h c).2.2.1.trans (same_b m c m' (hagree c).2.2.2.1 (hagree c).2.2.2.2)

end Cert.Proof

end
-- ==== Proof.GateMath.lean ====
module

public import Idealize.ShloMosaic.Lib.Pointwise

/-! The gradient through the gated norm of the recurrence's output and through the gate, on plain numbers. -/

@[expose] public section

noncomputable section

namespace Cert.Gate

open Idealize.ShloMosaic

/-- The gate `z · σ(z)`, and a normed entry before the norm. -/
def sil (z : EReal) : EReal := z * Ideal.logistic z
def pre (y x z d : EReal) : EReal := (y + d * x) * sil z

/-- The mean square of a row with the guard added; how far the row's scale moves; the gradient before the norm. -/
def msq (u : Fin 1024 → EReal) : EReal :=
  Ideal.div (∑ k, u k * u k) (Ideal.ofBits .f32 0x44800000#32) + Ideal.ofBits .f32 0x358637BD#32
def lean (u e : Fin 1024 → EReal) : EReal :=
  Ideal.div ((∑ k, u k * e k) * (Ideal.ofBits .f32 0xBF000000#32 * Ideal.div (Ideal.rsqrt (msq u)) (msq u))) (Ideal.ofBits .f32 0x44800000#32)
def back (u e : Fin 1024 → EReal) (l : Fin 1024) : EReal :=
  e l * Ideal.rsqrt (msq u) + u l * lean u e + lean u e * u l

/-- The gradient of the gate's argument. -/
def backZ (b y x z d : EReal) : EReal :=
  (y + d * x) * b * Ideal.logistic z + z * ((y + d * x) * b) * (Ideal.logistic z * (1 - Ideal.logistic z))

/-- The curved gate: its `tanh`, its factor, the gradient of what it multiplies and of its argument. -/
def bend (g : EReal) : EReal :=
  Ideal.tanh (Ideal.ofBits .f32 0x3F4C422A#32 * (g + Ideal.ofBits .f32 0x3D372713#32 * (g * (g * g))))
def part (g : EReal) : EReal := Ideal.ofBits .f32 0x3F000000#32 * (1 + bend g)
def backH (c g : EReal) : EReal := c * (g * part g)
def inner (c g h : EReal) : EReal :=
  Ideal.ofBits .f32 0x3F4C422A#32 * (Ideal.ofBits .f32 0x3F000000#32 * (g * (h * c)) * ((1 + bend g) * (1 - bend g)))
def backG (c g h : EReal) : EReal :=
  h * c * part g + inner c g h + Ideal.ofBits .f32 0x3D372713#32 * inner c g h * (Ideal.ofBits .f32 0x40400000#32 * (g * g))

/-- Twice a number is the number added to itself. -/
theorem twice (s u : EReal) : s * (Ideal.ofBits .f32 0x40000000#32 * u) = u * s + s * u := by
  have h : Ideal.ofBits .f32 0x40000000#32 = 1 + 1 := by
    rw [one_add_one_eq_two]
    simp [Ideal.ofBits, Ideal.ieee, -EReal.coe_mul]; norm_num; rfl
  rw [h, mul_left_comm, mul_comm u s, EReal.right_distrib_of_nonneg zero_le_one zero_le_one, one_mul]

theorem back_eq (u e : Fin 1024 → EReal) (l : Fin 1024) :
    e l * Ideal.rsqrt (msq u) + lean u e * (Ideal.ofBits .f32 0x40000000#32 * u l) = back u e l := by
  rw [twice, ← add_assoc]; rfl

theorem lo (k : Fin 1024) : k.val < 2048 := by omega
theorem hi (k : Fin 1024) : 1024 + k.val < 2048 := by omega
theorem hd (k : Fin 1024) : k.val / 64 < 128 := by omega

/-- The arrays that the gradient is taken at, and the output's cotangents. -/
structure Ins where
  y0 : (⟨3, ![4, 2304, 1024]⟩ : Shape).Idx → EReal
  y1 : (⟨3, ![4, 2304, 1024]⟩ : Shape).Idx → EReal
  xs : (⟨3, ![4, 2304, 1024]⟩ : Shape).Idx → EReal
  pr : (⟨3, ![4, 2304, 5120]⟩ : Shape).Idx → EReal
  h0 : (⟨3, ![4, 2304, 1024]⟩ : Shape).Idx → EReal
  h1 : (⟨3, ![4, 2304, 1024]⟩ : Shape).Idx → EReal
  sd : (⟨1, ![16]⟩ : Shape).Idx → EReal
  sn : (⟨2, ![1, 1024]⟩ : Shape).Idx → EReal
  ct : (⟨3, ![4, 2304, 2048]⟩ : Shape).Idx → EReal

namespace Ins
variable (a : Ins) (b : Fin 4) (t : Fin 2304)
def Y (k : Fin 1024) : EReal := a.y0 (ix3 b t k) + a.y1 (ix3 b t k)
def X (k : Fin 1024) : EReal := a.xs (ix3 b t k)
def Z (k : Fin 1024) : EReal := a.pr (ix3 b t ⟨k.val, by omega⟩)
def G (k : Fin 1024) : EReal := a.pr (ix3 b t ⟨1024 + k.val, by omega⟩)
def H (k : Fin 1024) : EReal := a.h0 (ix3 b t k) + a.h1 (ix3 b t k)
def D (k : Fin 1024) : EReal := a.sd (ix1 ⟨k.val / 64, by omega⟩)
def E (k : Fin 1024) : EReal := a.ct (ix3 b t ⟨k.val, by omega⟩) * a.sn (ix2 (0 : Fin 1) k)
def C (k : Fin 1024) : EReal := a.ct (ix3 b t ⟨1024 + k.val, by omega⟩)
def U (k : Fin 1024) : EReal := pre (a.Y b t k) (a.X b t k) (a.Z b t k) (a.D k)

/-- The five gradients of a token's channel. -/
def gY (k : Fin 1024) : EReal := back (a.U b t) (a.E b t) k * sil (a.Z b t k)
def gX (k : Fin 1024) : EReal := a.D k * (back (a.U b t) (a.E b t) k * sil (a.Z b t k))
def gZ (k : Fin 1024) : EReal := backZ (back (a.U b t) (a.E b t) k) (a.Y b t k) (a.X b t k) (a.Z b t k) (a.D k)
def gG (k : Fin 1024) : EReal := backG (a.C b t k) (a.G b t k) (a.H b t k)
def gH (k : Fin 1024) : EReal := backH (a.C b t k) (a.G b t k)

/-- What a token adds to the gradients of a head's number and of the gain. -/
def gS (j : Fin 128) : EReal := ∑ k : Fin 1024, if j.val = k.val / 64 then a.gY b t k * a.X b t k else 0
def gN (k : Fin 1024) : EReal := a.U b t k * Ideal.rsqrt (msq (a.U b t)) * a.ct (ix3 b t ⟨k.val, by omega⟩)
/-- The first row of a table holds the head's gradient, the other rows nothing. -/
def sS (i : Fin 8) (j : Fin 128) : EReal := if i.val = 0 then a.gS b t j else 0
end Ins

/-- A term of each token, by the token's number. -/
def token (f : Fin 4 → Fin 2304 → EReal) (K : ℕ) : EReal := if h : K < 9216 then f ⟨K / 2304, by omega⟩ ⟨K % 2304, by omega⟩ else 0

theorem token_at (f : Fin 4 → Fin 2304 → EReal) (b : Fin 4) (t : Fin 2304) (K : ℕ) (h : K = b.val * 2304 + t.val) : f b t = token f K := by
  unfold token
  rw [dif_pos (by omega)]
  congr 1 <;> exact Fin.ext (by dsimp only; omega)

theorem tokens (f : Fin 4 → Fin 2304 → EReal) : ∑ K ∈ Finset.range 9216, token f K = ∑ b, ∑ t, f b t := by
  rw [Finset.sum_range, ← Fintype.sum_prod_type', ← (finProdFinEquiv (m := 4) (n := 2304)).sum_comp]
  exact Finset.sum_congr rfl fun x _ => (token_at f x.1 x.2 _ (by simp [finProdFinEquiv]; omega)).symm

/-- The channels of a head. -/
theorem headed (g : Fin 1024 → EReal) (j : Fin 16) : (∑ k : Fin 1024, if j.val = k.val / 64 then g k else 0) = ∑ l : Fin 64, g ⟨j.val * 64 + l.val, by omega⟩ := by
  rw [← (finProdFinEquiv (m := 16) (n := 64)).sum_comp, Fintype.sum_prod_type, Finset.sum_eq_single j]
  · exact Finset.sum_congr rfl fun l _ => (if_pos (by simp [finProdFinEquiv]; omega)).trans (congrArg g (Fin.ext (by simp [finProdFinEquiv]; omega)))
  · exact fun i _ h => Finset.sum_eq_zero fun l _ => if_neg fun e => h (Fin.ext (by simp [finProdFinEquiv] at e; omega))
  · exact fun h => absurd (Finset.mem_univ _) h

end Cert.Gate

end
-- ==== Proof.GateBlock.lean ====
module

public import proofs.«01_k».proof.Proof.Gen.Kernel22Ideal.Value
public import proofs.«01_k».proof.Proof.GateMath
public import Idealize.ShloMosaic.Lib.KernelVsHost
public import Idealize.ShloMosaic.Lib.ValueLayout

/-! What one run of the body of the gated norm's backward call computes, entry by entry. -/

@[expose] public section

noncomputable section

namespace Cert.Kernel22Ideal.Gen

open Idealize.ShloMosaic Idealize.ShloMosaic.TcCoe Idealize.SL.Sem
open Cert.Gate

abbrev rows := iota .tc S128x1024 32 [0] iota_S128x1024_d0_w32
abbrev cols := iota .tc S128x1024 32 [1] iota_S128x1024_d1_w32
abbrev pos := Scalar.cmpi .sgt 64#32 0#32

/-- The table that repeats each head's number over its channels. -/
abbrev table : FVec Ideal S128x1024 .f32 := k0_pay13 rows cols 64#32 k0_pay11 k0_pay12 pos

set_option maxRecDepth 65536 in
theorem head_word : ∀ k : Fin 1024, Scalar.select
      (IntOp.andi (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32)) (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by decide +kernel

theorem table_at (j : Fin 128) (k : Fin 1024) : table (ix2 j k) = if j.val = k.val / 64 then 1 else 0 := by
  unfold table
  pointwise [k0_pay13, k0_pay11, k0_pay12]
  rw [head_word k]
  by_cases h : j.val = k.val / 64
  · rw [if_pos h, h]
    simp only [IntOp.cmpi, beq_self_eq_true]
    show (((1#32 : BitVec 32).toInt : ℝ) : EReal) = 1
    norm_num
  · rw [if_neg h]
    have h' : ¬BitVec.ofNat 32 (k.val / 64) = BitVec.ofNat 32 j.val := fun e => h (by
      have := congrArg BitVec.toNat e
      simp only [BitVec.toNat_ofNat] at this
      omega)
    rw [show IntOp.cmpi CmpIPredicate.eq (BitVec.ofNat 32 (k.val / 64)) (BitVec.ofNat 32 j.val) = 0#1 from congrArg BitVec.ofBool (beq_eq_false_iff_ne.mpr h')]
    show (((0#32 : BitVec 32).toInt : ℝ) : EReal) = 0
    norm_num

variable (x0 x1 x2 x3 x4 x5 x6 : Vec Ideal S1x256x1024 .f32) (x7 : Vec Ideal S8x128 .f32) (x8 : Vec Ideal S1x1024 .f32)
  (x9 : Vec Ideal S1x256x2048 .f32)

/-- The parts of the body that the stored blocks share. -/
abbrev skip : FVec Ideal S1x1024 .f32 := k0_pay14 (k0_pay10 x7) rows cols 64#32 k0_pay11 k0_pay12 pos
abbrev sumB : FVec Ideal S256x1024 .f32 := k0_pay15 (k0_pay3 x0) (k0_pay4 x1) (k0_pay5 x2) (k0_pay10 x7) rows cols 64#32 k0_pay11 k0_pay12 pos
abbrev preB : FVec Ideal S256x1024 .f32 := k0_pay19 (k0_pay3 x0) (k0_pay4 x1) (k0_pay5 x2) (k0_pay6 x3) (k0_pay10 x7) rows cols 64#32 k0_pay11 k0_pay12 pos
abbrev rootB : FVec Ideal S256x1 .f32 := k0_pay21 (k0_pay3 x0) (k0_pay4 x1) (k0_pay5 x2) (k0_pay6 x3) (k0_pay10 x7) rows cols 64#32 k0_pay11 k0_pay12 pos
abbrev moveB : FVec Ideal S256x1 .f32 := k0_pay22 (k0_pay3 x0) (k0_pay4 x1) (k0_pay5 x2) (k0_pay6 x3) (k0_pay10 x7) rows cols 64#32 k0_pay11 k0_pay12 pos

/-- The blocks that one run stores. -/
def keepY : FVec Ideal S1x256x1024 .f32 := k0_pay42 (k0_pay18 (k0_pay6 x3)) (preB x0 x1 x2 x3 x7) (k0_pay37 x8 (rootB x0 x1 x2 x3 x7) x9)
  (k0_pay38 x8 (preB x0 x1 x2 x3 x7) (moveB x0 x1 x2 x3 x7) x9)
def keepX : FVec Ideal S1x256x1024 .f32 := k0_pay43 (skip x7) (k0_pay18 (k0_pay6 x3)) (preB x0 x1 x2 x3 x7) (k0_pay37 x8 (rootB x0 x1 x2 x3 x7) x9)
  (k0_pay38 x8 (preB x0 x1 x2 x3 x7) (moveB x0 x1 x2 x3 x7) x9)
def keepZ : FVec Ideal S1x256x1024 .f32 := k0_pay44 (k0_pay6 x3) (sumB x0 x1 x2 x7) (k0_pay16 (k0_pay6 x3)) (k0_pay17 (k0_pay6 x3))
  (preB x0 x1 x2 x3 x7) (k0_pay37 x8 (rootB x0 x1 x2 x3 x7) x9) (k0_pay38 x8 (preB x0 x1 x2 x3 x7) (moveB x0 x1 x2 x3 x7) x9)
def keepG : FVec Ideal S1x256x1024 .f32 := k0_pay45 (k0_pay34 (k0_pay7 x4) (k0_pay24 (k0_pay8 x5) (k0_pay9 x6)) (k0_pay25 (k0_pay7 x4)) (k0_pay26 (k0_pay7 x4)) k0_pay27 x9)
def keepH : FVec Ideal S1x256x1024 .f32 := k0_pay46 (k0_pay33 (k0_pay7 x4) (k0_pay25 (k0_pay7 x4)) k0_pay27 x9)

/-- What a run adds to the two sums. -/
def addD : FVec Ideal S8x128 .f32 := k0_pay41 (k0_pay5 x2) table (k0_pay18 (k0_pay6 x3)) (preB x0 x1 x2 x3 x7) (k0_pay37 x8 (rootB x0 x1 x2 x3 x7) x9)
  (k0_pay38 x8 (preB x0 x1 x2 x3 x7) (moveB x0 x1 x2 x3 x7) x9)
def addN : FVec Ideal S1x1024 .f32 := k0_pay35 (k0_pay23 (k0_pay3 x0) (k0_pay4 x1) (k0_pay5 x2) (k0_pay6 x3) (k0_pay10 x7) rows cols 64#32 k0_pay11 k0_pay12 pos) x9

theorem addN_at (k : Fin 1024) : addN x0 x1 x2 x3 x7 x9 (ix2 (0 : Fin 1) k)
    = ∑ r : Fin 256, preB x0 x1 x2 x3 x7 (ix2 r k) * rootB x0 x1 x2 x3 x7 (ix2 r (0 : Fin 1)) * x9 (ix3 (0 : Fin 1) r ⟨k.val, lo k⟩) := by
  unfold addN k0_pay35 k0_pay23
  pointwise [k0_pay31, k0_pay30]

theorem addD_at (i : Fin 8) (j : Fin 128) : addD x0 x1 x2 x3 x7 x8 x9 (ix2 i j)
    = ∑ r : Fin 256, if i.val = 0 then ∑ k : Fin 1024, if j.val = k.val / 64 then keepY x0 x1 x2 x3 x7 x8 x9 (ix3 (0 : Fin 1) r k) * x2 (ix3 (0 : Fin 1) r k) else 0 else 0 := by
  have e := table_at j
  unfold addD keepY k0_pay41 k0_pay42
  generalize k0_pay40 (F := Ideal) _ _ _ _ = U at *
  generalize table = V at *
  pointwise [k0_pay5]
  by_cases h : i.val = 0
  · simp only [h, zero_lt_one, dite_true, if_true]
    rw [Finset.sum_comm]
    refine Finset.sum_congr rfl fun k _ => ?_
    rw [e]
    by_cases hj : j.val = k.val / 64
    · simp only [if_pos hj, mul_one]
    · simp only [if_neg hj, mul_zero, Finset.sum_const_zero]
  · simp only [h, show ¬i.val < 1 by omega, dite_false, if_false, zero_mul, Finset.sum_const_zero]

section Rows
variable (r : Fin 256) (Y X Z G H A C E D : Fin 1024 → EReal)
  (hY : ∀ k : Fin 1024, (x0 (ix3 (0 : Fin 1) r k) + x1 (ix3 (0 : Fin 1) r k) : EReal) = Y k)
  (hX : ∀ k : Fin 1024, x2 (ix3 (0 : Fin 1) r k) = X k) (hZ : ∀ k : Fin 1024, x3 (ix3 (0 : Fin 1) r k) = Z k)
  (hG : ∀ k : Fin 1024, x4 (ix3 (0 : Fin 1) r k) = G k)
  (hH : ∀ k : Fin 1024, (x5 (ix3 (0 : Fin 1) r k) + x6 (ix3 (0 : Fin 1) r k) : EReal) = H k)
  (hE : ∀ k : Fin 1024, (x9 (ix3 (0 : Fin 1) r ⟨k.val, lo k⟩) * x8 (ix2 (0 : Fin 1) k) : EReal) = E k)
  (hC : ∀ k : Fin 1024, x9 (ix3 (0 : Fin 1) r ⟨1024 + k.val, hi k⟩) = C k)
  (hD : ∀ k : Fin 1024, x7 (ix2 (0 : Fin 8) ⟨k.val / 64, hd k⟩) = D k)

include hD in
theorem skip_at (k : Fin 1024) : skip x7 (ix2 (0 : Fin 1) k) = D k := by
  have e := table_at
  unfold table at e
  unfold skip
  generalize rows = a at e ⊢
  generalize cols = b at e ⊢
  generalize k0_pay11 = p at e ⊢
  generalize k0_pay12 = q at e ⊢
  pointwise [k0_pay14, k0_pay10]
  rw [Finset.sum_eq_single (⟨k.val / 64, by omega⟩ : Fin 128)]
  · rw [e, if_pos rfl, mul_one]
    exact hD k
  · intro j _ hj
    rw [e, if_neg (fun h => hj (Fin.ext h)), mul_zero]
  · exact fun h => absurd (Finset.mem_univ _) h

include hY hX hD in
theorem sum_at (k : Fin 1024) : sumB x0 x1 x2 x7 (ix2 r k) = Y k + D k * X k := by
  have e := skip_at x7 D hD k
  unfold skip at e
  unfold sumB
  pointwise [k0_pay15, k0_pay3, k0_pay4, k0_pay5]
  rw [e, hY, hX]

include hY hX hZ hD in
theorem pre_at (k : Fin 1024) : preB x0 x1 x2 x3 x7 (ix2 r k) = pre (Y k) (X k) (Z k) (D k) := by
  have e := sum_at x0 x1 x2 x7 r Y X D hY hX hD k
  unfold sumB at e
  unfold preB
  pointwise [k0_pay19, k0_pay18, k0_pay16, k0_pay6]
  rw [e, hZ]; rfl

include hY hX hZ hD in
theorem root_at : rootB x0 x1 x2 x3 x7 (ix2 r (0 : Fin 1)) = Ideal.rsqrt (msq fun k => pre (Y k) (X k) (Z k) (D k)) := by
  have e := pre_at x0 x1 x2 x3 x7 r Y X Z D hY hX hZ hD
  unfold preB at e
  unfold rootB
  pointwise [k0_pay21, k0_pay20]
  simp only [e]; rfl

include hY hX hZ hD hE in
theorem back_at (k : Fin 1024) : k0_pay39 (preB x0 x1 x2 x3 x7) (k0_pay37 x8 (rootB x0 x1 x2 x3 x7) x9)
      (k0_pay38 x8 (preB x0 x1 x2 x3 x7) (moveB x0 x1 x2 x3 x7) x9) (ix2 r k)
    = back (fun k => pre (Y k) (X k) (Z k) (D k)) E k := by
  have e := pre_at x0 x1 x2 x3 x7 r Y X Z D hY hX hZ hD
  have f := root_at x0 x1 x2 x3 x7 r Y X Z D hY hX hZ hD
  have g : moveB x0 x1 x2 x3 x7 (ix2 r (0 : Fin 1)) = Ideal.ofBits .f32 0xBF000000#32
      * Ideal.div (Ideal.rsqrt (msq fun k => pre (Y k) (X k) (Z k) (D k))) (msq fun k => pre (Y k) (X k) (Z k) (D k)) := by
    unfold preB at e
    unfold moveB
    pointwise [k0_pay22, k0_pay21, k0_pay20]
    simp only [e]; rfl
  generalize preB x0 x1 x2 x3 x7 = U at *
  generalize rootB x0 x1 x2 x3 x7 = R at *
  generalize moveB x0 x1 x2 x3 x7 = M at *
  pointwise [k0_pay39, k0_pay37, k0_pay38, k0_pay36, k0_pay31, k0_pay30]
  simp only [Fin.sum_univ_one, e, f, g, hE]
  rfl

include hY hX hZ hD hE in
theorem keepY_at (k : Fin 1024) : keepY x0 x1 x2 x3 x7 x8 x9 (ix3 (0 : Fin 1) r k)
    = back (fun k => pre (Y k) (X k) (Z k) (D k)) E k * sil (Z k) := by
  have e := back_at x0 x1 x2 x3 x7 x8 x9 r Y X Z E D hY hX hZ hE hD k
  unfold keepY
  generalize preB x0 x1 x2 x3 x7 = U at *
  generalize k0_pay37 x8 _ x9 = R at *
  generalize k0_pay38 x8 _ _ x9 = M at *
  pointwise [k0_pay42, k0_pay40, k0_pay18, k0_pay16, k0_pay6]
  rw [e, hZ]; rfl

include hY hX hZ hD hE in
theorem keepX_at (k : Fin 1024) : keepX x0 x1 x2 x3 x7 x8 x9 (ix3 (0 : Fin 1) r k)
    = D k * (back (fun k => pre (Y k) (X k) (Z k) (D k)) E k * sil (Z k)) := by
  have e := back_at x0 x1 x2 x3 x7 x8 x9 r Y X Z E D hY hX hZ hE hD k
  have f := skip_at x7 D hD k
  unfold keepX
  generalize preB x0 x1 x2 x3 x7 = U at *
  generalize k0_pay37 x8 _ x9 = R at *
  generalize k0_pay38 x8 _ _ x9 = M at *
  generalize skip x7 = S at *
  pointwise [k0_pay43, k0_pay40, k0_pay18, k0_pay16, k0_pay6]
  rw [e, f, hZ]; rfl

include hY hX hZ hD hE in
theorem keepZ_at (k : Fin 1024) : keepZ x0 x1 x2 x3 x7 x8 x9 (ix3 (0 : Fin 1) r k)
    = backZ (back (fun k => pre (Y k) (X k) (Z k) (D k)) E k) (Y k) (X k) (Z k) (D k) := by
  have e := back_at x0 x1 x2 x3 x7 x8 x9 r Y X Z E D hY hX hZ hE hD k
  have f := sum_at x0 x1 x2 x7 r Y X D hY hX hD k
  unfold keepZ
  generalize preB x0 x1 x2 x3 x7 = U at *
  generalize k0_pay37 x8 _ x9 = R at *
  generalize k0_pay38 x8 _ _ x9 = M at *
  generalize sumB x0 x1 x2 x7 = S at *
  pointwise [k0_pay44, k0_pay16, k0_pay17, k0_pay6]
  rw [e, f, hZ]; rfl

include hG hH hC in
theorem keepG_at (k : Fin 1024) : keepG x4 x5 x6 x9 (ix3 (0 : Fin 1) r k) = backG (C k) (G k) (H k) := by
  unfold keepG
  pointwise [k0_pay45, k0_pay34, k0_pay7, k0_pay8, k0_pay9, k0_pay24, k0_pay25, k0_pay26, k0_pay27, k0_pay28, k0_pay29, k0_pay32, k0_pay30]
  rw [hG, hH, hC]; rfl

include hG hC in
theorem keepH_at (k : Fin 1024) : keepH x4 x9 (ix3 (0 : Fin 1) r k) = backH (C k) (G k) := by
  unfold keepH
  pointwise [k0_pay46, k0_pay33, k0_pay7, k0_pay25, k0_pay27, k0_pay28, k0_pay29, k0_pay32, k0_pay30]
  rw [hG, hC]; rfl

end Rows

end Cert.Kernel22Ideal.Gen

end
-- ==== Proof.GateWhole.lean ====
module

public import proofs.«01_k».proof.Proof.GateBlock
public import proofs.«01_k».proof.Proof.Product

/-! What one run of the body of the gated norm's backward call stores: the same blocks, in the first run and in a later one. -/

@[expose] public section

set_option maxRecDepth 16384

noncomputable section

namespace Cert.Kernel22Ideal.Gen

open Idealize.ShloMosaic Idealize.ShloMosaic.TcCoe Idealize.SL.Sem
open Cert.Product (ld2 canon2)

theorem offs3 : (![0, 0, 0] : Fin 3 → Nat) = fun _ => 0 := funext fun a => by fin_cases a <;> rfl

variable (m : (ℓ : Loc nD τ sig) → Buf (Elt Ideal) ℓ)

/-- What the point before left of the two sums. -/
abbrev left (c : Dev nD) (t : Fin cfg0.N) : Vec Ideal S8x128 .f32 × Vec Ideal S1x1024 .f32 := (outsAt0 m c (t.val - 1) (Nat.lt_of_le_of_lt (Nat.sub_le _ _) t.isLt)).2.2.2.2.2

/-- What the blocks of one point make. -/
abbrev tY (c : Dev nD) (t : Fin cfg0.N) := keepY (iblk m c 0 t) (iblk m c 1 t) (iblk m c 2 t) (iblk m c 3 t) (iblk m c 7 t) (iblk m c 8 t) (iblk m c 9 t)
abbrev tX (c : Dev nD) (t : Fin cfg0.N) := keepX (iblk m c 0 t) (iblk m c 1 t) (iblk m c 2 t) (iblk m c 3 t) (iblk m c 7 t) (iblk m c 8 t) (iblk m c 9 t)
abbrev tZ (c : Dev nD) (t : Fin cfg0.N) := keepZ (iblk m c 0 t) (iblk m c 1 t) (iblk m c 2 t) (iblk m c 3 t) (iblk m c 7 t) (iblk m c 8 t) (iblk m c 9 t)
abbrev tD (c : Dev nD) (t : Fin cfg0.N) := addD (iblk m c 0 t) (iblk m c 1 t) (iblk m c 2 t) (iblk m c 3 t) (iblk m c 7 t) (iblk m c 8 t) (iblk m c 9 t)
abbrev tN (c : Dev nD) (t : Fin cfg0.N) := addN (iblk m c 0 t) (iblk m c 1 t) (iblk m c 2 t) (iblk m c 3 t) (iblk m c 7 t) (iblk m c 9 t)

theorem stored (c : Dev nD) (t : Fin cfg0.N) : outsAt0 m c t.val t.isLt =
    (tY m c t, tX m c t, tZ m c t,
      keepG (iblk m c 4 t) (iblk m c 5 t) (iblk m c 6 t) (iblk m c 9 t), keepH (iblk m c 4 t) (iblk m c 9 t),
      if t.val % 36 = 0 then tD m c t else k0_pay1 (tD m c t) (left m c t).1,
      if t.val % 36 = 0 then tN m c t else k0_pay2 (tN m c t) (left m c t).2) := by
  have n : t.val < 36 := lt_of_lt_of_eq t.isLt N_0
  by_cases h0 : t.val % 36 = 0
  · rw [outsAt0_A m c t h0 (by omega) h0 (by omega), if_pos h0, if_pos h0]
    refine congrArg₂ Prod.mk ?_ (congrArg₂ Prod.mk ?_ (congrArg₂ Prod.mk ?_ (congrArg₂ Prod.mk ?_ (congrArg₂ Prod.mk ?_ (congrArg₂ Prod.mk ?_ ?_)))))
    on_goal 1 => unfold out0_A_10; rw [View.read_writes_eq_canon _ _ _ fun _ => cover0_A_10 ..]
    on_goal 2 => unfold out0_A_11; rw [View.read_writes_eq_canon _ _ _ fun _ => cover0_A_11 ..]
    on_goal 3 => unfold out0_A_12; rw [View.read_writes_eq_canon _ _ _ fun _ => cover0_A_12 ..]
    on_goal 4 => unfold out0_A_13; rw [View.read_writes_eq_canon _ _ _ fun _ => cover0_A_13 ..]
    on_goal 5 => unfold out0_A_14; rw [View.read_writes_eq_canon _ _ _ fun _ => cover0_A_14 ..]
    on_goal 6 => unfold out0_A_15; rw [View.read_writes_eq_canon _ _ _ fun _ => cover0_A_15 ..]
    on_goal 7 => unfold out0_A_16; rw [View.read_writes_eq_canon _ _ _ fun _ => cover0_A_16 ..]
    all_goals
      unfold kernelRun0_A
      dsimp only
      sl_unfold_words
      first | rw [View.canon_unit_zero (S := S1x256x1024) offs3] | rw [canon2]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread,
        View.ld_unit_zero (S := S1x256x1024) offs3, View.ld_unit_zero (S := S1x256x2048) offs3, ld2]
      rfl
  · rw [outsAt0_B m c t h0 (by omega) h0 (by omega), if_neg h0, if_neg h0]
    refine congrArg₂ Prod.mk ?_ (congrArg₂ Prod.mk ?_ (congrArg₂ Prod.mk ?_ (congrArg₂ Prod.mk ?_ (congrArg₂ Prod.mk ?_ (congrArg₂ Prod.mk ?_ ?_)))))
    on_goal 1 => unfold out0_B_10; rw [View.read_writes_eq_canon _ _ _ fun _ => cover0_B_10 ..]
    on_goal 2 => unfold out0_B_11; rw [View.read_writes_eq_canon _ _ _ fun _ => cover0_B_11 ..]
    on_goal 3 => unfold out0_B_12; rw [View.read_writes_eq_canon _ _ _ fun _ => cover0_B_12 ..]
    on_goal 4 => unfold out0_B_13; rw [View.read_writes_eq_canon _ _ _ fun _ => cover0_B_13 ..]
    on_goal 5 => unfold out0_B_14; rw [View.read_writes_eq_canon _ _ _ fun _ => cover0_B_14 ..]
    on_goal 6 => unfold out0_B_15; rw [View.read_writes_eq_canon _ _ _ fun _ => cover0_B_15 ..]
    on_goal 7 => unfold out0_B_16; rw [View.read_writes_eq_canon _ _ _ fun _ => cover0_B_16 ..]
    all_goals
      unfold kernelRun0_B
      dsimp only
      sl_unfold_words
      first | rw [View.canon_unit_zero (S := S1x256x1024) offs3] | rw [canon2]
      simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_15 t).read_unread, (hs0_16 t).read_unread,
        View.ld_unit_zero (S := S1x256x1024) offs3, View.ld_unit_zero (S := S1x256x2048) offs3, ld2]
      rfl

end Cert.Kernel22Ideal.Gen

end
-- ==== Proof.GateArrays.lean ====
module

public import proofs.«01_k».proof.Proof.GateWhole
public import proofs.«01_k».proof.Proof.Gen.Kernel22Ideal.Value
public import Idealize.ShloMosaic.Lib.Routing.OpsOne

/-! What the result arrays of the gated norm's backward call hold. -/

@[expose] public section

set_option maxRecDepth 16384

noncomputable section

namespace Cert.Kernel22Ideal.Gen

open Idealize.ShloMosaic Idealize.ShloMosaic.TcCoe Idealize.SL.Sem Idealize.ShloMosaic.Routing
open Cert.Gate

variable (m : (ℓ : Loc nD τ sig) → Buf (Elt Ideal) ℓ)

/-- The arrays as the call finds them. -/
def ins (c : Dev nD) : Ins := ⟨m ((c : Thread nD τ).loc main_arg0), m ((c : Thread nD τ).loc main_arg1), m ((c : Thread nD τ).loc main_arg2),
  m ((c : Thread nD τ).loc main_arg3), m ((c : Thread nD τ).loc main_arg4), m ((c : Thread nD τ).loc main_arg5),
  m ((c : Thread nD τ).loc main_arg6), m ((c : Thread nD τ).loc main_arg7), m ((c : Thread nD τ).loc main_arg8)⟩

theorem at3 {a b c : ℕ} (X : (⟨3, ![a, b, c]⟩ : Shape).Idx → EReal) (y : (⟨3, ![a, b, c]⟩ : Shape).Idx) (i : Fin a) (j : Fin b) (k : Fin c)
    (hi : (y 0).val = i.val) (hj : (y 1).val = j.val) (hk : (y 2).val = k.val) : X y = X (ix3 i j k) :=
  congrArg X (funext fun d => Fin.ext (match d with
    | ⟨0, _⟩ => hi
    | ⟨1, _⟩ => hj
    | ⟨2, _⟩ => hk))

theorem at2 {a b : ℕ} (X : (⟨2, ![a, b]⟩ : Shape).Idx → EReal) (y : (⟨2, ![a, b]⟩ : Shape).Idx) (i : Fin a) (j : Fin b)
    (hi : (y 0).val = i.val) (hj : (y 1).val = j.val) : X y = X (ix2 i j) :=
  congrArg X (funext fun d => Fin.ext (match d with
    | ⟨0, _⟩ => hi
    | ⟨1, _⟩ => hj))

/-- The head numbers, padded with zeros on the host. -/
theorem padded (x : FVec Ideal S8x128 .f32) (idx : IVec S2 32) (h : ∀ q : Fin 2, (idx (ValueIdx.ix1 q)).toInt = 0) (u : FVec Ideal S16 .f32) (j : Fin 16) :
    Host.scatter scatter_S8x128_S2_S16_0_0_01_0 (fun _ b => b) x idx u (ix2 (0 : Fin 8) ⟨j.val, by omega⟩) = u (ix1 j) := by
  have lands : ∀ (k : Fin 16) (v : Fin 128), scatter_S8x128_S2_S16_0_0_01_0.resultIdx? (ix1 k) idx = some (ix2 (0 : Fin 8) v) ↔ k.val = v.val := fun k v => by
    have w0 : scatter_S8x128_S2_S16_0_0_01_0.window (ix1 k) 0 = 0 := rfl
    have w1 : scatter_S8x128_S2_S16_0_0_01_0.window (ix1 k) 1 = k.val := rfl
    refine (resultIdx?_ix2 (R := 8) (C := 128) scatter_S8x128_S2_S16_0_0_01_0 (ix1 k) idx 0 v).trans ?_
    rw [start_pair _ rfl rfl, start_pair _ rfl rfl, w0, w1, h, h]
    show 0 + ((0 : ℕ) : Int) = ((0 : ℕ) : Int) ∧ _ ↔ _
    omega
  refine scatter_set_hit _ x idx u _ _ (fun k' hk' => ?_) (ix1 j) ((lands _ _).2 rfl)
  rw [eq_ix1 k'] at hk' ⊢
  exact congrArg (fun z => u (ix1 z)) (Fin.ext ((lands _ _).1 hk'))

theorem pads (c : Dev nD) (j : Fin 16) : (V m c main_v4 : S8x128.Idx → EReal) (ix2 (0 : Fin 8) ⟨j.val, by omega⟩) = (ins m c).sd (ix1 j) := by
  have e : (V m c main_v4 : S8x128.Idx → EReal) = Host.scatter scatter_S8x128_S2_S16_0_0_01_0 (fun _ b => b)
      (broadcastInDim S8x128 ![] bcast_S_S8x128 (constant (F := Ideal) S_ .f32 0x00000000#32))
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      ((ins m c).sd) := by
    unfold V
    simp only [hostOps0]
    after_results_simp
    rfl
  rw [e]
  exact padded _ _ (by decide) _ j

/-- A block of one example's 256 steps, at the grid's place `t`. -/
abbrev Lies (f : Fin 3 → ℕ) (t z : ℕ) : Prop := f 0 = t / 9 ∧ f 1 = t % 9 ∧ f 2 = z

/-- Where each window's block lies, over the grid. -/
theorem places : ∀ t : Fin cfg0.N, Lies (win0_0.index t) t.val 0 ∧ Lies (win0_1.index t) t.val 0 ∧ Lies (win0_2.index t) t.val 0 ∧ Lies (win0_3.index t) t.val 0 ∧ Lies (win0_4.index t) t.val 1 ∧ Lies (win0_5.index t) t.val 0 ∧ Lies (win0_6.index t) t.val 0 ∧ Lies (win0_9.index t) t.val 0 ∧ Lies (win0_10.index t) t.val 0 ∧ Lies (win0_11.index t) t.val 0 ∧ Lies (win0_12.index t) t.val 0 ∧ Lies (win0_13.index t) t.val 0 ∧ Lies (win0_14.index t) t.val 0
    ∧ (win0_7.index t (0 : Fin 2) = 0 ∧ win0_7.index t (1 : Fin 2) = 0) ∧ (win0_8.index t (0 : Fin 2) = 0 ∧ win0_8.index t (1 : Fin 2) = 0) :=
  (by decide +kernel : ∀ t : Fin grid0.N, _)

theorem lay0 {a n b : ℕ} (e : a = n) (h : n = b) : a * 1 + 1 * 0 = b := by omega
theorem lay1 {a n r b : ℕ} (e : a = n) (h : n * 256 + r = b) : a * 256 + 1 * r = b := by omega
theorem lay2 {a k : ℕ} (e : a = 0) : a * 1024 + 1 * k = k := by omega
theorem lay4 {a k : ℕ} (e : a = 0) : a * 2048 + 1 * k = k := by omega
theorem lay3 {a k : ℕ} (e : a = 1) : a * 1024 + 1 * k = 1024 + k := by omega

theorem b7 (c : Dev nD) (t : Fin cfg0.N) (j : Fin 16) : (iblk m c 7 t : Vec Ideal S8x128 .f32) (ix2 (0 : Fin 8) ⟨j.val, by omega⟩) = (ins m c).sd (ix1 j) := by
  obtain ⟨-, -, -, -, -, -, -, -, -, -, -, -, -, ⟨e0, e1⟩, -⟩ := places t
  unfold iblk
  rw [View.read_apply]
  exact (at2 (V m c main_v4) _ _ _ (show win0_7.index t 0 * 8 + 1 * 0 = _ by rw [e0]; rfl) (show win0_7.index t 1 * 128 + 1 * j.val = j.val by rw [e1]; omega)).trans (pads m c j)

theorem b8 (c : Dev nD) (t : Fin cfg0.N) (k : Fin 1024) : (iblk m c 8 t : Vec Ideal S1x1024 .f32) (ix2 (0 : Fin 1) k) = (ins m c).sn (ix2 (0 : Fin 1) k) := by
  obtain ⟨-, -, -, -, -, -, -, -, -, -, -, -, -, -, ⟨e0, e1⟩⟩ := places t
  unfold iblk
  rw [View.read_apply]
  exact (at2 (V m c main_arg7) _ _ _ (show win0_8.index t 0 * 1 + 1 * 0 = _ by rw [e0]; rfl) (show win0_8.index t 1 * 1024 + 1 * k.val = _ by rw [e1]; omega)).trans (congrFun (V_main_arg7 m c) _)

section Block
variable (c : Dev nD) (t : Fin cfg0.N) (r : Fin 256) (B : Fin 4) (T : Fin 2304) (hB : t.val / 9 = B.val) (hT : t.val % 9 * 256 + r.val = T.val)
include hB hT

theorem b0 (k : Fin 1024) : (iblk m c 0 t : Vec Ideal S1x256x1024 .f32) (ix3 (0 : Fin 1) r k) = (ins m c).y0 (ix3 B T k) := by
  obtain ⟨⟨e0, e1, e2⟩, -⟩ := places t
  exact (congrFun (V_main_arg0 m c) _).trans (at3 _ _ _ _ _ (lay0 e0 hB :) (lay1 e1 hT :) (lay2 e2 :))

theorem b1 (k : Fin 1024) : (iblk m c 1 t : Vec Ideal S1x256x1024 .f32) (ix3 (0 : Fin 1) r k) = (ins m c).y1 (ix3 B T k) := by
  obtain ⟨-, ⟨e0, e1, e2⟩, -⟩ := places t
  exact (congrFun (V_main_arg1 m c) _).trans (at3 _ _ _ _ _ (lay0 e0 hB :) (lay1 e1 hT :) (lay2 e2 :))

theorem b2 (k : Fin 1024) : (iblk m c 2 t : Vec Ideal S1x256x1024 .f32) (ix3 (0 : Fin 1) r k) = (ins m c).xs (ix3 B T k) := by
  obtain ⟨-, -, ⟨e0, e1, e2⟩, -⟩ := places t
  exact (congrFun (V_main_arg2 m c) _).trans (at3 _ _ _ _ _ (lay0 e0 hB :) (lay1 e1 hT :) (lay2 e2 :))

theorem b3 (k : Fin 1024) : (iblk m c 3 t : Vec Ideal S1x256x1024 .f32) (ix3 (0 : Fin 1) r k) = (ins m c).pr (ix3 B T ⟨k.val, by omega⟩) := by
  obtain ⟨-, -, -, ⟨e0, e1, e2⟩, -⟩ := places t
  exact (congrFun (V_main_arg3 m c) _).trans (at3 _ _ _ _ _ (lay0 e0 hB :) (lay1 e1 hT :) (lay2 e2 :))

theorem b4 (k : Fin 1024) : (iblk m c 4 t : Vec Ideal S1x256x1024 .f32) (ix3 (0 : Fin 1) r k) = (ins m c).pr (ix3 B T ⟨1024 + k.val, by omega⟩) := by
  obtain ⟨-, -, -, -, ⟨e0, e1, e2⟩, -⟩ := places t
  exact (congrFun (V_main_arg3 m c) _).trans (at3 _ _ _ _ _ (lay0 e0 hB :) (lay1 e1 hT :) (lay3 e2 :))

theorem b5 (k : Fin 1024) : (iblk m c 5 t : Vec Ideal S1x256x1024 .f32) (ix3 (0 : Fin 1) r k) = (ins m c).h0 (ix3 B T k) := by
  obtain ⟨-, -, -, -, -, ⟨e0, e1, e2⟩, -⟩ := places t
  exact (congrFun (V_main_arg4 m c) _).trans (at3 _ _ _ _ _ (lay0 e0 hB :) (lay1 e1 hT :) (lay2 e2 :))

theorem b6 (k : Fin 1024) : (iblk m c 6 t : Vec Ideal S1x256x1024 .f32) (ix3 (0 : Fin 1) r k) = (ins m c).h1 (ix3 B T k) := by
  obtain ⟨-, -, -, -, -, -, ⟨e0, e1, e2⟩, -⟩ := places t
  exact (congrFun (V_main_arg5 m c) _).trans (at3 _ _ _ _ _ (lay0 e0 hB :) (lay1 e1 hT :) (lay2 e2 :))

theorem b9 (k : Fin 2048) : (iblk m c 9 t : Vec Ideal S1x256x2048 .f32) (ix3 (0 : Fin 1) r k) = (ins m c).ct (ix3 B T k) := by
  obtain ⟨-, -, -, -, -, -, -, ⟨e0, e1, e2⟩, -⟩ := places t
  exact (congrFun (V_main_arg8 m c) _).trans (at3 _ _ _ _ _ (lay0 e0 hB :) (lay1 e1 hT :) (lay4 e2 :))

/-- What each point has of the gradients, and what its two sums add up. -/
theorem row (k : Fin 1024) : tY m c t (ix3 (0 : Fin 1) r k) = (ins m c).gY B T k
    ∧ tX m c t (ix3 (0 : Fin 1) r k) = (ins m c).gX B T k
    ∧ tZ m c t (ix3 (0 : Fin 1) r k) = (ins m c).gZ B T k
    ∧ keepG (iblk m c 4 t) (iblk m c 5 t) (iblk m c 6 t) (iblk m c 9 t) (ix3 (0 : Fin 1) r k) = (ins m c).gG B T k
    ∧ keepH (iblk m c 4 t) (iblk m c 9 t) (ix3 (0 : Fin 1) r k) = (ins m c).gH B T k
    ∧ @HMul.hMul EReal EReal EReal _ (preB (iblk m c 0 t) (iblk m c 1 t) (iblk m c 2 t) (iblk m c 3 t) (iblk m c 7 t) (ix2 r k) * rootB (iblk m c 0 t) (iblk m c 1 t) (iblk m c 2 t) (iblk m c 3 t) (iblk m c 7 t) (ix2 r (0 : Fin 1))) ((iblk m c 9 t : Vec Ideal S1x256x2048 .f32) (ix3 (0 : Fin 1) r ⟨k.val, lo k⟩)) = (ins m c).gN B T k
    ∧ @HMul.hMul EReal EReal EReal _ (tY m c t (ix3 (0 : Fin 1) r k)) ((iblk m c 2 t : Vec Ideal S1x256x1024 .f32) (ix3 (0 : Fin 1) r k)) = (ins m c).gY B T k * (ins m c).X B T k := by
  have hY : ∀ k : Fin 1024, @HAdd.hAdd EReal EReal EReal _ ((iblk m c 0 t : Vec Ideal S1x256x1024 .f32) (ix3 (0 : Fin 1) r k)) ((iblk m c 1 t : Vec Ideal S1x256x1024 .f32) (ix3 (0 : Fin 1) r k)) = (ins m c).Y B T k :=
    fun k => congrArg₂ (· + ·) (b0 m c t r B T hB hT k) (b1 m c t r B T hB hT k)
  have hH : ∀ k : Fin 1024, @HAdd.hAdd EReal EReal EReal _ ((iblk m c 5 t : Vec Ideal S1x256x1024 .f32) (ix3 (0 : Fin 1) r k)) ((iblk m c 6 t : Vec Ideal S1x256x1024 .f32) (ix3 (0 : Fin 1) r k)) = (ins m c).H B T k :=
    fun k => congrArg₂ (· + ·) (b5 m c t r B T hB hT k) (b6 m c t r B T hB hT k)
  have hE : ∀ k : Fin 1024, @HMul.hMul EReal EReal EReal _ ((iblk m c 9 t : Vec Ideal S1x256x2048 .f32) (ix3 (0 : Fin 1) r ⟨k.val, by omega⟩)) ((iblk m c 8 t : Vec Ideal S1x1024 .f32) (ix2 (0 : Fin 1) k)) = (ins m c).E B T k :=
    fun k => congrArg₂ (· * ·) (b9 m c t r B T hB hT ⟨k.val, by omega⟩) (b8 m c t k)
  have hC := fun k : Fin 1024 => b9 m c t r B T hB hT ⟨1024 + k.val, by omega⟩
  have hD := fun k : Fin 1024 => b7 m c t ⟨k.val / 64, by omega⟩
  have hX := b2 m c t r B T hB hT
  have hZ := b3 m c t r B T hB hT
  have hG := b4 m c t r B T hB hT
  have y := keepY_at _ _ _ _ _ _ _ r _ _ _ _ _ hY hX hZ hE hD k
  refine ⟨y, keepX_at _ _ _ _ _ _ _ r _ _ _ _ _ hY hX hZ hE hD k, keepZ_at _ _ _ _ _ _ _ r _ _ _ _ _ hY hX hZ hE hD k, keepG_at _ _ _ _ r _ _ _ hG hH hC k, keepH_at _ _ r _ _ hG hC k,
    congrArg₂ (· * ·) (congrArg₂ (· * ·) (pre_at _ _ _ _ _ r _ _ _ _ hY hX hZ hD k) (root_at _ _ _ _ _ r _ _ _ _ hY hX hZ hD)) (b9 m c t r B T hB hT ⟨k.val, lo k⟩), congrArg₂ (· * ·) y (hX k)⟩

end Block

/-- An array of one number for each sequence, step and channel. -/
def grad (f : Fin 4 → Fin 2304 → Fin 1024 → EReal) : S4x2304x1024.Idx → EReal := fun i => f (i 0) (i 1) (i 2)

theorem lay5 {a n z : ℕ} (e : a = n) (h : z < 1) : a * 1 + 1 * z = n := by omega
theorem put {X : S1x256x1024.Idx → EReal} {f : Fin 4 → Fin 2304 → Fin 1024 → EReal} {t : ℕ}
    (h : ∀ r B T k, t / 9 = B.val → t % 9 * 256 + r.val = T.val → X (ix3 (0 : Fin 1) r k) = f B T k)
    (x : S1x256x1024.Idx) (y : S4x2304x1024.Idx) (e0 : (y 0).val = t / 9) (e1 : (y 1).val = t % 9 * 256 + (x 1).val) (e2 : (y 2).val = (x 2).val) :
    X x = grad f y := by
  have z : x = ix3 (0 : Fin 1) (x 1) (x 2) := (eq_ix3 x).trans (congrArg (fun z : Fin 1 => ix3 z (x 1) (x 2)) (Subsingleton.elim _ _))
  rw [z]
  exact (h (x 1) (y 0) (y 1) (x 2) e0.symm e1.symm).trans (congrArg (f (y 0) (y 1)) (Fin.ext e2.symm))

/-- The point that writes the block an index lies in. -/
def writer (i : S4x2304x1024.Idx) : Fin cfg0.N := ⟨(i 0).val * 9 + (i 1).val / 256, lt_of_lt_of_eq (by
  have h0 : (i 0).val < 4 := (i 0).isLt
  have h1 : (i 1).val < 2304 := (i 1).isLt
  omega) N_0.symm⟩

theorem fits {i : S4x2304x1024.Idx} {f : Fin 3 → ℕ} (h : Lies f (writer i).val 0) :
    ∀ a, f a * S1x256x1024.size a ≤ (i a).val ∧ (i a).val < f a * S1x256x1024.size a + S1x256x1024.size a := by
  obtain ⟨e0, e1, e2⟩ := h
  have h1 : (i 1).val < 2304 := (i 1).isLt
  have h2 : (i 2).val < 1024 := (i 2).isLt
  rw [show (writer i).val = (i 0).val * 9 + (i 1).val / 256 from rfl] at e0 e1
  exact fun
    | ⟨0, _⟩ => (by omega : f 0 * 1 ≤ (i 0).val ∧ (i 0).val < f 0 * 1 + 1)
    | ⟨1, _⟩ => (by omega : f 1 * 256 ≤ (i 1).val ∧ (i 1).val < f 1 * 256 + 256)
    | ⟨2, _⟩ => (by omega : f 2 * 1024 ≤ (i 2).val ∧ (i 2).val < f 2 * 1024 + 1024)

theorem holds10 (c : Dev nD) : (dats m 0 c).arrAt 10 cfg0.N = grad (ins m c).gY :=
  (dats m 0 c).arrAt_eq_of_cover 10 (grad (ins m c).gY) (fun t _ => by
    obtain ⟨-, -, -, -, -, -, -, -, ⟨e0, e1, e2⟩, -⟩ := places t
    rw [Value.flushed10]
    funext y
    rw [stored]
    exact put (fun r B T k hB hT => (row m c t r B T hB hT k).1) _ _ (lay5 e0 (y 0).isLt :) (lay1 e1 rfl :) (lay2 e2 :))
    fun i => ⟨writer i, flush0_10 _, by
      obtain ⟨-, -, -, -, -, -, -, -, e, -⟩ := places (writer i)
      show i ∈ ((View.whole main_v5_0).slice (win0_10.rect (writer i))).set
      rw [View.set_slice_whole, Rect.mem_set_unit]
      exact fits e⟩

theorem holds11 (c : Dev nD) : (dats m 0 c).arrAt 11 cfg0.N = grad (ins m c).gX :=
  (dats m 0 c).arrAt_eq_of_cover 11 (grad (ins m c).gX) (fun t _ => by
    obtain ⟨-, -, -, -, -, -, -, -, -, ⟨e0, e1, e2⟩, -⟩ := places t
    rw [Value.flushed11]
    funext y
    rw [stored]
    exact put (fun r B T k hB hT => (row m c t r B T hB hT k).2.1) _ _ (lay5 e0 (y 0).isLt :) (lay1 e1 rfl :) (lay2 e2 :))
    fun i => ⟨writer i, flush0_11 _, by
      obtain ⟨-, -, -, -, -, -, -, -, -, e, -⟩ := places (writer i)
      show i ∈ ((View.whole main_v5_1).slice (win0_11.rect (writer i))).set
      rw [View.set_slice_whole, Rect.mem_set_unit]
      exact fits e⟩

theorem holds12 (c : Dev nD) : (dats m 0 c).arrAt 12 cfg0.N = grad (ins m c).gZ :=
  (dats m 0 c).arrAt_eq_of_cover 12 (grad (ins m c).gZ) (fun t _ => by
    obtain ⟨-, -, -, -, -, -, -, -, -, -, ⟨e0, e1, e2⟩, -⟩ := places t
    rw [Value.flushed12]
    funext y
    rw [stored]
    exact put (fun r B T k hB hT => (row m c t r B T hB hT k).2.2.1) _ _ (lay5 e0 (y 0).isLt :) (lay1 e1 rfl :) (lay2 e2 :))
    fun i => ⟨writer i, flush0_12 _, by
      obtain ⟨-, -, -, -, -, -, -, -, -, -, e, -⟩ := places (writer i)
      show i ∈ ((View.whole main_v5_2).slice (win0_12.rect (writer i))).set
      rw [View.set_slice_whole, Rect.mem_set_unit]
      exact fits e⟩

theorem holds13 (c : Dev nD) : (dats m 0 c).arrAt 13 cfg0.N = grad (ins m c).gG :=
  (dats m 0 c).arrAt_eq_of_cover 13 (grad (ins m c).gG) (fun t _ => by
    obtain ⟨-, -, -, -, -, -, -, -, -, -, -, ⟨e0, e1, e2⟩, -⟩ := places t
    rw [Value.flushed13]
    funext y
    rw [stored]
    exact put (fun r B T k hB hT => (row m c t r B T hB hT k).2.2.2.1) _ _ (lay5 e0 (y 0).isLt :) (lay1 e1 rfl :) (lay2 e2 :))
    fun i => ⟨writer i, flush0_13 _, by
      obtain ⟨-, -, -, -, -, -, -, -, -, -, -, e, -⟩ := places (writer i)
      show i ∈ ((View.whole main_v5_3).slice (win0_13.rect (writer i))).set
      rw [View.set_slice_whole, Rect.mem_set_unit]
      exact fits e⟩

theorem holds14 (c : Dev nD) : (dats m 0 c).arrAt 14 cfg0.N = grad (ins m c).gH :=
  (dats m 0 c).arrAt_eq_of_cover 14 (grad (ins m c).gH) (fun t _ => by
    obtain ⟨-, -, -, -, -, -, -, -, -, -, -, -, ⟨e0, e1, e2⟩, -⟩ := places t
    rw [Value.flushed14]
    funext y
    rw [stored]
    exact put (fun r B T k hB hT => (row m c t r B T hB hT k).2.2.2.2.1) _ _ (lay5 e0 (y 0).isLt :) (lay1 e1 rfl :) (lay2 e2 :))
    fun i => ⟨writer i, flush0_14 _, by
      obtain ⟨-, -, -, -, -, -, -, -, -, -, -, -, e, -⟩ := places (writer i)
      show i ∈ ((View.whole main_v5_4).slice (win0_14.rect (writer i))).set
      rw [View.set_slice_whole, Rect.mem_set_unit]
      exact fits e⟩

/-- The two sums over the tokens grow from point to point. -/
theorem sumD (c : Dev nD) (t : Fin cfg0.N) (i : Fin 8) (j : Fin 128) : tD m c t (ix2 i j)
    = Product.piece (fun _ _ => token fun b u => (ins m c).sS b u i j) 0 0 256 1 36 t.val 0 0 := by
  have n : t.val < 36 := lt_of_lt_of_eq t.isLt N_0
  refine (addD_at ..).trans ?_
  refine Finset.sum_congr rfl fun r _ => (?_ : _ = (ins m c).sS ⟨t.val / 9, by omega⟩ ⟨t.val % 9 * 256 + r.val, by omega⟩ i j).trans
    (token_at (fun b u => (ins m c).sS b u i j) _ _ _ (by dsimp only; omega))
  have h := fun k => (row m c t r ⟨t.val / 9, by omega⟩ ⟨t.val % 9 * 256 + r.val, by omega⟩ rfl rfl k).2.2.2.2.2.2
  exact if_congr Iff.rfl (Finset.sum_congr rfl fun k _ => if_congr Iff.rfl (h k) rfl) rfl

theorem sumN (c : Dev nD) (t : Fin cfg0.N) (k : Fin 1024) : tN m c t (ix2 (0 : Fin 1) k)
    = Product.piece (fun _ _ => token fun b u => (ins m c).gN b u k) 0 0 256 1 36 t.val 0 0 := by
  have n : t.val < 36 := lt_of_lt_of_eq t.isLt N_0
  refine (addN_at ..).trans ?_
  exact Finset.sum_congr rfl fun r _ => (row m c t r ⟨t.val / 9, by omega⟩ ⟨t.val % 9 * 256 + r.val, by omega⟩ rfl rfl k).2.2.2.2.2.1.trans
    (token_at (fun b u => (ins m c).gN b u k) _ _ _ (by dsimp only; omega))

theorem grownD (c : Dev nD) (i : Fin 8) (j : Fin 128) : ∀ n h, (outsAt0 m c n h).2.2.2.2.2.1 (ix2 i j)
    = Product.upTo (fun _ _ => token fun b u => (ins m c).sS b u i j) 0 0 256 1 36 n 0 0 :=
  Product.after_all _ 0 0 256 1 36 cfg0.N 0 0 (by decide) (fun n h => (outsAt0 m c n h).2.2.2.2.2.1 (ix2 i j))
    (fun n h e => by rw [stored m c ⟨n, h⟩, zero_add]; dsimp only; rw [if_pos e]; exact sumD m c ⟨n, h⟩ i j)
    (fun n h e => by
      rw [stored m c ⟨n + 1, h⟩]
      dsimp only
      rw [if_neg e]
      refine Eq.trans ?_ (congrArg (_ + ·) (sumD m c ⟨n + 1, h⟩ i j))
      pointwise [k0_pay1]
      rfl)

theorem grownN (c : Dev nD) (k : Fin 1024) : ∀ n h, (outsAt0 m c n h).2.2.2.2.2.2 (ix2 (0 : Fin 1) k)
    = Product.upTo (fun _ _ => token fun b u => (ins m c).gN b u k) 0 0 256 1 36 n 0 0 :=
  Product.after_all _ 0 0 256 1 36 cfg0.N 0 0 (by decide) (fun n h => (outsAt0 m c n h).2.2.2.2.2.2 (ix2 (0 : Fin 1) k))
    (fun n h e => by rw [stored m c ⟨n, h⟩, zero_add]; dsimp only; rw [if_pos e]; exact sumN m c ⟨n, h⟩ k)
    (fun n h e => by
      rw [stored m c ⟨n + 1, h⟩]
      dsimp only
      rw [if_neg e]
      refine Eq.trans ?_ (congrArg (_ + ·) (sumN m c ⟨n + 1, h⟩ k))
      pointwise [k0_pay2]
      rfl)

/-- The last point. -/
abbrev last0 : Fin cfg0.N := ⟨35, lt_of_lt_of_eq (by decide : 35 < 36) N_0.symm⟩

theorem corner : ∀ t : Fin cfg0.N, (win0_15.index t (0 : Fin 2) = 0 ∧ win0_15.index t (1 : Fin 2) = 0) ∧ (win0_16.index t (0 : Fin 2) = 0 ∧ win0_16.index t (1 : Fin 2) = 0) :=
  (by decide +kernel : ∀ t : Fin grid0.N, _)

/-- A table of the sums of a term over all tokens. -/
def sums {n w : ℕ} (f : Fin 4 → Fin 2304 → Fin n → Fin w → EReal) : (⟨2, ![n, w]⟩ : Shape).Idx → EReal := fun i => ∑ b, ∑ t, f b t (i 0) (i 1)

theorem put2 {n w t : ℕ} {X : (⟨2, ![n, w]⟩ : Shape).Idx → EReal} {f : Fin 4 → Fin 2304 → Fin n → Fin w → EReal} (e : t % 36 = 35)
    (h : ∀ i j, X (ix2 i j) = Product.upTo (fun _ _ => token fun b u => f b u i j) 0 0 256 1 36 t 0 0)
    (x y : (⟨2, ![n, w]⟩ : Shape).Idx) (e0 : (y 0).val = (x 0).val) (e1 : (y 1).val = (x 1).val) : X x = sums f y := by
  refine (congrArg X (eq_ix2 x)).trans ((h (x 0) (x 1)).trans ?_)
  rw [Product.upTo_last _ _ _ _ _ _ _ _ _ 9216 (by rw [e]), tokens]
  exact congrArg₂ (fun i j => ∑ b, ∑ t, f b t i j) (Fin.ext e0.symm) (Fin.ext e1.symm)

theorem holds15 (c : Dev nD) : (dats m 0 c).arrAt 15 cfg0.N = sums (ins m c).sS :=
  (dats m 0 c).arrAt_eq_of_cover 15 (sums (ins m c).sS) (fun t e => by
    obtain ⟨⟨e0, e1⟩, -⟩ := corner t
    rw [Value.flushed15]
    funext y
    exact put2 ((flush0_15 t).1 e) (fun i j => grownD m c i j t.val t.isLt) ((cfg0.win 15).xinj (grid0.coords t) y) (((cfg0.win 15).blk t).view.emb y)
      (by show win0_15.index t 0 * 8 + 1 * (y 0).val = (y 0).val; rw [e0]; omega) (by show win0_15.index t 1 * 128 + 1 * (y 1).val = (y 1).val; rw [e1]; omega))
    fun i => ⟨last0, (flush0_15 _).2 rfl, by
      obtain ⟨⟨e0, e1⟩, -⟩ := corner last0
      show i ∈ ((View.whole main_v5_5).slice (win0_15.rect last0)).set
      rw [View.set_slice_whole, Rect.mem_set_unit]
      have h0 : (i 0).val < 8 := (i 0).isLt
      have h1 : (i 1).val < 128 := (i 1).isLt
      exact fun
        | ⟨0, _⟩ => (by rw [e0]; omega : win0_15.index last0 0 * 8 ≤ (i 0).val ∧ (i 0).val < win0_15.index last0 0 * 8 + 8)
        | ⟨1, _⟩ => (by rw [e1]; omega : win0_15.index last0 1 * 128 ≤ (i 1).val ∧ (i 1).val < win0_15.index last0 1 * 128 + 128)⟩

theorem holds16 (c : Dev nD) : (dats m 0 c).arrAt 16 cfg0.N = sums fun b t _ => (ins m c).gN b t :=
  (dats m 0 c).arrAt_eq_of_cover 16 (sums fun b t _ => (ins m c).gN b t) (fun t e => by
    obtain ⟨-, e0, e1⟩ := corner t
    rw [Value.flushed16]
    funext y
    exact put2 ((flush0_16 t).1 e) (fun i j => (congrArg (fun z => (outsAt0 m c t.val t.isLt).2.2.2.2.2.2 (ix2 z j)) (Subsingleton.elim i 0)).trans (grownN m c j t.val t.isLt)) ((cfg0.win 16).xinj (grid0.coords t) y) (((cfg0.win 16).blk t).view.emb y)
      (by show win0_16.index t 0 * 1 + 1 * (y 0).val = (y 0).val; rw [e0]; omega) (by show win0_16.index t 1 * 1024 + 1 * (y 1).val = (y 1).val; rw [e1]; omega))
    fun i => ⟨last0, (flush0_16 _).2 rfl, by
      obtain ⟨-, e0, e1⟩ := corner last0
      show i ∈ ((View.whole main_v5_6).slice (win0_16.rect last0)).set
      rw [View.set_slice_whole, Rect.mem_set_unit]
      have h0 : (i 0).val < 1 := (i 0).isLt
      have h1 : (i 1).val < 1024 := (i 1).isLt
      exact fun
        | ⟨0, _⟩ => (by rw [e0]; omega : win0_16.index last0 0 * 1 ≤ (i 0).val ∧ (i 0).val < win0_16.index last0 0 * 1 + 1)
        | ⟨1, _⟩ => (by rw [e1]; omega : win0_16.index last0 1 * 1024 ≤ (i 1).val ∧ (i 1).val < win0_16.index last0 1 * 1024 + 1024)⟩

end Cert.Kernel22Ideal.Gen

end
-- ==== Proof.GateRef.lean ====
module

public import proofs.«01_k».proof.Proof.GateMath
public import proofs.«01_k».proof.Proof.Gen.Reference22Ideal.Run
public import proofs.«01_k».proof.Proof.ConvSeq

/-! The gradient of reference.py's lines for the gated norm, read one number at a time. -/

@[expose] public section

set_option maxRecDepth 16384

noncomputable section

namespace Cert.Gate

open Idealize.ShloMosaic Idealize.ShloMosaic.TcCoe Idealize.SL.Sem
open Cert.Reference22Ideal Cert.Reference22Ideal.Gen Cert.Reference22Ideal.Value

/-- A number at every index. -/
abbrev all (w : BitVec 32) : FVec Ideal S4x2304x1024 .f32 := broadcastInDim S4x2304x1024 ![] bcast_S_S4x2304x1024 (constant S_ .f32 w)
abbrev col (w : BitVec 32) : FVec Ideal S4x2304x1 .f32 := broadcastInDim S4x2304x1 ![] bcast_S_S4x2304x1 (constant S_ .f32 w)

/-- The layers of the reference's terms: a head's number at its channels; the norm's gain; the gate's sigmoid; what the norm takes; its mean square; the norm's gradient. -/
def lD (sd : FVec Ideal S16 .f32) : FVec Ideal S4x2304x1024 .f32 :=
  broadcastInDim S4x2304x1024 ![0, 1, 2] bcast_S1x1x1024_S4x2304x1024_0_1_2 (broadcastInDim S1x1x1024 ![2] bcast_S1024_S1x1x1024_2 (shapeCast _ (broadcastInDim S16x64 ![0] bcast_S16_S16x64_0 sd) shapeCasts_S16x64_S1024))
def lN (sn : FVec Ideal S1x1024 .f32) : FVec Ideal S4x2304x1024 .f32 :=
  broadcastInDim S4x2304x1024 ![0, 1, 2] bcast_S1x1x1024_S4x2304x1024_0_1_2 (broadcastInDim S1x1x1024 ![2] bcast_S1024_S1x1x1024_2 (shapeCast _ sn shapeCasts_S1x1024_S1024))
def lS (z : FVec Ideal S4x2304x1024 .f32) : FVec Ideal S4x2304x1024 .f32 := Host.divf (all 0x3F800000#32) (addf (all 0x3F800000#32) (Host.exp (Host.negf z)))
def lM (u : FVec Ideal S4x2304x1024 .f32) : FVec Ideal S4x2304x1 .f32 :=
  addf (Host.divf (broadcastInDim S4x2304x1 ![0, 1] bcast_S4x2304_S4x2304x1_0_1 (Host.reduceAdd (mulf u u) (constant S_ .f32 0x00000000#32) reducesTo_S4x2304x1024_S4x2304_d2 h_S_)) (col 0x44800000#32)) (col 0x358637BD#32)
def lL (u e : FVec Ideal S4x2304x1024 .f32) (M : FVec Ideal S4x2304x1 .f32) : FVec Ideal S4x2304 .f32 :=
  Host.reduceAdd (Host.divf (mulf (shapeCast _ (Host.reduceAdd (mulf u e) (constant S_ .f32 0x00000000#32) reducesTo_S4x2304x1024_S4x2304_d2 h_S_) shapeCasts_S4x2304_S4x2304x1) (mulf (col 0xBF000000#32) (Host.divf (Host.rsqrt M) M))) (col 0x44800000#32)) (constant S_ .f32 0x00000000#32) reducesTo_S4x2304x1_S4x2304_d2 h_S_
def lB (u e : FVec Ideal S4x2304x1024 .f32) (M : FVec Ideal S4x2304x1 .f32) (L : FVec Ideal S4x2304 .f32) : FVec Ideal S4x2304x1024 .f32 :=
  addf (mulf e (broadcastInDim S4x2304x1024 ![0, 1, 2] bcast_S4x2304x1_S4x2304x1024_0_1_2 (Host.rsqrt M)))
    (mulf (broadcastInDim S4x2304x1024 ![0, 1] bcast_S4x2304_S4x2304x1024_0_1 L) (mulf (all 0x40000000#32) u))
def lT (g : FVec Ideal S4x2304x1024 .f32) : FVec Ideal S4x2304x1024 .f32 := Host.tanh (mulf (all 0x3F4C422A#32) (addf g (mulf (all 0x3D372713#32) (mulf (mulf g g) g))))

section At
variable (b : Fin 4) (t : Fin 2304) (k : Fin 1024)

theorem lD_at (sd : FVec Ideal S16 .f32) : lD sd (ix3 b t k) = sd (ix1 ⟨k.val / 64, by omega⟩) := by
  unfold lD
  pointwise []
theorem lN_at (sn : FVec Ideal S1x1024 .f32) : lN sn (ix3 b t k) = sn (ix2 (0 : Fin 1) k) := by
  unfold lN
  pointwise []
theorem lS_at (z : FVec Ideal S4x2304x1024 .f32) : lS z (ix3 b t k) = Ideal.logistic (z (ix3 b t k)) := by
  unfold lS
  pointwise []
  rfl
theorem lM_at (u : FVec Ideal S4x2304x1024 .f32) : lM u (ix3 b t (0 : Fin 1)) = msq (fun k => u (ix3 b t k)) := by
  unfold lM
  pointwise []
  rfl
theorem lL_at (u e : FVec Ideal S4x2304x1024 .f32) : lL u e (lM u) (ix2 b t) = lean (fun k => u (ix3 b t k)) (fun k => e (ix3 b t k)) := by
  have h := lM_at b t u
  unfold lL
  generalize lM u = M at *
  pointwise []
  rw [Fin.sum_univ_one, h]
  rfl
theorem lB_at (u e : FVec Ideal S4x2304x1024 .f32) : lB u e (lM u) (lL u e (lM u)) (ix3 b t k) = back (fun k => u (ix3 b t k)) (fun k => e (ix3 b t k)) k := by
  have h := lM_at b t u
  have l := lL_at b t u e
  unfold lB
  generalize lL u e (lM u) = L at *
  generalize lM u = M at *
  pointwise []
  rw [h, l]
  exact back_eq (fun k => u (ix3 b t k)) (fun k => e (ix3 b t k)) k
theorem lT_at (g : FVec Ideal S4x2304x1024 .f32) : lT g (ix3 b t k) = bend (g (ix3 b t k)) := by
  unfold lT
  pointwise []
  rw [mul_comm (g _ * g _)]
  rfl

variable (a : Ins)

def fZ : FVec Ideal S4x2304x1024 .f32 := extractStridedSlice S4x2304x1024 ![0, 0, 0] (a.pr : FVec Ideal S4x2304x5120 .f32) slices_S4x2304x5120_S4x2304x1024_0_0_0
def fG : FVec Ideal S4x2304x1024 .f32 := extractStridedSlice S4x2304x1024 ![0, 0, 1024] (a.pr : FVec Ideal S4x2304x5120 .f32) slices_S4x2304x5120_S4x2304x1024_0_0_1024
def fC : FVec Ideal S4x2304x1024 .f32 := extractStridedSlice S4x2304x1024 ![0, 0, 1024] (a.ct : FVec Ideal S4x2304x2048 .f32) slices_S4x2304x2048_S4x2304x1024_0_0_1024
def fE : FVec Ideal S4x2304x1024 .f32 := mulf (extractStridedSlice S4x2304x1024 ![0, 0, 0] (a.ct : FVec Ideal S4x2304x2048 .f32) slices_S4x2304x2048_S4x2304x1024_0_0_0) (lN a.sn)
def fW : FVec Ideal S4x2304x1024 .f32 := addf (addf a.y0 a.y1) (mulf (lD a.sd) a.xs)
def fU : FVec Ideal S4x2304x1024 .f32 := mulf (fW a) (mulf (fZ a) (lS (fZ a)))
def fB : FVec Ideal S4x2304x1024 .f32 := lB (fU a) (fE a) (lM (fU a)) (lL (fU a) (fE a) (lM (fU a)))
def fH : FVec Ideal S4x2304x1024 .f32 := mulf (addf a.h0 a.h1) (fC a)
def fI : FVec Ideal S4x2304x1024 .f32 := mulf (all 0x3F4C422A#32) (mulf (mulf (all 0x3F000000#32) (mulf (fG a) (fH a))) (mulf (addf (all 0x3F800000#32) (lT (fG a))) (subf (all 0x3F800000#32) (lT (fG a)))))

theorem fZ_at : fZ a (ix3 b t k) = a.Z b t k := by
  unfold fZ
  pointwise []
  rfl
theorem fG_at : fG a (ix3 b t k) = a.G b t k := by
  unfold fG
  pointwise []
  rfl
theorem fC_at : fC a (ix3 b t k) = a.C b t k := by
  unfold fC
  pointwise []
  rfl
theorem fE_at : fE a (ix3 b t k) = a.E b t k := by
  have h := lN_at b t k a.sn
  unfold fE
  pointwise []
  rw [h]
  rfl
theorem fW_at : fW a (ix3 b t k) = a.Y b t k + a.D k * a.X b t k := by
  have h := lD_at b t k a.sd
  unfold fW
  pointwise []
  rw [h]
  rfl
theorem fU_at : fU a (ix3 b t k) = a.U b t k := by
  unfold fU
  pointwise []
  rw [lS_at, fZ_at, fW_at]
  rfl
theorem fB_at : fB a (ix3 b t k) = back (a.U b t) (a.E b t) k := by
  have h := lB_at b t k (fU a) (fE a)
  simp only [fU_at, fE_at] at h
  exact h
theorem fI_at : fI a (ix3 b t k) = inner (a.C b t k) (a.G b t k) (a.H b t k) := by
  unfold fI fH
  pointwise []
  rw [lT_at, fG_at, fC_at]
  rfl

theorem hostY : mulf (fB a) (mulf (fZ a) (lS (fZ a))) (ix3 b t k) = a.gY b t k := by
  pointwise []
  rw [lS_at, fZ_at, fB_at]
  rfl
theorem hostX : mulf (lD a.sd) (mulf (fB a) (mulf (fZ a) (lS (fZ a)))) (ix3 b t k) = a.gX b t k := by
  pointwise []
  rw [lS_at, fZ_at, fB_at, lD_at]
  rfl
theorem hostZ : addf (mulf (mulf (fW a) (fB a)) (lS (fZ a))) (mulf (mulf (fZ a) (mulf (fW a) (fB a))) (mulf (lS (fZ a)) (subf (all 0x3F800000#32) (lS (fZ a))))) (ix3 b t k) = a.gZ b t k := by
  pointwise []
  rw [lS_at, fZ_at, fB_at, fW_at]
  rfl
theorem hostG : addf (addf (mulf (fH a) (mulf (all 0x3F000000#32) (addf (all 0x3F800000#32) (lT (fG a))))) (fI a))
    (mulf (mulf (all 0x3D372713#32) (fI a)) (mulf (all 0x40400000#32) (mulf (fG a) (fG a)))) (ix3 b t k) = a.gG b t k := by
  unfold fH
  pointwise []
  rw [lT_at, fG_at, fC_at, fI_at]
  rfl
theorem hostH : mulf (fC a) (mulf (fG a) (mulf (all 0x3F000000#32) (addf (all 0x3F800000#32) (lT (fG a))))) (ix3 b t k) = a.gH b t k := by
  pointwise []
  rw [lT_at, fG_at, fC_at]
  rfl

def fS : FVec Ideal S8x128 .f32 := pad S8x128 ![0, 0] ![7, 112] ![0, 0] (broadcastInDim S1x16 ![1] bcast_S16_S1x16_1 (Host.reduceAdd (shapeCast _ (Host.reduceAdd (shapeCast _ (Host.reduceAdd
  (mulf (mulf (fB a) (mulf (fZ a) (lS (fZ a)))) a.xs) (constant S_ .f32 0x00000000#32) reducesTo_S4x2304x1024_S1024_d0_1 h_S_) shapeCasts_S1024_S1x1x1024) (constant S_ .f32 0x00000000#32) reducesTo_S1x1x1024_S1024_d0_1 h_S_)
  shapeCasts_S1024_S16x64) (constant S_ .f32 0x00000000#32) reducesTo_S16x64_S16_d1 h_S_)) (sitofp .f32 (constantI S_ 32 0#32)) pads_S1x16_S8x128_070_01120 h_S_
def fN : FVec Ideal S1x1024 .f32 := broadcastInDim S1x1024 ![1] bcast_S1024_S1x1024_1 (Host.reduceAdd (shapeCast _ (Host.reduceAdd
  (mulf (mulf (fU a) (broadcastInDim S4x2304x1024 ![0, 1, 2] bcast_S4x2304x1_S4x2304x1024_0_1_2 (Host.rsqrt (lM (fU a))))) (extractStridedSlice S4x2304x1024 ![0, 0, 0] (a.ct : FVec Ideal S4x2304x2048 .f32) slices_S4x2304x2048_S4x2304x1024_0_0_0))
  (constant S_ .f32 0x00000000#32) reducesTo_S4x2304x1024_S1024_d0_1 h_S_) shapeCasts_S1024_S1x1x1024) (constant S_ .f32 0x00000000#32) reducesTo_S1x1x1024_S1024_d0_1 h_S_)

theorem fS_at (i : Fin 8) (j : Fin 128) : fS a (ix2 i j) = ∑ b, ∑ t, a.sS b t i j := by
  have h := hostY (a := a)
  unfold fS
  generalize mulf (fB a) (mulf (fZ a) (lS (fZ a))) = P at *
  pointwise [Cert.Conv.reduce_at]
  simp only [Fin.sum_univ_one, h]
  by_cases q : i.val < 1 ∧ j.val < 16
  · have e : ∀ b t, a.sS b t i j = ∑ l : Fin 64, a.gY b t ⟨j.val * 64 + l.val, by omega⟩ * a.X b t ⟨j.val * 64 + l.val, by omega⟩ := fun b t =>
      (if_pos (by omega)).trans (headed (fun k => a.gY b t k * a.X b t k) ⟨j.val, q.2⟩)
    rw [dif_pos q, Finset.sum_comm]
    refine Finset.sum_congr rfl fun b _ => ?_
    rw [Finset.sum_comm]
    exact Finset.sum_congr rfl fun t _ => (e b t).symm
  · rw [dif_neg q]
    refine Eq.trans ?_ (Finset.sum_eq_zero fun b _ => Finset.sum_eq_zero fun t _ => ?_).symm
    · show (((0#32 : BitVec 32).toInt : ℝ) : EReal) = 0
      norm_num
    · exact (ite_eq_right_iff.mpr fun i0 => Finset.sum_eq_zero fun k _ => if_neg (by omega) : a.sS b t i j = 0)
theorem fN_at (k : Fin 1024) : fN a (ix2 (0 : Fin 1) k) = ∑ b, ∑ t, a.gN b t k := by
  have h := fU_at (a := a)
  have l := fun b t => lM_at b t (fU a)
  unfold fN
  generalize lM (fU a) = M at *
  generalize fU a = P at *
  pointwise [Cert.Conv.reduce_at]
  rw [Fin.sum_univ_one, Fin.sum_univ_one]
  simp only [l, h]
  rfl
end At

/-- The arrays the reference is launched on, and its five results over the layers above. -/
def held (m : (ℓ : Loc nD τ sig) → Buf (Elt Ideal) ℓ) (c : Dev nD) : Ins :=
  ⟨m (c.tc.loc main_arg0), m (c.tc.loc main_arg1), m (c.tc.loc main_arg2), m (c.tc.loc main_arg3), m (c.tc.loc main_arg4), m (c.tc.loc main_arg5),
    m (c.tc.loc main_arg6), m (c.tc.loc main_arg7), m (c.tc.loc main_arg8)⟩

section Results
variable (m : (ℓ : Loc nD τ sig) → Buf (Elt Ideal) ℓ) (c : Dev nD)

theorem isY : res_main_v89 m c = mulf (fB (held m c)) (mulf (fZ (held m c)) (lS (fZ (held m c)))) := by
  unfold res_main_v89 fB lB lL lM fU fW fE lD lN fZ lS held
  rfl
theorem isX : res_main_v92 m c = mulf (lD (held m c).sd) (mulf (fB (held m c)) (mulf (fZ (held m c)) (lS (fZ (held m c))))) := by
  unfold res_main_v92 fB lB lL lM fU fW fE lD lN fZ lS held
  rfl
theorem isZ : res_main_v90 m c = addf (mulf (mulf (fW (held m c)) (fB (held m c))) (lS (fZ (held m c)))) (mulf (mulf (fZ (held m c)) (mulf (fW (held m c)) (fB (held m c))))
    (mulf (lS (fZ (held m c))) (subf (all 0x3F800000#32) (lS (fZ (held m c)))))) := by
  unfold res_main_v90 fB lB lL lM fU fW fE lD lN fZ lS held
  rfl
theorem isG : res_main_v69 m c = addf (addf (mulf (fH (held m c)) (mulf (all 0x3F000000#32) (addf (all 0x3F800000#32) (lT (fG (held m c)))))) (fI (held m c)))
    (mulf (mulf (all 0x3D372713#32) (fI (held m c))) (mulf (all 0x40400000#32) (mulf (fG (held m c)) (fG (held m c))))) := by
  unfold res_main_v69 fI fH lT fG fC held
  rfl
theorem isS : res_main_v100 m c = fS (held m c) := by
  unfold res_main_v100 fS fB lB lL lM fU fW fE lD lN fZ lS held
  rfl
end Results

end Cert.Gate

end
-- ==== Proof.Gate22.lean ====
module

public import proofs.«01_k».proof.Proof.GateArrays
public import proofs.«01_k».proof.Proof.GateRef
public import proofs.«01_k».proof.Defs

/-! The gated norm's backward call has seven of reference.py's gradients. -/

@[expose] public section

set_option maxRecDepth 16384

noncomputable section

namespace Cert.Proof

open Idealize.ShloMosaic Idealize.ShloMosaic.TcCoe Idealize.SL.Sem
open Cert.Gate Cert.Reference22Ideal.Value Cert.Kernel22Ideal.Gen

theorem same_gate {X : (⟨3, ![4, 2304, 1024]⟩ : Shape).Idx → EReal} {f : Fin 4 → Fin 2304 → Fin 1024 → EReal}
    (h : ∀ b t k, X (ix3 b t k) = f b t k) : X = grad f :=
  funext fun i => (congrArg X (eq_ix3 i)).trans (h (i 0) (i 1) (i 2))

theorem same_sums {n w : ℕ} {X : (⟨2, ![n, w]⟩ : Shape).Idx → EReal} {f : Fin 4 → Fin 2304 → Fin n → Fin w → EReal}
    (h : ∀ i j, X (ix2 i j) = ∑ b, ∑ t, f b t i j) : X = sums f :=
  funext fun i => (congrArg X (eq_ix2 i)).trans (h (i 0) (i 1))

theorem quiescent_Reference22Ideal : quiescent_Reference22Ideal := fun m ρ _ =>
  (θ_run Cert.Reference22Ideal.defs _ _).mono (fun r h => ⟨fun c => (h c).2.2.2.2.2.2.2, sem_eq_zero_of_no_sems (by decide) r.2⟩)
    (Cert.Reference22Ideal.Value.run (F := Ideal) m ρ)

theorem algebraic_Kernel22Ideal_Reference22Ideal : algebraic_Kernel22Ideal_Reference22Ideal := by
  intro m ρ m' ρ' _ hagree
  refine ⟨_, _, _, _, _, _, _, (θ_run _ _ _).mono (fun _ h c => ⟨(h c).1.trans (holds10 m c), (h c).2.1.trans (holds11 m c), (h c).2.2.1.trans (holds12 m c), (h c).2.2.2.1.trans (holds13 m c), (h c).2.2.2.2.1.trans (holds14 m c), (h c).2.2.2.2.2.1.trans (holds15 m c), (h c).2.2.2.2.2.2.1.trans (holds16 m c), (h c).2.2.2.2.2.2.2⟩) (Cert.Kernel22Ideal.Value.run_blocks m ρ), ?_⟩
  refine (θ_run Cert.Reference22Ideal.defs _ _).mono (fun _ h c => ?_) (Cert.Reference22Ideal.Value.run (F := Ideal) m' ρ')
  have e : held m' c = ins m c := (Ins.mk.injEq ..).mpr (hagree c)
  rw [← e]
  obtain ⟨h0, h1, h2, h3, h4, h5, h6, h7⟩ := h c
  exact ⟨(h0.trans (isY m' c)).trans (same_gate fun b t k => hostY b t k (held m' c)), (h1.trans (isX m' c)).trans (same_gate fun b t k => hostX b t k (held m' c)), (h2.trans (isZ m' c)).trans (same_gate fun b t k => hostZ b t k (held m' c)),
    (h3.trans (isG m' c)).trans (same_gate fun b t k => hostG b t k (held m' c)), h4.trans (same_gate fun b t k => hostH b t k (held m' c)), (h5.trans (isS m' c)).trans (same_sums fun i j => fS_at (held m' c) i j),
    h6.trans (same_sums fun i k => (congrArg (fun z => fN (held m' c) (ix2 z k)) (Subsingleton.elim i 0)).trans (fN_at (held m' c) k)), h7⟩

end Cert.Proof

end
-- ==== Proof.BackPiece.lean ====
module

public import proofs.«01_k».proof.Proof.Gen.Kernel20Ideal.Skeleton
public import proofs.«01_k».proof.Proof.Gen.Kernel20Ideal.Points
public import Idealize.ShloMosaic.Lib.Exec
public import Idealize.ShloMosaic.Lib.Tactic
public import Idealize.ShloMosaic.Lib.Pipeline.Kit

/-! The loop body of the recurrence's gradient as thirty-two runs of one piece of program: a piece takes eight rows of
one sequence and 128 columns, solves the recurrence within them, and leaves the first row for the rows above. -/

@[expose] public section

noncomputable section

namespace Cert.Kernel20Ideal.Gen.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- One piece of a trip: eight rows of one sequence in 128 columns (`off`), and the carried row of that sequence and
those columns (`o4`). -/
def piece (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x256x1024 .f32) (harg5 : arg5.IsWhole) (arg6 : Memref sig .tc .vmem S4x8x8x128 .f32) (harg6 : arg6.IsWhole) (arg7 : Memref sig .tc .vmem S4x8x8x128 .f32) (harg7 : arg7.IsWhole) (v3 : IVec S8x128 32)
    (off : Fin 3 → ℕ) (inb : ∀ a, off a + S1x8x128.size a ≤ S4x256x1024.size a)
    (o4 : Fin 4 → ℕ) (inb4 : ∀ a, o4 a + S1x1x8x128.size a ≤ S4x8x8x128.size a) :
    Prog (TpuEff nD τ sig (Elt F) Λ₀ .tc) Unit := do
  let v9 : Vec F S1x8x128 .f32 ← Prog.lift (.load arg1 (Rect.unit (s := S4x256x1024) off S1x8x128.size inb).toLoadRect (View.loadsAt_vmem h_S1x8x128))
  let v11 : Vec F S1x1x8x128 .f32 ← Prog.lift (.load arg7 (Rect.unit (s := S4x8x8x128) o4 S1x1x8x128.size inb4).toLoadRect (View.loadsAt_vmem h_S1x1x8x128))
  let v18 : Vec F S1x8x128 .f32 ← Prog.lift (.load arg2 (Rect.unit (s := S4x256x1024) off S1x8x128.size inb).toLoadRect (View.loadsAt_vmem h_S1x8x128))
  let v47 : Vec F S1x1x8x128 .f32 ← Prog.lift (.load arg6 (Rect.unit (s := S4x8x8x128) o4 S1x1x8x128.size inb4).toLoadRect (View.loadsAt_vmem h_S1x1x8x128))
  let _v52 : Vec F S1x8x128 .f32 ← Prog.lift (.load arg4 (Rect.unit (s := S4x256x1024) off S1x8x128.size inb).toLoadRect (View.loadsAt_vmem h_S1x8x128))
  Prog.lift (.store arg4 (Rect.unit (s := S4x256x1024) off S1x8x128.size inb) (k1_pay16 (k1_pay12 v3 v9 v11) (k1_pay13 v3) (k1_pay14 v3 v9 v11 v18) v47) Finset.univ (View.stores_vmem_bits_univ h_S1x8x128 rfl) (.inl rfl))
  let v56 : Vec F S1x8x128 .f32 ← Prog.lift (.load arg3 (Rect.unit (s := S4x256x1024) off S1x8x128.size inb).toLoadRect (View.loadsAt_vmem h_S1x8x128))
  let _v60 : Vec F S1x8x128 .f32 ← Prog.lift (.load arg5 (Rect.unit (s := S4x256x1024) off S1x8x128.size inb).toLoadRect (View.loadsAt_vmem h_S1x8x128))
  Prog.lift (.store arg5 (Rect.unit (s := S4x256x1024) off S1x8x128.size inb) (k1_pay17 (k1_pay12 v3 v9 v11) (k1_pay13 v3) (k1_pay14 v3 v9 v11 v18) v47 v56) Finset.univ (View.stores_vmem_bits_univ h_S1x8x128 rfl) (.inl rfl))
  let _v66 : Vec F S1x1x8x128 .f32 ← Prog.lift (.load arg6 (Rect.unit (s := S4x8x8x128) o4 S1x1x8x128.size inb4).toLoadRect (View.loadsAt_vmem h_S1x1x8x128))
  Prog.lift (.store arg6 (Rect.unit (s := S4x8x8x128) o4 S1x1x8x128.size inb4) (k1_pay18 (k1_pay12 v3 v9 v11) (k1_pay13 v3) (k1_pay14 v3 v9 v11 v18) v47) Finset.univ (View.stores_vmem_bits_univ h_S1x1x8x128 rfl) (.inl rfl))
  let _v72 : Vec F S1x1x8x128 .f32 ← Prog.lift (.load arg7 (Rect.unit (s := S4x8x8x128) o4 S1x1x8x128.size inb4).toLoadRect (View.loadsAt_vmem h_S1x1x8x128))
  Prog.lift (.store arg7 (Rect.unit (s := S4x8x8x128) o4 S1x1x8x128.size inb4) (k1_pay19 (k1_pay7 v9)) Finset.univ (View.stores_vmem_bits_univ h_S1x1x8x128 rfl) (.inl rfl))
  pure ⟨⟩

set_option maxRecDepth 65536 in
/-- A trip of the loop is the thirty-two pieces one after another. -/
theorem body_eq (i : grid1.Coords) (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x256x1024 .f32) (harg5 : arg5.IsWhole) (arg6 : Memref sig .tc .vmem S4x8x8x128 .f32) (harg6 : arg6.IsWhole) (arg7 : Memref sig .tc .vmem S4x8x8x128 .f32) (harg7 : arg7.IsWhole) (v3 : IVec S8x128 32) (k : Fin k1_t1_loop.trips) (u : Unit) :
    k1_t1_body (F := F) i arg1 harg1 arg2 harg2 arg3 harg3 arg4 harg4 arg5 harg5 arg6 harg6 arg7 harg7 v3 k u = (do
      piece arg1 harg1 arg2 harg2 arg3 harg3 arg4 harg4 arg5 harg5 arg6 harg6 arg7 harg7 v3 (k1_off1 k) (k1_off1_inb k) ![0, 0, 0, 0] inb_S4x8x8x128_S1x1x8x128_0_0_0_0
      piece arg1 harg1 arg2 harg2 arg3 harg3 arg4 harg4 arg5 harg5 arg6 harg6 arg7 harg7 v3 (k1_off2 k) (k1_off2_inb k) ![0, 1, 0, 0] inb_S4x8x8x128_S1x1x8x128_0_1_0_0
      piece arg1 harg1 arg2 harg2 arg3 harg3 arg4 harg4 arg5 harg5 arg6 harg6 arg7 harg7 v3 (k1_off3 k) (k1_off3_inb k) ![0, 2, 0, 0] inb_S4x8x8x128_S1x1x8x128_0_2_0_0
      piece arg1 harg1 arg2 harg2 arg3 harg3 arg4 harg4 arg5 harg5 arg6 harg6 arg7 harg7 v3 (k1_off4 k) (k1_off4_inb k) ![0, 3, 0, 0] inb_S4x8x8x128_S1x1x8x128_0_3_0_0
      piece arg1 harg1 arg2 harg2 arg3 harg3 arg4 harg4 arg5 harg5 arg6 harg6 arg7 harg7 v3 (k1_off5 k) (k1_off5_inb k) ![0, 4, 0, 0] inb_S4x8x8x128_S1x1x8x128_0_4_0_0
      piece arg1 harg1 arg2 harg2 arg3 harg3 arg4 harg4 arg5 harg5 arg6 harg6 arg7 harg7 v3 (k1_off6 k) (k1_off6_inb k) ![0, 5, 0, 0] inb_S4x8x8x128_S1x1x8x128_0_5_0_0
      piece arg1 harg1 arg2 harg2 arg3 harg3 arg4 harg4 arg5 harg5 arg6 harg6 arg7 harg7 v3 (k1_off7 k) (k1_off7_inb k) ![0, 6, 0, 0] inb_S4x8x8x128_S1x1x8x128_0_6_0_0
      piece arg1 harg1 arg2 harg2 arg3 harg3 arg4 harg4 arg5 harg5 arg6 harg6 arg7 harg7 v3 (k1_off8 k) (k1_off8_inb k) ![0, 7, 0, 0] inb_S4x8x8x128_S1x1x8x128_0_7_0_0
      piece arg1 harg1 arg2 harg2 arg3 harg3 arg4 harg4 arg5 harg5 arg6 harg6 arg7 harg7 v3 (k1_off9 k) (k1_off9_inb k) ![1, 0, 0, 0] inb_S4x8x8x128_S1x1x8x128_1_0_0_0
      piece arg1 harg1 arg2 harg2 arg3 harg3 arg4 harg4 arg5 harg5 arg6 harg6 arg7 harg7 v3 (k1_off10 k) (k1_off10_inb k) ![1, 1, 0, 0] inb_S4x8x8x128_S1x1x8x128_1_1_0_0
      piece arg1 harg1 arg2 harg2 arg3 harg3 arg4 harg4 arg5 harg5 arg6 harg6 arg7 harg7 v3 (k1_off11 k) (k1_off11_inb k) ![1, 2, 0, 0] inb_S4x8x8x128_S1x1x8x128_1_2_0_0
      piece arg1 harg1 arg2 harg2 arg3 harg3 arg4 harg4 arg5 harg5 arg6 harg6 arg7 harg7 v3 (k1_off12 k) (k1_off12_inb k) ![1, 3, 0, 0] inb_S4x8x8x128_S1x1x8x128_1_3_0_0
      piece arg1 harg1 arg2 harg2 arg3 harg3 arg4 harg4 arg5 harg5 arg6 harg6 arg7 harg7 v3 (k1_off13 k) (k1_off13_inb k) ![1, 4, 0, 0] inb_S4x8x8x128_S1x1x8x128_1_4_0_0
      piece arg1 harg1 arg2 harg2 arg3 harg3 arg4 harg4 arg5 harg5 arg6 harg6 arg7 harg7 v3 (k1_off14 k) (k1_off14_inb k) ![1, 5, 0, 0] inb_S4x8x8x128_S1x1x8x128_1_5_0_0
      piece arg1 harg1 arg2 harg2 arg3 harg3 arg4 harg4 arg5 harg5 arg6 harg6 arg7 harg7 v3 (k1_off15 k) (k1_off15_inb k) ![1, 6, 0, 0] inb_S4x8x8x128_S1x1x8x128_1_6_0_0
      piece arg1 harg1 arg2 harg2 arg3 harg3 arg4 harg4 arg5 harg5 arg6 harg6 arg7 harg7 v3 (k1_off16 k) (k1_off16_inb k) ![1, 7, 0, 0] inb_S4x8x8x128_S1x1x8x128_1_7_0_0
      piece arg1 harg1 arg2 harg2 arg3 harg3 arg4 harg4 arg5 harg5 arg6 harg6 arg7 harg7 v3 (k1_off17 k) (k1_off17_inb k) ![2, 0, 0, 0] inb_S4x8x8x128_S1x1x8x128_2_0_0_0
      piece arg1 harg1 arg2 harg2 arg3 harg3 arg4 harg4 arg5 harg5 arg6 harg6 arg7 harg7 v3 (k1_off18 k) (k1_off18_inb k) ![2, 1, 0, 0] inb_S4x8x8x128_S1x1x8x128_2_1_0_0
      piece arg1 harg1 arg2 harg2 arg3 harg3 arg4 harg4 arg5 harg5 arg6 harg6 arg7 harg7 v3 (k1_off19 k) (k1_off19_inb k) ![2, 2, 0, 0] inb_S4x8x8x128_S1x1x8x128_2_2_0_0
      piece arg1 harg1 arg2 harg2 arg3 harg3 arg4 harg4 arg5 harg5 arg6 harg6 arg7 harg7 v3 (k1_off20 k) (k1_off20_inb k) ![2, 3, 0, 0] inb_S4x8x8x128_S1x1x8x128_2_3_0_0
      piece arg1 harg1 arg2 harg2 arg3 harg3 arg4 harg4 arg5 harg5 arg6 harg6 arg7 harg7 v3 (k1_off21 k) (k1_off21_inb k) ![2, 4, 0, 0] inb_S4x8x8x128_S1x1x8x128_2_4_0_0
      piece arg1 harg1 arg2 harg2 arg3 harg3 arg4 harg4 arg5 harg5 arg6 harg6 arg7 harg7 v3 (k1_off22 k) (k1_off22_inb k) ![2, 5, 0, 0] inb_S4x8x8x128_S1x1x8x128_2_5_0_0
      piece arg1 harg1 arg2 harg2 arg3 harg3 arg4 harg4 arg5 harg5 arg6 harg6 arg7 harg7 v3 (k1_off23 k) (k1_off23_inb k) ![2, 6, 0, 0] inb_S4x8x8x128_S1x1x8x128_2_6_0_0
      piece arg1 harg1 arg2 harg2 arg3 harg3 arg4 harg4 arg5 harg5 arg6 harg6 arg7 harg7 v3 (k1_off24 k) (k1_off24_inb k) ![2, 7, 0, 0] inb_S4x8x8x128_S1x1x8x128_2_7_0_0
      piece arg1 harg1 arg2 harg2 arg3 harg3 arg4 harg4 arg5 harg5 arg6 harg6 arg7 harg7 v3 (k1_off25 k) (k1_off25_inb k) ![3, 0, 0, 0] inb_S4x8x8x128_S1x1x8x128_3_0_0_0
      piece arg1 harg1 arg2 harg2 arg3 harg3 arg4 harg4 arg5 harg5 arg6 harg6 arg7 harg7 v3 (k1_off26 k) (k1_off26_inb k) ![3, 1, 0, 0] inb_S4x8x8x128_S1x1x8x128_3_1_0_0
      piece arg1 harg1 arg2 harg2 arg3 harg3 arg4 harg4 arg5 harg5 arg6 harg6 arg7 harg7 v3 (k1_off27 k) (k1_off27_inb k) ![3, 2, 0, 0] inb_S4x8x8x128_S1x1x8x128_3_2_0_0
      piece arg1 harg1 arg2 harg2 arg3 harg3 arg4 harg4 arg5 harg5 arg6 harg6 arg7 harg7 v3 (k1_off28 k) (k1_off28_inb k) ![3, 3, 0, 0] inb_S4x8x8x128_S1x1x8x128_3_3_0_0
      piece arg1 harg1 arg2 harg2 arg3 harg3 arg4 harg4 arg5 harg5 arg6 harg6 arg7 harg7 v3 (k1_off29 k) (k1_off29_inb k) ![3, 4, 0, 0] inb_S4x8x8x128_S1x1x8x128_3_4_0_0
      piece arg1 harg1 arg2 harg2 arg3 harg3 arg4 harg4 arg5 harg5 arg6 harg6 arg7 harg7 v3 (k1_off30 k) (k1_off30_inb k) ![3, 5, 0, 0] inb_S4x8x8x128_S1x1x8x128_3_5_0_0
      piece arg1 harg1 arg2 harg2 arg3 harg3 arg4 harg4 arg5 harg5 arg6 harg6 arg7 harg7 v3 (k1_off31 k) (k1_off31_inb k) ![3, 6, 0, 0] inb_S4x8x8x128_S1x1x8x128_3_6_0_0
      piece arg1 harg1 arg2 harg2 arg3 harg3 arg4 harg4 arg5 harg5 arg6 harg6 arg7 harg7 v3 (k1_off32 k) (k1_off32_inb k) ![3, 7, 0, 0] inb_S4x8x8x128_S1x1x8x128_3_7_0_0) := by rfl

end Cert.Kernel20Ideal.Gen.Lru

end
-- ==== Proof.BackTrip.lean ====
module

public import proofs.«01_k».proof.Proof.BackPiece
public import Idealize.ShloMosaic.Lib.Ring
public import Idealize.ShloMosaic.Lib.Pipeline.FrameBody

/-! What one piece of the loop body leaves in the buffers, and what a whole trip leaves. -/

@[expose] public section

noncomputable section

namespace Cert.Kernel20Ideal.Gen.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## Writing a rectangle -/

open Classical in
/-- `X` with the rectangle `r` overwritten by `w`. -/
def put {s : Shape} {α : Type} (r : Rect s) (w : r.shape.Idx → α) (X : s.Idx → α) : s.Idx → α :=
  fun y => if h : ∃ x, r.emb x = y then w h.choose else X y

theorem put_emb {s : Shape} {α : Type} (r : Rect s) (w : r.shape.Idx → α) (X : s.Idx → α) (x : r.shape.Idx) :
    put r w X (r.emb x) = w x := by
  have h : ∃ x', r.emb x' = r.emb x := ⟨x, rfl⟩
  unfold put
  rw [dif_pos h]
  exact congrArg w (r.emb.injective h.choose_spec)

theorem put_miss {s : Shape} {α : Type} (r : Rect s) (w : r.shape.Idx → α) (X : s.Idx → α) (y : s.Idx)
    (hy : ∀ x, r.emb x ≠ y) : put r w X y = X y :=
  dif_neg fun ⟨x, hx⟩ => hy x hx

/-- A store through a view changes what the view reads by `put`. -/
theorem read_store {κ : Kind} {sp : Space} {s : Shape} {e : EltTy} (v : View sig κ sp s e) (f : v.ty.Contents (Elt F))
    (r : Rect s) (w : r.shape.Idx → Elt F e) :
    v.read (Elt F) (v.writes (Elt F) f [⟨r, w⟩]) = put r w (v.read (Elt F) f) := by
  funext y
  by_cases h : ∃ x, r.emb x = y
  · obtain ⟨x, rfl⟩ := h
    rw [put_emb]
    exact View.read_writes_cons_hit v f r w [] x _ rfl
  · have h' : ∀ x, r.emb x ≠ y := fun x hx => h ⟨x, hx⟩
    rw [put_miss _ _ _ _ h', View.read_writes_cons_miss, View.writes_nil]
    intro hy
    obtain ⟨x, hx⟩ := r.exists_idx_of_mem hy
    exact h' x hx

/-! ## One piece -/

/-- Eight rows of one sequence in 128 columns. -/
abbrev rect3 (off : Fin 3 → ℕ) (inb : ∀ a, off a + S1x8x128.size a ≤ S4x256x1024.size a) : Rect S4x256x1024 :=
  Rect.unit (s := S4x256x1024) off S1x8x128.size inb
/-- The carried row of one sequence in 128 columns. -/
abbrev rect4 (o4 : Fin 4 → ℕ) (inb4 : ∀ a, o4 a + S1x1x8x128.size a ≤ S4x8x8x128.size a) : Rect S4x8x8x128 :=
  Rect.unit (s := S4x8x8x128) o4 S1x1x8x128.size inb4

/-- The gradient a piece stores. -/
def pieceG (v3 : IVec S8x128 32) (A D : Vec F S4x256x1024 .f32) (g a : Vec F S4x8x8x128 .f32)
    (off : Fin 3 → ℕ) (inb : ∀ a, off a + S1x8x128.size a ≤ S4x256x1024.size a)
    (o4 : Fin 4 → ℕ) (inb4 : ∀ a, o4 a + S1x1x8x128.size a ≤ S4x8x8x128.size a) : Vec F S1x8x128 .f32 :=
  k1_pay16 (k1_pay12 v3 (fun x => A ((rect3 off inb).emb x)) (fun x => a ((rect4 o4 inb4).emb x))) (k1_pay13 v3)
    (k1_pay14 v3 (fun x => A ((rect3 off inb).emb x)) (fun x => a ((rect4 o4 inb4).emb x)) (fun x => D ((rect3 off inb).emb x)))
    (fun x => g ((rect4 o4 inb4).emb x))

/-- Its product with the saved states, which a piece stores too. -/
def pieceGA (v3 : IVec S8x128 32) (A D H : Vec F S4x256x1024 .f32) (g a : Vec F S4x8x8x128 .f32)
    (off : Fin 3 → ℕ) (inb : ∀ a, off a + S1x8x128.size a ≤ S4x256x1024.size a)
    (o4 : Fin 4 → ℕ) (inb4 : ∀ a, o4 a + S1x1x8x128.size a ≤ S4x8x8x128.size a) : Vec F S1x8x128 .f32 :=
  k1_pay17 (k1_pay12 v3 (fun x => A ((rect3 off inb).emb x)) (fun x => a ((rect4 o4 inb4).emb x))) (k1_pay13 v3)
    (k1_pay14 v3 (fun x => A ((rect3 off inb).emb x)) (fun x => a ((rect4 o4 inb4).emb x)) (fun x => D ((rect3 off inb).emb x)))
    (fun x => g ((rect4 o4 inb4).emb x)) (fun x => H ((rect3 off inb).emb x))

/-- The gradient's first row, which a piece carries on. -/
def pieceC (v3 : IVec S8x128 32) (A D : Vec F S4x256x1024 .f32) (g a : Vec F S4x8x8x128 .f32)
    (off : Fin 3 → ℕ) (inb : ∀ a, off a + S1x8x128.size a ≤ S4x256x1024.size a)
    (o4 : Fin 4 → ℕ) (inb4 : ∀ a, o4 a + S1x1x8x128.size a ≤ S4x8x8x128.size a) : Vec F S1x1x8x128 .f32 :=
  k1_pay18 (k1_pay12 v3 (fun x => A ((rect3 off inb).emb x)) (fun x => a ((rect4 o4 inb4).emb x))) (k1_pay13 v3)
    (k1_pay14 v3 (fun x => A ((rect3 off inb).emb x)) (fun x => a ((rect4 o4 inb4).emb x)) (fun x => D ((rect3 off inb).emb x)))
    (fun x => g ((rect4 o4 inb4).emb x))

/-- The coefficients' first row, which a piece carries on. -/
def pieceA (A : Vec F S4x256x1024 .f32)
    (off : Fin 3 → ℕ) (inb : ∀ a, off a + S1x8x128.size a ≤ S4x256x1024.size a) : Vec F S1x1x8x128 .f32 :=
  k1_pay19 (k1_pay7 (fun x => A ((rect3 off inb).emb x)))

/-- What the buffers hold. -/
abbrev Bufs (c : Dev nD) (arg1 : Memref sig .tc .vmem S4x256x1024 .f32) (arg2 : Memref sig .tc .vmem S4x256x1024 .f32) (arg3 : Memref sig .tc .vmem S4x256x1024 .f32) (arg4 : Memref sig .tc .vmem S4x256x1024 .f32) (arg5 : Memref sig .tc .vmem S4x256x1024 .f32) (arg6 : Memref sig .tc .vmem S4x8x8x128 .f32) (arg7 : Memref sig .tc .vmem S4x8x8x128 .f32) (A D H W4 W5 : Vec F S4x256x1024 .f32) (g a : Vec F S4x8x8x128 .f32) : sProp 𝕄 :=
  iprop(owns (c : Thread nD τ) arg1 fullShare A ∗ owns (c : Thread nD τ) arg2 fullShare D ∗ owns (c : Thread nD τ) arg3 fullShare H
        ∗ owns (c : Thread nD τ) arg4 fullShare W4
        ∗ owns (c : Thread nD τ) arg5 fullShare W5
        ∗ owns (c : Thread nD τ) arg6 fullShare g
        ∗ owns (c : Thread nD τ) arg7 fullShare a)

/-- One piece: it writes its rectangle of the two results and its carried rows, and leaves the rest. -/
theorem wp_piece (𝒱 : Variants) (c : Dev nD) (bd : Option 𝒱.V) (E : Set ℕ) (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x256x1024 .f32) (harg5 : arg5.IsWhole) (arg6 : Memref sig .tc .vmem S4x8x8x128 .f32) (harg6 : arg6.IsWhole) (arg7 : Memref sig .tc .vmem S4x8x8x128 .f32) (harg7 : arg7.IsWhole) (v3 : IVec S8x128 32)
    (A D H W4 W5 : Vec F S4x256x1024 .f32) (g a : Vec F S4x8x8x128 .f32)
    (off : Fin 3 → ℕ) (inb : ∀ a, off a + S1x8x128.size a ≤ S4x256x1024.size a)
    (o4 : Fin 4 → ℕ) (inb4 : ∀ a, o4 a + S1x1x8x128.size a ≤ S4x8x8x128.size a) :
    Bufs c arg1 arg2 arg3 arg4 arg5 arg6 arg7 A D H W4 W5 g a
      ⊢ wp frame (wpE (defs₀ (F := F)) 𝒱 (c : Thread nD τ) bd) E (piece (F := F) arg1 harg1 arg2 harg2 arg3 harg3 arg4 harg4 arg5 harg5 arg6 harg6 arg7 harg7 v3 off inb o4 inb4)
          (fun _ => Bufs c arg1 arg2 arg3 arg4 arg5 arg6 arg7 A D H
            (put (rect3 off inb) (pieceG v3 A D g a off inb o4 inb4) W4) (put (rect3 off inb) (pieceGA v3 A D H g a off inb o4 inb4) W5)
            (put (rect4 o4 inb4) (pieceC v3 A D g a off inb o4 inb4) g) (put (rect4 o4 inb4) (pieceA A off inb) a)) := by
  unfold piece Bufs owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩⟩
  sl_exec
  sl_step
  isplitl [H1]; · iexists _; isplitr; (· ipureintro; exact h1); iexact H1
  isplitl [H2]; · iexists _; isplitr; (· ipureintro; exact h2); iexact H2
  isplitl [H3]; · iexists _; isplitr; (· ipureintro; exact h3); iexact H3
  isplitl [H4]
  · iexists _; isplitr
    swap; · iexact H4
    ipureintro; subst h1 h2 h3 h4 h5 h6 h7; exact read_store _ _ _ _
  isplitl [H5]
  · iexists _; isplitr
    swap; · iexact H5
    ipureintro; subst h1 h2 h3 h4 h5 h6 h7; exact read_store _ _ _ _
  isplitl [H6]
  · iexists _; isplitr
    swap; · iexact H6
    ipureintro; subst h1 h2 h3 h4 h5 h6 h7; exact read_store _ _ _ _
  iexists _; isplitr
  swap; · iexact H7
  ipureintro; subst h1 h2 h3 h4 h5 h6 h7; exact read_store _ _ _ _

end Cert.Kernel20Ideal.Gen.Lru

end
-- ==== Proof.BackLoop.lean ====
module

public import proofs.«01_k».proof.Proof.BackTrip
public import Idealize.ShloMosaic.Lib.Ring
public import Idealize.ShloMosaic.Lib.Pipeline.FrameBody

/-! What a whole trip of the loop leaves in the buffers, what the loop leaves, and what one run of the body leaves. -/

@[expose] public section

noncomputable section

namespace Cert.Kernel20Ideal.Gen.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## A trip as a function of the buffers -/

/-- Where the rows of trip `k` in sequence `b` and column group `j` begin. -/
abbrev offOf (b j k : ℕ) : Fin 3 → ℕ := ![b, 248 - 8 * k, 128 * j]
/-- Where the carried row of sequence `b` and column group `j` begins. -/
abbrev o4Of (b j : ℕ) : Fin 4 → ℕ := ![b, j, 0, 0]

theorem inb3 {b j : ℕ} (k : ℕ) (hb : b < 4) (hj : j < 8) : ∀ a, offOf b j k a + S1x8x128.size a ≤ S4x256x1024.size a := by
  intro a; fin_cases a
  · show b + 1 ≤ 4; omega
  · show 248 - 8 * k + 8 ≤ 256; omega
  · show 128 * j + 128 ≤ 1024; omega

theorem inb4 {b j : ℕ} (hb : b < 4) (hj : j < 8) : ∀ a, o4Of b j a + S1x1x8x128.size a ≤ S4x8x8x128.size a := by
  intro a; fin_cases a
  · show b + 1 ≤ 4; omega
  · show j + 1 ≤ 8; omega
  · show 0 + 8 ≤ 8; omega
  · show 0 + 128 ≤ 128; omega

/-- The sequence and the column group of a place of the results' block. -/
theorem y0_lt (y : S4x256x1024.Idx) : (y 0).val < 4 := (y 0).isLt
theorem y2_lt (y : S4x256x1024.Idx) : (y 2).val / 128 < 8 := by have h : (y 2).val < 1024 := (y 2).isLt; omega

/-- A place of the results' block within its eight rows and 128 columns. -/
abbrev sub3 (y : S4x256x1024.Idx) : S1x8x128.Idx := fun a => match a with
  | 0 => (⟨0, by decide⟩ : Fin 1)
  | 1 => (⟨(y 1).val % 8, Nat.mod_lt _ (by decide)⟩ : Fin 8)
  | 2 => (⟨(y 2).val % 128, Nat.mod_lt _ (by decide)⟩ : Fin 128)

/-- A place of the carried rows within its own row. -/
abbrev sub4 (y : S4x8x8x128.Idx) : S1x1x8x128.Idx := fun a => match a with
  | 0 => (⟨0, by decide⟩ : Fin 1)
  | 1 => (⟨0, by decide⟩ : Fin 1)
  | 2 => (y 2 : Fin 8)
  | 3 => (y 3 : Fin 128)

section
variable (v3 : IVec S8x128 32) (A D H : Vec F S4x256x1024 .f32)

/-- The gradient trip `k` stores, at the places of its rows. -/
def outG (g a : Vec F S4x8x8x128 .f32) (k : ℕ) : Vec F S4x256x1024 .f32 := fun y =>
  pieceG v3 A D g a (offOf (y 0).val ((y 2).val / 128) k) (inb3 k (y0_lt y) (y2_lt y)) (o4Of (y 0).val ((y 2).val / 128)) (inb4 (y0_lt y) (y2_lt y)) (sub3 y)
/-- Its product with the saved states. -/
def outGA (g a : Vec F S4x8x8x128 .f32) (k : ℕ) : Vec F S4x256x1024 .f32 := fun y =>
  pieceGA v3 A D H g a (offOf (y 0).val ((y 2).val / 128) k) (inb3 k (y0_lt y) (y2_lt y)) (o4Of (y 0).val ((y 2).val / 128)) (inb4 (y0_lt y) (y2_lt y)) (sub3 y)
/-- The gradient's rows trip `k` carries on. -/
def stepC (g a : Vec F S4x8x8x128 .f32) (k : ℕ) : Vec F S4x8x8x128 .f32 := fun y =>
  pieceC v3 A D g a (offOf (y 0).val (y 1).val k) (inb3 k (y 0).isLt (y 1).isLt) (o4Of (y 0).val (y 1).val) (inb4 (y 0).isLt (y 1).isLt) (sub4 y)
/-- The coefficients' rows trip `k` carries on. -/
def stepA (k : ℕ) : Vec F S4x8x8x128 .f32 := fun y =>
  pieceA A (offOf (y 0).val (y 1).val k) (inb3 k (y 0).isLt (y 1).isLt) (sub4 y)
end

/-- What a trip's results hold after `n` pieces: the new values `O` in the rows of trip `k` and the first `n` groups. -/
def part3 (k n : ℕ) (O W : Vec F S4x256x1024 .f32) : Vec F S4x256x1024 .f32 := fun y =>
  if (y 1).val / 8 = 31 - k ∧ 8 * (y 0).val + (y 2).val / 128 < n then O y else W y
/-- What the carried rows hold after `n` pieces: the new values in the first `n` groups. -/
def part4 (n : ℕ) (O W : Vec F S4x8x8x128 .f32) : Vec F S4x8x8x128 .f32 := fun y =>
  if 8 * (y 0).val + (y 1).val < n then O y else W y

theorem emb3_val (off : Fin 3 → ℕ) (inb : ∀ a, off a + S1x8x128.size a ≤ S4x256x1024.size a) (x : S1x8x128.Idx) (a : Fin 3) :
    ((rect3 off inb).emb x a).val = off a + (x a).val := by
  show off a + 1 * (x a).val = _; omega
theorem emb4_val (off : Fin 4 → ℕ) (inb : ∀ a, off a + S1x1x8x128.size a ≤ S4x8x8x128.size a) (x : S1x1x8x128.Idx) (a : Fin 4) :
    ((rect4 off inb).emb x a).val = off a + (x a).val := by
  show off a + 1 * (x a).val = _; omega

/-- A carried row is still the old one before its own piece. -/
theorem part4_old (b j : ℕ) (hb : b < 4) (hj : j < 8) (O W : Vec F S4x8x8x128 .f32) (x : S1x1x8x128.Idx) :
    part4 (8 * b + j) O W ((rect4 (o4Of b j) (inb4 hb hj)).emb x) = W ((rect4 (o4Of b j) (inb4 hb hj)).emb x) := by
  unfold part4
  have h0 := emb4_val (o4Of b j) (inb4 hb hj) x 0
  have h1 := emb4_val (o4Of b j) (inb4 hb hj) x 1
  have e0 : o4Of b j 0 = b := rfl
  have e1 : o4Of b j 1 = j := rfl
  rw [if_neg]
  omega

/-- One piece's store into a result block. -/
theorem put_part3 (k : ℕ) (hk : k < 32) (b j : ℕ) (hb : b < 4) (hj : j < 8) (O W : Vec F S4x256x1024 .f32) (w : Vec F S1x8x128 .f32)
    (hw : ∀ y : S4x256x1024.Idx, (y 0).val = b → (y 2).val / 128 = j → O y = w (sub3 y)) :
    put (rect3 (offOf b j k) (inb3 k hb hj)) w (part3 k (8 * b + j) O W) = part3 k (8 * b + j + 1) O W := by
  funext y
  have hy0 : (y 0).val < 4 := (y 0).isLt
  have hy1 : (y 1).val < 256 := (y 1).isLt
  have hy2 : (y 2).val < 1024 := (y 2).isLt
  by_cases h : (y 0).val = b ∧ (y 1).val / 8 = 31 - k ∧ (y 2).val / 128 = j
  · obtain ⟨h0, h1, h2⟩ := h
    have e : (rect3 (offOf b j k) (inb3 k hb hj)).emb (sub3 y) = y := by
      refine Rect.emb_eq_of_coords _ _ _ fun a => ?_
      fin_cases a
      · show (y 0).val = b + 1 * 0; omega
      · show (y 1).val = (248 - 8 * k) + 1 * ((y 1).val % 8); omega
      · show (y 2).val = 128 * j + 1 * ((y 2).val % 128); omega
    conv_lhs => rw [← e]
    rw [put_emb, ← hw y h0 h2]
    unfold part3
    rw [if_pos]
    omega
  · rw [put_miss]
    · unfold part3
      by_cases h' : (y 1).val / 8 = 31 - k ∧ 8 * (y 0).val + (y 2).val / 128 < 8 * b + j
      · rw [if_pos h', if_pos ⟨h'.1, by omega⟩]
      · rw [if_neg h', if_neg]
        omega
    · rintro x rfl
      apply h
      have x0 := emb3_val (offOf b j k) (inb3 k hb hj) x 0
      have x1 := emb3_val (offOf b j k) (inb3 k hb hj) x 1
      have x2 := emb3_val (offOf b j k) (inb3 k hb hj) x 2
      have e0 : offOf b j k 0 = b := rfl
      have e1 : offOf b j k 1 = 248 - 8 * k := rfl
      have e2 : offOf b j k 2 = 128 * j := rfl
      have l0 : (x 0).val < 1 := (x 0).isLt
      have l1 : (x 1).val < 8 := (x 1).isLt
      have l2 : (x 2).val < 128 := (x 2).isLt
      omega

/-- One piece's store into the carried rows. -/
theorem put_part4 (b j : ℕ) (hb : b < 4) (hj : j < 8) (O W : Vec F S4x8x8x128 .f32) (w : Vec F S1x1x8x128 .f32)
    (hw : ∀ y : S4x8x8x128.Idx, (y 0).val = b → (y 1).val = j → O y = w (sub4 y)) :
    put (rect4 (o4Of b j) (inb4 hb hj)) w (part4 (8 * b + j) O W) = part4 (8 * b + j + 1) O W := by
  funext y
  have hy0 : (y 0).val < 4 := (y 0).isLt
  have hy1 : (y 1).val < 8 := (y 1).isLt
  by_cases h : (y 0).val = b ∧ (y 1).val = j
  · obtain ⟨h0, h1⟩ := h
    have e : (rect4 (o4Of b j) (inb4 hb hj)).emb (sub4 y) = y := by
      refine Rect.emb_eq_of_coords _ _ _ fun a => ?_
      fin_cases a
      · show (y 0).val = b + 1 * 0; omega
      · show (y 1).val = j + 1 * 0; omega
      · show (y 2).val = 0 + 1 * (y 2).val; omega
      · show (y 3).val = 0 + 1 * (y 3).val; omega
    conv_lhs => rw [← e]
    rw [put_emb, ← hw y h0 h1]
    unfold part4
    rw [if_pos]
    omega
  · rw [put_miss]
    · unfold part4
      by_cases h' : 8 * (y 0).val + (y 1).val < 8 * b + j
      · rw [if_pos h', if_pos (by omega)]
      · rw [if_neg h', if_neg]
        omega
    · rintro x rfl
      apply h
      have x0 := emb4_val (o4Of b j) (inb4 hb hj) x 0
      have x1 := emb4_val (o4Of b j) (inb4 hb hj) x 1
      have e0 : o4Of b j 0 = b := rfl
      have e1 : o4Of b j 1 = j := rfl
      have l0 : (x 0).val < 1 := (x 0).isLt
      have l1 : (x 1).val < 1 := (x 1).isLt
      omega

/-! ## A trip of the loop -/

section
variable (𝒱 : Variants) (c : Dev nD) (bd : Option 𝒱.V) (E : Set ℕ) (i : grid1.Coords) (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x256x1024 .f32) (harg5 : arg5.IsWhole) (arg6 : Memref sig .tc .vmem S4x8x8x128 .f32) (harg6 : arg6.IsWhole) (arg7 : Memref sig .tc .vmem S4x8x8x128 .f32) (harg7 : arg7.IsWhole) (v3 : IVec S8x128 32)
  (A D H W4 W5 : Vec F S4x256x1024 .f32) (g a : Vec F S4x8x8x128 .f32)

/-- What the buffers hold in trip `k` after `n` pieces. -/
abbrev After (c : Dev nD) (arg1 : Memref sig .tc .vmem S4x256x1024 .f32) (arg2 : Memref sig .tc .vmem S4x256x1024 .f32) (arg3 : Memref sig .tc .vmem S4x256x1024 .f32) (arg4 : Memref sig .tc .vmem S4x256x1024 .f32) (arg5 : Memref sig .tc .vmem S4x256x1024 .f32) (arg6 : Memref sig .tc .vmem S4x8x8x128 .f32) (arg7 : Memref sig .tc .vmem S4x8x8x128 .f32) (v3 : IVec S8x128 32)
  (A D H W4 W5 : Vec F S4x256x1024 .f32) (g a : Vec F S4x8x8x128 .f32) (k n : ℕ) : sProp 𝕄 :=
  Bufs c arg1 arg2 arg3 arg4 arg5 arg6 arg7 A D H (part3 k (n) (outG v3 A D g a k) W4) (part3 k (n) (outGA v3 A D H g a k) W5) (part4 (n) (stepC v3 A D g a k) g) (part4 (n) (stepA A k) a)

/-- The next piece of a trip. -/
theorem wp_next (k : ℕ) (hk : k < 32) (b j : ℕ) (hb : b < 4) (hj : j < 8)
    (off : Fin 3 → ℕ) (inb : ∀ a, off a + S1x8x128.size a ≤ S4x256x1024.size a) (hoff : off = offOf b j k)
    (o4 : Fin 4 → ℕ) (inb' : ∀ a, o4 a + S1x1x8x128.size a ≤ S4x8x8x128.size a) (ho4 : o4 = o4Of b j) :
    After c arg1 arg2 arg3 arg4 arg5 arg6 arg7 v3 A D H W4 W5 g a k (8 * b + j)
      ⊢ wp frame (wpE (defs₀ (F := F)) 𝒱 (c : Thread nD τ) bd) E (piece (F := F) arg1 harg1 arg2 harg2 arg3 harg3 arg4 harg4 arg5 harg5 arg6 harg6 arg7 harg7 v3 off inb o4 inb')
          (fun _ => After c arg1 arg2 arg3 arg4 arg5 arg6 arg7 v3 A D H W4 W5 g a k (8 * b + j + 1)) := by
  subst hoff ho4
  refine (wp_piece 𝒱 c bd E arg1 harg1 arg2 harg2 arg3 harg3 arg4 harg4 arg5 harg5 arg6 harg6 arg7 harg7 v3 A D H _ _ _ _ _ inb _ inb').trans (wp_mono _ _ _ fun _ => ?_)
  have sg : (fun (x : S1x1x8x128.Idx) => part4 (8 * b + j) (stepC v3 A D g a k) g ((rect4 (o4Of b j) inb').emb x)) = fun (x : S1x1x8x128.Idx) => g ((rect4 (o4Of b j) inb').emb x) :=
    funext fun x => part4_old b j hb hj _ _ x
  have sa : (fun (x : S1x1x8x128.Idx) => part4 (8 * b + j) (stepA A k) a ((rect4 (o4Of b j) inb').emb x)) = fun (x : S1x1x8x128.Idx) => a ((rect4 (o4Of b j) inb').emb x) :=
    funext fun x => part4_old b j hb hj _ _ x
  have eG : pieceG v3 A D (part4 (8 * b + j) (stepC v3 A D g a k) g) (part4 (8 * b + j) (stepA A k) a) (offOf b j k) inb (o4Of b j) inb'
      = pieceG v3 A D g a (offOf b j k) inb (o4Of b j) inb' :=
    congrArg₂ (fun (p q : Vec F S1x1x8x128 .f32) => k1_pay16 (k1_pay12 v3 (fun x => A ((rect3 (offOf b j k) inb).emb x)) p) (k1_pay13 v3) (k1_pay14 v3 (fun x => A ((rect3 (offOf b j k) inb).emb x)) p (fun x => D ((rect3 (offOf b j k) inb).emb x))) q) sa sg
  have eGA : pieceGA v3 A D H (part4 (8 * b + j) (stepC v3 A D g a k) g) (part4 (8 * b + j) (stepA A k) a) (offOf b j k) inb (o4Of b j) inb'
      = pieceGA v3 A D H g a (offOf b j k) inb (o4Of b j) inb' :=
    congrArg₂ (fun (p q : Vec F S1x1x8x128 .f32) => k1_pay17 (k1_pay12 v3 (fun x => A ((rect3 (offOf b j k) inb).emb x)) p) (k1_pay13 v3) (k1_pay14 v3 (fun x => A ((rect3 (offOf b j k) inb).emb x)) p (fun x => D ((rect3 (offOf b j k) inb).emb x))) q (fun x => H ((rect3 (offOf b j k) inb).emb x))) sa sg
  have eC : pieceC v3 A D (part4 (8 * b + j) (stepC v3 A D g a k) g) (part4 (8 * b + j) (stepA A k) a) (offOf b j k) inb (o4Of b j) inb'
      = pieceC v3 A D g a (offOf b j k) inb (o4Of b j) inb' :=
    congrArg₂ (fun (p q : Vec F S1x1x8x128 .f32) => k1_pay18 (k1_pay12 v3 (fun x => A ((rect3 (offOf b j k) inb).emb x)) p) (k1_pay13 v3) (k1_pay14 v3 (fun x => A ((rect3 (offOf b j k) inb).emb x)) p (fun x => D ((rect3 (offOf b j k) inb).emb x))) q) sa sg
  rw [eG, eGA, eC,
    put_part3 k hk b j hb hj (outG v3 A D g a k) W4 _ (by rintro y rfl rfl; rfl),
    put_part3 k hk b j hb hj (outGA v3 A D H g a k) W5 _ (by rintro y rfl rfl; rfl),
    put_part4 b j hb hj (stepC v3 A D g a k) g _ (by rintro y rfl rfl; rfl),
    put_part4 b j hb hj (stepA A k) a _ (by rintro y rfl rfl; rfl)]

/-- The next piece, and the rest of the trip after it. -/
theorem wp_next_bind (k : ℕ) (hk : k < 32) (b j : ℕ) (hb : b < 4) (hj : j < 8)
    (off : Fin 3 → ℕ) (inb : ∀ a, off a + S1x8x128.size a ≤ S4x256x1024.size a) (hoff : off = offOf b j k)
    (o4 : Fin 4 → ℕ) (inb' : ∀ a, o4 a + S1x1x8x128.size a ≤ S4x8x8x128.size a) (ho4 : o4 = o4Of b j)
    (rest : Unit → Prog (TpuEff nD τ sig (Elt F) Λ₀ .tc) Unit) (Q : Unit → sProp 𝕄)
    (h : After c arg1 arg2 arg3 arg4 arg5 arg6 arg7 v3 A D H W4 W5 g a k (8 * b + j + 1)
      ⊢ wp frame (wpE (defs₀ (F := F)) 𝒱 (c : Thread nD τ) bd) E (rest ⟨⟩) Q) :
    After c arg1 arg2 arg3 arg4 arg5 arg6 arg7 v3 A D H W4 W5 g a k (8 * b + j)
      ⊢ wp frame (wpE (defs₀ (F := F)) 𝒱 (c : Thread nD τ) bd) E (piece (F := F) arg1 harg1 arg2 harg2 arg3 harg3 arg4 harg4 arg5 harg5 arg6 harg6 arg7 harg7 v3 off inb o4 inb' >>= rest) Q := by
  rw [wp_bind]
  exact (wp_next 𝒱 c bd E arg1 harg1 arg2 harg2 arg3 harg3 arg4 harg4 arg5 harg5 arg6 harg6 arg7 harg7 v3 A D H W4 W5 g a k hk b j hb hj off inb hoff o4 inb' ho4).trans (wp_mono _ _ _ fun _ => h)

set_option maxRecDepth 65536 in
/-- A trip: all thirty-two pieces. -/
theorem wp_trip (k : Fin k1_t1_loop.trips) (u : Unit) :
    After c arg1 arg2 arg3 arg4 arg5 arg6 arg7 v3 A D H W4 W5 g a k.val 0
      ⊢ wp frame (wpE (defs₀ (F := F)) 𝒱 (c : Thread nD τ) bd) E (k1_t1_body (F := F) i arg1 harg1 arg2 harg2 arg3 harg3 arg4 harg4 arg5 harg5 arg6 harg6 arg7 harg7 v3 k u)
          (fun _ => After c arg1 arg2 arg3 arg4 arg5 arg6 arg7 v3 A D H W4 W5 g a k.val 32) := by
  have hk : k.val < 32 := Nat.lt_of_lt_of_le k.isLt k1_t1_abs.2.1
  rw [body_eq]
  refine wp_next_bind 𝒱 c bd E arg1 harg1 arg2 harg2 arg3 harg3 arg4 harg4 arg5 harg5 arg6 harg6 arg7 harg7 v3 A D H W4 W5 g a k.val hk 0 0 (by decide) (by decide) _ _ (k1_off1_eq k) _ _ rfl _ _ ?_
  refine wp_next_bind 𝒱 c bd E arg1 harg1 arg2 harg2 arg3 harg3 arg4 harg4 arg5 harg5 arg6 harg6 arg7 harg7 v3 A D H W4 W5 g a k.val hk 0 1 (by decide) (by decide) _ _ (k1_off2_eq k) _ _ rfl _ _ ?_
  refine wp_next_bind 𝒱 c bd E arg1 harg1 arg2 harg2 arg3 harg3 arg4 harg4 arg5 harg5 arg6 harg6 arg7 harg7 v3 A D H W4 W5 g a k.val hk 0 2 (by decide) (by decide) _ _ (k1_off3_eq k) _ _ rfl _ _ ?_
  refine wp_next_bind 𝒱 c bd E arg1 harg1 arg2 harg2 arg3 harg3 arg4 harg4 arg5 harg5 arg6 harg6 arg7 harg7 v3 A D H W4 W5 g a k.val hk 0 3 (by decide) (by decide) _ _ (k1_off4_eq k) _ _ rfl _ _ ?_
  refine wp_next_bind 𝒱 c bd E arg1 harg1 arg2 harg2 arg3 harg3 arg4 harg4 arg5 harg5 arg6 harg6 arg7 harg7 v3 A D H W4 W5 g a k.val hk 0 4 (by decide) (by decide) _ _ (k1_off5_eq k) _ _ rfl _ _ ?_
  refine wp_next_bind 𝒱 c bd E arg1 harg1 arg2 harg2 arg3 harg3 arg4 harg4 arg5 harg5 arg6 harg6 arg7 harg7 v3 A D H W4 W5 g a k.val hk 0 5 (by decide) (by decide) _ _ (k1_off6_eq k) _ _ rfl _ _ ?_
  refine wp_next_bind 𝒱 c bd E arg1 harg1 arg2 harg2 arg3 harg3 arg4 harg4 arg5 harg5 arg6 harg6 arg7 harg7 v3 A D H W4 W5 g a k.val hk 0 6 (by decide) (by decide) _ _ (k1_off7_eq k) _ _ rfl _ _ ?_
  refine wp_next_bind 𝒱 c bd E arg1 harg1 arg2 harg2 arg3 harg3 arg4 harg4 arg5 harg5 arg6 harg6 arg7 harg7 v3 A D H W4 W5 g a k.val hk 0 7 (by decide) (by decide) _ _ (k1_off8_eq k) _ _ rfl _ _ ?_
  refine wp_next_bind 𝒱 c bd E arg1 harg1 arg2 harg2 arg3 harg3 arg4 harg4 arg5 harg5 arg6 harg6 arg7 harg7 v3 A D H W4 W5 g a k.val hk 1 0 (by decide) (by decide) _ _ (k1_off9_eq k) _ _ rfl _ _ ?_
  refine wp_next_bind 𝒱 c bd E arg1 harg1 arg2 harg2 arg3 harg3 arg4 harg4 arg5 harg5 arg6 harg6 arg7 harg7 v3 A D H W4 W5 g a k.val hk 1 1 (by decide) (by decide) _ _ (k1_off10_eq k) _ _ rfl _ _ ?_
  refine wp_next_bind 𝒱 c bd E arg1 harg1 arg2 harg2 arg3 harg3 arg4 harg4 arg5 harg5 arg6 harg6 arg7 harg7 v3 A D H W4 W5 g a k.val hk 1 2 (by decide) (by decide) _ _ (k1_off11_eq k) _ _ rfl _ _ ?_
  refine wp_next_bind 𝒱 c bd E arg1 harg1 arg2 harg2 arg3 harg3 arg4 harg4 arg5 harg5 arg6 harg6 arg7 harg7 v3 A D H W4 W5 g a k.val hk 1 3 (by decide) (by decide) _ _ (k1_off12_eq k) _ _ rfl _ _ ?_
  refine wp_next_bind 𝒱 c bd E arg1 harg1 arg2 harg2 arg3 harg3 arg4 harg4 arg5 harg5 arg6 harg6 arg7 harg7 v3 A D H W4 W5 g a k.val hk 1 4 (by decide) (by decide) _ _ (k1_off13_eq k) _ _ rfl _ _ ?_
  refine wp_next_bind 𝒱 c bd E arg1 harg1 arg2 harg2 arg3 harg3 arg4 harg4 arg5 harg5 arg6 harg6 arg7 harg7 v3 A D H W4 W5 g a k.val hk 1 5 (by decide) (by decide) _ _ (k1_off14_eq k) _ _ rfl _ _ ?_
  refine wp_next_bind 𝒱 c bd E arg1 harg1 arg2 harg2 arg3 harg3 arg4 harg4 arg5 harg5 arg6 harg6 arg7 harg7 v3 A D H W4 W5 g a k.val hk 1 6 (by decide) (by decide) _ _ (k1_off15_eq k) _ _ rfl _ _ ?_
  refine wp_next_bind 𝒱 c bd E arg1 harg1 arg2 harg2 arg3 harg3 arg4 harg4 arg5 harg5 arg6 harg6 arg7 harg7 v3 A D H W4 W5 g a k.val hk 1 7 (by decide) (by decide) _ _ (k1_off16_eq k) _ _ rfl _ _ ?_
  refine wp_next_bind 𝒱 c bd E arg1 harg1 arg2 harg2 arg3 harg3 arg4 harg4 arg5 harg5 arg6 harg6 arg7 harg7 v3 A D H W4 W5 g a k.val hk 2 0 (by decide) (by decide) _ _ (k1_off17_eq k) _ _ rfl _ _ ?_
  refine wp_next_bind 𝒱 c bd E arg1 harg1 arg2 harg2 arg3 harg3 arg4 harg4 arg5 harg5 arg6 harg6 arg7 harg7 v3 A D H W4 W5 g a k.val hk 2 1 (by decide) (by decide) _ _ (k1_off18_eq k) _ _ rfl _ _ ?_
  refine wp_next_bind 𝒱 c bd E arg1 harg1 arg2 harg2 arg3 harg3 arg4 harg4 arg5 harg5 arg6 harg6 arg7 harg7 v3 A D H W4 W5 g a k.val hk 2 2 (by decide) (by decide) _ _ (k1_off19_eq k) _ _ rfl _ _ ?_
  refine wp_next_bind 𝒱 c bd E arg1 harg1 arg2 harg2 arg3 harg3 arg4 harg4 arg5 harg5 arg6 harg6 arg7 harg7 v3 A D H W4 W5 g a k.val hk 2 3 (by decide) (by decide) _ _ (k1_off20_eq k) _ _ rfl _ _ ?_
  refine wp_next_bind 𝒱 c bd E arg1 harg1 arg2 harg2 arg3 harg3 arg4 harg4 arg5 harg5 arg6 harg6 arg7 harg7 v3 A D H W4 W5 g a k.val hk 2 4 (by decide) (by decide) _ _ (k1_off21_eq k) _ _ rfl _ _ ?_
  refine wp_next_bind 𝒱 c bd E arg1 harg1 arg2 harg2 arg3 harg3 arg4 harg4 arg5 harg5 arg6 harg6 arg7 harg7 v3 A D H W4 W5 g a k.val hk 2 5 (by decide) (by decide) _ _ (k1_off22_eq k) _ _ rfl _ _ ?_
  refine wp_next_bind 𝒱 c bd E arg1 harg1 arg2 harg2 arg3 harg3 arg4 harg4 arg5 harg5 arg6 harg6 arg7 harg7 v3 A D H W4 W5 g a k.val hk 2 6 (by decide) (by decide) _ _ (k1_off23_eq k) _ _ rfl _ _ ?_
  refine wp_next_bind 𝒱 c bd E arg1 harg1 arg2 harg2 arg3 harg3 arg4 harg4 arg5 harg5 arg6 harg6 arg7 harg7 v3 A D H W4 W5 g a k.val hk 2 7 (by decide) (by decide) _ _ (k1_off24_eq k) _ _ rfl _ _ ?_
  refine wp_next_bind 𝒱 c bd E arg1 harg1 arg2 harg2 arg3 harg3 arg4 harg4 arg5 harg5 arg6 harg6 arg7 harg7 v3 A D H W4 W5 g a k.val hk 3 0 (by decide) (by decide) _ _ (k1_off25_eq k) _ _ rfl _ _ ?_
  refine wp_next_bind 𝒱 c bd E arg1 harg1 arg2 harg2 arg3 harg3 arg4 harg4 arg5 harg5 arg6 harg6 arg7 harg7 v3 A D H W4 W5 g a k.val hk 3 1 (by decide) (by decide) _ _ (k1_off26_eq k) _ _ rfl _ _ ?_
  refine wp_next_bind 𝒱 c bd E arg1 harg1 arg2 harg2 arg3 harg3 arg4 harg4 arg5 harg5 arg6 harg6 arg7 harg7 v3 A D H W4 W5 g a k.val hk 3 2 (by decide) (by decide) _ _ (k1_off27_eq k) _ _ rfl _ _ ?_
  refine wp_next_bind 𝒱 c bd E arg1 harg1 arg2 harg2 arg3 harg3 arg4 harg4 arg5 harg5 arg6 harg6 arg7 harg7 v3 A D H W4 W5 g a k.val hk 3 3 (by decide) (by decide) _ _ (k1_off28_eq k) _ _ rfl _ _ ?_
  refine wp_next_bind 𝒱 c bd E arg1 harg1 arg2 harg2 arg3 harg3 arg4 harg4 arg5 harg5 arg6 harg6 arg7 harg7 v3 A D H W4 W5 g a k.val hk 3 4 (by decide) (by decide) _ _ (k1_off29_eq k) _ _ rfl _ _ ?_
  refine wp_next_bind 𝒱 c bd E arg1 harg1 arg2 harg2 arg3 harg3 arg4 harg4 arg5 harg5 arg6 harg6 arg7 harg7 v3 A D H W4 W5 g a k.val hk 3 5 (by decide) (by decide) _ _ (k1_off30_eq k) _ _ rfl _ _ ?_
  refine wp_next_bind 𝒱 c bd E arg1 harg1 arg2 harg2 arg3 harg3 arg4 harg4 arg5 harg5 arg6 harg6 arg7 harg7 v3 A D H W4 W5 g a k.val hk 3 6 (by decide) (by decide) _ _ (k1_off31_eq k) _ _ rfl _ _ ?_
  exact wp_next 𝒱 c bd E arg1 harg1 arg2 harg2 arg3 harg3 arg4 harg4 arg5 harg5 arg6 harg6 arg7 harg7 v3 A D H W4 W5 g a k.val hk 3 7 (by decide) (by decide) _ _ (k1_off32_eq k) _ _ rfl
end

end Cert.Kernel20Ideal.Gen.Lru

end
-- ==== Proof.BackBody.lean ====
module

public import proofs.«01_k».proof.Proof.BackLoop
public import Idealize.ShloMosaic.Lib.Ring
public import Idealize.ShloMosaic.Lib.Pipeline.FrameBody

/-! What the loop leaves in the buffers, and what one run of the body leaves. -/

@[expose] public section

noncomputable section

namespace Cert.Kernel20Ideal.Gen.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The eight row numbers, as the kernel makes them. -/
abbrev rowNo : IVec S8x128 32 := iota .tc S8x128 32 [0] iota_S8x128_d0_w32

/-! ## The loop -/

section
variable (A D H : Vec F S4x256x1024 .f32) (g a : Vec F S4x8x8x128 .f32)

/-- The carried rows before trip `k`: the gradient's and the coefficients'. -/
def carried : ℕ → Vec F S4x8x8x128 .f32 × Vec F S4x8x8x128 .f32
  | 0 => (g, a)
  | k + 1 => (stepC rowNo A D (carried k).1 (carried k).2 k, stepA A k)

/-- The gradient's block that one run of the body stores. -/
def blockG : Vec F S4x256x1024 .f32 := fun y =>
  outG rowNo A D (carried A D g a (31 - (y 1).val / 8)).1 (carried A D g a (31 - (y 1).val / 8)).2 (31 - (y 1).val / 8) y
/-- The block of its products with the saved states. -/
def blockGA : Vec F S4x256x1024 .f32 := fun y =>
  outGA rowNo A D H (carried A D g a (31 - (y 1).val / 8)).1 (carried A D g a (31 - (y 1).val / 8)).2 (31 - (y 1).val / 8) y
end

/-- A result block after `k` trips: the new values in the rows of the trips so far. -/
def rows (k : ℕ) (O W : Vec F S4x256x1024 .f32) : Vec F S4x256x1024 .f32 := fun y =>
  if 31 - (y 1).val / 8 < k then O y else W y

theorem rows_zero (O W : Vec F S4x256x1024 .f32) : rows 0 O W = W := funext fun y => if_neg (Nat.not_lt_zero _)
theorem rows_all (O W : Vec F S4x256x1024 .f32) : rows 32 O W = O := funext fun y => if_pos (by omega)
theorem part3_zero (k : ℕ) (O W : Vec F S4x256x1024 .f32) : part3 k 0 O W = W := funext fun y => if_neg (by omega)
theorem part4_zero (O W : Vec F S4x8x8x128 .f32) : part4 0 O W = W := funext fun y => if_neg (by omega)
theorem part4_all (O W : Vec F S4x8x8x128 .f32) : part4 32 O W = O := funext fun y => if_pos (by
  have h0 : (y 0).val < 4 := (y 0).isLt
  have h1 : (y 1).val < 8 := (y 1).isLt
  omega)
theorem part3_rows (k : ℕ) (hk : k < 32) (O O' W : Vec F S4x256x1024 .f32) (h : ∀ y : S4x256x1024.Idx, 31 - (y 1).val / 8 = k → O' y = O y) :
    part3 k 32 O' (rows k O W) = rows (k + 1) O W := by
  funext y
  have h0 : (y 0).val < 4 := (y 0).isLt
  have h1 : (y 1).val < 256 := (y 1).isLt
  have h2 : (y 2).val < 1024 := (y 2).isLt
  unfold part3 rows
  by_cases e : 31 - (y 1).val / 8 = k
  · rw [if_pos (by omega), if_pos (by omega), h y e]
  · rw [if_neg (by omega)]
    by_cases e' : 31 - (y 1).val / 8 < k
    · rw [if_pos e', if_pos (by omega)]
    · rw [if_neg e', if_neg (by omega)]

section
variable (𝒱 : Variants) (c : Dev nD) (bd : Option 𝒱.V) (E : Set ℕ) (i : grid1.Coords) (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x256x1024 .f32) (harg5 : arg5.IsWhole) (arg6 : Memref sig .tc .vmem S4x8x8x128 .f32) (harg6 : arg6.IsWhole) (arg7 : Memref sig .tc .vmem S4x8x8x128 .f32) (harg7 : arg7.IsWhole)
  (A D H W4 W5 : Vec F S4x256x1024 .f32) (g a : Vec F S4x8x8x128 .f32)

/-- What the buffers hold after `k` trips. -/
abbrev Inv (c : Dev nD) (arg1 : Memref sig .tc .vmem S4x256x1024 .f32) (arg2 : Memref sig .tc .vmem S4x256x1024 .f32) (arg3 : Memref sig .tc .vmem S4x256x1024 .f32) (arg4 : Memref sig .tc .vmem S4x256x1024 .f32) (arg5 : Memref sig .tc .vmem S4x256x1024 .f32) (arg6 : Memref sig .tc .vmem S4x8x8x128 .f32) (arg7 : Memref sig .tc .vmem S4x8x8x128 .f32)
    (A D H W4 W5 : Vec F S4x256x1024 .f32) (g a : Vec F S4x8x8x128 .f32) (k : ℕ) : sProp 𝕄 :=
  Bufs c arg1 arg2 arg3 arg4 arg5 arg6 arg7 A D H (rows k (blockG A D g a) W4) (rows k (blockGA A D H g a) W5)
    (carried A D g a k).1 (carried A D g a k).2

/-- The loop's trips. -/
def loopProg : Prog (TpuEff nD τ sig (Elt F) Λ₀ .tc) PUnit := do
  Scf.Loop.for k1_t1_loop k1_t1_ok ⟨⟩ (k1_t1_body (F := F) i arg1 harg1 arg2 harg2 arg3 harg3 arg4 harg4 arg5 harg5 arg6 harg6 arg7 harg7 rowNo)
  pure ⟨⟩

theorem trips_eq : k1_t1_loop.trips = 32 := by decide +kernel

set_option maxRecDepth 65536 in
theorem wp_loopProg :
    Bufs c arg1 arg2 arg3 arg4 arg5 arg6 arg7 A D H W4 W5 g a
      ⊢ wp frame (wpE (defs₀ (F := F)) 𝒱 (c : Thread nD τ) bd) E (loopProg (F := F) i arg1 harg1 arg2 harg2 arg3 harg3 arg4 harg4 arg5 harg5 arg6 harg6 arg7 harg7)
          (fun _ => Bufs c arg1 arg2 arg3 arg4 arg5 arg6 arg7 A D H (blockG A D g a) (blockGA A D H g a)
            (carried A D g a 32).1 (carried A D g a 32).2) := by
  have hstep : ∀ (k : Fin k1_t1_loop.trips) (u : Unit), Inv c arg1 arg2 arg3 arg4 arg5 arg6 arg7 A D H W4 W5 g a k.val
      ⊢ wp frame (wpE (defs₀ (F := F)) 𝒱 (c : Thread nD τ) bd) E (k1_t1_body (F := F) i arg1 harg1 arg2 harg2 arg3 harg3 arg4 harg4 arg5 harg5 arg6 harg6 arg7 harg7 rowNo k u)
          (fun _ => Inv c arg1 arg2 arg3 arg4 arg5 arg6 arg7 A D H W4 W5 g a (k.val + 1)) := by
    intro k u
    have hk : k.val < 32 := Nat.lt_of_lt_of_le k.isLt k1_t1_abs.2.1
    have h := wp_trip 𝒱 c bd E i arg1 harg1 arg2 harg2 arg3 harg3 arg4 harg4 arg5 harg5 arg6 harg6 arg7 harg7 rowNo A D H (rows k.val (blockG A D g a) W4) (rows k.val (blockGA A D H g a) W5)
      (carried A D g a k.val).1 (carried A D g a k.val).2 k u
    unfold After at h
    rw [part3_zero, part3_zero, part4_zero, part4_zero, part4_all, part4_all,
      part3_rows k.val hk (blockG A D g a) _ W4 (by intro y hy; rw [← hy]; rfl),
      part3_rows k.val hk (blockGA A D H g a) _ W5 (by intro y hy; rw [← hy]; rfl)] at h
    exact h
  unfold loopProg
  have h0 : Inv c arg1 arg2 arg3 arg4 arg5 arg6 arg7 A D H W4 W5 g a 0 = Bufs c arg1 arg2 arg3 arg4 arg5 arg6 arg7 A D H W4 W5 g a := by
    unfold Inv; rw [rows_zero, rows_zero]; rfl
  have h32 : Inv c arg1 arg2 arg3 arg4 arg5 arg6 arg7 A D H W4 W5 g a 32 = Bufs c arg1 arg2 arg3 arg4 arg5 arg6 arg7 A D H (blockG A D g a) (blockGA A D H g a)
            (carried A D g a 32).1 (carried A D g a 32).2 := by
    unfold Inv; rw [rows_all, rows_all]
  rw [← h0, ← h32]
  iintro HI
  iapply (Scf.wp_for_bind frame (wpE (defs₀ (F := F)) 𝒱 (c : Thread nD τ) bd) E k1_t1_loop.lb k1_t1_loop.ub k1_t1_loop.st k1_t1_ok ()
    (k1_t1_body (F := F) i arg1 harg1 arg2 harg2 arg3 harg3 arg4 harg4 arg5 harg5 arg6 harg6 arg7 harg7 rowNo) (fun k _ => Inv c arg1 arg2 arg3 arg4 arg5 arg6 arg7 A D H W4 W5 g a k) hstep) $$ HI
  iintro %u HI
  sl_step
  rw [show Scf.trips k1_t1_loop.lb k1_t1_loop.ub k1_t1_loop.st = 32 from trips_eq]
  iexact HI

/-! ## The body -/

/-- What the first run does before the loop: it clears the carried rows. -/
def initProg (arg6 : Memref sig .tc .vmem S4x8x8x128 .f32) (arg7 : Memref sig .tc .vmem S4x8x8x128 .f32) : Prog (TpuEff nD τ sig (Elt F) Λ₀ .tc) PUnit := do
  let _v6 : Vec F S4x8x8x128 .f32 ← Prog.lift (.load arg6 (Rect.unit (s := S4x8x8x128) ![0, 0, 0, 0] S4x8x8x128.size inb_S4x8x8x128_S4x8x8x128_0_0_0_0).toLoadRect (View.loadsAt_vmem h_S4x8x8x128))
  Prog.lift (.store arg6 (Rect.unit (s := S4x8x8x128) ![0, 0, 0, 0] S4x8x8x128.size inb_S4x8x8x128_S4x8x8x128_0_0_0_0) (k1_pay1 (F := F)) Finset.univ (View.stores_vmem_bits_univ h_S4x8x8x128 rfl) (.inl rfl))
  let _v10 : Vec F S4x8x8x128 .f32 ← Prog.lift (.load arg7 (Rect.unit (s := S4x8x8x128) ![0, 0, 0, 0] S4x8x8x128.size inb_S4x8x8x128_S4x8x8x128_0_0_0_0).toLoadRect (View.loadsAt_vmem h_S4x8x8x128))
  Prog.lift (.store arg7 (Rect.unit (s := S4x8x8x128) ![0, 0, 0, 0] S4x8x8x128.size inb_S4x8x8x128_S4x8x8x128_0_0_0_0) (k1_pay2 (F := F)) Finset.univ (View.stores_vmem_bits_univ h_S4x8x8x128 rfl) (.inl rfl))
  pure ⟨⟩

/-- The body's branch condition, which holds at the first point only. -/
abbrev isFirst (i : grid1.Coords) : Prop := (Scalar.cmpi .ne (Scalar.extui (Scalar.cmpi .eq (BitVec.ofNat 32 (i 0).val) 0#32)) 0#32) = 1#1

theorem body_first (hc : isFirst i) : cc1_lru_bwd (F := F) i arg1 harg1 arg2 harg2 arg3 harg3 arg4 harg4 arg5 harg5 arg6 harg6 arg7 harg7
    = (initProg (F := F) arg6 arg7 >>= fun _ => loopProg (F := F) i arg1 harg1 arg2 harg2 arg3 harg3 arg4 harg4 arg5 harg5 arg6 harg6 arg7 harg7) := by
  rw [cc1_lru_bwd_eq_skeleton]; unfold cc1_lru_bwd_skel
  simp only [dif_pos hc]
  rfl

theorem body_later (hc : ¬ isFirst i) : cc1_lru_bwd (F := F) i arg1 harg1 arg2 harg2 arg3 harg3 arg4 harg4 arg5 harg5 arg6 harg6 arg7 harg7 = loopProg (F := F) i arg1 harg1 arg2 harg2 arg3 harg3 arg4 harg4 arg5 harg5 arg6 harg6 arg7 harg7 := by
  rw [cc1_lru_bwd_eq_skeleton]; unfold cc1_lru_bwd_skel
  simp only [dif_neg hc]
  rfl

/-- Clearing a buffer of carried rows. -/
theorem put_whole (w X : Vec F S4x8x8x128 .f32) :
    put (Rect.unit (s := S4x8x8x128) ![0, 0, 0, 0] S4x8x8x128.size inb_S4x8x8x128_S4x8x8x128_0_0_0_0) w X = w := by
  funext y
  have e : (Rect.unit (s := S4x8x8x128) ![0, 0, 0, 0] S4x8x8x128.size inb_S4x8x8x128_S4x8x8x128_0_0_0_0).emb y = y := by
    refine Rect.emb_eq_of_coords _ _ _ fun a => ?_
    fin_cases a <;> (show _ = 0 + 1 * _; omega)
  conv_lhs => rw [← e]
  exact put_emb _ _ _ _

/-- One later run of the body. -/
theorem wp_body_later (hc : ¬ isFirst i) :
    Bufs c arg1 arg2 arg3 arg4 arg5 arg6 arg7 A D H W4 W5 g a
      ⊢ wp frame (wpE (defs₀ (F := F)) 𝒱 (c : Thread nD τ) bd) E (cc1_lru_bwd (F := F) i arg1 harg1 arg2 harg2 arg3 harg3 arg4 harg4 arg5 harg5 arg6 harg6 arg7 harg7)
          (fun _ => Bufs c arg1 arg2 arg3 arg4 arg5 arg6 arg7 A D H (blockG A D g a) (blockGA A D H g a)
            (carried A D g a 32).1 (carried A D g a 32).2) := by
  rw [body_later i arg1 harg1 arg2 harg2 arg3 harg3 arg4 harg4 arg5 harg5 arg6 harg6 arg7 harg7 hc]
  exact wp_loopProg 𝒱 c bd E i arg1 harg1 arg2 harg2 arg3 harg3 arg4 harg4 arg5 harg5 arg6 harg6 arg7 harg7 A D H W4 W5 g a

theorem wp_initProg :
    Bufs c arg1 arg2 arg3 arg4 arg5 arg6 arg7 A D H W4 W5 g a
      ⊢ wp frame (wpE (defs₀ (F := F)) 𝒱 (c : Thread nD τ) bd) E (initProg (F := F) arg6 arg7)
          (fun _ => Bufs c arg1 arg2 arg3 arg4 arg5 arg6 arg7 A D H W4 W5 (k1_pay1 (F := F)) (k1_pay2 (F := F))) := by
  unfold initProg Bufs owns
  iintro ⟨H1, H2, H3, H4, H5, ⟨%f6, %h6, H6⟩, ⟨%f7, %h7, H7⟩⟩
  sl_exec
  sl_step
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact (read_store _ _ _ _).trans (put_whole _ _)
  iexists _; isplitr
  swap; · iexact H7
  ipureintro; exact (read_store _ _ _ _).trans (put_whole _ _)

/-- The first run of the body. -/
theorem wp_body_first (hc : isFirst i) :
    Bufs c arg1 arg2 arg3 arg4 arg5 arg6 arg7 A D H W4 W5 g a
      ⊢ wp frame (wpE (defs₀ (F := F)) 𝒱 (c : Thread nD τ) bd) E (cc1_lru_bwd (F := F) i arg1 harg1 arg2 harg2 arg3 harg3 arg4 harg4 arg5 harg5 arg6 harg6 arg7 harg7)
          (fun _ => Bufs c arg1 arg2 arg3 arg4 arg5 arg6 arg7 A D H (blockG A D k1_pay1 k1_pay2) (blockGA A D H k1_pay1 k1_pay2)
            (carried A D k1_pay1 k1_pay2 32).1 (carried A D k1_pay1 k1_pay2 32).2) := by
  rw [body_first i arg1 harg1 arg2 harg2 arg3 harg3 arg4 harg4 arg5 harg5 arg6 harg6 arg7 harg7 hc, wp_bind]
  exact (wp_initProg 𝒱 c bd E arg1 arg2 arg3 arg4 arg5 arg6 arg7 A D H W4 W5 g a).trans (wp_mono _ _ _ fun _ => wp_loopProg 𝒱 c bd E i arg1 harg1 arg2 harg2 arg3 harg3 arg4 harg4 arg5 harg5 arg6 harg6 arg7 harg7 A D H W4 W5 k1_pay1 k1_pay2)
end

end Cert.Kernel20Ideal.Gen.Lru

end
-- ==== Proof.ForePiece.lean ====
module

public import proofs.«01_k».proof.Proof.BackBody

/-! The loop body of the recurrence as thirty-two runs of one piece of program: a piece takes eight rows of
one sequence and 128 columns, solves the recurrence within them, and leaves the last row for the rows below. -/

@[expose] public section

noncomputable section

namespace Cert.Kernel20Ideal.Gen.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel20Ideal.Gen.Lru (put put_emb put_miss read_store rect3 rect4 o4Of inb4 y0_lt y2_lt sub3 sub4 part4 part4_old part4_zero part4_all emb3_val emb4_val put_part4 put_whole rowNo)

variable {F : FTy → Type} [FloatOps F]

local notation "𝕄" => MT nD τ sig Unit (Elt F) ℕ (UR sig nD τ) ℕ

/-- One piece of a trip: eight rows of one sequence in 128 columns (`off`), and the carried row of that sequence and
those columns (`o4`). -/
def piece (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x8x8x128 .f32) (harg5 : arg5.IsWhole) (v3 : IVec S8x128 32)
    (off : Fin 3 → ℕ) (inb : ∀ a, off a + S1x8x128.size a ≤ S4x256x1024.size a)
    (o4 : Fin 4 → ℕ) (inb4 : ∀ a, o4 a + S1x1x8x128.size a ≤ S4x8x8x128.size a) :
    Prog (TpuEff nD τ sig (Elt F) Λ₀ .tc) Unit := do
  let v7 : Vec F S1x1x8x128 .f32 ← Prog.lift (.load arg5 (Rect.unit (s := S4x8x8x128) o4 S1x1x8x128.size inb4).toLoadRect (View.loadsAt_vmem h_S1x1x8x128))
  let v10 : Vec F S1x8x128 .f32 ← Prog.lift (.load arg1 (Rect.unit (s := S4x256x1024) off S1x8x128.size inb).toLoadRect (View.loadsAt_vmem h_S1x8x128))
  let v13 : Vec F S1x8x128 .f32 ← Prog.lift (.load arg2 (Rect.unit (s := S4x256x1024) off S1x8x128.size inb).toLoadRect (View.loadsAt_vmem h_S1x8x128))
  let _v45 : Vec F S1x8x128 .f32 ← Prog.lift (.load arg3 (Rect.unit (s := S4x256x1024) off S1x8x128.size inb).toLoadRect (View.loadsAt_vmem h_S1x8x128))
  Prog.lift (.store arg3 (Rect.unit (s := S4x256x1024) off S1x8x128.size inb) (k0_pay5 (k0_pay4 v3 v7 v10 v13)) Finset.univ (View.stores_vmem_bits_univ h_S1x8x128 rfl) (.inl rfl))
  let _v53 : Vec F S1x8x128 .f32 ← Prog.lift (.load arg4 (Rect.unit (s := S4x256x1024) off S1x8x128.size inb).toLoadRect (View.loadsAt_vmem h_S1x8x128))
  Prog.lift (.store arg4 (Rect.unit (s := S4x256x1024) off S1x8x128.size inb) (k0_pay6 v3 (k0_pay3 v7) (k0_pay4 v3 v7 v10 v13)) Finset.univ (View.stores_vmem_bits_univ h_S1x8x128 rfl) (.inl rfl))
  let _v59 : Vec F S1x1x8x128 .f32 ← Prog.lift (.load arg5 (Rect.unit (s := S4x8x8x128) o4 S1x1x8x128.size inb4).toLoadRect (View.loadsAt_vmem h_S1x1x8x128))
  Prog.lift (.store arg5 (Rect.unit (s := S4x8x8x128) o4 S1x1x8x128.size inb4) (k0_pay7 (k0_pay4 v3 v7 v10 v13)) Finset.univ (View.stores_vmem_bits_univ h_S1x1x8x128 rfl) (.inl rfl))
  pure ⟨⟩

set_option maxRecDepth 65536 in
/-- A trip of the loop is the thirty-two pieces one after another. -/
theorem body_eq (i : grid0.Coords) (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x8x8x128 .f32) (harg5 : arg5.IsWhole) (v3 : IVec S8x128 32) (k : Fin k0_t1_loop.trips) (u : Unit) :
    k0_t1_body (F := F) i arg1 harg1 arg2 harg2 arg3 harg3 arg4 harg4 arg5 harg5 v3 k u = (do
      piece arg1 harg1 arg2 harg2 arg3 harg3 arg4 harg4 arg5 harg5 v3 (k0_off1 k) (k0_off1_inb k) ![0, 0, 0, 0] inb_S4x8x8x128_S1x1x8x128_0_0_0_0
      piece arg1 harg1 arg2 harg2 arg3 harg3 arg4 harg4 arg5 harg5 v3 (k0_off2 k) (k0_off2_inb k) ![0, 1, 0, 0] inb_S4x8x8x128_S1x1x8x128_0_1_0_0
      piece arg1 harg1 arg2 harg2 arg3 harg3 arg4 harg4 arg5 harg5 v3 (k0_off3 k) (k0_off3_inb k) ![0, 2, 0, 0] inb_S4x8x8x128_S1x1x8x128_0_2_0_0
      piece arg1 harg1 arg2 harg2 arg3 harg3 arg4 harg4 arg5 harg5 v3 (k0_off4 k) (k0_off4_inb k) ![0, 3, 0, 0] inb_S4x8x8x128_S1x1x8x128_0_3_0_0
      piece arg1 harg1 arg2 harg2 arg3 harg3 arg4 harg4 arg5 harg5 v3 (k0_off5 k) (k0_off5_inb k) ![0, 4, 0, 0] inb_S4x8x8x128_S1x1x8x128_0_4_0_0
      piece arg1 harg1 arg2 harg2 arg3 harg3 arg4 harg4 arg5 harg5 v3 (k0_off6 k) (k0_off6_inb k) ![0, 5, 0, 0] inb_S4x8x8x128_S1x1x8x128_0_5_0_0
      piece arg1 harg1 arg2 harg2 arg3 harg3 arg4 harg4 arg5 harg5 v3 (k0_off7 k) (k0_off7_inb k) ![0, 6, 0, 0] inb_S4x8x8x128_S1x1x8x128_0_6_0_0
      piece arg1 harg1 arg2 harg2 arg3 harg3 arg4 harg4 arg5 harg5 v3 (k0_off8 k) (k0_off8_inb k) ![0, 7, 0, 0] inb_S4x8x8x128_S1x1x8x128_0_7_0_0
      piece arg1 harg1 arg2 harg2 arg3 harg3 arg4 harg4 arg5 harg5 v3 (k0_off9 k) (k0_off9_inb k) ![1, 0, 0, 0] inb_S4x8x8x128_S1x1x8x128_1_0_0_0
      piece arg1 harg1 arg2 harg2 arg3 harg3 arg4 harg4 arg5 harg5 v3 (k0_off10 k) (k0_off10_inb k) ![1, 1, 0, 0] inb_S4x8x8x128_S1x1x8x128_1_1_0_0
      piece arg1 harg1 arg2 harg2 arg3 harg3 arg4 harg4 arg5 harg5 v3 (k0_off11 k) (k0_off11_inb k) ![1, 2, 0, 0] inb_S4x8x8x128_S1x1x8x128_1_2_0_0
      piece arg1 harg1 arg2 harg2 arg3 harg3 arg4 harg4 arg5 harg5 v3 (k0_off12 k) (k0_off12_inb k) ![1, 3, 0, 0] inb_S4x8x8x128_S1x1x8x128_1_3_0_0
      piece arg1 harg1 arg2 harg2 arg3 harg3 arg4 harg4 arg5 harg5 v3 (k0_off13 k) (k0_off13_inb k) ![1, 4, 0, 0] inb_S4x8x8x128_S1x1x8x128_1_4_0_0
      piece arg1 harg1 arg2 harg2 arg3 harg3 arg4 harg4 arg5 harg5 v3 (k0_off14 k) (k0_off14_inb k) ![1, 5, 0, 0] inb_S4x8x8x128_S1x1x8x128_1_5_0_0
      piece arg1 harg1 arg2 harg2 arg3 harg3 arg4 harg4 arg5 harg5 v3 (k0_off15 k) (k0_off15_inb k) ![1, 6, 0, 0] inb_S4x8x8x128_S1x1x8x128_1_6_0_0
      piece arg1 harg1 arg2 harg2 arg3 harg3 arg4 harg4 arg5 harg5 v3 (k0_off16 k) (k0_off16_inb k) ![1, 7, 0, 0] inb_S4x8x8x128_S1x1x8x128_1_7_0_0
      piece arg1 harg1 arg2 harg2 arg3 harg3 arg4 harg4 arg5 harg5 v3 (k0_off17 k) (k0_off17_inb k) ![2, 0, 0, 0] inb_S4x8x8x128_S1x1x8x128_2_0_0_0
      piece arg1 harg1 arg2 harg2 arg3 harg3 arg4 harg4 arg5 harg5 v3 (k0_off18 k) (k0_off18_inb k) ![2, 1, 0, 0] inb_S4x8x8x128_S1x1x8x128_2_1_0_0
      piece arg1 harg1 arg2 harg2 arg3 harg3 arg4 harg4 arg5 harg5 v3 (k0_off19 k) (k0_off19_inb k) ![2, 2, 0, 0] inb_S4x8x8x128_S1x1x8x128_2_2_0_0
      piece arg1 harg1 arg2 harg2 arg3 harg3 arg4 harg4 arg5 harg5 v3 (k0_off20 k) (k0_off20_inb k) ![2, 3, 0, 0] inb_S4x8x8x128_S1x1x8x128_2_3_0_0
      piece arg1 harg1 arg2 harg2 arg3 harg3 arg4 harg4 arg5 harg5 v3 (k0_off21 k) (k0_off21_inb k) ![2, 4, 0, 0] inb_S4x8x8x128_S1x1x8x128_2_4_0_0
      piece arg1 harg1 arg2 harg2 arg3 harg3 arg4 harg4 arg5 harg5 v3 (k0_off22 k) (k0_off22_inb k) ![2, 5, 0, 0] inb_S4x8x8x128_S1x1x8x128_2_5_0_0
      piece arg1 harg1 arg2 harg2 arg3 harg3 arg4 harg4 arg5 harg5 v3 (k0_off23 k) (k0_off23_inb k) ![2, 6, 0, 0] inb_S4x8x8x128_S1x1x8x128_2_6_0_0
      piece arg1 harg1 arg2 harg2 arg3 harg3 arg4 harg4 arg5 harg5 v3 (k0_off24 k) (k0_off24_inb k) ![2, 7, 0, 0] inb_S4x8x8x128_S1x1x8x128_2_7_0_0
      piece arg1 harg1 arg2 harg2 arg3 harg3 arg4 harg4 arg5 harg5 v3 (k0_off25 k) (k0_off25_inb k) ![3, 0, 0, 0] inb_S4x8x8x128_S1x1x8x128_3_0_0_0
      piece arg1 harg1 arg2 harg2 arg3 harg3 arg4 harg4 arg5 harg5 v3 (k0_off26 k) (k0_off26_inb k) ![3, 1, 0, 0] inb_S4x8x8x128_S1x1x8x128_3_1_0_0
      piece arg1 harg1 arg2 harg2 arg3 harg3 arg4 harg4 arg5 harg5 v3 (k0_off27 k) (k0_off27_inb k) ![3, 2, 0, 0] inb_S4x8x8x128_S1x1x8x128_3_2_0_0
      piece arg1 harg1 arg2 harg2 arg3 harg3 arg4 harg4 arg5 harg5 v3 (k0_off28 k) (k0_off28_inb k) ![3, 3, 0, 0] inb_S4x8x8x128_S1x1x8x128_3_3_0_0
      piece arg1 harg1 arg2 harg2 arg3 harg3 arg4 harg4 arg5 harg5 v3 (k0_off29 k) (k0_off29_inb k) ![3, 4, 0, 0] inb_S4x8x8x128_S1x1x8x128_3_4_0_0
      piece arg1 harg1 arg2 harg2 arg3 harg3 arg4 harg4 arg5 harg5 v3 (k0_off30 k) (k0_off30_inb k) ![3, 5, 0, 0] inb_S4x8x8x128_S1x1x8x128_3_5_0_0
      piece arg1 harg1 arg2 harg2 arg3 harg3 arg4 harg4 arg5 harg5 v3 (k0_off31 k) (k0_off31_inb k) ![3, 6, 0, 0] inb_S4x8x8x128_S1x1x8x128_3_6_0_0
      piece arg1 harg1 arg2 harg2 arg3 harg3 arg4 harg4 arg5 harg5 v3 (k0_off32 k) (k0_off32_inb k) ![3, 7, 0, 0] inb_S4x8x8x128_S1x1x8x128_3_7_0_0) := by rfl

end Cert.Kernel20Ideal.Gen.Fwd

end
-- ==== Proof.ForeTrip.lean ====
module

public import proofs.«01_k».proof.Proof.ForePiece

/-! What one piece of the loop body leaves in the buffers. -/

@[expose] public section

noncomputable section

namespace Cert.Kernel20Ideal.Gen.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel20Ideal.Gen.Lru (put put_emb put_miss read_store rect3 rect4 o4Of inb4 y0_lt y2_lt sub3 sub4 part4 part4_old part4_zero part4_all emb3_val emb4_val put_part4 put_whole rowNo)

variable {F : FTy → Type} [FloatOps F]

local notation "𝕄" => MT nD τ sig Unit (Elt F) ℕ (UR sig nD τ) ℕ

/-! ## One piece -/

section
variable (v3 : IVec S8x128 32) (A B : Vec F S4x256x1024 .f32) (g : Vec F S4x8x8x128 .f32)
    (off : Fin 3 → ℕ) (inb : ∀ a, off a + S1x8x128.size a ≤ S4x256x1024.size a)
    (o4 : Fin 4 → ℕ) (inb4 : ∀ a, o4 a + S1x1x8x128.size a ≤ S4x8x8x128.size a)

/-- The states a piece stores. -/
def pieceH : Vec F S1x8x128 .f32 := k0_pay5 (k0_pay4 v3 (fun x => g ((rect4 o4 inb4).emb x)) (fun x => A ((rect3 off inb).emb x)) (fun x => B ((rect3 off inb).emb x)))
/-- The states one time earlier, which a piece stores too. -/
def pieceP : Vec F S1x8x128 .f32 := k0_pay6 v3 (k0_pay3 (fun x => g ((rect4 o4 inb4).emb x))) (k0_pay4 v3 (fun x => g ((rect4 o4 inb4).emb x)) (fun x => A ((rect3 off inb).emb x)) (fun x => B ((rect3 off inb).emb x)))
/-- The last row's states, which a piece carries on. -/
def pieceC : Vec F S1x1x8x128 .f32 := k0_pay7 (k0_pay4 v3 (fun x => g ((rect4 o4 inb4).emb x)) (fun x => A ((rect3 off inb).emb x)) (fun x => B ((rect3 off inb).emb x)))
end

/-- What the buffers hold. -/
abbrev Bufs (c : Dev nD) (arg1 : Memref sig .tc .vmem S4x256x1024 .f32) (arg2 : Memref sig .tc .vmem S4x256x1024 .f32) (arg3 : Memref sig .tc .vmem S4x256x1024 .f32) (arg4 : Memref sig .tc .vmem S4x256x1024 .f32) (arg5 : Memref sig .tc .vmem S4x8x8x128 .f32) (A B W3 W4 : Vec F S4x256x1024 .f32) (g : Vec F S4x8x8x128 .f32) : sProp 𝕄 :=
  iprop(owns (c : Thread nD τ) arg1 fullShare A ∗ owns (c : Thread nD τ) arg2 fullShare B
        ∗ owns (c : Thread nD τ) arg3 fullShare W3
        ∗ owns (c : Thread nD τ) arg4 fullShare W4
        ∗ owns (c : Thread nD τ) arg5 fullShare g)

/-- One piece: it writes its rectangle of the two results and its carried row, and leaves the rest. -/
theorem wp_piece (𝒱 : Variants) (c : Dev nD) (bd : Option 𝒱.V) (E : Set ℕ) (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x8x8x128 .f32) (harg5 : arg5.IsWhole) (v3 : IVec S8x128 32)
    (A B W3 W4 : Vec F S4x256x1024 .f32) (g : Vec F S4x8x8x128 .f32)
    (off : Fin 3 → ℕ) (inb : ∀ a, off a + S1x8x128.size a ≤ S4x256x1024.size a)
    (o4 : Fin 4 → ℕ) (inb4 : ∀ a, o4 a + S1x1x8x128.size a ≤ S4x8x8x128.size a) :
    Bufs c arg1 arg2 arg3 arg4 arg5 A B W3 W4 g
      ⊢ wp frame (wpE (defs₀ (F := F)) 𝒱 (c : Thread nD τ) bd) E (piece (F := F) arg1 harg1 arg2 harg2 arg3 harg3 arg4 harg4 arg5 harg5 v3 off inb o4 inb4)
          (fun _ => Bufs c arg1 arg2 arg3 arg4 arg5 A B
            (put (rect3 off inb) (pieceH v3 A B g off inb o4 inb4) W3) (put (rect3 off inb) (pieceP v3 A B g off inb o4 inb4) W4)
            (put (rect4 o4 inb4) (pieceC v3 A B g off inb o4 inb4) g)) := by
  unfold piece Bufs owns
  iintro ⟨⟨%f1, %h1, H1⟩, ⟨%f2, %h2, H2⟩, ⟨%f3, %h3, H3⟩, ⟨%f4, %h4, H4⟩, ⟨%f5, %h5, H5⟩⟩
  sl_exec
  sl_step
  isplitl [H1]; · iexists _; isplitr; (· ipureintro; exact h1); iexact H1
  isplitl [H2]; · iexists _; isplitr; (· ipureintro; exact h2); iexact H2
  isplitl [H3]
  · iexists _; isplitr
    swap; · iexact H3
    ipureintro; subst h1 h2 h3 h4 h5; exact read_store _ _ _ _
  isplitl [H4]
  · iexists _; isplitr
    swap; · iexact H4
    ipureintro; subst h1 h2 h3 h4 h5; exact read_store _ _ _ _
  iexists _; isplitr
  swap; · iexact H5
  ipureintro; subst h1 h2 h3 h4 h5; exact read_store _ _ _ _

end Cert.Kernel20Ideal.Gen.Fwd

end
-- ==== Proof.ForeLoop.lean ====
module

public import proofs.«01_k».proof.Proof.ForeTrip

/-! What a whole trip of the loop leaves in the buffers. -/

@[expose] public section

noncomputable section

namespace Cert.Kernel20Ideal.Gen.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel20Ideal.Gen.Lru (put put_emb put_miss read_store rect3 rect4 o4Of inb4 y0_lt y2_lt sub3 sub4 part4 part4_old part4_zero part4_all emb3_val emb4_val put_part4 put_whole rowNo)

variable {F : FTy → Type} [FloatOps F]

local notation "𝕄" => MT nD τ sig Unit (Elt F) ℕ (UR sig nD τ) ℕ

/-! ## A trip as a function of the buffers -/

/-- Where the rows of trip `k` in sequence `b` and column group `j` begin. -/
abbrev offOf (b j k : ℕ) : Fin 3 → ℕ := ![b, 8 * k, 128 * j]

theorem inb3 {b j k : ℕ} (hk : k < 32) (hb : b < 4) (hj : j < 8) : ∀ a, offOf b j k a + S1x8x128.size a ≤ S4x256x1024.size a := by
  intro a; fin_cases a
  · show b + 1 ≤ 4; omega
  · show 8 * k + 8 ≤ 256; omega
  · show 128 * j + 128 ≤ 1024; omega

section
variable (v3 : IVec S8x128 32) (A B : Vec F S4x256x1024 .f32) (g : Vec F S4x8x8x128 .f32) {k : ℕ} (hk : k < 32)

/-- The states trip `k` stores, at the places of its rows. -/
def outH : Vec F S4x256x1024 .f32 := fun y =>
  pieceH v3 A B g (offOf (y 0).val ((y 2).val / 128) k) (inb3 hk (y0_lt y) (y2_lt y)) (o4Of (y 0).val ((y 2).val / 128)) (inb4 (y0_lt y) (y2_lt y)) (sub3 y)
/-- The states one time earlier. -/
def outP : Vec F S4x256x1024 .f32 := fun y =>
  pieceP v3 A B g (offOf (y 0).val ((y 2).val / 128) k) (inb3 hk (y0_lt y) (y2_lt y)) (o4Of (y 0).val ((y 2).val / 128)) (inb4 (y0_lt y) (y2_lt y)) (sub3 y)
/-- The rows trip `k` carries on. -/
def stepC : Vec F S4x8x8x128 .f32 := fun y =>
  pieceC v3 A B g (offOf (y 0).val (y 1).val k) (inb3 hk (y 0).isLt (y 1).isLt) (o4Of (y 0).val (y 1).val) (inb4 (y 0).isLt (y 1).isLt) (sub4 y)
end

/-- What a trip's results hold after `n` pieces: the new values `O` in the rows of trip `k` and the first `n` groups. -/
def part3 (k n : ℕ) (O W : Vec F S4x256x1024 .f32) : Vec F S4x256x1024 .f32 := fun y =>
  if (y 1).val / 8 = k ∧ 8 * (y 0).val + (y 2).val / 128 < n then O y else W y

/-- One piece's store into a result block. -/
theorem put_part3 (k : ℕ) (hk : k < 32) (b j : ℕ) (hb : b < 4) (hj : j < 8) (O W : Vec F S4x256x1024 .f32) (w : Vec F S1x8x128 .f32)
    (hw : ∀ y : S4x256x1024.Idx, (y 0).val = b → (y 2).val / 128 = j → O y = w (sub3 y)) :
    put (rect3 (offOf b j k) (inb3 hk hb hj)) w (part3 k (8 * b + j) O W) = part3 k (8 * b + j + 1) O W := by
  funext y
  have hy0 : (y 0).val < 4 := (y 0).isLt
  have hy1 : (y 1).val < 256 := (y 1).isLt
  have hy2 : (y 2).val < 1024 := (y 2).isLt
  by_cases h : (y 0).val = b ∧ (y 1).val / 8 = k ∧ (y 2).val / 128 = j
  · obtain ⟨h0, h1, h2⟩ := h
    have e : (rect3 (offOf b j k) (inb3 hk hb hj)).emb (sub3 y) = y := by
      refine Rect.emb_eq_of_coords _ _ _ fun a => ?_
      fin_cases a
      · show (y 0).val = b + 1 * 0; omega
      · show (y 1).val = 8 * k + 1 * ((y 1).val % 8); omega
      · show (y 2).val = 128 * j + 1 * ((y 2).val % 128); omega
    conv_lhs => rw [← e]
    rw [put_emb, ← hw y h0 h2]
    unfold part3
    rw [if_pos]
    omega
  · rw [put_miss]
    · unfold part3
      by_cases h' : (y 1).val / 8 = k ∧ 8 * (y 0).val + (y 2).val / 128 < 8 * b + j
      · rw [if_pos h', if_pos ⟨h'.1, by omega⟩]
      · rw [if_neg h', if_neg]
        omega
    · rintro x rfl
      apply h
      have x0 := emb3_val (offOf b j k) (inb3 hk hb hj) x 0
      have x1 := emb3_val (offOf b j k) (inb3 hk hb hj) x 1
      have x2 := emb3_val (offOf b j k) (inb3 hk hb hj) x 2
      have e0 : offOf b j k 0 = b := rfl
      have e1 : offOf b j k 1 = 8 * k := rfl
      have e2 : offOf b j k 2 = 128 * j := rfl
      have l0 : (x 0).val < 1 := (x 0).isLt
      have l1 : (x 1).val < 8 := (x 1).isLt
      have l2 : (x 2).val < 128 := (x 2).isLt
      omega

/-! ## A trip of the loop -/

/-- What the buffers hold in trip `k` after `n` pieces. -/
abbrev After (c : Dev nD) (arg1 : Memref sig .tc .vmem S4x256x1024 .f32) (arg2 : Memref sig .tc .vmem S4x256x1024 .f32) (arg3 : Memref sig .tc .vmem S4x256x1024 .f32) (arg4 : Memref sig .tc .vmem S4x256x1024 .f32) (arg5 : Memref sig .tc .vmem S4x8x8x128 .f32) (v3 : IVec S8x128 32)
  (A B W3 W4 : Vec F S4x256x1024 .f32) (g : Vec F S4x8x8x128 .f32) {k : ℕ} (hk : k < 32) (n : ℕ) : sProp 𝕄 :=
  Bufs c arg1 arg2 arg3 arg4 arg5 A B (part3 k (n) (outH v3 A B g hk) W3) (part3 k (n) (outP v3 A B g hk) W4) (part4 (n) (stepC v3 A B g hk) g)

section
variable (𝒱 : Variants) (c : Dev nD) (bd : Option 𝒱.V) (E : Set ℕ) (i : grid0.Coords) (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x8x8x128 .f32) (harg5 : arg5.IsWhole) (v3 : IVec S8x128 32)
  (A B W3 W4 : Vec F S4x256x1024 .f32) (g : Vec F S4x8x8x128 .f32)

/-- The next piece of a trip. -/
theorem wp_next (k : ℕ) (hk : k < 32) (b j : ℕ) (hb : b < 4) (hj : j < 8)
    (off : Fin 3 → ℕ) (inb : ∀ a, off a + S1x8x128.size a ≤ S4x256x1024.size a) (hoff : off = offOf b j k)
    (o4 : Fin 4 → ℕ) (inb' : ∀ a, o4 a + S1x1x8x128.size a ≤ S4x8x8x128.size a) (ho4 : o4 = o4Of b j) :
    After c arg1 arg2 arg3 arg4 arg5 v3 A B W3 W4 g hk (8 * b + j)
      ⊢ wp frame (wpE (defs₀ (F := F)) 𝒱 (c : Thread nD τ) bd) E (piece (F := F) arg1 harg1 arg2 harg2 arg3 harg3 arg4 harg4 arg5 harg5 v3 off inb o4 inb')
          (fun _ => After c arg1 arg2 arg3 arg4 arg5 v3 A B W3 W4 g hk (8 * b + j + 1)) := by
  subst hoff ho4
  refine (wp_piece 𝒱 c bd E arg1 harg1 arg2 harg2 arg3 harg3 arg4 harg4 arg5 harg5 v3 A B _ _ _ _ inb _ inb').trans (wp_mono _ _ _ fun _ => ?_)
  have sg : (fun (x : S1x1x8x128.Idx) => part4 (8 * b + j) (stepC v3 A B g hk) g ((rect4 (o4Of b j) inb').emb x)) = fun (x : S1x1x8x128.Idx) => g ((rect4 (o4Of b j) inb').emb x) :=
    funext fun x => part4_old b j hb hj _ _ x
  have eH : pieceH v3 A B (part4 (8 * b + j) (stepC v3 A B g hk) g) (offOf b j k) inb (o4Of b j) inb'
      = pieceH v3 A B g (offOf b j k) inb (o4Of b j) inb' :=
    congrArg (fun (p : Vec F S1x1x8x128 .f32) => k0_pay5 (k0_pay4 v3 p (fun x => A ((rect3 (offOf b j k) inb).emb x)) (fun x => B ((rect3 (offOf b j k) inb).emb x)))) sg
  have eP : pieceP v3 A B (part4 (8 * b + j) (stepC v3 A B g hk) g) (offOf b j k) inb (o4Of b j) inb'
      = pieceP v3 A B g (offOf b j k) inb (o4Of b j) inb' :=
    congrArg (fun (p : Vec F S1x1x8x128 .f32) => k0_pay6 v3 (k0_pay3 p) (k0_pay4 v3 p (fun x => A ((rect3 (offOf b j k) inb).emb x)) (fun x => B ((rect3 (offOf b j k) inb).emb x)))) sg
  have eC : pieceC v3 A B (part4 (8 * b + j) (stepC v3 A B g hk) g) (offOf b j k) inb (o4Of b j) inb'
      = pieceC v3 A B g (offOf b j k) inb (o4Of b j) inb' :=
    congrArg (fun (p : Vec F S1x1x8x128 .f32) => k0_pay7 (k0_pay4 v3 p (fun x => A ((rect3 (offOf b j k) inb).emb x)) (fun x => B ((rect3 (offOf b j k) inb).emb x)))) sg
  rw [eH, eP, eC,
    put_part3 k hk b j hb hj (outH v3 A B g hk) W3 _ (by rintro y rfl rfl; rfl),
    put_part3 k hk b j hb hj (outP v3 A B g hk) W4 _ (by rintro y rfl rfl; rfl),
    put_part4 b j hb hj (stepC v3 A B g hk) g _ (by rintro y rfl rfl; rfl)]

/-- The next piece, and the rest of the trip after it. -/
theorem wp_next_bind (k : ℕ) (hk : k < 32) (b j : ℕ) (hb : b < 4) (hj : j < 8)
    (off : Fin 3 → ℕ) (inb : ∀ a, off a + S1x8x128.size a ≤ S4x256x1024.size a) (hoff : off = offOf b j k)
    (o4 : Fin 4 → ℕ) (inb' : ∀ a, o4 a + S1x1x8x128.size a ≤ S4x8x8x128.size a) (ho4 : o4 = o4Of b j)
    (rest : Unit → Prog (TpuEff nD τ sig (Elt F) Λ₀ .tc) Unit) (Q : Unit → sProp 𝕄)
    (h : After c arg1 arg2 arg3 arg4 arg5 v3 A B W3 W4 g hk (8 * b + j + 1)
      ⊢ wp frame (wpE (defs₀ (F := F)) 𝒱 (c : Thread nD τ) bd) E (rest ⟨⟩) Q) :
    After c arg1 arg2 arg3 arg4 arg5 v3 A B W3 W4 g hk (8 * b + j)
      ⊢ wp frame (wpE (defs₀ (F := F)) 𝒱 (c : Thread nD τ) bd) E (piece (F := F) arg1 harg1 arg2 harg2 arg3 harg3 arg4 harg4 arg5 harg5 v3 off inb o4 inb' >>= rest) Q := by
  rw [wp_bind]
  exact (wp_next 𝒱 c bd E arg1 harg1 arg2 harg2 arg3 harg3 arg4 harg4 arg5 harg5 v3 A B W3 W4 g k hk b j hb hj off inb hoff o4 inb' ho4).trans (wp_mono _ _ _ fun _ => h)

set_option maxRecDepth 65536 in
/-- A trip: all thirty-two pieces. -/
theorem wp_trip (k : Fin k0_t1_loop.trips) (hk : k.val < 32) (u : Unit) :
    After c arg1 arg2 arg3 arg4 arg5 v3 A B W3 W4 g hk 0
      ⊢ wp frame (wpE (defs₀ (F := F)) 𝒱 (c : Thread nD τ) bd) E (k0_t1_body (F := F) i arg1 harg1 arg2 harg2 arg3 harg3 arg4 harg4 arg5 harg5 v3 k u)
          (fun _ => After c arg1 arg2 arg3 arg4 arg5 v3 A B W3 W4 g hk 32) := by
  rw [body_eq]
  refine wp_next_bind 𝒱 c bd E arg1 harg1 arg2 harg2 arg3 harg3 arg4 harg4 arg5 harg5 v3 A B W3 W4 g k.val hk 0 0 (by decide) (by decide) _ _ (k0_off1_eq k) _ _ rfl _ _ ?_
  refine wp_next_bind 𝒱 c bd E arg1 harg1 arg2 harg2 arg3 harg3 arg4 harg4 arg5 harg5 v3 A B W3 W4 g k.val hk 0 1 (by decide) (by decide) _ _ (k0_off2_eq k) _ _ rfl _ _ ?_
  refine wp_next_bind 𝒱 c bd E arg1 harg1 arg2 harg2 arg3 harg3 arg4 harg4 arg5 harg5 v3 A B W3 W4 g k.val hk 0 2 (by decide) (by decide) _ _ (k0_off3_eq k) _ _ rfl _ _ ?_
  refine wp_next_bind 𝒱 c bd E arg1 harg1 arg2 harg2 arg3 harg3 arg4 harg4 arg5 harg5 v3 A B W3 W4 g k.val hk 0 3 (by decide) (by decide) _ _ (k0_off4_eq k) _ _ rfl _ _ ?_
  refine wp_next_bind 𝒱 c bd E arg1 harg1 arg2 harg2 arg3 harg3 arg4 harg4 arg5 harg5 v3 A B W3 W4 g k.val hk 0 4 (by decide) (by decide) _ _ (k0_off5_eq k) _ _ rfl _ _ ?_
  refine wp_next_bind 𝒱 c bd E arg1 harg1 arg2 harg2 arg3 harg3 arg4 harg4 arg5 harg5 v3 A B W3 W4 g k.val hk 0 5 (by decide) (by decide) _ _ (k0_off6_eq k) _ _ rfl _ _ ?_
  refine wp_next_bind 𝒱 c bd E arg1 harg1 arg2 harg2 arg3 harg3 arg4 harg4 arg5 harg5 v3 A B W3 W4 g k.val hk 0 6 (by decide) (by decide) _ _ (k0_off7_eq k) _ _ rfl _ _ ?_
  refine wp_next_bind 𝒱 c bd E arg1 harg1 arg2 harg2 arg3 harg3 arg4 harg4 arg5 harg5 v3 A B W3 W4 g k.val hk 0 7 (by decide) (by decide) _ _ (k0_off8_eq k) _ _ rfl _ _ ?_
  refine wp_next_bind 𝒱 c bd E arg1 harg1 arg2 harg2 arg3 harg3 arg4 harg4 arg5 harg5 v3 A B W3 W4 g k.val hk 1 0 (by decide) (by decide) _ _ (k0_off9_eq k) _ _ rfl _ _ ?_
  refine wp_next_bind 𝒱 c bd E arg1 harg1 arg2 harg2 arg3 harg3 arg4 harg4 arg5 harg5 v3 A B W3 W4 g k.val hk 1 1 (by decide) (by decide) _ _ (k0_off10_eq k) _ _ rfl _ _ ?_
  refine wp_next_bind 𝒱 c bd E arg1 harg1 arg2 harg2 arg3 harg3 arg4 harg4 arg5 harg5 v3 A B W3 W4 g k.val hk 1 2 (by decide) (by decide) _ _ (k0_off11_eq k) _ _ rfl _ _ ?_
  refine wp_next_bind 𝒱 c bd E arg1 harg1 arg2 harg2 arg3 harg3 arg4 harg4 arg5 harg5 v3 A B W3 W4 g k.val hk 1 3 (by decide) (by decide) _ _ (k0_off12_eq k) _ _ rfl _ _ ?_
  refine wp_next_bind 𝒱 c bd E arg1 harg1 arg2 harg2 arg3 harg3 arg4 harg4 arg5 harg5 v3 A B W3 W4 g k.val hk 1 4 (by decide) (by decide) _ _ (k0_off13_eq k) _ _ rfl _ _ ?_
  refine wp_next_bind 𝒱 c bd E arg1 harg1 arg2 harg2 arg3 harg3 arg4 harg4 arg5 harg5 v3 A B W3 W4 g k.val hk 1 5 (by decide) (by decide) _ _ (k0_off14_eq k) _ _ rfl _ _ ?_
  refine wp_next_bind 𝒱 c bd E arg1 harg1 arg2 harg2 arg3 harg3 arg4 harg4 arg5 harg5 v3 A B W3 W4 g k.val hk 1 6 (by decide) (by decide) _ _ (k0_off15_eq k) _ _ rfl _ _ ?_
  refine wp_next_bind 𝒱 c bd E arg1 harg1 arg2 harg2 arg3 harg3 arg4 harg4 arg5 harg5 v3 A B W3 W4 g k.val hk 1 7 (by decide) (by decide) _ _ (k0_off16_eq k) _ _ rfl _ _ ?_
  refine wp_next_bind 𝒱 c bd E arg1 harg1 arg2 harg2 arg3 harg3 arg4 harg4 arg5 harg5 v3 A B W3 W4 g k.val hk 2 0 (by decide) (by decide) _ _ (k0_off17_eq k) _ _ rfl _ _ ?_
  refine wp_next_bind 𝒱 c bd E arg1 harg1 arg2 harg2 arg3 harg3 arg4 harg4 arg5 harg5 v3 A B W3 W4 g k.val hk 2 1 (by decide) (by decide) _ _ (k0_off18_eq k) _ _ rfl _ _ ?_
  refine wp_next_bind 𝒱 c bd E arg1 harg1 arg2 harg2 arg3 harg3 arg4 harg4 arg5 harg5 v3 A B W3 W4 g k.val hk 2 2 (by decide) (by decide) _ _ (k0_off19_eq k) _ _ rfl _ _ ?_
  refine wp_next_bind 𝒱 c bd E arg1 harg1 arg2 harg2 arg3 harg3 arg4 harg4 arg5 harg5 v3 A B W3 W4 g k.val hk 2 3 (by decide) (by decide) _ _ (k0_off20_eq k) _ _ rfl _ _ ?_
  refine wp_next_bind 𝒱 c bd E arg1 harg1 arg2 harg2 arg3 harg3 arg4 harg4 arg5 harg5 v3 A B W3 W4 g k.val hk 2 4 (by decide) (by decide) _ _ (k0_off21_eq k) _ _ rfl _ _ ?_
  refine wp_next_bind 𝒱 c bd E arg1 harg1 arg2 harg2 arg3 harg3 arg4 harg4 arg5 harg5 v3 A B W3 W4 g k.val hk 2 5 (by decide) (by decide) _ _ (k0_off22_eq k) _ _ rfl _ _ ?_
  refine wp_next_bind 𝒱 c bd E arg1 harg1 arg2 harg2 arg3 harg3 arg4 harg4 arg5 harg5 v3 A B W3 W4 g k.val hk 2 6 (by decide) (by decide) _ _ (k0_off23_eq k) _ _ rfl _ _ ?_
  refine wp_next_bind 𝒱 c bd E arg1 harg1 arg2 harg2 arg3 harg3 arg4 harg4 arg5 harg5 v3 A B W3 W4 g k.val hk 2 7 (by decide) (by decide) _ _ (k0_off24_eq k) _ _ rfl _ _ ?_
  refine wp_next_bind 𝒱 c bd E arg1 harg1 arg2 harg2 arg3 harg3 arg4 harg4 arg5 harg5 v3 A B W3 W4 g k.val hk 3 0 (by decide) (by decide) _ _ (k0_off25_eq k) _ _ rfl _ _ ?_
  refine wp_next_bind 𝒱 c bd E arg1 harg1 arg2 harg2 arg3 harg3 arg4 harg4 arg5 harg5 v3 A B W3 W4 g k.val hk 3 1 (by decide) (by decide) _ _ (k0_off26_eq k) _ _ rfl _ _ ?_
  refine wp_next_bind 𝒱 c bd E arg1 harg1 arg2 harg2 arg3 harg3 arg4 harg4 arg5 harg5 v3 A B W3 W4 g k.val hk 3 2 (by decide) (by decide) _ _ (k0_off27_eq k) _ _ rfl _ _ ?_
  refine wp_next_bind 𝒱 c bd E arg1 harg1 arg2 harg2 arg3 harg3 arg4 harg4 arg5 harg5 v3 A B W3 W4 g k.val hk 3 3 (by decide) (by decide) _ _ (k0_off28_eq k) _ _ rfl _ _ ?_
  refine wp_next_bind 𝒱 c bd E arg1 harg1 arg2 harg2 arg3 harg3 arg4 harg4 arg5 harg5 v3 A B W3 W4 g k.val hk 3 4 (by decide) (by decide) _ _ (k0_off29_eq k) _ _ rfl _ _ ?_
  refine wp_next_bind 𝒱 c bd E arg1 harg1 arg2 harg2 arg3 harg3 arg4 harg4 arg5 harg5 v3 A B W3 W4 g k.val hk 3 5 (by decide) (by decide) _ _ (k0_off30_eq k) _ _ rfl _ _ ?_
  refine wp_next_bind 𝒱 c bd E arg1 harg1 arg2 harg2 arg3 harg3 arg4 harg4 arg5 harg5 v3 A B W3 W4 g k.val hk 3 6 (by decide) (by decide) _ _ (k0_off31_eq k) _ _ rfl _ _ ?_
  exact wp_next 𝒱 c bd E arg1 harg1 arg2 harg2 arg3 harg3 arg4 harg4 arg5 harg5 v3 A B W3 W4 g k.val hk 3 7 (by decide) (by decide) _ _ (k0_off32_eq k) _ _ rfl
end

end Cert.Kernel20Ideal.Gen.Fwd

end
-- ==== Proof.ForeBody.lean ====
module

public import proofs.«01_k».proof.Proof.ForeLoop

/-! What the loop leaves in the buffers, and what one run of the body leaves. -/

@[expose] public section

noncomputable section

namespace Cert.Kernel20Ideal.Gen.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel20Ideal.Gen.Lru (put put_emb put_miss read_store rect3 rect4 o4Of inb4 y0_lt y2_lt sub3 sub4 part4 part4_old part4_zero part4_all emb3_val emb4_val put_part4 put_whole rowNo)

variable {F : FTy → Type} [FloatOps F]

local notation "𝕄" => MT nD τ sig Unit (Elt F) ℕ (UR sig nD τ) ℕ

/-! ## The loop -/

theorem group_lt (y : S4x256x1024.Idx) : (y 1).val / 8 < 32 := by have h : (y 1).val < 256 := (y 1).isLt; omega

section
variable (A B : Vec F S4x256x1024 .f32) (g : Vec F S4x8x8x128 .f32)

/-- The carried rows before trip `k`. -/
def carried : ℕ → Vec F S4x8x8x128 .f32
  | 0 => g
  | k + 1 => if hk : k < 32 then stepC rowNo A B (carried k) hk else carried k

/-- The states' block that one run of the body stores. -/
def blockH : Vec F S4x256x1024 .f32 := fun y => outH rowNo A B (carried A B g ((y 1).val / 8)) (group_lt y) y
/-- The block of the states one time earlier. -/
def blockP : Vec F S4x256x1024 .f32 := fun y => outP rowNo A B (carried A B g ((y 1).val / 8)) (group_lt y) y

theorem blockH_rows {k : ℕ} (hk : k < 32) (y : S4x256x1024.Idx) (h : (y 1).val / 8 = k) :
    outH rowNo A B (carried A B g k) hk y = blockH A B g y := by subst h; rfl
theorem blockP_rows {k : ℕ} (hk : k < 32) (y : S4x256x1024.Idx) (h : (y 1).val / 8 = k) :
    outP rowNo A B (carried A B g k) hk y = blockP A B g y := by subst h; rfl

theorem carried_succ {k : ℕ} (hk : k < 32) : carried A B g (k + 1) = stepC rowNo A B (carried A B g k) hk := dif_pos hk
end

/-- A result block after `k` trips: the new values in the rows of the trips so far. -/
def rows (k : ℕ) (O W : Vec F S4x256x1024 .f32) : Vec F S4x256x1024 .f32 := fun y =>
  if (y 1).val / 8 < k then O y else W y

theorem rows_zero (O W : Vec F S4x256x1024 .f32) : rows 0 O W = W := funext fun y => if_neg (Nat.not_lt_zero _)
theorem rows_all (O W : Vec F S4x256x1024 .f32) : rows 32 O W = O := funext fun y => if_pos (group_lt y)
theorem part3_zero (k : ℕ) (O W : Vec F S4x256x1024 .f32) : part3 k 0 O W = W := funext fun y => if_neg (by omega)
theorem part3_rows (k : ℕ) (hk : k < 32) (O O' W : Vec F S4x256x1024 .f32) (h : ∀ y : S4x256x1024.Idx, (y 1).val / 8 = k → O' y = O y) :
    part3 k 32 O' (rows k O W) = rows (k + 1) O W := by
  funext y
  have h0 : (y 0).val < 4 := (y 0).isLt
  have h1 : (y 1).val < 256 := (y 1).isLt
  have h2 : (y 2).val < 1024 := (y 2).isLt
  unfold part3 rows
  by_cases e : (y 1).val / 8 = k
  · rw [if_pos (by omega), if_pos (by omega), h y e]
  · rw [if_neg (by omega)]
    by_cases e' : (y 1).val / 8 < k
    · rw [if_pos e', if_pos (by omega)]
    · rw [if_neg e', if_neg (by omega)]

section
variable (𝒱 : Variants) (c : Dev nD) (bd : Option 𝒱.V) (E : Set ℕ) (i : grid0.Coords) (arg1 : Memref sig .tc .vmem S4x256x1024 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S4x256x1024 .f32) (harg4 : arg4.IsWhole) (arg5 : Memref sig .tc .vmem S4x8x8x128 .f32) (harg5 : arg5.IsWhole)
  (A B W3 W4 : Vec F S4x256x1024 .f32) (g : Vec F S4x8x8x128 .f32)

/-- What the buffers hold after `k` trips. -/
abbrev Inv (c : Dev nD) (arg1 : Memref sig .tc .vmem S4x256x1024 .f32) (arg2 : Memref sig .tc .vmem S4x256x1024 .f32) (arg3 : Memref sig .tc .vmem S4x256x1024 .f32) (arg4 : Memref sig .tc .vmem S4x256x1024 .f32) (arg5 : Memref sig .tc .vmem S4x8x8x128 .f32)
    (A B W3 W4 : Vec F S4x256x1024 .f32) (g : Vec F S4x8x8x128 .f32) (k : ℕ) : sProp 𝕄 :=
  Bufs c arg1 arg2 arg3 arg4 arg5 A B (rows k (blockH A B g) W3) (rows k (blockP A B g) W4) (carried A B g k)

/-- The loop's trips. -/
def loopProg : Prog (TpuEff nD τ sig (Elt F) Λ₀ .tc) PUnit := do
  Scf.Loop.for k0_t1_loop k0_t1_ok ⟨⟩ (k0_t1_body (F := F) i arg1 harg1 arg2 harg2 arg3 harg3 arg4 harg4 arg5 harg5 rowNo)
  pure ⟨⟩

theorem trips_eq : k0_t1_loop.trips = 32 := by decide +kernel

set_option maxRecDepth 65536 in
theorem wp_loopProg :
    Bufs c arg1 arg2 arg3 arg4 arg5 A B W3 W4 g
      ⊢ wp frame (wpE (defs₀ (F := F)) 𝒱 (c : Thread nD τ) bd) E (loopProg (F := F) i arg1 harg1 arg2 harg2 arg3 harg3 arg4 harg4 arg5 harg5)
          (fun _ => Bufs c arg1 arg2 arg3 arg4 arg5 A B (blockH A B g) (blockP A B g) (carried A B g 32)) := by
  have hstep : ∀ (k : Fin k0_t1_loop.trips) (u : Unit), Inv c arg1 arg2 arg3 arg4 arg5 A B W3 W4 g k.val
      ⊢ wp frame (wpE (defs₀ (F := F)) 𝒱 (c : Thread nD τ) bd) E (k0_t1_body (F := F) i arg1 harg1 arg2 harg2 arg3 harg3 arg4 harg4 arg5 harg5 rowNo k u)
          (fun _ => Inv c arg1 arg2 arg3 arg4 arg5 A B W3 W4 g (k.val + 1)) := by
    intro k u
    have hk : k.val < 32 := Nat.lt_of_lt_of_le k.isLt k0_t1_abs.2.1
    have h := wp_trip 𝒱 c bd E i arg1 harg1 arg2 harg2 arg3 harg3 arg4 harg4 arg5 harg5 rowNo A B (rows k.val (blockH A B g) W3) (rows k.val (blockP A B g) W4)
      (carried A B g k.val) k hk u
    unfold After at h
    rw [part3_zero, part3_zero, part4_zero, part4_all,
      part3_rows k.val hk (blockH A B g) _ W3 (fun y hy => blockH_rows A B g hk y hy),
      part3_rows k.val hk (blockP A B g) _ W4 (fun y hy => blockP_rows A B g hk y hy), ← carried_succ A B g hk] at h
    exact h
  unfold loopProg
  have h0 : Inv c arg1 arg2 arg3 arg4 arg5 A B W3 W4 g 0 = Bufs c arg1 arg2 arg3 arg4 arg5 A B W3 W4 g := by
    unfold Inv; rw [rows_zero, rows_zero]; rfl
  have h32 : Inv c arg1 arg2 arg3 arg4 arg5 A B W3 W4 g 32 = Bufs c arg1 arg2 arg3 arg4 arg5 A B (blockH A B g) (blockP A B g) (carried A B g 32) := by
    unfold Inv; rw [rows_all, rows_all]
  rw [← h0, ← h32]
  iintro HI
  iapply (Scf.wp_for_bind frame (wpE (defs₀ (F := F)) 𝒱 (c : Thread nD τ) bd) E k0_t1_loop.lb k0_t1_loop.ub k0_t1_loop.st k0_t1_ok ()
    (k0_t1_body (F := F) i arg1 harg1 arg2 harg2 arg3 harg3 arg4 harg4 arg5 harg5 rowNo) (fun k _ => Inv c arg1 arg2 arg3 arg4 arg5 A B W3 W4 g k) hstep) $$ HI
  iintro %u HI
  sl_step
  rw [show Scf.trips k0_t1_loop.lb k0_t1_loop.ub k0_t1_loop.st = 32 from trips_eq]
  iexact HI

/-! ## The body -/

/-- What the first run does before the loop: it clears the carried rows. -/
def initProg (arg5 : Memref sig .tc .vmem S4x8x8x128 .f32) : Prog (TpuEff nD τ sig (Elt F) Λ₀ .tc) PUnit := do
  let _v6 : Vec F S4x8x8x128 .f32 ← Prog.lift (.load arg5 (Rect.unit (s := S4x8x8x128) ![0, 0, 0, 0] S4x8x8x128.size inb_S4x8x8x128_S4x8x8x128_0_0_0_0).toLoadRect (View.loadsAt_vmem h_S4x8x8x128))
  Prog.lift (.store arg5 (Rect.unit (s := S4x8x8x128) ![0, 0, 0, 0] S4x8x8x128.size inb_S4x8x8x128_S4x8x8x128_0_0_0_0) (k0_pay1 (F := F)) Finset.univ (View.stores_vmem_bits_univ h_S4x8x8x128 rfl) (.inl rfl))
  pure ⟨⟩

/-- The body's branch condition, which holds at the first point only. -/
abbrev isFirst (i : grid0.Coords) : Prop := (Scalar.cmpi .ne (Scalar.extui (Scalar.cmpi .eq (BitVec.ofNat 32 (i 0).val) 0#32)) 0#32) = 1#1

theorem body_first (hc : isFirst i) : cc0_lru_fwd (F := F) i arg1 harg1 arg2 harg2 arg3 harg3 arg4 harg4 arg5 harg5
    = (initProg (F := F) arg5 >>= fun _ => loopProg (F := F) i arg1 harg1 arg2 harg2 arg3 harg3 arg4 harg4 arg5 harg5) := by
  rw [cc0_lru_fwd_eq_skeleton]; unfold cc0_lru_fwd_skel
  simp only [dif_pos hc]
  rfl

theorem body_later (hc : ¬ isFirst i) : cc0_lru_fwd (F := F) i arg1 harg1 arg2 harg2 arg3 harg3 arg4 harg4 arg5 harg5 = loopProg (F := F) i arg1 harg1 arg2 harg2 arg3 harg3 arg4 harg4 arg5 harg5 := by
  rw [cc0_lru_fwd_eq_skeleton]; unfold cc0_lru_fwd_skel
  simp only [dif_neg hc]
  rfl

/-- One later run of the body. -/
theorem wp_body_later (hc : ¬ isFirst i) :
    Bufs c arg1 arg2 arg3 arg4 arg5 A B W3 W4 g
      ⊢ wp frame (wpE (defs₀ (F := F)) 𝒱 (c : Thread nD τ) bd) E (cc0_lru_fwd (F := F) i arg1 harg1 arg2 harg2 arg3 harg3 arg4 harg4 arg5 harg5)
          (fun _ => Bufs c arg1 arg2 arg3 arg4 arg5 A B (blockH A B g) (blockP A B g) (carried A B g 32)) := by
  rw [body_later i arg1 harg1 arg2 harg2 arg3 harg3 arg4 harg4 arg5 harg5 hc]
  exact wp_loopProg 𝒱 c bd E i arg1 harg1 arg2 harg2 arg3 harg3 arg4 harg4 arg5 harg5 A B W3 W4 g

theorem wp_initProg :
    Bufs c arg1 arg2 arg3 arg4 arg5 A B W3 W4 g
      ⊢ wp frame (wpE (defs₀ (F := F)) 𝒱 (c : Thread nD τ) bd) E (initProg (F := F) arg5)
          (fun _ => Bufs c arg1 arg2 arg3 arg4 arg5 A B W3 W4 (k0_pay1 (F := F))) := by
  unfold initProg Bufs owns
  iintro ⟨H1, H2, H3, H4, ⟨%f5, %h5, H5⟩⟩
  sl_exec
  sl_step
  isplitl [H1]; · iexact H1
  isplitl [H2]; · iexact H2
  isplitl [H3]; · iexact H3
  isplitl [H4]; · iexact H4
  iexists _; isplitr
  swap; · iexact H5
  ipureintro; exact (read_store _ _ _ _).trans (put_whole _ _)

/-- The first run of the body. -/
theorem wp_body_first (hc : isFirst i) :
    Bufs c arg1 arg2 arg3 arg4 arg5 A B W3 W4 g
      ⊢ wp frame (wpE (defs₀ (F := F)) 𝒱 (c : Thread nD τ) bd) E (cc0_lru_fwd (F := F) i arg1 harg1 arg2 harg2 arg3 harg3 arg4 harg4 arg5 harg5)
          (fun _ => Bufs c arg1 arg2 arg3 arg4 arg5 A B (blockH A B k0_pay1) (blockP A B k0_pay1) (carried A B k0_pay1 32)) := by
  rw [body_first i arg1 harg1 arg2 harg2 arg3 harg3 arg4 harg4 arg5 harg5 hc, wp_bind]
  exact (wp_initProg 𝒱 c bd E arg1 arg2 arg3 arg4 arg5 A B W3 W4 g).trans (wp_mono _ _ _ fun _ => wp_loopProg 𝒱 c bd E i arg1 harg1 arg2 harg2 arg3 harg3 arg4 harg4 arg5 harg5 A B W3 W4 k0_pay1)
end

end Cert.Kernel20Ideal.Gen.Fwd

end
-- ==== Proof.ForeFrame.lean ====
module

public import proofs.«01_k».proof.Proof.ForeBody
public import proofs.«01_k».proof.Proof.Gen.Kernel20Ideal.Launch
public import proofs.«01_k».proof.Proof.Gen.Kernel20Ideal.Points
public import Idealize.ShloMosaic.Lib.Claim
public import Idealize.ShloMosaic.Lib.Ring
public import Idealize.ShloMosaic.Lib.Pipeline.FrameBody
public import Idealize.ShloMosaic.Lib.Tactic
public import Idealize.ShloMosaic.Lib.WordCmp

/-! The forward call: what every point leaves, on any buffers it may find. -/

@[expose] public section

noncomputable section

namespace Cert.Kernel20Ideal.Gen.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The buffers as the call finds them. -/
abbrev Entry (F : FTy → Type) : Type := (c : Dev nD) → (b : Ref sig .tc) → Buf (Elt F) ((c : Thread nD τ).loc b)

variable (V : Entry F)

/-- Window `w`'s block at point `t`, of its array as the call finds it. -/
def blockIn (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem found_0 {c : Dev nD} (dat : Dat τ (Elt F) Unit ℕ (UR sig nD τ) ℕ cfg0 c) (hA : dat.A 0 = V c (Pipeline.arrRef spec0 0))
    (hafter : ∀ t, dat.after 0 t = blockIn V c 0 t) (t : Fin cfg0.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

theorem found_1 {c : Dev nD} (dat : Dat τ (Elt F) Unit ℕ (UR sig nD τ) ℕ cfg0 c) (hA : dat.A 1 = V c (Pipeline.arrRef spec0 1))
    (hafter : ∀ t, dat.after 1 t = blockIn V c 1 t) (t : Fin cfg0.N) (d) : dat.before 1 t d = blockIn V c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

/-- The body's branch is taken at the first point only. -/
theorem first_iff : ∀ t : Fin cfg0.N, isFirst (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [isFirst, e0]
    word_cmp
   : ∀ t : Fin grid0.N, isFirst (grid0.coords t) ↔ t.val % 9 = 0)

/-! ## The buffers a point works on -/
abbrev stg_0 (t : Fin cfg0.N) : Memref sig .tc .vmem S4x256x1024 .f32 := win0_0.stage (cfg0.slots t 0)
abbrev stgW_0 (t : Fin cfg0.N) : (stg_0 t).IsWhole := hstage0_0 ((cfg0.slots t 0).cast nbuf0_0)
abbrev stg_1 (t : Fin cfg0.N) : Memref sig .tc .vmem S4x256x1024 .f32 := win0_1.stage (cfg0.slots t 1)
abbrev stgW_1 (t : Fin cfg0.N) : (stg_1 t).IsWhole := hstage0_1 ((cfg0.slots t 1).cast nbuf0_1)
abbrev stg_2 (t : Fin cfg0.N) : Memref sig .tc .vmem S4x256x1024 .f32 := win0_2.stage (cfg0.slots t 2)
abbrev stgW_2 (t : Fin cfg0.N) : (stg_2 t).IsWhole := hstage0_2 ((cfg0.slots t 2).cast nbuf0_2)
abbrev stg_3 (t : Fin cfg0.N) : Memref sig .tc .vmem S4x256x1024 .f32 := win0_3.stage (cfg0.slots t 3)
abbrev stgW_3 (t : Fin cfg0.N) : (stg_3 t).IsWhole := hstage0_3 ((cfg0.slots t 3).cast nbuf0_3)
abbrev scr_0 : Memref sig .tc .vmem S4x8x8x128 .f32 := Memref.whole cc0_scratch0

/-- What a point does not touch: the other scoped buffers and the generator's register. -/
def keep (c : Dev nD) : sProp 𝕄 := iprop(Pipeline.scopedRestBut spec0 c [cc0_scratch0] ∗ (∃ r, prngReg c r))

theorem rest_split (c : Dev nD) : (Pipeline.scopedRest spec0 c : sProp 𝕄) = iprop((∃ d, owns (c : Thread nD τ) scr_0 fullShare d) ∗ Pipeline.scopedRestBut spec0 c [cc0_scratch0]) := by
  rw [Pipeline.scopedRest_split_of_list spec0 c [cc0_scratch0] (by decide) (by decide)]
  simp only [scr_0, owns_whole]; try rfl

theorem enter_scratch (c : Dev nD) : (Pipeline.ΦA spec0 c : sProp 𝕄) ⊢ iprop((∃ d, owns (c : Thread nD τ) scr_0 fullShare d) ∗ keep c) := by
  unfold Pipeline.ΦA keep; rw [rest_split]
  iintro ⟨⟨H0, H1⟩, Hg⟩
  isplitl [H0]; · iexact H0
  isplitl [H1]; · iexact H1
  iexact Hg

theorem leave_scratch (c : Dev nD) : iprop((∃ d, owns (c : Thread nD τ) scr_0 fullShare d) ∗ keep c) ⊢ (Pipeline.ΦA spec0 c : sProp 𝕄) := by
  unfold Pipeline.ΦA keep; rw [rest_split]
  iintro ⟨H0, H1, Hg⟩
  isplitl [H0 H1]
  · isplitl [H0]; · iexact H0
    iexact H1
  iexact Hg

/-- The two input blocks of a point: the coefficients and the inputs. -/
abbrev inA (c : Dev nD) (t : Fin cfg0.N) : Vec F S4x256x1024 .f32 := blockIn V c 0 t
abbrev inB (c : Dev nD) (t : Fin cfg0.N) : Vec F S4x256x1024 .f32 := blockIn V c 1 t

/-- The carried rows with which point `n` starts its loop. -/
def startAt (c : Dev nD) : (n : ℕ) → n ≤ cfg0.N → Vec F S4x8x8x128 .f32
  | 0, _ => k0_pay1
  | n + 1, h => carried (inA V c ⟨n, h⟩) (inB V c ⟨n, h⟩) (startAt c n (Nat.le_of_lt h)) 32

/-- The two result blocks of a point. -/
def outHAt (c : Dev nD) (t : Fin cfg0.N) : Vec F S4x256x1024 .f32 := blockH (inA V c t) (inB V c t) (startAt V c t.val t.isLt.le)
def outPAt (c : Dev nD) (t : Fin cfg0.N) : Vec F S4x256x1024 .f32 := blockP (inA V c t) (inB V c t) (startAt V c t.val t.isLt.le)

/-- The scratch buffer holding `x`, and what a point does not touch. -/
def holds (c : Dev nD) (x : Vec F S4x8x8x128 .f32) : sProp 𝕄 :=
  iprop(owns (c : Thread nD τ) scr_0 fullShare x ∗ keep c)

/-- Between points: before the first anything, afterwards the carried rows. -/
def between (c : Dev nD) (n : ℕ) (h : n ≤ cfg0.N) : sProp 𝕄 :=
  if n = 0 then Pipeline.ΦA spec0 c else holds c (startAt V c n h)

/-- The data of the pipeline's proof. -/
def plan (c : Dev nD) : Dat τ (Elt F) Unit ℕ (UR sig nD τ) ℕ cfg0 c where
  A w := V c (Pipeline.arrRef spec0 w)
  after w t := match w with
    | ⟨0, _⟩ => inA V c t
    | ⟨1, _⟩ => inB V c t
    | ⟨2, _⟩ => outHAt V c t
    | ⟨3, _⟩ => outPAt V c t
  Φ t := between V c t.val (Nat.le_of_lt_succ t.isLt)
  q _ := fullShare
  owed _ := 0

theorem plan_A (c : Dev nD) (w : Fin cfg0.W) : (plan V c).A w = V c (Pipeline.arrRef spec0 w) := by dsimp only [plan]
theorem plan_start (c : Dev nD) (t : Fin cfg0.N) : (plan V c).Φ t.castSucc = between V c t.val t.isLt.le := by
  dsimp only [plan]; exact Pipeline.Dat.Φ_castSucc (between V c) t
theorem plan_end (c : Dev nD) (t : Fin cfg0.N) : (plan V c).Φ t.succ = holds c (startAt V c (t.val + 1) t.isLt) := by
  dsimp only [plan]; exact if_neg (Nat.succ_ne_zero _)
theorem after_0 (c : Dev nD) (t : Fin cfg0.N) : (plan V c).after 0 t = inA V c t := by dsimp only [plan]
theorem after_1 (c : Dev nD) (t : Fin cfg0.N) : (plan V c).after 1 t = inB V c t := by dsimp only [plan]
theorem after_2 (c : Dev nD) (t : Fin cfg0.N) : (plan V c).after 2 t = outHAt V c t := by dsimp only [plan]
theorem after_3 (c : Dev nD) (t : Fin cfg0.N) : (plan V c).after 3 t = outPAt V c t := by dsimp only [plan]
theorem before_0 (c : Dev nD) (t : Fin cfg0.N) (d) : (plan V c).before 0 t d = inA V c t :=
  found_0 V (plan V c) (plan_A V c 0) (after_0 V c) t d
theorem before_1 (c : Dev nD) (t : Fin cfg0.N) (d) : (plan V c).before 1 t d = inB V c t :=
  found_1 V (plan V c) (plan_A V c 1) (after_1 V c) t d

/-- The body at one point. -/
theorem point_run (c : Dev nD) (t : Fin cfg0.N) (W3 W4 : Vec F S4x256x1024 .f32) (g : Vec F S4x8x8x128 .f32)
    (h : t.val ≠ 0 → startAt V c t.val t.isLt.le = g) :
    Bufs c (stg_0 t) (stg_1 t) (stg_2 t) (stg_3 t) scr_0 (inA V c t) (inB V c t) W3 W4 g
      ⊢ wp frame (wpE (defs₀ (F := F)) Variants.none (c : Thread nD τ) none) Set.univ (bodyAt0 t)
        (fun _ => Bufs c (stg_0 t) (stg_1 t) (stg_2 t) (stg_3 t) scr_0 (inA V c t) (inB V c t)
          (outHAt V c t) (outPAt V c t) (startAt V c (t.val + 1) t.isLt)) := by
  have hN : t.val < 9 := lt_of_lt_of_eq t.isLt (show cfg0.N = 9 from N_0)
  have e3 : outHAt V c t = blockH (inA V c t) (inB V c t) (startAt V c t.val t.isLt.le) := rfl
  have e4 : outPAt V c t = blockP (inA V c t) (inB V c t) (startAt V c t.val t.isLt.le) := rfl
  have e5 : startAt V c (t.val + 1) t.isLt = carried (inA V c t) (inB V c t) (startAt V c t.val t.isLt.le) 32 := rfl
  by_cases hz : t.val = 0
  · have es : startAt V c t.val t.isLt.le = k0_pay1 := by
      obtain ⟨n, hn⟩ := t; cases hz; rfl
    rw [e3, e4, e5, es]
    exact wp_body_first Variants.none c none Set.univ (grid0.coords t) _ (stgW_0 t) _ (stgW_1 t) _ (stgW_2 t) _ (stgW_3 t)
      _ (Memref.isWhole_whole _) _ _ W3 W4 g ((first_iff t).mpr (by omega))
  · rw [e3, e4, e5, h hz]
    exact wp_body_later Variants.none c none Set.univ (grid0.coords t) _ (stgW_0 t) _ (stgW_1 t) _ (stgW_2 t) _ (stgW_3 t)
      _ (Memref.isWhole_whole _) _ _ W3 W4 g (fun hc => hz (by have := (first_iff t).mp hc; omega))

/-- What the pipeline hands the body at a point, and what it takes back. -/
def given (c : Dev nD) (t : Fin cfg0.N) : sProp 𝕄 :=
  iprop((plan V c).Φ t.castSucc ∗ (plan V c).owesAt () t.castSucc
    ∗ (∃ d, owns (c : Thread nD τ) (stg_0 t) fullShare ((plan V c).before 0 t d))
    ∗ (∃ d, owns (c : Thread nD τ) (stg_1 t) fullShare ((plan V c).before 1 t d))
    ∗ (∃ d, owns (c : Thread nD τ) (stg_2 t) fullShare ((plan V c).before 2 t d))
    ∗ (∃ d, owns (c : Thread nD τ) (stg_3 t) fullShare ((plan V c).before 3 t d)))
def taken (c : Dev nD) (t : Fin cfg0.N) : sProp 𝕄 :=
  iprop((plan V c).Φ t.succ ∗ (plan V c).owesAt () t.succ
    ∗ owns (c : Thread nD τ) (stg_0 t) fullShare ((plan V c).after 0 t)
    ∗ owns (c : Thread nD τ) (stg_1 t) fullShare ((plan V c).after 1 t)
    ∗ owns (c : Thread nD τ) (stg_2 t) fullShare ((plan V c).after 2 t)
    ∗ owns (c : Thread nD τ) (stg_3 t) fullShare ((plan V c).after 3 t))

/-- The same with the scratch buffer named. -/
theorem point_step (c : Dev nD) (t : Fin cfg0.N) (g : Vec F S4x8x8x128 .f32)
    (h : t.val ≠ 0 → startAt V c t.val t.isLt.le = g) (W3 W4 : Vec F S4x256x1024 .f32) (O : sProp 𝕄) :
    iprop((owns (c : Thread nD τ) scr_0 fullShare g ∗ keep c) ∗ O
      ∗ owns (c : Thread nD τ) (stg_0 t) fullShare (inA V c t) ∗ owns (c : Thread nD τ) (stg_1 t) fullShare (inB V c t)
      ∗ owns (c : Thread nD τ) (stg_2 t) fullShare W3 ∗ owns (c : Thread nD τ) (stg_3 t) fullShare W4)
      ⊢ wp frame (wpE (defs₀ (F := F)) Variants.none (c : Thread nD τ) none) Set.univ (bodyAt0 t)
        (fun _ => iprop(holds c (startAt V c (t.val + 1) t.isLt) ∗ O
          ∗ owns (c : Thread nD τ) (stg_0 t) fullShare (inA V c t) ∗ owns (c : Thread nD τ) (stg_1 t) fullShare (inB V c t)
          ∗ owns (c : Thread nD τ) (stg_2 t) fullShare (outHAt V c t)
          ∗ owns (c : Thread nD τ) (stg_3 t) fullShare (outPAt V c t))) := by
  have hr := point_run V c t W3 W4 g h
  iintro ⟨⟨H6, Hg⟩, HO, H1, H2, H3, H4⟩
  iapply (wp_wand_r Idealize.ShloMosaic.frame (wpE (defs₀ (F := F)) Variants.none (c : Thread nD τ) none) Set.univ)
  isplitl [H1 H2 H3 H4 H6]
  · iapply hr
    isplitl [H1]; · iexact H1
    isplitl [H2]; · iexact H2
    isplitl [H3]; · iexact H3
    isplitl [H4]; · iexact H4
    iexact H6
  iintro %u ⟨H1, H2, H3, H4, H6⟩
  unfold holds
  isplitl [H6 Hg]
  · isplitl [H6]; · iexact H6
    iexact Hg
  isplitl [HO]; · iexact HO
  isplitl [H1]; · iexact H1
  isplitl [H2]; · iexact H2
  isplitl [H3]; · iexact H3
  iexact H4

theorem point_sound (c : Dev nD) (t : Fin cfg0.N) :
    given V c t ⊢ wp frame (wpE (defs₀ (F := F)) Variants.none (c : Thread nD τ) none) Set.univ (bodyAt0 t) (fun _ => taken V c t) := by
  unfold given taken
  rw [show (plan V c).owesAt () t.succ = (plan V c).owesAt () t.castSucc from rfl, plan_end, plan_start]
  simp only [before_0, before_1, after_0, after_1, after_2, after_3]
  unfold between
  by_cases hz : t.val = 0
  · rw [if_pos hz]
    iintro ⟨HP, Ho, ⟨%d0, H0⟩, ⟨%d1, H1⟩, ⟨%d2, H2⟩, ⟨%d3, H3⟩⟩
    ihave HP := (enter_scratch c) $$ HP
    icases HP with ⟨⟨%g, HS0⟩, Hg⟩
    iapply (point_step V c t g (fun h => absurd hz h) _ _ _)
    isplitl [HS0 Hg]
    · isplitl [HS0]; · iexact HS0
      iexact Hg
    isplitl [Ho]; · iexact Ho
    isplitl [H0]; · iexact H0
    isplitl [H1]; · iexact H1
    isplitl [H2]; · iexact H2
    iexact H3
  · rw [if_neg hz]; unfold holds
    iintro ⟨⟨HS0, Hg⟩, Ho, ⟨%d0, H0⟩, ⟨%d1, H1⟩, ⟨%d2, H2⟩, ⟨%d3, H3⟩⟩
    iapply (point_step V c t _ (fun _ => rfl) _ _ _)
    isplitl [HS0 Hg]
    · isplitl [HS0]; · iexact HS0
      iexact Hg
    isplitl [Ho]; · iexact Ho
    isplitl [H0]; · iexact H0
    isplitl [H1]; · iexact H1
    isplitl [H2]; · iexact H2
    iexact H3

theorem row_eq (t : Fin cfg0.N) : defs₀ (F := F) .tc cfg0.body (cfg0.bodyArgs t (cfg0.slots t)) = bodyAt0 t := by
  unfold defs₀; rw [Defs.onTc_tc]

theorem obligation (c : Dev nD) : BodyObligation (plan (F := F) V c) (defs₀ (F := F)) Variants.none () Set.univ := fun t => by
  rw [bigSep_W0, bigSep_W0, row_eq]
  exact triple_restated (point_sound V c t) rfl .rfl fun _ => .rfl

theorem enter (c : Dev nD) : Pipeline.ΦA spec0 c ⊢ (plan V c).Φ 0 := by
  rw [show (plan V c).Φ 0 = between V c 0 (Nat.zero_le _) from rfl]; unfold between; rw [if_pos rfl]

theorem leave (c : Dev nD) : (plan V c).Φ (Fin.last cfg0.N) ⊢ Pipeline.ΦA spec0 c := by
  rw [show (plan V c).Φ (Fin.last cfg0.N) = between V c cfg0.N le_rfl from rfl]
  unfold between
  rw [if_neg (by have : cfg0.N = 9 := N_0; omega)]
  refine BIBase.Entails.trans ?_ (leave_scratch c)
  unfold holds
  iintro ⟨HS0, Hg⟩
  isplitl [HS0]
  · iexists _; iexact HS0
  iexact Hg

end Cert.Kernel20Ideal.Gen.Fwd

end
-- ==== Proof.BackFrame.lean ====
module

public import proofs.«01_k».proof.Proof.BackBody
public import proofs.«01_k».proof.Proof.Gen.Kernel20Ideal.Launch
public import proofs.«01_k».proof.Proof.Gen.Kernel20Ideal.Points
public import Idealize.ShloMosaic.Lib.Claim
public import Idealize.ShloMosaic.Lib.Ring
public import Idealize.ShloMosaic.Lib.Pipeline.FrameBody
public import Idealize.ShloMosaic.Lib.Tactic
public import Idealize.ShloMosaic.Lib.WordCmp

/-! The gradient's call: what every point leaves, on any buffers it may find. -/

@[expose] public section

noncomputable section

namespace Cert.Kernel20Ideal.Gen.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The buffers as the call finds them. -/
abbrev Entry (F : FTy → Type) : Type := (c : Dev nD) → (b : Ref sig .tc) → Buf (Elt F) ((c : Thread nD τ).loc b)

variable (V : Entry F)

/-- Window `w`'s block at point `t`, of its array as the call finds it. -/
def blockIn (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found_0 {c : Dev nD} (dat : Dat τ (Elt F) Unit ℕ (UR sig nD τ) ℕ cfg1 c) (hA : dat.A 0 = V c (Pipeline.arrRef spec1 0))
    (hafter : ∀ t, dat.after 0 t = blockIn V c 0 t) (t : Fin cfg1.N) (d) : dat.before 0 t d = blockIn V c 0 t :=
  (dat.before_in_eq_fetched 0 rfl (fun _ => rfl) (fun _ _ _ => rfl) (fun t => by rw [hafter]; unfold Dat.blockOf blockIn; rw [hA]; try rfl) t d).trans
    (by unfold Dat.fetched Dat.blockOf blockIn; rw [hA]; try rfl)

theorem found_1 {c : Dev nD} (dat : Dat τ (Elt F) Unit ℕ (UR sig nD τ) ℕ cfg1 c) (hA : dat.A 1 = V c (Pipeline.arrRef spec1 1))
    (hafter : ∀ t, dat.after 1 t = blockIn V c 1 t) (t : Fin cfg1.N) (d) : dat.before 1 t d = blockIn V c 1 t :=
  (dat.before_in_eq_fetched 1 rfl (fun _ => rfl) (fun _ _ _ => rfl) (fun t => by rw [hafter]; unfold Dat.blockOf blockIn; rw [hA]; try rfl) t d).trans
    (by unfold Dat.fetched Dat.blockOf blockIn; rw [hA]; try rfl)

theorem found_2 {c : Dev nD} (dat : Dat τ (Elt F) Unit ℕ (UR sig nD τ) ℕ cfg1 c) (hA : dat.A 2 = V c (Pipeline.arrRef spec1 2))
    (hafter : ∀ t, dat.after 2 t = blockIn V c 2 t) (t : Fin cfg1.N) (d) : dat.before 2 t d = blockIn V c 2 t :=
  (dat.before_in_eq_fetched 2 rfl (fun _ => rfl) (fun _ _ _ => rfl) (fun t => by rw [hafter]; unfold Dat.blockOf blockIn; rw [hA]; try rfl) t d).trans
    (by unfold Dat.fetched Dat.blockOf blockIn; rw [hA]; try rfl)

/-- The body's branch is taken at the first point only. -/
theorem first_iff : ∀ t : Fin cfg1.N, isFirst (grid1.coords t) ↔ t.val % 9 = 0 :=
  (fun t => by
    have ht : t.val < 9 := Nat.lt_of_lt_of_eq t.isLt N_1
    have e0 : (grid1.coords t 0).val = t.val / 1 % 9 := Pipeline.Grid.coords_val t 0 (by decide) rfl
    simp only [isFirst, e0]
    word_cmp
   : ∀ t : Fin grid1.N, isFirst (grid1.coords t) ↔ t.val % 9 = 0)

/-! ## The buffers a point works on -/
abbrev stg_0 (t : Fin cfg1.N) : Memref sig .tc .vmem S4x256x1024 .f32 := win1_0.stage (cfg1.slots t 0)
abbrev stgW_0 (t : Fin cfg1.N) : (stg_0 t).IsWhole := hstage1_0 ((cfg1.slots t 0).cast nbuf1_0)
abbrev stg_1 (t : Fin cfg1.N) : Memref sig .tc .vmem S4x256x1024 .f32 := win1_1.stage (cfg1.slots t 1)
abbrev stgW_1 (t : Fin cfg1.N) : (stg_1 t).IsWhole := hstage1_1 ((cfg1.slots t 1).cast nbuf1_1)
abbrev stg_2 (t : Fin cfg1.N) : Memref sig .tc .vmem S4x256x1024 .f32 := win1_2.stage (cfg1.slots t 2)
abbrev stgW_2 (t : Fin cfg1.N) : (stg_2 t).IsWhole := hstage1_2 ((cfg1.slots t 2).cast nbuf1_2)
abbrev stg_3 (t : Fin cfg1.N) : Memref sig .tc .vmem S4x256x1024 .f32 := win1_3.stage (cfg1.slots t 3)
abbrev stgW_3 (t : Fin cfg1.N) : (stg_3 t).IsWhole := hstage1_3 ((cfg1.slots t 3).cast nbuf1_3)
abbrev stg_4 (t : Fin cfg1.N) : Memref sig .tc .vmem S4x256x1024 .f32 := win1_4.stage (cfg1.slots t 4)
abbrev stgW_4 (t : Fin cfg1.N) : (stg_4 t).IsWhole := hstage1_4 ((cfg1.slots t 4).cast nbuf1_4)
abbrev scr_0 : Memref sig .tc .vmem S4x8x8x128 .f32 := Memref.whole cc1_scratch0
abbrev scr_1 : Memref sig .tc .vmem S4x8x8x128 .f32 := Memref.whole cc1_scratch1

/-- What a point does not touch: the other scoped buffers and the generator's register. -/
def keep (c : Dev nD) : sProp 𝕄 := iprop(Pipeline.scopedRestBut spec1 c [cc1_scratch0, cc1_scratch1] ∗ (∃ r, prngReg c r))

theorem rest_split (c : Dev nD) : (Pipeline.scopedRest spec1 c : sProp 𝕄) = iprop(((∃ d, owns (c : Thread nD τ) scr_0 fullShare d) ∗ (∃ d, owns (c : Thread nD τ) scr_1 fullShare d)) ∗ Pipeline.scopedRestBut spec1 c [cc1_scratch0, cc1_scratch1]) := by
  rw [Pipeline.scopedRest_split_of_list spec1 c [cc1_scratch0, cc1_scratch1] (by decide) (by decide)]
  simp only [scr_0, scr_1, owns_whole]; try rfl

theorem enter_scratch (c : Dev nD) : (Pipeline.ΦA spec1 c : sProp 𝕄) ⊢ iprop(((∃ d, owns (c : Thread nD τ) scr_0 fullShare d) ∗ (∃ d, owns (c : Thread nD τ) scr_1 fullShare d)) ∗ keep c) := by
  unfold Pipeline.ΦA keep; rw [rest_split]
  iintro ⟨⟨H0, H1⟩, Hg⟩
  isplitl [H0]; · iexact H0
  isplitl [H1]; · iexact H1
  iexact Hg

theorem leave_scratch (c : Dev nD) : iprop(((∃ d, owns (c : Thread nD τ) scr_0 fullShare d) ∗ (∃ d, owns (c : Thread nD τ) scr_1 fullShare d)) ∗ keep c) ⊢ (Pipeline.ΦA spec1 c : sProp 𝕄) := by
  unfold Pipeline.ΦA keep; rw [rest_split]
  iintro ⟨H0, H1, Hg⟩
  isplitl [H0 H1]
  · isplitl [H0]; · iexact H0
    iexact H1
  iexact Hg

/-- The three input blocks of a point: the coefficients, the incoming gradients and the saved states. -/
abbrev inA (c : Dev nD) (t : Fin cfg1.N) : Vec F S4x256x1024 .f32 := blockIn V c 0 t
abbrev inD (c : Dev nD) (t : Fin cfg1.N) : Vec F S4x256x1024 .f32 := blockIn V c 1 t
abbrev inH (c : Dev nD) (t : Fin cfg1.N) : Vec F S4x256x1024 .f32 := blockIn V c 2 t

/-- The carried rows with which point `n` starts its loop. -/
def startAt (c : Dev nD) : (n : ℕ) → n ≤ cfg1.N → Vec F S4x8x8x128 .f32 × Vec F S4x8x8x128 .f32
  | 0, _ => (k1_pay1, k1_pay2)
  | n + 1, h => carried (inA V c ⟨n, h⟩) (inD V c ⟨n, h⟩) (startAt c n (Nat.le_of_lt h)).1 (startAt c n (Nat.le_of_lt h)).2 32

/-- The two result blocks of a point. -/
def outGAt (c : Dev nD) (t : Fin cfg1.N) : Vec F S4x256x1024 .f32 :=
  blockG (inA V c t) (inD V c t) (startAt V c t.val t.isLt.le).1 (startAt V c t.val t.isLt.le).2
def outGAAt (c : Dev nD) (t : Fin cfg1.N) : Vec F S4x256x1024 .f32 :=
  blockGA (inA V c t) (inD V c t) (inH V c t) (startAt V c t.val t.isLt.le).1 (startAt V c t.val t.isLt.le).2

/-- The two scratch buffers holding `x`, and the generator's register. -/
def holds (c : Dev nD) (x : Vec F S4x8x8x128 .f32 × Vec F S4x8x8x128 .f32) : sProp 𝕄 :=
  iprop((owns (c : Thread nD τ) scr_0 fullShare x.1 ∗ owns (c : Thread nD τ) scr_1 fullShare x.2) ∗ keep c)

/-- Between points: before the first anything, afterwards the carried rows. -/
def between (c : Dev nD) (n : ℕ) (h : n ≤ cfg1.N) : sProp 𝕄 :=
  if n = 0 then Pipeline.ΦA spec1 c else holds c (startAt V c n h)

/-- The data of the pipeline's proof. -/
def plan (c : Dev nD) : Dat τ (Elt F) Unit ℕ (UR sig nD τ) ℕ cfg1 c where
  A w := V c (Pipeline.arrRef spec1 w)
  after w t := match w with
    | ⟨0, _⟩ => inA V c t
    | ⟨1, _⟩ => inD V c t
    | ⟨2, _⟩ => inH V c t
    | ⟨3, _⟩ => outGAt V c t
    | ⟨4, _⟩ => outGAAt V c t
  Φ t := between V c t.val (Nat.le_of_lt_succ t.isLt)
  q _ := fullShare
  owed _ := 0

theorem plan_A (c : Dev nD) (w : Fin cfg1.W) : (plan V c).A w = V c (Pipeline.arrRef spec1 w) := by dsimp only [plan]
theorem plan_start (c : Dev nD) (t : Fin cfg1.N) : (plan V c).Φ t.castSucc = between V c t.val t.isLt.le := by
  dsimp only [plan]; exact Pipeline.Dat.Φ_castSucc (between V c) t
theorem plan_end (c : Dev nD) (t : Fin cfg1.N) : (plan V c).Φ t.succ = holds c (startAt V c (t.val + 1) t.isLt) := by
  dsimp only [plan]; exact if_neg (Nat.succ_ne_zero _)
theorem after_0 (c : Dev nD) (t : Fin cfg1.N) : (plan V c).after 0 t = inA V c t := by dsimp only [plan]
theorem after_1 (c : Dev nD) (t : Fin cfg1.N) : (plan V c).after 1 t = inD V c t := by dsimp only [plan]
theorem after_2 (c : Dev nD) (t : Fin cfg1.N) : (plan V c).after 2 t = inH V c t := by dsimp only [plan]
theorem after_3 (c : Dev nD) (t : Fin cfg1.N) : (plan V c).after 3 t = outGAt V c t := by dsimp only [plan]
theorem after_4 (c : Dev nD) (t : Fin cfg1.N) : (plan V c).after 4 t = outGAAt V c t := by dsimp only [plan]
theorem before_0 (c : Dev nD) (t : Fin cfg1.N) (d) : (plan V c).before 0 t d = inA V c t :=
  found_0 V (plan V c) (plan_A V c 0) (after_0 V c) t d
theorem before_1 (c : Dev nD) (t : Fin cfg1.N) (d) : (plan V c).before 1 t d = inD V c t :=
  found_1 V (plan V c) (plan_A V c 1) (after_1 V c) t d
theorem before_2 (c : Dev nD) (t : Fin cfg1.N) (d) : (plan V c).before 2 t d = inH V c t :=
  found_2 V (plan V c) (plan_A V c 2) (after_2 V c) t d

/-- The body at one point. -/
theorem point_run (c : Dev nD) (t : Fin cfg1.N) (W4 W5 : Vec F S4x256x1024 .f32) (g a : Vec F S4x8x8x128 .f32)
    (h : t.val ≠ 0 → startAt V c t.val t.isLt.le = (g, a)) :
    Bufs c (stg_0 t) (stg_1 t) (stg_2 t) (stg_3 t) (stg_4 t) scr_0 scr_1 (inA V c t) (inD V c t) (inH V c t) W4 W5 g a
      ⊢ wp frame (wpE (defs₀ (F := F)) Variants.none (c : Thread nD τ) none) Set.univ (bodyAt1 t)
        (fun _ => Bufs c (stg_0 t) (stg_1 t) (stg_2 t) (stg_3 t) (stg_4 t) scr_0 scr_1 (inA V c t) (inD V c t) (inH V c t)
          (outGAt V c t) (outGAAt V c t) (startAt V c (t.val + 1) t.isLt).1 (startAt V c (t.val + 1) t.isLt).2) := by
  have hN : t.val < 9 := lt_of_lt_of_eq t.isLt (show cfg1.N = 9 from N_1)
  have e3 : outGAt V c t = blockG (inA V c t) (inD V c t) (startAt V c t.val t.isLt.le).1 (startAt V c t.val t.isLt.le).2 := rfl
  have e4 : outGAAt V c t = blockGA (inA V c t) (inD V c t) (inH V c t) (startAt V c t.val t.isLt.le).1 (startAt V c t.val t.isLt.le).2 := rfl
  have e5 : startAt V c (t.val + 1) t.isLt = carried (inA V c t) (inD V c t) (startAt V c t.val t.isLt.le).1 (startAt V c t.val t.isLt.le).2 32 := rfl
  by_cases hz : t.val = 0
  · have es : startAt V c t.val t.isLt.le = (k1_pay1, k1_pay2) := by
      obtain ⟨n, hn⟩ := t; cases hz; rfl
    rw [e3, e4, e5, es]
    exact wp_body_first Variants.none c none Set.univ (grid1.coords t) _ (stgW_0 t) _ (stgW_1 t) _ (stgW_2 t) _ (stgW_3 t) _ (stgW_4 t)
      _ (Memref.isWhole_whole _) _ (Memref.isWhole_whole _) _ _ _ W4 W5 g a ((first_iff t).mpr (by omega))
  · rw [e3, e4, e5, h hz]
    exact wp_body_later Variants.none c none Set.univ (grid1.coords t) _ (stgW_0 t) _ (stgW_1 t) _ (stgW_2 t) _ (stgW_3 t) _ (stgW_4 t)
      _ (Memref.isWhole_whole _) _ (Memref.isWhole_whole _) _ _ _ W4 W5 g a (fun hc => hz (by have := (first_iff t).mp hc; omega))

/-- What the pipeline hands the body at a point, and what it takes back. -/
def given (c : Dev nD) (t : Fin cfg1.N) : sProp 𝕄 :=
  iprop((plan V c).Φ t.castSucc ∗ (plan V c).owesAt () t.castSucc
    ∗ (∃ d, owns (c : Thread nD τ) (stg_0 t) fullShare ((plan V c).before 0 t d))
    ∗ (∃ d, owns (c : Thread nD τ) (stg_1 t) fullShare ((plan V c).before 1 t d))
    ∗ (∃ d, owns (c : Thread nD τ) (stg_2 t) fullShare ((plan V c).before 2 t d))
    ∗ (∃ d, owns (c : Thread nD τ) (stg_3 t) fullShare ((plan V c).before 3 t d))
    ∗ (∃ d, owns (c : Thread nD τ) (stg_4 t) fullShare ((plan V c).before 4 t d)))
def taken (c : Dev nD) (t : Fin cfg1.N) : sProp 𝕄 :=
  iprop((plan V c).Φ t.succ ∗ (plan V c).owesAt () t.succ
    ∗ owns (c : Thread nD τ) (stg_0 t) fullShare ((plan V c).after 0 t)
    ∗ owns (c : Thread nD τ) (stg_1 t) fullShare ((plan V c).after 1 t)
    ∗ owns (c : Thread nD τ) (stg_2 t) fullShare ((plan V c).after 2 t)
    ∗ owns (c : Thread nD τ) (stg_3 t) fullShare ((plan V c).after 3 t)
    ∗ owns (c : Thread nD τ) (stg_4 t) fullShare ((plan V c).after 4 t))

/-- The same with the scratch buffers named. -/
theorem point_step (c : Dev nD) (t : Fin cfg1.N) (g a : Vec F S4x8x8x128 .f32)
    (h : t.val ≠ 0 → startAt V c t.val t.isLt.le = (g, a)) (W4 W5 : Vec F S4x256x1024 .f32) (O : sProp 𝕄) :
    iprop(((owns (c : Thread nD τ) scr_0 fullShare g ∗ owns (c : Thread nD τ) scr_1 fullShare a) ∗ keep c) ∗ O
      ∗ owns (c : Thread nD τ) (stg_0 t) fullShare (inA V c t) ∗ owns (c : Thread nD τ) (stg_1 t) fullShare (inD V c t)
      ∗ owns (c : Thread nD τ) (stg_2 t) fullShare (inH V c t) ∗ owns (c : Thread nD τ) (stg_3 t) fullShare W4
      ∗ owns (c : Thread nD τ) (stg_4 t) fullShare W5)
      ⊢ wp frame (wpE (defs₀ (F := F)) Variants.none (c : Thread nD τ) none) Set.univ (bodyAt1 t)
        (fun _ => iprop(holds c (startAt V c (t.val + 1) t.isLt) ∗ O
          ∗ owns (c : Thread nD τ) (stg_0 t) fullShare (inA V c t) ∗ owns (c : Thread nD τ) (stg_1 t) fullShare (inD V c t)
          ∗ owns (c : Thread nD τ) (stg_2 t) fullShare (inH V c t) ∗ owns (c : Thread nD τ) (stg_3 t) fullShare (outGAt V c t)
          ∗ owns (c : Thread nD τ) (stg_4 t) fullShare (outGAAt V c t))) := by
  have hr := point_run V c t W4 W5 g a h
  iintro ⟨⟨⟨H6, H7⟩, Hg⟩, HO, H1, H2, H3, H4, H5⟩
  iapply (wp_wand_r Idealize.ShloMosaic.frame (wpE (defs₀ (F := F)) Variants.none (c : Thread nD τ) none) Set.univ)
  isplitl [H1 H2 H3 H4 H5 H6 H7]
  · iapply hr
    isplitl [H1]; · iexact H1
    isplitl [H2]; · iexact H2
    isplitl [H3]; · iexact H3
    isplitl [H4]; · iexact H4
    isplitl [H5]; · iexact H5
    isplitl [H6]; · iexact H6
    iexact H7
  iintro %u ⟨H1, H2, H3, H4, H5, H6, H7⟩
  unfold holds
  isplitl [H6 H7 Hg]
  · isplitl [H6 H7]
    · isplitl [H6]; · iexact H6
      iexact H7
    iexact Hg
  isplitl [HO]; · iexact HO
  isplitl [H1]; · iexact H1
  isplitl [H2]; · iexact H2
  isplitl [H3]; · iexact H3
  isplitl [H4]; · iexact H4
  iexact H5

theorem point_sound (c : Dev nD) (t : Fin cfg1.N) :
    given V c t ⊢ wp frame (wpE (defs₀ (F := F)) Variants.none (c : Thread nD τ) none) Set.univ (bodyAt1 t) (fun _ => taken V c t) := by
  unfold given taken
  rw [show (plan V c).owesAt () t.succ = (plan V c).owesAt () t.castSucc from rfl, plan_end, plan_start]
  simp only [before_0, before_1, before_2, after_0, after_1, after_2, after_3, after_4]
  unfold between
  by_cases hz : t.val = 0
  · rw [if_pos hz]
    iintro ⟨HP, Ho, ⟨%d0, H0⟩, ⟨%d1, H1⟩, ⟨%d2, H2⟩, ⟨%d3, H3⟩, ⟨%d4, H4⟩⟩
    ihave HP := (enter_scratch c) $$ HP
    icases HP with ⟨⟨⟨%g, HS0⟩, ⟨%a, HS1⟩⟩, Hg⟩
    iapply (point_step V c t g a (fun h => absurd hz h) _ _ _)
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  · rw [if_neg hz]; unfold holds
    iintro ⟨⟨⟨HS0, HS1⟩, Hg⟩, Ho, ⟨%d0, H0⟩, ⟨%d1, H1⟩, ⟨%d2, H2⟩, ⟨%d3, H3⟩, ⟨%d4, H4⟩⟩
    iapply (point_step V c t _ _ (fun _ => rfl) _ _ _)
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4

theorem row_eq (t : Fin cfg1.N) : defs₀ (F := F) .tc cfg1.body (cfg1.bodyArgs t (cfg1.slots t)) = bodyAt1 t := by
  unfold defs₀; rw [Defs.onTc_tc]

theorem obligation (c : Dev nD) : BodyObligation (plan (F := F) V c) (defs₀ (F := F)) Variants.none () Set.univ := fun t => by
  rw [bigSep_W1, bigSep_W1, row_eq]
  exact triple_restated (point_sound V c t) rfl .rfl fun _ => .rfl

theorem enter (c : Dev nD) : Pipeline.ΦA spec1 c ⊢ (plan V c).Φ 0 := by
  rw [show (plan V c).Φ 0 = between V c 0 (Nat.zero_le _) from rfl]; unfold between; rw [if_pos rfl]

theorem leave (c : Dev nD) : (plan V c).Φ (Fin.last cfg1.N) ⊢ Pipeline.ΦA spec1 c := by
  rw [show (plan V c).Φ (Fin.last cfg1.N) = between V c cfg1.N le_rfl from rfl]
  unfold between
  rw [if_neg (by have : cfg1.N = 9 := N_1; omega)]
  refine BIBase.Entails.trans ?_ (leave_scratch c)
  unfold holds
  iintro ⟨⟨HS0, HS1⟩, Hg⟩
  isplitl [HS0 HS1]
  · isplitl [HS0]
    · iexists _; iexact HS0
    iexists _; iexact HS1
  iexact Hg

end Cert.Kernel20Ideal.Gen.Lru

end
-- ==== Proof.BothRun.lean ====
module

public import proofs.«01_k».proof.Proof.ForeFrame
public import proofs.«01_k».proof.Proof.BackFrame
public import proofs.«01_k».proof.Proof.Gen.Kernel20Ideal.Regions
public import Idealize.ShloMosaic.Lib.Pipeline.FrameTail

/-! The run of the whole program, the forward call and then the gradient's: what every buffer holds at the end. -/

@[expose] public section

noncomputable section

namespace Cert.Kernel20Ideal.Gen.Both

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg afterRegion ucRefs)

variable {F : FTy → Type} [FloatOps F]

local notation "𝕄" => MT nD τ sig Unit (Elt F) ℕ (UR sig nD τ) ℕ

/-- No counter has a level. -/
abbrev noLevels : GSem nD τ sig → Finset Unit := fun _ => ∅
abbrev level : GSem nD τ sig → Unit → ℕ := fun _ _ => 0

/-- What the core holds between the calls: its unscoped buffers at `W`, its generator's register, no debt. -/
def rests (W : Dev nD → Valuation τ sig (Elt F)) (c : Dev nD) : sProp 𝕄 :=
  iprop(StableHlo.held (c.tc : Thread nD τ) (ucRefs τ sig) (W c)
    ∗ (∃ r, prngReg c r) ∗ ∃ w, owes (c.tc : Thread nD τ) (0 : CellTallies nD τ sig Unit) w)

section
variable (dats : (p : Fin 2) → (c : Dev nD) → Dat τ (Elt F) Unit ℕ (UR sig nD τ) ℕ (cfgs p) c) (p : Fin 2)
  (kit : Pipeline.LaunchFacts (nD := nD) (τ := τ) cfgs p) (W : Dev nD → Valuation τ sig (Elt F))
  (hbody : ∀ c, Pipeline.BodyObligationLoose (dats p c) (defs₀ (F := F)) Variants.none () Set.univ)
  (hshare : ∀ c w, (dats p c).share w = fullShare) (howed : ∀ c t, (dats p c).owed t = 0)
  (hrec : ∀ c, (dats p c).recorded 0 = Set.univ)
  (hA : ∀ c w, (dats p c).A w = W c (Proc.devRef .tc (Pipeline.arrRef (cfgs p).spec w)))
  (hin : ∀ c, Pipeline.ΦA (cfgs p).spec c ⊢ (dats p c).Φ 0)
  (hout : ∀ c, (dats p c).Φ (Fin.last (cfgs p).N) ⊢ Pipeline.ΦA (cfgs p).spec c)

include kit in
theorem kitOf : Pipeline.PLaunchFacts (nD := nD) (τ := τ) (pcfgs (F := F)) p := kit.toP

set_option backward.isDefEq.respectTransparency.types false in
/-- One call between two rests, from the obligations of its points. -/
def call : RegionSeg (pcfgs (F := F)) adm dats () (defs₀ (F := F)) Variants.none noLevels level p where
  win := (kitOf (F := F) p kit).win.to₀
  block_pos := (kitOf (F := F) p kit).block_pos
  stage_whole := (kitOf (F := F) p kit).stage_whole
  K := PEmpty
  osem k := k.elim
  ho := Pipeline.OwnSemFacts.none _
  hbody := hbody
  hwaits := Pipeline.hwaits_of_owed_zero (pcfgs (F := F)) adm dats () noLevels level p howed
  pre := rests W
  post := rests fun c => afterRegion (dats p c) (W c)
  X c := iprop(∃ r, prngReg c r)
  Y c := iprop(∃ r, prngReg c r)
  Z c := Pipeline.unscopedRest (cfgs p).spec c fun b => W c (Proc.devRef .tc b)
  hentry c := by
    have hs := Pipeline.arrays_of_unscopedBufs (p := p) (pcfgs (F := F)) adm dats (kitOf (F := F) p kit).win (kitOf (F := F) p kit).arr_whole c (hshare c)
      (fun b => W c (Proc.devRef .tc b)) (fun w => hA c w)
    unfold rests
    rw [Pipeline.ownSems0_none, ← Pipeline.unscopedBufs_held (Ix := Unit) (Name := ℕ) (U := UR sig nD τ) (Lvl := ℕ) c (W c)]
    iintro ⟨⟨Hb, Hp, ⟨%w, HO⟩⟩, -, -⟩
    ihave H := hs $$ Hb
    icases H with ⟨Ha, Hr⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      rw [howed c 0]
      iexists w; isplitr; · ipureintro; exact fun x _ => Or.inl (by rw [hrec c]; exact Set.mem_univ x)
      iexact HO
    isplitl [Hp]; · iexact Hp
    iexact Hr
  hin c := (show _ ⊢ Pipeline.ΦA (cfgs p).spec c from by
    unfold Pipeline.ΦA
    iintro ⟨Hp, -, Hr⟩
    isplitl [Hr] <;> iassumption).trans (hin c)
  hout c := (hout c).trans (by
    rw [Pipeline.ownSems0_none]; unfold Pipeline.ΦA
    iintro ⟨Hr, Hp⟩
    isplitl [Hp]; · iexact Hp
    isplitr; · iempintro
    iexact Hr)
  hexit c := by
    have hj := Pipeline.unscopedBufs_of_arrays (p := p) (pcfgs (F := F)) adm (Ix := Unit) (Name := ℕ) (U := UR sig nD τ) (Lvl := ℕ)
      (kitOf (F := F) p kit).win (kitOf (F := F) p kit).arr_whole c dats (hshare c)
      (fun b => W c (Proc.devRef .tc b)) (fun b => afterRegion (dats p c) (W c) (Proc.devRef .tc b)) ((dats p c).arrAt · (cfgs p).N)
      (fun w => (Pipeline.afterRegion_arr (dats p c) (W c) kit.win.arr_inj w).symm)
      (fun b hb => Pipeline.afterRegion_of_not_arr (dats p c) (W c)
        fun w h => hb (h ▸ Finset.mem_image.mpr ⟨w, Finset.mem_univ _, rfl⟩))
    unfold rests
    rw [← Pipeline.unscopedBufs_held (Ix := Unit) (Name := ℕ) (U := UR sig nD τ) (Lvl := ℕ) c (afterRegion (dats p c) (W c))]
    iintro ⟨Ha, HO, Hp, Hr⟩
    imodintro
    isplitl [Ha Hr]
    · iapply hj; isplitl [Ha] <;> iassumption
    isplitl [Hp]; · iexact Hp
    unfold Dat.owesAt Pipeline.owesWithin
    rw [howed c (Fin.last _)]
    icases HO with ⟨%w, -, HO⟩; iexists w; iexact HO
end

/-! ## The two calls -/

variable (m : (ℓ : Loc nD τ sig) → Buf (Elt F) ℓ) (ρ : Dev nD → PrngReg)

/-- The buffers at launch, between the calls and at the end. -/
def W0 (c : Dev nD) : Valuation τ sig (Elt F) := fun b => m (c, b)
def find0 (c : Dev nD) (b : Ref sig .tc) : Buf (Elt F) ((c : Thread nD τ).loc b) := W0 m c (Proc.devRef .tc b)
def W1 (c : Dev nD) : Valuation τ sig (Elt F) := afterRegion (Fwd.plan (find0 m) c) (W0 m c)
def find1 (c : Dev nD) (b : Ref sig .tc) : Buf (Elt F) ((c : Thread nD τ).loc b) := W1 m c (Proc.devRef .tc b)
def W2 (c : Dev nD) : Valuation τ sig (Elt F) := afterRegion (Lru.plan (find1 m) c) (W1 m c)

/-- The data of the two calls' proofs. -/
def plans : (p : Fin 2) → (c : Dev nD) → Dat τ (Elt F) Unit ℕ (UR sig nD τ) ℕ (cfgs p) c
  | 0 => Fwd.plan (find0 m)
  | 1 => Lru.plan (find1 m)

set_option backward.isDefEq.respectTransparency.types false in
def call0 : RegionSeg (pcfgs (F := F)) adm (plans m) () (defs₀ (F := F)) Variants.none noLevels level 0 :=
  call (plans m) 0 launch0 (W0 m) (fun c => (Fwd.obligation (find0 m) c).loose) (fun c => (Fwd.plan (find0 m) c).share_full fun _ => rfl)
    (fun _ _ => rfl) (fun _ => rfl) (fun c w => Fwd.plan_A (find0 m) c w) (Fwd.enter (find0 m)) (Fwd.leave (find0 m))

set_option backward.isDefEq.respectTransparency.types false in
def call1 : RegionSeg (pcfgs (F := F)) adm (plans m) () (defs₀ (F := F)) Variants.none noLevels level 1 :=
  call (plans m) 1 launch1 (W1 m) (fun c => (Lru.obligation (find1 m) c).loose) (fun c => (Lru.plan (find1 m) c).share_full fun _ => rfl)
    (fun _ _ => rfl) (fun _ => rfl) (fun c w => Lru.plan_A (find1 m) c w) (Lru.enter (find1 m)) (Lru.leave (find1 m))

set_option backward.isDefEq.respectTransparency.types false in
/-- The whole run: every unscoped buffer as the second call leaves it, and every counter at zero. -/
theorem whole_run : θ_run defs (onTc (τ := τ) (main (F := F))) ⟨m, fun _ => 0, ρ⟩
    (fun r => (∀ c : Dev nD, ∀ b ∈ ucRefs τ sig, r.2.mem ((c.tc : Thread nD τ).1, b) = W2 m c b) ∧ r.2.sem = fun _ => 0) := by
  classical
  refine Pipeline.θ_run_regions_kit_sems (pcfgs (F := F)) adm (plans m) () cellOf_inj emb₁ (defs₀ (F := F)) Variants.none noLevels level m ρ main
    [.region (call0 m), .region (call1 m)]
    (fun c Q => by rw [main_chain c, Seg.run_eq_chain]; exact .rfl)
    (by simp only [Seg.pipes_region, Seg.pipes_nil]; decide)
    (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := rests (W0 m))
    (Tₙ := fun c => StableHlo.held (c.tc : Thread nD τ) (ucRefs τ sig) (W2 m c))
    (hch := ⟨fun _ => .rfl, fun _ => .rfl, fun c =>
      (show rests (W2 m) c ⊢ (_ : sProp 𝕄) from by
        unfold rests
        iintro ⟨Hh, -, HO⟩
        isplitl [Hh] <;> iassumption)⟩)
    (hinit := by
      refine Pipeline.initEach (T₀ := rests (W0 m)) noLevels level fun c => ?_
      unfold rests
      rw [show unscopedBufs c (fun b => m ((c.tc : Thread nD τ).loc b)) = StableHlo.held (c.tc : Thread nD τ) (ucRefs τ sig) (W0 m c)
          from Pipeline.unscopedBufs_held (Ix := Unit) (Name := ℕ) (U := UR sig nD τ) (Lvl := ℕ) c (W0 m c)]
      iintro ⟨⟨Hh, -, HO, -, Hp, -⟩, -⟩
      imodintro
      isplitl [Hh]; · iexact Hh
      isplitl [Hp]
      · iexists _; iexact Hp
      iexists _; iexact HO)
    (QY := fun c s => ∀ b ∈ ucRefs τ sig, s.mem ((c.tc : Thread nD τ).1, b) = W2 m c b)
    (hfin := fun c s' => by
      unfold StableHlo.held
      iintro ⟨Hh, HSI⟩
      ihave Hr := (pointsTo_read_all (ucRefs τ sig) (fun b => ((c.tc : Thread nD τ).1, b)) (W2 m c) s') $$ [Hh HSI]
      · isplitl [Hh] <;> iassumption
      imodintro; iexact Hr)
    (hQ := fun _ h hz => ⟨h, funext fun g => hz g (.inr (regions_no_unscoped g.2))⟩)

theorem listed (b : Ref sig .tc) (hb : b.isScoped = false) : (Proc.devRef .tc b : DevRef τ sig) ∈ ucRefs τ sig :=
  Pipeline.devRef_mem_ucRefs hb

/-- An argument passes both calls unchanged. -/
theorem kept0 (c : Dev nD) : W2 m c (Proc.devRef .tc main_arg0) = m ((c.tc : Thread nD τ).loc main_arg0) :=
  ((Pipeline.afterRegion_arr (Lru.plan (find1 m) c) (W1 m c) winFacts1.arr_inj 0).trans (((Lru.plan (find1 m) c).arrAt_in 0 rfl _).trans (Lru.plan_A (find1 m) c 0))).trans
    ((Pipeline.afterRegion_arr (Fwd.plan (find0 m) c) (W0 m c) winFacts0.arr_inj 0).trans (((Fwd.plan (find0 m) c).arrAt_in 0 rfl _).trans (Fwd.plan_A (find0 m) c 0)))
theorem kept1 (c : Dev nD) : W2 m c (Proc.devRef .tc main_arg1) = m ((c.tc : Thread nD τ).loc main_arg1) :=
  (Pipeline.afterRegion_of_not_arr (Lru.plan (find1 m) c) (W1 m c) (by decide)).trans
    ((Pipeline.afterRegion_arr (Fwd.plan (find0 m) c) (W0 m c) winFacts0.arr_inj 1).trans (((Fwd.plan (find0 m) c).arrAt_in 1 rfl _).trans (Fwd.plan_A (find0 m) c 1)))
theorem found2 (c : Dev nD) : W1 m c (Proc.devRef .tc main_arg2) = m ((c.tc : Thread nD τ).loc main_arg2) :=
  Pipeline.afterRegion_of_not_arr (Fwd.plan (find0 m) c) (W0 m c) (by decide)
theorem kept2 (c : Dev nD) : W2 m c (Proc.devRef .tc main_arg2) = m ((c.tc : Thread nD τ).loc main_arg2) :=
  ((Pipeline.afterRegion_arr (Lru.plan (find1 m) c) (W1 m c) winFacts1.arr_inj 1).trans (((Lru.plan (find1 m) c).arrAt_in 1 rfl _).trans (Lru.plan_A (find1 m) c 1))).trans
    (found2 m c)

/-- The arguments end unchanged and the counters at zero. -/
theorem whole_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1 c _ (listed main_arg0 rfl)).trans (kept0 m c), (h.1 c _ (listed main_arg1 rfl)).trans (kept1 m c),
       (h.1 c _ (listed main_arg2 rfl)).trans (kept2 m c)⟩, h.2⟩) (whole_run m ρ)

end Cert.Kernel20Ideal.Gen.Both

end
-- ==== Proof.LruChunk.lean ====
module

public import proofs.«01_k».proof.Proof.BackBody
public import Idealize.ShloMosaic.Lib.Pipeline.Value
public import Idealize.ShloMosaic.Lib.ValueIdx
public import Idealize.ShloMosaic.Lib.ValueLayout
public import Idealize.ShloMosaic.Lib.KernelVsHost
public import Idealize.ShloMosaic.Lib.WordCmp
public import Idealize.ShloMosaic.Lib.Pointwise

/-! What one piece of a trip computes on real numbers: in each column the eight rows of the recurrence
`s r = a (r + 1) * s (r + 1) + d r`, entered from below with the carried gradient and coefficient. The kernel solves it
by doubling: three rounds, each combining a row with the one 1, 2 or 4 rows further down. -/

@[expose] public section

noncomputable section

namespace Cert.Kernel20Ideal.Gen.Lru

open Idealize.ShloMosaic Idealize.ShloMosaic.TcCoe Idealize.SL.Sem
open Idealize.ShloMosaic.ValueIdx (select_apply shapeCast_1ab_ab_apply shapeCast_ab_1ab_apply)

/-! ## The three rounds on real numbers -/

section
variable (a d : Fin 8 → ℝ) (a8 : ℝ)

/-- The coefficient that carries the row below into row `r`. -/
def co0 (r : Fin 8) : ℝ := if r.val = 7 then a8 else a (r + 1)
def co1 (r : Fin 8) : ℝ := if r.val < 7 then co0 a a8 r * co0 a a8 (r + 1) else co0 a a8 r
def co2 (r : Fin 8) : ℝ := if r.val < 6 then co1 a a8 r * co1 a a8 (r + 2) else co1 a a8 r
def co3 (r : Fin 8) : ℝ := if r.val < 4 then co2 a a8 r * co2 a a8 (r + 4) else co2 a a8 r
def su1 (r : Fin 8) : ℝ := if r.val < 7 then co0 a a8 r * d (r + 1) + d r else d r
def su2 (r : Fin 8) : ℝ := if r.val < 6 then co1 a a8 r * su1 a d a8 (r + 2) + su1 a d a8 r else su1 a d a8 r
def su3 (r : Fin 8) : ℝ := if r.val < 4 then co2 a a8 r * su2 a d a8 (r + 4) + su2 a d a8 r else su2 a d a8 r

/-- The three rounds solve the recurrence. -/
theorem rounds_solve (g8 : ℝ) (s : Fin 8 → ℝ) (h7 : s 7 = a8 * g8 + d 7)
    (hs : ∀ r : Fin 7, s r.castSucc = a r.succ * s r.succ + d r.castSucc) (r : Fin 8) :
    co3 a a8 r * g8 + su3 a d a8 r = s r := by
  have e6 : s 6 = a 7 * s 7 + d 6 := hs 6
  have e5 : s 5 = a 6 * s 6 + d 5 := hs 5
  have e4 : s 4 = a 5 * s 5 + d 4 := hs 4
  have e3 : s 3 = a 4 * s 4 + d 3 := hs 3
  have e2 : s 2 = a 3 * s 3 + d 2 := hs 2
  have e1 : s 1 = a 2 * s 2 + d 1 := hs 1
  have e0 : s 0 = a 1 * s 1 + d 0 := hs 0
  have c0 : ∀ r : Fin 8, co0 a a8 r = if r.val = 7 then a8 else a (r + 1) := fun _ => rfl
  have c1 : ∀ r : Fin 8, co1 a a8 r = if r.val < 7 then co0 a a8 r * co0 a a8 (r + 1) else co0 a a8 r := fun _ => rfl
  have c2 : ∀ r : Fin 8, co2 a a8 r = if r.val < 6 then co1 a a8 r * co1 a a8 (r + 2) else co1 a a8 r := fun _ => rfl
  have c3 : ∀ r : Fin 8, co3 a a8 r = if r.val < 4 then co2 a a8 r * co2 a a8 (r + 4) else co2 a a8 r := fun _ => rfl
  have u1 : ∀ r : Fin 8, su1 a d a8 r = if r.val < 7 then co0 a a8 r * d (r + 1) + d r else d r := fun _ => rfl
  have u2 : ∀ r : Fin 8, su2 a d a8 r = if r.val < 6 then co1 a a8 r * su1 a d a8 (r + 2) + su1 a d a8 r else su1 a d a8 r := fun _ => rfl
  have u3 : ∀ r : Fin 8, su3 a d a8 r = if r.val < 4 then co2 a a8 r * su2 a d a8 (r + 4) + su2 a d a8 r else su2 a d a8 r := fun _ => rfl
  have p0 : co0 a a8 0 = a 1 := rfl
  have p1 : co0 a a8 1 = a 2 := rfl
  have p2 : co0 a a8 2 = a 3 := rfl
  have p3 : co0 a a8 3 = a 4 := rfl
  have p4 : co0 a a8 4 = a 5 := rfl
  have p5 : co0 a a8 5 = a 6 := rfl
  have p6 : co0 a a8 6 = a 7 := rfl
  have p7 : co0 a a8 7 = a8 := rfl
  have q0 : co1 a a8 0 = a 1 * a 2 := rfl
  have q1 : co1 a a8 1 = a 2 * a 3 := rfl
  have q2 : co1 a a8 2 = a 3 * a 4 := rfl
  have q3 : co1 a a8 3 = a 4 * a 5 := rfl
  have q4 : co1 a a8 4 = a 5 * a 6 := rfl
  have q5 : co1 a a8 5 = a 6 * a 7 := rfl
  have q6 : co1 a a8 6 = a 7 * a8 := rfl
  have q7 : co1 a a8 7 = a8 := rfl
  have r0 : co2 a a8 0 = (a 1 * a 2) * (a 3 * a 4) := rfl
  have r1 : co2 a a8 1 = (a 2 * a 3) * (a 4 * a 5) := rfl
  have r2 : co2 a a8 2 = (a 3 * a 4) * (a 5 * a 6) := rfl
  have r3 : co2 a a8 3 = (a 4 * a 5) * (a 6 * a 7) := rfl
  have r4 : co2 a a8 4 = (a 5 * a 6) * (a 7 * a8) := rfl
  have r5 : co2 a a8 5 = (a 6 * a 7) * a8 := rfl
  have r6 : co2 a a8 6 = a 7 * a8 := rfl
  have r7 : co2 a a8 7 = a8 := rfl
  have v0 : su1 a d a8 0 = a 1 * d 1 + d 0 := rfl
  have v1 : su1 a d a8 1 = a 2 * d 2 + d 1 := rfl
  have v2 : su1 a d a8 2 = a 3 * d 3 + d 2 := rfl
  have v3 : su1 a d a8 3 = a 4 * d 4 + d 3 := rfl
  have v4 : su1 a d a8 4 = a 5 * d 5 + d 4 := rfl
  have v5 : su1 a d a8 5 = a 6 * d 6 + d 5 := rfl
  have v6 : su1 a d a8 6 = a 7 * d 7 + d 6 := rfl
  have v7 : su1 a d a8 7 = d 7 := rfl
  have w0 : su2 a d a8 0 = co1 a a8 0 * su1 a d a8 2 + su1 a d a8 0 := rfl
  have w1 : su2 a d a8 1 = co1 a a8 1 * su1 a d a8 3 + su1 a d a8 1 := rfl
  have w2 : su2 a d a8 2 = co1 a a8 2 * su1 a d a8 4 + su1 a d a8 2 := rfl
  have w3 : su2 a d a8 3 = co1 a a8 3 * su1 a d a8 5 + su1 a d a8 3 := rfl
  have w4 : su2 a d a8 4 = co1 a a8 4 * su1 a d a8 6 + su1 a d a8 4 := rfl
  have w5 : su2 a d a8 5 = co1 a a8 5 * su1 a d a8 7 + su1 a d a8 5 := rfl
  have w6 : su2 a d a8 6 = su1 a d a8 6 := rfl
  have w7 : su2 a d a8 7 = su1 a d a8 7 := rfl
  fin_cases r
  · show co2 a a8 0 * co2 a a8 4 * g8 + (co2 a a8 0 * su2 a d a8 4 + su2 a d a8 0) = s 0
    rw [r0, r4, w4, w0, q4, q0, v6, v4, v2, v0, e0, e1, e2, e3, e4, e5, e6, h7]; ring
  · show co2 a a8 1 * co2 a a8 5 * g8 + (co2 a a8 1 * su2 a d a8 5 + su2 a d a8 1) = s 1
    rw [r1, r5, w5, w1, q5, q1, v7, v5, v3, v1, e1, e2, e3, e4, e5, e6, h7]; ring
  · show co2 a a8 2 * co2 a a8 6 * g8 + (co2 a a8 2 * su2 a d a8 6 + su2 a d a8 2) = s 2
    rw [r2, r6, w6, w2, q2, v6, v4, v2, e2, e3, e4, e5, e6, h7]; ring
  · show co2 a a8 3 * co2 a a8 7 * g8 + (co2 a a8 3 * su2 a d a8 7 + su2 a d a8 3) = s 3
    rw [r3, r7, w7, w3, q3, v7, v5, v3, e3, e4, e5, e6, h7]; ring
  · show co2 a a8 4 * g8 + su2 a d a8 4 = s 4
    rw [r4, w4, q4, v6, v4, e4, e5, e6, h7]; ring
  · show co2 a a8 5 * g8 + su2 a d a8 5 = s 5
    rw [r5, w5, q5, v7, v5, e5, e6, h7]; ring
  · show co2 a a8 6 * g8 + su2 a d a8 6 = s 6
    rw [r6, w6, v6, e6, h7]; ring
  · show co2 a a8 7 * g8 + su2 a d a8 7 = s 7
    rw [r7, w7, v7, h7]
end

/-! ## Reading the kernel's operations at a row and a lane -/

section
variable {α : Type}

theorem rotate_at (w : BitVec 32) (x : S8x128.Idx → α) (h : S8x128.Rotates 0 none) (r k : Fin 8) (l : Fin 128)
    (hk : k.val = (r.val + 8 - w.toNat % 8) % 8) : dynamicRotate 0 w none x h (ix2 r l) = x (ix2 k l) :=
  dynamicRotate_apply 0 w x h _ _ fun b => match b with
    | ⟨0, _⟩ => hk
    | ⟨1, _⟩ => rfl

theorem rotate1 (x : S8x128.Idx → α) (h : S8x128.Rotates 0 none) (r : Fin 8) (l : Fin 128) :
    dynamicRotate 0 7#32 none x h (ix2 r l) = x (ix2 (r + 1) l) := rotate_at _ x h r _ l (by revert r; decide)
theorem rotate2 (x : S8x128.Idx → α) (h : S8x128.Rotates 0 none) (r : Fin 8) (l : Fin 128) :
    dynamicRotate 0 6#32 none x h (ix2 r l) = x (ix2 (r + 2) l) := rotate_at _ x h r _ l (by revert r; decide)
theorem rotate4 (x : S8x128.Idx → α) (h : S8x128.Rotates 0 none) (r : Fin 8) (l : Fin 128) :
    dynamicRotate 0 4#32 none x h (ix2 r l) = x (ix2 (r + 4) l) := rotate_at _ x h r _ l (by revert r; decide)

theorem cast3 (x : S1x8x128.Idx → α) (h : S1x8x128.ShapeCasts S8x128) (r : Fin 8) (l : Fin 128) :
    shapeCast S8x128 x h (ix2 r l) = x (ix3 (0 : Fin 1) r l) := shapeCast_1ab_ab_apply x h r l

theorem cast4 (x : S1x1x8x128.Idx → α) (h : S1x1x8x128.ShapeCasts S8x128) (r : Fin 8) (l : Fin 128) :
    shapeCast S8x128 x h (ix2 r l) = x (ix4 (0 : Fin 1) (0 : Fin 1) r l) :=
  shapeCast_apply x h _ _ (by
    rw [Shape.rowMajor_val_four, Shape.rowMajor_val_two]
    show ((0 * 1 + 0) * 8 + r.val) * 128 + l.val = r.val * 128 + l.val
    omega)

theorem uncast3 (x : S8x128.Idx → α) (h : S8x128.ShapeCasts S1x8x128) (r : Fin 8) (l : Fin 128) :
    shapeCast S1x8x128 x h (ix3 (0 : Fin 1) r l) = x (ix2 r l) := shapeCast_ab_1ab_apply x h 0 r l

theorem uncast4 (x : S8x128.Idx → α) (h : S8x128.ShapeCasts S1x1x8x128) (r : Fin 8) (l : Fin 128) :
    shapeCast S1x1x8x128 x h (ix4 (0 : Fin 1) (0 : Fin 1) r l) = x (ix2 r l) :=
  shapeCast_apply x h _ _ (by
    rw [Shape.rowMajor_val_four, Shape.rowMajor_val_two]
    show r.val * 128 + l.val = ((0 * 1 + 0) * 8 + r.val) * 128 + l.val
    omega)

/-- The first row, repeated in all eight rows. -/
theorem first_row (x : S8x128.Idx → α) (r : Fin 8) (l : Fin 128) :
    broadcastTo S8x128 (shapeCast S1x128 (extractStridedSlice S1x128 ![0, 0] x slices_S8x128_o0_0_S1x128) shapeCasts_S1x128_S1x128)
        broadcasts_S1x128_S8x128 (ix2 r l) = x (ix2 (0 : Fin 8) l) := by
  rw [broadcastTo_apply _ broadcasts_S1x128_S8x128 (ix2 r l) (ix2 (0 : Fin 1) l) (fun b => match b with | ⟨0, _⟩ => rfl | ⟨1, _⟩ => rfl),
    shapeCast_self]
  exact extractStridedSlice_apply _ _ _ _ _ fun b => match b with
    | ⟨0, _⟩ => rfl
    | ⟨1, _⟩ => by show l.val = 0 + l.val; omega
end

theorem rowNo_at (r : Fin 8) (l : Fin 128) : rowNo (ix2 r l) = BitVec.ofNat 32 r.val := iota_single_apply _ _ _ _ _ _

theorem mask_at (n : ℕ) (hn : n < 8) (r : Fin 8) (l : Fin 128) :
    cmpi .slt rowNo (broadcast S8x128 (BitVec.ofNat 32 n)) (ix2 r l) = BitVec.ofBool (decide (r.val < n)) := by
  show IntOp.cmpi .slt (rowNo (ix2 r l)) (BitVec.ofNat 32 n) = _
  rw [rowNo_at]
  exact WordCmp.cmpi_slt_ofNat (by omega) (by omega)

theorem last_at (r : Fin 8) (l : Fin 128) :
    cmpi .eq rowNo (broadcast S8x128 7#32) (ix2 r l) = BitVec.ofBool (decide (r.val = 7)) := by
  show IntOp.cmpi .eq (rowNo (ix2 r l)) (BitVec.ofNat 32 7) = _
  rw [rowNo_at]
  exact WordCmp.cmpi_eq_ofNat (by omega) (by omega)

theorem select_if {α : Type} (p : Prop) [Decidable p] (x y : α) : Scalar.select (BitVec.ofBool (decide p)) x y = if p then x else y :=
  WordCmp.select_decide p x y

theorem coe_if (p : Prop) [Decidable p] (x y : ℝ) : (if p then (x : EReal) else (y : EReal)) = ((if p then x else y : ℝ) : EReal) := by
  split <;> rfl

/-! ## One piece at one lane -/

section
variable (A D : Vec Ideal S1x8x128 .f32) (g c : Vec Ideal S1x1x8x128 .f32) (l : Fin 128) (a d : Fin 8 → ℝ) (a8 g8 : ℝ)
  (hA : ∀ r : Fin 8, A (ix3 (0 : Fin 1) r l) = (a r : EReal)) (hD : ∀ r : Fin 8, D (ix3 (0 : Fin 1) r l) = (d r : EReal))
  (hc : ∀ r : Fin 8, c (ix4 (0 : Fin 1) (0 : Fin 1) r l) = (a8 : EReal)) (hg : ∀ r : Fin 8, g (ix4 (0 : Fin 1) (0 : Fin 1) r l) = (g8 : EReal))

include hA in
theorem pay7_at (r : Fin 8) : k1_pay7 A (ix2 r l) = (a r : EReal) := by
  unfold k1_pay7; rw [cast3]; exact hA r

include hA hc in
theorem pay8_at (r : Fin 8) : k1_pay8 rowNo A c (ix2 r l) = (co0 a a8 r : EReal) := by
  unfold k1_pay8; dsimp only
  rw [select_apply, last_at, select_if, cast4, rotate1, pay7_at A l a hA, hc, coe_if]; rfl

include hA hc in
theorem pay10_at (r : Fin 8) : k1_pay10 rowNo A c (ix2 r l) = (co1 a a8 r : EReal) := by
  unfold k1_pay10 k1_pay9; dsimp only
  rw [select_apply, mask_at 7 (by decide), select_if]
  show (if r.val < 7 then k1_pay8 rowNo A c (ix2 r l) * dynamicRotate 0 7#32 none (k1_pay8 rowNo A c) _ (ix2 r l) else _ : EReal) = _
  rw [rotate1, pay8_at A c l a a8 hA hc, pay8_at A c l a a8 hA hc, ← EReal.coe_mul, coe_if]; rfl

include hA hc in
theorem pay12_at (r : Fin 8) : k1_pay12 rowNo A c (ix2 r l) = (co2 a a8 r : EReal) := by
  unfold k1_pay12 k1_pay11; dsimp only
  rw [select_apply, mask_at 6 (by decide), select_if]
  show (if r.val < 6 then k1_pay10 rowNo A c (ix2 r l) * dynamicRotate 0 6#32 none (k1_pay10 rowNo A c) _ (ix2 r l) else _ : EReal) = _
  rw [rotate2, pay10_at A c l a a8 hA hc, pay10_at A c l a a8 hA hc, ← EReal.coe_mul, coe_if]; rfl

/-- One round of the doubling, on sums. -/
theorem round_at (n : ℕ) (hn : n < 8) (w : BitVec 32) (co x : FVec Ideal S8x128 .f32) (hr : S8x128.Rotates 0 none) (cr xr : Fin 8 → ℝ) (k : Fin 8)
    (hrot : ∀ (r : Fin 8), dynamicRotate 0 w none x hr (ix2 r l) = x (ix2 (r + k) l))
    (h1 : ∀ r : Fin 8, co (ix2 r l) = (cr r : EReal)) (h2 : ∀ r : Fin 8, x (ix2 r l) = (xr r : EReal)) (r : Fin 8) :
    select (cmpi .slt rowNo (broadcast S8x128 (BitVec.ofNat 32 n))) (addf (mulf co (dynamicRotate 0 w none x hr)) x) x (ix2 r l)
      = ((if r.val < n then cr r * xr (r + k) + xr r else xr r : ℝ) : EReal) := by
  rw [select_apply, mask_at n hn, select_if]
  show (if r.val < n then co (ix2 r l) * dynamicRotate 0 w none x hr (ix2 r l) + x (ix2 r l) else x (ix2 r l) : EReal) = _
  rw [hrot, h1, h2, h2, ← EReal.coe_mul, ← EReal.coe_add, coe_if]

include hA hD hc in
theorem pay14_at (r : Fin 8) : k1_pay14 rowNo A c D (ix2 r l) = (su3 a d a8 r : EReal) := by
  unfold k1_pay14 k1_pay13 k1_pay11 k1_pay9; dsimp only
  exact round_at l 4 (by decide) _ _ _ _ (co2 a a8) (su2 a d a8) 4 (fun r => rotate4 _ _ r l) (pay12_at A c l a a8 hA hc)
    (fun r => round_at l 6 (by decide) _ _ _ _ (co1 a a8) (su1 a d a8) 2 (fun r => rotate2 _ _ r l) (pay10_at A c l a a8 hA hc)
      (fun r => round_at l 7 (by decide) _ _ _ _ (co0 a a8) d 1 (fun r => rotate1 _ _ r l) (pay8_at A c l a a8 hA hc)
        (fun r => (cast3 _ _ r l).trans (hD r)) r) r) r

variable (s : Fin 8 → ℝ) (h7 : s 7 = a8 * g8 + d 7) (hs : ∀ r : Fin 7, s r.castSucc = a r.succ * s r.succ + d r.castSucc)

include hA hD hc hg h7 hs in
/-- The piece's eight rows solve the recurrence. -/
theorem pay15_at (r : Fin 8) :
    k1_pay15 (k1_pay12 rowNo A c) (k1_pay13 rowNo) (k1_pay14 rowNo A c D) g (ix2 r l) = (s r : EReal) := by
  unfold k1_pay15 k1_pay13; dsimp only
  show (select _ (mulf (k1_pay12 rowNo A c) (dynamicRotate 0 4#32 none (k1_pay12 rowNo A c) _)) (k1_pay12 rowNo A c) (ix2 r l)
    * shapeCast S8x128 g _ (ix2 r l) + k1_pay14 rowNo A c D (ix2 r l) : EReal) = _
  rw [select_apply, mask_at 4 (by decide), select_if, cast4, hg, pay14_at A D c l a d a8 hA hD hc]
  show ((if r.val < 4 then k1_pay12 rowNo A c (ix2 r l) * dynamicRotate 0 4#32 none (k1_pay12 rowNo A c) _ (ix2 r l) else k1_pay12 rowNo A c (ix2 r l)) * _ + _ : EReal) = _
  rw [rotate4, pay12_at A c l a a8 hA hc, pay12_at A c l a a8 hA hc, ← EReal.coe_mul, coe_if, ← EReal.coe_mul, ← EReal.coe_add]
  exact congrArg _ (rounds_solve a d a8 g8 s h7 hs r)

include hA hD hc hg h7 hs in
theorem pay16_at (r : Fin 8) :
    k1_pay16 (k1_pay12 rowNo A c) (k1_pay13 rowNo) (k1_pay14 rowNo A c D) g (ix3 (0 : Fin 1) r l) = (s r : EReal) := by
  unfold k1_pay16; rw [uncast3]; exact pay15_at A D g c l a d a8 g8 hA hD hc hg s h7 hs r

include hA hD hc hg h7 hs in
theorem pay17_at (H : Vec Ideal S1x8x128 .f32) (r : Fin 8) :
    k1_pay17 (k1_pay12 rowNo A c) (k1_pay13 rowNo) (k1_pay14 rowNo A c D) g H (ix3 (0 : Fin 1) r l) = ((s r : EReal) * H (ix3 (0 : Fin 1) r l) : EReal) := by
  unfold k1_pay17; rw [uncast3]
  show (k1_pay15 (k1_pay12 rowNo A c) (k1_pay13 rowNo) (k1_pay14 rowNo A c D) g (ix2 r l) * shapeCast S8x128 H _ (ix2 r l) : EReal) = _
  rw [cast3, pay15_at A D g c l a d a8 g8 hA hD hc hg s h7 hs r]

include hA hD hc hg h7 hs in
theorem pay18_at (r : Fin 8) :
    k1_pay18 (k1_pay12 rowNo A c) (k1_pay13 rowNo) (k1_pay14 rowNo A c D) g (ix4 (0 : Fin 1) (0 : Fin 1) r l) = (s 0 : EReal) := by
  unfold k1_pay18; rw [uncast4, first_row]; exact pay15_at A D g c l a d a8 g8 hA hD hc hg s h7 hs 0

include hA in
theorem pay19_at (r : Fin 8) : k1_pay19 (k1_pay7 A) (ix4 (0 : Fin 1) (0 : Fin 1) r l) = (a 0 : EReal) := by
  unfold k1_pay19; rw [uncast4, first_row]; exact pay7_at A l a hA 0
end

end Cert.Kernel20Ideal.Gen.Lru

end
-- ==== Proof.LruSeq.lean ====
module

public import Idealize.ShloMosaic.PureOps
public import Idealize.ShloMosaic.Lib.Pointwise.Index
public import Mathlib.Data.EReal.Basic
public import Idealize.ShloMosaic.Lib.Pipeline.Value

/-! The gradient of the recurrence `h t = a t * h (t - 1) + b t` as a recurrence backwards in time. In one sequence and
one column, counting the times from the last one, `back n` is what arrives at the `n`-th time from the later ones and
`grad n` is the gradient there: `back 0 = 0`, `grad n = back n + dh n`, `back (n + 1) = a n * grad n`. -/

@[expose] public section

noncomputable section

namespace Cert.Lru

open Idealize.ShloMosaic

section
variable (a d : ℕ → ℝ)

/-- What the later times send back to the `n`-th time from the end. -/
def back : ℕ → ℝ
  | 0 => 0
  | n + 1 => a n * (back n + d n)

/-- The gradient at the `n`-th time from the end. -/
def grad (n : ℕ) : ℝ := back a d n + d n

theorem grad_succ (n : ℕ) : grad a d (n + 1) = a n * grad a d n + d (n + 1) := rfl
theorem back_succ (n : ℕ) : back a d (n + 1) = a n * grad a d n := rfl

/-- The gradient and the coefficient just after the first `n` times from the end; both zero before any. -/
def lastG : ℕ → ℝ
  | 0 => 0
  | n + 1 => grad a d n
def lastA : ℕ → ℝ
  | 0 => 0
  | n + 1 => a n

theorem last_mul (n : ℕ) : lastA a n * lastG a d n = back a d n := by
  cases n with
  | zero => exact mul_zero _
  | succ n => rfl
end

section
variable (a b : ℕ → ℝ)

/-- The state before the `n`-th time: `h` starts at zero. -/
def state : ℕ → ℝ
  | 0 => 0
  | n + 1 => a n * state n + b n

theorem state_succ (n : ℕ) : state a b (n + 1) = a n * state a b n + b n := rfl
end

/-- The whole arrays' shape: sequences, times, columns. -/
abbrev Whole : Shape := ⟨3, ![4, 2304, 1024]⟩

/-- Sequence `b`, column `col` of an array, read backwards in time. -/
def column (X : Whole.Idx → ℝ) (b col n : ℕ) : ℝ :=
  X (ix3 (⟨b % 4, Nat.mod_lt _ (by decide)⟩ : Fin 4) (⟨2303 - n, by omega⟩ : Fin 2304) (⟨col % 1024, Nat.mod_lt _ (by decide)⟩ : Fin 1024))

/-- An entry of an array is one of its column's. -/
theorem column_at (X : Whole.Idx → ℝ) (i : Whole.Idx) (n : ℕ) (h : n = 2303 - (i 1).val) : X i = column X (i 0).val (i 2).val n := by
  subst h
  have h0 : (i 0).val < 4 := (i 0).isLt
  have h1 : (i 1).val < 2304 := (i 1).isLt
  have h2 : (i 2).val < 1024 := (i 2).isLt
  unfold column
  refine congrArg X (funext fun b => ?_)
  match b with
  | ⟨0, _⟩ => exact Fin.ext (show (i 0).val = (i 0).val % 4 by omega)
  | ⟨1, _⟩ => exact Fin.ext (show (i 1).val = 2303 - (2303 - (i 1).val) by omega)
  | ⟨2, _⟩ => exact Fin.ext (show (i 2).val = (i 2).val % 1024 by omega)

/-- Sequence `b`, column `col` of an array, read forwards in time. -/
def line (X : Whole.Idx → ℝ) (b col n : ℕ) : ℝ := column X b col (2303 - n)

theorem line_at (X : Whole.Idx → ℝ) (i : Whole.Idx) (n : ℕ) (h : n = (i 1).val) : X i = line X (i 0).val (i 2).val n :=
  column_at X i _ (by rw [h])

/-- The state before each time. -/
def beforeAll (A B : Whole.Idx → ℝ) (i : Whole.Idx) : ℝ := state (line A (i 0).val (i 2).val) (line B (i 0).val (i 2).val) (i 1).val

/-- The state at each time. -/
def stateAll (A B : Whole.Idx → ℝ) (i : Whole.Idx) : ℝ := state (line A (i 0).val (i 2).val) (line B (i 0).val (i 2).val) ((i 1).val + 1)

/-- The gradient of the recurrence's inputs. -/
def gradAll (A D : Whole.Idx → ℝ) (i : Whole.Idx) : ℝ :=
  grad (column A (i 0).val (i 2).val) (column D (i 0).val (i 2).val) (2303 - (i 1).val)

end Cert.Lru

end
-- ==== Proof.LruBlock.lean ====
module

public import proofs.«01_k».proof.Proof.LruChunk
public import proofs.«01_k».proof.Proof.LruSeq

/-! What the loop carries and what one run of the body stores, on real numbers: the recurrence of every column. -/

@[expose] public section

noncomputable section

namespace Cert.Kernel20Ideal.Gen.Lru

open Idealize.ShloMosaic Idealize.ShloMosaic.TcCoe Idealize.SL.Sem
open Cert.Lru

section
variable (A D H : Vec Ideal S4x256x1024 .f32) (g c : Vec Ideal S4x8x8x128 .f32) (a d : ℕ → ℕ → ℕ → ℝ) (N : ℕ)

/-- An input block, read through the rectangle of trip `k`. -/
theorem block_at (X : Vec Ideal S4x256x1024 .f32) (x : ℕ → ℕ → ℕ → ℝ)
    (hX : ∀ y : S4x256x1024.Idx, X y = (x (y 0).val (y 2).val (N + 255 - (y 1).val) : EReal))
    (b j k : ℕ) (hk : k < 32) (inb : ∀ e, offOf b j k e + S1x8x128.size e ≤ S4x256x1024.size e) (r : Fin 8) (l : Fin 128) :
    X ((rect3 (offOf b j k) inb).emb (ix3 (0 : Fin 1) r l)) = (x b (128 * j + l.val) (N + 8 * k + 7 - r.val) : EReal) := by
  have e0 : ((rect3 (offOf b j k) inb).emb (ix3 (0 : Fin 1) r l) 0).val = b := (emb3_val _ inb _ 0).trans (Nat.add_zero b)
  have e1 : ((rect3 (offOf b j k) inb).emb (ix3 (0 : Fin 1) r l) 1).val = 248 - 8 * k + r.val := emb3_val _ inb _ 1
  have e2 : ((rect3 (offOf b j k) inb).emb (ix3 (0 : Fin 1) r l) 2).val = 128 * j + l.val := emb3_val _ inb _ 2
  have hr := r.isLt
  rw [hX, e0, e1, e2, show N + 255 - (248 - 8 * k + r.val) = N + 8 * k + 7 - r.val by omega]

/-- The carried rows, read through their rectangle. -/
theorem carry_at (X : Vec Ideal S4x8x8x128 .f32) (x : ℕ → ℕ → ℝ)
    (hX : ∀ y : S4x8x8x128.Idx, X y = (x (y 0).val (128 * (y 1).val + (y 3).val) : EReal))
    (b j : ℕ) (inb : ∀ e, o4Of b j e + S1x1x8x128.size e ≤ S4x8x8x128.size e) (r : Fin 8) (l : Fin 128) :
    X ((rect4 (o4Of b j) inb).emb (ix4 (0 : Fin 1) (0 : Fin 1) r l)) = (x b (128 * j + l.val) : EReal) := by
  have e0 : ((rect4 (o4Of b j) inb).emb (ix4 (0 : Fin 1) (0 : Fin 1) r l) 0).val = b := (emb4_val _ inb _ 0).trans (Nat.add_zero b)
  have e1 : ((rect4 (o4Of b j) inb).emb (ix4 (0 : Fin 1) (0 : Fin 1) r l) 1).val = j := (emb4_val _ inb _ 1).trans (Nat.add_zero j)
  have e3 : ((rect4 (o4Of b j) inb).emb (ix4 (0 : Fin 1) (0 : Fin 1) r l) 3).val = l.val := (emb4_val _ inb _ 3).trans (Nat.zero_add _)
  rw [hX, e0, e1, e3]

variable (hA : ∀ y : S4x256x1024.Idx, A y = (a (y 0).val (y 2).val (N + 255 - (y 1).val) : EReal))
  (hD : ∀ y : S4x256x1024.Idx, D y = (d (y 0).val (y 2).val (N + 255 - (y 1).val) : EReal))

/-- The eight rows of a trip, from the first to the last. -/
def trip (b col k : ℕ) (r : Fin 8) : ℝ := grad (a b col) (d b col) (N + 8 * k + 7 - r.val)

theorem trip_last (b col k : ℕ) : trip a d N b col k 7
    = lastA (a b col) (N + 8 * k) * lastG (a b col) (d b col) (N + 8 * k) + d b col (N + 8 * k + 7 - (7 : Fin 8).val) := by
  rw [last_mul]; rfl

theorem trip_next (b col k : ℕ) (r : Fin 7) : trip a d N b col k r.castSucc
    = a b col (N + 8 * k + 7 - r.succ.val) * trip a d N b col k r.succ + d b col (N + 8 * k + 7 - r.castSucc.val) := by
  have hr := r.isLt
  have e1 : r.castSucc.val = r.val := rfl
  have e2 : r.succ.val = r.val + 1 := rfl
  unfold trip
  rw [e1, e2, show N + 8 * k + 7 - r.val = N + 8 * k + 7 - (r.val + 1) + 1 by omega, grad_succ]

/-- The carried rows hold the gradient and the coefficient of the last row so far. -/
def Carries (n : ℕ) (g c : Vec Ideal S4x8x8x128 .f32) : Prop :=
  (∀ y : S4x8x8x128.Idx, g y = (lastG (a (y 0).val (128 * (y 1).val + (y 3).val)) (d (y 0).val (128 * (y 1).val + (y 3).val)) n : EReal))
  ∧ (∀ y : S4x8x8x128.Idx, c y = (lastA (a (y 0).val (128 * (y 1).val + (y 3).val)) n : EReal))

include hA hD in
theorem carries_next (k : ℕ) (hk : k < 32) (h : Carries a d (N + 8 * k) g c) :
    Carries a d (N + 8 * k + 8) (stepC rowNo A D g c k) (stepA A k) := by
  refine ⟨fun y => ?_, fun y => ?_⟩
  · unfold stepC pieceC
    rw [show sub4 y = ix4 (0 : Fin 1) (0 : Fin 1) (y 2 : Fin 8) (y 3 : Fin 128) from
      funext fun e => match e with | ⟨0, _⟩ => rfl | ⟨1, _⟩ => rfl | ⟨2, _⟩ => rfl | ⟨3, _⟩ => rfl]
    exact (pay18_at _ _ _ _ (y 3 : Fin 128) _ _ _ _ (block_at N A a hA _ _ k hk _ · _) (block_at N D d hD _ _ k hk _ · _)
      (carry_at c (fun b col => lastA (a b col) (N + 8 * k)) h.2 _ _ _ · _)
      (carry_at g (fun b col => lastG (a b col) (d b col) (N + 8 * k)) h.1 _ _ _ · _)
      (trip a d N _ _ k) (trip_last a d N _ _ k) (trip_next a d N _ _ k) _)
  · unfold stepA pieceA
    rw [show sub4 y = ix4 (0 : Fin 1) (0 : Fin 1) (y 2 : Fin 8) (y 3 : Fin 128) from
      funext fun e => match e with | ⟨0, _⟩ => rfl | ⟨1, _⟩ => rfl | ⟨2, _⟩ => rfl | ⟨3, _⟩ => rfl]
    exact pay19_at _ (y 3 : Fin 128) (fun r => a (y 0).val (128 * (y 1).val + (y 3).val) (N + 8 * k + 7 - r.val))
      (block_at N A a hA _ _ k hk _ · _) _

include hA hD in
theorem carried_at (h : Carries a d N g c) : ∀ k ≤ 32, Carries a d (N + 8 * k) (carried A D g c k).1 (carried A D g c k).2
  | 0, _ => h
  | k + 1, hk => carries_next A D _ _ a d N hA hD k hk (carried_at h k (Nat.le_of_lt hk))

theorem row_split (y : S4x256x1024.Idx) :
    N + 8 * (31 - (y 1).val / 8) + 7 - ((⟨(y 1).val % 8, Nat.mod_lt _ (by decide)⟩ : Fin 8)).val = N + 255 - (y 1).val := by
  have h1 : (y 1).val < 256 := (y 1).isLt
  show N + 8 * (31 - (y 1).val / 8) + 7 - (y 1).val % 8 = _
  omega

theorem col_split (y : S4x256x1024.Idx) : 128 * ((y 2).val / 128) + ((⟨(y 2).val % 128, Nat.mod_lt _ (by decide)⟩ : Fin 128)).val = (y 2).val :=
  Nat.div_add_mod _ _

theorem sub3_eq (y : S4x256x1024.Idx) : sub3 y = ix3 (0 : Fin 1) (⟨(y 1).val % 8, Nat.mod_lt _ (by decide)⟩ : Fin 8) (⟨(y 2).val % 128, Nat.mod_lt _ (by decide)⟩ : Fin 128) :=
  funext fun e => match e with | ⟨0, _⟩ => rfl | ⟨1, _⟩ => rfl | ⟨2, _⟩ => rfl

include hA hD in
/-- The gradient's block holds the gradient. -/
theorem blockG_at (h : Carries a d N g c) (y : S4x256x1024.Idx) :
    blockG A D g c y = (grad (a (y 0).val (y 2).val) (d (y 0).val (y 2).val) (N + 255 - (y 1).val) : EReal) := by
  have hk : 31 - (y 1).val / 8 < 32 := by omega
  have hc := carried_at A D g c a d N hA hD h _ hk.le
  unfold blockG outG pieceG
  rw [sub3_eq]
  refine (pay16_at _ _ _ _ (⟨(y 2).val % 128, Nat.mod_lt _ (by decide)⟩ : Fin 128) _ _ _ _ (block_at N A a hA _ _ _ hk _ · _) (block_at N D d hD _ _ _ hk _ · _)
      (carry_at _ (fun b col => lastA (a b col) _) hc.2 _ _ _ · _)
      (carry_at _ (fun b col => lastG (a b col) (d b col) _) hc.1 _ _ _ · _)
      (trip a d N _ _ _) (trip_last a d N _ _ _) (trip_next a d N _ _ _) _).trans ?_
  unfold trip
  rw [row_split, col_split]

include hA hD in
/-- The other block holds its products with the saved states. -/
theorem blockGA_at (h : Carries a d N g c) (y : S4x256x1024.Idx) :
    blockGA A D H g c y = ((grad (a (y 0).val (y 2).val) (d (y 0).val (y 2).val) (N + 255 - (y 1).val) : EReal) * H y : EReal) := by
  have hk : 31 - (y 1).val / 8 < 32 := by omega
  have h1 : (y 1).val < 256 := (y 1).isLt
  have hc := carried_at A D g c a d N hA hD h _ hk.le
  unfold blockGA outGA pieceGA
  rw [sub3_eq]
  refine (pay17_at _ _ _ _ (⟨(y 2).val % 128, Nat.mod_lt _ (by decide)⟩ : Fin 128) _ _ _ _ (block_at N A a hA _ _ _ hk _ · _) (block_at N D d hD _ _ _ hk _ · _)
      (carry_at _ (fun b col => lastA (a b col) _) hc.2 _ _ _ · _)
      (carry_at _ (fun b col => lastG (a b col) (d b col) _) hc.1 _ _ _ · _)
      (trip a d N _ _ _) (trip_last a d N _ _ _) (trip_next a d N _ _ _) _ _).trans ?_
  unfold trip
  rw [row_split, col_split]
  refine congrArg (fun x => ((grad (a (y 0).val (y 2).val) (d (y 0).val (y 2).val) (N + 255 - (y 1).val) : EReal) * H x : EReal)) (funext fun e => Fin.ext ?_)
  rw [emb3_val]
  match e with
  | ⟨0, _⟩ => exact Nat.add_zero _
  | ⟨1, _⟩ => show 248 - 8 * (31 - (y 1).val / 8) + (y 1).val % 8 = (y 1).val; omega
  | ⟨2, _⟩ => show 128 * ((y 2).val / 128) + (y 2).val % 128 = (y 2).val; omega
end

end Cert.Kernel20Ideal.Gen.Lru

end
-- ==== Proof.LruWhole.lean ====
module

public import proofs.«01_k».proof.Proof.BackFrame
public import proofs.«01_k».proof.Proof.LruBlock
public import Idealize.ShloMosaic.Lib.Pipeline.Value
public import Idealize.ShloMosaic.Lib.Pointwise
public import Idealize.ShloMosaic.Lib.ValueIdx

/-! What the two result arrays of the recurrence's gradient hold when the call returns. -/

@[expose] public section

noncomputable section

namespace Cert.Kernel20Ideal.Gen.Lru

open Idealize.ShloMosaic Idealize.ShloMosaic.TcCoe Idealize.SL.Sem
open Cert.Lru

variable (V : Entry Ideal)

/-- The decays, the incoming gradients and the saved states, as the call finds them. -/
abbrev argA (c : Dev nD) : Whole.Idx → EReal := V c main_arg0
abbrev argD (c : Dev nD) : Whole.Idx → EReal := V c main_arg2
abbrev argH (c : Dev nD) : Whole.Idx → EReal := V c main_v0_1

/-- Where each window's block lies: the points go backwards through the times. -/
theorem places : ∀ t : Fin cfg1.N,
    (win1_0.index t (0 : Fin 3) = 0 ∧ win1_0.index t (1 : Fin 3) = 8 - t.val ∧ win1_0.index t (2 : Fin 3) = 0)
    ∧ (win1_1.index t (0 : Fin 3) = 0 ∧ win1_1.index t (1 : Fin 3) = 8 - t.val ∧ win1_1.index t (2 : Fin 3) = 0)
    ∧ (win1_2.index t (0 : Fin 3) = 0 ∧ win1_2.index t (1 : Fin 3) = 8 - t.val ∧ win1_2.index t (2 : Fin 3) = 0)
    ∧ (win1_3.index t (0 : Fin 3) = 0 ∧ win1_3.index t (1 : Fin 3) = 8 - t.val ∧ win1_3.index t (2 : Fin 3) = 0)
    ∧ (win1_4.index t (0 : Fin 3) = 0 ∧ win1_4.index t (1 : Fin 3) = 8 - t.val ∧ win1_4.index t (2 : Fin 3) = 0) :=
  (by decide +kernel : ∀ t : Fin grid1.N, _)

theorem t_lt (t : Fin cfg1.N) : t.val < 9 := lt_of_lt_of_eq t.isLt (show cfg1.N = 9 from N_1)

/-- The place in the whole array of a place of point `t`'s block. -/
def place (t : Fin cfg1.N) (y : S4x256x1024.Idx) : Whole.Idx :=
  ix3 (y 0 : Fin 4) (⟨(8 - t.val) * 256 + (y 1).val, by
    have h1 : (y 1).val < 256 := (y 1).isLt
    omega⟩ : Fin 2304) (y 2 : Fin 1024)

theorem inA_eq (c : Dev nD) (t : Fin cfg1.N) (y : S4x256x1024.Idx) : inA V c t y = argA V c (place t y) := by
  obtain ⟨⟨e0, e1, e2⟩, -⟩ := places t
  unfold inA blockIn
  rw [View.read_apply]
  refine congrArg (argA V c) (funext fun b => Fin.ext ?_)
  match b with
  | ⟨0, _⟩ => show win1_0.index t 0 * 4 + 1 * (y 0).val = (y 0).val; rw [e0]; omega
  | ⟨1, _⟩ => show win1_0.index t 1 * 256 + 1 * (y 1).val = (8 - t.val) * 256 + (y 1).val; rw [e1]; omega
  | ⟨2, _⟩ => show win1_0.index t 2 * 1024 + 1 * (y 2).val = (y 2).val; rw [e2]; omega

theorem inD_eq (c : Dev nD) (t : Fin cfg1.N) (y : S4x256x1024.Idx) : inD V c t y = argD V c (place t y) := by
  obtain ⟨-, ⟨e0, e1, e2⟩, -⟩ := places t
  unfold inD blockIn
  rw [View.read_apply]
  refine congrArg (argD V c) (funext fun b => Fin.ext ?_)
  match b with
  | ⟨0, _⟩ => show win1_1.index t 0 * 4 + 1 * (y 0).val = (y 0).val; rw [e0]; omega
  | ⟨1, _⟩ => show win1_1.index t 1 * 256 + 1 * (y 1).val = (8 - t.val) * 256 + (y 1).val; rw [e1]; omega
  | ⟨2, _⟩ => show win1_1.index t 2 * 1024 + 1 * (y 2).val = (y 2).val; rw [e2]; omega

theorem inH_eq (c : Dev nD) (t : Fin cfg1.N) (y : S4x256x1024.Idx) : inH V c t y = argH V c (place t y) := by
  obtain ⟨-, -, ⟨e0, e1, e2⟩, -⟩ := places t
  unfold inH blockIn
  rw [View.read_apply]
  refine congrArg (argH V c) (funext fun b => Fin.ext ?_)
  match b with
  | ⟨0, _⟩ => show win1_2.index t 0 * 4 + 1 * (y 0).val = (y 0).val; rw [e0]; omega
  | ⟨1, _⟩ => show win1_2.index t 1 * 256 + 1 * (y 1).val = (8 - t.val) * 256 + (y 1).val; rw [e1]; omega
  | ⟨2, _⟩ => show win1_2.index t 2 * 1024 + 1 * (y 2).val = (y 2).val; rw [e2]; omega

section
variable (c : Dev nD) (a d : Whole.Idx → ℝ) (hA : ∀ i, argA V c i = (a i : EReal)) (hD : ∀ i, argD V c i = (d i : EReal))

/-- An entry of a block, as the entry of its column. -/
theorem place_column (X : Whole.Idx → ℝ) (t : Fin cfg1.N) (y : S4x256x1024.Idx) :
    X (place t y) = column X (y 0).val (y 2).val (256 * t.val + 255 - (y 1).val) :=
  column_at X (place t y) _ (by
    have h1 : (y 1).val < 256 := (y 1).isLt
    have ht := t_lt t
    show 256 * t.val + 255 - (y 1).val = 2303 - ((8 - t.val) * 256 + (y 1).val)
    omega)

include hA in
theorem inA_at (t : Fin cfg1.N) (y : S4x256x1024.Idx) :
    inA V c t y = (column a (y 0).val (y 2).val (256 * t.val + 255 - (y 1).val) : EReal) := by
  rw [inA_eq, hA, place_column a t y]
include hD in
theorem inD_at (t : Fin cfg1.N) (y : S4x256x1024.Idx) :
    inD V c t y = (column d (y 0).val (y 2).val (256 * t.val + 255 - (y 1).val) : EReal) := by
  rw [inD_eq, hD, place_column d t y]

theorem zero_word : (FloatOps.ofBits (F := Ideal) .f32 0x00000000#32 : EReal) = ((0 : ℝ) : EReal) := by
  show Ideal.ofBits .f32 0x00000000#32 = _
  simp [Ideal.ofBits, Ideal.ieee]

theorem pay1_at (y : S4x8x8x128.Idx) : (k1_pay1 (F := Ideal)) y = ((0 : ℝ) : EReal) := by
  unfold k1_pay1; rw [shapeCast_self]; exact zero_word
theorem pay2_at (y : S4x8x8x128.Idx) : (k1_pay2 (F := Ideal)) y = ((0 : ℝ) : EReal) := by
  unfold k1_pay2; rw [shapeCast_self]; exact zero_word

include hA hD in
/-- Every point starts with the rows the later times left. -/
theorem starts (n : ℕ) (h : n ≤ cfg1.N) : Carries (column a) (column d) (256 * n) (startAt V c n h).1 (startAt V c n h).2 := by
  induction n with
  | zero => exact ⟨fun y => pay1_at y, fun y => pay2_at y⟩
  | succ n ih =>
    have := carried_at (inA V c ⟨n, h⟩) (inD V c ⟨n, h⟩) _ _ (column a) (column d) (256 * n)
      (fun y => inA_at V c a hA ⟨n, h⟩ y) (fun y => inD_at V c d hD ⟨n, h⟩ y) (ih (Nat.le_of_lt h)) 32 le_rfl
    exact this

/-- The two result arrays. -/
def resG : Buf (Elt Ideal) ((c : Thread nD τ).loc main_v1_0) := fun (i : Whole.Idx) => (gradAll a d i : EReal)
def resGA : Buf (Elt Ideal) ((c : Thread nD τ).loc main_v1_1) := fun (i : Whole.Idx) => ((gradAll a d i : EReal) * argH V c i : EReal)

theorem place_grad (t : Fin cfg1.N) (y : S4x256x1024.Idx) :
    gradAll a d (place t y) = grad (column a (y 0).val (y 2).val) (column d (y 0).val (y 2).val) (256 * t.val + 255 - (y 1).val) := by
  have h1 : (y 1).val < 256 := (y 1).isLt
  have ht := t_lt t
  show grad _ _ (2303 - ((8 - t.val) * 256 + (y 1).val)) = _
  rw [show 2303 - ((8 - t.val) * 256 + (y 1).val) = 256 * t.val + 255 - (y 1).val by omega]
  rfl

include hA hD in
theorem outG_at (t : Fin cfg1.N) (y : S4x256x1024.Idx) : outGAt V c t y = (gradAll a d (place t y) : EReal) := by
  unfold outGAt
  rw [place_grad]
  exact blockG_at _ _ _ _ (column a) (column d) (256 * t.val) (inA_at V c a hA t) (inD_at V c d hD t) (starts V c a d hA hD _ _) y

include hA hD in
theorem outGA_at (t : Fin cfg1.N) (y : S4x256x1024.Idx) :
    outGAAt V c t y = ((gradAll a d (place t y) : EReal) * argH V c (place t y) : EReal) := by
  unfold outGAAt
  rw [place_grad, ← inH_eq]
  exact blockGA_at _ _ _ _ _ (column a) (column d) (256 * t.val) (inA_at V c a hA t) (inD_at V c d hD t) (starts V c a d hA hD _ _) y

theorem emb_3 (t : Fin cfg1.N) (y : S4x256x1024.Idx) : ((cfg1.win 3).blk t).view.emb y = place t y := by
  obtain ⟨-, -, -, ⟨e0, e1, e2⟩, -⟩ := places t
  refine funext fun b => Fin.ext ?_
  match b with
  | ⟨0, _⟩ => show win1_3.index t 0 * 4 + 1 * (y 0).val = (y 0).val; rw [e0]; omega
  | ⟨1, _⟩ => show win1_3.index t 1 * 256 + 1 * (y 1).val = (8 - t.val) * 256 + (y 1).val; rw [e1]; omega
  | ⟨2, _⟩ => show win1_3.index t 2 * 1024 + 1 * (y 2).val = (y 2).val; rw [e2]; omega

theorem emb_4 (t : Fin cfg1.N) (y : S4x256x1024.Idx) : ((cfg1.win 4).blk t).view.emb y = place t y := by
  obtain ⟨-, -, -, -, ⟨e0, e1, e2⟩⟩ := places t
  refine funext fun b => Fin.ext ?_
  match b with
  | ⟨0, _⟩ => show win1_4.index t 0 * 4 + 1 * (y 0).val = (y 0).val; rw [e0]; omega
  | ⟨1, _⟩ => show win1_4.index t 1 * 256 + 1 * (y 1).val = (8 - t.val) * 256 + (y 1).val; rw [e1]; omega
  | ⟨2, _⟩ => show win1_4.index t 2 * 1024 + 1 * (y 2).val = (y 2).val; rw [e2]; omega

include hA hD in
theorem written_3 (t : Fin cfg1.N) (hf : (cfg1.win 3).flush t = true) :
    (plan V c).flushed 3 t = ((cfg1.win 3).blk t).view.read (Elt Ideal) (resG c a d) := by
  show (cfg1.win 3).cut (grid1.coords t) ((plan V c).after 3 t) = _
  rw [after_3]
  funext y
  show outGAt V c t ((cfg1.win 3).xinj (grid1.coords t) y) = resG c a d (((cfg1.win 3).blk t).view.emb y)
  rw [show ((cfg1.win 3).blk t).view.emb y = place t y from emb_3 t y]
  exact outG_at V c a d hA hD t y

include hA hD in
theorem written_4 (t : Fin cfg1.N) (hf : (cfg1.win 4).flush t = true) :
    (plan V c).flushed 4 t = ((cfg1.win 4).blk t).view.read (Elt Ideal) (resGA V c a d) := by
  show (cfg1.win 4).cut (grid1.coords t) ((plan V c).after 4 t) = _
  rw [after_4]
  funext y
  show outGAAt V c t ((cfg1.win 4).xinj (grid1.coords t) y) = resGA V c a d (((cfg1.win 4).blk t).view.emb y)
  rw [show ((cfg1.win 4).blk t).view.emb y = place t y from emb_4 t y]
  exact outGA_at V c a d hA hD t y
end

/-- The point that writes the block an index lies in. -/
def writer (i : Whole.Idx) : Fin grid1.N :=
  ⟨8 - (i 1).val / 256, lt_of_lt_of_eq (by omega) N_1.symm⟩

theorem reached_3 (i : Whole.Idx) : (cfg1.win 3).flush (writer i) = true ∧ i ∈ ((cfg1.win 3).blk (writer i)).view.set := by
  have h0 : (i 0).val < 4 := (i 0).isLt
  have h1 : (i 1).val < 2304 := (i 1).isLt
  have h2 : (i 2).val < 1024 := (i 2).isLt
  have hv : (writer i).val = 8 - (i 1).val / 256 := rfl
  obtain ⟨-, -, -, ⟨e0, e1, e2⟩, -⟩ := places (writer i)
  refine ⟨flush1_3 _, ?_⟩
  show i ∈ ((View.whole main_v1_0).slice (win1_3.rect (writer i))).set
  rw [View.set_slice_whole, Rect.mem_set_unit]
  intro b
  match b with
  | ⟨0, _⟩ => show win1_3.index (writer i) 0 * 4 ≤ (i 0).val ∧ (i 0).val < win1_3.index (writer i) 0 * 4 + 4; rw [e0]; omega
  | ⟨1, _⟩ => show win1_3.index (writer i) 1 * 256 ≤ (i 1).val ∧ (i 1).val < win1_3.index (writer i) 1 * 256 + 256; rw [e1, hv]; omega
  | ⟨2, _⟩ => show win1_3.index (writer i) 2 * 1024 ≤ (i 2).val ∧ (i 2).val < win1_3.index (writer i) 2 * 1024 + 1024; rw [e2]; omega

theorem reached_4 (i : Whole.Idx) : (cfg1.win 4).flush (writer i) = true ∧ i ∈ ((cfg1.win 4).blk (writer i)).view.set := by
  have h0 : (i 0).val < 4 := (i 0).isLt
  have h1 : (i 1).val < 2304 := (i 1).isLt
  have h2 : (i 2).val < 1024 := (i 2).isLt
  have hv : (writer i).val = 8 - (i 1).val / 256 := rfl
  obtain ⟨-, -, -, -, ⟨e0, e1, e2⟩⟩ := places (writer i)
  refine ⟨flush1_4 _, ?_⟩
  show i ∈ ((View.whole main_v1_1).slice (win1_4.rect (writer i))).set
  rw [View.set_slice_whole, Rect.mem_set_unit]
  intro b
  match b with
  | ⟨0, _⟩ => show win1_4.index (writer i) 0 * 4 ≤ (i 0).val ∧ (i 0).val < win1_4.index (writer i) 0 * 4 + 4; rw [e0]; omega
  | ⟨1, _⟩ => show win1_4.index (writer i) 1 * 256 ≤ (i 1).val ∧ (i 1).val < win1_4.index (writer i) 1 * 256 + 256; rw [e1, hv]; omega
  | ⟨2, _⟩ => show win1_4.index (writer i) 2 * 1024 ≤ (i 2).val ∧ (i 2).val < win1_4.index (writer i) 2 * 1024 + 1024; rw [e2]; omega

section
variable (c : Dev nD) (a d : Whole.Idx → ℝ) (hA : ∀ i, argA V c i = (a i : EReal)) (hD : ∀ i, argD V c i = (d i : EReal))

include hA hD in
theorem array_3 : (plan V c).arrAt 3 cfg1.N = resG c a d :=
  (plan V c).arrAt_eq_of_cover 3 (resG c a d) (written_3 V c a d hA hD) fun i => ⟨writer i, (reached_3 i).1, (reached_3 i).2⟩
include hA hD in
theorem array_4 : (plan V c).arrAt 4 cfg1.N = resGA V c a d :=
  (plan V c).arrAt_eq_of_cover 4 (resGA V c a d) (written_4 V c a d hA hD) fun i => ⟨writer i, (reached_4 i).1, (reached_4 i).2⟩
end

end Cert.Kernel20Ideal.Gen.Lru

end
-- ==== Proof.ForeChunk.lean ====
module

public import proofs.«01_k».proof.Proof.ForeBody
public import proofs.«01_k».proof.Proof.LruChunk

/-! What one piece of a trip of the forward call computes on real numbers: in each column the eight rows of the
recurrence `s r = a r * s (r - 1) + b r`, entered from above with the carried state. Three rounds of doubling again,
each combining a row with the one 1, 2 or 4 rows further up. -/

@[expose] public section

noncomputable section

namespace Cert.Kernel20Ideal.Gen.Fwd

open Idealize.ShloMosaic Idealize.ShloMosaic.TcCoe Idealize.SL.Sem
open Idealize.ShloMosaic.ValueIdx (select_apply shapeCast_1ab_ab_apply shapeCast_ab_1ab_apply)
open Cert.Kernel20Ideal.Gen.Lru (rowNo rotate_at cast3 cast4 uncast3 uncast4 rowNo_at select_if coe_if)

/-! ## The three rounds on real numbers -/

section
variable (a b : Fin 8 → ℝ)

def co1 (r : Fin 8) : ℝ := if 1 ≤ r.val then a r * a (r - 1) else a r
def co2 (r : Fin 8) : ℝ := if 2 ≤ r.val then co1 a r * co1 a (r - 2) else co1 a r
def co3 (r : Fin 8) : ℝ := if 4 ≤ r.val then co2 a r * co2 a (r - 4) else co2 a r
def su1 (r : Fin 8) : ℝ := if 1 ≤ r.val then a r * b (r - 1) + b r else b r
def su2 (r : Fin 8) : ℝ := if 2 ≤ r.val then co1 a r * su1 a b (r - 2) + su1 a b r else su1 a b r
def su3 (r : Fin 8) : ℝ := if 4 ≤ r.val then co2 a r * su2 a b (r - 4) + su2 a b r else su2 a b r

/-- The three rounds solve the recurrence. -/
theorem rounds_solve (g8 : ℝ) (s : Fin 8 → ℝ) (h0 : s 0 = a 0 * g8 + b 0)
    (hs : ∀ r : Fin 7, s r.succ = a r.succ * s r.castSucc + b r.succ) (r : Fin 8) :
    co3 a r * g8 + su3 a b r = s r := by
  have e1 : s 1 = a 1 * s 0 + b 1 := hs 0
  have e2 : s 2 = a 2 * s 1 + b 2 := hs 1
  have e3 : s 3 = a 3 * s 2 + b 3 := hs 2
  have e4 : s 4 = a 4 * s 3 + b 4 := hs 3
  have e5 : s 5 = a 5 * s 4 + b 5 := hs 4
  have e6 : s 6 = a 6 * s 5 + b 6 := hs 5
  have e7 : s 7 = a 7 * s 6 + b 7 := hs 6
  have q0 : co1 a 0 = a 0 := rfl
  have q1 : co1 a 1 = a 1 * a 0 := rfl
  have q2 : co1 a 2 = a 2 * a 1 := rfl
  have q3 : co1 a 3 = a 3 * a 2 := rfl
  have q4 : co1 a 4 = a 4 * a 3 := rfl
  have q5 : co1 a 5 = a 5 * a 4 := rfl
  have q6 : co1 a 6 = a 6 * a 5 := rfl
  have q7 : co1 a 7 = a 7 * a 6 := rfl
  have r0 : co2 a 0 = a 0 := rfl
  have r1 : co2 a 1 = a 1 * a 0 := rfl
  have r2 : co2 a 2 = (a 2 * a 1) * a 0 := rfl
  have r3 : co2 a 3 = (a 3 * a 2) * (a 1 * a 0) := rfl
  have r4 : co2 a 4 = (a 4 * a 3) * (a 2 * a 1) := rfl
  have r5 : co2 a 5 = (a 5 * a 4) * (a 3 * a 2) := rfl
  have r6 : co2 a 6 = (a 6 * a 5) * (a 4 * a 3) := rfl
  have r7 : co2 a 7 = (a 7 * a 6) * (a 5 * a 4) := rfl
  have v0 : su1 a b 0 = b 0 := rfl
  have v1 : su1 a b 1 = a 1 * b 0 + b 1 := rfl
  have v2 : su1 a b 2 = a 2 * b 1 + b 2 := rfl
  have v3 : su1 a b 3 = a 3 * b 2 + b 3 := rfl
  have v4 : su1 a b 4 = a 4 * b 3 + b 4 := rfl
  have v5 : su1 a b 5 = a 5 * b 4 + b 5 := rfl
  have v6 : su1 a b 6 = a 6 * b 5 + b 6 := rfl
  have v7 : su1 a b 7 = a 7 * b 6 + b 7 := rfl
  have w0 : su2 a b 0 = su1 a b 0 := rfl
  have w1 : su2 a b 1 = su1 a b 1 := rfl
  have w2 : su2 a b 2 = co1 a 2 * su1 a b 0 + su1 a b 2 := rfl
  have w3 : su2 a b 3 = co1 a 3 * su1 a b 1 + su1 a b 3 := rfl
  have w4 : su2 a b 4 = co1 a 4 * su1 a b 2 + su1 a b 4 := rfl
  have w5 : su2 a b 5 = co1 a 5 * su1 a b 3 + su1 a b 5 := rfl
  have w6 : su2 a b 6 = co1 a 6 * su1 a b 4 + su1 a b 6 := rfl
  have w7 : su2 a b 7 = co1 a 7 * su1 a b 5 + su1 a b 7 := rfl
  fin_cases r
  · show co2 a 0 * g8 + su2 a b 0 = s 0
    rw [r0, w0, v0, h0]
  · show co2 a 1 * g8 + su2 a b 1 = s 1
    rw [r1, w1, v1, e1, h0]; ring
  · show co2 a 2 * g8 + su2 a b 2 = s 2
    rw [r2, w2, q2, v0, v2, e2, e1, h0]; ring
  · show co2 a 3 * g8 + su2 a b 3 = s 3
    rw [r3, w3, q3, v1, v3, e3, e2, e1, h0]; ring
  · show co2 a 4 * co2 a 0 * g8 + (co2 a 4 * su2 a b 0 + su2 a b 4) = s 4
    rw [r4, r0, w4, w0, q4, v0, v2, v4, e4, e3, e2, e1, h0]; ring
  · show co2 a 5 * co2 a 1 * g8 + (co2 a 5 * su2 a b 1 + su2 a b 5) = s 5
    rw [r5, r1, w5, w1, q5, v1, v3, v5, e5, e4, e3, e2, e1, h0]; ring
  · show co2 a 6 * co2 a 2 * g8 + (co2 a 6 * su2 a b 2 + su2 a b 6) = s 6
    rw [r6, r2, w6, w2, q6, q2, v0, v2, v4, v6, e6, e5, e4, e3, e2, e1, h0]; ring
  · show co2 a 7 * co2 a 3 * g8 + (co2 a 7 * su2 a b 3 + su2 a b 7) = s 7
    rw [r7, r3, w7, w3, q7, q3, v1, v3, v5, v7, e7, e6, e5, e4, e3, e2, e1, h0]; ring
end

/-! ## Reading the kernel's operations at a row and a lane -/

section
variable {α : Type}

theorem up1 (x : S8x128.Idx → α) (h : S8x128.Rotates 0 none) (r : Fin 8) (l : Fin 128) :
    dynamicRotate 0 1#32 none x h (ix2 r l) = x (ix2 (r - 1) l) := rotate_at _ x h r _ l (by revert r; decide)
theorem up2 (x : S8x128.Idx → α) (h : S8x128.Rotates 0 none) (r : Fin 8) (l : Fin 128) :
    dynamicRotate 0 2#32 none x h (ix2 r l) = x (ix2 (r - 2) l) := rotate_at _ x h r _ l (by revert r; decide)
theorem up4 (x : S8x128.Idx → α) (h : S8x128.Rotates 0 none) (r : Fin 8) (l : Fin 128) :
    dynamicRotate 0 4#32 none x h (ix2 r l) = x (ix2 (r - 4) l) := rotate_at _ x h r _ l (by revert r; decide)

/-- The last row, repeated in all eight rows. -/
theorem last_row (x : S8x128.Idx → α) (r : Fin 8) (l : Fin 128) :
    broadcastTo S8x128 (shapeCast S1x128 (extractStridedSlice S1x128 ![7, 0] x slices_S8x128_o7_0_S1x128) shapeCasts_S1x128_S1x128)
        broadcasts_S1x128_S8x128 (ix2 r l) = x (ix2 (7 : Fin 8) l) := by
  rw [broadcastTo_apply _ broadcasts_S1x128_S8x128 (ix2 r l) (ix2 (0 : Fin 1) l) (fun b => match b with | ⟨0, _⟩ => rfl | ⟨1, _⟩ => rfl),
    shapeCast_self]
  exact extractStridedSlice_apply _ _ _ _ _ fun b => match b with
    | ⟨0, _⟩ => rfl
    | ⟨1, _⟩ => by show l.val = 0 + l.val; omega
end

theorem mask_at (n : ℕ) (hn : n < 8) (r : Fin 8) (l : Fin 128) :
    cmpi .sge rowNo (broadcast S8x128 (BitVec.ofNat 32 n)) (ix2 r l) = BitVec.ofBool (decide (n ≤ r.val)) := by
  show IntOp.cmpi .sge (rowNo (ix2 r l)) (BitVec.ofNat 32 n) = _
  rw [rowNo_at]
  exact WordCmp.cmpi_sge_ofNat (by omega) (by omega)

theorem first_at (r : Fin 8) (l : Fin 128) :
    cmpi .eq rowNo (broadcast S8x128 0#32) (ix2 r l) = BitVec.ofBool (decide (r.val = 0)) := by
  show IntOp.cmpi .eq (rowNo (ix2 r l)) (BitVec.ofNat 32 0) = _
  rw [rowNo_at]
  exact WordCmp.cmpi_eq_ofNat (by omega) (by omega)

section
variable (l : Fin 128) (n : ℕ) (hn : n < 8) (w : BitVec 32) (co x : FVec Ideal S8x128 .f32) (hr hr' : S8x128.Rotates 0 none) (cr xr : Fin 8 → ℝ) (k : Fin 8)
    (h1 : ∀ r : Fin 8, co (ix2 r l) = (cr r : EReal)) (h2 : ∀ r : Fin 8, x (ix2 r l) = (xr r : EReal))

include hn h1 h2 in
/-- One round of the doubling, on sums. -/
theorem round_at (hrot : ∀ (r : Fin 8), dynamicRotate 0 w none x hr (ix2 r l) = x (ix2 (r - k) l)) (r : Fin 8) :
    select (cmpi .sge rowNo (broadcast S8x128 (BitVec.ofNat 32 n))) (addf (mulf co (dynamicRotate 0 w none x hr)) x) x (ix2 r l)
      = ((if n ≤ r.val then cr r * xr (r - k) + xr r else xr r : ℝ) : EReal) := by
  rw [select_apply, mask_at n hn, select_if]
  show (if n ≤ r.val then co (ix2 r l) * dynamicRotate 0 w none x hr (ix2 r l) + x (ix2 r l) else x (ix2 r l) : EReal) = _
  rw [hrot, h1, h2, h2, ← EReal.coe_mul, ← EReal.coe_add, coe_if]

include hn h1 in
/-- One round of the doubling, on coefficients. -/
theorem twice_at (hrot : ∀ (r : Fin 8), dynamicRotate 0 w none co hr (ix2 r l) = co (ix2 (r - k) l)) (r : Fin 8) :
    select (cmpi .sge rowNo (broadcast S8x128 (BitVec.ofNat 32 n))) (mulf co (dynamicRotate 0 w none co hr)) co (ix2 r l)
      = ((if n ≤ r.val then cr r * cr (r - k) else cr r : ℝ) : EReal) := by
  rw [select_apply, mask_at n hn, select_if]
  show (if n ≤ r.val then co (ix2 r l) * dynamicRotate 0 w none co hr (ix2 r l) else co (ix2 r l) : EReal) = _
  rw [hrot, h1, h1, ← EReal.coe_mul, coe_if]
end

/-! ## One piece at one lane -/

section
variable (A B : Vec Ideal S1x8x128 .f32) (g : Vec Ideal S1x1x8x128 .f32) (l : Fin 128) (a b : Fin 8 → ℝ) (g8 : ℝ)
  (hA : ∀ r : Fin 8, A (ix3 (0 : Fin 1) r l) = (a r : EReal)) (hB : ∀ r : Fin 8, B (ix3 (0 : Fin 1) r l) = (b r : EReal))
  (hg : ∀ r : Fin 8, g (ix4 (0 : Fin 1) (0 : Fin 1) r l) = (g8 : EReal))

include hg in
theorem pay3_at (r : Fin 8) : k0_pay3 g (ix2 r l) = (g8 : EReal) := by
  unfold k0_pay3; rw [cast4]; exact hg r

variable (s : Fin 8 → ℝ) (h0 : s 0 = a 0 * g8 + b 0) (hs : ∀ r : Fin 7, s r.succ = a r.succ * s r.castSucc + b r.succ)

include hA hB hg h0 hs in
/-- The piece's eight rows solve the recurrence. -/
theorem pay4_at (r : Fin 8) : k0_pay4 rowNo g A B (ix2 r l) = (s r : EReal) := by
  have hA' : ∀ r : Fin 8, shapeCast S8x128 A shapeCasts_S1x8x128_S8x128 (ix2 r l) = (a r : EReal) := fun r => (cast3 _ _ r l).trans (hA r)
  have hB' : ∀ r : Fin 8, shapeCast S8x128 B shapeCasts_S1x8x128_S8x128 (ix2 r l) = (b r : EReal) := fun r => (cast3 _ _ r l).trans (hB r)
  have c1 := fun r => twice_at l 1 (by decide) 1#32 _ rotates_S8x128_d0 a 1 hA' (fun r => up1 _ _ r l) r
  have u1 := fun r => round_at l 1 (by decide) 1#32 _ _ rotates_S8x128_d0 a b 1 hA' hB' (fun r => up1 _ _ r l) r
  have c2 := fun r => twice_at l 2 (by decide) 2#32 _ rotates_S8x128_d0 (co1 a) 2 c1 (fun r => up2 _ _ r l) r
  have u2 := fun r => round_at l 2 (by decide) 2#32 _ _ rotates_S8x128_d0 (co1 a) (su1 a b) 2 c1 u1 (fun r => up2 _ _ r l) r
  have c3 := fun r => twice_at l 4 (by decide) 4#32 _ rotates_S8x128_d0 (co2 a) 4 c2 (fun r => up4 _ _ r l) r
  have u3 := fun r => round_at l 4 (by decide) 4#32 _ _ rotates_S8x128_d0 (co2 a) (su2 a b) 4 c2 u2 (fun r => up4 _ _ r l) r
  unfold k0_pay4; dsimp only
  refine (congrArg₂ (fun x y : EReal => x + y) (congrArg₂ (fun x y : EReal => x * y) (c3 r) (pay3_at g l g8 hg r)) (u3 r)).trans ?_
  rw [← EReal.coe_mul, ← EReal.coe_add]
  exact congrArg _ (rounds_solve a b g8 s h0 hs r)

include hA hB hg h0 hs in
/-- The rows as they are stored. -/
theorem pay5_at (r : Fin 8) : k0_pay5 (k0_pay4 rowNo g A B) (ix3 (0 : Fin 1) r l) = (s r : EReal) := by
  unfold k0_pay5; rw [uncast3]; exact pay4_at A B g l a b g8 hA hB hg s h0 hs r

include hA hB hg h0 hs in
/-- The states one time earlier. -/
theorem pay6_at (p : Fin 8 → ℝ) (p0 : p 0 = g8) (hp : ∀ r : Fin 7, p r.succ = s r.castSucc) (r : Fin 8) :
    k0_pay6 rowNo (k0_pay3 g) (k0_pay4 rowNo g A B) (ix3 (0 : Fin 1) r l) = (p r : EReal) := by
  unfold k0_pay6; rw [uncast3]; dsimp only
  rw [select_apply, first_at, select_if, pay3_at g l g8 hg, up1, pay4_at A B g l a b g8 hA hB hg s h0 hs, coe_if]
  refine congrArg _ ?_
  have q : ∀ r : Fin 7, p r.succ = s (r.succ - 1) := fun r => (hp r).trans (congrArg s (by revert r; decide))
  refine Fin.cases ?_ (fun r => ?_) r
  · exact p0.symm
  · exact (if_neg (Nat.succ_ne_zero _)).trans (q r).symm

include hA hB hg h0 hs in
theorem pay7_at (r : Fin 8) : k0_pay7 (k0_pay4 rowNo g A B) (ix4 (0 : Fin 1) (0 : Fin 1) r l) = (s 7 : EReal) := by
  unfold k0_pay7; rw [uncast4, last_row]; exact pay4_at A B g l a b g8 hA hB hg s h0 hs 7
end

end Cert.Kernel20Ideal.Gen.Fwd

end
-- ==== Proof.ForeBlock.lean ====
module

public import proofs.«01_k».proof.Proof.ForeChunk
public import proofs.«01_k».proof.Proof.LruBlock

/-! What the forward call's loop carries and stores in one run of its body, on real numbers: the states of every column. -/

@[expose] public section

noncomputable section

namespace Cert.Kernel20Ideal.Gen.Fwd

open Idealize.ShloMosaic Idealize.ShloMosaic.TcCoe Idealize.SL.Sem
open Cert.Lru
open Cert.Kernel20Ideal.Gen.Lru (rect3 rect4 o4Of inb4 y0_lt y2_lt sub3 sub4 emb3_val emb4_val rowNo carry_at col_split sub3_eq)

section
variable (A B : Vec Ideal S4x256x1024 .f32) (g : Vec Ideal S4x8x8x128 .f32) (a b : ℕ → ℕ → ℕ → ℝ) (N : ℕ)

/-- An input block, read through the rectangle of trip `k`. -/
theorem block_at (X : Vec Ideal S4x256x1024 .f32) (x : ℕ → ℕ → ℕ → ℝ)
    (hX : ∀ y : S4x256x1024.Idx, X y = (x (y 0).val (y 2).val (N + (y 1).val) : EReal))
    (q j k : ℕ) (inb : ∀ e, offOf q j k e + S1x8x128.size e ≤ S4x256x1024.size e) (r : Fin 8) (l : Fin 128) :
    X ((rect3 (offOf q j k) inb).emb (ix3 (0 : Fin 1) r l)) = (x q (128 * j + l.val) (N + 8 * k + r.val) : EReal) := by
  have e0 : ((rect3 (offOf q j k) inb).emb (ix3 (0 : Fin 1) r l) 0).val = q := (emb3_val _ inb _ 0).trans (Nat.add_zero q)
  have e1 : ((rect3 (offOf q j k) inb).emb (ix3 (0 : Fin 1) r l) 1).val = 8 * k + r.val := emb3_val _ inb _ 1
  have e2 : ((rect3 (offOf q j k) inb).emb (ix3 (0 : Fin 1) r l) 2).val = 128 * j + l.val := emb3_val _ inb _ 2
  rw [hX, e0, e1, e2, Nat.add_assoc]

variable (hA : ∀ y : S4x256x1024.Idx, A y = (a (y 0).val (y 2).val (N + (y 1).val) : EReal))
  (hB : ∀ y : S4x256x1024.Idx, B y = (b (y 0).val (y 2).val (N + (y 1).val) : EReal))

/-- The states after and before each of the eight times of a trip. -/
def trip (q col k : ℕ) (r : Fin 8) : ℝ := state (a q col) (b q col) (N + 8 * k + r.val + 1)
def early (q col k : ℕ) (r : Fin 8) : ℝ := state (a q col) (b q col) (N + 8 * k + r.val)

theorem trip_first (q col k : ℕ) : trip a b N q col k 0
    = a q col (N + 8 * k + (0 : Fin 8).val) * state (a q col) (b q col) (N + 8 * k) + b q col (N + 8 * k + (0 : Fin 8).val) := rfl
theorem trip_next (q col k : ℕ) (r : Fin 7) : trip a b N q col k r.succ
    = a q col (N + 8 * k + r.succ.val) * trip a b N q col k r.castSucc + b q col (N + 8 * k + r.succ.val) := rfl
theorem early_next (q col k : ℕ) (r : Fin 7) : early a b N q col k r.succ = trip a b N q col k r.castSucc := rfl

/-- The carried rows hold the state before time `n`. -/
def Carries (n : ℕ) (g : Vec Ideal S4x8x8x128 .f32) : Prop :=
  ∀ y : S4x8x8x128.Idx, g y = (state (a (y 0).val (128 * (y 1).val + (y 3).val)) (b (y 0).val (128 * (y 1).val + (y 3).val)) n : EReal)

include hA hB in
theorem carries_next (k : ℕ) (hk : k < 32) (h : Carries a b (N + 8 * k) g) : Carries a b (N + 8 * k + 8) (stepC rowNo A B g hk) := by
  intro y
  unfold stepC pieceC
  rw [show sub4 y = ix4 (0 : Fin 1) (0 : Fin 1) (y 2 : Fin 8) (y 3 : Fin 128) from
    funext fun e => match e with | ⟨0, _⟩ => rfl | ⟨1, _⟩ => rfl | ⟨2, _⟩ => rfl | ⟨3, _⟩ => rfl]
  exact (pay7_at _ _ _ (y 3 : Fin 128) _ _ _ (block_at N A a hA _ _ k _ · _) (block_at N B b hB _ _ k _ · _)
    (carry_at g (fun q col => state (a q col) (b q col) (N + 8 * k)) h _ _ _ · _)
    (trip a b N _ _ k) (trip_first a b N _ _ k) (trip_next a b N _ _ k) _)

include hA hB in
theorem carried_at (h : Carries a b N g) : ∀ k ≤ 32, Carries a b (N + 8 * k) (carried A B g k)
  | 0, _ => h
  | k + 1, hk => by
    rw [carried_succ A B g hk]
    exact carries_next A B _ a b N hA hB k hk (carried_at h k (Nat.le_of_lt hk))

include hA hB in
/-- The first result's block holds the states at each time. -/
theorem blockH_at (h : Carries a b N g) (y : S4x256x1024.Idx) :
    blockH A B g y = (state (a (y 0).val (y 2).val) (b (y 0).val (y 2).val) (N + (y 1).val + 1) : EReal) := by
  have hk := group_lt y
  have hc := carried_at A B g a b N hA hB h _ hk.le
  unfold blockH outH pieceH
  rw [sub3_eq]
  refine (pay5_at _ _ _ (⟨(y 2).val % 128, Nat.mod_lt _ (by decide)⟩ : Fin 128) _ _ _ (block_at N A a hA _ _ _ _ · _) (block_at N B b hB _ _ _ _ · _)
      (carry_at _ (fun q col => state (a q col) (b q col) _) hc _ _ _ · _)
      (trip a b N _ _ _) (trip_first a b N _ _ _) (trip_next a b N _ _ _) _).trans ?_
  unfold trip
  rw [col_split, show N + 8 * ((y 1).val / 8) + ((⟨(y 1).val % 8, Nat.mod_lt _ (by decide)⟩ : Fin 8)).val = N + (y 1).val by
    show N + 8 * ((y 1).val / 8) + (y 1).val % 8 = _; omega]

include hA hB in
/-- The second result's block holds the states before each time. -/
theorem blockP_at (h : Carries a b N g) (y : S4x256x1024.Idx) :
    blockP A B g y = (state (a (y 0).val (y 2).val) (b (y 0).val (y 2).val) (N + (y 1).val) : EReal) := by
  have hk := group_lt y
  have hc := carried_at A B g a b N hA hB h _ hk.le
  unfold blockP outP pieceP
  rw [sub3_eq]
  refine (pay6_at _ _ _ (⟨(y 2).val % 128, Nat.mod_lt _ (by decide)⟩ : Fin 128) _ _ _ (block_at N A a hA _ _ _ _ · _) (block_at N B b hB _ _ _ _ · _)
      (carry_at _ (fun q col => state (a q col) (b q col) _) hc _ _ _ · _)
      (trip a b N _ _ _) (trip_first a b N _ _ _) (trip_next a b N _ _ _) (early a b N _ _ _) rfl (early_next a b N _ _ _) _).trans ?_
  unfold early
  rw [col_split, show N + 8 * ((y 1).val / 8) + ((⟨(y 1).val % 8, Nat.mod_lt _ (by decide)⟩ : Fin 8)).val = N + (y 1).val by
    show N + 8 * ((y 1).val / 8) + (y 1).val % 8 = _; omega]
end

end Cert.Kernel20Ideal.Gen.Fwd

end
-- ==== Proof.ForeWhole.lean ====
module

public import proofs.«01_k».proof.Proof.ForeFrame
public import proofs.«01_k».proof.Proof.ForeBlock
public import proofs.«01_k».proof.Proof.LruWhole

/-! What the forward call's two result arrays hold when the call returns: the state at each time and before it. -/

@[expose] public section

noncomputable section

namespace Cert.Kernel20Ideal.Gen.Fwd

open Idealize.ShloMosaic Idealize.ShloMosaic.TcCoe Idealize.SL.Sem
open Cert.Lru
open Cert.Kernel20Ideal.Gen.Lru (zero_word)

variable (V : Entry Ideal)

/-- The decays and the inputs, as the call finds them. -/
abbrev argA (c : Dev nD) : Whole.Idx → EReal := V c main_arg0
abbrev argB (c : Dev nD) : Whole.Idx → EReal := V c main_arg1

/-- Where each window's block lies: the points go forwards through the times. -/
theorem places : ∀ t : Fin cfg0.N,
    (win0_0.index t (0 : Fin 3) = 0 ∧ win0_0.index t (1 : Fin 3) = t.val ∧ win0_0.index t (2 : Fin 3) = 0)
    ∧ (win0_1.index t (0 : Fin 3) = 0 ∧ win0_1.index t (1 : Fin 3) = t.val ∧ win0_1.index t (2 : Fin 3) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0) :=
  (by decide +kernel : ∀ t : Fin grid0.N, _)

theorem t_lt (t : Fin cfg0.N) : t.val < 9 := lt_of_lt_of_eq t.isLt (show cfg0.N = 9 from N_0)

/-- The place in the whole array of a place of point `t`'s block. -/
def place (t : Fin cfg0.N) (y : S4x256x1024.Idx) : Whole.Idx :=
  ix3 (y 0 : Fin 4) (⟨t.val * 256 + (y 1).val, by
    have h1 : (y 1).val < 256 := (y 1).isLt
    have ht := t_lt t
    omega⟩ : Fin 2304) (y 2 : Fin 1024)

theorem inA_eq (c : Dev nD) (t : Fin cfg0.N) (y : S4x256x1024.Idx) : inA V c t y = argA V c (place t y) := by
  obtain ⟨⟨e0, e1, e2⟩, -⟩ := places t
  unfold inA blockIn
  rw [View.read_apply]
  refine congrArg (argA V c) (funext fun b => Fin.ext ?_)
  match b with
  | ⟨0, _⟩ => show win0_0.index t 0 * 4 + 1 * (y 0).val = (y 0).val; rw [e0]; omega
  | ⟨1, _⟩ => show win0_0.index t 1 * 256 + 1 * (y 1).val = t.val * 256 + (y 1).val; rw [e1]; omega
  | ⟨2, _⟩ => show win0_0.index t 2 * 1024 + 1 * (y 2).val = (y 2).val; rw [e2]; omega

theorem inB_eq (c : Dev nD) (t : Fin cfg0.N) (y : S4x256x1024.Idx) : inB V c t y = argB V c (place t y) := by
  obtain ⟨-, ⟨e0, e1, e2⟩, -, -⟩ := places t
  unfold inB blockIn
  rw [View.read_apply]
  refine congrArg (argB V c) (funext fun b => Fin.ext ?_)
  match b with
  | ⟨0, _⟩ => show win0_1.index t 0 * 4 + 1 * (y 0).val = (y 0).val; rw [e0]; omega
  | ⟨1, _⟩ => show win0_1.index t 1 * 256 + 1 * (y 1).val = t.val * 256 + (y 1).val; rw [e1]; omega
  | ⟨2, _⟩ => show win0_1.index t 2 * 1024 + 1 * (y 2).val = (y 2).val; rw [e2]; omega

theorem pay1_at (y : S4x8x8x128.Idx) : (k0_pay1 (F := Ideal)) y = ((0 : ℝ) : EReal) := by
  unfold k0_pay1; rw [shapeCast_self]; exact zero_word

section
variable (c : Dev nD) (a b : Whole.Idx → ℝ) (hA : ∀ i, argA V c i = (a i : EReal)) (hB : ∀ i, argB V c i = (b i : EReal))

/-- An entry of a block, as the entry of its column. -/
theorem place_line (X : Whole.Idx → ℝ) (t : Fin cfg0.N) (y : S4x256x1024.Idx) :
    X (place t y) = line X (y 0).val (y 2).val (256 * t.val + (y 1).val) :=
  line_at X (place t y) _ (by
    show 256 * t.val + (y 1).val = t.val * 256 + (y 1).val
    omega)

include hA in
theorem inA_at (t : Fin cfg0.N) (y : S4x256x1024.Idx) : inA V c t y = (line a (y 0).val (y 2).val (256 * t.val + (y 1).val) : EReal) := by
  rw [inA_eq, hA, place_line a t y]
include hB in
theorem inB_at (t : Fin cfg0.N) (y : S4x256x1024.Idx) : inB V c t y = (line b (y 0).val (y 2).val (256 * t.val + (y 1).val) : EReal) := by
  rw [inB_eq, hB, place_line b t y]

include hA hB in
/-- Every point starts with the states the earlier times left. -/
theorem starts (n : ℕ) (h : n ≤ cfg0.N) : Carries (line a) (line b) (256 * n) (startAt V c n h) := by
  induction n with
  | zero => exact fun y => pay1_at y
  | succ n ih =>
    have := carried_at (inA V c ⟨n, h⟩) (inB V c ⟨n, h⟩) _ (line a) (line b) (256 * n)
      (fun y => inA_at V c a hA ⟨n, h⟩ y) (fun y => inB_at V c b hB ⟨n, h⟩ y) (ih (Nat.le_of_lt h)) 32 le_rfl
    exact this

/-- The second result array. -/
def resP : Buf (Elt Ideal) ((c : Thread nD τ).loc main_v0_1) := fun (i : Whole.Idx) => (beforeAll a b i : EReal)

theorem place_before (t : Fin cfg0.N) (y : S4x256x1024.Idx) :
    beforeAll a b (place t y) = state (line a (y 0).val (y 2).val) (line b (y 0).val (y 2).val) (256 * t.val + (y 1).val) := by
  show state _ _ (t.val * 256 + (y 1).val) = _
  rw [Nat.mul_comm]
  rfl

include hA hB in
theorem outP_at (t : Fin cfg0.N) (y : S4x256x1024.Idx) : outPAt V c t y = (beforeAll a b (place t y) : EReal) := by
  unfold outPAt
  rw [place_before]
  exact blockP_at _ _ _ (line a) (line b) (256 * t.val) (inA_at V c a hA t) (inB_at V c b hB t) (starts V c a b hA hB _ _) y

theorem emb_3 (t : Fin cfg0.N) (y : S4x256x1024.Idx) : ((cfg0.win 3).blk t).view.emb y = place t y := by
  obtain ⟨-, -, -, ⟨e0, e1, e2⟩⟩ := places t
  refine funext fun b => Fin.ext ?_
  match b with
  | ⟨0, _⟩ => show win0_3.index t 0 * 4 + 1 * (y 0).val = (y 0).val; rw [e0]; omega
  | ⟨1, _⟩ => show win0_3.index t 1 * 256 + 1 * (y 1).val = t.val * 256 + (y 1).val; rw [e1]; omega
  | ⟨2, _⟩ => show win0_3.index t 2 * 1024 + 1 * (y 2).val = (y 2).val; rw [e2]; omega

include hA hB in
theorem written_3 (t : Fin cfg0.N) (hf : (cfg0.win 3).flush t = true) :
    (plan V c).flushed 3 t = ((cfg0.win 3).blk t).view.read (Elt Ideal) (resP c a b) := by
  show (cfg0.win 3).cut (grid0.coords t) ((plan V c).after 3 t) = _
  rw [after_3]
  funext y
  show outPAt V c t ((cfg0.win 3).xinj (grid0.coords t) y) = resP c a b (((cfg0.win 3).blk t).view.emb y)
  rw [show ((cfg0.win 3).blk t).view.emb y = place t y from emb_3 t y]
  exact outP_at V c a b hA hB t y
/-- The first result array. -/
def resH : Buf (Elt Ideal) ((c : Thread nD τ).loc main_v0_0) := fun (i : Whole.Idx) => (stateAll a b i : EReal)

theorem place_state (t : Fin cfg0.N) (y : S4x256x1024.Idx) :
    stateAll a b (place t y) = state (line a (y 0).val (y 2).val) (line b (y 0).val (y 2).val) (256 * t.val + (y 1).val + 1) := by
  show state _ _ (t.val * 256 + (y 1).val + 1) = _
  rw [Nat.mul_comm]
  rfl

include hA hB in
theorem outH_at (t : Fin cfg0.N) (y : S4x256x1024.Idx) : outHAt V c t y = (stateAll a b (place t y) : EReal) := by
  unfold outHAt
  rw [place_state]
  exact blockH_at _ _ _ (line a) (line b) (256 * t.val) (inA_at V c a hA t) (inB_at V c b hB t) (starts V c a b hA hB _ _) y

theorem emb_2 (t : Fin cfg0.N) (y : S4x256x1024.Idx) : ((cfg0.win 2).blk t).view.emb y = place t y := by
  obtain ⟨-, -, ⟨e0, e1, e2⟩, -⟩ := places t
  refine funext fun b => Fin.ext ?_
  match b with
  | ⟨0, _⟩ => show win0_2.index t 0 * 4 + 1 * (y 0).val = (y 0).val; rw [e0]; omega
  | ⟨1, _⟩ => show win0_2.index t 1 * 256 + 1 * (y 1).val = t.val * 256 + (y 1).val; rw [e1]; omega
  | ⟨2, _⟩ => show win0_2.index t 2 * 1024 + 1 * (y 2).val = (y 2).val; rw [e2]; omega

include hA hB in
theorem written_2 (t : Fin cfg0.N) (hf : (cfg0.win 2).flush t = true) :
    (plan V c).flushed 2 t = ((cfg0.win 2).blk t).view.read (Elt Ideal) (resH c a b) := by
  show (cfg0.win 2).cut (grid0.coords t) ((plan V c).after 2 t) = _
  rw [after_2]
  funext y
  show outHAt V c t ((cfg0.win 2).xinj (grid0.coords t) y) = resH c a b (((cfg0.win 2).blk t).view.emb y)
  rw [show ((cfg0.win 2).blk t).view.emb y = place t y from emb_2 t y]
  exact outH_at V c a b hA hB t y
end

/-- The point that writes the block an index lies in. -/
def writer (i : Whole.Idx) : Fin grid0.N :=
  ⟨(i 1).val / 256, lt_of_lt_of_eq (by have h1 : (i 1).val < 2304 := (i 1).isLt; omega : _ < 9) N_0.symm⟩

theorem reached_3 (i : Whole.Idx) : (cfg0.win 3).flush (writer i) = true ∧ i ∈ ((cfg0.win 3).blk (writer i)).view.set := by
  have h0 : (i 0).val < 4 := (i 0).isLt
  have h1 : (i 1).val < 2304 := (i 1).isLt
  have h2 : (i 2).val < 1024 := (i 2).isLt
  have hv : (writer i).val = (i 1).val / 256 := rfl
  obtain ⟨-, -, -, ⟨e0, e1, e2⟩⟩ := places (writer i)
  refine ⟨flush0_3 _, ?_⟩
  show i ∈ ((View.whole main_v0_1).slice (win0_3.rect (writer i))).set
  rw [View.set_slice_whole, Rect.mem_set_unit]
  intro b
  match b with
  | ⟨0, _⟩ => show win0_3.index (writer i) 0 * 4 ≤ (i 0).val ∧ (i 0).val < win0_3.index (writer i) 0 * 4 + 4; rw [e0]; omega
  | ⟨1, _⟩ => show win0_3.index (writer i) 1 * 256 ≤ (i 1).val ∧ (i 1).val < win0_3.index (writer i) 1 * 256 + 256; rw [e1, hv]; omega
  | ⟨2, _⟩ => show win0_3.index (writer i) 2 * 1024 ≤ (i 2).val ∧ (i 2).val < win0_3.index (writer i) 2 * 1024 + 1024; rw [e2]; omega

theorem reached_2 (i : Whole.Idx) : (cfg0.win 2).flush (writer i) = true ∧ i ∈ ((cfg0.win 2).blk (writer i)).view.set := by
  have h0 : (i 0).val < 4 := (i 0).isLt
  have h1 : (i 1).val < 2304 := (i 1).isLt
  have h2 : (i 2).val < 1024 := (i 2).isLt
  have hv : (writer i).val = (i 1).val / 256 := rfl
  obtain ⟨-, -, ⟨e0, e1, e2⟩, -⟩ := places (writer i)
  refine ⟨flush0_2 _, ?_⟩
  show i ∈ ((View.whole main_v0_0).slice (win0_2.rect (writer i))).set
  rw [View.set_slice_whole, Rect.mem_set_unit]
  intro b
  match b with
  | ⟨0, _⟩ => show win0_2.index (writer i) 0 * 4 ≤ (i 0).val ∧ (i 0).val < win0_2.index (writer i) 0 * 4 + 4; rw [e0]; omega
  | ⟨1, _⟩ => show win0_2.index (writer i) 1 * 256 ≤ (i 1).val ∧ (i 1).val < win0_2.index (writer i) 1 * 256 + 256; rw [e1, hv]; omega
  | ⟨2, _⟩ => show win0_2.index (writer i) 2 * 1024 ≤ (i 2).val ∧ (i 2).val < win0_2.index (writer i) 2 * 1024 + 1024; rw [e2]; omega

section
variable (c : Dev nD) (a b : Whole.Idx → ℝ) (hA : ∀ i, argA V c i = (a i : EReal)) (hB : ∀ i, argB V c i = (b i : EReal))

include hA hB in
theorem array_3 : (plan V c).arrAt 3 cfg0.N = resP c a b :=
  (plan V c).arrAt_eq_of_cover 3 (resP c a b) (written_3 V c a b hA hB) fun i => ⟨writer i, (reached_3 i).1, (reached_3 i).2⟩
include hA hB in
theorem array_2 : (plan V c).arrAt 2 cfg0.N = resH c a b :=
  (plan V c).arrAt_eq_of_cover 2 (resH c a b) (written_2 V c a b hA hB) fun i => ⟨writer i, (reached_2 i).1, (reached_2 i).2⟩
end

end Cert.Kernel20Ideal.Gen.Fwd

end
-- ==== Proof.TwoRun.lean ====
module

public import proofs.«01_k».proof.Proof.Gen.Reference20Ideal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference's run: a scan over the times, then the gradient's scan back, each a counted loop of 2304 trips. -/

@[expose] public section

noncomputable section

namespace Cert.Reference20Ideal.Two

open Cert.Reference20Ideal Cert.Reference20Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg unscopedBufs_held)

variable {F : FTy → Type} [FloatOps F]

/-- The arrays' types. -/
abbrev RowF (F : FTy → Type) := (⟨S4x1024, .f32⟩ : BufTy).Contents (Elt F)
abbrev Times (F : FTy → Type) := (⟨S2304x4x1024, .f32⟩ : BufTy).Contents (Elt F)
abbrev Rows (F : FTy → Type) := (⟨S4x2304x1024, .f32⟩ : BufTy).Contents (Elt F)
abbrev Num (F : FTy → Type) := (⟨S_, .i32⟩ : BufTy).Contents (Elt F)
abbrev One (F : FTy → Type) := (⟨S_, .f32⟩ : BufTy).Contents (Elt F)

/-- One time's row out of an array by time. -/
abbrev pick (x : TRef sig ⟨S2304x4x1024, .f32⟩) (i : TRef sig ⟨S_, .i32⟩) (φ : fn_dynamic_index_in_dim.Bufs) : List (HloOp τ sig (Elt F)) :=
  [ TRef.nullary φ.c (constantI S_ 32 0#32),
    TRef.nullary φ.c_0 (constantI S_ 32 0#32),
    TRef.unaryIndexed x ![i, φ.c, φ.c_0] φ.v0 (fun x i => Host.dynamicSlice S1x4x1024 x (fun k => (i k (Shape.Idx.first h_S_)).toInt) sliceFits_S2304x4x1024_S1x4x1024),
    TRef.reshape φ.v0 φ.v1 (rfl : (.f32 : EltTy) = .f32) shapeCasts_S1x4x1024_S4x1024 ]
/-- One time's row into an array by time. -/
abbrev put (x : TRef sig ⟨S2304x4x1024, .f32⟩) (w : TRef sig ⟨S4x1024, .f32⟩) (i : TRef sig ⟨S_, .i32⟩) (φ : fn_dynamic_update_index_in_dim.Bufs) : List (HloOp τ sig (Elt F)) :=
  [ TRef.unary w φ.v0 (broadcastInDim S1x4x1024 ![1, 2] bcast_S4x1024_S1x4x1024_1_2),
    TRef.nullary φ.c (constantI S_ 32 0#32),
    TRef.nullary φ.c_0 (constantI S_ 32 0#32),
    TRef.binaryIndexed x φ.v0 ![i, φ.c, φ.c_0] φ.v1 (fun x u i => Host.dynamicUpdateSlice x u (fun k => (i k (Shape.Idx.first h_S_)).toInt) updateFits_S2304x4x1024_S1x4x1024) ]

/-- What a core carries beside its buffers. -/
abbrev owed (c : Dev nD) : sProp (MT nD τ sig Unit (Elt F) ℕ (Option PUnit) ℕ) := iprop(∃ W, owes (c : Thread nD τ) (0 : CellTallies nD τ sig Unit) W)

/-- Operations that touch only a core's buffers, that allocate none, and that write only given ones. -/
abbrev Within (l : List (HloOp τ sig (Elt F))) : Prop := l.Forall fun op => op.bufs ⊆ tcRefs τ sig
abbrev NoneFresh (l : List (HloOp τ sig (Elt F))) : Prop := l.Forall fun op => op.fresh = ∅
abbrev Writing (l : List (HloOp τ sig (Elt F))) (W : List (Ref sig .tc)) : Prop := l.Forall fun op => op.writes ⊆ (W.map (Proc.devRef (τ := τ) .tc)).toFinset

/-- What @main does before the scan over the times. -/
abbrev opening : List (HloOp τ sig (Elt F)) :=
  [ nullary main_cst (constant S_ .f32 0x00000000#32),
    unary main_cst main_v0 (broadcastInDim S4x1024 ![] bcast_S_S4x1024 : One F → RowF F),
    unary main_arg0 main_v1 ((transpose S2304x4x1024 [1, 0, 2] · transposes_S4x2304x1024_S2304x4x1024_1_0_2) : Rows F → Times F),
    unary main_arg1 main_v2 ((transpose S2304x4x1024 [1, 0, 2] · transposes_S4x2304x1024_S2304x4x1024_1_0_2) : Rows F → Times F),
    nullary main_cst_0 (constant S_ .f32 0x00000000#32),
    unary main_cst_0 main_v3 (broadcastInDim S2304x4x1024 ![] bcast_S_S2304x4x1024 : One F → Times F),
    nullary main_cst_1 (constant S_ .f32 0x00000000#32),
    unary main_cst_1 main_v4 (broadcastInDim S2304x4x1024 ![] bcast_S_S2304x4x1024 : One F → Times F),
    nullary main_c (constantI S_ 32 0#32),
    unary main_v1 main_v5_0 id,
    unary main_v2 main_v5_1 id,
    unary main_c main_v5_2 id,
    unary main_v0 main_v5_3 id,
    unary main_v3 main_v5_4 id,
    unary main_v4 main_v5_5 id ]
abbrev opening_W : List (Ref sig .tc) := [main_cst, main_v0, main_v1, main_v2, main_cst_0, main_v3, main_cst_1, main_v4, main_c, main_v5_0, main_v5_1, main_v5_2, main_v5_3, main_v5_4, main_v5_5]
theorem opening_sub : Within (F := F) opening :=
  ⟨nullary_bufs_sub .., unary_bufs_sub .., unary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub ..⟩
theorem opening_fresh : NoneFresh (F := F) opening := forall_fresh_of_map rfl
theorem opening_writes : Writing (F := F) opening opening_W :=
  forall_writes_sub_of_map rfl
/-- Stretch 0 of the scan's body. -/
abbrev fore0 : List (HloOp τ sig (Elt F)) := pick (.of main_v5_0) (.of main_v5_2) main_while0b_call0
abbrev fore0_W : List (Ref sig .tc) := [main_while0b_call0_c, main_while0b_call0_c_0, main_while0b_call0_v0, main_while0b_v15]
theorem fore0_sub : Within (F := F) fore0 :=
  ⟨nullary_bufs_sub .., nullary_bufs_sub .., unaryIndexed_bufs_sub .., reshape_bufs_sub ..⟩
theorem fore0_fresh : NoneFresh (F := F) fore0 := forall_fresh_of_map rfl
theorem fore0_writes : Writing (F := F) fore0 fore0_W :=
  forall_writes_sub_of_map rfl
/-- Stretch 1 of the scan's body. -/
abbrev fore1 : List (HloOp τ sig (Elt F)) := pick (.of main_v5_1) (.of main_v5_2) main_while0b_call1
abbrev fore1_W : List (Ref sig .tc) := [main_while0b_call1_c, main_while0b_call1_c_0, main_while0b_call1_v0, main_while0b_v16]
theorem fore1_sub : Within (F := F) fore1 :=
  ⟨nullary_bufs_sub .., nullary_bufs_sub .., unaryIndexed_bufs_sub .., reshape_bufs_sub ..⟩
theorem fore1_fresh : NoneFresh (F := F) fore1 := forall_fresh_of_map rfl
theorem fore1_writes : Writing (F := F) fore1 fore1_W :=
  forall_writes_sub_of_map rfl
/-- Stretch 2 of the scan's body. -/
abbrev fore2 : List (HloOp τ sig (Elt F)) :=
  [ binary main_while0b_v15 main_v5_3 main_while0b_v17 (mulf : RowF F → RowF F → RowF F),
    binary main_while0b_v17 main_while0b_v16 main_while0b_v18 (addf : RowF F → RowF F → RowF F) ]
abbrev fore2_W : List (Ref sig .tc) := [main_while0b_v17, main_while0b_v18]
theorem fore2_sub : Within (F := F) fore2 :=
  ⟨binary_bufs_sub .., binary_bufs_sub ..⟩
theorem fore2_fresh : NoneFresh (F := F) fore2 := forall_fresh_of_map rfl
theorem fore2_writes : Writing (F := F) fore2 fore2_W :=
  forall_writes_sub_of_map rfl
/-- Stretch 3 of the scan's body. -/
abbrev fore3 : List (HloOp τ sig (Elt F)) := put (.of main_v5_4) (.of main_while0b_v18) (.of main_v5_2) main_while0b_call2
abbrev fore3_W : List (Ref sig .tc) := [main_while0b_call2_v0, main_while0b_call2_c, main_while0b_call2_c_0, main_while0b_v19]
theorem fore3_sub : Within (F := F) fore3 :=
  ⟨unary_bufs_sub .., nullary_bufs_sub .., nullary_bufs_sub .., binaryIndexed_bufs_sub ..⟩
theorem fore3_fresh : NoneFresh (F := F) fore3 := forall_fresh_of_map rfl
theorem fore3_writes : Writing (F := F) fore3 fore3_W :=
  forall_writes_sub_of_map rfl
/-- Stretch 4 of the scan's body. -/
abbrev fore4 : List (HloOp τ sig (Elt F)) := put (.of main_v5_5) (.of main_v5_3) (.of main_v5_2) main_while0b_call3
abbrev fore4_W : List (Ref sig .tc) := [main_while0b_call3_v0, main_while0b_call3_c, main_while0b_call3_c_0, main_while0b_v20]
theorem fore4_sub : Within (F := F) fore4 :=
  ⟨unary_bufs_sub .., nullary_bufs_sub .., nullary_bufs_sub .., binaryIndexed_bufs_sub ..⟩
theorem fore4_fresh : NoneFresh (F := F) fore4 := forall_fresh_of_map rfl
theorem fore4_writes : Writing (F := F) fore4 fore4_W :=
  forall_writes_sub_of_map rfl
/-- Stretch 5 of the scan's body. -/
abbrev fore5 : List (HloOp τ sig (Elt F)) :=
  [ nullary main_while0b_c_12 (constantI S_ 32 1#32),
    binary main_v5_2 main_while0b_c_12 main_while0b_v21 (addi : Num F → Num F → Num F),
    unary main_while0b_v21 main_v5_2 id,
    unary main_while0b_v18 main_v5_3 id,
    unary main_while0b_v19 main_v5_4 id,
    unary main_while0b_v20 main_v5_5 id ]
abbrev fore5_W : List (Ref sig .tc) := [main_while0b_c_12, main_while0b_v21, main_v5_2, main_v5_3, main_v5_4, main_v5_5]
theorem fore5_sub : Within (F := F) fore5 :=
  ⟨nullary_bufs_sub .., binary_bufs_sub .., unary_bufs_sub .., unary_bufs_sub .., unary_bufs_sub .., unary_bufs_sub ..⟩
theorem fore5_fresh : NoneFresh (F := F) fore5 := forall_fresh_of_map rfl
theorem fore5_writes : Writing (F := F) fore5 fore5_W :=
  forall_writes_sub_of_map rfl
/-- What @main does between the scan and its gradient. -/
abbrev between : List (HloOp τ sig (Elt F)) :=
  [ unary main_v5_4 main_v6 ((transpose S4x2304x1024 [1, 0, 2] · transposes_S2304x4x1024_S4x2304x1024_1_0_2) : Times F → Rows F),
    nullary main_cst_2 (constant S_ .f32 0x00000000#32),
    unary main_cst_2 main_v7 (broadcastInDim S4x1024 ![] bcast_S_S4x1024 : One F → RowF F),
    unary main_arg2 main_v8 ((transpose S2304x4x1024 [1, 0, 2] · transposes_S4x2304x1024_S2304x4x1024_1_0_2) : Rows F → Times F),
    nullary main_cst_3 (constant S_ .f32 0x00000000#32),
    unary main_cst_3 main_v9 (broadcastInDim S4x1024 ![] bcast_S_S4x1024 : One F → RowF F),
    nullary main_cst_4 (constant S_ .f32 0x00000000#32),
    unary main_cst_4 main_v10 (broadcastInDim S2304x4x1024 ![] bcast_S_S2304x4x1024 : One F → Times F),
    nullary main_cst_5 (constant S_ .f32 0x00000000#32),
    unary main_cst_5 main_v11 (broadcastInDim S2304x4x1024 ![] bcast_S_S2304x4x1024 : One F → Times F),
    nullary main_c_6 (constantI S_ 32 0#32),
    unary main_v8 main_v12_0 id,
    unary main_v5_5 main_v12_1 id,
    unary main_v1 main_v12_2 id,
    unary main_c_6 main_v12_3 id,
    unary main_v9 main_v12_4 id,
    unary main_v10 main_v12_5 id,
    unary main_v11 main_v12_6 id ]
abbrev between_W : List (Ref sig .tc) := [main_v6, main_cst_2, main_v7, main_v8, main_cst_3, main_v9, main_cst_4, main_v10, main_cst_5, main_v11, main_c_6, main_v12_0, main_v12_1, main_v12_2, main_v12_3, main_v12_4, main_v12_5, main_v12_6]
theorem between_sub : Within (F := F) between :=
  ⟨unary_bufs_sub .., nullary_bufs_sub .., unary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub ..⟩
theorem between_fresh : NoneFresh (F := F) between := forall_fresh_of_map rfl
theorem between_writes : Writing (F := F) between between_W :=
  forall_writes_sub_of_map rfl
/-- Stretch 0 of the gradient's body. -/
abbrev aft0 : List (HloOp τ sig (Elt F)) :=
  [ nullary main_while1b_c_13 (constantI S_ 32 2304#32),
    binary main_while1b_c_13 main_v12_3 main_while1b_v15 (subi : Num F → Num F → Num F),
    nullary main_while1b_c_14 (constantI S_ 32 1#32),
    binary main_while1b_v15 main_while1b_c_14 main_while1b_v16 (subi : Num F → Num F → Num F) ]
abbrev aft0_W : List (Ref sig .tc) := [main_while1b_c_13, main_while1b_v15, main_while1b_c_14, main_while1b_v16]
theorem aft0_sub : Within (F := F) aft0 :=
  ⟨nullary_bufs_sub .., binary_bufs_sub .., nullary_bufs_sub .., binary_bufs_sub ..⟩
theorem aft0_fresh : NoneFresh (F := F) aft0 := forall_fresh_of_map rfl
theorem aft0_writes : Writing (F := F) aft0 aft0_W :=
  forall_writes_sub_of_map rfl
/-- Stretch 1 of the gradient's body. -/
abbrev aft1 : List (HloOp τ sig (Elt F)) := pick (.of main_v12_0) (.of main_while1b_v16) main_while1b_call4
abbrev aft1_W : List (Ref sig .tc) := [main_while1b_call4_c, main_while1b_call4_c_0, main_while1b_call4_v0, main_while1b_v17]
theorem aft1_sub : Within (F := F) aft1 :=
  ⟨nullary_bufs_sub .., nullary_bufs_sub .., unaryIndexed_bufs_sub .., reshape_bufs_sub ..⟩
theorem aft1_fresh : NoneFresh (F := F) aft1 := forall_fresh_of_map rfl
theorem aft1_writes : Writing (F := F) aft1 aft1_W :=
  forall_writes_sub_of_map rfl
/-- Stretch 2 of the gradient's body. -/
abbrev aft2 : List (HloOp τ sig (Elt F)) := pick (.of main_v12_1) (.of main_while1b_v16) main_while1b_call5
abbrev aft2_W : List (Ref sig .tc) := [main_while1b_call5_c, main_while1b_call5_c_0, main_while1b_call5_v0, main_while1b_v18]
theorem aft2_sub : Within (F := F) aft2 :=
  ⟨nullary_bufs_sub .., nullary_bufs_sub .., unaryIndexed_bufs_sub .., reshape_bufs_sub ..⟩
theorem aft2_fresh : NoneFresh (F := F) aft2 := forall_fresh_of_map rfl
theorem aft2_writes : Writing (F := F) aft2 aft2_W :=
  forall_writes_sub_of_map rfl
/-- Stretch 3 of the gradient's body. -/
abbrev aft3 : List (HloOp τ sig (Elt F)) := pick (.of main_v12_2) (.of main_while1b_v16) main_while1b_call6
abbrev aft3_W : List (Ref sig .tc) := [main_while1b_call6_c, main_while1b_call6_c_0, main_while1b_call6_v0, main_while1b_v19]
theorem aft3_sub : Within (F := F) aft3 :=
  ⟨nullary_bufs_sub .., nullary_bufs_sub .., unaryIndexed_bufs_sub .., reshape_bufs_sub ..⟩
theorem aft3_fresh : NoneFresh (F := F) aft3 := forall_fresh_of_map rfl
theorem aft3_writes : Writing (F := F) aft3 aft3_W :=
  forall_writes_sub_of_map rfl
/-- Stretch 4 of the gradient's body. -/
abbrev aft4 : List (HloOp τ sig (Elt F)) :=
  [ binary main_v12_4 main_while1b_v17 main_while1b_v20 (addf : RowF F → RowF F → RowF F),
    binary main_while1b_v19 main_while1b_v20 main_while1b_v21 (mulf : RowF F → RowF F → RowF F),
    binary main_while1b_v20 main_while1b_v18 main_while1b_v22 (mulf : RowF F → RowF F → RowF F) ]
abbrev aft4_W : List (Ref sig .tc) := [main_while1b_v20, main_while1b_v21, main_while1b_v22]
theorem aft4_sub : Within (F := F) aft4 :=
  ⟨binary_bufs_sub .., binary_bufs_sub .., binary_bufs_sub ..⟩
theorem aft4_fresh : NoneFresh (F := F) aft4 := forall_fresh_of_map rfl
theorem aft4_writes : Writing (F := F) aft4 aft4_W :=
  forall_writes_sub_of_map rfl
/-- Stretch 5 of the gradient's body. -/
abbrev aft5 : List (HloOp τ sig (Elt F)) := put (.of main_v12_5) (.of main_while1b_v22) (.of main_while1b_v16) main_while1b_call7
abbrev aft5_W : List (Ref sig .tc) := [main_while1b_call7_v0, main_while1b_call7_c, main_while1b_call7_c_0, main_while1b_v23]
theorem aft5_sub : Within (F := F) aft5 :=
  ⟨unary_bufs_sub .., nullary_bufs_sub .., nullary_bufs_sub .., binaryIndexed_bufs_sub ..⟩
theorem aft5_fresh : NoneFresh (F := F) aft5 := forall_fresh_of_map rfl
theorem aft5_writes : Writing (F := F) aft5 aft5_W :=
  forall_writes_sub_of_map rfl
/-- Stretch 6 of the gradient's body. -/
abbrev aft6 : List (HloOp τ sig (Elt F)) := put (.of main_v12_6) (.of main_while1b_v20) (.of main_while1b_v16) main_while1b_call8
abbrev aft6_W : List (Ref sig .tc) := [main_while1b_call8_v0, main_while1b_call8_c, main_while1b_call8_c_0, main_while1b_v24]
theorem aft6_sub : Within (F := F) aft6 :=
  ⟨unary_bufs_sub .., nullary_bufs_sub .., nullary_bufs_sub .., binaryIndexed_bufs_sub ..⟩
theorem aft6_fresh : NoneFresh (F := F) aft6 := forall_fresh_of_map rfl
theorem aft6_writes : Writing (F := F) aft6 aft6_W :=
  forall_writes_sub_of_map rfl
/-- Stretch 7 of the gradient's body. -/
abbrev aft7 : List (HloOp τ sig (Elt F)) :=
  [ nullary main_while1b_c_15 (constantI S_ 32 1#32),
    binary main_v12_3 main_while1b_c_15 main_while1b_v25 (addi : Num F → Num F → Num F),
    unary main_while1b_v25 main_v12_3 id,
    unary main_while1b_v21 main_v12_4 id,
    unary main_while1b_v23 main_v12_5 id,
    unary main_while1b_v24 main_v12_6 id ]
abbrev aft7_W : List (Ref sig .tc) := [main_while1b_c_15, main_while1b_v25, main_v12_3, main_v12_4, main_v12_5, main_v12_6]
theorem aft7_sub : Within (F := F) aft7 :=
  ⟨nullary_bufs_sub .., binary_bufs_sub .., unary_bufs_sub .., unary_bufs_sub .., unary_bufs_sub .., unary_bufs_sub ..⟩
theorem aft7_fresh : NoneFresh (F := F) aft7 := forall_fresh_of_map rfl
theorem aft7_writes : Writing (F := F) aft7 aft7_W :=
  forall_writes_sub_of_map rfl
/-- What @main does at the end. -/
abbrev closing : List (HloOp τ sig (Elt F)) :=
  [ unary main_v12_6 main_v13 ((transpose S4x2304x1024 [1, 0, 2] · transposes_S2304x4x1024_S4x2304x1024_1_0_2) : Times F → Rows F),
    unary main_v12_5 main_v14 ((transpose S4x2304x1024 [1, 0, 2] · transposes_S2304x4x1024_S4x2304x1024_1_0_2) : Times F → Rows F) ]
abbrev closing_W : List (Ref sig .tc) := [main_v13, main_v14]
theorem closing_sub : Within (F := F) closing :=
  ⟨unary_bufs_sub .., unary_bufs_sub ..⟩
theorem closing_fresh : NoneFresh (F := F) closing := forall_fresh_of_map rfl
theorem closing_writes : Writing (F := F) closing closing_W :=
  forall_writes_sub_of_map rfl

theorem main_items (c : Dev nD) : main (F := F) c = (Pipeline.chain [seq opening, HostLoop.enter 0, seq between,
    HostLoop.enter 1, seq closing] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons, chain_seq_cons]
  chain_rfl
theorem fore_items : main_while0_body (F := F) = (Pipeline.chain [seq fore0, seq fore1, seq fore2, seq fore3, seq fore4, seq fore5] : Prog (TpuEff nD τ sig (Elt F) (HostLoop.Sig (Pipeline.Sig Λ₀ (Fin 0) fun p => (pcfgs (F := F) p).Adm) 2) .tc) PUnit) := by
  rewrite [Pipeline.chain_cons, Pipeline.chain_cons, chain_seq_cons, Pipeline.chain_cons, Pipeline.chain_cons, chain_seq_cons]
  chain_rfl
theorem aft_items : main_while1_body (F := F) = (Pipeline.chain [seq aft0, seq aft1, seq aft2, seq aft3, seq aft4, seq aft5, seq aft6, seq aft7] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, chain_seq_cons, Pipeline.chain_cons, Pipeline.chain_cons, chain_seq_cons]
  chain_rfl

/-- The scan's body and the gradient's. -/
abbrev foreI : List (List (HloOp τ sig (Elt F))) := [fore0, fore1, fore2, fore3, fore4, fore5]
abbrev aftI : List (List (HloOp τ sig (Elt F))) := [aft0, aft1, aft2, aft3, aft4, aft5, aft6, aft7]
theorem plain_opening : Plain (F := F) [opening] := .cons opening_sub (hf := List.forall_iff_forall_mem.mp opening_fresh) .nil
theorem plain_fore : Plain (foreI (F := F)) := .cons fore0_sub (hf := List.forall_iff_forall_mem.mp fore0_fresh) (.cons fore1_sub (hf := List.forall_iff_forall_mem.mp fore1_fresh) (.cons fore2_sub (hf := List.forall_iff_forall_mem.mp fore2_fresh) (.cons fore3_sub (hf := List.forall_iff_forall_mem.mp fore3_fresh) (.cons fore4_sub (hf := List.forall_iff_forall_mem.mp fore4_fresh) (.cons fore5_sub (hf := List.forall_iff_forall_mem.mp fore5_fresh) .nil)))))
theorem plain_between : Plain (F := F) [between] := .cons between_sub (hf := List.forall_iff_forall_mem.mp between_fresh) .nil
theorem plain_aft : Plain (aftI (F := F)) := .cons aft0_sub (hf := List.forall_iff_forall_mem.mp aft0_fresh) (.cons aft1_sub (hf := List.forall_iff_forall_mem.mp aft1_fresh) (.cons aft2_sub (hf := List.forall_iff_forall_mem.mp aft2_fresh) (.cons aft3_sub (hf := List.forall_iff_forall_mem.mp aft3_fresh) (.cons aft4_sub (hf := List.forall_iff_forall_mem.mp aft4_fresh) (.cons aft5_sub (hf := List.forall_iff_forall_mem.mp aft5_fresh) (.cons aft6_sub (hf := List.forall_iff_forall_mem.mp aft6_fresh) (.cons aft7_sub (hf := List.forall_iff_forall_mem.mp aft7_fresh) .nil)))))))
theorem plain_closing : Plain (F := F) [closing] := .cons closing_sub (hf := List.forall_iff_forall_mem.mp closing_fresh) .nil

/-- The test before a trip. -/
abbrev foreTest : List (HloOp τ sig (Elt F)) :=
  [ nullary main_while0c_c_12 (constantI S_ 32 2304#32),
    binary main_v5_2 main_while0c_c_12 main_while0c_v15 (cmpi .slt) ]
abbrev foreTest_W : List (Ref sig .tc) := [main_while0c_c_12, main_while0c_v15]
theorem foreTest_writes : Writing (F := F) foreTest foreTest_W :=
  forall_writes_sub_of_map rfl

/-- The test before a trip. -/
abbrev aftTest : List (HloOp τ sig (Elt F)) :=
  [ nullary main_while1c_c_13 (constantI S_ 32 2304#32),
    binary main_v12_3 main_while1c_c_13 main_while1c_v15 (cmpi .slt) ]
abbrev aftTest_W : List (Ref sig .tc) := [main_while1c_c_13, main_while1c_v15]
theorem aftTest_writes : Writing (F := F) aftTest aftTest_W :=
  forall_writes_sub_of_map rfl

/-- A buffer the body does not write stays. -/
theorem fore_kept (V : Valuation τ sig (Elt F)) (b : Ref sig .tc) (h : b ∉ fore0_W ++ fore1_W ++ fore2_W ++ fore3_W ++ fore4_W ++ fore5_W) : afterL foreI V (Proc.devRef .tc b) = V (Proc.devRef .tc b) := by
  simp only [List.mem_append, not_or] at h
  simp only [afterL_cons, afterL_nil]
  rw [after_of_writes_sub fore5 _ fore5_writes (by simp only [h, not_false_iff]), after_of_writes_sub fore4 _ fore4_writes (by simp only [h, not_false_iff]), after_of_writes_sub fore3 _ fore3_writes (by simp only [h, not_false_iff]), after_of_writes_sub fore2 _ fore2_writes (by simp only [h, not_false_iff]), after_of_writes_sub fore1 _ fore1_writes (by simp only [h, not_false_iff]), after_of_writes_sub fore0 _ fore0_writes (by simp only [h, not_false_iff])]
/-- Nor do any number of trips change it. -/
theorem fore_trips_kept (W : Dev nD → Valuation τ sig (Elt F)) (c : Dev nD) (b : Ref sig .tc) (h : b ∉ fore0_W ++ fore1_W ++ fore2_W ++ fore3_W ++ fore4_W ++ fore5_W) (h' : b ∉ foreTest_W) :
    ∀ k, atTrip foreTest foreI W k c (Proc.devRef .tc b) = W c (Proc.devRef .tc b)
  | 0 => rfl
  | k + 1 => by
    rw [atTrip_succ, fore_kept _ b h, after_of_writes_sub foreTest _ foreTest_writes h', fore_trips_kept W c b h h' k]

/-- A buffer the body does not write stays. -/
theorem aft_kept (V : Valuation τ sig (Elt F)) (b : Ref sig .tc) (h : b ∉ aft0_W ++ aft1_W ++ aft2_W ++ aft3_W ++ aft4_W ++ aft5_W ++ aft6_W ++ aft7_W) : afterL aftI V (Proc.devRef .tc b) = V (Proc.devRef .tc b) := by
  simp only [List.mem_append, not_or] at h
  simp only [afterL_cons, afterL_nil]
  rw [after_of_writes_sub aft7 _ aft7_writes (by simp only [h, not_false_iff]), after_of_writes_sub aft6 _ aft6_writes (by simp only [h, not_false_iff]), after_of_writes_sub aft5 _ aft5_writes (by simp only [h, not_false_iff]), after_of_writes_sub aft4 _ aft4_writes (by simp only [h, not_false_iff]), after_of_writes_sub aft3 _ aft3_writes (by simp only [h, not_false_iff]), after_of_writes_sub aft2 _ aft2_writes (by simp only [h, not_false_iff]), after_of_writes_sub aft1 _ aft1_writes (by simp only [h, not_false_iff]), after_of_writes_sub aft0 _ aft0_writes (by simp only [h, not_false_iff])]
/-- Nor do any number of trips change it. -/
theorem aft_trips_kept (W : Dev nD → Valuation τ sig (Elt F)) (c : Dev nD) (b : Ref sig .tc) (h : b ∉ aft0_W ++ aft1_W ++ aft2_W ++ aft3_W ++ aft4_W ++ aft5_W ++ aft6_W ++ aft7_W) (h' : b ∉ aftTest_W) :
    ∀ k, atTrip aftTest aftI W k c (Proc.devRef .tc b) = W c (Proc.devRef .tc b)
  | 0 => rfl
  | k + 1 => by
    rw [atTrip_succ, aft_kept _ b h, after_of_writes_sub aftTest _ aftTest_writes h', aft_trips_kept W c b h h' k]

set_option maxRecDepth 100000 in
theorem fore_step (X : Valuation τ sig (Elt F)) :
    after fore5 X (Proc.devRef .tc main_v5_2) = addi (X (Proc.devRef .tc main_v5_2)) (constantI S_ 32 1#32) := by
  after_results
  rfl
theorem fore_count (W : Dev nD → Valuation τ sig (Elt F)) (c : Dev nD) (h0 : W c (Proc.devRef .tc main_v5_2) = fun _ => (0#32 : BitVec 32)) :
    ∀ k, atTrip foreTest foreI W k c (Proc.devRef .tc main_v5_2) = fun _ => Scf.iv 0#32 1#32 k
  | 0 => by rw [atTrip_zero, h0, Scf.iv_zero]
  | k + 1 => by
    rw [atTrip_succ]
    simp only [afterL_cons, afterL_nil]
    rw [fore_step, after_of_writes_sub fore4 _ fore4_writes (by decide +kernel), after_of_writes_sub fore3 _ fore3_writes (by decide +kernel), after_of_writes_sub fore2 _ fore2_writes (by decide +kernel), after_of_writes_sub fore1 _ fore1_writes (by decide +kernel), after_of_writes_sub fore0 _ fore0_writes (by decide +kernel),
      after_of_writes_sub foreTest _ foreTest_writes (by decide +kernel), fore_count W c h0 k, Scf.iv_succ]
    rfl

set_option backward.isDefEq.respectTransparency.types false in
/-- The test allows trip `k` just when `k < 2304`. -/
theorem fore_cond (W : Dev nD → Valuation τ sig (Elt F)) (h0 : ∀ c, W c (Proc.devRef .tc main_v5_2) = fun _ => (0#32 : BitVec 32)) :
    LoopCond (Ix := Unit) (Name := ℕ) (U := Option PUnit) (Lvl := ℕ) (pcfgs (F := F)) defs₀ Variants.none loops owed (main_while0_cond (F := F)) foreTest foreI W 2304 := by
  intro k hk c bd
  have hctr := fore_count W c (h0 c) k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip foreTest foreI W k c) main_v5_2 HostLoop.idx0)
        (HloOp.result _ (atTrip foreTest foreI W k c) main_while0c_c_12 HostLoop.idx0) = 1#1) (k < 2304)
    rw [nullary_result_ne _ _ _ _ (by decide), nullary_result, hctr]
    exact Scf.cmpi_slt_iv_ub_iff (lb := 0#32) (ub := 2304#32) (st := 1#32) (by decide) (show k ≤ Scf.trips 0#32 2304#32 1#32 from hk)
  isplitl [Hb]; · iexact Hb
  isplitl [Hh]
  · rw [after_cons, after_cons, after_nil]; iexact Hh
  iexact HR

set_option maxRecDepth 100000 in
theorem aft_step (X : Valuation τ sig (Elt F)) :
    after aft7 X (Proc.devRef .tc main_v12_3) = addi (X (Proc.devRef .tc main_v12_3)) (constantI S_ 32 1#32) := by
  after_results
  rfl
theorem aft_count (W : Dev nD → Valuation τ sig (Elt F)) (c : Dev nD) (h0 : W c (Proc.devRef .tc main_v12_3) = fun _ => (0#32 : BitVec 32)) :
    ∀ k, atTrip aftTest aftI W k c (Proc.devRef .tc main_v12_3) = fun _ => Scf.iv 0#32 1#32 k
  | 0 => by rw [atTrip_zero, h0, Scf.iv_zero]
  | k + 1 => by
    rw [atTrip_succ]
    simp only [afterL_cons, afterL_nil]
    rw [aft_step, after_of_writes_sub aft6 _ aft6_writes (by decide +kernel), after_of_writes_sub aft5 _ aft5_writes (by decide +kernel), after_of_writes_sub aft4 _ aft4_writes (by decide +kernel), after_of_writes_sub aft3 _ aft3_writes (by decide +kernel), after_of_writes_sub aft2 _ aft2_writes (by decide +kernel), after_of_writes_sub aft1 _ aft1_writes (by decide +kernel), after_of_writes_sub aft0 _ aft0_writes (by decide +kernel),
      after_of_writes_sub aftTest _ aftTest_writes (by decide +kernel), aft_count W c h0 k, Scf.iv_succ]
    rfl

set_option backward.isDefEq.respectTransparency.types false in
/-- The test allows trip `k` just when `k < 2304`. -/
theorem aft_cond (W : Dev nD → Valuation τ sig (Elt F)) (h0 : ∀ c, W c (Proc.devRef .tc main_v12_3) = fun _ => (0#32 : BitVec 32)) :
    LoopCond (Ix := Unit) (Name := ℕ) (U := Option PUnit) (Lvl := ℕ) (pcfgs (F := F)) defs₀ Variants.none loops owed (main_while1_cond (F := F)) aftTest aftI W 2304 := by
  intro k hk c bd
  have hctr := aft_count W c (h0 c) k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip aftTest aftI W k c) main_v12_3 HostLoop.idx0)
        (HloOp.result _ (atTrip aftTest aftI W k c) main_while1c_c_13 HostLoop.idx0) = 1#1) (k < 2304)
    rw [nullary_result_ne _ _ _ _ (by decide), nullary_result, hctr]
    exact Scf.cmpi_slt_iv_ub_iff (lb := 0#32) (ub := 2304#32) (st := 1#32) (by decide) (show k ≤ Scf.trips 0#32 2304#32 1#32 from hk)
  isplitl [Hb]; · iexact Hb
  isplitl [Hh]
  · rw [after_cons, after_cons, after_nil]; iexact Hh
  iexact HR

variable (m : (ℓ : Loc nD τ sig) → Buf (Elt F) ℓ) (ρ : Dev nD → PrngReg)

/-- Every buffer at the scan's start, at its end, at the gradient's start, at its end, and at the end of @main. -/
abbrev atScan (c : Dev nD) : Valuation τ sig (Elt F) := afterL [opening] (launchContents m c)
abbrev scanned (c : Dev nD) : Valuation τ sig (Elt F) := after foreTest (atTrip foreTest foreI (atScan m) 2304 c)
abbrev atBack (c : Dev nD) : Valuation τ sig (Elt F) := afterL [between] (scanned m c)
abbrev returned (c : Dev nD) : Valuation τ sig (Elt F) := after aftTest (atTrip aftTest aftI (atBack m) 2304 c)
abbrev atEnd (c : Dev nD) : Valuation τ sig (Elt F) := afterL [closing] (returned m c)

theorem count_scan (c : Dev nD) : atScan m c (Proc.devRef .tc main_v5_2) = fun _ => (0#32 : BitVec 32) := by
  simp only [atScan, afterL_cons, afterL_nil]
  after_reads_simp
  rfl
theorem between_count (V : Valuation τ sig (Elt F)) : after between V (Proc.devRef .tc main_v12_3) = fun _ => (0#32 : BitVec 32) := by
  after_results
  rfl
theorem count_back (c : Dev nD) : atBack m c (Proc.devRef .tc main_v12_3) = fun _ => (0#32 : BitVec 32) := between_count _

abbrev none0 : (p : Fin 0) → (pcfgs (F := F) p).Adm := fun p => p.elim0
abbrev tick0 : Fin 0 → Pipeline.Ticket (Ix := Unit) (Name := ℕ) (U := Option PUnit) (Lvl := ℕ) (nD := nD) (τ := τ) (pcfgs (F := F)) none0 := fun j => j.elim0
abbrev noCells : GSem nD τ sig → Finset Unit := fun _ => ∅
abbrev noLevel : GSem nD τ sig → Unit → ℕ := fun _ _ => 0

/-- @main as segments. -/
def segs : List (CSeg (pcfgs (F := F)) none0 defs₀ Variants.none noCells noLevel loops tick0) :=
  segsOf _ _ _ _ _ _ _ _ owed [opening] plain_opening (launchContents m)
    ++ loopSeg _ _ _ _ _ _ _ _ 0 main_while0_cond main_while0_body rfl foreTest foreI plain_fore (by rw [fore_items]; rfl) 2304 (atScan m) owed (fore_cond _ (count_scan m))
      :: (segsOf _ _ _ _ _ _ _ _ owed [between] plain_between (scanned m)
    ++ loopSeg _ _ _ _ _ _ _ _ 1 main_while1_cond main_while1_body rfl aftTest aftI plain_aft (by rw [aft_items]; rfl) 2304 (atBack m) owed (aft_cond _ (count_back m))
      :: segsOf _ _ _ _ _ _ _ _ owed [closing] plain_closing (returned m))

theorem segs_prog (c : Dev nD) : main (F := F) c = Pipeline.chain ((segs m).map CSeg.prog) := by
  rw [main_items]
  rfl

theorem segs_chain : CSeg.Chains (fun c => iprop(held (c : Thread nD τ) (ucRefs τ sig) (launchContents m c) ∗ owed c)) (segs m)
    (fun c => iprop(iprop(held (c : Thread nD τ) (ucRefs τ sig) (atEnd m c)) ∗ owed c)) :=
  CSeg.Chains.append (segsOf_chains _ _ _ _ _ _ _ _ owed [opening] plain_opening _)
    ⟨fun _ => .rfl, CSeg.Chains.append (segsOf_chains _ _ _ _ _ _ _ _ owed [between] plain_between _)
      ⟨fun _ => .rfl, segsOf_chains _ _ _ _ _ _ _ _ owed [closing] plain_closing _⟩⟩

/-- From any memory with zero counters every weakly fair execution terminates, every buffer at `atEnd`. -/
theorem two_run [∀ e, Nonempty (Elt F e)] : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = atEnd m c (Proc.devRef .tc b)) :=
  Pipeline.θ_run_regions_loop_kit (Ix := Unit) (Name := ℕ) (U := Option PUnit) (Lvl := ℕ) (J := Fin 0) (P := Fin 0) (Val := Elt F)
    pcfgs none0 (fun k => k.1.elim0) defs₀ Variants.none noCells noLevel loops tick0 m ρ main (segs m)
    (fun c Q => by
      rw [segs_prog m c]
      show wp _ _ _ (Pipeline.chain ((segs m).map CSeg.prog)) Q ⊢ _
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ owed c))
    (Tₙ := fun c => iprop(held (c : Thread nD τ) (ucRefs τ sig) (atEnd m c)))
    (hch := segs_chain m)
    (hinit := by
      refine Pipeline.initEach noCells noLevel fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd m c b)
    (hfin := fun c s' => by
      unfold held
      iintro ⟨Hh, HSI⟩
      ihave Hr := (pointsTo_read_all (ucRefs τ sig) (fun b => ((c : Dev nD), b)) (fun b => atEnd m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.Reference20Ideal.Two

end
-- ==== Proof.TwoTrip.lean ====
module

public import proofs.«01_k».proof.Proof.TwoRun
public import Idealize.ShloMosaic.Lib.Pipeline.Value
public import Idealize.ShloMosaic.Lib.Pointwise
public import Idealize.ShloMosaic.Lib.ValueIdx
public import Idealize.ShloMosaic.Lib.ValueLayout

/-! What one trip of each of the reference's two scans leaves in the buffers the scan carries, and what the stretches
before, between and after them do. -/

@[expose] public section

noncomputable section

namespace Cert.Reference20Ideal.Two

open Cert.Reference20Ideal Cert.Reference20Ideal.Gen
open Idealize.ShloMosaic Idealize.ShloMosaic.TcCoe Idealize.ShloMosaic.Tactic Idealize.SL.Sem
open Idealize.ShloMosaic.StableHlo
open Idealize.ShloMosaic.ValueIdx (shapeCast_1ab_ab_apply)

variable {F : FTy → Type} [FloatOps F]

/-! ## One time's row of an array by time -/

abbrev ByTime (F : FTy → Type) [FloatOps F] : Type := (⟨S2304x4x1024, .f32⟩ : BufTy).Contents (Elt F)
abbrev Row (F : FTy → Type) [FloatOps F] : Type := (⟨S4x1024, .f32⟩ : BufTy).Contents (Elt F)
abbrev Word (F : FTy → Type) [FloatOps F] : Type := (⟨S_, .i32⟩ : BufTy).Contents (Elt F)

/-- Where the row of a counted time begins. -/
def startOf (i : Word F) : Fin 3 → Int := fun k =>
  ((![i, constantI S_ 32 0#32, constantI S_ 32 0#32] : Fin 3 → (⟨S_, .i32⟩ : BufTy).Contents (Elt F)) k (Shape.Idx.first h_S_)).toInt
/-- Reading the row. -/
def rowOf (X : ByTime F) (i : Word F) : Row F :=
  shapeCast S4x1024 (Host.dynamicSlice S1x4x1024 X (startOf i) sliceFits_S2304x4x1024_S1x4x1024) shapeCasts_S1x4x1024_S4x1024
/-- Writing it. -/
def rowIn (X : ByTime F) (w : Row F) (i : Word F) : ByTime F :=
  Host.dynamicUpdateSlice X (broadcastInDim S1x4x1024 ![1, 2] bcast_S4x1024_S1x4x1024_1_2 w) (startOf i) updateFits_S2304x4x1024_S1x4x1024

section
variable (i : Word F) (p : ℕ) (hp : p < 2304) (hi : ∀ u, (i : S_.Idx → BitVec 32) u = BitVec.ofNat 32 p)

include hp hi in
theorem start_0 : startOf i 0 = (p : Int) := by
  show ((i : S_.Idx → BitVec 32) (Shape.Idx.first h_S_)).toInt = _
  rw [hi, BitVec.toInt_ofNat']
  simp only [Int.bmod]
  omega
theorem start_1 : startOf i 1 = 0 := rfl
theorem start_2 : startOf i 2 = 0 := rfl

include hp hi in
theorem clamp_0 (hr : S1x4x1024.rank = S2304x4x1024.rank) : Host.clampedStart S2304x4x1024 S1x4x1024 hr (startOf i) 0 = p :=
  Host.clampedStart_of_le hr (startOf i) 0 _ (start_0 i p hp hi) (show p + 1 ≤ 2304 by omega)
theorem clamp_1 (hr : S1x4x1024.rank = S2304x4x1024.rank) : Host.clampedStart S2304x4x1024 S1x4x1024 hr (startOf i) 1 = 0 :=
  Host.clampedStart_of_le hr (startOf i) 1 0 (start_1 i) (show 0 + 4 ≤ 4 by omega)
theorem clamp_2 (hr : S1x4x1024.rank = S2304x4x1024.rank) : Host.clampedStart S2304x4x1024 S1x4x1024 hr (startOf i) 2 = 0 :=
  Host.clampedStart_of_le hr (startOf i) 2 0 (start_2 i) (show 0 + 1024 ≤ 1024 by omega)

include hi in
theorem rowOf_at (X : ByTime F) (j : S4x1024.Idx) : rowOf X i j = X (ix3 (⟨p, hp⟩ : Fin 2304) (j 0 : Fin 4) (j 1 : Fin 1024)) := by
  unfold rowOf
  have h : S2304x4x1024.Slices (fun _ => 0) S1x4x1024 := sliceFits_S2304x4x1024_S1x4x1024
  rw [show j = ix2 (j 0 : Fin 4) (j 1 : Fin 1024) from funext fun b => match b with | ⟨0, _⟩ => rfl | ⟨1, _⟩ => rfl]
  refine (shapeCast_1ab_ab_apply (a := 4) (b := 1024) (Host.dynamicSlice S1x4x1024 X (startOf i) h) _ (j 0 : Fin 4) (j 1 : Fin 1024)).trans ?_
  rw [Host.dynamicSlice_apply]
  refine congrArg X (funext fun b => Fin.ext ?_)
  match b with
  | ⟨0, _⟩ =>
    show Host.clampedStart S2304x4x1024 S1x4x1024 h.1 (startOf i) 0 + 0 = p
    rw [clamp_0 i p hp hi, Nat.add_zero]
  | ⟨1, _⟩ =>
    show Host.clampedStart S2304x4x1024 S1x4x1024 h.1 (startOf i) 1 + (j 0).val = (j 0).val
    rw [clamp_1, Nat.zero_add]
  | ⟨2, _⟩ =>
    show Host.clampedStart S2304x4x1024 S1x4x1024 h.1 (startOf i) 2 + (j 1).val = (j 1).val
    rw [clamp_2, Nat.zero_add]

include hp hi in
theorem rowIn_at (X : ByTime F) (w : Row F) (q : S2304x4x1024.Idx) :
    rowIn X w i q = if (q 0).val = p then w (ix2 (q 1 : Fin 4) (q 2 : Fin 1024)) else X q := by
  unfold rowIn
  have h : S2304x4x1024.Slices (fun _ => 0) S1x4x1024 := updateFits_S2304x4x1024_S1x4x1024
  have q1 : (q 1).val < 4 := (q 1).isLt
  have q2 : (q 2).val < 1024 := (q 2).isLt
  rw [Host.dynamicUpdateSlice_apply]
  have c0 := clamp_0 i p hp hi h.1
  have c1 := clamp_1 i h.1
  have c2 := clamp_2 i h.1
  by_cases e : (q 0).val = p
  · rw [if_pos e, dif_pos (fun b => match b with
      | ⟨0, _⟩ => (show Host.clampedStart S2304x4x1024 S1x4x1024 h.1 (startOf i) 0 ≤ (q 0).val ∧ (q 0).val < Host.clampedStart S2304x4x1024 S1x4x1024 h.1 (startOf i) 0 + 1 by rw [c0]; omega)
      | ⟨1, _⟩ => (show Host.clampedStart S2304x4x1024 S1x4x1024 h.1 (startOf i) 1 ≤ (q 1).val ∧ (q 1).val < Host.clampedStart S2304x4x1024 S1x4x1024 h.1 (startOf i) 1 + 4 by rw [c1]; omega)
      | ⟨2, _⟩ => (show Host.clampedStart S2304x4x1024 S1x4x1024 h.1 (startOf i) 2 ≤ (q 2).val ∧ (q 2).val < Host.clampedStart S2304x4x1024 S1x4x1024 h.1 (startOf i) 2 + 1024 by rw [c2]; omega))]
    exact broadcastInDim_apply _ _ _ _ _ fun b => match b with
      | ⟨0, _⟩ => (show (q 1).val = (q 1).val - Host.clampedStart S2304x4x1024 S1x4x1024 h.1 (startOf i) 1 by rw [c1, Nat.sub_zero])
      | ⟨1, _⟩ => (show (q 2).val = (q 2).val - Host.clampedStart S2304x4x1024 S1x4x1024 h.1 (startOf i) 2 by rw [c2, Nat.sub_zero])
  · rw [if_neg e, dif_neg fun hin => e ?_]
    have : Host.clampedStart S2304x4x1024 S1x4x1024 h.1 (startOf i) 0 ≤ (q 0).val ∧ (q 0).val < Host.clampedStart S2304x4x1024 S1x4x1024 h.1 (startOf i) 0 + 1 := hin 0
    rw [c0] at this; omega
end

/-! ## A trip of the scan over the times -/

section
variable (X : Valuation τ sig (Elt F))

set_option maxRecDepth 8192 in
theorem at_fore0 : after fore0 X (Proc.devRef .tc main_while0b_v15) = rowOf (X (Proc.devRef .tc main_v5_0)) (X (Proc.devRef .tc main_v5_2)) := by
  simp only [fore0, pick, main_while0b_call0]
  after_results_entrywise [rowOf, startOf, cast_eq]
set_option maxRecDepth 8192 in
theorem at_fore1 : after fore1 X (Proc.devRef .tc main_while0b_v16) = rowOf (X (Proc.devRef .tc main_v5_1)) (X (Proc.devRef .tc main_v5_2)) := by
  simp only [fore1, pick, main_while0b_call1]
  after_results_entrywise [rowOf, startOf, cast_eq]
theorem at_fore2 : after fore2 X (Proc.devRef .tc main_while0b_v18)
    = (addf (mulf (X (Proc.devRef .tc main_while0b_v15) : Row F) (X (Proc.devRef .tc main_v5_3) : Row F)) (X (Proc.devRef .tc main_while0b_v16) : Row F) : Row F) := by
  after_results
set_option maxRecDepth 8192 in
theorem at_fore3 : after fore3 X (Proc.devRef .tc main_while0b_v19)
    = rowIn (X (Proc.devRef .tc main_v5_4)) (X (Proc.devRef .tc main_while0b_v18)) (X (Proc.devRef .tc main_v5_2)) := by
  simp only [fore3, put, main_while0b_call2]
  after_results_entrywise [rowIn, startOf, cast_eq]
set_option maxRecDepth 8192 in
theorem at_fore4 : after fore4 X (Proc.devRef .tc main_while0b_v20)
    = rowIn (X (Proc.devRef .tc main_v5_5)) (X (Proc.devRef .tc main_v5_3)) (X (Proc.devRef .tc main_v5_2)) := by
  simp only [fore4, put, main_while0b_call3]
  after_results_entrywise [rowIn, startOf, cast_eq]
theorem at_fore5_3 : after fore5 X (Proc.devRef .tc main_v5_3) = X (Proc.devRef .tc main_while0b_v18) := by
  after_results; rfl
theorem at_fore5_4 : after fore5 X (Proc.devRef .tc main_v5_4) = X (Proc.devRef .tc main_while0b_v19) := by
  after_results; rfl
theorem at_fore5_5 : after fore5 X (Proc.devRef .tc main_v5_5) = X (Proc.devRef .tc main_while0b_v20) := by
  after_results; rfl

theorem stay0 (b : Ref sig .tc) (h : b ∉ fore0_W) : after fore0 X (Proc.devRef .tc b) = X (Proc.devRef .tc b) := after_of_writes_sub fore0 _ fore0_writes h
theorem stay1 (b : Ref sig .tc) (h : b ∉ fore1_W) : after fore1 X (Proc.devRef .tc b) = X (Proc.devRef .tc b) := after_of_writes_sub fore1 _ fore1_writes h
theorem stay2 (b : Ref sig .tc) (h : b ∉ fore2_W) : after fore2 X (Proc.devRef .tc b) = X (Proc.devRef .tc b) := after_of_writes_sub fore2 _ fore2_writes h
theorem stay3 (b : Ref sig .tc) (h : b ∉ fore3_W) : after fore3 X (Proc.devRef .tc b) = X (Proc.devRef .tc b) := after_of_writes_sub fore3 _ fore3_writes h
theorem stay4 (b : Ref sig .tc) (h : b ∉ fore4_W) : after fore4 X (Proc.devRef .tc b) = X (Proc.devRef .tc b) := after_of_writes_sub fore4 _ fore4_writes h
theorem stayT (b : Ref sig .tc) (h : b ∉ foreTest_W) : after foreTest X (Proc.devRef .tc b) = X (Proc.devRef .tc b) := after_of_writes_sub foreTest _ foreTest_writes h

theorem fore_2 : afterL foreI X (Proc.devRef .tc main_v5_2) = addi (X (Proc.devRef .tc main_v5_2)) (constantI S_ 32 1#32) := by
  simp only [afterL_cons, afterL_nil]
  rw [fore_step, stay4 _ main_v5_2 (by decide +kernel), stay3 _ main_v5_2 (by decide +kernel), stay2 _ main_v5_2 (by decide +kernel),
    stay1 _ main_v5_2 (by decide +kernel), stay0 _ main_v5_2 (by decide +kernel)]
theorem fore_3 : afterL foreI X (Proc.devRef .tc main_v5_3)
    = (addf (mulf (rowOf (X (Proc.devRef .tc main_v5_0)) (X (Proc.devRef .tc main_v5_2))) (X (Proc.devRef .tc main_v5_3) : Row F))
        (rowOf (X (Proc.devRef .tc main_v5_1)) (X (Proc.devRef .tc main_v5_2))) : Row F) := by
  simp only [afterL_cons, afterL_nil]
  rw [at_fore5_3, stay4 _ main_while0b_v18 (by decide +kernel), stay3 _ main_while0b_v18 (by decide +kernel), at_fore2, at_fore1,
    stay1 _ main_while0b_v15 (by decide +kernel), at_fore0, stay1 _ main_v5_3 (by decide +kernel), stay0 _ main_v5_3 (by decide +kernel),
    stay0 _ main_v5_1 (by decide +kernel), stay0 _ main_v5_2 (by decide +kernel)]
/-- The state a trip leaves. -/
def stateRow : Row F := addf (mulf (rowOf (X (Proc.devRef .tc main_v5_0)) (X (Proc.devRef .tc main_v5_2))) (X (Proc.devRef .tc main_v5_3) : Row F))
  (rowOf (X (Proc.devRef .tc main_v5_1)) (X (Proc.devRef .tc main_v5_2)))
theorem fore_4 : afterL foreI X (Proc.devRef .tc main_v5_4)
    = rowIn (X (Proc.devRef .tc main_v5_4)) (stateRow X) (X (Proc.devRef .tc main_v5_2)) := by
  simp only [afterL_cons, afterL_nil]
  rw [at_fore5_4, stay4 _ main_while0b_v19 (by decide +kernel), at_fore3, at_fore2, at_fore1,
    stay1 _ main_while0b_v15 (by decide +kernel), at_fore0, stay1 _ main_v5_3 (by decide +kernel), stay0 _ main_v5_3 (by decide +kernel),
    stay2 _ main_v5_4 (by decide +kernel), stay1 _ main_v5_4 (by decide +kernel), stay0 _ main_v5_4 (by decide +kernel),
    stay2 _ main_v5_2 (by decide +kernel), stay1 _ main_v5_2 (by decide +kernel),
    stay0 _ main_v5_1 (by decide +kernel), stay0 _ main_v5_2 (by decide +kernel)]
  rfl
theorem fore_5 : afterL foreI X (Proc.devRef .tc main_v5_5)
    = rowIn (X (Proc.devRef .tc main_v5_5)) (X (Proc.devRef .tc main_v5_3)) (X (Proc.devRef .tc main_v5_2)) := by
  simp only [afterL_cons, afterL_nil]
  rw [at_fore5_5, at_fore4, stay3 _ main_v5_5 (by decide +kernel), stay3 _ main_v5_3 (by decide +kernel), stay3 _ main_v5_2 (by decide +kernel),
    stay2 _ main_v5_5 (by decide +kernel), stay2 _ main_v5_3 (by decide +kernel), stay2 _ main_v5_2 (by decide +kernel),
    stay1 _ main_v5_5 (by decide +kernel), stay1 _ main_v5_3 (by decide +kernel), stay1 _ main_v5_2 (by decide +kernel),
    stay0 _ main_v5_5 (by decide +kernel), stay0 _ main_v5_3 (by decide +kernel), stay0 _ main_v5_2 (by decide +kernel)]
end

/-! ## A trip of the scan back -/

section
variable (X : Valuation τ sig (Elt F))

/-- The time the trip works on. -/
def timeNo (i : Word F) : Word F := subi (subi (constantI S_ 32 2304#32) i) (constantI S_ 32 1#32)

theorem at_aft0 : after aft0 X (Proc.devRef .tc main_while1b_v16) = timeNo (X (Proc.devRef .tc main_v12_3)) := by
  after_results; rfl
set_option maxRecDepth 8192 in
theorem at_aft1 : after aft1 X (Proc.devRef .tc main_while1b_v17) = rowOf (X (Proc.devRef .tc main_v12_0)) (X (Proc.devRef .tc main_while1b_v16)) := by
  simp only [aft1, pick, main_while1b_call4]
  after_results_entrywise [rowOf, startOf, cast_eq]
set_option maxRecDepth 8192 in
theorem at_aft2 : after aft2 X (Proc.devRef .tc main_while1b_v18) = rowOf (X (Proc.devRef .tc main_v12_1)) (X (Proc.devRef .tc main_while1b_v16)) := by
  simp only [aft2, pick, main_while1b_call5]
  after_results_entrywise [rowOf, startOf, cast_eq]
set_option maxRecDepth 8192 in
theorem at_aft3 : after aft3 X (Proc.devRef .tc main_while1b_v19) = rowOf (X (Proc.devRef .tc main_v12_2)) (X (Proc.devRef .tc main_while1b_v16)) := by
  simp only [aft3, pick, main_while1b_call6]
  after_results_entrywise [rowOf, startOf, cast_eq]
theorem at_aft4_20 : after aft4 X (Proc.devRef .tc main_while1b_v20)
    = (addf (X (Proc.devRef .tc main_v12_4) : Row F) (X (Proc.devRef .tc main_while1b_v17) : Row F) : Row F) := by
  after_results
theorem at_aft4_21 : after aft4 X (Proc.devRef .tc main_while1b_v21)
    = (mulf (X (Proc.devRef .tc main_while1b_v19) : Row F) (addf (X (Proc.devRef .tc main_v12_4) : Row F) (X (Proc.devRef .tc main_while1b_v17) : Row F)) : Row F) := by
  after_results
theorem at_aft4_22 : after aft4 X (Proc.devRef .tc main_while1b_v22)
    = (mulf (addf (X (Proc.devRef .tc main_v12_4) : Row F) (X (Proc.devRef .tc main_while1b_v17) : Row F)) (X (Proc.devRef .tc main_while1b_v18) : Row F) : Row F) := by
  after_results
set_option maxRecDepth 8192 in
theorem at_aft5 : after aft5 X (Proc.devRef .tc main_while1b_v23)
    = rowIn (X (Proc.devRef .tc main_v12_5)) (X (Proc.devRef .tc main_while1b_v22)) (X (Proc.devRef .tc main_while1b_v16)) := by
  simp only [aft5, put, main_while1b_call7]
  after_results_entrywise [rowIn, startOf, cast_eq]
set_option maxRecDepth 8192 in
theorem at_aft6 : after aft6 X (Proc.devRef .tc main_while1b_v24)
    = rowIn (X (Proc.devRef .tc main_v12_6)) (X (Proc.devRef .tc main_while1b_v20)) (X (Proc.devRef .tc main_while1b_v16)) := by
  simp only [aft6, put, main_while1b_call8]
  after_results_entrywise [rowIn, startOf, cast_eq]
theorem at_aft7_4 : after aft7 X (Proc.devRef .tc main_v12_4) = X (Proc.devRef .tc main_while1b_v21) := by
  after_results; rfl
theorem at_aft7_5 : after aft7 X (Proc.devRef .tc main_v12_5) = X (Proc.devRef .tc main_while1b_v23) := by
  after_results; rfl
theorem at_aft7_6 : after aft7 X (Proc.devRef .tc main_v12_6) = X (Proc.devRef .tc main_while1b_v24) := by
  after_results; rfl

theorem keep0 (b : Ref sig .tc) (h : b ∉ aft0_W) : after aft0 X (Proc.devRef .tc b) = X (Proc.devRef .tc b) := after_of_writes_sub aft0 _ aft0_writes h
theorem keep1 (b : Ref sig .tc) (h : b ∉ aft1_W) : after aft1 X (Proc.devRef .tc b) = X (Proc.devRef .tc b) := after_of_writes_sub aft1 _ aft1_writes h
theorem keep2 (b : Ref sig .tc) (h : b ∉ aft2_W) : after aft2 X (Proc.devRef .tc b) = X (Proc.devRef .tc b) := after_of_writes_sub aft2 _ aft2_writes h
theorem keep3 (b : Ref sig .tc) (h : b ∉ aft3_W) : after aft3 X (Proc.devRef .tc b) = X (Proc.devRef .tc b) := after_of_writes_sub aft3 _ aft3_writes h
theorem keep4 (b : Ref sig .tc) (h : b ∉ aft4_W) : after aft4 X (Proc.devRef .tc b) = X (Proc.devRef .tc b) := after_of_writes_sub aft4 _ aft4_writes h
theorem keep5 (b : Ref sig .tc) (h : b ∉ aft5_W) : after aft5 X (Proc.devRef .tc b) = X (Proc.devRef .tc b) := after_of_writes_sub aft5 _ aft5_writes h
theorem keep6 (b : Ref sig .tc) (h : b ∉ aft6_W) : after aft6 X (Proc.devRef .tc b) = X (Proc.devRef .tc b) := after_of_writes_sub aft6 _ aft6_writes h
theorem keepT (b : Ref sig .tc) (h : b ∉ aftTest_W) : after aftTest X (Proc.devRef .tc b) = X (Proc.devRef .tc b) := after_of_writes_sub aftTest _ aftTest_writes h

/-- A buffer the first four stretches do not write. -/
theorem keep_03 (b : Ref sig .tc) (h0 : b ∉ aft0_W) (h1 : b ∉ aft1_W) (h2 : b ∉ aft2_W) (h3 : b ∉ aft3_W) :
    after aft3 (after aft2 (after aft1 (after aft0 X))) (Proc.devRef .tc b) = X (Proc.devRef .tc b) := by
  rw [keep3 _ b h3, keep2 _ b h2, keep1 _ b h1, keep0 _ b h0]

/-- After the first four stretches: the time, and the three rows there. -/
theorem got_16 : after aft3 (after aft2 (after aft1 (after aft0 X))) (Proc.devRef .tc main_while1b_v16) = timeNo (X (Proc.devRef .tc main_v12_3)) := by
  rw [keep3 _ main_while1b_v16 (by decide +kernel), keep2 _ main_while1b_v16 (by decide +kernel), keep1 _ main_while1b_v16 (by decide +kernel), at_aft0]
theorem got_17 : after aft3 (after aft2 (after aft1 (after aft0 X))) (Proc.devRef .tc main_while1b_v17)
    = rowOf (X (Proc.devRef .tc main_v12_0)) (timeNo (X (Proc.devRef .tc main_v12_3))) := by
  rw [keep3 _ main_while1b_v17 (by decide +kernel), keep2 _ main_while1b_v17 (by decide +kernel), at_aft1, keep0 _ main_v12_0 (by decide +kernel), at_aft0]
theorem got_18 : after aft3 (after aft2 (after aft1 (after aft0 X))) (Proc.devRef .tc main_while1b_v18)
    = rowOf (X (Proc.devRef .tc main_v12_1)) (timeNo (X (Proc.devRef .tc main_v12_3))) := by
  rw [keep3 _ main_while1b_v18 (by decide +kernel), at_aft2, keep1 _ main_v12_1 (by decide +kernel), keep1 _ main_while1b_v16 (by decide +kernel),
    keep0 _ main_v12_1 (by decide +kernel), at_aft0]
theorem got_19 : after aft3 (after aft2 (after aft1 (after aft0 X))) (Proc.devRef .tc main_while1b_v19)
    = rowOf (X (Proc.devRef .tc main_v12_2)) (timeNo (X (Proc.devRef .tc main_v12_3))) := by
  rw [at_aft3, keep2 _ main_v12_2 (by decide +kernel), keep2 _ main_while1b_v16 (by decide +kernel), keep1 _ main_v12_2 (by decide +kernel),
    keep1 _ main_while1b_v16 (by decide +kernel), keep0 _ main_v12_2 (by decide +kernel), at_aft0]

/-- The gradient at the trip's time. -/
def gradRow : Row F := addf (X (Proc.devRef .tc main_v12_4) : Row F) (rowOf (X (Proc.devRef .tc main_v12_0)) (timeNo (X (Proc.devRef .tc main_v12_3))))

theorem aft_3 : afterL aftI X (Proc.devRef .tc main_v12_3) = addi (X (Proc.devRef .tc main_v12_3)) (constantI S_ 32 1#32) := by
  simp only [afterL_cons, afterL_nil]
  rw [aft_step, keep6 _ main_v12_3 (by decide +kernel), keep5 _ main_v12_3 (by decide +kernel), keep4 _ main_v12_3 (by decide +kernel),
    keep_03 X main_v12_3 (by decide +kernel) (by decide +kernel) (by decide +kernel) (by decide +kernel)]
theorem aft_4 : afterL aftI X (Proc.devRef .tc main_v12_4)
    = (mulf (rowOf (X (Proc.devRef .tc main_v12_2)) (timeNo (X (Proc.devRef .tc main_v12_3)))) (gradRow X) : Row F) := by
  simp only [afterL_cons, afterL_nil]
  rw [at_aft7_4, keep6 _ main_while1b_v21 (by decide +kernel), keep5 _ main_while1b_v21 (by decide +kernel), at_aft4_21, got_19, got_17,
    keep_03 X main_v12_4 (by decide +kernel) (by decide +kernel) (by decide +kernel) (by decide +kernel)]
  rfl
theorem aft_5 : afterL aftI X (Proc.devRef .tc main_v12_5)
    = rowIn (X (Proc.devRef .tc main_v12_5)) (mulf (gradRow X) (rowOf (X (Proc.devRef .tc main_v12_1)) (timeNo (X (Proc.devRef .tc main_v12_3)))) : Row F)
        (timeNo (X (Proc.devRef .tc main_v12_3))) := by
  simp only [afterL_cons, afterL_nil]
  rw [at_aft7_5, keep6 _ main_while1b_v23 (by decide +kernel), at_aft5, at_aft4_22, got_18, got_17, keep4 _ main_v12_5 (by decide +kernel),
    keep4 _ main_while1b_v16 (by decide +kernel), got_16,
    keep_03 X main_v12_4 (by decide +kernel) (by decide +kernel) (by decide +kernel) (by decide +kernel),
    keep_03 X main_v12_5 (by decide +kernel) (by decide +kernel) (by decide +kernel) (by decide +kernel)]
  rfl
theorem aft_6 : afterL aftI X (Proc.devRef .tc main_v12_6)
    = rowIn (X (Proc.devRef .tc main_v12_6)) (gradRow X) (timeNo (X (Proc.devRef .tc main_v12_3))) := by
  simp only [afterL_cons, afterL_nil]
  rw [at_aft7_6, at_aft6, keep5 _ main_v12_6 (by decide +kernel), keep5 _ main_while1b_v20 (by decide +kernel), keep5 _ main_while1b_v16 (by decide +kernel),
    at_aft4_20, got_17, keep4 _ main_v12_6 (by decide +kernel), keep4 _ main_while1b_v16 (by decide +kernel), got_16,
    keep_03 X main_v12_4 (by decide +kernel) (by decide +kernel) (by decide +kernel) (by decide +kernel),
    keep_03 X main_v12_6 (by decide +kernel) (by decide +kernel) (by decide +kernel) (by decide +kernel)]
  rfl
end

/-! ## The stretches around the scans -/

section
variable (X : Valuation τ sig (Elt F))

/-- An array by time, from one by sequence. -/
abbrev toTime (Y : (⟨S4x2304x1024, .f32⟩ : BufTy).Contents (Elt F)) : ByTime F := transpose S2304x4x1024 [1, 0, 2] Y transposes_S4x2304x1024_S2304x4x1024_1_0_2

theorem open_0 : after opening X (Proc.devRef .tc main_v5_0) = toTime (X (Proc.devRef .tc main_arg0)) := by after_results; rfl
theorem open_1 : after opening X (Proc.devRef .tc main_v5_1) = toTime (X (Proc.devRef .tc main_arg1)) := by after_results; rfl
theorem open_3 : after opening X (Proc.devRef .tc main_v5_3) = broadcastInDim S4x1024 ![] bcast_S_S4x1024 (constant (F := F) S_ .f32 0x00000000#32) := by after_results; rfl
theorem open_v1 : after opening X (Proc.devRef .tc main_v1) = toTime (X (Proc.devRef .tc main_arg0)) := by after_results
theorem betw_0 : after between X (Proc.devRef .tc main_v12_0) = toTime (X (Proc.devRef .tc main_arg2)) := by after_results; rfl
theorem betw_1 : after between X (Proc.devRef .tc main_v12_1) = X (Proc.devRef .tc main_v5_5) := by after_results; rfl
theorem betw_2 : after between X (Proc.devRef .tc main_v12_2) = X (Proc.devRef .tc main_v1) := by after_results; rfl
theorem betw_4 : after between X (Proc.devRef .tc main_v12_4) = broadcastInDim S4x1024 ![] bcast_S_S4x1024 (constant (F := F) S_ .f32 0x00000000#32) := by after_results; rfl
theorem betw_6 : after between X (Proc.devRef .tc main_v6)
    = transpose S4x2304x1024 [1, 0, 2] (X (Proc.devRef .tc main_v5_4)) transposes_S2304x4x1024_S4x2304x1024_1_0_2 := by after_results
theorem clos_13 : after closing X (Proc.devRef .tc main_v13)
    = transpose S4x2304x1024 [1, 0, 2] (X (Proc.devRef .tc main_v12_6)) transposes_S2304x4x1024_S4x2304x1024_1_0_2 := by after_results
theorem clos_14 : after closing X (Proc.devRef .tc main_v14)
    = transpose S4x2304x1024 [1, 0, 2] (X (Proc.devRef .tc main_v12_5)) transposes_S2304x4x1024_S4x2304x1024_1_0_2 := by after_results
end

end Cert.Reference20Ideal.Two

end
-- ==== Proof.TwoVal.lean ====
module

public import proofs.«01_k».proof.Proof.LruSeq
public import proofs.«01_k».proof.Proof.TwoTrip

/-! What the reference's two scans compute: the states time by time, then the gradients from the last time to the
first. -/

@[expose] public section

noncomputable section

namespace Cert.Reference20Ideal.Two

open Cert.Reference20Ideal Cert.Reference20Ideal.Gen
open Idealize.ShloMosaic Idealize.ShloMosaic.TcCoe Idealize.SL.Sem
open Idealize.ShloMosaic.StableHlo
open Cert.Lru

/-! ## The scan over the times -/

abbrev scanA (V : Valuation τ sig (Elt Ideal)) : S2304x4x1024.Idx → EReal := V (Proc.devRef .tc main_v5_0)
abbrev scanB (V : Valuation τ sig (Elt Ideal)) : S2304x4x1024.Idx → EReal := V (Proc.devRef .tc main_v5_1)
abbrev scanNo (V : Valuation τ sig (Elt Ideal)) : S_.Idx → BitVec 32 := V (Proc.devRef .tc main_v5_2)
abbrev scanH (V : Valuation τ sig (Elt Ideal)) : S4x1024.Idx → EReal := V (Proc.devRef .tc main_v5_3)
abbrev gotS (V : Valuation τ sig (Elt Ideal)) : S2304x4x1024.Idx → EReal := V (Proc.devRef .tc main_v5_4)
abbrev gotP (V : Valuation τ sig (Elt Ideal)) : S2304x4x1024.Idx → EReal := V (Proc.devRef .tc main_v5_5)

/-- Counting words. -/
theorem word_next (n : ℕ) : BitVec.ofNat 32 n + 1#32 = BitVec.ofNat 32 (n + 1) := by
  apply BitVec.eq_of_toNat_eq
  simp only [BitVec.toNat_add, BitVec.toNat_ofNat]
  omega

variable (a b d : Whole.Idx → ℝ) (H : Whole.Idx → EReal)

/-- What the carried buffers hold after `n` trips. -/
structure Fwd (n : ℕ) (V : Valuation τ sig (Elt Ideal)) : Prop where
  hA : ∀ i : S2304x4x1024.Idx, scanA V i = (line a (i 1).val (i 2).val (i 0).val : EReal)
  hB : ∀ i : S2304x4x1024.Idx, scanB V i = (line b (i 1).val (i 2).val (i 0).val : EReal)
  hN : ∀ u, scanNo V u = BitVec.ofNat 32 n
  hH : ∀ j : S4x1024.Idx, scanH V j = (state (line a (j 0).val (j 1).val) (line b (j 0).val (j 1).val) n : EReal)
  hS : ∀ i : S2304x4x1024.Idx, (i 0).val < n → gotS V i = (state (line a (i 1).val (i 2).val) (line b (i 1).val (i 2).val) ((i 0).val + 1) : EReal)
  hP : ∀ i : S2304x4x1024.Idx, (i 0).val < n → gotP V i = (state (line a (i 1).val (i 2).val) (line b (i 1).val (i 2).val) (i 0).val : EReal)

section
variable {a b} {n : ℕ} {V : Valuation τ sig (Elt Ideal)} (hn : n < 2304) (h : Fwd a b n V)

include h in
/-- The trip's test changes none of them. -/
theorem fwd_test : Fwd a b n (after foreTest V) where
  hA i := (congrFun (stayT V main_v5_0 (by decide +kernel)) i).trans (h.hA i)
  hB i := (congrFun (stayT V main_v5_1 (by decide +kernel)) i).trans (h.hB i)
  hN u := (congrFun (stayT V main_v5_2 (by decide +kernel)) u).trans (h.hN u)
  hH j := (congrFun (stayT V main_v5_3 (by decide +kernel)) j).trans (h.hH j)
  hS i hi := (congrFun (stayT V main_v5_4 (by decide +kernel)) i).trans (h.hS i hi)
  hP i hi := (congrFun (stayT V main_v5_5 (by decide +kernel)) i).trans (h.hP i hi)

include hn h in
theorem state_row (j : S4x1024.Idx) : (stateRow V : S4x1024.Idx → EReal) j = (state (line a (j 0).val (j 1).val) (line b (j 0).val (j 1).val) (n + 1) : EReal) := by
  show (rowOf (F := Ideal) (scanA V) (scanNo V) j * scanH V j + rowOf (F := Ideal) (scanB V) (scanNo V) j : EReal) = _
  rw [rowOf_at (F := Ideal) (scanNo V) n hn h.hN, rowOf_at (F := Ideal) (scanNo V) n hn h.hN, h.hA, h.hB, h.hH, ← EReal.coe_mul, ← EReal.coe_add]
  rfl

include hn h in
/-- One trip. -/
theorem fwd_next : Fwd a b (n + 1) (afterL foreI V) where
  hA i := (congrFun (fore_kept V main_v5_0 (by decide +kernel)) i).trans (h.hA i)
  hB i := (congrFun (fore_kept V main_v5_1 (by decide +kernel)) i).trans (h.hB i)
  hN u := by
    refine (congrFun (fore_2 V) u).trans ?_
    show scanNo V u + 1#32 = _
    rw [h.hN, word_next]
  hH j := (congrFun (fore_3 V) j).trans (state_row hn h j)
  hS i hi := by
    refine (congrFun (fore_4 V) i).trans ?_
    refine (rowIn_at (F := Ideal) (scanNo V) n hn h.hN (gotS V) _ i).trans ?_
    by_cases e : (i 0).val = n
    · rw [if_pos e, state_row hn h, e]; rfl
    · rw [if_neg e]; exact h.hS i (by omega)
  hP i hi := by
    refine (congrFun (fore_5 V) i).trans ?_
    refine (rowIn_at (F := Ideal) (scanNo V) n hn h.hN (gotP V) (scanH V) i).trans ?_
    by_cases e : (i 0).val = n
    · rw [if_pos e, h.hH, e]; rfl
    · rw [if_neg e]; exact h.hP i (by omega)
end

/-! ## The scan back -/

abbrev timeD (V : Valuation τ sig (Elt Ideal)) : S2304x4x1024.Idx → EReal := V (Proc.devRef .tc main_v12_0)
abbrev timeH (V : Valuation τ sig (Elt Ideal)) : S2304x4x1024.Idx → EReal := V (Proc.devRef .tc main_v12_1)
abbrev timeA (V : Valuation τ sig (Elt Ideal)) : S2304x4x1024.Idx → EReal := V (Proc.devRef .tc main_v12_2)
abbrev tripNo (V : Valuation τ sig (Elt Ideal)) : S_.Idx → BitVec 32 := V (Proc.devRef .tc main_v12_3)
abbrev carry (V : Valuation τ sig (Elt Ideal)) : S4x1024.Idx → EReal := V (Proc.devRef .tc main_v12_4)
abbrev gotGA (V : Valuation τ sig (Elt Ideal)) : S2304x4x1024.Idx → EReal := V (Proc.devRef .tc main_v12_5)
abbrev gotG (V : Valuation τ sig (Elt Ideal)) : S2304x4x1024.Idx → EReal := V (Proc.devRef .tc main_v12_6)

/-- What the carried buffers hold after `n` trips. -/
structure Bwd (n : ℕ) (V : Valuation τ sig (Elt Ideal)) : Prop where
  hA : ∀ i : S2304x4x1024.Idx, timeA V i = (column a (i 1).val (i 2).val (2303 - (i 0).val) : EReal)
  hD : ∀ i : S2304x4x1024.Idx, timeD V i = (column d (i 1).val (i 2).val (2303 - (i 0).val) : EReal)
  hH : ∀ i : S2304x4x1024.Idx, timeH V i = H (ix3 (i 1 : Fin 4) (i 0 : Fin 2304) (i 2 : Fin 1024))
  hN : ∀ u, tripNo V u = BitVec.ofNat 32 n
  hC : ∀ j : S4x1024.Idx, carry V j = (back (column a (j 0).val (j 1).val) (column d (j 0).val (j 1).val) n : EReal)
  hG : ∀ i : S2304x4x1024.Idx, 2304 - n ≤ (i 0).val → gotG V i = (grad (column a (i 1).val (i 2).val) (column d (i 1).val (i 2).val) (2303 - (i 0).val) : EReal)
  hGA : ∀ i : S2304x4x1024.Idx, 2304 - n ≤ (i 0).val → gotGA V i
    = ((grad (column a (i 1).val (i 2).val) (column d (i 1).val (i 2).val) (2303 - (i 0).val) : EReal) * H (ix3 (i 1 : Fin 4) (i 0 : Fin 2304) (i 2 : Fin 1024)) : EReal)

section
variable {a d H} {n : ℕ} {V : Valuation τ sig (Elt Ideal)} (hn : n < 2304) (h : Bwd a d H n V)

include h in
/-- The trip's test changes none of them. -/
theorem bwd_test : Bwd a d H n (after aftTest V) where
  hA i := (congrFun (keepT V main_v12_2 (by decide +kernel)) i).trans (h.hA i)
  hD i := (congrFun (keepT V main_v12_0 (by decide +kernel)) i).trans (h.hD i)
  hH i := (congrFun (keepT V main_v12_1 (by decide +kernel)) i).trans (h.hH i)
  hN u := (congrFun (keepT V main_v12_3 (by decide +kernel)) u).trans (h.hN u)
  hC j := (congrFun (keepT V main_v12_4 (by decide +kernel)) j).trans (h.hC j)
  hG i hi := (congrFun (keepT V main_v12_6 (by decide +kernel)) i).trans (h.hG i hi)
  hGA i hi := (congrFun (keepT V main_v12_5 (by decide +kernel)) i).trans (h.hGA i hi)

include hn h in
/-- The trip works on the times from the last one. -/
theorem time_no (u : S_.Idx) : (timeNo (F := Ideal) (tripNo V) : S_.Idx → BitVec 32) u = BitVec.ofNat 32 (2303 - n) := by
  show 2304#32 - tripNo V u - 1#32 = _
  rw [h.hN]
  apply BitVec.eq_of_toNat_eq
  simp only [BitVec.toNat_sub, BitVec.toNat_ofNat]
  omega

include hn h in
theorem row_A (j : S4x1024.Idx) : rowOf (F := Ideal) (timeA V) (timeNo (F := Ideal) (tripNo V)) j = (column a (j 0).val (j 1).val n : EReal) := by
  rw [rowOf_at (F := Ideal) _ (2303 - n) (by omega) (time_no hn h), h.hA]
  show (column a (j 0).val (j 1).val (2303 - (2303 - n)) : EReal) = _
  rw [show 2303 - (2303 - n) = n by omega]

include hn h in
theorem row_grad (j : S4x1024.Idx) : (gradRow V : S4x1024.Idx → EReal) j = (grad (column a (j 0).val (j 1).val) (column d (j 0).val (j 1).val) n : EReal) := by
  show (carry V j + rowOf (F := Ideal) (timeD V) (timeNo (F := Ideal) (tripNo V)) j : EReal) = _
  rw [h.hC, rowOf_at (F := Ideal) _ (2303 - n) (by omega) (time_no hn h), h.hD]
  show ((back (column a (j 0).val (j 1).val) (column d (j 0).val (j 1).val) n : EReal) + (column d (j 0).val (j 1).val (2303 - (2303 - n)) : EReal) : EReal) = _
  rw [show 2303 - (2303 - n) = n by omega, ← EReal.coe_add]; rfl

include hn h in
theorem row_H (j : S4x1024.Idx) : rowOf (F := Ideal) (timeH V) (timeNo (F := Ideal) (tripNo V)) j
    = H (ix3 (j 0 : Fin 4) (⟨2303 - n, by omega⟩ : Fin 2304) (j 1 : Fin 1024)) := by
  rw [rowOf_at (F := Ideal) _ (2303 - n) (by omega) (time_no hn h), h.hH]; rfl

include hn h in
/-- One trip. -/
theorem bwd_next : Bwd a d H (n + 1) (afterL aftI V) where
  hA i := (congrFun (aft_kept V main_v12_2 (by decide +kernel)) i).trans (h.hA i)
  hD i := (congrFun (aft_kept V main_v12_0 (by decide +kernel)) i).trans (h.hD i)
  hH i := (congrFun (aft_kept V main_v12_1 (by decide +kernel)) i).trans (h.hH i)
  hN u := by
    refine (congrFun (aft_3 V) u).trans ?_
    show tripNo V u + 1#32 = _
    rw [h.hN, word_next]
  hC j := by
    refine (congrFun (aft_4 V) j).trans ?_
    refine (congrArg₂ (fun x y : EReal => x * y) (row_A hn h j) (row_grad hn h j)).trans ?_
    rw [← EReal.coe_mul]; rfl
  hG i hi := by
    refine (congrFun (aft_6 V) i).trans ?_
    refine (rowIn_at (F := Ideal) _ (2303 - n) (by omega) (time_no hn h) (gotG V) _ i).trans ?_
    by_cases e : (i 0).val = 2303 - n
    · rw [if_pos e, row_grad hn h, e, show 2303 - (2303 - n) = n by omega]; rfl
    · rw [if_neg e]; exact h.hG i (by omega)
  hGA i hi := by
    refine (congrFun (aft_5 V) i).trans ?_
    refine (rowIn_at (F := Ideal) _ (2303 - n) (by omega) (time_no hn h) (gotGA V) _ i).trans ?_
    by_cases e : (i 0).val = 2303 - n
    · rw [if_pos e]
      refine (congrArg₂ (fun x y : EReal => x * y) (row_grad hn h (ix2 (i 1 : Fin 4) (i 2 : Fin 1024))) (row_H hn h (ix2 (i 1 : Fin 4) (i 2 : Fin 1024)))).trans ?_
      rw [show 2303 - (i 0).val = n by omega]
      refine congrArg (fun x => (_ * H x : EReal)) (funext fun b => ?_)
      match b with
      | ⟨0, _⟩ => rfl
      | ⟨1, _⟩ => exact Fin.ext e.symm
      | ⟨2, _⟩ => rfl
    · rw [if_neg e]; exact h.hGA i (by omega)
end

/-! ## The whole run -/

theorem fwd_all (W : Dev nD → Valuation τ sig (Elt Ideal)) (c : Dev nD) (h : Fwd a b 0 (W c)) : ∀ n ≤ 2304, Fwd a b n (atTrip foreTest foreI W n c)
  | 0, _ => h
  | n + 1, hn => by
    rw [atTrip_succ]
    exact fwd_next (by omega) (fwd_test (fwd_all W c h n (by omega)))

theorem bwd_all (W : Dev nD → Valuation τ sig (Elt Ideal)) (c : Dev nD) (h : Bwd a d H 0 (W c)) : ∀ n ≤ 2304, Bwd a d H n (atTrip aftTest aftI W n c)
  | 0, _ => h
  | n + 1, hn => by
    rw [atTrip_succ]
    exact bwd_next (by omega) (bwd_test (bwd_all W c h n (by omega)))

theorem to_time {α : Type} (X : Whole.Idx → α) (i : S2304x4x1024.Idx) :
    transpose S2304x4x1024 [1, 0, 2] X transposes_S4x2304x1024_S2304x4x1024_1_0_2 i = X (ix3 (i 1 : Fin 4) (i 0 : Fin 2304) (i 2 : Fin 1024)) :=
  transpose_apply _ X _ _ _ fun b => match b with | ⟨0, _⟩ => rfl | ⟨1, _⟩ => rfl | ⟨2, _⟩ => rfl
theorem from_time {α : Type} (X : S2304x4x1024.Idx → α) (i : Whole.Idx) :
    transpose S4x2304x1024 [1, 0, 2] X transposes_S2304x4x1024_S4x2304x1024_1_0_2 i = X (ix3 (i 1 : Fin 2304) (i 0 : Fin 4) (i 2 : Fin 1024)) :=
  transpose_apply _ X _ _ _ fun b => match b with | ⟨0, _⟩ => rfl | ⟨1, _⟩ => rfl | ⟨2, _⟩ => rfl

theorem zeros_at (j : S4x1024.Idx) :
    (broadcastInDim S4x1024 ![] bcast_S_S4x1024 (constant (F := Ideal) S_ .f32 0x00000000#32) : S4x1024.Idx → EReal) j = ((0 : ℝ) : EReal) := by
  show Ideal.ofBits .f32 0x00000000#32 = ((0 : ℝ) : EReal)
  simp [Ideal.ofBits, Ideal.ieee]

variable (m : (ℓ : Loc nD τ sig) → Buf (Elt Ideal) ℓ)

abbrev argA (c : Dev nD) : Whole.Idx → EReal := m ((c.tc : Thread nD τ).loc main_arg0)
abbrev argB (c : Dev nD) : Whole.Idx → EReal := m ((c.tc : Thread nD τ).loc main_arg1)
abbrev argD (c : Dev nD) : Whole.Idx → EReal := m ((c.tc : Thread nD τ).loc main_arg2)

section
variable (c : Dev nD) (hA : ∀ i, argA m c i = (a i : EReal)) (hB : ∀ i, argB m c i = (b i : EReal)) (hD : ∀ i, argD m c i = (d i : EReal))

theorem scan_eq : atScan m c = after opening (launchContents m c) := by simp only [afterL_cons, afterL_nil]
theorem back_eq : atBack m c = after between (scanned m c) := by simp only [afterL_cons, afterL_nil]
theorem end_eq : atEnd m c = after closing (returned m c) := by simp only [afterL_cons, afterL_nil]

include hA hB in
theorem fwd_start : Fwd a b 0 (atScan m c) where
  hA i := by
    rw [scan_eq]
    refine (congrFun (open_0 _) i).trans ((to_time (argA m c) i).trans ((hA _).trans ?_))
    exact congrArg _ (line_at a (ix3 (i 1 : Fin 4) (i 0 : Fin 2304) (i 2 : Fin 1024)) _ rfl)
  hB i := by
    rw [scan_eq]
    refine (congrFun (open_1 _) i).trans ((to_time (argB m c) i).trans ((hB _).trans ?_))
    exact congrArg _ (line_at b (ix3 (i 1 : Fin 4) (i 0 : Fin 2304) (i 2 : Fin 1024)) _ rfl)
  hN u := congrFun (count_scan m c) u
  hH j := by
    rw [scan_eq]
    exact (congrFun (open_3 _) j).trans (zeros_at j)
  hS i hi := absurd hi (Nat.not_lt_zero _)
  hP i hi := absurd hi (Nat.not_lt_zero _)

include hA hB in
/-- The states before each time, when the scan is done. -/
theorem scanned_P (i : S2304x4x1024.Idx) : gotP (scanned m c) i = (state (line a (i 1).val (i 2).val) (line b (i 1).val (i 2).val) (i 0).val : EReal) :=
  (fwd_test (fwd_all a b (atScan m) c (fwd_start a b m c hA hB) 2304 le_rfl)).hP i (i 0).isLt

/-- A buffer that nothing before the scan back writes. -/
theorem scanned_kept (r : Ref sig .tc) (h : r ∉ fore0_W ++ fore1_W ++ fore2_W ++ fore3_W ++ fore4_W ++ fore5_W) (h' : r ∉ foreTest_W) :
    scanned m c (Proc.devRef .tc r) = atScan m c (Proc.devRef .tc r) := by
  unfold scanned
  rw [stayT _ r h', fore_trips_kept _ c r h h' 2304]

include hA hB hD in
theorem bwd_start : Bwd a d (fun i => (beforeAll a b i : EReal)) 0 (atBack m c) where
  hA i := by
    rw [back_eq]
    refine (congrFun (betw_2 _) i).trans ?_
    rw [scanned_kept m c main_v1 (by decide +kernel) (by decide +kernel), scan_eq]
    refine (congrFun (open_v1 _) i).trans ((to_time (argA m c) i).trans ((hA _).trans ?_))
    exact congrArg _ (column_at a (ix3 (i 1 : Fin 4) (i 0 : Fin 2304) (i 2 : Fin 1024)) _ rfl)
  hD i := by
    rw [back_eq]
    refine (congrFun (betw_0 _) i).trans ?_
    rw [scanned_kept m c main_arg2 (by decide +kernel) (by decide +kernel), scan_eq, after_of_writes_sub opening _ opening_writes (by decide +kernel)]
    refine (to_time (argD m c) i).trans ((hD _).trans ?_)
    exact congrArg _ (column_at d (ix3 (i 1 : Fin 4) (i 0 : Fin 2304) (i 2 : Fin 1024)) _ rfl)
  hH i := by
    rw [back_eq]
    exact (congrFun (betw_1 _) i).trans (scanned_P a b m c hA hB i)
  hN u := congrFun (count_back m c) u
  hC j := by
    rw [back_eq]
    exact (congrFun (betw_4 _) j).trans (zeros_at j)
  hG i hi := absurd hi (by
    have h0 : (i 0).val < 2304 := (i 0).isLt
    omega)
  hGA i hi := absurd hi (by
    have h0 : (i 0).val < 2304 := (i 0).isLt
    omega)

include hA hB hD in
theorem bwd_done : Bwd a d (fun i => (beforeAll a b i : EReal)) 2304 (returned m c) :=
  bwd_test (bwd_all a d _ (atBack m) c (bwd_start a b d m c hA hB hD) 2304 le_rfl)

include hA hB in
/-- The states. -/
theorem result_H (i : Whole.Idx) : (atEnd m c (Proc.devRef .tc main_v6) : Whole.Idx → EReal) i = (stateAll a b i : EReal) := by
  rw [end_eq, after_of_writes_sub closing _ closing_writes (by decide +kernel)]
  unfold returned
  rw [keepT _ main_v6 (by decide +kernel), aft_trips_kept _ c main_v6 (by decide +kernel) (by decide +kernel) 2304, back_eq]
  refine (congrFun (betw_6 _) i).trans ((from_time (gotS (scanned m c)) i).trans ?_)
  exact (fwd_test (fwd_all a b (atScan m) c (fwd_start a b m c hA hB) 2304 le_rfl)).hS _ (i 1).isLt

include hA hB hD in
/-- The gradient of the inputs. -/
theorem result_G (i : Whole.Idx) : (atEnd m c (Proc.devRef .tc main_v13) : Whole.Idx → EReal) i = (gradAll a d i : EReal) := by
  rw [end_eq]
  refine (congrFun (clos_13 _) i).trans ((from_time (gotG (returned m c)) i).trans ?_)
  exact (bwd_done a b d m c hA hB hD).hG _ (by omega)

include hA hB hD in
/-- The gradient of the decays. -/
theorem result_GA (i : Whole.Idx) : (atEnd m c (Proc.devRef .tc main_v14) : Whole.Idx → EReal) i = ((gradAll a d i : EReal) * (beforeAll a b i : EReal) : EReal) := by
  rw [end_eq]
  refine (congrFun (clos_14 _) i).trans ((from_time (gotGA (returned m c)) i).trans ?_)
  refine ((bwd_done a b d m c hA hB hD).hGA _ (by omega)).trans ?_
  rfl
end

end Cert.Reference20Ideal.Two

end
-- ==== Proof.Lru.lean ====
module

public import proofs.«01_k».proof.Defs
public import proofs.«01_k».proof.Proof.BothRun
public import proofs.«01_k».proof.Proof.LruWhole
public import proofs.«01_k».proof.Proof.ForeWhole
public import proofs.«01_k».proof.Proof.TwoVal

/-! The gradient of the gated recurrence: the two calls' arrays are those of the reference's scan and of its gradient, for
finite decays, inputs and gradients. -/

@[expose] public section

noncomputable section

namespace Cert.Lru

open Idealize.ShloMosaic Idealize.SL.Sem

/-- The precondition's one side condition. -/
theorem preFacts : Cert.Pre_finite20.Facts := ⟨by decide⟩

/-- An extended real whose absolute value is below infinity is a real. -/
theorem real_of_abs (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  unfold Ideal.cmp at h
  refine (EReal.coe_toReal ?_ ?_).symm
  · rintro rfl; simp at h
  · rintro rfl; simp at h

/-- An array the precondition's test passes holds reals. -/
theorem real_of_test [Cert.Pre_finite20.Facts] (X : Whole.Idx → EReal)
    (h : cmpf (F := Ideal) (φ := .f32) .olt (Host.absf (F := Ideal) (φ := .f32) X)
      (broadcastInDim Cert.Pre_finite20.S4x2304x1024 ![] Cert.Pre_finite20.Facts.bcast_S_S4x2304x1024 (constant (F := Ideal) Cert.Pre_finite20.S_ .f32 0x7F800000#32))
        = fun _ => 1#1) (i : Whole.Idx) : X i = ((X i).toReal : EReal) :=
  real_of_abs (X i) (congrFun h i)

end Cert.Lru

namespace Cert.Kernel20Ideal.Gen.Both

open Idealize.ShloMosaic Idealize.ShloMosaic.TcCoe
open Idealize.SL.Sem
open Cert.Lru

variable (m : (ℓ : Loc nD τ sig) → Buf (Elt Ideal) ℓ) (ρ : Dev nD → PrngReg) (a b d : Dev nD → Whole.Idx → ℝ)

/-- The decays, the inputs and the gradients at launch. -/
abbrev inA (c : Dev nD) : Whole.Idx → EReal := m ((c.tc : Thread nD τ).loc main_arg0)
abbrev inB (c : Dev nD) : Whole.Idx → EReal := m ((c.tc : Thread nD τ).loc main_arg1)
abbrev inD (c : Dev nD) : Whole.Idx → EReal := m ((c.tc : Thread nD τ).loc main_arg2)

/-- What the second call finds: the decays and the gradients as given, -/
theorem found_a (c : Dev nD) : find1 m c main_arg0 = m ((c.tc : Thread nD τ).loc main_arg0) :=
  (Pipeline.afterRegion_arr (Fwd.plan (find0 m) c) (W0 m c) winFacts0.arr_inj 0).trans (((Fwd.plan (find0 m) c).arrAt_in 0 rfl _).trans (Fwd.plan_A (find0 m) c 0))

variable (hA : ∀ c i, inA m c i = (a c i : EReal)) (hB : ∀ c i, inB m c i = (b c i : EReal)) (hD : ∀ c i, inD m c i = (d c i : EReal))

include hA hB in
/-- and the states the first call saved. -/
theorem found_h (c : Dev nD) : find1 m c main_v0_1 = Fwd.resP c (a c) (b c) :=
  (Pipeline.afterRegion_arr (Fwd.plan (find0 m) c) (W0 m c) winFacts0.arr_inj 3).trans (Fwd.array_3 (find0 m) c (a c) (b c) (hA c) (hB c))

include hA hD in
/-- What the second call leaves: the gradient of the inputs -/
theorem left_G (c : Dev nD) : W2 m c (Proc.devRef .tc main_v1_0) = Lru.resG c (a c) (d c) :=
  (Pipeline.afterRegion_arr (Lru.plan (find1 m) c) (W1 m c) winFacts1.arr_inj 3).trans (Lru.array_3 (find1 m) c (a c) (d c)
    (fun i => (congrFun (found_a m c) i).trans (hA c i)) (fun i => (congrFun (found2 m c) i).trans (hD c i)))

include hA hB in
/-- The states, which the second call does not touch. -/
theorem left_H (c : Dev nD) : W2 m c (Proc.devRef .tc main_v0_0) = Fwd.resH c (a c) (b c) :=
  (Pipeline.afterRegion_of_not_arr (Lru.plan (find1 m) c) (W1 m c) (by decide)).trans
    ((Pipeline.afterRegion_arr (Fwd.plan (find0 m) c) (W0 m c) winFacts0.arr_inj 2).trans (Fwd.array_2 (find0 m) c (a c) (b c) (hA c) (hB c)))

/-- The product of the gradient with the saved states. -/
def resDA (c : Dev nD) : Buf (Elt Ideal) ((c.tc : Thread nD τ).loc main_v1_1) :=
  fun (i : Whole.Idx) => ((gradAll (a c) (d c) i : EReal) * (beforeAll (a c) (b c) i : EReal) : EReal)

include hA hB hD in
/-- and of the decays. -/
theorem left_GA (c : Dev nD) : W2 m c (Proc.devRef .tc main_v1_1) = resDA a b d c :=
  ((Pipeline.afterRegion_arr (Lru.plan (find1 m) c) (W1 m c) winFacts1.arr_inj 4).trans (Lru.array_4 (find1 m) c (a c) (d c)
    (fun i => (congrFun (found_a m c) i).trans (hA c i)) (fun i => (congrFun (found2 m c) i).trans (hD c i)))).trans
    (funext fun i => congrArg (fun x : EReal => ((gradAll (a c) (d c) i : EReal) * x : EReal)) (congrFun (found_h m a b hA hB c) i))

include hA hB hD in
theorem value_run : θ_run defs (onTc (τ := τ) (main (F := Ideal))) ⟨m, fun _ => 0, ρ⟩ (fun r => ∀ c : Dev nD,
      r.2.mem ((c.tc : Thread nD τ).loc main_v0_0) = Fwd.resH c (a c) (b c)
      ∧ r.2.mem ((c.tc : Thread nD τ).loc main_v1_1) = resDA a b d c
      ∧ r.2.mem ((c.tc : Thread nD τ).loc main_v1_0) = Lru.resG c (a c) (d c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h.1 c _ (listed main_v0_0 rfl)).trans (left_H m a b hA hB c),
       (h.1 c _ (listed main_v1_1 rfl)).trans (left_GA m a b d hA hB hD c), (h.1 c _ (listed main_v1_0 rfl)).trans (left_G m a d hA hD c),
       (h.1 c _ (listed main_arg0 rfl)).trans (kept0 m c), (h.1 c _ (listed main_arg1 rfl)).trans (kept1 m c),
       (h.1 c _ (listed main_arg2 rfl)).trans (kept2 m c)⟩) (whole_run m ρ)

end Cert.Kernel20Ideal.Gen.Both

namespace Cert.Reference20Ideal.Two

open Idealize.ShloMosaic Idealize.ShloMosaic.TcCoe Idealize.ShloMosaic.StableHlo
open Idealize.SL.Sem

variable (m : (ℓ : Loc nD τ sig) → Buf (Elt Ideal) ℓ) (ρ : Dev nD → PrngReg)

/-- A buffer no stretch of the reference writes ends as it began. -/
theorem end_kept (c : Dev nD) (r : Ref sig .tc) (h0 : r ∉ opening_W)
    (h1 : r ∉ fore0_W ++ fore1_W ++ fore2_W ++ fore3_W ++ fore4_W ++ fore5_W) (h2 : r ∉ foreTest_W) (h3 : r ∉ between_W)
    (h4 : r ∉ aft0_W ++ aft1_W ++ aft2_W ++ aft3_W ++ aft4_W ++ aft5_W ++ aft6_W ++ aft7_W) (h5 : r ∉ aftTest_W) (h6 : r ∉ closing_W) :
    atEnd m c (Proc.devRef .tc r) = m ((c.tc : Thread nD τ).loc r) := by
  simp only [atEnd, atBack, afterL_cons, afterL_nil]
  rw [after_of_writes_sub closing _ closing_writes h6]
  unfold returned
  rw [keepT _ r h5, aft_trips_kept _ c r h4 h5 2304]
  simp only [atBack, afterL_cons, afterL_nil]
  rw [after_of_writes_sub between _ between_writes h3, scanned_kept m c r h1 h2]
  simp only [atScan, afterL_cons, afterL_nil]
  rw [after_of_writes_sub opening _ opening_writes h0]

theorem end_args (c : Dev nD) : atEnd m c (Proc.devRef .tc main_arg0) = m ((c.tc : Thread nD τ).loc main_arg0)
    ∧ atEnd m c (Proc.devRef .tc main_arg1) = m ((c.tc : Thread nD τ).loc main_arg1)
    ∧ atEnd m c (Proc.devRef .tc main_arg2) = m ((c.tc : Thread nD τ).loc main_arg2) := by
  refine ⟨end_kept m c main_arg0 ?_ ?_ ?_ ?_ ?_ ?_ ?_, end_kept m c main_arg1 ?_ ?_ ?_ ?_ ?_ ?_ ?_, end_kept m c main_arg2 ?_ ?_ ?_ ?_ ?_ ?_ ?_⟩ <;> decide +kernel

/-- The reference's run: its three results and its arguments. -/
theorem value_run : θ_run (defs (F := Ideal)) (onTc (τ := τ) (main (F := Ideal))) ⟨m, fun _ => 0, ρ⟩ (fun r => ∀ c : Dev nD,
      r.2.mem ((c.tc : Thread nD τ).loc main_v6) = atEnd m c (Proc.devRef .tc main_v6)
      ∧ r.2.mem ((c.tc : Thread nD τ).loc main_v14) = atEnd m c (Proc.devRef .tc main_v14)
      ∧ r.2.mem ((c.tc : Thread nD τ).loc main_v13) = atEnd m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨h c _ rfl, h c _ rfl, h c _ rfl, (h c _ rfl).trans (end_args m c).1, (h c _ rfl).trans (end_args m c).2.1, (h c _ rfl).trans (end_args m c).2.2⟩) (two_run m ρ)

end Cert.Reference20Ideal.Two

namespace Cert.Proof

open Idealize.ShloMosaic Idealize.SL.Sem

theorem quiescent_Reference20Ideal : quiescent_Reference20Ideal := fun m ρ _ =>
  (θ_run Cert.Reference20Ideal.defs _ _).mono (fun r h => ⟨fun c => (h c).2.2.2, sem_eq_zero_of_no_sems (by decide) r.2⟩)
    (Cert.Reference20Ideal.Two.value_run m ρ)

theorem quiescent_Reference20Ideal_pre_finite20 [Cert.Pre_finite20.Facts] : quiescent_Reference20Ideal_pre_finite20 :=
  fun m ρ _ => quiescent_Reference20Ideal m ρ trivial

theorem algebraic_Kernel20Ideal_Reference20Ideal_pre_finite20 [Cert.Pre_finite20.Facts] :
    algebraic_Kernel20Ideal_Reference20Ideal_pre_finite20 := by
  intro m ρ m' ρ' hpre hagree
  have hA := fun c i => Cert.Lru.real_of_test (Cert.Kernel20Ideal.Gen.Both.inA m c) (hpre c).1 i
  have hB := fun c i => Cert.Lru.real_of_test (Cert.Kernel20Ideal.Gen.Both.inB m c) (hpre c).2.1 i
  have hD := fun c i => Cert.Lru.real_of_test (Cert.Kernel20Ideal.Gen.Both.inD m c) (hpre c).2.2 i
  refine ⟨_, _, _, Cert.Kernel20Ideal.Gen.Both.value_run m ρ (fun c i => (Cert.Kernel20Ideal.Gen.Both.inA m c i).toReal)
    (fun c i => (Cert.Kernel20Ideal.Gen.Both.inB m c i).toReal) (fun c i => (Cert.Kernel20Ideal.Gen.Both.inD m c i).toReal) hA hB hD, ?_⟩
  refine (θ_run Cert.Reference20Ideal.defs _ _).mono (fun _ h c => ⟨?_, ?_, ?_, (h c).2.2.2⟩) (Cert.Reference20Ideal.Two.value_run m' ρ')
  · exact (h c).1.trans (funext fun i => Cert.Reference20Ideal.Two.result_H _ _ m' c (fun i => (congrFun (hagree c).1 i).trans (hA c i))
      (fun i => (congrFun (hagree c).2.1 i).trans (hB c i)) i)
  · exact (h c).2.1.trans (funext fun i => Cert.Reference20Ideal.Two.result_GA _ _ _ m' c (fun i => (congrFun (hagree c).1 i).trans (hA c i))
      (fun i => (congrFun (hagree c).2.1 i).trans (hB c i)) (fun i => (congrFun (hagree c).2.2 i).trans (hD c i)) i)
  · exact (h c).2.2.1.trans (funext fun i => Cert.Reference20Ideal.Two.result_G _ _ _ m' c (fun i => (congrFun (hagree c).1 i).trans (hA c i))
      (fun i => (congrFun (hagree c).2.1 i).trans (hB c i)) (fun i => (congrFun (hagree c).2.2 i).trans (hD c i)) i)

end Cert.Proof

end
-- ==== Proof.Mm1.lean ====
/-
  The product `ffn_in_dx` of the step: the gradient of the feed-forward block's input, two products added in one
  accumulator. What its tiles hold, what its result is, and that reference.py's lines have the same result.
-/
module

public import proofs.«01_k».proof.Defs
public import proofs.«01_k».proof.Proof.Product
public import proofs.«01_k».proof.Proof.Gen.KernelIdeal.Frame
public import proofs.«01_k».proof.Proof.Gen.ReferenceIdeal.Run

@[expose] public section

set_option maxRecDepth 16384

noncomputable section

namespace Cert.KernelIdeal.Tiles

open Cert.KernelIdeal Cert.KernelIdeal.Gen Cert.Product
open Idealize.ShloMosaic Idealize.ShloMosaic.TcCoe Idealize.SL.Sem

section Body
variable {F : FTy → Type} [FloatOps F] (c : Dev nD) (i : grid0.Coords) (a0 : Memref sig .tc .vmem S1024x1408 .bf16) (h0 : a0.IsWhole)
    (a1 : Memref sig .tc .vmem S1024x1408 .bf16) (h1 : a1.IsWhole) (a2 : Memref sig .tc .vmem S1024x1408 .bf16) (h2 : a2.IsWhole)
    (a3 : Memref sig .tc .vmem S1024x1408 .bf16) (h3 : a3.IsWhole) (a4 : Memref sig .tc .vmem S1024x1024 .f32) (h4 : a4.IsWhole)
    (a5 : Memref sig .tc .vmem S1024x1024 .f32) (h5 : a5.IsWhole)
    (x y x' y' : Vec F S1024x1408 .bf16) (z : Vec F S1024x1024 .f32)

/-- The first step clears the accumulator and puts the first tile of the first product in it. -/
theorem acc_0 (p0 : cond0_0 i) (p1 : cond0_1 i) (p2 : ¬cond0_2 i) (p3 : ¬cond0_3 i) :
    sout0_A_0 c i a0 h0 a1 h1 a2 h2 a3 h3 a4 h4 a5 h5 p0 p1 p2 p3 x y x' y' = k0_pay2 x y k0_pay1 := by
  unfold sout0_A_0
  rw [View.read_writes_eq_canon _ _ _ (scover0_A_0 c i a0 h0 a1 h1 a2 h2 a3 h3 a4 h4 a5 h5 p0 p1 p2 p3 x y x' y')]
  unfold kernelRun0_A
  dsimp only
  sl_unfold_words
  rw [canon2, cov2]
  simp only [View.readAt_eq_ld, h0.read_unread, h1.read_unread, ld2]

/-- The second step adds the rest of the first product. -/
theorem acc_1 (p0 : ¬cond0_0 i) (p1 : cond0_1 i) (p2 : ¬cond0_2 i) (p3 : ¬cond0_3 i) :
    sout0_B_0 c i a0 h0 a1 h1 a2 h2 a3 h3 a4 h4 a5 h5 p0 p1 p2 p3 x y x' y' z = k0_pay2 x y z := by
  unfold sout0_B_0
  rw [View.read_writes_eq_canon _ _ _ (scover0_B_0 c i a0 h0 a1 h1 a2 h2 a3 h3 a4 h4 a5 h5 p0 p1 p2 p3 x y x' y' z)]
  unfold kernelRun0_B
  dsimp only
  sl_unfold_words
  rw [canon2]
  simp only [View.readAt_eq_ld, h0.read_unread, h1.read_unread, h5.read_unread, ld2]

/-- The third step adds the first tile of the second product. -/
theorem acc_2 (p0 : ¬cond0_0 i) (p1 : ¬cond0_1 i) (p2 : cond0_2 i) (p3 : ¬cond0_3 i) :
    sout0_C_0 c i a0 h0 a1 h1 a2 h2 a3 h3 a4 h4 a5 h5 p0 p1 p2 p3 x y x' y' z = k0_pay3 x' y' z := by
  unfold sout0_C_0
  rw [View.read_writes_eq_canon _ _ _ (scover0_C_0 c i a0 h0 a1 h1 a2 h2 a3 h3 a4 h4 a5 h5 p0 p1 p2 p3 x y x' y' z)]
  unfold kernelRun0_C
  dsimp only
  sl_unfold_words
  rw [canon2]
  simp only [View.readAt_eq_ld, h2.read_unread, h3.read_unread, h5.read_unread, ld2]

/-- The last step adds the rest of the second product. -/
theorem acc_3 (p0 : ¬cond0_0 i) (p1 : ¬cond0_1 i) (p2 : cond0_2 i) (p3 : cond0_3 i) :
    sout0_D_0 c i a0 h0 a1 h1 a2 h2 a3 h3 a4 h4 a5 h5 p0 p1 p2 p3 x y x' y' z = k0_pay3 x' y' z := by
  unfold sout0_D_0
  rw [View.read_writes_eq_canon _ _ _ (scover0_D_0 c i a0 h0 a1 h1 a2 h2 a3 h3 a4 h4 a5 h5 p0 p1 p2 p3 x y x' y' z)]
  unfold kernelRun0_D
  dsimp only
  sl_unfold_words
  rw [canon2]
  simp only [View.readAt_eq_ld, h2.read_unread, h3.read_unread, h5.read_unread, ld2]

/-- And writes what the accumulator then holds to the result's block. -/
theorem out_3 (p0 : ¬cond0_0 i) (p1 : ¬cond0_1 i) (p2 : cond0_2 i) (p3 : cond0_3 i) :
    out0_D_4 c i a0 h0 a1 h1 a2 h2 a3 h3 a4 h4 a5 h5 p0 p1 p2 p3 x y x' y' z = k0_pay3 x' y' z := by
  unfold out0_D_4
  rw [View.read_writes_eq_canon _ _ _ (cover0_D_4 c i a0 h0 a1 h1 a2 h2 a3 h3 a4 h4 a5 h5 p0 p1 p2 p3 x y x' y' z)]
  unfold kernelRun0_D
  dsimp only
  sl_unfold_words
  rw [canon2]
  simp only [cov2, View.readAt_eq_ld, h2.read_unread, h3.read_unread, h5.read_unread, ld2]

end Body

variable (m : (ℓ : Loc nD τ sig) → Buf (Elt Ideal) ℓ) (ρ : Dev nD → PrngReg)

/-- The cleared accumulator is nothing everywhere. -/
theorem cleared (j : S1024x1024.Idx) : (k0_pay1 (F := Ideal)) j = (0 : EReal) := by
  unfold k0_pay1
  rw [shapeCast_self]
  exact zero_word

/-- A step of either product at one entry: the accumulator's entry and the tile product's. -/
theorem step_entry (x y : Vec Ideal S1024x1408 .bf16) (z : Vec Ideal S1024x1024 .f32) (j : S1024x1024.Idx) :
    k0_pay2 x y z j = (z j : EReal) + ∑ k : Fin 1408, (x (ix2 (j 0) k) : EReal) * (y (ix2 (j 1) k) : EReal) := by
  pointwise [k0_pay2]

theorem step_entry' (x y : Vec Ideal S1024x1408 .bf16) (z : Vec Ideal S1024x1024 .f32) (j : S1024x1024.Idx) :
    k0_pay3 x y z j = (z j : EReal) + ∑ k : Fin 1408, (x (ix2 (j 0) k) : EReal) * (y (ix2 (j 1) k) : EReal) := by
  pointwise [k0_pay3]

/-- Where each window's block lies, over the grid. -/
theorem places : ∀ t : Fin cfg0.N, win0_0.index t (0 : Fin 2) = t.val / 4 / 1 ∧ win0_0.index t (1 : Fin 2) = min (t.val % 4) 1
    ∧ win0_1.index t (0 : Fin 2) = t.val / 4 % 1 ∧ win0_1.index t (1 : Fin 2) = min (t.val % 4) 1
    ∧ win0_2.index t (0 : Fin 2) = t.val / 4 / 1 ∧ win0_2.index t (1 : Fin 2) = (t.val % 4 - 2)
    ∧ win0_3.index t (0 : Fin 2) = t.val / 4 % 1 ∧ win0_3.index t (1 : Fin 2) = (t.val % 4 - 2)
    ∧ win0_4.index t (0 : Fin 2) = t.val / 4 / 1 ∧ win0_4.index t (1 : Fin 2) = t.val / 4 % 1 :=
  (by decide +kernel : ∀ t : Fin grid0.N, _)

/-- The factors: the arrays as the call finds them. -/
abbrev fstA (c : Dev nD) : S9216x2816.Idx → EReal := m ((c : Thread nD τ).loc main_arg0)
abbrev fstG (c : Dev nD) : S1024x2816.Idx → EReal := m ((c : Thread nD τ).loc main_arg1)
abbrev sndA (c : Dev nD) : S9216x2816.Idx → EReal := m ((c : Thread nD τ).loc main_arg2)
abbrev sndG (c : Dev nD) : S1024x2816.Idx → EReal := m ((c : Thread nD τ).loc main_arg3)

/-- The `K`-th term of entry `(p, q)`: the first product's 2816 terms, then the second's. -/
def term (c : Dev nD) (p q K : ℕ) : EReal :=
  if K < 2816 then entry (fstA m c) p K * entry (fstG m c) q K
  else entry (sndA m c) p (K - 2816) * entry (sndG m c) q (K - 2816)

theorem block_0 (c : Dev nD) (t : Fin cfg0.N) (y : S1024x1408.Idx) :
    (iblk m c 0 t : Vec Ideal S1024x1408 .bf16) y = entry (fstA m c) (t.val / 4 / 1 * 1024 + (y 0).val) (min (t.val % 4) 1 * 1408 + (y 1).val) := by
  obtain ⟨e0, e1, -⟩ := places t
  unfold iblk
  rw [View.read_apply]
  exact entry_of_index (fstA m c) _ _ _
    (show win0_0.index t 0 * 1024 + 1 * (y 0).val = _ by rw [e0, Nat.one_mul])
    (show win0_0.index t 1 * 1408 + 1 * (y 1).val = _ by rw [e1, Nat.one_mul])

theorem block_1 (c : Dev nD) (t : Fin cfg0.N) (y : S1024x1408.Idx) :
    (iblk m c 1 t : Vec Ideal S1024x1408 .bf16) y = entry (fstG m c) (t.val / 4 % 1 * 1024 + (y 0).val) (min (t.val % 4) 1 * 1408 + (y 1).val) := by
  obtain ⟨-, -, e0, e1, -⟩ := places t
  unfold iblk
  rw [View.read_apply]
  exact entry_of_index (fstG m c) _ _ _
    (show win0_1.index t 0 * 1024 + 1 * (y 0).val = _ by rw [e0, Nat.one_mul])
    (show win0_1.index t 1 * 1408 + 1 * (y 1).val = _ by rw [e1, Nat.one_mul])

theorem block_2 (c : Dev nD) (t : Fin cfg0.N) (y : S1024x1408.Idx) :
    (iblk m c 2 t : Vec Ideal S1024x1408 .bf16) y = entry (sndA m c) (t.val / 4 / 1 * 1024 + (y 0).val) ((t.val % 4 - 2) * 1408 + (y 1).val) := by
  obtain ⟨-, -, -, -, e0, e1, -⟩ := places t
  unfold iblk
  rw [View.read_apply]
  exact entry_of_index (sndA m c) _ _ _
    (show win0_2.index t 0 * 1024 + 1 * (y 0).val = _ by rw [e0, Nat.one_mul])
    (show win0_2.index t 1 * 1408 + 1 * (y 1).val = _ by rw [e1, Nat.one_mul])

theorem block_3 (c : Dev nD) (t : Fin cfg0.N) (y : S1024x1408.Idx) :
    (iblk m c 3 t : Vec Ideal S1024x1408 .bf16) y = entry (sndG m c) (t.val / 4 % 1 * 1024 + (y 0).val) ((t.val % 4 - 2) * 1408 + (y 1).val) := by
  obtain ⟨-, -, -, -, -, -, e0, e1, -⟩ := places t
  unfold iblk
  rw [View.read_apply]
  exact entry_of_index (sndG m c) _ _ _
    (show win0_3.index t 0 * 1024 + 1 * (y 0).val = _ by rw [e0, Nat.one_mul])
    (show win0_3.index t 1 * 1408 + 1 * (y 1).val = _ by rw [e1, Nat.one_mul])

/-- A step of the first product at point `t` over the accumulator `z`. -/
theorem step_at (c : Dev nD) (t : Fin cfg0.N) (h : t.val % 4 ≤ 1) (z : Vec Ideal S1024x1024 .f32) (j : S1024x1024.Idx) :
    k0_pay2 (iblk m c 0 t) (iblk m c 1 t) z j = (z j : EReal) + piece (term m c) 1024 1024 1408 1 4 t.val (j 0).val (j 1).val := by
  rw [step_entry]
  refine congrArg (_ + ·) (Finset.sum_congr rfl fun k _ => ?_)
  have hk := k.isLt
  rw [block_0, block_1]
  unfold term
  rw [if_pos (show t.val % 4 * 1408 + k.val < 2816 by omega), Nat.min_eq_left h]
  rfl

/-- A step of the second product. -/
theorem step_at' (c : Dev nD) (t : Fin cfg0.N) (h : 2 ≤ t.val % 4) (z : Vec Ideal S1024x1024 .f32) (j : S1024x1024.Idx) :
    k0_pay3 (iblk m c 2 t) (iblk m c 3 t) z j = (z j : EReal) + piece (term m c) 1024 1024 1408 1 4 t.val (j 0).val (j 1).val := by
  rw [step_entry']
  refine congrArg (_ + ·) (Finset.sum_congr rfl fun k _ => ?_)
  have hk := k.isLt
  rw [block_2, block_3]
  unfold term
  rw [if_neg (show ¬t.val % 4 * 1408 + k.val < 2816 by omega),
    show t.val % 4 * 1408 + k.val - 2816 = (t.val % 4 - 2) * 1408 + k.val by omega]
  rfl

/-- The accumulator after every point. -/
theorem acc_after (c : Dev nD) : ∀ (n : ℕ) (h : n < cfg0.N) (j : S1024x1024.Idx),
    (outsAt0 m c n h).2 j = upTo (term m c) 1024 1024 1408 1 4 n (j 0).val (j 1).val := by
  intro n
  induction n with
  | zero =>
    intro h j
    rw [outsAt0_A m c ⟨0, h⟩ rfl (by dsimp only; omega) (by dsimp only; omega) (by dsimp only; omega)]
    dsimp only
    rw [acc_0, step_at m c _ (by dsimp only; omega), cleared]
    exact upTo_first (term m c) 1024 1024 1408 1 4 0 _ _ rfl
  | succ n ih =>
    intro h j
    by_cases h0 : (n + 1) % 4 = 0
    · rw [outsAt0_A m c ⟨n + 1, h⟩ h0 (by dsimp only; omega) (by dsimp only; omega) (by dsimp only; omega)]
      dsimp only
      rw [acc_0, step_at m c _ (by dsimp only; omega), cleared]
      exact upTo_first (term m c) 1024 1024 1408 1 4 (n + 1) _ _ h0
    · by_cases h1 : (n + 1) % 4 ≤ 1
      · rw [outsAt0_B m c ⟨n + 1, h⟩ h0 h1 (by dsimp only; omega) (by dsimp only; omega)]
        dsimp only
        rw [acc_1, step_at m c _ h1]
        show (outsAt0 m c n _).2 j + _ = _
        rw [ih]
        exact upTo_next (term m c) 1024 1024 1408 1 4 (n + 1) _ _ (by omega) h0
      · have h2 : 2 ≤ (n + 1) % 4 := by omega
        by_cases h3 : (n + 1) % 4 = 3
        · rw [outsAt0_D m c ⟨n + 1, h⟩ h0 h1 h2 h3]
          dsimp only
          rw [acc_3, step_at' m c _ h2]
          show (outsAt0 m c n _).2 j + _ = _
          rw [ih]
          exact upTo_next (term m c) 1024 1024 1408 1 4 (n + 1) _ _ (by omega) h0
        · rw [outsAt0_C m c ⟨n + 1, h⟩ h0 h1 h2 h3]
          dsimp only
          rw [acc_2, step_at' m c _ h2]
          show (outsAt0 m c n _).2 j + _ = _
          rw [ih]
          exact upTo_next (term m c) 1024 1024 1408 1 4 (n + 1) _ _ (by omega) h0

/-- What a last step hands the write-back. -/
theorem out_after (c : Dev nD) (t : Fin cfg0.N) (h3 : t.val % 4 = 3) (j : S1024x1024.Idx) :
    (outsAt0 m c t.val t.isLt).1 j = upTo (term m c) 1024 1024 1408 1 4 t.val (j 0).val (j 1).val := by
  have h0 : ¬t.val % 4 = 0 := by omega
  have h2 : 2 ≤ t.val % 4 := by omega
  rw [outsAt0_D m c t h0 (by omega) h2 h3]
  dsimp only
  rw [out_3, step_at' m c t h2, acc_after]
  exact upTo_next (term m c) 1024 1024 1408 1 4 t.val _ _ (by omega) h0

/-- The sum of the two products, which the call computes. -/
def product (c : Dev nD) : Buf (Elt Ideal) ((c : Thread nD τ).loc main_v0) := fun (i : S9216x1024.Idx) =>
  (∑ K ∈ Finset.range 5632, term m c (i 0).val (i 1).val K : EReal)

theorem written (c : Dev nD) (t : Fin cfg0.N) (hf : (cfg0.win 4).flush t = true) :
    (dats m 0 c).flushed 4 t = ((cfg0.win 4).blk t).view.read (Elt Ideal) (product m c) := by
  have h1 : t.val % 4 = 3 := (flush0_4 t).mp hf
  obtain ⟨-, -, -, -, -, -, -, -, e0, e1⟩ := places t
  show (cfg0.win 4).cut (grid0.coords t) ((dats m 0 c).after 4 t) = _
  rw [after0_4]
  funext y
  show ((outsAt0 m c t.val t.isLt).1) ((cfg0.win 4).xinj (grid0.coords t) y) = product m c (((cfg0.win 4).blk t).view.emb y)
  rw [out_after m c t h1, upTo_last (term m c) 1024 1024 1408 1 4 t.val _ _ 5632 (by rw [h1])]
  have b0 : (((cfg0.win 4).blk t).view.emb y 0).val = t.val / 4 / 1 * 1024 + (y 0).val :=
    show win0_4.index t 0 * 1024 + 1 * (y 0).val = _ by rw [e0, Nat.one_mul]
  have b1 : (((cfg0.win 4).blk t).view.emb y 1).val = t.val / 4 % 1 * 1024 + (y 1).val :=
    show win0_4.index t 1 * 1024 + 1 * (y 1).val = _ by rw [e1, Nat.one_mul]
  unfold product
  rw [b0, b1]

/-- The point that writes the block an index lies in. -/
def writer (i : S9216x1024.Idx) : Fin grid0.N :=
  ⟨(i 0).val / 1024 * 4 + 3, lt_of_lt_of_eq (by
    have h0 : (i 0).val < 9216 := (i 0).isLt
    omega) N_0.symm⟩

theorem reached (i : S9216x1024.Idx) : (cfg0.win 4).flush (writer i) = true ∧ i ∈ ((cfg0.win 4).blk (writer i)).view.set := by
  have h0 : (i 0).val < 9216 := (i 0).isLt
  have h1 : (i 1).val < 1024 := (i 1).isLt
  have hv : (writer i).val = (i 0).val / 1024 * 4 + 3 := rfl
  obtain ⟨-, -, -, -, -, -, -, -, e0, e1⟩ := places (writer i)
  refine ⟨(flush0_4 _).mpr (by rw [hv]; omega), ?_⟩
  show i ∈ ((View.whole main_v0).slice (win0_4.rect (writer i))).set
  rw [View.set_slice_whole, Rect.mem_set_unit]
  intro a
  match a with
  | ⟨0, _⟩ =>
    show win0_4.index (writer i) 0 * 1024 ≤ (i 0).val ∧ (i 0).val < win0_4.index (writer i) 0 * 1024 + 1024
    rw [e0, hv]; omega
  | ⟨1, _⟩ =>
    show win0_4.index (writer i) 1 * 1024 ≤ (i 1).val ∧ (i 1).val < win0_4.index (writer i) 1 * 1024 + 1024
    rw [e1, hv]; omega

theorem whole (c : Dev nD) : (dats m 0 c).arrAt 4 cfg0.N = product m c :=
  (dats m 0 c).arrAt_eq_of_cover 4 (product m c) (written m c) fun i => ⟨writer i, (reached i).1, (reached i).2⟩

/-- The run of the call: the result is the two products' sum, the factors are as before. -/
theorem run : θ_run defs (onTc (τ := τ) (main (F := Ideal))) ⟨m, fun _ => 0, ρ⟩ fun r => ∀ c : Dev nD,
      r.2.mem ((c : Thread nD τ).loc main_v0) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩) (run_main m ρ)

/-- The dimension numbers of reference.py's products. -/
abbrev refDot := Cert.ReferenceIdeal.dot_S9216x2816_S1024x2816_S9216x1024_1_1_0_0_n_n

/-- One of the reference's products, read at an entry. -/
theorem reference_entry (L : FVec Ideal S9216x2816 .f32) (R : FVec Ideal S1024x2816 .f32)
    (A : (⟨2, ![9216, 2816]⟩ : Shape).Idx → EReal) (G : (⟨2, ![1024, 2816]⟩ : Shape).Idx → EReal) (hL : L = A) (hR : R = G) (i : S9216x1024.Idx) :
    Host.dotGeneral refDot none L R i = (∑ K ∈ Finset.range 2816, entry A (i 0).val K * entry G (i 1).val K : EReal) := by
  subst hL hR
  pointwise
  rw [Finset.sum_range]
  refine Finset.sum_congr rfl fun k _ => ?_
  exact congrArg₂ (· * ·) (entry_of_index _ _ _ _ rfl rfl) (entry_of_index _ _ _ _ rfl rfl)

/-- The call's result at an entry is the two products' sum, in the reference's order. -/
theorem product_entry (c : Dev nD) (i : S9216x1024.Idx) :
    product m c i = (∑ K ∈ Finset.range 2816, entry (sndA m c) (i 0).val K * entry (sndG m c) (i 1).val K
      + ∑ K ∈ Finset.range 2816, entry (fstA m c) (i 0).val K * entry (fstG m c) (i 1).val K : EReal) := by
  unfold product
  rw [show (5632 : ℕ) = 2816 + 2816 from rfl, Finset.sum_range_add, add_comm]
  refine congrArg₂ (· + ·) (Finset.sum_congr rfl fun K _ => ?_) (Finset.sum_congr rfl fun K hK => ?_)
  · unfold term
    rw [if_neg (by omega), Nat.add_sub_cancel_left]
  · unfold term
    rw [if_pos (Finset.mem_range.mp hK)]

end Cert.KernelIdeal.Tiles

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.1, (hagree c).2.2.1, (hagree c).2.2.2]
  funext i
  rw [Cert.KernelIdeal.Tiles.product_entry]
  exact congrArg₂ (· + ·) (Cert.KernelIdeal.Tiles.reference_entry _ _ _ _ rfl rfl i) (Cert.KernelIdeal.Tiles.reference_entry _ _ _ _ rfl rfl i)

end Cert.Proof

end
-- ==== Proof.Mm2.lean ====
/-
  The product `ffn_down_dx` of the step (the gradient of the factor).
-/
module

public import proofs.«01_k».proof.Proof.Product
public import proofs.«01_k».proof.Proof.Gen.Kernel2Ideal.Frame
public import proofs.«01_k».proof.Proof.Gen.Reference2Ideal.Run
public import proofs.«01_k».proof.Defs

@[expose] public section

set_option maxRecDepth 16384

noncomputable section

namespace Cert.Kernel2Ideal.Tiles

open Cert.Kernel2Ideal Cert.Kernel2Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1408x1024 .bf16) (h1 : a1.IsWhole) (a2 : Memref sig .tc .vmem S1024x1408 .f32) (h2 : a2.IsWhole)
    (a3 : Memref sig .tc .vmem S1024x1408 .f32) (h3 : a3.IsWhole)
  (x : Vec F S1024x1024 .bf16) (y : Vec F S1408x1024 .bf16)

/-- The one step clears the accumulator, puts the tile product in it and writes it to the block. -/
theorem out_only (p : cond0_0 i) (q : cond0_1 i) :
    out0_A_2 c i a0 h0 a1 h1 a2 h2 a3 h3 p q x y = k0_pay2 x y k0_pay1 := by
  unfold out0_A_2
  rw [View.read_writes_eq_canon _ _ _ fun _ => cover0_A_2 ..]
  unfold kernelRun0_A
  dsimp only
  sl_unfold_words
  rw [canon2, cov2, cov2]
  simp only [View.readAt_eq_ld, h0.read_unread, h1.read_unread, ld2]

end Body

variable (m : (ℓ : Loc nD τ sig) → Buf (Elt Ideal) ℓ) (c : Dev nD)

/-- The cleared accumulator is nothing everywhere. -/
theorem cleared (j : S1024x1408.Idx) : (k0_pay1 (F := Ideal)) j = (0 : EReal) := by
  unfold k0_pay1
  rw [shapeCast_self]
  exact zero_word

/-- A step at one entry: the accumulator's entry and the tile product's. -/
theorem step_entry (x : Vec Ideal S1024x1024 .bf16) (y : Vec Ideal S1408x1024 .bf16) (z : Vec Ideal S1024x1408 .f32) (j : S1024x1408.Idx) :
    k0_pay2 x y z j = (z j : EReal) + ∑ k : Fin 1024, (x (ix2 (j 0) k) : EReal) * (y (ix2 (j 1) k) : EReal) := by
  pointwise [k0_pay2]

/-- Where each window's block lies, over the grid. -/
theorem places : ∀ t : Fin cfg0.N, At (win0_0.index t) (t.val / 1 / 2) (t.val % 1) ∧ At (win0_1.index t) (t.val / 1 % 2) (t.val % 1)
    ∧ At (win0_2.index t) (t.val / 1 / 2) (t.val / 1 % 2) :=
  (by decide +kernel : ∀ t : Fin grid0.N, _)

/-- The factors: the arrays as the call finds them. -/
abbrev fstL : S9216x1024.Idx → EReal := m ((c : Thread nD τ).loc main_arg0)
abbrev fstR : S2816x1024.Idx → EReal := m ((c : Thread nD τ).loc main_arg1)

/-- The `K`-th term of entry `(p, q)` of the product. -/
def term (p q K : ℕ) : EReal := entry (fstL m c) p K * entry (fstR m c) q K

theorem left_block (t : Fin cfg0.N) (y : S1024x1024.Idx) :
    (iblk m c 0 t : Vec Ideal S1024x1024 .bf16) y = entry (fstL m c) (t.val / 1 / 2 * 1024 + (y 0).val) (t.val % 1 * 1024 + (y 1).val) := by
  obtain ⟨⟨e0, e1⟩, -⟩ := places t
  exact entry_of_index (fstL m c) _ _ _ (lay e0 :) (lay e1 :)

theorem right_block (t : Fin cfg0.N) (y : S1408x1024.Idx) :
    (iblk m c 1 t : Vec Ideal S1408x1024 .bf16) y = entry (fstR m c) (t.val / 1 % 2 * 1408 + (y 0).val) (t.val % 1 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1408 .f32) (j : S1024x1408.Idx) :
    k0_pay2 (iblk m c 0 t) (iblk m c 1 t) z j = (z j : EReal) + piece (term m c) 1024 1408 1024 2 1 t.val (j 0).val (j 1).val := by
  rw [step_entry]
  refine congrArg (_ + ·) (Finset.sum_congr rfl fun k _ => ?_)
  rw [left_block, right_block]
  rfl

/-- What every step hands the write-back. -/
theorem out_after (t : Fin cfg0.N) (j : S1024x1408.Idx) :
    (outsAt0 m c t) j = upTo (term m c) 1024 1408 1024 2 1 t.val (j 0).val (j 1).val := by
  unfold outsAt0
  rw [out_only, step_at, cleared]
  exact upTo_first (term m c) 1024 1408 1024 2 1 t.val _ _ (Nat.mod_one _)

/-- The product the call computes. -/
def product : Buf (Elt Ideal) ((c : Thread nD τ).loc main_v0) := fun (i : S9216x2816.Idx) =>
  (∑ K ∈ Finset.range 1024, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 1 = 0 := Nat.mod_one _
  obtain ⟨-, -, e0, e1⟩ := places t
  show (cfg0.win 2).cut (grid0.coords t) ((dats m 0 c).after 2 t) = _
  rw [after0_2]
  funext y
  show (outsAt0 m c t) ((cfg0.win 2).xinj (grid0.coords t) y) = product m c (((cfg0.win 2).blk t).view.emb y)
  rw [out_after m c t, upTo_last (term m c) 1024 1408 1024 2 1 t.val _ _ 1024 (by rw [h1])]
  exact congrArg₂ (fun p q => ∑ K ∈ Finset.range 1024, term m c p q K) (Eq.symm (lay e0 :)) (Eq.symm (lay e1 :))

/-- The point that writes the block an index lies in. -/
def writer (i : S9216x2816.Idx) : Fin grid0.N :=
  ⟨((i 0).val / 1024 * 2 + (i 1).val / 1408) * 1 + 0, lt_of_lt_of_eq (by
    have h0 : (i 0).val < 9216 := (i 0).isLt
    have h1 : (i 1).val < 2816 := (i 1).isLt
    omega) N_0.symm⟩

theorem reached (i : S9216x2816.Idx) : (cfg0.win 2).flush (writer i) = true ∧ i ∈ ((cfg0.win 2).blk (writer i)).view.set := by
  have h0 : (i 0).val < 9216 := (i 0).isLt
  have h1 : (i 1).val < 2816 := (i 1).isLt
  have hv : (writer i).val = ((i 0).val / 1024 * 2 + (i 1).val / 1408) * 1 + 0 := rfl
  obtain ⟨-, -, e0, e1⟩ := places (writer i)
  refine ⟨flush0_2 _, ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1408)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference2Ideal.dot_S9216x1024_S2816x1024_S9216x2816_1_1_0_0_n_n

/-- The reference's product, read at an entry, is the call's. -/
theorem reference_entry (L : FVec Ideal S9216x1024 .f32) (R : FVec Ideal S2816x1024 .f32) (hL : L = fstL m c) (hR : R = fstR m c) (i : S9216x2816.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel2Ideal.Tiles

namespace Cert.Proof

open Idealize.ShloMosaic Idealize.SL.Sem Cert.Kernel2Ideal Cert.Kernel2Ideal.Gen

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic_Kernel2Ideal_Reference2Ideal : algebraic_Kernel2Ideal_Reference2Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference2Ideal.defs _ _).mono (fun _ h c => ⟨?_, (h c).2⟩) (Cert.Reference2Ideal.Value.run (F := Ideal) m' ρ')
  rw [(h c).1, (hagree c).1, (hagree c).2]
  funext i
  exact Tiles.reference_entry m c _ _ rfl rfl i

end Cert.Proof

end
-- ==== Proof.Mm3.lean ====
/-
  The product `ffn_down_dw` of the step (the gradient of the factor).
-/
module

public import proofs.«01_k».proof.Proof.Product
public import proofs.«01_k».proof.Proof.Gen.Kernel3Ideal.Frame
public import proofs.«01_k».proof.Proof.Gen.Reference3Ideal.Run
public import proofs.«01_k».proof.Defs

@[expose] public section

set_option maxRecDepth 16384

noncomputable section

namespace Cert.Kernel3Ideal.Tiles

open Cert.Kernel3Ideal Cert.Kernel3Ideal.Gen Cert.Product
open Idealize.ShloMosaic Idealize.ShloMosaic.TcCoe Idealize.SL.Sem

section Body
variable {F : FTy → Type} [FloatOps F] (c : Dev nD) (i : grid0.Coords) (a0 : Memref sig .tc .vmem S1024x1408 .bf16) (h0 : a0.IsWhole)
    (a1 : Memref sig .tc .vmem S1024x1024 .bf16) (h1 : a1.IsWhole) (a2 : Memref sig .tc .vmem S1408x1024 .f32) (h2 : a2.IsWhole)
    (a3 : Memref sig .tc .vmem S1408x1024 .f32) (h3 : a3.IsWhole)
  (x : Vec F S1024x1408 .bf16) (y : Vec F S1024x1024 .bf16) (z : Vec F S1408x1024 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- A middle step adds its tile product. -/
theorem acc_mid (p : ¬cond0_0 i) (q : ¬cond0_1 i) :
    sout0_B_0 c i a0 h0 a1 h1 a2 h2 a3 h3 p q x y z = k0_pay2 x y z := by
  unfold sout0_B_0
  rw [View.read_writes_eq_canon _ _ _ fun _ => scover0_B_0 ..]
  unfold kernelRun0_B
  dsimp only
  sl_unfold_words
  rw [canon2]
  simp only [View.readAt_eq_ld, h0.read_unread, h1.read_unread, h3.read_unread, ld2]

/-- The last step adds its tile product too, and writes what the accumulator then holds to the result's block. -/
theorem at_last (p : ¬cond0_0 i) (q : cond0_1 i) :
    sout0_C_0 c i a0 h0 a1 h1 a2 h2 a3 h3 p q x y z = k0_pay2 x y z ∧ out0_C_2 c i a0 h0 a1 h1 a2 h2 a3 h3 p q x y z = k0_pay2 x y z := by
  constructor
  on_goal 1 => unfold sout0_C_0; rw [View.read_writes_eq_canon _ _ _ fun _ => scover0_C_0 ..]
  on_goal 2 => unfold out0_C_2; rw [View.read_writes_eq_canon _ _ _ fun _ => cover0_C_2 ..]
  all_goals
    unfold kernelRun0_C
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1408x1024.Idx) : (k0_pay1 (F := Ideal)) j = (0 : EReal) := by
  unfold k0_pay1
  rw [shapeCast_self]
  exact zero_word

/-- A step at one entry: the accumulator's entry and the tile product's. -/
theorem step_entry (x : Vec Ideal S1024x1408 .bf16) (y : Vec Ideal S1024x1024 .bf16) (z : Vec Ideal S1408x1024 .f32) (j : S1408x1024.Idx) :
    k0_pay2 x y z j = (z j : EReal) + ∑ k : Fin 1024, (x (ix2 k (j 0)) : EReal) * (y (ix2 k (j 1)) : EReal) := by
  pointwise [k0_pay2]

/-- Where each window's block lies, over the grid. -/
theorem places : ∀ t : Fin cfg0.N, At (win0_0.index t) (t.val % 9) (t.val / 9 / 1) ∧ At (win0_1.index t) (t.val % 9) (t.val / 9 % 1)
    ∧ At (win0_2.index t) (t.val / 9 / 1) (t.val / 9 % 1) :=
  (by decide +kernel : ∀ t : Fin grid0.N, _)

/-- The factors: the arrays as the call finds them. -/
abbrev fstL : S9216x2816.Idx → EReal := m ((c : Thread nD τ).loc main_arg0)
abbrev fstR : S9216x1024.Idx → EReal := m ((c : Thread nD τ).loc main_arg1)

/-- The `K`-th term of entry `(p, q)` of the product. -/
def term (p q K : ℕ) : EReal := entry (fstL m c) K p * entry (fstR m c) K q

theorem left_block (t : Fin cfg0.N) (y : S1024x1408.Idx) :
    (iblk m c 0 t : Vec Ideal S1024x1408 .bf16) y = entry (fstL m c) (t.val % 9 * 1024 + (y 0).val) (t.val / 9 / 1 * 1408 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val % 9 * 1024 + (y 0).val) (t.val / 9 % 1 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1408x1024 .f32) (j : S1408x1024.Idx) :
    k0_pay2 (iblk m c 0 t) (iblk m c 1 t) z j = (z j : EReal) + piece (term m c) 1408 1024 1024 1 9 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1408x1024.Idx),
    (outsAt0 m c n h).2 j = upTo (term m c) 1408 1024 1024 1 9 n (j 0).val (j 1).val :=
  fun n h j => after_all (term m c) 1408 1024 1024 1 9 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      by_cases h1 : (n + 1) % 9 = 8
      · rw [outsAt0_C m c ⟨n + 1, h⟩ h0 h1]
        dsimp only
        rw [(at_last ..).1, step_at]
        rfl
      · rw [outsAt0_B m c ⟨n + 1, h⟩ h0 h1]
        dsimp only
        rw [acc_mid, step_at]
        rfl) n h

/-- What a last step hands the write-back. -/
theorem out_after (t : Fin cfg0.N) (h1 : t.val % 9 = 8) (j : S1408x1024.Idx) :
    (outsAt0 m c t.val t.isLt).1 j = upTo (term m c) 1408 1024 1024 1 9 t.val (j 0).val (j 1).val := by
  have h0 : ¬t.val % 9 = 0 := by omega
  rw [outsAt0_C m c t h0 h1]
  dsimp only
  rw [(at_last ..).2, step_at, acc_after]
  exact upTo_next (term m c) 1408 1024 1024 1 9 t.val _ _ (by omega) h0

/-- The product the call computes. -/
def product : Buf (Elt Ideal) ((c : Thread nD τ).loc main_v0) := fun (i : S2816x1024.Idx) =>
  (∑ K ∈ Finset.range 9216, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 9 = 8 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1408 1024 1024 1 9 t.val _ _ 9216 (by rw [h1])]
  exact congrArg₂ (fun p q => ∑ K ∈ Finset.range 9216, term m c p q K) (Eq.symm (lay e0 :)) (Eq.symm (lay e1 :))

/-- The point that writes the block an index lies in. -/
def writer (i : S2816x1024.Idx) : Fin grid0.N :=
  ⟨((i 0).val / 1408 * 1 + (i 1).val / 1024) * 9 + 8, lt_of_lt_of_eq (by
    have h0 : (i 0).val < 2816 := (i 0).isLt
    have h1 : (i 1).val < 1024 := (i 1).isLt
    omega) N_0.symm⟩

theorem reached (i : S2816x1024.Idx) : (cfg0.win 2).flush (writer i) = true ∧ i ∈ ((cfg0.win 2).blk (writer i)).view.set := by
  have h0 : (i 0).val < 2816 := (i 0).isLt
  have h1 : (i 1).val < 1024 := (i 1).isLt
  have hv : (writer i).val = ((i 0).val / 1408 * 1 + (i 1).val / 1024) * 9 + 8 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1408)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference3Ideal.dot_S9216x1024_S9216x2816_S1024x2816_0_0_1_1_n_n

/-- The reference's product with its factors exchanged, read at an entry, is the call's. -/
theorem reference_entry (R : FVec Ideal S9216x1024 .f32) (L : FVec Ideal S9216x2816 .f32) (hR : R = fstR m c) (hL : L = fstL m c) (i : S2816x1024.Idx) (i' : (⟨2, ![1024, 2816]⟩ : Shape).Idx)
    (e0 : (i' 0).val = (i 1).val) (e1 : (i' 1).val = (i 0).val) :
    Host.dotGeneral refDot none R L i' = product m c i := by
  subst hR hL
  pointwise
  rw [product, Finset.sum_range]
  refine Finset.sum_congr rfl fun k _ => ?_
  rw [mul_comm]
  exact congrArg₂ (· * ·) (entry_of_index (fstL m c) _ _ _ rfl e1) (entry_of_index (fstR m c) _ _ _ rfl e0)

end Cert.Kernel3Ideal.Tiles

namespace Cert.Proof

open Idealize.ShloMosaic Idealize.SL.Sem Cert.Kernel3Ideal Cert.Kernel3Ideal.Gen

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic_Kernel3Ideal_Reference3Ideal : algebraic_Kernel3Ideal_Reference3Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference3Ideal.defs _ _).mono (fun _ h c => ⟨?_, (h c).2⟩) (Cert.Reference3Ideal.Value.run (F := Ideal) m' ρ')
  rw [(h c).1, (hagree c).1, (hagree c).2]
  funext i
  rw [Pointwise.transpose_apply]
  exact Tiles.reference_entry m c _ _ rfl rfl i _ rfl rfl

end Cert.Proof

end
-- ==== Proof.Mm4.lean ====
/-
  The product `ffn_gate_dw` of the step (the gradient of the factor).
-/
module

public import proofs.«01_k».proof.Proof.Product
public import proofs.«01_k».proof.Proof.Gen.Kernel4Ideal.Frame
public import proofs.«01_k».proof.Proof.Gen.Reference4Ideal.Run
public import proofs.«01_k».proof.Defs

@[expose] public section

set_option maxRecDepth 16384

noncomputable section

namespace Cert.Kernel4Ideal.Tiles

open Cert.Kernel4Ideal Cert.Kernel4Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1408 .bf16) (h1 : a1.IsWhole) (a2 : Memref sig .tc .vmem S1024x1408 .f32) (h2 : a2.IsWhole)
    (a3 : Memref sig .tc .vmem S1024x1408 .f32) (h3 : a3.IsWhole)
  (x : Vec F S1024x1024 .bf16) (y : Vec F S1024x1408 .bf16) (z : Vec F S1024x1408 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- A middle step adds its tile product. -/
theorem acc_mid (p : ¬cond0_0 i) (q : ¬cond0_1 i) :
    sout0_B_0 c i a0 h0 a1 h1 a2 h2 a3 h3 p q x y z = k0_pay2 x y z := by
  unfold sout0_B_0
  rw [View.read_writes_eq_canon _ _ _ fun _ => scover0_B_0 ..]
  unfold kernelRun0_B
  dsimp only
  sl_unfold_words
  rw [canon2]
  simp only [View.readAt_eq_ld, h0.read_unread, h1.read_unread, h3.read_unread, ld2]

/-- The last step adds its tile product too, and writes what the accumulator then holds to the result's block. -/
theorem at_last (p : ¬cond0_0 i) (q : cond0_1 i) :
    sout0_C_0 c i a0 h0 a1 h1 a2 h2 a3 h3 p q x y z = k0_pay2 x y z ∧ out0_C_2 c i a0 h0 a1 h1 a2 h2 a3 h3 p q x y z = k0_pay2 x y z := by
  constructor
  on_goal 1 => unfold sout0_C_0; rw [View.read_writes_eq_canon _ _ _ fun _ => scover0_C_0 ..]
  on_goal 2 => unfold out0_C_2; rw [View.read_writes_eq_canon _ _ _ fun _ => cover0_C_2 ..]
  all_goals
    unfold kernelRun0_C
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1024x1408.Idx) : (k0_pay1 (F := Ideal)) j = (0 : EReal) := by
  unfold k0_pay1
  rw [shapeCast_self]
  exact zero_word

/-- A step at one entry: the accumulator's entry and the tile product's. -/
theorem step_entry (x : Vec Ideal S1024x1024 .bf16) (y : Vec Ideal S1024x1408 .bf16) (z : Vec Ideal S1024x1408 .f32) (j : S1024x1408.Idx) :
    k0_pay2 x y z j = (z j : EReal) + ∑ k : Fin 1024, (x (ix2 k (j 0)) : EReal) * (y (ix2 k (j 1)) : EReal) := by
  pointwise [k0_pay2]

/-- Where each window's block lies, over the grid. -/
theorem places : ∀ t : Fin cfg0.N, At (win0_0.index t) (t.val % 9) (t.val / 9 / 2) ∧ At (win0_1.index t) (t.val % 9) (t.val / 9 % 2)
    ∧ At (win0_2.index t) (t.val / 9 / 2) (t.val / 9 % 2) :=
  (by decide +kernel : ∀ t : Fin grid0.N, _)

/-- The factors: the arrays as the call finds them. -/
abbrev fstL : S9216x1024.Idx → EReal := m ((c : Thread nD τ).loc main_arg0)
abbrev fstR : S9216x2816.Idx → EReal := m ((c : Thread nD τ).loc main_arg1)

/-- The `K`-th term of entry `(p, q)` of the product. -/
def term (p q K : ℕ) : EReal := entry (fstL m c) K p * entry (fstR m c) K q

theorem left_block (t : Fin cfg0.N) (y : S1024x1024.Idx) :
    (iblk m c 0 t : Vec Ideal S1024x1024 .bf16) y = entry (fstL m c) (t.val % 9 * 1024 + (y 0).val) (t.val / 9 / 2 * 1024 + (y 1).val) := by
  obtain ⟨⟨e0, e1⟩, -⟩ := places t
  exact entry_of_index (fstL m c) _ _ _ (lay e0 :) (lay e1 :)

theorem right_block (t : Fin cfg0.N) (y : S1024x1408.Idx) :
    (iblk m c 1 t : Vec Ideal S1024x1408 .bf16) y = entry (fstR m c) (t.val % 9 * 1024 + (y 0).val) (t.val / 9 % 2 * 1408 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1408 .f32) (j : S1024x1408.Idx) :
    k0_pay2 (iblk m c 0 t) (iblk m c 1 t) z j = (z j : EReal) + piece (term m c) 1024 1408 1024 2 9 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1024x1408.Idx),
    (outsAt0 m c n h).2 j = upTo (term m c) 1024 1408 1024 2 9 n (j 0).val (j 1).val :=
  fun n h j => after_all (term m c) 1024 1408 1024 2 9 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      by_cases h1 : (n + 1) % 9 = 8
      · rw [outsAt0_C m c ⟨n + 1, h⟩ h0 h1]
        dsimp only
        rw [(at_last ..).1, step_at]
        rfl
      · rw [outsAt0_B m c ⟨n + 1, h⟩ h0 h1]
        dsimp only
        rw [acc_mid, step_at]
        rfl) n h

/-- What a last step hands the write-back. -/
theorem out_after (t : Fin cfg0.N) (h1 : t.val % 9 = 8) (j : S1024x1408.Idx) :
    (outsAt0 m c t.val t.isLt).1 j = upTo (term m c) 1024 1408 1024 2 9 t.val (j 0).val (j 1).val := by
  have h0 : ¬t.val % 9 = 0 := by omega
  rw [outsAt0_C m c t h0 h1]
  dsimp only
  rw [(at_last ..).2, step_at, acc_after]
  exact upTo_next (term m c) 1024 1408 1024 2 9 t.val _ _ (by omega) h0

/-- The product the call computes. -/
def product : Buf (Elt Ideal) ((c : Thread nD τ).loc main_v0) := fun (i : S1024x2816.Idx) =>
  (∑ K ∈ Finset.range 9216, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 9 = 8 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1024 1408 1024 2 9 t.val _ _ 9216 (by rw [h1])]
  exact congrArg₂ (fun p q => ∑ K ∈ Finset.range 9216, term m c p q K) (Eq.symm (lay e0 :)) (Eq.symm (lay e1 :))

/-- The point that writes the block an index lies in. -/
def writer (i : S1024x2816.Idx) : Fin grid0.N :=
  ⟨((i 0).val / 1024 * 2 + (i 1).val / 1408) * 9 + 8, lt_of_lt_of_eq (by
    have h0 : (i 0).val < 1024 := (i 0).isLt
    have h1 : (i 1).val < 2816 := (i 1).isLt
    omega) N_0.symm⟩

theorem reached (i : S1024x2816.Idx) : (cfg0.win 2).flush (writer i) = true ∧ i ∈ ((cfg0.win 2).blk (writer i)).view.set := by
  have h0 : (i 0).val < 1024 := (i 0).isLt
  have h1 : (i 1).val < 2816 := (i 1).isLt
  have hv : (writer i).val = ((i 0).val / 1024 * 2 + (i 1).val / 1408) * 9 + 8 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1408)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference4Ideal.dot_S9216x2816_S9216x1024_S2816x1024_0_0_1_1_n_n

/-- The reference's product with its factors exchanged, read at an entry, is the call's. -/
theorem reference_entry (R : FVec Ideal S9216x2816 .f32) (L : FVec Ideal S9216x1024 .f32) (hR : R = fstR m c) (hL : L = fstL m c) (i : S1024x2816.Idx) (i' : (⟨2, ![2816, 1024]⟩ : Shape).Idx)
    (e0 : (i' 0).val = (i 1).val) (e1 : (i' 1).val = (i 0).val) :
    Host.dotGeneral refDot none R L i' = product m c i := by
  subst hR hL
  pointwise
  rw [product, Finset.sum_range]
  refine Finset.sum_congr rfl fun k _ => ?_
  rw [mul_comm]
  exact congrArg₂ (· * ·) (entry_of_index (fstL m c) _ _ _ rfl e1) (entry_of_index (fstR m c) _ _ _ rfl e0)

end Cert.Kernel4Ideal.Tiles

namespace Cert.Proof

open Idealize.ShloMosaic Idealize.SL.Sem Cert.Kernel4Ideal Cert.Kernel4Ideal.Gen

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel4Ideal_Reference4Ideal : algebraic_Kernel4Ideal_Reference4Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference4Ideal.defs _ _).mono (fun _ h c => ⟨?_, (h c).2⟩) (Cert.Reference4Ideal.Value.run (F := Ideal) m' ρ')
  rw [(h c).1, (hagree c).1, (hagree c).2]
  funext i
  rw [Pointwise.transpose_apply]
  exact Tiles.reference_entry m c _ _ rfl rfl i _ rfl rfl

end Cert.Proof

end
-- ==== Proof.Mm5.lean ====
/-
  The product `ev_proj_dx` of the step (the gradient of the factor).
-/
module

public import proofs.«01_k».proof.Proof.Product
public import proofs.«01_k».proof.Proof.Gen.Kernel5Ideal.Frame
public import proofs.«01_k».proof.Proof.Gen.Reference5Ideal.Run
public import proofs.«01_k».proof.Defs

@[expose] public section

set_option maxRecDepth 16384

noncomputable section

namespace Cert.Kernel5Ideal.Tiles

open Cert.Kernel5Ideal Cert.Kernel5Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16) (z : Vec F S1024x1024 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- A middle step adds its tile product. -/
theorem acc_mid (p : ¬cond0_0 i) (q : ¬cond0_1 i) :
    sout0_B_0 c i a0 h0 a1 h1 a2 h2 a3 h3 p q x y z = k0_pay2 x y z := by
  unfold sout0_B_0
  rw [View.read_writes_eq_canon _ _ _ fun _ => scover0_B_0 ..]
  unfold kernelRun0_B
  dsimp only
  sl_unfold_words
  rw [canon2]
  simp only [View.readAt_eq_ld, h0.read_unread, h1.read_unread, h3.read_unread, ld2]

/-- The last step adds its tile product too, and writes what the accumulator then holds to the result's block. -/
theorem at_last (p : ¬cond0_0 i) (q : cond0_1 i) :
    sout0_C_0 c i a0 h0 a1 h1 a2 h2 a3 h3 p q x y z = k0_pay2 x y z ∧ out0_C_2 c i a0 h0 a1 h1 a2 h2 a3 h3 p q x y z = k0_pay2 x y z := by
  constructor
  on_goal 1 => unfold sout0_C_0; rw [View.read_writes_eq_canon _ _ _ fun _ => scover0_C_0 ..]
  on_goal 2 => unfold out0_C_2; rw [View.read_writes_eq_canon _ _ _ fun _ => cover0_C_2 ..]
  all_goals
    unfold kernelRun0_C
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 (j 0) k) : EReal) * (y (ix2 (j 1) k) : EReal) := by
  pointwise [k0_pay2]

/-- Where each window's block lies, over the grid. -/
theorem places : ∀ t : Fin cfg0.N, At (win0_0.index t) (t.val / 5 / 1) (t.val % 5) ∧ At (win0_1.index t) (t.val / 5 % 1) (t.val % 5)
    ∧ At (win0_2.index t) (t.val / 5 / 1) (t.val / 5 % 1) :=
  (by decide +kernel : ∀ t : Fin grid0.N, _)

/-- The factors: the arrays as the call finds them. -/
abbrev fstL : S9216x5120.Idx → EReal := m ((c : Thread nD τ).loc main_arg0)
abbrev fstR : S1024x5120.Idx → EReal := m ((c : Thread nD τ).loc main_arg1)

/-- The `K`-th term of entry `(p, q)` of the product. -/
def term (p q K : ℕ) : EReal := entry (fstL m c) p K * entry (fstR m c) q K

theorem left_block (t : Fin cfg0.N) (y : S1024x1024.Idx) :
    (iblk m c 0 t : Vec Ideal S1024x1024 .bf16) y = entry (fstL m c) (t.val / 5 / 1 * 1024 + (y 0).val) (t.val % 5 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val / 5 % 1 * 1024 + (y 0).val) (t.val % 5 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 1 5 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1024x1024.Idx),
    (outsAt0 m c n h).2 j = upTo (term m c) 1024 1024 1024 1 5 n (j 0).val (j 1).val :=
  fun n h j => after_all (term m c) 1024 1024 1024 1 5 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      by_cases h1 : (n + 1) % 5 = 4
      · rw [outsAt0_C m c ⟨n + 1, h⟩ h0 h1]
        dsimp only
        rw [(at_last ..).1, step_at]
        rfl
      · rw [outsAt0_B m c ⟨n + 1, h⟩ h0 h1]
        dsimp only
        rw [acc_mid, step_at]
        rfl) n h

/-- What a last step hands the write-back. -/
theorem out_after (t : Fin cfg0.N) (h1 : t.val % 5 = 4) (j : S1024x1024.Idx) :
    (outsAt0 m c t.val t.isLt).1 j = upTo (term m c) 1024 1024 1024 1 5 t.val (j 0).val (j 1).val := by
  have h0 : ¬t.val % 5 = 0 := by omega
  rw [outsAt0_C m c t h0 h1]
  dsimp only
  rw [(at_last ..).2, step_at, acc_after]
  exact upTo_next (term m c) 1024 1024 1024 1 5 t.val _ _ (by omega) h0

/-- The product the call computes. -/
def product : Buf (Elt Ideal) ((c : Thread nD τ).loc main_v0) := fun (i : S9216x1024.Idx) =>
  (∑ K ∈ Finset.range 5120, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 5 = 4 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1024 1024 1024 1 5 t.val _ _ 5120 (by rw [h1])]
  exact congrArg₂ (fun p q => ∑ K ∈ Finset.range 5120, term m c p q K) (Eq.symm (lay e0 :)) (Eq.symm (lay e1 :))

/-- The point that writes the block an index lies in. -/
def writer (i : S9216x1024.Idx) : Fin grid0.N :=
  ⟨((i 0).val / 1024 * 1 + (i 1).val / 1024) * 5 + 4, lt_of_lt_of_eq (by
    have h0 : (i 0).val < 9216 := (i 0).isLt
    have h1 : (i 1).val < 1024 := (i 1).isLt
    omega) N_0.symm⟩

theorem reached (i : S9216x1024.Idx) : (cfg0.win 2).flush (writer i) = true ∧ i ∈ ((cfg0.win 2).blk (writer i)).view.set := by
  have h0 : (i 0).val < 9216 := (i 0).isLt
  have h1 : (i 1).val < 1024 := (i 1).isLt
  have hv : (writer i).val = ((i 0).val / 1024 * 1 + (i 1).val / 1024) * 5 + 4 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference5Ideal.dot_S9216x5120_S1024x5120_S9216x1024_1_1_0_0_n_n

/-- The reference's product, read at an entry, is the call's. -/
theorem reference_entry (L : FVec Ideal S9216x5120 .f32) (R : FVec Ideal S1024x5120 .f32) (hL : L = fstL m c) (hR : R = fstR m c) (i : S9216x1024.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel5Ideal.Tiles

namespace Cert.Proof

open Idealize.ShloMosaic Idealize.SL.Sem Cert.Kernel5Ideal Cert.Kernel5Ideal.Gen

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference5Ideal.defs _ _).mono (fun _ h c => ⟨?_, (h c).2⟩) (Cert.Reference5Ideal.Value.run (F := Ideal) m' ρ')
  rw [(h c).1, (hagree c).1, (hagree c).2]
  funext i
  exact Tiles.reference_entry m c _ _ rfl rfl i

end Cert.Proof

end
-- ==== Proof.Mm6.lean ====
/-
  The product `ev_proj_dw` of the step (the gradient of the factor).
-/
module

public import proofs.«01_k».proof.Proof.Product
public import proofs.«01_k».proof.Proof.Gen.Kernel6Ideal.Frame
public import proofs.«01_k».proof.Proof.Gen.Reference6Ideal.Run
public import proofs.«01_k».proof.Defs

@[expose] public section

set_option maxRecDepth 16384

noncomputable section

namespace Cert.Kernel6Ideal.Tiles

open Cert.Kernel6Ideal Cert.Kernel6Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16) (z : Vec F S1024x1024 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- A middle step adds its tile product. -/
theorem acc_mid (p : ¬cond0_0 i) (q : ¬cond0_1 i) :
    sout0_B_0 c i a0 h0 a1 h1 a2 h2 a3 h3 p q x y z = k0_pay2 x y z := by
  unfold sout0_B_0
  rw [View.read_writes_eq_canon _ _ _ fun _ => scover0_B_0 ..]
  unfold kernelRun0_B
  dsimp only
  sl_unfold_words
  rw [canon2]
  simp only [View.readAt_eq_ld, h0.read_unread, h1.read_unread, h3.read_unread, ld2]

/-- The last step adds its tile product too, and writes what the accumulator then holds to the result's block. -/
theorem at_last (p : ¬cond0_0 i) (q : cond0_1 i) :
    sout0_C_0 c i a0 h0 a1 h1 a2 h2 a3 h3 p q x y z = k0_pay2 x y z ∧ out0_C_2 c i a0 h0 a1 h1 a2 h2 a3 h3 p q x y z = k0_pay2 x y z := by
  constructor
  on_goal 1 => unfold sout0_C_0; rw [View.read_writes_eq_canon _ _ _ fun _ => scover0_C_0 ..]
  on_goal 2 => unfold out0_C_2; rw [View.read_writes_eq_canon _ _ _ fun _ => cover0_C_2 ..]
  all_goals
    unfold kernelRun0_C
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 k (j 0)) : EReal) * (y (ix2 k (j 1)) : EReal) := by
  pointwise [k0_pay2]

/-- Where each window's block lies, over the grid. -/
theorem places : ∀ t : Fin cfg0.N, At (win0_0.index t) (t.val % 9) (t.val / 9 / 5) ∧ At (win0_1.index t) (t.val % 9) (t.val / 9 % 5)
    ∧ At (win0_2.index t) (t.val / 9 / 5) (t.val / 9 % 5) :=
  (by decide +kernel : ∀ t : Fin grid0.N, _)

/-- The factors: the arrays as the call finds them. -/
abbrev fstL : S9216x1024.Idx → EReal := m ((c : Thread nD τ).loc main_arg0)
abbrev fstR : S9216x5120.Idx → EReal := m ((c : Thread nD τ).loc main_arg1)

/-- The `K`-th term of entry `(p, q)` of the product. -/
def term (p q K : ℕ) : EReal := entry (fstL m c) K p * entry (fstR m c) K q

theorem left_block (t : Fin cfg0.N) (y : S1024x1024.Idx) :
    (iblk m c 0 t : Vec Ideal S1024x1024 .bf16) y = entry (fstL m c) (t.val % 9 * 1024 + (y 0).val) (t.val / 9 / 5 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val % 9 * 1024 + (y 0).val) (t.val / 9 % 5 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 5 9 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1024x1024.Idx),
    (outsAt0 m c n h).2 j = upTo (term m c) 1024 1024 1024 5 9 n (j 0).val (j 1).val :=
  fun n h j => after_all (term m c) 1024 1024 1024 5 9 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      by_cases h1 : (n + 1) % 9 = 8
      · rw [outsAt0_C m c ⟨n + 1, h⟩ h0 h1]
        dsimp only
        rw [(at_last ..).1, step_at]
        rfl
      · rw [outsAt0_B m c ⟨n + 1, h⟩ h0 h1]
        dsimp only
        rw [acc_mid, step_at]
        rfl) n h

/-- What a last step hands the write-back. -/
theorem out_after (t : Fin cfg0.N) (h1 : t.val % 9 = 8) (j : S1024x1024.Idx) :
    (outsAt0 m c t.val t.isLt).1 j = upTo (term m c) 1024 1024 1024 5 9 t.val (j 0).val (j 1).val := by
  have h0 : ¬t.val % 9 = 0 := by omega
  rw [outsAt0_C m c t h0 h1]
  dsimp only
  rw [(at_last ..).2, step_at, acc_after]
  exact upTo_next (term m c) 1024 1024 1024 5 9 t.val _ _ (by omega) h0

/-- The product the call computes. -/
def product : Buf (Elt Ideal) ((c : Thread nD τ).loc main_v0) := fun (i : S1024x5120.Idx) =>
  (∑ K ∈ Finset.range 9216, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 9 = 8 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1024 1024 1024 5 9 t.val _ _ 9216 (by rw [h1])]
  exact congrArg₂ (fun p q => ∑ K ∈ Finset.range 9216, term m c p q K) (Eq.symm (lay e0 :)) (Eq.symm (lay e1 :))

/-- The point that writes the block an index lies in. -/
def writer (i : S1024x5120.Idx) : Fin grid0.N :=
  ⟨((i 0).val / 1024 * 5 + (i 1).val / 1024) * 9 + 8, lt_of_lt_of_eq (by
    have h0 : (i 0).val < 1024 := (i 0).isLt
    have h1 : (i 1).val < 5120 := (i 1).isLt
    omega) N_0.symm⟩

theorem reached (i : S1024x5120.Idx) : (cfg0.win 2).flush (writer i) = true ∧ i ∈ ((cfg0.win 2).blk (writer i)).view.set := by
  have h0 : (i 0).val < 1024 := (i 0).isLt
  have h1 : (i 1).val < 5120 := (i 1).isLt
  have hv : (writer i).val = ((i 0).val / 1024 * 5 + (i 1).val / 1024) * 9 + 8 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference6Ideal.dot_S9216x5120_S9216x1024_S5120x1024_0_0_1_1_n_n

/-- The reference's product with its factors exchanged, read at an entry, is the call's. -/
theorem reference_entry (R : FVec Ideal S9216x5120 .f32) (L : FVec Ideal S9216x1024 .f32) (hR : R = fstR m c) (hL : L = fstL m c) (i : S1024x5120.Idx) (i' : (⟨2, ![5120, 1024]⟩ : Shape).Idx)
    (e0 : (i' 0).val = (i 1).val) (e1 : (i' 1).val = (i 0).val) :
    Host.dotGeneral refDot none R L i' = product m c i := by
  subst hR hL
  pointwise
  rw [product, Finset.sum_range]
  refine Finset.sum_congr rfl fun k _ => ?_
  rw [mul_comm]
  exact congrArg₂ (· * ·) (entry_of_index (fstL m c) _ _ _ rfl e1) (entry_of_index (fstR m c) _ _ _ rfl e0)

end Cert.Kernel6Ideal.Tiles

namespace Cert.Proof

open Idealize.ShloMosaic Idealize.SL.Sem Cert.Kernel6Ideal Cert.Kernel6Ideal.Gen

theorem quiescent_Reference6Ideal : quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic_Kernel6Ideal_Reference6Ideal : algebraic_Kernel6Ideal_Reference6Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference6Ideal.defs _ _).mono (fun _ h c => ⟨?_, (h c).2⟩) (Cert.Reference6Ideal.Value.run (F := Ideal) m' ρ')
  rw [(h c).1, (hagree c).1, (hagree c).2]
  funext i
  rw [Pointwise.transpose_apply]
  exact Tiles.reference_entry m c _ _ rfl rfl i _ rfl rfl

end Cert.Proof

end
-- ==== Proof.Mm7.lean ====
/-
  The product `ev_out_dx` of the step (the gradient of the factor).
-/
module

public import proofs.«01_k».proof.Proof.Product
public import proofs.«01_k».proof.Proof.Gen.Kernel7Ideal.Frame
public import proofs.«01_k».proof.Proof.Gen.Reference7Ideal.Run
public import proofs.«01_k».proof.Defs

@[expose] public section

set_option maxRecDepth 16384

noncomputable section

namespace Cert.Kernel7Ideal.Tiles

open Cert.Kernel7Ideal Cert.Kernel7Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16)

/-- The one step clears the accumulator, puts the tile product in it and writes it to the block. -/
theorem out_only (p : cond0_0 i) (q : cond0_1 i) :
    out0_A_2 c i a0 h0 a1 h1 a2 h2 a3 h3 p q x y = k0_pay2 x y k0_pay1 := by
  unfold out0_A_2
  rw [View.read_writes_eq_canon _ _ _ fun _ => cover0_A_2 ..]
  unfold kernelRun0_A
  dsimp only
  sl_unfold_words
  rw [canon2, cov2, cov2]
  simp only [View.readAt_eq_ld, h0.read_unread, h1.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 (j 0) k) : EReal) * (y (ix2 (j 1) k) : EReal) := by
  pointwise [k0_pay2]

/-- Where each window's block lies, over the grid. -/
theorem places : ∀ t : Fin cfg0.N, At (win0_0.index t) (t.val / 1 / 2) (t.val % 1) ∧ At (win0_1.index t) (t.val / 1 % 2) (t.val % 1)
    ∧ At (win0_2.index t) (t.val / 1 / 2) (t.val / 1 % 2) :=
  (by decide +kernel : ∀ t : Fin grid0.N, _)

/-- The factors: the arrays as the call finds them. -/
abbrev fstL : S9216x1024.Idx → EReal := m ((c : Thread nD τ).loc main_arg0)
abbrev fstR : S2048x1024.Idx → EReal := m ((c : Thread nD τ).loc main_arg1)

/-- The `K`-th term of entry `(p, q)` of the product. -/
def term (p q K : ℕ) : EReal := entry (fstL m c) p K * entry (fstR m c) q K

theorem left_block (t : Fin cfg0.N) (y : S1024x1024.Idx) :
    (iblk m c 0 t : Vec Ideal S1024x1024 .bf16) y = entry (fstL m c) (t.val / 1 / 2 * 1024 + (y 0).val) (t.val % 1 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val / 1 % 2 * 1024 + (y 0).val) (t.val % 1 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 2 1 t.val (j 0).val (j 1).val := by
  rw [step_entry]
  refine congrArg (_ + ·) (Finset.sum_congr rfl fun k _ => ?_)
  rw [left_block, right_block]
  rfl

/-- What every step hands the write-back. -/
theorem out_after (t : Fin cfg0.N) (j : S1024x1024.Idx) :
    (outsAt0 m c t) j = upTo (term m c) 1024 1024 1024 2 1 t.val (j 0).val (j 1).val := by
  unfold outsAt0
  rw [out_only, step_at, cleared]
  exact upTo_first (term m c) 1024 1024 1024 2 1 t.val _ _ (Nat.mod_one _)

/-- The product the call computes. -/
def product : Buf (Elt Ideal) ((c : Thread nD τ).loc main_v0) := fun (i : S9216x2048.Idx) =>
  (∑ K ∈ Finset.range 1024, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 1 = 0 := Nat.mod_one _
  obtain ⟨-, -, e0, e1⟩ := places t
  show (cfg0.win 2).cut (grid0.coords t) ((dats m 0 c).after 2 t) = _
  rw [after0_2]
  funext y
  show (outsAt0 m c t) ((cfg0.win 2).xinj (grid0.coords t) y) = product m c (((cfg0.win 2).blk t).view.emb y)
  rw [out_after m c t, upTo_last (term m c) 1024 1024 1024 2 1 t.val _ _ 1024 (by rw [h1])]
  exact congrArg₂ (fun p q => ∑ K ∈ Finset.range 1024, term m c p q K) (Eq.symm (lay e0 :)) (Eq.symm (lay e1 :))

/-- The point that writes the block an index lies in. -/
def writer (i : S9216x2048.Idx) : Fin grid0.N :=
  ⟨((i 0).val / 1024 * 2 + (i 1).val / 1024) * 1 + 0, lt_of_lt_of_eq (by
    have h0 : (i 0).val < 9216 := (i 0).isLt
    have h1 : (i 1).val < 2048 := (i 1).isLt
    omega) N_0.symm⟩

theorem reached (i : S9216x2048.Idx) : (cfg0.win 2).flush (writer i) = true ∧ i ∈ ((cfg0.win 2).blk (writer i)).view.set := by
  have h0 : (i 0).val < 9216 := (i 0).isLt
  have h1 : (i 1).val < 2048 := (i 1).isLt
  have hv : (writer i).val = ((i 0).val / 1024 * 2 + (i 1).val / 1024) * 1 + 0 := rfl
  obtain ⟨-, -, e0, e1⟩ := places (writer i)
  refine ⟨flush0_2 _, ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference7Ideal.dot_S9216x1024_S2048x1024_S9216x2048_1_1_0_0_n_n

/-- The reference's product, read at an entry, is the call's. -/
theorem reference_entry (L : FVec Ideal S9216x1024 .f32) (R : FVec Ideal S2048x1024 .f32) (hL : L = fstL m c) (hR : R = fstR m c) (i : S9216x2048.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel7Ideal.Tiles

namespace Cert.Proof

open Idealize.ShloMosaic Idealize.SL.Sem Cert.Kernel7Ideal Cert.Kernel7Ideal.Gen

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic_Kernel7Ideal_Reference7Ideal : algebraic_Kernel7Ideal_Reference7Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference7Ideal.defs _ _).mono (fun _ h c => ⟨?_, (h c).2⟩) (Cert.Reference7Ideal.Value.run (F := Ideal) m' ρ')
  rw [(h c).1, (hagree c).1, (hagree c).2]
  funext i
  exact Tiles.reference_entry m c _ _ rfl rfl i

end Cert.Proof

end
-- ==== Proof.Mm8.lean ====
/-
  The product `ev_out_dw` of the step (the gradient of the factor).
-/
module

public import proofs.«01_k».proof.Proof.Product
public import proofs.«01_k».proof.Proof.Gen.Kernel8Ideal.Frame
public import proofs.«01_k».proof.Proof.Gen.Reference8Ideal.Run
public import proofs.«01_k».proof.Defs

@[expose] public section

set_option maxRecDepth 16384

noncomputable section

namespace Cert.Kernel8Ideal.Tiles

open Cert.Kernel8Ideal Cert.Kernel8Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16) (z : Vec F S1024x1024 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- A middle step adds its tile product. -/
theorem acc_mid (p : ¬cond0_0 i) (q : ¬cond0_1 i) :
    sout0_B_0 c i a0 h0 a1 h1 a2 h2 a3 h3 p q x y z = k0_pay2 x y z := by
  unfold sout0_B_0
  rw [View.read_writes_eq_canon _ _ _ fun _ => scover0_B_0 ..]
  unfold kernelRun0_B
  dsimp only
  sl_unfold_words
  rw [canon2]
  simp only [View.readAt_eq_ld, h0.read_unread, h1.read_unread, h3.read_unread, ld2]

/-- The last step adds its tile product too, and writes what the accumulator then holds to the result's block. -/
theorem at_last (p : ¬cond0_0 i) (q : cond0_1 i) :
    sout0_C_0 c i a0 h0 a1 h1 a2 h2 a3 h3 p q x y z = k0_pay2 x y z ∧ out0_C_2 c i a0 h0 a1 h1 a2 h2 a3 h3 p q x y z = k0_pay2 x y z := by
  constructor
  on_goal 1 => unfold sout0_C_0; rw [View.read_writes_eq_canon _ _ _ fun _ => scover0_C_0 ..]
  on_goal 2 => unfold out0_C_2; rw [View.read_writes_eq_canon _ _ _ fun _ => cover0_C_2 ..]
  all_goals
    unfold kernelRun0_C
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 k (j 0)) : EReal) * (y (ix2 k (j 1)) : EReal) := by
  pointwise [k0_pay2]

/-- Where each window's block lies, over the grid. -/
theorem places : ∀ t : Fin cfg0.N, At (win0_0.index t) (t.val % 9) (t.val / 9 / 1) ∧ At (win0_1.index t) (t.val % 9) (t.val / 9 % 1)
    ∧ At (win0_2.index t) (t.val / 9 / 1) (t.val / 9 % 1) :=
  (by decide +kernel : ∀ t : Fin grid0.N, _)

/-- The factors: the arrays as the call finds them. -/
abbrev fstL : S9216x2048.Idx → EReal := m ((c : Thread nD τ).loc main_arg0)
abbrev fstR : S9216x1024.Idx → EReal := m ((c : Thread nD τ).loc main_arg1)

/-- The `K`-th term of entry `(p, q)` of the product. -/
def term (p q K : ℕ) : EReal := entry (fstL m c) K p * entry (fstR m c) K q

theorem left_block (t : Fin cfg0.N) (y : S1024x1024.Idx) :
    (iblk m c 0 t : Vec Ideal S1024x1024 .bf16) y = entry (fstL m c) (t.val % 9 * 1024 + (y 0).val) (t.val / 9 / 1 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val % 9 * 1024 + (y 0).val) (t.val / 9 % 1 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 1 9 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1024x1024.Idx),
    (outsAt0 m c n h).2 j = upTo (term m c) 1024 1024 1024 1 9 n (j 0).val (j 1).val :=
  fun n h j => after_all (term m c) 1024 1024 1024 1 9 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      by_cases h1 : (n + 1) % 9 = 8
      · rw [outsAt0_C m c ⟨n + 1, h⟩ h0 h1]
        dsimp only
        rw [(at_last ..).1, step_at]
        rfl
      · rw [outsAt0_B m c ⟨n + 1, h⟩ h0 h1]
        dsimp only
        rw [acc_mid, step_at]
        rfl) n h

/-- What a last step hands the write-back. -/
theorem out_after (t : Fin cfg0.N) (h1 : t.val % 9 = 8) (j : S1024x1024.Idx) :
    (outsAt0 m c t.val t.isLt).1 j = upTo (term m c) 1024 1024 1024 1 9 t.val (j 0).val (j 1).val := by
  have h0 : ¬t.val % 9 = 0 := by omega
  rw [outsAt0_C m c t h0 h1]
  dsimp only
  rw [(at_last ..).2, step_at, acc_after]
  exact upTo_next (term m c) 1024 1024 1024 1 9 t.val _ _ (by omega) h0

/-- The product the call computes. -/
def product : Buf (Elt Ideal) ((c : Thread nD τ).loc main_v0) := fun (i : S2048x1024.Idx) =>
  (∑ K ∈ Finset.range 9216, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 9 = 8 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1024 1024 1024 1 9 t.val _ _ 9216 (by rw [h1])]
  exact congrArg₂ (fun p q => ∑ K ∈ Finset.range 9216, term m c p q K) (Eq.symm (lay e0 :)) (Eq.symm (lay e1 :))

/-- The point that writes the block an index lies in. -/
def writer (i : S2048x1024.Idx) : Fin grid0.N :=
  ⟨((i 0).val / 1024 * 1 + (i 1).val / 1024) * 9 + 8, lt_of_lt_of_eq (by
    have h0 : (i 0).val < 2048 := (i 0).isLt
    have h1 : (i 1).val < 1024 := (i 1).isLt
    omega) N_0.symm⟩

theorem reached (i : S2048x1024.Idx) : (cfg0.win 2).flush (writer i) = true ∧ i ∈ ((cfg0.win 2).blk (writer i)).view.set := by
  have h0 : (i 0).val < 2048 := (i 0).isLt
  have h1 : (i 1).val < 1024 := (i 1).isLt
  have hv : (writer i).val = ((i 0).val / 1024 * 1 + (i 1).val / 1024) * 9 + 8 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference8Ideal.dot_S9216x1024_S9216x2048_S1024x2048_0_0_1_1_n_n

/-- The reference's product with its factors exchanged, read at an entry, is the call's. -/
theorem reference_entry (R : FVec Ideal S9216x1024 .f32) (L : FVec Ideal S9216x2048 .f32) (hR : R = fstR m c) (hL : L = fstL m c) (i : S2048x1024.Idx) (i' : (⟨2, ![1024, 2048]⟩ : Shape).Idx)
    (e0 : (i' 0).val = (i 1).val) (e1 : (i' 1).val = (i 0).val) :
    Host.dotGeneral refDot none R L i' = product m c i := by
  subst hR hL
  pointwise
  rw [product, Finset.sum_range]
  refine Finset.sum_congr rfl fun k _ => ?_
  rw [mul_comm]
  exact congrArg₂ (· * ·) (entry_of_index (fstL m c) _ _ _ rfl e1) (entry_of_index (fstR m c) _ _ _ rfl e0)

end Cert.Kernel8Ideal.Tiles

namespace Cert.Proof

open Idealize.ShloMosaic Idealize.SL.Sem Cert.Kernel8Ideal Cert.Kernel8Ideal.Gen

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_Kernel8Ideal_Reference8Ideal : algebraic_Kernel8Ideal_Reference8Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference8Ideal.defs _ _).mono (fun _ h c => ⟨?_, (h c).2⟩) (Cert.Reference8Ideal.Value.run (F := Ideal) m' ρ')
  rw [(h c).1, (hagree c).1, (hagree c).2]
  funext i
  rw [Pointwise.transpose_apply]
  exact Tiles.reference_entry m c _ _ rfl rfl i _ rfl rfl

end Cert.Proof

end
-- ==== Proof.Mm9.lean ====
/-
  The product `od_proj_dx` of the step (the gradient of the factor).
-/
module

public import proofs.«01_k».proof.Proof.Product
public import proofs.«01_k».proof.Proof.Gen.Kernel9Ideal.Frame
public import proofs.«01_k».proof.Proof.Gen.Reference9Ideal.Run
public import proofs.«01_k».proof.Defs

@[expose] public section

set_option maxRecDepth 16384

noncomputable section

namespace Cert.Kernel9Ideal.Tiles

open Cert.Kernel9Ideal Cert.Kernel9Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16) (z : Vec F S1024x1024 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- A middle step adds its tile product. -/
theorem acc_mid (p : ¬cond0_0 i) (q : ¬cond0_1 i) :
    sout0_B_0 c i a0 h0 a1 h1 a2 h2 a3 h3 p q x y z = k0_pay2 x y z := by
  unfold sout0_B_0
  rw [View.read_writes_eq_canon _ _ _ fun _ => scover0_B_0 ..]
  unfold kernelRun0_B
  dsimp only
  sl_unfold_words
  rw [canon2]
  simp only [View.readAt_eq_ld, h0.read_unread, h1.read_unread, h3.read_unread, ld2]

/-- The last step adds its tile product too, and writes what the accumulator then holds to the result's block. -/
theorem at_last (p : ¬cond0_0 i) (q : cond0_1 i) :
    sout0_C_0 c i a0 h0 a1 h1 a2 h2 a3 h3 p q x y z = k0_pay2 x y z ∧ out0_C_2 c i a0 h0 a1 h1 a2 h2 a3 h3 p q x y z = k0_pay2 x y z := by
  constructor
  on_goal 1 => unfold sout0_C_0; rw [View.read_writes_eq_canon _ _ _ fun _ => scover0_C_0 ..]
  on_goal 2 => unfold out0_C_2; rw [View.read_writes_eq_canon _ _ _ fun _ => cover0_C_2 ..]
  all_goals
    unfold kernelRun0_C
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 (j 0) k) : EReal) * (y (ix2 (j 1) k) : EReal) := by
  pointwise [k0_pay2]

/-- Where each window's block lies, over the grid. -/
theorem places : ∀ t : Fin cfg0.N, At (win0_0.index t) (t.val / 4 / 1) (t.val % 4) ∧ At (win0_1.index t) (t.val / 4 % 1) (t.val % 4)
    ∧ At (win0_2.index t) (t.val / 4 / 1) (t.val / 4 % 1) :=
  (by decide +kernel : ∀ t : Fin grid0.N, _)

/-- The factors: the arrays as the call finds them. -/
abbrev fstL : S9216x4096.Idx → EReal := m ((c : Thread nD τ).loc main_arg0)
abbrev fstR : S1024x4096.Idx → EReal := m ((c : Thread nD τ).loc main_arg1)

/-- The `K`-th term of entry `(p, q)` of the product. -/
def term (p q K : ℕ) : EReal := entry (fstL m c) p K * entry (fstR m c) q K

theorem left_block (t : Fin cfg0.N) (y : S1024x1024.Idx) :
    (iblk m c 0 t : Vec Ideal S1024x1024 .bf16) y = entry (fstL m c) (t.val / 4 / 1 * 1024 + (y 0).val) (t.val % 4 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val / 4 % 1 * 1024 + (y 0).val) (t.val % 4 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 1 4 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1024x1024.Idx),
    (outsAt0 m c n h).2 j = upTo (term m c) 1024 1024 1024 1 4 n (j 0).val (j 1).val :=
  fun n h j => after_all (term m c) 1024 1024 1024 1 4 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      by_cases h1 : (n + 1) % 4 = 3
      · rw [outsAt0_C m c ⟨n + 1, h⟩ h0 h1]
        dsimp only
        rw [(at_last ..).1, step_at]
        rfl
      · rw [outsAt0_B m c ⟨n + 1, h⟩ h0 h1]
        dsimp only
        rw [acc_mid, step_at]
        rfl) n h

/-- What a last step hands the write-back. -/
theorem out_after (t : Fin cfg0.N) (h1 : t.val % 4 = 3) (j : S1024x1024.Idx) :
    (outsAt0 m c t.val t.isLt).1 j = upTo (term m c) 1024 1024 1024 1 4 t.val (j 0).val (j 1).val := by
  have h0 : ¬t.val % 4 = 0 := by omega
  rw [outsAt0_C m c t h0 h1]
  dsimp only
  rw [(at_last ..).2, step_at, acc_after]
  exact upTo_next (term m c) 1024 1024 1024 1 4 t.val _ _ (by omega) h0

/-- The product the call computes. -/
def product : Buf (Elt Ideal) ((c : Thread nD τ).loc main_v0) := fun (i : S9216x1024.Idx) =>
  (∑ K ∈ Finset.range 4096, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 4 = 3 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1024 1024 1024 1 4 t.val _ _ 4096 (by rw [h1])]
  exact congrArg₂ (fun p q => ∑ K ∈ Finset.range 4096, term m c p q K) (Eq.symm (lay e0 :)) (Eq.symm (lay e1 :))

/-- The point that writes the block an index lies in. -/
def writer (i : S9216x1024.Idx) : Fin grid0.N :=
  ⟨((i 0).val / 1024 * 1 + (i 1).val / 1024) * 4 + 3, lt_of_lt_of_eq (by
    have h0 : (i 0).val < 9216 := (i 0).isLt
    have h1 : (i 1).val < 1024 := (i 1).isLt
    omega) N_0.symm⟩

theorem reached (i : S9216x1024.Idx) : (cfg0.win 2).flush (writer i) = true ∧ i ∈ ((cfg0.win 2).blk (writer i)).view.set := by
  have h0 : (i 0).val < 9216 := (i 0).isLt
  have h1 : (i 1).val < 1024 := (i 1).isLt
  have hv : (writer i).val = ((i 0).val / 1024 * 1 + (i 1).val / 1024) * 4 + 3 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference9Ideal.dot_S9216x4096_S1024x4096_S9216x1024_1_1_0_0_n_n

/-- The reference's product, read at an entry, is the call's. -/
theorem reference_entry (L : FVec Ideal S9216x4096 .f32) (R : FVec Ideal S1024x4096 .f32) (hL : L = fstL m c) (hR : R = fstR m c) (i : S9216x1024.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel9Ideal.Tiles

namespace Cert.Proof

open Idealize.ShloMosaic Idealize.SL.Sem Cert.Kernel9Ideal Cert.Kernel9Ideal.Gen

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic_Kernel9Ideal_Reference9Ideal : algebraic_Kernel9Ideal_Reference9Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference9Ideal.defs _ _).mono (fun _ h c => ⟨?_, (h c).2⟩) (Cert.Reference9Ideal.Value.run (F := Ideal) m' ρ')
  rw [(h c).1, (hagree c).1, (hagree c).2]
  funext i
  exact Tiles.reference_entry m c _ _ rfl rfl i

end Cert.Proof

end
-- ==== Proof.Mm10.lean ====
/-
  The product `od_proj_dw` of the step (the gradient of the factor).
-/
module

public import proofs.«01_k».proof.Proof.Product
public import proofs.«01_k».proof.Proof.Gen.Kernel10Ideal.Frame
public import proofs.«01_k».proof.Proof.Gen.Reference10Ideal.Run
public import proofs.«01_k».proof.Defs

@[expose] public section

set_option maxRecDepth 16384

noncomputable section

namespace Cert.Kernel10Ideal.Tiles

open Cert.Kernel10Ideal Cert.Kernel10Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16) (z : Vec F S1024x1024 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- A middle step adds its tile product. -/
theorem acc_mid (p : ¬cond0_0 i) (q : ¬cond0_1 i) :
    sout0_B_0 c i a0 h0 a1 h1 a2 h2 a3 h3 p q x y z = k0_pay2 x y z := by
  unfold sout0_B_0
  rw [View.read_writes_eq_canon _ _ _ fun _ => scover0_B_0 ..]
  unfold kernelRun0_B
  dsimp only
  sl_unfold_words
  rw [canon2]
  simp only [View.readAt_eq_ld, h0.read_unread, h1.read_unread, h3.read_unread, ld2]

/-- The last step adds its tile product too, and writes what the accumulator then holds to the result's block. -/
theorem at_last (p : ¬cond0_0 i) (q : cond0_1 i) :
    sout0_C_0 c i a0 h0 a1 h1 a2 h2 a3 h3 p q x y z = k0_pay2 x y z ∧ out0_C_2 c i a0 h0 a1 h1 a2 h2 a3 h3 p q x y z = k0_pay2 x y z := by
  constructor
  on_goal 1 => unfold sout0_C_0; rw [View.read_writes_eq_canon _ _ _ fun _ => scover0_C_0 ..]
  on_goal 2 => unfold out0_C_2; rw [View.read_writes_eq_canon _ _ _ fun _ => cover0_C_2 ..]
  all_goals
    unfold kernelRun0_C
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 k (j 0)) : EReal) * (y (ix2 k (j 1)) : EReal) := by
  pointwise [k0_pay2]

/-- Where each window's block lies, over the grid. -/
theorem places : ∀ t : Fin cfg0.N, At (win0_0.index t) (t.val % 9) (t.val / 9 / 4) ∧ At (win0_1.index t) (t.val % 9) (t.val / 9 % 4)
    ∧ At (win0_2.index t) (t.val / 9 / 4) (t.val / 9 % 4) :=
  (by decide +kernel : ∀ t : Fin grid0.N, _)

/-- The factors: the arrays as the call finds them. -/
abbrev fstL : S9216x1024.Idx → EReal := m ((c : Thread nD τ).loc main_arg0)
abbrev fstR : S9216x4096.Idx → EReal := m ((c : Thread nD τ).loc main_arg1)

/-- The `K`-th term of entry `(p, q)` of the product. -/
def term (p q K : ℕ) : EReal := entry (fstL m c) K p * entry (fstR m c) K q

theorem left_block (t : Fin cfg0.N) (y : S1024x1024.Idx) :
    (iblk m c 0 t : Vec Ideal S1024x1024 .bf16) y = entry (fstL m c) (t.val % 9 * 1024 + (y 0).val) (t.val / 9 / 4 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val % 9 * 1024 + (y 0).val) (t.val / 9 % 4 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 4 9 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1024x1024.Idx),
    (outsAt0 m c n h).2 j = upTo (term m c) 1024 1024 1024 4 9 n (j 0).val (j 1).val :=
  fun n h j => after_all (term m c) 1024 1024 1024 4 9 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      by_cases h1 : (n + 1) % 9 = 8
      · rw [outsAt0_C m c ⟨n + 1, h⟩ h0 h1]
        dsimp only
        rw [(at_last ..).1, step_at]
        rfl
      · rw [outsAt0_B m c ⟨n + 1, h⟩ h0 h1]
        dsimp only
        rw [acc_mid, step_at]
        rfl) n h

/-- What a last step hands the write-back. -/
theorem out_after (t : Fin cfg0.N) (h1 : t.val % 9 = 8) (j : S1024x1024.Idx) :
    (outsAt0 m c t.val t.isLt).1 j = upTo (term m c) 1024 1024 1024 4 9 t.val (j 0).val (j 1).val := by
  have h0 : ¬t.val % 9 = 0 := by omega
  rw [outsAt0_C m c t h0 h1]
  dsimp only
  rw [(at_last ..).2, step_at, acc_after]
  exact upTo_next (term m c) 1024 1024 1024 4 9 t.val _ _ (by omega) h0

/-- The product the call computes. -/
def product : Buf (Elt Ideal) ((c : Thread nD τ).loc main_v0) := fun (i : S1024x4096.Idx) =>
  (∑ K ∈ Finset.range 9216, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 9 = 8 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1024 1024 1024 4 9 t.val _ _ 9216 (by rw [h1])]
  exact congrArg₂ (fun p q => ∑ K ∈ Finset.range 9216, term m c p q K) (Eq.symm (lay e0 :)) (Eq.symm (lay e1 :))

/-- The point that writes the block an index lies in. -/
def writer (i : S1024x4096.Idx) : Fin grid0.N :=
  ⟨((i 0).val / 1024 * 4 + (i 1).val / 1024) * 9 + 8, lt_of_lt_of_eq (by
    have h0 : (i 0).val < 1024 := (i 0).isLt
    have h1 : (i 1).val < 4096 := (i 1).isLt
    omega) N_0.symm⟩

theorem reached (i : S1024x4096.Idx) : (cfg0.win 2).flush (writer i) = true ∧ i ∈ ((cfg0.win 2).blk (writer i)).view.set := by
  have h0 : (i 0).val < 1024 := (i 0).isLt
  have h1 : (i 1).val < 4096 := (i 1).isLt
  have hv : (writer i).val = ((i 0).val / 1024 * 4 + (i 1).val / 1024) * 9 + 8 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference10Ideal.dot_S9216x4096_S9216x1024_S4096x1024_0_0_1_1_n_n

/-- The reference's product with its factors exchanged, read at an entry, is the call's. -/
theorem reference_entry (R : FVec Ideal S9216x4096 .f32) (L : FVec Ideal S9216x1024 .f32) (hR : R = fstR m c) (hL : L = fstL m c) (i : S1024x4096.Idx) (i' : (⟨2, ![4096, 1024]⟩ : Shape).Idx)
    (e0 : (i' 0).val = (i 1).val) (e1 : (i' 1).val = (i 0).val) :
    Host.dotGeneral refDot none R L i' = product m c i := by
  subst hR hL
  pointwise
  rw [product, Finset.sum_range]
  refine Finset.sum_congr rfl fun k _ => ?_
  rw [mul_comm]
  exact congrArg₂ (· * ·) (entry_of_index (fstL m c) _ _ _ rfl e1) (entry_of_index (fstR m c) _ _ _ rfl e0)

end Cert.Kernel10Ideal.Tiles

namespace Cert.Proof

open Idealize.ShloMosaic Idealize.SL.Sem Cert.Kernel10Ideal Cert.Kernel10Ideal.Gen

theorem quiescent_Reference10Ideal : quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic_Kernel10Ideal_Reference10Ideal : algebraic_Kernel10Ideal_Reference10Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference10Ideal.defs _ _).mono (fun _ h c => ⟨?_, (h c).2⟩) (Cert.Reference10Ideal.Value.run (F := Ideal) m' ρ')
  rw [(h c).1, (hagree c).1, (hagree c).2]
  funext i
  rw [Pointwise.transpose_apply]
  exact Tiles.reference_entry m c _ _ rfl rfl i _ rfl rfl

end Cert.Proof

end
-- ==== Proof.Mm11.lean ====
/-
  The product `od_out_dx` of the step (the gradient of the factor).
-/
module

public import proofs.«01_k».proof.Proof.Product
public import proofs.«01_k».proof.Proof.Gen.Kernel11Ideal.Frame
public import proofs.«01_k».proof.Proof.Gen.Reference11Ideal.Run
public import proofs.«01_k».proof.Defs

@[expose] public section

set_option maxRecDepth 16384

noncomputable section

namespace Cert.Kernel11Ideal.Tiles

open Cert.Kernel11Ideal Cert.Kernel11Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16)

/-- The one step clears the accumulator, puts the tile product in it and writes it to the block. -/
theorem out_only (p : cond0_0 i) (q : cond0_1 i) :
    out0_A_2 c i a0 h0 a1 h1 a2 h2 a3 h3 p q x y = k0_pay2 x y k0_pay1 := by
  unfold out0_A_2
  rw [View.read_writes_eq_canon _ _ _ fun _ => cover0_A_2 ..]
  unfold kernelRun0_A
  dsimp only
  sl_unfold_words
  rw [canon2, cov2, cov2]
  simp only [View.readAt_eq_ld, h0.read_unread, h1.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 (j 0) k) : EReal) * (y (ix2 (j 1) k) : EReal) := by
  pointwise [k0_pay2]

/-- Where each window's block lies, over the grid. -/
theorem places : ∀ t : Fin cfg0.N, At (win0_0.index t) (t.val / 1 / 1) (t.val % 1) ∧ At (win0_1.index t) (t.val / 1 % 1) (t.val % 1)
    ∧ At (win0_2.index t) (t.val / 1 / 1) (t.val / 1 % 1) :=
  (by decide +kernel : ∀ t : Fin grid0.N, _)

/-- The factors: the arrays as the call finds them. -/
abbrev fstL : S9216x1024.Idx → EReal := m ((c : Thread nD τ).loc main_arg0)
abbrev fstR : S1024x1024.Idx → EReal := m ((c : Thread nD τ).loc main_arg1)

/-- The `K`-th term of entry `(p, q)` of the product. -/
def term (p q K : ℕ) : EReal := entry (fstL m c) p K * entry (fstR m c) q K

theorem left_block (t : Fin cfg0.N) (y : S1024x1024.Idx) :
    (iblk m c 0 t : Vec Ideal S1024x1024 .bf16) y = entry (fstL m c) (t.val / 1 / 1 * 1024 + (y 0).val) (t.val % 1 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val / 1 % 1 * 1024 + (y 0).val) (t.val % 1 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 1 1 t.val (j 0).val (j 1).val := by
  rw [step_entry]
  refine congrArg (_ + ·) (Finset.sum_congr rfl fun k _ => ?_)
  rw [left_block, right_block]
  rfl

/-- What every step hands the write-back. -/
theorem out_after (t : Fin cfg0.N) (j : S1024x1024.Idx) :
    (outsAt0 m c t) j = upTo (term m c) 1024 1024 1024 1 1 t.val (j 0).val (j 1).val := by
  unfold outsAt0
  rw [out_only, step_at, cleared]
  exact upTo_first (term m c) 1024 1024 1024 1 1 t.val _ _ (Nat.mod_one _)

/-- The product the call computes. -/
def product : Buf (Elt Ideal) ((c : Thread nD τ).loc main_v0) := fun (i : S9216x1024.Idx) =>
  (∑ K ∈ Finset.range 1024, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 1 = 0 := Nat.mod_one _
  obtain ⟨-, -, e0, e1⟩ := places t
  show (cfg0.win 2).cut (grid0.coords t) ((dats m 0 c).after 2 t) = _
  rw [after0_2]
  funext y
  show (outsAt0 m c t) ((cfg0.win 2).xinj (grid0.coords t) y) = product m c (((cfg0.win 2).blk t).view.emb y)
  rw [out_after m c t, upTo_last (term m c) 1024 1024 1024 1 1 t.val _ _ 1024 (by rw [h1])]
  exact congrArg₂ (fun p q => ∑ K ∈ Finset.range 1024, term m c p q K) (Eq.symm (lay e0 :)) (Eq.symm (lay e1 :))

/-- The point that writes the block an index lies in. -/
def writer (i : S9216x1024.Idx) : Fin grid0.N :=
  ⟨((i 0).val / 1024 * 1 + (i 1).val / 1024) * 1 + 0, lt_of_lt_of_eq (by
    have h0 : (i 0).val < 9216 := (i 0).isLt
    have h1 : (i 1).val < 1024 := (i 1).isLt
    omega) N_0.symm⟩

theorem reached (i : S9216x1024.Idx) : (cfg0.win 2).flush (writer i) = true ∧ i ∈ ((cfg0.win 2).blk (writer i)).view.set := by
  have h0 : (i 0).val < 9216 := (i 0).isLt
  have h1 : (i 1).val < 1024 := (i 1).isLt
  have hv : (writer i).val = ((i 0).val / 1024 * 1 + (i 1).val / 1024) * 1 + 0 := rfl
  obtain ⟨-, -, e0, e1⟩ := places (writer i)
  refine ⟨flush0_2 _, ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference11Ideal.dot_S9216x1024_S1024x1024_S9216x1024_1_1_0_0_n_n

/-- The reference's product, read at an entry, is the call's. -/
theorem reference_entry (L : FVec Ideal S9216x1024 .f32) (R : FVec Ideal S1024x1024 .f32) (hL : L = fstL m c) (hR : R = fstR m c) (i : S9216x1024.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel11Ideal.Tiles

namespace Cert.Proof

open Idealize.ShloMosaic Idealize.SL.Sem Cert.Kernel11Ideal Cert.Kernel11Ideal.Gen

theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic_Kernel11Ideal_Reference11Ideal : algebraic_Kernel11Ideal_Reference11Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference11Ideal.defs _ _).mono (fun _ h c => ⟨?_, (h c).2⟩) (Cert.Reference11Ideal.Value.run (F := Ideal) m' ρ')
  rw [(h c).1, (hagree c).1, (hagree c).2]
  funext i
  exact Tiles.reference_entry m c _ _ rfl rfl i

end Cert.Proof

end
-- ==== Proof.Mm12.lean ====
/-
  The product `od_out_dw` of the step (the gradient of the factor).
-/
module

public import proofs.«01_k».proof.Proof.Product
public import proofs.«01_k».proof.Proof.Gen.Kernel12Ideal.Frame
public import proofs.«01_k».proof.Proof.Gen.Reference12Ideal.Run
public import proofs.«01_k».proof.Defs

@[expose] public section

set_option maxRecDepth 16384

noncomputable section

namespace Cert.Kernel12Ideal.Tiles

open Cert.Kernel12Ideal Cert.Kernel12Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16) (z : Vec F S1024x1024 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- A middle step adds its tile product. -/
theorem acc_mid (p : ¬cond0_0 i) (q : ¬cond0_1 i) :
    sout0_B_0 c i a0 h0 a1 h1 a2 h2 a3 h3 p q x y z = k0_pay2 x y z := by
  unfold sout0_B_0
  rw [View.read_writes_eq_canon _ _ _ fun _ => scover0_B_0 ..]
  unfold kernelRun0_B
  dsimp only
  sl_unfold_words
  rw [canon2]
  simp only [View.readAt_eq_ld, h0.read_unread, h1.read_unread, h3.read_unread, ld2]

/-- The last step adds its tile product too, and writes what the accumulator then holds to the result's block. -/
theorem at_last (p : ¬cond0_0 i) (q : cond0_1 i) :
    sout0_C_0 c i a0 h0 a1 h1 a2 h2 a3 h3 p q x y z = k0_pay2 x y z ∧ out0_C_2 c i a0 h0 a1 h1 a2 h2 a3 h3 p q x y z = k0_pay2 x y z := by
  constructor
  on_goal 1 => unfold sout0_C_0; rw [View.read_writes_eq_canon _ _ _ fun _ => scover0_C_0 ..]
  on_goal 2 => unfold out0_C_2; rw [View.read_writes_eq_canon _ _ _ fun _ => cover0_C_2 ..]
  all_goals
    unfold kernelRun0_C
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 k (j 0)) : EReal) * (y (ix2 k (j 1)) : EReal) := by
  pointwise [k0_pay2]

/-- Where each window's block lies, over the grid. -/
theorem places : ∀ t : Fin cfg0.N, At (win0_0.index t) (t.val % 9) (t.val / 9 / 1) ∧ At (win0_1.index t) (t.val % 9) (t.val / 9 % 1)
    ∧ At (win0_2.index t) (t.val / 9 / 1) (t.val / 9 % 1) :=
  (by decide +kernel : ∀ t : Fin grid0.N, _)

/-- The factors: the arrays as the call finds them. -/
abbrev fstL : S9216x1024.Idx → EReal := m ((c : Thread nD τ).loc main_arg0)
abbrev fstR : S9216x1024.Idx → EReal := m ((c : Thread nD τ).loc main_arg1)

/-- The `K`-th term of entry `(p, q)` of the product. -/
def term (p q K : ℕ) : EReal := entry (fstL m c) K p * entry (fstR m c) K q

theorem left_block (t : Fin cfg0.N) (y : S1024x1024.Idx) :
    (iblk m c 0 t : Vec Ideal S1024x1024 .bf16) y = entry (fstL m c) (t.val % 9 * 1024 + (y 0).val) (t.val / 9 / 1 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val % 9 * 1024 + (y 0).val) (t.val / 9 % 1 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 1 9 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1024x1024.Idx),
    (outsAt0 m c n h).2 j = upTo (term m c) 1024 1024 1024 1 9 n (j 0).val (j 1).val :=
  fun n h j => after_all (term m c) 1024 1024 1024 1 9 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      by_cases h1 : (n + 1) % 9 = 8
      · rw [outsAt0_C m c ⟨n + 1, h⟩ h0 h1]
        dsimp only
        rw [(at_last ..).1, step_at]
        rfl
      · rw [outsAt0_B m c ⟨n + 1, h⟩ h0 h1]
        dsimp only
        rw [acc_mid, step_at]
        rfl) n h

/-- What a last step hands the write-back. -/
theorem out_after (t : Fin cfg0.N) (h1 : t.val % 9 = 8) (j : S1024x1024.Idx) :
    (outsAt0 m c t.val t.isLt).1 j = upTo (term m c) 1024 1024 1024 1 9 t.val (j 0).val (j 1).val := by
  have h0 : ¬t.val % 9 = 0 := by omega
  rw [outsAt0_C m c t h0 h1]
  dsimp only
  rw [(at_last ..).2, step_at, acc_after]
  exact upTo_next (term m c) 1024 1024 1024 1 9 t.val _ _ (by omega) h0

/-- The product the call computes. -/
def product : Buf (Elt Ideal) ((c : Thread nD τ).loc main_v0) := fun (i : S1024x1024.Idx) =>
  (∑ K ∈ Finset.range 9216, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 9 = 8 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1024 1024 1024 1 9 t.val _ _ 9216 (by rw [h1])]
  exact congrArg₂ (fun p q => ∑ K ∈ Finset.range 9216, term m c p q K) (Eq.symm (lay e0 :)) (Eq.symm (lay e1 :))

/-- The point that writes the block an index lies in. -/
def writer (i : S1024x1024.Idx) : Fin grid0.N :=
  ⟨((i 0).val / 1024 * 1 + (i 1).val / 1024) * 9 + 8, lt_of_lt_of_eq (by
    have h0 : (i 0).val < 1024 := (i 0).isLt
    have h1 : (i 1).val < 1024 := (i 1).isLt
    omega) N_0.symm⟩

theorem reached (i : S1024x1024.Idx) : (cfg0.win 2).flush (writer i) = true ∧ i ∈ ((cfg0.win 2).blk (writer i)).view.set := by
  have h0 : (i 0).val < 1024 := (i 0).isLt
  have h1 : (i 1).val < 1024 := (i 1).isLt
  have hv : (writer i).val = ((i 0).val / 1024 * 1 + (i 1).val / 1024) * 9 + 8 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference12Ideal.dot_S9216x1024_S9216x1024_S1024x1024_0_0_1_1_n_n

/-- The reference's product with its factors exchanged, read at an entry, is the call's. -/
theorem reference_entry (R : FVec Ideal S9216x1024 .f32) (L : FVec Ideal S9216x1024 .f32) (hR : R = fstR m c) (hL : L = fstL m c) (i : S1024x1024.Idx) (i' : (⟨2, ![1024, 1024]⟩ : Shape).Idx)
    (e0 : (i' 0).val = (i 1).val) (e1 : (i' 1).val = (i 0).val) :
    Host.dotGeneral refDot none R L i' = product m c i := by
  subst hR hL
  pointwise
  rw [product, Finset.sum_range]
  refine Finset.sum_congr rfl fun k _ => ?_
  rw [mul_comm]
  exact congrArg₂ (· * ·) (entry_of_index (fstL m c) _ _ _ rfl e1) (entry_of_index (fstR m c) _ _ _ rfl e0)

end Cert.Kernel12Ideal.Tiles

namespace Cert.Proof

open Idealize.ShloMosaic Idealize.SL.Sem Cert.Kernel12Ideal Cert.Kernel12Ideal.Gen

theorem quiescent_Reference12Ideal : quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic_Kernel12Ideal_Reference12Ideal : algebraic_Kernel12Ideal_Reference12Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference12Ideal.defs _ _).mono (fun _ h c => ⟨?_, (h c).2⟩) (Cert.Reference12Ideal.Value.run (F := Ideal) m' ρ')
  rw [(h c).1, (hagree c).1, (hagree c).2]
  funext i
  rw [Pointwise.transpose_apply]
  exact Tiles.reference_entry m c _ _ rfl rfl i _ rfl rfl

end Cert.Proof

end
-- ==== Proof.Mm13.lean ====
/-
  The product `ffn_gate` of the step (forward).
-/
module

public import proofs.«01_k».proof.Proof.Product
public import proofs.«01_k».proof.Proof.Gen.Kernel13Ideal.Frame
public import proofs.«01_k».proof.Proof.Gen.Reference13Ideal.Run
public import proofs.«01_k».proof.Defs

@[expose] public section

set_option maxRecDepth 16384

noncomputable section

namespace Cert.Kernel13Ideal.Tiles

open Cert.Kernel13Ideal Cert.Kernel13Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1408 .bf16) (h1 : a1.IsWhole) (a2 : Memref sig .tc .vmem S1024x1408 .f32) (h2 : a2.IsWhole)
    (a3 : Memref sig .tc .vmem S1024x1408 .f32) (h3 : a3.IsWhole)
  (x : Vec F S1024x1024 .bf16) (y : Vec F S1024x1408 .bf16)

/-- The one step clears the accumulator, puts the tile product in it and writes it to the block. -/
theorem out_only (p : cond0_0 i) (q : cond0_1 i) :
    out0_A_2 c i a0 h0 a1 h1 a2 h2 a3 h3 p q x y = k0_pay2 x y k0_pay1 := by
  unfold out0_A_2
  rw [View.read_writes_eq_canon _ _ _ fun _ => cover0_A_2 ..]
  unfold kernelRun0_A
  dsimp only
  sl_unfold_words
  rw [canon2, cov2, cov2]
  simp only [View.readAt_eq_ld, h0.read_unread, h1.read_unread, ld2]

end Body

variable (m : (ℓ : Loc nD τ sig) → Buf (Elt Ideal) ℓ) (c : Dev nD)

/-- The cleared accumulator is nothing everywhere. -/
theorem cleared (j : S1024x1408.Idx) : (k0_pay1 (F := Ideal)) j = (0 : EReal) := by
  unfold k0_pay1
  rw [shapeCast_self]
  exact zero_word

/-- A step at one entry: the accumulator's entry and the tile product's. -/
theorem step_entry (x : Vec Ideal S1024x1024 .bf16) (y : Vec Ideal S1024x1408 .bf16) (z : Vec Ideal S1024x1408 .f32) (j : S1024x1408.Idx) :
    k0_pay2 x y z j = (z j : EReal) + ∑ k : Fin 1024, (x (ix2 (j 0) k) : EReal) * (y (ix2 k (j 1)) : EReal) := by
  pointwise [k0_pay2]

/-- Where each window's block lies, over the grid. -/
theorem places : ∀ t : Fin cfg0.N, At (win0_0.index t) (t.val / 1 / 2) (t.val % 1) ∧ At (win0_1.index t) (t.val % 1) (t.val / 1 % 2)
    ∧ At (win0_2.index t) (t.val / 1 / 2) (t.val / 1 % 2) :=
  (by decide +kernel : ∀ t : Fin grid0.N, _)

/-- The factors: the arrays as the call finds them. -/
abbrev fstL : S9216x1024.Idx → EReal := m ((c : Thread nD τ).loc main_arg0)
abbrev fstR : S1024x2816.Idx → EReal := m ((c : Thread nD τ).loc main_arg1)

/-- The `K`-th term of entry `(p, q)` of the product. -/
def term (p q K : ℕ) : EReal := entry (fstL m c) p K * entry (fstR m c) K q

theorem left_block (t : Fin cfg0.N) (y : S1024x1024.Idx) :
    (iblk m c 0 t : Vec Ideal S1024x1024 .bf16) y = entry (fstL m c) (t.val / 1 / 2 * 1024 + (y 0).val) (t.val % 1 * 1024 + (y 1).val) := by
  obtain ⟨⟨e0, e1⟩, -⟩ := places t
  exact entry_of_index (fstL m c) _ _ _ (lay e0 :) (lay e1 :)

theorem right_block (t : Fin cfg0.N) (y : S1024x1408.Idx) :
    (iblk m c 1 t : Vec Ideal S1024x1408 .bf16) y = entry (fstR m c) (t.val % 1 * 1024 + (y 0).val) (t.val / 1 % 2 * 1408 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1408 .f32) (j : S1024x1408.Idx) :
    k0_pay2 (iblk m c 0 t) (iblk m c 1 t) z j = (z j : EReal) + piece (term m c) 1024 1408 1024 2 1 t.val (j 0).val (j 1).val := by
  rw [step_entry]
  refine congrArg (_ + ·) (Finset.sum_congr rfl fun k _ => ?_)
  rw [left_block, right_block]
  rfl

/-- What every step hands the write-back. -/
theorem out_after (t : Fin cfg0.N) (j : S1024x1408.Idx) :
    (outsAt0 m c t) j = upTo (term m c) 1024 1408 1024 2 1 t.val (j 0).val (j 1).val := by
  unfold outsAt0
  rw [out_only, step_at, cleared]
  exact upTo_first (term m c) 1024 1408 1024 2 1 t.val _ _ (Nat.mod_one _)

/-- The product the call computes. -/
def product : Buf (Elt Ideal) ((c : Thread nD τ).loc main_v0) := fun (i : S9216x2816.Idx) =>
  (∑ K ∈ Finset.range 1024, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 1 = 0 := Nat.mod_one _
  obtain ⟨-, -, e0, e1⟩ := places t
  show (cfg0.win 2).cut (grid0.coords t) ((dats m 0 c).after 2 t) = _
  rw [after0_2]
  funext y
  show (outsAt0 m c t) ((cfg0.win 2).xinj (grid0.coords t) y) = product m c (((cfg0.win 2).blk t).view.emb y)
  rw [out_after m c t, upTo_last (term m c) 1024 1408 1024 2 1 t.val _ _ 1024 (by rw [h1])]
  exact congrArg₂ (fun p q => ∑ K ∈ Finset.range 1024, term m c p q K) (Eq.symm (lay e0 :)) (Eq.symm (lay e1 :))

/-- The point that writes the block an index lies in. -/
def writer (i : S9216x2816.Idx) : Fin grid0.N :=
  ⟨((i 0).val / 1024 * 2 + (i 1).val / 1408) * 1 + 0, lt_of_lt_of_eq (by
    have h0 : (i 0).val < 9216 := (i 0).isLt
    have h1 : (i 1).val < 2816 := (i 1).isLt
    omega) N_0.symm⟩

theorem reached (i : S9216x2816.Idx) : (cfg0.win 2).flush (writer i) = true ∧ i ∈ ((cfg0.win 2).blk (writer i)).view.set := by
  have h0 : (i 0).val < 9216 := (i 0).isLt
  have h1 : (i 1).val < 2816 := (i 1).isLt
  have hv : (writer i).val = ((i 0).val / 1024 * 2 + (i 1).val / 1408) * 1 + 0 := rfl
  obtain ⟨-, -, e0, e1⟩ := places (writer i)
  refine ⟨flush0_2 _, ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1408)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference13Ideal.dot_S9216x1024_S1024x2816_S9216x2816_1_0_0_1_n_n

/-- The reference's product, read at an entry, is the call's. -/
theorem reference_entry (L : FVec Ideal S9216x1024 .f32) (R : FVec Ideal S1024x2816 .f32) (hL : L = fstL m c) (hR : R = fstR m c) (i : S9216x2816.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel13Ideal.Tiles

namespace Cert.Proof

open Idealize.ShloMosaic Idealize.SL.Sem Cert.Kernel13Ideal Cert.Kernel13Ideal.Gen

theorem quiescent_Reference13Ideal : quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic_Kernel13Ideal_Reference13Ideal : algebraic_Kernel13Ideal_Reference13Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference13Ideal.defs _ _).mono (fun _ h c => ⟨?_, (h c).2⟩) (Cert.Reference13Ideal.Value.run (F := Ideal) m' ρ')
  rw [(h c).1, (hagree c).1, (hagree c).2]
  funext i
  exact Tiles.reference_entry m c _ _ rfl rfl i

end Cert.Proof

end
-- ==== Proof.Mm14.lean ====
/-
  The product `ffn_down` of the step (forward).
-/
module

public import proofs.«01_k».proof.Proof.Product
public import proofs.«01_k».proof.Proof.Gen.Kernel14Ideal.Frame
public import proofs.«01_k».proof.Proof.Gen.Reference14Ideal.Run
public import proofs.«01_k».proof.Defs

@[expose] public section

set_option maxRecDepth 16384

noncomputable section

namespace Cert.Kernel14Ideal.Tiles

open Cert.Kernel14Ideal Cert.Kernel14Ideal.Gen Cert.Product
open Idealize.ShloMosaic Idealize.ShloMosaic.TcCoe Idealize.SL.Sem

section Body
variable {F : FTy → Type} [FloatOps F] (c : Dev nD) (i : grid0.Coords) (a0 : Memref sig .tc .vmem S1024x1408 .bf16) (h0 : a0.IsWhole)
    (a1 : Memref sig .tc .vmem S1408x1024 .bf16) (h1 : a1.IsWhole) (a2 : Memref sig .tc .vmem S1024x1024 .f32) (h2 : a2.IsWhole)
    (a3 : Memref sig .tc .vmem S1024x1024 .f32) (h3 : a3.IsWhole)
  (x : Vec F S1024x1408 .bf16) (y : Vec F S1408x1024 .bf16) (z : Vec F S1024x1024 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- The last step adds its tile product too, and writes what the accumulator then holds to the result's block. -/
theorem at_last (p : ¬cond0_0 i) (q : cond0_1 i) :
    sout0_B_0 c i a0 h0 a1 h1 a2 h2 a3 h3 p q x y z = k0_pay2 x y z ∧ out0_B_2 c i a0 h0 a1 h1 a2 h2 a3 h3 p q x y z = k0_pay2 x y z := by
  constructor
  on_goal 1 => unfold sout0_B_0; rw [View.read_writes_eq_canon _ _ _ fun _ => scover0_B_0 ..]
  on_goal 2 => unfold out0_B_2; rw [View.read_writes_eq_canon _ _ _ fun _ => cover0_B_2 ..]
  all_goals
    unfold kernelRun0_B
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x : Vec Ideal S1024x1408 .bf16) (y : Vec Ideal S1408x1024 .bf16) (z : Vec Ideal S1024x1024 .f32) (j : S1024x1024.Idx) :
    k0_pay2 x y z j = (z j : EReal) + ∑ k : Fin 1408, (x (ix2 (j 0) k) : EReal) * (y (ix2 k (j 1)) : EReal) := by
  pointwise [k0_pay2]

/-- Where each window's block lies, over the grid. -/
theorem places : ∀ t : Fin cfg0.N, At (win0_0.index t) (t.val / 2 / 1) (t.val % 2) ∧ At (win0_1.index t) (t.val % 2) (t.val / 2 % 1)
    ∧ At (win0_2.index t) (t.val / 2 / 1) (t.val / 2 % 1) :=
  (by decide +kernel : ∀ t : Fin grid0.N, _)

/-- The factors: the arrays as the call finds them. -/
abbrev fstL : S9216x2816.Idx → EReal := m ((c : Thread nD τ).loc main_arg0)
abbrev fstR : S2816x1024.Idx → EReal := m ((c : Thread nD τ).loc main_arg1)

/-- The `K`-th term of entry `(p, q)` of the product. -/
def term (p q K : ℕ) : EReal := entry (fstL m c) p K * entry (fstR m c) K q

theorem left_block (t : Fin cfg0.N) (y : S1024x1408.Idx) :
    (iblk m c 0 t : Vec Ideal S1024x1408 .bf16) y = entry (fstL m c) (t.val / 2 / 1 * 1024 + (y 0).val) (t.val % 2 * 1408 + (y 1).val) := by
  obtain ⟨⟨e0, e1⟩, -⟩ := places t
  exact entry_of_index (fstL m c) _ _ _ (lay e0 :) (lay e1 :)

theorem right_block (t : Fin cfg0.N) (y : S1408x1024.Idx) :
    (iblk m c 1 t : Vec Ideal S1408x1024 .bf16) y = entry (fstR m c) (t.val % 2 * 1408 + (y 0).val) (t.val / 2 % 1 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1408 1 2 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1024x1024.Idx),
    (outsAt0 m c n h).2 j = upTo (term m c) 1024 1024 1408 1 2 n (j 0).val (j 1).val :=
  fun n h j => after_all (term m c) 1024 1024 1408 1 2 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      rw [outsAt0_B m c ⟨n + 1, h⟩ h0 (by dsimp only; omega)]
      dsimp only
      rw [(at_last ..).1, step_at]
      rfl) n h

/-- What a last step hands the write-back. -/
theorem out_after (t : Fin cfg0.N) (h1 : t.val % 2 = 1) (j : S1024x1024.Idx) :
    (outsAt0 m c t.val t.isLt).1 j = upTo (term m c) 1024 1024 1408 1 2 t.val (j 0).val (j 1).val := by
  have h0 : ¬t.val % 2 = 0 := by omega
  rw [outsAt0_B m c t h0 h1]
  dsimp only
  rw [(at_last ..).2, step_at, acc_after]
  exact upTo_next (term m c) 1024 1024 1408 1 2 t.val _ _ (by omega) h0

/-- The product the call computes. -/
def product : Buf (Elt Ideal) ((c : Thread nD τ).loc main_v0) := fun (i : S9216x1024.Idx) =>
  (∑ K ∈ Finset.range 2816, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 2 = 1 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1024 1024 1408 1 2 t.val _ _ 2816 (by rw [h1])]
  exact congrArg₂ (fun p q => ∑ K ∈ Finset.range 2816, term m c p q K) (Eq.symm (lay e0 :)) (Eq.symm (lay e1 :))

/-- The point that writes the block an index lies in. -/
def writer (i : S9216x1024.Idx) : Fin grid0.N :=
  ⟨((i 0).val / 1024 * 1 + (i 1).val / 1024) * 2 + 1, lt_of_lt_of_eq (by
    have h0 : (i 0).val < 9216 := (i 0).isLt
    have h1 : (i 1).val < 1024 := (i 1).isLt
    omega) N_0.symm⟩

theorem reached (i : S9216x1024.Idx) : (cfg0.win 2).flush (writer i) = true ∧ i ∈ ((cfg0.win 2).blk (writer i)).view.set := by
  have h0 : (i 0).val < 9216 := (i 0).isLt
  have h1 : (i 1).val < 1024 := (i 1).isLt
  have hv : (writer i).val = ((i 0).val / 1024 * 1 + (i 1).val / 1024) * 2 + 1 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference14Ideal.dot_S9216x2816_S2816x1024_S9216x1024_1_0_0_1_n_n

/-- The reference's product, read at an entry, is the call's. -/
theorem reference_entry (L : FVec Ideal S9216x2816 .f32) (R : FVec Ideal S2816x1024 .f32) (hL : L = fstL m c) (hR : R = fstR m c) (i : S9216x1024.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel14Ideal.Tiles

namespace Cert.Proof

open Idealize.ShloMosaic Idealize.SL.Sem Cert.Kernel14Ideal Cert.Kernel14Ideal.Gen

theorem quiescent_Reference14Ideal : quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic_Kernel14Ideal_Reference14Ideal : algebraic_Kernel14Ideal_Reference14Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference14Ideal.defs _ _).mono (fun _ h c => ⟨?_, (h c).2⟩) (Cert.Reference14Ideal.Value.run (F := Ideal) m' ρ')
  rw [(h c).1, (hagree c).1, (hagree c).2]
  funext i
  exact Tiles.reference_entry m c _ _ rfl rfl i

end Cert.Proof

end
-- ==== Proof.Mm15.lean ====
/-
  The product `ev_proj` of the step (forward).
-/
module

public import proofs.«01_k».proof.Proof.Product
public import proofs.«01_k».proof.Proof.Gen.Kernel15Ideal.Frame
public import proofs.«01_k».proof.Proof.Gen.Reference15Ideal.Run
public import proofs.«01_k».proof.Defs

@[expose] public section

set_option maxRecDepth 16384

noncomputable section

namespace Cert.Kernel15Ideal.Tiles

open Cert.Kernel15Ideal Cert.Kernel15Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16)

/-- The one step clears the accumulator, puts the tile product in it and writes it to the block. -/
theorem out_only (p : cond0_0 i) (q : cond0_1 i) :
    out0_A_2 c i a0 h0 a1 h1 a2 h2 a3 h3 p q x y = k0_pay2 x y k0_pay1 := by
  unfold out0_A_2
  rw [View.read_writes_eq_canon _ _ _ fun _ => cover0_A_2 ..]
  unfold kernelRun0_A
  dsimp only
  sl_unfold_words
  rw [canon2, cov2, cov2]
  simp only [View.readAt_eq_ld, h0.read_unread, h1.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 (j 0) k) : EReal) * (y (ix2 k (j 1)) : EReal) := by
  pointwise [k0_pay2]

/-- Where each window's block lies, over the grid. -/
theorem places : ∀ t : Fin cfg0.N, At (win0_0.index t) (t.val / 1 / 5) (t.val % 1) ∧ At (win0_1.index t) (t.val % 1) (t.val / 1 % 5)
    ∧ At (win0_2.index t) (t.val / 1 / 5) (t.val / 1 % 5) :=
  (by decide +kernel : ∀ t : Fin grid0.N, _)

/-- The factors: the arrays as the call finds them. -/
abbrev fstL : S9216x1024.Idx → EReal := m ((c : Thread nD τ).loc main_arg0)
abbrev fstR : S1024x5120.Idx → EReal := m ((c : Thread nD τ).loc main_arg1)

/-- The `K`-th term of entry `(p, q)` of the product. -/
def term (p q K : ℕ) : EReal := entry (fstL m c) p K * entry (fstR m c) K q

theorem left_block (t : Fin cfg0.N) (y : S1024x1024.Idx) :
    (iblk m c 0 t : Vec Ideal S1024x1024 .bf16) y = entry (fstL m c) (t.val / 1 / 5 * 1024 + (y 0).val) (t.val % 1 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val % 1 * 1024 + (y 0).val) (t.val / 1 % 5 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 5 1 t.val (j 0).val (j 1).val := by
  rw [step_entry]
  refine congrArg (_ + ·) (Finset.sum_congr rfl fun k _ => ?_)
  rw [left_block, right_block]
  rfl

/-- What every step hands the write-back. -/
theorem out_after (t : Fin cfg0.N) (j : S1024x1024.Idx) :
    (outsAt0 m c t) j = upTo (term m c) 1024 1024 1024 5 1 t.val (j 0).val (j 1).val := by
  unfold outsAt0
  rw [out_only, step_at, cleared]
  exact upTo_first (term m c) 1024 1024 1024 5 1 t.val _ _ (Nat.mod_one _)

/-- The product the call computes. -/
def product : Buf (Elt Ideal) ((c : Thread nD τ).loc main_v0) := fun (i : S9216x5120.Idx) =>
  (∑ K ∈ Finset.range 1024, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 1 = 0 := Nat.mod_one _
  obtain ⟨-, -, e0, e1⟩ := places t
  show (cfg0.win 2).cut (grid0.coords t) ((dats m 0 c).after 2 t) = _
  rw [after0_2]
  funext y
  show (outsAt0 m c t) ((cfg0.win 2).xinj (grid0.coords t) y) = product m c (((cfg0.win 2).blk t).view.emb y)
  rw [out_after m c t, upTo_last (term m c) 1024 1024 1024 5 1 t.val _ _ 1024 (by rw [h1])]
  exact congrArg₂ (fun p q => ∑ K ∈ Finset.range 1024, term m c p q K) (Eq.symm (lay e0 :)) (Eq.symm (lay e1 :))

/-- The point that writes the block an index lies in. -/
def writer (i : S9216x5120.Idx) : Fin grid0.N :=
  ⟨((i 0).val / 1024 * 5 + (i 1).val / 1024) * 1 + 0, lt_of_lt_of_eq (by
    have h0 : (i 0).val < 9216 := (i 0).isLt
    have h1 : (i 1).val < 5120 := (i 1).isLt
    omega) N_0.symm⟩

theorem reached (i : S9216x5120.Idx) : (cfg0.win 2).flush (writer i) = true ∧ i ∈ ((cfg0.win 2).blk (writer i)).view.set := by
  have h0 : (i 0).val < 9216 := (i 0).isLt
  have h1 : (i 1).val < 5120 := (i 1).isLt
  have hv : (writer i).val = ((i 0).val / 1024 * 5 + (i 1).val / 1024) * 1 + 0 := rfl
  obtain ⟨-, -, e0, e1⟩ := places (writer i)
  refine ⟨flush0_2 _, ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference15Ideal.dot_S9216x1024_S1024x5120_S9216x5120_1_0_0_1_n_n

/-- The reference's product, read at an entry, is the call's. -/
theorem reference_entry (L : FVec Ideal S9216x1024 .f32) (R : FVec Ideal S1024x5120 .f32) (hL : L = fstL m c) (hR : R = fstR m c) (i : S9216x5120.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel15Ideal.Tiles

namespace Cert.Proof

open Idealize.ShloMosaic Idealize.SL.Sem Cert.Kernel15Ideal Cert.Kernel15Ideal.Gen

theorem quiescent_Reference15Ideal : quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic_Kernel15Ideal_Reference15Ideal : algebraic_Kernel15Ideal_Reference15Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference15Ideal.defs _ _).mono (fun _ h c => ⟨?_, (h c).2⟩) (Cert.Reference15Ideal.Value.run (F := Ideal) m' ρ')
  rw [(h c).1, (hagree c).1, (hagree c).2]
  funext i
  exact Tiles.reference_entry m c _ _ rfl rfl i

end Cert.Proof

end
-- ==== Proof.Mm16.lean ====
/-
  The product `ev_out` of the step (forward).
-/
module

public import proofs.«01_k».proof.Proof.Product
public import proofs.«01_k».proof.Proof.Gen.Kernel16Ideal.Frame
public import proofs.«01_k».proof.Proof.Gen.Reference16Ideal.Run
public import proofs.«01_k».proof.Defs

@[expose] public section

set_option maxRecDepth 16384

noncomputable section

namespace Cert.Kernel16Ideal.Tiles

open Cert.Kernel16Ideal Cert.Kernel16Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16) (z : Vec F S1024x1024 .f32)

/-- The first step clears the accumulator and puts the first tile product in it. -/
theorem acc_first (p : cond0_0 i) (q : ¬cond0_1 i) :
    sout0_A_0 c i a0 h0 a1 h1 a2 h2 a3 h3 p q x y = k0_pay2 x y k0_pay1 := by
  unfold sout0_A_0
  rw [View.read_writes_eq_canon _ _ _ fun _ => scover0_A_0 ..]
  unfold kernelRun0_A
  dsimp only
  sl_unfold_words
  rw [canon2, cov2]
  simp only [View.readAt_eq_ld, h0.read_unread, h1.read_unread, ld2]

/-- The last step adds its tile product too, and writes what the accumulator then holds to the result's block. -/
theorem at_last (p : ¬cond0_0 i) (q : cond0_1 i) :
    sout0_B_0 c i a0 h0 a1 h1 a2 h2 a3 h3 p q x y z = k0_pay2 x y z ∧ out0_B_2 c i a0 h0 a1 h1 a2 h2 a3 h3 p q x y z = k0_pay2 x y z := by
  constructor
  on_goal 1 => unfold sout0_B_0; rw [View.read_writes_eq_canon _ _ _ fun _ => scover0_B_0 ..]
  on_goal 2 => unfold out0_B_2; rw [View.read_writes_eq_canon _ _ _ fun _ => cover0_B_2 ..]
  all_goals
    unfold kernelRun0_B
    dsimp only
    sl_unfold_words
    rw [canon2]
    simp only [cov2, View.readAt_eq_ld, h0.read_unread, h1.read_unread, h3.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 (j 0) k) : EReal) * (y (ix2 k (j 1)) : EReal) := by
  pointwise [k0_pay2]

/-- Where each window's block lies, over the grid. -/
theorem places : ∀ t : Fin cfg0.N, At (win0_0.index t) (t.val / 2 / 1) (t.val % 2) ∧ At (win0_1.index t) (t.val % 2) (t.val / 2 % 1)
    ∧ At (win0_2.index t) (t.val / 2 / 1) (t.val / 2 % 1) :=
  (by decide +kernel : ∀ t : Fin grid0.N, _)

/-- The factors: the arrays as the call finds them. -/
abbrev fstL : S9216x2048.Idx → EReal := m ((c : Thread nD τ).loc main_arg0)
abbrev fstR : S2048x1024.Idx → EReal := m ((c : Thread nD τ).loc main_arg1)

/-- The `K`-th term of entry `(p, q)` of the product. -/
def term (p q K : ℕ) : EReal := entry (fstL m c) p K * entry (fstR m c) K q

theorem left_block (t : Fin cfg0.N) (y : S1024x1024.Idx) :
    (iblk m c 0 t : Vec Ideal S1024x1024 .bf16) y = entry (fstL m c) (t.val / 2 / 1 * 1024 + (y 0).val) (t.val % 2 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val % 2 * 1024 + (y 0).val) (t.val / 2 % 1 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 1 2 t.val (j 0).val (j 1).val := by
  rw [step_entry]
  refine congrArg (_ + ·) (Finset.sum_congr rfl fun k _ => ?_)
  rw [left_block, right_block]
  rfl

/-- The accumulator after every point. -/
theorem acc_after : ∀ (n : ℕ) (h : n < cfg0.N) (j : S1024x1024.Idx),
    (outsAt0 m c n h).2 j = upTo (term m c) 1024 1024 1024 1 2 n (j 0).val (j 1).val :=
  fun n h j => after_all (term m c) 1024 1024 1024 1 2 _ _ _ (by decide) (fun n h => (outsAt0 m c n h).2 j)
    (fun n h h0 => by
      rw [outsAt0_A m c ⟨n, h⟩ h0 (by dsimp only; omega)]
      dsimp only
      rw [acc_first, step_at, cleared])
    (fun n h h0 => by
      rw [outsAt0_B m c ⟨n + 1, h⟩ h0 (by dsimp only; omega)]
      dsimp only
      rw [(at_last ..).1, step_at]
      rfl) n h

/-- What a last step hands the write-back. -/
theorem out_after (t : Fin cfg0.N) (h1 : t.val % 2 = 1) (j : S1024x1024.Idx) :
    (outsAt0 m c t.val t.isLt).1 j = upTo (term m c) 1024 1024 1024 1 2 t.val (j 0).val (j 1).val := by
  have h0 : ¬t.val % 2 = 0 := by omega
  rw [outsAt0_B m c t h0 h1]
  dsimp only
  rw [(at_last ..).2, step_at, acc_after]
  exact upTo_next (term m c) 1024 1024 1024 1 2 t.val _ _ (by omega) h0

/-- The product the call computes. -/
def product : Buf (Elt Ideal) ((c : Thread nD τ).loc main_v0) := fun (i : S9216x1024.Idx) =>
  (∑ K ∈ Finset.range 2048, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 2 = 1 := (flush0_2 t).mp hf
  obtain ⟨-, -, e0, e1⟩ := places t
  show (cfg0.win 2).cut (grid0.coords t) ((dats m 0 c).after 2 t) = _
  rw [after0_2]
  funext y
  show ((outsAt0 m c t.val t.isLt).1) ((cfg0.win 2).xinj (grid0.coords t) y) = product m c (((cfg0.win 2).blk t).view.emb y)
  rw [out_after m c t h1, upTo_last (term m c) 1024 1024 1024 1 2 t.val _ _ 2048 (by rw [h1])]
  exact congrArg₂ (fun p q => ∑ K ∈ Finset.range 2048, term m c p q K) (Eq.symm (lay e0 :)) (Eq.symm (lay e1 :))

/-- The point that writes the block an index lies in. -/
def writer (i : S9216x1024.Idx) : Fin grid0.N :=
  ⟨((i 0).val / 1024 * 1 + (i 1).val / 1024) * 2 + 1, lt_of_lt_of_eq (by
    have h0 : (i 0).val < 9216 := (i 0).isLt
    have h1 : (i 1).val < 1024 := (i 1).isLt
    omega) N_0.symm⟩

theorem reached (i : S9216x1024.Idx) : (cfg0.win 2).flush (writer i) = true ∧ i ∈ ((cfg0.win 2).blk (writer i)).view.set := by
  have h0 : (i 0).val < 9216 := (i 0).isLt
  have h1 : (i 1).val < 1024 := (i 1).isLt
  have hv : (writer i).val = ((i 0).val / 1024 * 1 + (i 1).val / 1024) * 2 + 1 := rfl
  obtain ⟨-, -, e0, e1⟩ := places (writer i)
  refine ⟨(flush0_2 _).mpr (by rw [hv]; omega), ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference16Ideal.dot_S9216x2048_S2048x1024_S9216x1024_1_0_0_1_n_n

/-- The reference's product, read at an entry, is the call's. -/
theorem reference_entry (L : FVec Ideal S9216x2048 .f32) (R : FVec Ideal S2048x1024 .f32) (hL : L = fstL m c) (hR : R = fstR m c) (i : S9216x1024.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel16Ideal.Tiles

namespace Cert.Proof

open Idealize.ShloMosaic Idealize.SL.Sem Cert.Kernel16Ideal Cert.Kernel16Ideal.Gen

theorem quiescent_Reference16Ideal : quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

theorem algebraic_Kernel16Ideal_Reference16Ideal : algebraic_Kernel16Ideal_Reference16Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference16Ideal.defs _ _).mono (fun _ h c => ⟨?_, (h c).2⟩) (Cert.Reference16Ideal.Value.run (F := Ideal) m' ρ')
  rw [(h c).1, (hagree c).1, (hagree c).2]
  funext i
  exact Tiles.reference_entry m c _ _ rfl rfl i

end Cert.Proof

end
-- ==== Proof.Mm17.lean ====
/-
  The product `od_proj` of the step (forward).
-/
module

public import proofs.«01_k».proof.Proof.Product
public import proofs.«01_k».proof.Proof.Gen.Kernel17Ideal.Frame
public import proofs.«01_k».proof.Proof.Gen.Reference17Ideal.Run
public import proofs.«01_k».proof.Defs

@[expose] public section

set_option maxRecDepth 16384

noncomputable section

namespace Cert.Kernel17Ideal.Tiles

open Cert.Kernel17Ideal Cert.Kernel17Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16)

/-- The one step clears the accumulator, puts the tile product in it and writes it to the block. -/
theorem out_only (p : cond0_0 i) (q : cond0_1 i) :
    out0_A_2 c i a0 h0 a1 h1 a2 h2 a3 h3 p q x y = k0_pay2 x y k0_pay1 := by
  unfold out0_A_2
  rw [View.read_writes_eq_canon _ _ _ fun _ => cover0_A_2 ..]
  unfold kernelRun0_A
  dsimp only
  sl_unfold_words
  rw [canon2, cov2, cov2]
  simp only [View.readAt_eq_ld, h0.read_unread, h1.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 (j 0) k) : EReal) * (y (ix2 k (j 1)) : EReal) := by
  pointwise [k0_pay2]

/-- Where each window's block lies, over the grid. -/
theorem places : ∀ t : Fin cfg0.N, At (win0_0.index t) (t.val / 1 / 4) (t.val % 1) ∧ At (win0_1.index t) (t.val % 1) (t.val / 1 % 4)
    ∧ At (win0_2.index t) (t.val / 1 / 4) (t.val / 1 % 4) :=
  (by decide +kernel : ∀ t : Fin grid0.N, _)

/-- The factors: the arrays as the call finds them. -/
abbrev fstL : S9216x1024.Idx → EReal := m ((c : Thread nD τ).loc main_arg0)
abbrev fstR : S1024x4096.Idx → EReal := m ((c : Thread nD τ).loc main_arg1)

/-- The `K`-th term of entry `(p, q)` of the product. -/
def term (p q K : ℕ) : EReal := entry (fstL m c) p K * entry (fstR m c) K q

theorem left_block (t : Fin cfg0.N) (y : S1024x1024.Idx) :
    (iblk m c 0 t : Vec Ideal S1024x1024 .bf16) y = entry (fstL m c) (t.val / 1 / 4 * 1024 + (y 0).val) (t.val % 1 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val % 1 * 1024 + (y 0).val) (t.val / 1 % 4 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 4 1 t.val (j 0).val (j 1).val := by
  rw [step_entry]
  refine congrArg (_ + ·) (Finset.sum_congr rfl fun k _ => ?_)
  rw [left_block, right_block]
  rfl

/-- What every step hands the write-back. -/
theorem out_after (t : Fin cfg0.N) (j : S1024x1024.Idx) :
    (outsAt0 m c t) j = upTo (term m c) 1024 1024 1024 4 1 t.val (j 0).val (j 1).val := by
  unfold outsAt0
  rw [out_only, step_at, cleared]
  exact upTo_first (term m c) 1024 1024 1024 4 1 t.val _ _ (Nat.mod_one _)

/-- The product the call computes. -/
def product : Buf (Elt Ideal) ((c : Thread nD τ).loc main_v0) := fun (i : S9216x4096.Idx) =>
  (∑ K ∈ Finset.range 1024, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 1 = 0 := Nat.mod_one _
  obtain ⟨-, -, e0, e1⟩ := places t
  show (cfg0.win 2).cut (grid0.coords t) ((dats m 0 c).after 2 t) = _
  rw [after0_2]
  funext y
  show (outsAt0 m c t) ((cfg0.win 2).xinj (grid0.coords t) y) = product m c (((cfg0.win 2).blk t).view.emb y)
  rw [out_after m c t, upTo_last (term m c) 1024 1024 1024 4 1 t.val _ _ 1024 (by rw [h1])]
  exact congrArg₂ (fun p q => ∑ K ∈ Finset.range 1024, term m c p q K) (Eq.symm (lay e0 :)) (Eq.symm (lay e1 :))

/-- The point that writes the block an index lies in. -/
def writer (i : S9216x4096.Idx) : Fin grid0.N :=
  ⟨((i 0).val / 1024 * 4 + (i 1).val / 1024) * 1 + 0, lt_of_lt_of_eq (by
    have h0 : (i 0).val < 9216 := (i 0).isLt
    have h1 : (i 1).val < 4096 := (i 1).isLt
    omega) N_0.symm⟩

theorem reached (i : S9216x4096.Idx) : (cfg0.win 2).flush (writer i) = true ∧ i ∈ ((cfg0.win 2).blk (writer i)).view.set := by
  have h0 : (i 0).val < 9216 := (i 0).isLt
  have h1 : (i 1).val < 4096 := (i 1).isLt
  have hv : (writer i).val = ((i 0).val / 1024 * 4 + (i 1).val / 1024) * 1 + 0 := rfl
  obtain ⟨-, -, e0, e1⟩ := places (writer i)
  refine ⟨flush0_2 _, ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference17Ideal.dot_S9216x1024_S1024x4096_S9216x4096_1_0_0_1_n_n

/-- The reference's product, read at an entry, is the call's. -/
theorem reference_entry (L : FVec Ideal S9216x1024 .f32) (R : FVec Ideal S1024x4096 .f32) (hL : L = fstL m c) (hR : R = fstR m c) (i : S9216x4096.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel17Ideal.Tiles

namespace Cert.Proof

open Idealize.ShloMosaic Idealize.SL.Sem Cert.Kernel17Ideal Cert.Kernel17Ideal.Gen

theorem quiescent_Reference17Ideal : quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

theorem algebraic_Kernel17Ideal_Reference17Ideal : algebraic_Kernel17Ideal_Reference17Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference17Ideal.defs _ _).mono (fun _ h c => ⟨?_, (h c).2⟩) (Cert.Reference17Ideal.Value.run (F := Ideal) m' ρ')
  rw [(h c).1, (hagree c).1, (hagree c).2]
  funext i
  exact Tiles.reference_entry m c _ _ rfl rfl i

end Cert.Proof

end
-- ==== Proof.Mm18.lean ====
/-
  The product `od_out` of the step (forward).
-/
module

public import proofs.«01_k».proof.Proof.Product
public import proofs.«01_k».proof.Proof.Gen.Kernel18Ideal.Frame
public import proofs.«01_k».proof.Proof.Gen.Reference18Ideal.Run
public import proofs.«01_k».proof.Defs

@[expose] public section

set_option maxRecDepth 16384

noncomputable section

namespace Cert.Kernel18Ideal.Tiles

open Cert.Kernel18Ideal Cert.Kernel18Ideal.Gen Cert.Product
open Idealize.ShloMosaic Idealize.ShloMosaic.TcCoe Idealize.SL.Sem

section Body
variable {F : FTy → Type} [FloatOps F] (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .f32) (h2 : a2.IsWhole)
    (a3 : Memref sig .tc .vmem S1024x1024 .f32) (h3 : a3.IsWhole)
  (x y : Vec F S1024x1024 .bf16)

/-- The one step clears the accumulator, puts the tile product in it and writes it to the block. -/
theorem out_only (p : cond0_0 i) (q : cond0_1 i) :
    out0_A_2 c i a0 h0 a1 h1 a2 h2 a3 h3 p q x y = k0_pay2 x y k0_pay1 := by
  unfold out0_A_2
  rw [View.read_writes_eq_canon _ _ _ fun _ => cover0_A_2 ..]
  unfold kernelRun0_A
  dsimp only
  sl_unfold_words
  rw [canon2, cov2, cov2]
  simp only [View.readAt_eq_ld, h0.read_unread, h1.read_unread, ld2]

end Body

variable (m : (ℓ : Loc nD τ sig) → Buf (Elt Ideal) ℓ) (c : Dev nD)

/-- The cleared accumulator is nothing everywhere. -/
theorem cleared (j : S1024x1024.Idx) : (k0_pay1 (F := Ideal)) j = (0 : EReal) := by
  unfold k0_pay1
  rw [shapeCast_self]
  exact zero_word

/-- A step at one entry: the accumulator's entry and the tile product's. -/
theorem step_entry (x y : Vec Ideal S1024x1024 .bf16) (z : Vec Ideal S1024x1024 .f32) (j : S1024x1024.Idx) :
    k0_pay2 x y z j = (z j : EReal) + ∑ k : Fin 1024, (x (ix2 (j 0) k) : EReal) * (y (ix2 k (j 1)) : EReal) := by
  pointwise [k0_pay2]

/-- Where each window's block lies, over the grid. -/
theorem places : ∀ t : Fin cfg0.N, At (win0_0.index t) (t.val / 1 / 1) (t.val % 1) ∧ At (win0_1.index t) (t.val % 1) (t.val / 1 % 1)
    ∧ At (win0_2.index t) (t.val / 1 / 1) (t.val / 1 % 1) :=
  (by decide +kernel : ∀ t : Fin grid0.N, _)

/-- The factors: the arrays as the call finds them. -/
abbrev fstL : S9216x1024.Idx → EReal := m ((c : Thread nD τ).loc main_arg0)
abbrev fstR : S1024x1024.Idx → EReal := m ((c : Thread nD τ).loc main_arg1)

/-- The `K`-th term of entry `(p, q)` of the product. -/
def term (p q K : ℕ) : EReal := entry (fstL m c) p K * entry (fstR m c) K q

theorem left_block (t : Fin cfg0.N) (y : S1024x1024.Idx) :
    (iblk m c 0 t : Vec Ideal S1024x1024 .bf16) y = entry (fstL m c) (t.val / 1 / 1 * 1024 + (y 0).val) (t.val % 1 * 1024 + (y 1).val) := by
  obtain ⟨⟨e0, e1⟩, -⟩ := places t
  exact entry_of_index (fstL m c) _ _ _ (lay e0 :) (lay e1 :)

theorem right_block (t : Fin cfg0.N) (y : S1024x1024.Idx) :
    (iblk m c 1 t : Vec Ideal S1024x1024 .bf16) y = entry (fstR m c) (t.val % 1 * 1024 + (y 0).val) (t.val / 1 % 1 * 1024 + (y 1).val) := by
  obtain ⟨-, ⟨e0, e1⟩, -⟩ := places t
  exact entry_of_index (fstR m c) _ _ _ (lay e0 :) (lay e1 :)

/-- A step at point `t` over the accumulator `z`. -/
theorem step_at (t : Fin cfg0.N) (z : Vec Ideal S1024x1024 .f32) (j : S1024x1024.Idx) :
    k0_pay2 (iblk m c 0 t) (iblk m c 1 t) z j = (z j : EReal) + piece (term m c) 1024 1024 1024 1 1 t.val (j 0).val (j 1).val := by
  rw [step_entry]
  refine congrArg (_ + ·) (Finset.sum_congr rfl fun k _ => ?_)
  rw [left_block, right_block]
  rfl

/-- What every step hands the write-back. -/
theorem out_after (t : Fin cfg0.N) (j : S1024x1024.Idx) :
    (outsAt0 m c t) j = upTo (term m c) 1024 1024 1024 1 1 t.val (j 0).val (j 1).val := by
  unfold outsAt0
  rw [out_only, step_at, cleared]
  exact upTo_first (term m c) 1024 1024 1024 1 1 t.val _ _ (Nat.mod_one _)

/-- The product the call computes. -/
def product : Buf (Elt Ideal) ((c : Thread nD τ).loc main_v0) := fun (i : S9216x1024.Idx) =>
  (∑ K ∈ Finset.range 1024, term m c (i 0).val (i 1).val K : EReal)

theorem written (t : Fin cfg0.N) (hf : (cfg0.win 2).flush t = true) :
    (dats m 0 c).flushed 2 t = ((cfg0.win 2).blk t).view.read (Elt Ideal) (product m c) := by
  have h1 : t.val % 1 = 0 := Nat.mod_one _
  obtain ⟨-, -, e0, e1⟩ := places t
  show (cfg0.win 2).cut (grid0.coords t) ((dats m 0 c).after 2 t) = _
  rw [after0_2]
  funext y
  show (outsAt0 m c t) ((cfg0.win 2).xinj (grid0.coords t) y) = product m c (((cfg0.win 2).blk t).view.emb y)
  rw [out_after m c t, upTo_last (term m c) 1024 1024 1024 1 1 t.val _ _ 1024 (by rw [h1])]
  exact congrArg₂ (fun p q => ∑ K ∈ Finset.range 1024, term m c p q K) (Eq.symm (lay e0 :)) (Eq.symm (lay e1 :))

/-- The point that writes the block an index lies in. -/
def writer (i : S9216x1024.Idx) : Fin grid0.N :=
  ⟨((i 0).val / 1024 * 1 + (i 1).val / 1024) * 1 + 0, lt_of_lt_of_eq (by
    have h0 : (i 0).val < 9216 := (i 0).isLt
    have h1 : (i 1).val < 1024 := (i 1).isLt
    omega) N_0.symm⟩

theorem reached (i : S9216x1024.Idx) : (cfg0.win 2).flush (writer i) = true ∧ i ∈ ((cfg0.win 2).blk (writer i)).view.set := by
  have h0 : (i 0).val < 9216 := (i 0).isLt
  have h1 : (i 1).val < 1024 := (i 1).isLt
  have hv : (writer i).val = ((i 0).val / 1024 * 1 + (i 1).val / 1024) * 1 + 0 := rfl
  obtain ⟨-, -, e0, e1⟩ := places (writer i)
  refine ⟨flush0_2 _, ?_⟩
  show i ∈ ((View.whole main_v0).slice (win0_2.rect (writer i))).set
  rw [View.set_slice_whole, Rect.mem_set_unit]
  exact fun
    | ⟨0, _⟩ => (fit (by decide) (e0.trans (by rw [hv]; omega)) : _ ∧ (i 0).val < _ + 1024)
    | ⟨1, _⟩ => (fit (by decide) (e1.trans (by rw [hv]; omega)) : _ ∧ (i 1).val < _ + 1024)

theorem whole : (dats m 0 c).arrAt 2 cfg0.N = product m c :=
  (dats m 0 c).arrAt_eq_of_cover 2 (product m c) (written m c) fun i => ⟨writer i, (reached i).1, (reached i).2⟩

/-- The dimension numbers of reference.py's product. -/
abbrev refDot := Cert.Reference18Ideal.dot_S9216x1024_S1024x1024_S9216x1024_1_0_0_1_n_n

/-- The reference's product, read at an entry, is the call's. -/
theorem reference_entry (L : FVec Ideal S9216x1024 .f32) (R : FVec Ideal S1024x1024 .f32) (hL : L = fstL m c) (hR : R = fstR m c) (i : S9216x1024.Idx) :
    Host.dotGeneral refDot none L R i = product m c i := by
  subst hL hR
  pointwise
  rw [product, Finset.sum_range]
  refine Finset.sum_congr rfl fun k _ => ?_
  exact congrArg₂ (· * ·) (entry_of_index (fstL m c) _ _ _ rfl rfl) (entry_of_index (fstR m c) _ _ _ rfl rfl)

end Cert.Kernel18Ideal.Tiles

namespace Cert.Proof

open Idealize.ShloMosaic Idealize.SL.Sem Cert.Kernel18Ideal Cert.Kernel18Ideal.Gen

theorem quiescent_Reference18Ideal : quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

theorem algebraic_Kernel18Ideal_Reference18Ideal : algebraic_Kernel18Ideal_Reference18Ideal := by
  intro m ρ m' ρ' _ hagree
  refine ⟨Tiles.product m, (θ_run _ _ _).mono (fun _ h c => ⟨((h c).1 2).trans (Tiles.whole m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c)))⟩) (run_main m ρ), ?_⟩
  refine (θ_run Cert.Reference18Ideal.defs _ _).mono (fun _ h c => ⟨?_, (h c).2⟩) (Cert.Reference18Ideal.Value.run (F := Ideal) m' ρ')
  rw [(h c).1, (hagree c).1, (hagree c).2]
  funext i
  exact Tiles.reference_entry m c _ _ rfl rfl i

end Cert.Proof

end
-- ==== Proof.Same20.lean ====
module

public import proofs.«01_k».proof.Defs
public import proofs.«01_k».proof.Proof.Gen.Kernel20
public import proofs.«01_k».proof.Proof.BothRun

/-! `Kernel20` and `Kernel20Ideal` are one text, so the run of the second is the run of the first. -/

@[expose] public section

set_option maxRecDepth 65536
set_option maxHeartbeats 4000000

noncomputable section

namespace Cert.Lru

open Idealize.ShloMosaic Idealize.SL.Sem

variable {F : FTy → Type} [FloatOps F]

/-- The bodies of the two calls, as the two programs print them. -/
theorem same_bodies [i : Cert.Kernel20.Facts] [j : Cert.Kernel20Ideal.Facts] : @Cert.Kernel20.defs₀ F _ _ = @Cert.Kernel20Ideal.defs₀ F _ _ := by
  funext p l a
  match p with
  | .scScalar _ => rfl
  | .scVector _ _ => rfl
  | .tc =>
    match l, a with
    | ⟨0, _⟩, (t, s) => rfl
    | ⟨1, _⟩, (t, s) => rfl

/-- All their code. -/
theorem same_code [i : Cert.Kernel20.Facts] [j : Cert.Kernel20Ideal.Facts] : @Cert.Kernel20.defs F _ _ = @Cert.Kernel20Ideal.defs F _ _ :=
  congrArg (Pipeline.defs Cert.Kernel20Ideal.pcfgs) same_bodies

end Cert.Lru

namespace Cert.Proof

open Idealize.ShloMosaic Idealize.SL.Sem

theorem quiescent_Kernel20 : quiescent_Kernel20 := fun m ρ _ => by
  rw [Cert.Lru.same_code]; exact Cert.Kernel20Ideal.Gen.Both.whole_frame m ρ

theorem quiescent_Kernel20Ideal : quiescent_Kernel20Ideal := fun m ρ _ => Cert.Kernel20Ideal.Gen.Both.whole_frame m ρ

theorem quiescent_Kernel20Ideal_pre_finite20 [Cert.Pre_finite20.Facts] : quiescent_Kernel20Ideal_pre_finite20 :=
  fun m ρ _ => Cert.Kernel20Ideal.Gen.Both.whole_frame m ρ

end Cert.Proof

end
-- ==== Proof.lean ====
/-
  The certificate: every program's frame, that each idealization is the program's own text, and that each call and
  reference.py's lines for it have equal results over the extended reals.
-/
module

public import proofs.«01_k».proof.Defs
public import proofs.«01_k».proof.Proof.Conv21
public import proofs.«01_k».proof.Proof.Gate22
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel19Ideal.Frame
public import proofs.«01_k».proof.Proof.Gen.Kernel21.Frame
public import proofs.«01_k».proof.Proof.Gen.Kernel21Ideal.Frame
public import proofs.«01_k».proof.Proof.Gen.Kernel22.Frame
public import proofs.«01_k».proof.Proof.Gen.Kernel22Ideal.Frame
public import proofs.«01_k».proof.Proof.Gen.Kernel.Frame
public import proofs.«01_k».proof.Proof.Lru
public import proofs.«01_k».proof.Proof.Mm1
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Mm8
public import proofs.«01_k».proof.Proof.Mm9
public import proofs.«01_k».proof.Proof.Mm10
public import proofs.«01_k».proof.Proof.Mm11
public import proofs.«01_k».proof.Proof.Mm12
public import proofs.«01_k».proof.Proof.Mm13
public import proofs.«01_k».proof.Proof.Mm14
public import proofs.«01_k».proof.Proof.Mm15
public import proofs.«01_k».proof.Proof.Mm16
public import proofs.«01_k».proof.Proof.Mm17
public import proofs.«01_k».proof.Proof.Mm18
public import proofs.«01_k».proof.Proof.Same20

@[expose] public section

noncomputable section

namespace Cert.Proof

theorem claim : Cert.Claim := ⟨
  Kernel.Gen.facts,
  KernelIdeal.Gen.facts,
  ReferenceIdeal.Gen.facts,
  Kernel2.Gen.facts,
  Kernel2Ideal.Gen.facts,
  Reference2Ideal.Gen.facts,
  Kernel3.Gen.facts,
  Kernel3Ideal.Gen.facts,
  Reference3Ideal.Gen.facts,
  Kernel4.Gen.facts,
  Kernel4Ideal.Gen.facts,
  Reference4Ideal.Gen.facts,
  Kernel5.Gen.facts,
  Kernel5Ideal.Gen.facts,
  Reference5Ideal.Gen.facts,
  Kernel6.Gen.facts,
  Kernel6Ideal.Gen.facts,
  Reference6Ideal.Gen.facts,
  Kernel7.Gen.facts,
  Kernel7Ideal.Gen.facts,
  Reference7Ideal.Gen.facts,
  Kernel8.Gen.facts,
  Kernel8Ideal.Gen.facts,
  Reference8Ideal.Gen.facts,
  Kernel9.Gen.facts,
  Kernel9Ideal.Gen.facts,
  Reference9Ideal.Gen.facts,
  Kernel10.Gen.facts,
  Kernel10Ideal.Gen.facts,
  Reference10Ideal.Gen.facts,
  Kernel11.Gen.facts,
  Kernel11Ideal.Gen.facts,
  Reference11Ideal.Gen.facts,
  Kernel12.Gen.facts,
  Kernel12Ideal.Gen.facts,
  Reference12Ideal.Gen.facts,
  Kernel13.Gen.facts,
  Kernel13Ideal.Gen.facts,
  Reference13Ideal.Gen.facts,
  Kernel14.Gen.facts,
  Kernel14Ideal.Gen.facts,
  Reference14Ideal.Gen.facts,
  Kernel15.Gen.facts,
  Kernel15Ideal.Gen.facts,
  Reference15Ideal.Gen.facts,
  Kernel16.Gen.facts,
  Kernel16Ideal.Gen.facts,
  Reference16Ideal.Gen.facts,
  Kernel17.Gen.facts,
  Kernel17Ideal.Gen.facts,
  Reference17Ideal.Gen.facts,
  Kernel18.Gen.facts,
  Kernel18Ideal.Gen.facts,
  Reference18Ideal.Gen.facts,
  Kernel19.Gen.facts,
  Kernel19Ideal.Gen.facts,
  Kernel20.Gen.facts,
  Kernel20Ideal.Gen.facts,
  Reference20Ideal.Gen.facts,
  Kernel21.Gen.facts,
  Kernel21Ideal.Gen.facts,
  Reference21Ideal.Gen.facts,
  Kernel22.Gen.facts,
  Kernel22Ideal.Gen.facts,
  Reference22Ideal.Gen.facts,
  Lru.preFacts,
  fun m ρ _ => Kernel.Gen.frame m ρ,
  fun m ρ _ => KernelIdeal.Gen.frame m ρ,
  quiescent_ReferenceIdeal,
  fun m ρ _ => Kernel2.Gen.frame m ρ,
  fun m ρ _ => Kernel2Ideal.Gen.frame m ρ,
  quiescent_Reference2Ideal,
  fun m ρ _ => Kernel3.Gen.frame m ρ,
  fun m ρ _ => Kernel3Ideal.Gen.frame m ρ,
  quiescent_Reference3Ideal,
  fun m ρ _ => Kernel4.Gen.frame m ρ,
  fun m ρ _ => Kernel4Ideal.Gen.frame m ρ,
  quiescent_Reference4Ideal,
  fun m ρ _ => Kernel5.Gen.frame m ρ,
  fun m ρ _ => Kernel5Ideal.Gen.frame m ρ,
  quiescent_Reference5Ideal,
  fun m ρ _ => Kernel6.Gen.frame m ρ,
  fun m ρ _ => Kernel6Ideal.Gen.frame m ρ,
  quiescent_Reference6Ideal,
  fun m ρ _ => Kernel7.Gen.frame m ρ,
  fun m ρ _ => Kernel7Ideal.Gen.frame m ρ,
  quiescent_Reference7Ideal,
  fun m ρ _ => Kernel8.Gen.frame m ρ,
  fun m ρ _ => Kernel8Ideal.Gen.frame m ρ,
  quiescent_Reference8Ideal,
  fun m ρ _ => Kernel9.Gen.frame m ρ,
  fun m ρ _ => Kernel9Ideal.Gen.frame m ρ,
  quiescent_Reference9Ideal,
  fun m ρ _ => Kernel10.Gen.frame m ρ,
  fun m ρ _ => Kernel10Ideal.Gen.frame m ρ,
  quiescent_Reference10Ideal,
  fun m ρ _ => Kernel11.Gen.frame m ρ,
  fun m ρ _ => Kernel11Ideal.Gen.frame m ρ,
  quiescent_Reference11Ideal,
  fun m ρ _ => Kernel12.Gen.frame m ρ,
  fun m ρ _ => Kernel12Ideal.Gen.frame m ρ,
  quiescent_Reference12Ideal,
  fun m ρ _ => Kernel13.Gen.frame m ρ,
  fun m ρ _ => Kernel13Ideal.Gen.frame m ρ,
  quiescent_Reference13Ideal,
  fun m ρ _ => Kernel14.Gen.frame m ρ,
  fun m ρ _ => Kernel14Ideal.Gen.frame m ρ,
  quiescent_Reference14Ideal,
  fun m ρ _ => Kernel15.Gen.frame m ρ,
  fun m ρ _ => Kernel15Ideal.Gen.frame m ρ,
  quiescent_Reference15Ideal,
  fun m ρ _ => Kernel16.Gen.frame m ρ,
  fun m ρ _ => Kernel16Ideal.Gen.frame m ρ,
  quiescent_Reference16Ideal,
  fun m ρ _ => Kernel17.Gen.frame m ρ,
  fun m ρ _ => Kernel17Ideal.Gen.frame m ρ,
  quiescent_Reference17Ideal,
  fun m ρ _ => Kernel18.Gen.frame m ρ,
  fun m ρ _ => Kernel18Ideal.Gen.frame m ρ,
  quiescent_Reference18Ideal,
  fun m ρ _ => Kernel19.Gen.frame m ρ,
  fun m ρ _ => Kernel19Ideal.Gen.frame m ρ,
  quiescent_Kernel20,
  quiescent_Kernel20Ideal,
  @quiescent_Kernel20Ideal_pre_finite20 Lru.preFacts,
  quiescent_Reference20Ideal,
  @quiescent_Reference20Ideal_pre_finite20 Lru.preFacts,
  fun m ρ _ => Kernel21.Gen.frame m ρ,
  fun m ρ _ => Kernel21Ideal.Gen.frame m ρ,
  quiescent_Reference21Ideal,
  fun m ρ _ => Kernel22.Gen.frame m ρ,
  fun m ρ _ => Kernel22Ideal.Gen.frame m ρ,
  quiescent_Reference22Ideal,
  trivial,
  algebraic_KernelIdeal_ReferenceIdeal,
  trivial,
  algebraic_Kernel2Ideal_Reference2Ideal,
  trivial,
  algebraic_Kernel3Ideal_Reference3Ideal,
  trivial,
  algebraic_Kernel4Ideal_Reference4Ideal,
  trivial,
  algebraic_Kernel5Ideal_Reference5Ideal,
  trivial,
  algebraic_Kernel6Ideal_Reference6Ideal,
  trivial,
  algebraic_Kernel7Ideal_Reference7Ideal,
  trivial,
  algebraic_Kernel8Ideal_Reference8Ideal,
  trivial,
  algebraic_Kernel9Ideal_Reference9Ideal,
  trivial,
  algebraic_Kernel10Ideal_Reference10Ideal,
  trivial,
  algebraic_Kernel11Ideal_Reference11Ideal,
  trivial,
  algebraic_Kernel12Ideal_Reference12Ideal,
  trivial,
  algebraic_Kernel13Ideal_Reference13Ideal,
  trivial,
  algebraic_Kernel14Ideal_Reference14Ideal,
  trivial,
  algebraic_Kernel15Ideal_Reference15Ideal,
  trivial,
  algebraic_Kernel16Ideal_Reference16Ideal,
  trivial,
  algebraic_Kernel17Ideal_Reference17Ideal,
  trivial,
  algebraic_Kernel18Ideal_Reference18Ideal,
  trivial,
  trivial,
  @algebraic_Kernel20Ideal_Reference20Ideal_pre_finite20 Lru.preFacts,
  trivial,
  algebraic_Kernel21Ideal_Reference21Ideal,
  trivial,
  algebraic_Kernel22Ideal_Reference22Ideal⟩

end Cert.Proof

end
